-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_W2Dx (m : (ℓ : Loc Cert.W2Dx.nD Cert.W2Dx.τ Cert.W2Dx.sig) → Buf (Elt Bits) ℓ) : Prop :=
  True

def Pre_W2DxIdeal (m : (ℓ : Loc Cert.W2DxIdeal.nD Cert.W2DxIdeal.τ Cert.W2DxIdeal.sig) → Buf (Elt Ideal) ℓ) : Prop :=
  True

def Pre_RefW2DxIdeal (m : (ℓ : Loc Cert.RefW2DxIdeal.nD Cert.RefW2DxIdeal.τ Cert.RefW2DxIdeal.sig) → Buf (Elt Ideal) ℓ) : Prop :=
  True

def Pre_W2Dw (m : (ℓ : Loc Cert.W2Dw.nD Cert.W2Dw.τ Cert.W2Dw.sig) → Buf (Elt Bits) ℓ) : Prop :=
  True

def Pre_W2DwIdeal (m : (ℓ : Loc Cert.W2DwIdeal.nD Cert.W2DwIdeal.τ Cert.W2DwIdeal.sig) → Buf (Elt Ideal) ℓ) : Prop :=
  True

def Pre_RefW2DwIdeal (m : (ℓ : Loc Cert.RefW2DwIdeal.nD Cert.RefW2DwIdeal.τ Cert.RefW2DwIdeal.sig) → Buf (Elt Ideal) ℓ) : Prop :=
  True

def Pre_W1Dx (m : (ℓ : Loc Cert.W1Dx.nD Cert.W1Dx.τ Cert.W1Dx.sig) → Buf (Elt Bits) ℓ) : Prop :=
  True

def Pre_W1DxIdeal (m : (ℓ : Loc Cert.W1DxIdeal.nD Cert.W1DxIdeal.τ Cert.W1DxIdeal.sig) → Buf (Elt Ideal) ℓ) : Prop :=
  True

def Pre_RefW1DxIdeal (m : (ℓ : Loc Cert.RefW1DxIdeal.nD Cert.RefW1DxIdeal.τ Cert.RefW1DxIdeal.sig) → Buf (Elt Ideal) ℓ) : Prop :=
  True

def Pre_W1Dw (m : (ℓ : Loc Cert.W1Dw.nD Cert.W1Dw.τ Cert.W1Dw.sig) → Buf (Elt Bits) ℓ) : Prop :=
  True

def Pre_W1DwIdeal (m : (ℓ : Loc Cert.W1DwIdeal.nD Cert.W1DwIdeal.τ Cert.W1DwIdeal.sig) → Buf (Elt Ideal) ℓ) : Prop :=
  True

def Pre_RefW1DwIdeal (m : (ℓ : Loc Cert.RefW1DwIdeal.nD Cert.RefW1DwIdeal.τ Cert.RefW1DwIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_RefInDxIdeal (m : (ℓ : Loc Cert.RefInDxIdeal.nD Cert.RefInDxIdeal.τ Cert.RefInDxIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_RefInDwIdeal (m : (ℓ : Loc Cert.RefInDwIdeal.nD Cert.RefInDwIdeal.τ Cert.RefInDwIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_RefOutDxIdeal (m : (ℓ : Loc Cert.RefOutDxIdeal.nD Cert.RefOutDxIdeal.τ Cert.RefOutDxIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_RefOutDwIdeal (m : (ℓ : Loc Cert.RefOutDwIdeal.nD Cert.RefOutDwIdeal.τ Cert.RefOutDwIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdIdeal_real_norm [hPre_real_norm : Cert.Pre_real_norm.Facts] (m : (ℓ : Loc Cert.NormBwdIdeal.nD Cert.NormBwdIdeal.τ Cert.NormBwdIdeal.sig) → Buf (Elt Ideal) ℓ) : Prop :=
  ∀ c : Dev Cert.NormBwdIdeal.nD,
    (Cert.Pre_real_norm.fn (F := Ideal) (m ((c.tc : Thread Cert.NormBwdIdeal.nD Cert.NormBwdIdeal.τ).loc Cert.NormBwdIdeal.main_arg0)) (m ((c.tc : Thread Cert.NormBwdIdeal.nD Cert.NormBwdIdeal.τ).loc Cert.NormBwdIdeal.main_arg1)) (m ((c.tc : Thread Cert.NormBwdIdeal.nD Cert.NormBwdIdeal.τ).loc Cert.NormBwdIdeal.main_arg2))) = (fun _ => 1#1)

def Pre_RefNormBwdIdeal (m : (ℓ : Loc Cert.RefNormBwdIdeal.nD Cert.RefNormBwdIdeal.τ Cert.RefNormBwdIdeal.sig) → Buf (Elt Ideal) ℓ) : Prop :=
  True

def Pre_RefNormBwdIdeal_real_norm [hPre_real_norm : Cert.Pre_real_norm.Facts] (m : (ℓ : Loc Cert.RefNormBwdIdeal.nD Cert.RefNormBwdIdeal.τ Cert.RefNormBwdIdeal.sig) → Buf (Elt Ideal) ℓ) : Prop :=
  ∀ c : Dev Cert.RefNormBwdIdeal.nD,
    (Cert.Pre_real_norm.fn (F := Ideal) (m ((c.tc : Thread Cert.RefNormBwdIdeal.nD Cert.RefNormBwdIdeal.τ).loc Cert.RefNormBwdIdeal.main_arg0)) (m ((c.tc : Thread Cert.RefNormBwdIdeal.nD Cert.RefNormBwdIdeal.τ).loc Cert.RefNormBwdIdeal.main_arg1)) (m ((c.tc : Thread Cert.RefNormBwdIdeal.nD Cert.RefNormBwdIdeal.τ).loc Cert.RefNormBwdIdeal.main_arg2))) = (fun _ => 1#1)

def Pre_GateBwd (m : (ℓ : Loc Cert.GateBwd.nD Cert.GateBwd.τ Cert.GateBwd.sig) → Buf (Elt Bits) ℓ) : Prop :=
  True

def Pre_GateBwdIdeal (m : (ℓ : Loc Cert.GateBwdIdeal.nD Cert.GateBwdIdeal.τ Cert.GateBwdIdeal.sig) → Buf (Elt Ideal) ℓ) : Prop :=
  True

def Pre_GateBwdIdeal_real_gate [hPre_real_gate : Cert.Pre_real_gate.Facts] (m : (ℓ : Loc Cert.GateBwdIdeal.nD Cert.GateBwdIdeal.τ Cert.GateBwdIdeal.sig) → Buf (Elt Ideal) ℓ) : Prop :=
  ∀ c : Dev Cert.GateBwdIdeal.nD,
    (Cert.Pre_real_gate.fn (F := Ideal) (m ((c.tc : Thread Cert.GateBwdIdeal.nD Cert.GateBwdIdeal.τ).loc Cert.GateBwdIdeal.main_arg0)) (m ((c.tc : Thread Cert.GateBwdIdeal.nD Cert.GateBwdIdeal.τ).loc Cert.GateBwdIdeal.main_arg1)) (m ((c.tc : Thread Cert.GateBwdIdeal.nD Cert.GateBwdIdeal.τ).loc Cert.GateBwdIdeal.main_arg2))) = (fun _ => 1#1)

def Pre_RefGateBwdIdeal (m : (ℓ : Loc Cert.RefGateBwdIdeal.nD Cert.RefGateBwdIdeal.τ Cert.RefGateBwdIdeal.sig) → Buf (Elt Ideal) ℓ) : Prop :=
  True

def Pre_RefGateBwdIdeal_real_gate [hPre_real_gate : Cert.Pre_real_gate.Facts] (m : (ℓ : Loc Cert.RefGateBwdIdeal.nD Cert.RefGateBwdIdeal.τ Cert.RefGateBwdIdeal.sig) → Buf (Elt Ideal) ℓ) : Prop :=
  ∀ c : Dev Cert.RefGateBwdIdeal.nD,
    (Cert.Pre_real_gate.fn (F := Ideal) (m ((c.tc : Thread Cert.RefGateBwdIdeal.nD Cert.RefGateBwdIdeal.τ).loc Cert.RefGateBwdIdeal.main_arg0)) (m ((c.tc : Thread Cert.RefGateBwdIdeal.nD Cert.RefGateBwdIdeal.τ).loc Cert.RefGateBwdIdeal.main_arg1)) (m ((c.tc : Thread Cert.RefGateBwdIdeal.nD Cert.RefGateBwdIdeal.τ).loc Cert.RefGateBwdIdeal.main_arg2))) = (fun _ => 1#1)

def Pre_QNormBwd (m : (ℓ : Loc Cert.QNormBwd.nD Cert.QNormBwd.τ Cert.QNormBwd.sig) → Buf (Elt Bits) ℓ) : Prop :=
  True

def Pre_QNormBwdIdeal (m : (ℓ : Loc Cert.QNormBwdIdeal.nD Cert.QNormBwdIdeal.τ Cert.QNormBwdIdeal.sig) → Buf (Elt Ideal) ℓ) : Prop :=
  True

def Pre_QNormBwdIdeal_real_q_norm [hPre_real_q_norm : Cert.Pre_real_q_norm.Facts] (m : (ℓ : Loc Cert.QNormBwdIdeal.nD Cert.QNormBwdIdeal.τ Cert.QNormBwdIdeal.sig) → Buf (Elt Ideal) ℓ) : Prop :=
  ∀ c : Dev Cert.QNormBwdIdeal.nD,
    (Cert.Pre_real_q_norm.fn (F := Ideal) (m ((c.tc : Thread Cert.QNormBwdIdeal.nD Cert.QNormBwdIdeal.τ).loc Cert.QNormBwdIdeal.main_arg0)) (m ((c.tc : Thread Cert.QNormBwdIdeal.nD Cert.QNormBwdIdeal.τ).loc Cert.QNormBwdIdeal.main_arg1)) (m ((c.tc : Thread Cert.QNormBwdIdeal.nD Cert.QNormBwdIdeal.τ).loc Cert.QNormBwdIdeal.main_arg2))) = (fun _ => 1#1)

def Pre_RefQNormBwdIdeal (m : (ℓ : Loc Cert.RefQNormBwdIdeal.nD Cert.RefQNormBwdIdeal.τ Cert.RefQNormBwdIdeal.sig) → Buf (Elt Ideal) ℓ) : Prop :=
  True

def Pre_RefQNormBwdIdeal_real_q_norm [hPre_real_q_norm : Cert.Pre_real_q_norm.Facts] (m : (ℓ : Loc Cert.RefQNormBwdIdeal.nD Cert.RefQNormBwdIdeal.τ Cert.RefQNormBwdIdeal.sig) → Buf (Elt Ideal) ℓ) : Prop :=
  ∀ c : Dev Cert.RefQNormBwdIdeal.nD,
    (Cert.Pre_real_q_norm.fn (F := Ideal) (m ((c.tc : Thread Cert.RefQNormBwdIdeal.nD Cert.RefQNormBwdIdeal.τ).loc Cert.RefQNormBwdIdeal.main_arg0)) (m ((c.tc : Thread Cert.RefQNormBwdIdeal.nD Cert.RefQNormBwdIdeal.τ).loc Cert.RefQNormBwdIdeal.main_arg1)) (m ((c.tc : Thread Cert.RefQNormBwdIdeal.nD Cert.RefQNormBwdIdeal.τ).loc Cert.RefQNormBwdIdeal.main_arg2))) = (fun _ => 1#1)

def Pre_KvNormBwd (m : (ℓ : Loc Cert.KvNormBwd.nD Cert.KvNormBwd.τ Cert.KvNormBwd.sig) → Buf (Elt Bits) ℓ) : Prop :=
  True

def Pre_KvNormBwdIdeal (m : (ℓ : Loc Cert.KvNormBwdIdeal.nD Cert.KvNormBwdIdeal.τ Cert.KvNormBwdIdeal.sig) → Buf (Elt Ideal) ℓ) : Prop :=
  True

def Pre_KvNormBwdIdeal_real_kv_norm [hPre_real_kv_norm : Cert.Pre_real_kv_norm.Facts] (m : (ℓ : Loc Cert.KvNormBwdIdeal.nD Cert.KvNormBwdIdeal.τ Cert.KvNormBwdIdeal.sig) → Buf (Elt Ideal) ℓ) : Prop :=
  ∀ c : Dev Cert.KvNormBwdIdeal.nD,
    (Cert.Pre_real_kv_norm.fn (F := Ideal) (m ((c.tc : Thread Cert.KvNormBwdIdeal.nD Cert.KvNormBwdIdeal.τ).loc Cert.KvNormBwdIdeal.main_arg0)) (m ((c.tc : Thread Cert.KvNormBwdIdeal.nD Cert.KvNormBwdIdeal.τ).loc Cert.KvNormBwdIdeal.main_arg1)) (m ((c.tc : Thread Cert.KvNormBwdIdeal.nD Cert.KvNormBwdIdeal.τ).loc Cert.KvNormBwdIdeal.main_arg2))) = (fun _ => 1#1)

def Pre_RefKvNormBwdIdeal (m : (ℓ : Loc Cert.RefKvNormBwdIdeal.nD Cert.RefKvNormBwdIdeal.τ Cert.RefKvNormBwdIdeal.sig) → Buf (Elt Ideal) ℓ) : Prop :=
  True

def Pre_RefKvNormBwdIdeal_real_kv_norm [hPre_real_kv_norm : Cert.Pre_real_kv_norm.Facts] (m : (ℓ : Loc Cert.RefKvNormBwdIdeal.nD Cert.RefKvNormBwdIdeal.τ Cert.RefKvNormBwdIdeal.sig) → Buf (Elt Ideal) ℓ) : Prop :=
  ∀ c : Dev Cert.RefKvNormBwdIdeal.nD,
    (Cert.Pre_real_kv_norm.fn (F := Ideal) (m ((c.tc : Thread Cert.RefKvNormBwdIdeal.nD Cert.RefKvNormBwdIdeal.τ).loc Cert.RefKvNormBwdIdeal.main_arg0)) (m ((c.tc : Thread Cert.RefKvNormBwdIdeal.nD Cert.RefKvNormBwdIdeal.τ).loc Cert.RefKvNormBwdIdeal.main_arg1)) (m ((c.tc : Thread Cert.RefKvNormBwdIdeal.nD Cert.RefKvNormBwdIdeal.τ).loc Cert.RefKvNormBwdIdeal.main_arg2))) = (fun _ => 1#1)

def Pre_EvInDx (m : (ℓ : Loc Cert.EvInDx.nD Cert.EvInDx.τ Cert.EvInDx.sig) → Buf (Elt Bits) ℓ) : Prop :=
  True

def Pre_EvInDxIdeal (m : (ℓ : Loc Cert.EvInDxIdeal.nD Cert.EvInDxIdeal.τ Cert.EvInDxIdeal.sig) → Buf (Elt Ideal) ℓ) : Prop :=
  True

def Pre_RefEvInDxIdeal (m : (ℓ : Loc Cert.RefEvInDxIdeal.nD Cert.RefEvInDxIdeal.τ Cert.RefEvInDxIdeal.sig) → Buf (Elt Ideal) ℓ) : Prop :=
  True

def Pre_EvInDw (m : (ℓ : Loc Cert.EvInDw.nD Cert.EvInDw.τ Cert.EvInDw.sig) → Buf (Elt Bits) ℓ) : Prop :=
  True

def Pre_EvInDwIdeal (m : (ℓ : Loc Cert.EvInDwIdeal.nD Cert.EvInDwIdeal.τ Cert.EvInDwIdeal.sig) → Buf (Elt Ideal) ℓ) : Prop :=
  True

def Pre_RefEvInDwIdeal (m : (ℓ : Loc Cert.RefEvInDwIdeal.nD Cert.RefEvInDwIdeal.τ Cert.RefEvInDwIdeal.sig) → Buf (Elt Ideal) ℓ) : Prop :=
  True

def Pre_UqDx (m : (ℓ : Loc Cert.UqDx.nD Cert.UqDx.τ Cert.UqDx.sig) → Buf (Elt Bits) ℓ) : Prop :=
  True

def Pre_UqDxIdeal (m : (ℓ : Loc Cert.UqDxIdeal.nD Cert.UqDxIdeal.τ Cert.UqDxIdeal.sig) → Buf (Elt Ideal) ℓ) : Prop :=
  True

def Pre_RefUqDxIdeal (m : (ℓ : Loc Cert.RefUqDxIdeal.nD Cert.RefUqDxIdeal.τ Cert.RefUqDxIdeal.sig) → Buf (Elt Ideal) ℓ) : Prop :=
  True

def Pre_UqDw (m : (ℓ : Loc Cert.UqDw.nD Cert.UqDw.τ Cert.UqDw.sig) → Buf (Elt Bits) ℓ) : Prop :=
  True

def Pre_UqDwIdeal (m : (ℓ : Loc Cert.UqDwIdeal.nD Cert.UqDwIdeal.τ Cert.UqDwIdeal.sig) → Buf (Elt Ideal) ℓ) : Prop :=
  True

def Pre_RefUqDwIdeal (m : (ℓ : Loc Cert.RefUqDwIdeal.nD Cert.RefUqDwIdeal.τ Cert.RefUqDwIdeal.sig) → Buf (Elt Ideal) ℓ) : Prop :=
  True

def Pre_UkvDx (m : (ℓ : Loc Cert.UkvDx.nD Cert.UkvDx.τ Cert.UkvDx.sig) → Buf (Elt Bits) ℓ) : Prop :=
  True

def Pre_UkvDxIdeal (m : (ℓ : Loc Cert.UkvDxIdeal.nD Cert.UkvDxIdeal.τ Cert.UkvDxIdeal.sig) → Buf (Elt Ideal) ℓ) : Prop :=
  True

def Pre_RefUkvDxIdeal (m : (ℓ : Loc Cert.RefUkvDxIdeal.nD Cert.RefUkvDxIdeal.τ Cert.RefUkvDxIdeal.sig) → Buf (Elt Ideal) ℓ) : Prop :=
  True

def Pre_UkvDw (m : (ℓ : Loc Cert.UkvDw.nD Cert.UkvDw.τ Cert.UkvDw.sig) → Buf (Elt Bits) ℓ) : Prop :=
  True

def Pre_UkvDwIdeal (m : (ℓ : Loc Cert.UkvDwIdeal.nD Cert.UkvDwIdeal.τ Cert.UkvDwIdeal.sig) → Buf (Elt Ideal) ℓ) : Prop :=
  True

def Pre_RefUkvDwIdeal (m : (ℓ : Loc Cert.RefUkvDwIdeal.nD Cert.RefUkvDwIdeal.τ Cert.RefUkvDwIdeal.sig) → Buf (Elt Ideal) ℓ) : Prop :=
  True

def Pre_EvOutDx (m : (ℓ : Loc Cert.EvOutDx.nD Cert.EvOutDx.τ Cert.EvOutDx.sig) → Buf (Elt Bits) ℓ) : Prop :=
  True

def Pre_EvOutDxIdeal (m : (ℓ : Loc Cert.EvOutDxIdeal.nD Cert.EvOutDxIdeal.τ Cert.EvOutDxIdeal.sig) → Buf (Elt Ideal) ℓ) : Prop :=
  True

def Pre_RefEvOutDxIdeal (m : (ℓ : Loc Cert.RefEvOutDxIdeal.nD Cert.RefEvOutDxIdeal.τ Cert.RefEvOutDxIdeal.sig) → Buf (Elt Ideal) ℓ) : Prop :=
  True

def Pre_EvOutDw (m : (ℓ : Loc Cert.EvOutDw.nD Cert.EvOutDw.τ Cert.EvOutDw.sig) → Buf (Elt Bits) ℓ) : Prop :=
  True

def Pre_EvOutDwIdeal (m : (ℓ : Loc Cert.EvOutDwIdeal.nD Cert.EvOutDwIdeal.τ Cert.EvOutDwIdeal.sig) → Buf (Elt Ideal) ℓ) : Prop :=
  True

def Pre_RefEvOutDwIdeal (m : (ℓ : Loc Cert.RefEvOutDwIdeal.nD Cert.RefEvOutDwIdeal.τ Cert.RefEvOutDwIdeal.sig) → Buf (Elt Ideal) ℓ) : Prop :=
  True

def Pre_W1Fwd (m : (ℓ : Loc Cert.W1Fwd.nD Cert.W1Fwd.τ Cert.W1Fwd.sig) → Buf (Elt Bits) ℓ) : Prop :=
  True

def Pre_W1FwdIdeal (m : (ℓ : Loc Cert.W1FwdIdeal.nD Cert.W1FwdIdeal.τ Cert.W1FwdIdeal.sig) → Buf (Elt Ideal) ℓ) : Prop :=
  True

def Pre_RefW1FwdIdeal (m : (ℓ : Loc Cert.RefW1FwdIdeal.nD Cert.RefW1FwdIdeal.τ Cert.RefW1FwdIdeal.sig) → Buf (Elt Ideal) ℓ) : Prop :=
  True

def Pre_W2NormFwd (m : (ℓ : Loc Cert.W2NormFwd.nD Cert.W2NormFwd.τ Cert.W2NormFwd.sig) → Buf (Elt Bits) ℓ) : Prop :=
  True

def Pre_W2NormFwdIdeal (m : (ℓ : Loc Cert.W2NormFwdIdeal.nD Cert.W2NormFwdIdeal.τ Cert.W2NormFwdIdeal.sig) → Buf (Elt Ideal) ℓ) : Prop :=
  True

def Pre_RefW2NormFwdIdeal (m : (ℓ : Loc Cert.RefW2NormFwdIdeal.nD Cert.RefW2NormFwdIdeal.τ Cert.RefW2NormFwdIdeal.sig) → Buf (Elt Ideal) ℓ) : Prop :=
  True

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_RefInFwdIdeal (m : (ℓ : Loc Cert.RefInFwdIdeal.nD Cert.RefInFwdIdeal.τ Cert.RefInFwdIdeal.sig) → Buf (Elt Ideal) ℓ) : Prop :=
  True

def Pre_OutNormFwd (m : (ℓ : Loc Cert.OutNormFwd.nD Cert.OutNormFwd.τ Cert.OutNormFwd.sig) → Buf (Elt Bits) ℓ) : Prop :=
  True

def Pre_OutNormFwdIdeal (m : (ℓ : Loc Cert.OutNormFwdIdeal.nD Cert.OutNormFwdIdeal.τ Cert.OutNormFwdIdeal.sig) → Buf (Elt Ideal) ℓ) : Prop :=
  True

def Pre_RefOutNormFwdIdeal (m : (ℓ : Loc Cert.RefOutNormFwdIdeal.nD Cert.RefOutNormFwdIdeal.τ Cert.RefOutNormFwdIdeal.sig) → Buf (Elt Ideal) ℓ) : Prop :=
  True

def Pre_EvInFwd (m : (ℓ : Loc Cert.EvInFwd.nD Cert.EvInFwd.τ Cert.EvInFwd.sig) → Buf (Elt Bits) ℓ) : Prop :=
  True

def Pre_EvInFwdIdeal (m : (ℓ : Loc Cert.EvInFwdIdeal.nD Cert.EvInFwdIdeal.τ Cert.EvInFwdIdeal.sig) → Buf (Elt Ideal) ℓ) : Prop :=
  True

def Pre_RefEvInFwdIdeal (m : (ℓ : Loc Cert.RefEvInFwdIdeal.nD Cert.RefEvInFwdIdeal.τ Cert.RefEvInFwdIdeal.sig) → Buf (Elt Ideal) ℓ) : Prop :=
  True

def Pre_UqFwd (m : (ℓ : Loc Cert.UqFwd.nD Cert.UqFwd.τ Cert.UqFwd.sig) → Buf (Elt Bits) ℓ) : Prop :=
  True

def Pre_UqFwdIdeal (m : (ℓ : Loc Cert.UqFwdIdeal.nD Cert.UqFwdIdeal.τ Cert.UqFwdIdeal.sig) → Buf (Elt Ideal) ℓ) : Prop :=
  True

def Pre_RefUqFwdIdeal (m : (ℓ : Loc Cert.RefUqFwdIdeal.nD Cert.RefUqFwdIdeal.τ Cert.RefUqFwdIdeal.sig) → Buf (Elt Ideal) ℓ) : Prop :=
  True

def Pre_UkvFwd (m : (ℓ : Loc Cert.UkvFwd.nD Cert.UkvFwd.τ Cert.UkvFwd.sig) → Buf (Elt Bits) ℓ) : Prop :=
  True

def Pre_UkvFwdIdeal (m : (ℓ : Loc Cert.UkvFwdIdeal.nD Cert.UkvFwdIdeal.τ Cert.UkvFwdIdeal.sig) → Buf (Elt Ideal) ℓ) : Prop :=
  True

def Pre_RefUkvFwdIdeal (m : (ℓ : Loc Cert.RefUkvFwdIdeal.nD Cert.RefUkvFwdIdeal.τ Cert.RefUkvFwdIdeal.sig) → Buf (Elt Ideal) ℓ) : Prop :=
  True

def Pre_EvOutNormFwd (m : (ℓ : Loc Cert.EvOutNormFwd.nD Cert.EvOutNormFwd.τ Cert.EvOutNormFwd.sig) → Buf (Elt Bits) ℓ) : Prop :=
  True

def Pre_EvOutNormFwdIdeal (m : (ℓ : Loc Cert.EvOutNormFwdIdeal.nD Cert.EvOutNormFwdIdeal.τ Cert.EvOutNormFwdIdeal.sig) → Buf (Elt Ideal) ℓ) : Prop :=
  True

def Pre_RefEvOutNormFwdIdeal (m : (ℓ : Loc Cert.RefEvOutNormFwdIdeal.nD Cert.RefEvOutNormFwdIdeal.τ Cert.RefEvOutNormFwdIdeal.sig) → Buf (Elt Ideal) ℓ) : Prop :=
  True

def Pre_GateFwd (m : (ℓ : Loc Cert.GateFwd.nD Cert.GateFwd.τ Cert.GateFwd.sig) → Buf (Elt Bits) ℓ) : Prop :=
  True

def Pre_GateFwdIdeal (m : (ℓ : Loc Cert.GateFwdIdeal.nD Cert.GateFwdIdeal.τ Cert.GateFwdIdeal.sig) → Buf (Elt Ideal) ℓ) : Prop :=
  True

def Pre_RefGateFwdIdeal (m : (ℓ : Loc Cert.RefGateFwdIdeal.nD Cert.RefGateFwdIdeal.τ Cert.RefGateFwdIdeal.sig) → Buf (Elt Ideal) ℓ) : Prop :=
  True

def Pre_QNormFwd (m : (ℓ : Loc Cert.QNormFwd.nD Cert.QNormFwd.τ Cert.QNormFwd.sig) → Buf (Elt Bits) ℓ) : Prop :=
  True

def Pre_QNormFwdIdeal (m : (ℓ : Loc Cert.QNormFwdIdeal.nD Cert.QNormFwdIdeal.τ Cert.QNormFwdIdeal.sig) → Buf (Elt Ideal) ℓ) : Prop :=
  True

def Pre_RefQNormFwdIdeal (m : (ℓ : Loc Cert.RefQNormFwdIdeal.nD Cert.RefQNormFwdIdeal.τ Cert.RefQNormFwdIdeal.sig) → Buf (Elt Ideal) ℓ) : Prop :=
  True

def Pre_KvNormFwd (m : (ℓ : Loc Cert.KvNormFwd.nD Cert.KvNormFwd.τ Cert.KvNormFwd.sig) → Buf (Elt Bits) ℓ) : Prop :=
  True

def Pre_KvNormFwdIdeal (m : (ℓ : Loc Cert.KvNormFwdIdeal.nD Cert.KvNormFwdIdeal.τ Cert.KvNormFwdIdeal.sig) → Buf (Elt Ideal) ℓ) : Prop :=
  True

def Pre_RefKvNormFwdIdeal (m : (ℓ : Loc Cert.RefKvNormFwdIdeal.nD Cert.RefKvNormFwdIdeal.τ Cert.RefKvNormFwdIdeal.sig) → Buf (Elt Ideal) ℓ) : Prop :=
  True

def Pre_RetFwd (m : (ℓ : Loc Cert.RetFwd.nD Cert.RetFwd.τ Cert.RetFwd.sig) → Buf (Elt Bits) ℓ) : Prop :=
  True

def Pre_RetFwdIdeal (m : (ℓ : Loc Cert.RetFwdIdeal.nD Cert.RetFwdIdeal.τ Cert.RetFwdIdeal.sig) → Buf (Elt Ideal) ℓ) : Prop :=
  True

def Pre_RefRetFwdIdeal (m : (ℓ : Loc Cert.RefRetFwdIdeal.nD Cert.RefRetFwdIdeal.τ Cert.RefRetFwdIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_W2Dx [hW2Dx : Cert.W2Dx.Facts] : Prop :=
  ∀ (m : (ℓ : Loc Cert.W2Dx.nD Cert.W2Dx.τ Cert.W2Dx.sig) → Buf (Elt Bits) ℓ) (g : Dev Cert.W2Dx.nD → PrngReg), Pre_W2Dx m →
    θ_run (Cert.W2Dx.defs (F := Bits)) (onTc (τ := Cert.W2Dx.τ) (Cert.W2Dx.main (F := Bits))) ⟨m, fun _ => 0, g⟩ (fun r => (∀ c : Dev Cert.W2Dx.nD,
      r.2.mem ((c.tc : Thread Cert.W2Dx.nD Cert.W2Dx.τ).loc Cert.W2Dx.main_arg0) = m ((c.tc : Thread Cert.W2Dx.nD Cert.W2Dx.τ).loc Cert.W2Dx.main_arg0)
      ∧ r.2.mem ((c.tc : Thread Cert.W2Dx.nD Cert.W2Dx.τ).loc Cert.W2Dx.main_arg1) = m ((c.tc : Thread Cert.W2Dx.nD Cert.W2Dx.τ).loc Cert.W2Dx.main_arg1)
      ∧ r.2.mem ((c.tc : Thread Cert.W2Dx.nD Cert.W2Dx.τ).loc Cert.W2Dx.main_arg2) = m ((c.tc : Thread Cert.W2Dx.nD Cert.W2Dx.τ).loc Cert.W2Dx.main_arg2))
      ∧ r.2.sem = fun _ => 0)

def quiescent_W2DxIdeal [hW2DxIdeal : Cert.W2DxIdeal.Facts] : Prop :=
  ∀ (m : (ℓ : Loc Cert.W2DxIdeal.nD Cert.W2DxIdeal.τ Cert.W2DxIdeal.sig) → Buf (Elt Ideal) ℓ) (g : Dev Cert.W2DxIdeal.nD → PrngReg), Pre_W2DxIdeal m →
    θ_run (Cert.W2DxIdeal.defs (F := Ideal)) (onTc (τ := Cert.W2DxIdeal.τ) (Cert.W2DxIdeal.main (F := Ideal))) ⟨m, fun _ => 0, g⟩ (fun r => (∀ c : Dev Cert.W2DxIdeal.nD,
      r.2.mem ((c.tc : Thread Cert.W2DxIdeal.nD Cert.W2DxIdeal.τ).loc Cert.W2DxIdeal.main_arg0) = m ((c.tc : Thread Cert.W2DxIdeal.nD Cert.W2DxIdeal.τ).loc Cert.W2DxIdeal.main_arg0)
      ∧ r.2.mem ((c.tc : Thread Cert.W2DxIdeal.nD Cert.W2DxIdeal.τ).loc Cert.W2DxIdeal.main_arg1) = m ((c.tc : Thread Cert.W2DxIdeal.nD Cert.W2DxIdeal.τ).loc Cert.W2DxIdeal.main_arg1)
      ∧ r.2.mem ((c.tc : Thread Cert.W2DxIdeal.nD Cert.W2DxIdeal.τ).loc Cert.W2DxIdeal.main_arg2) = m ((c.tc : Thread Cert.W2DxIdeal.nD Cert.W2DxIdeal.τ).loc Cert.W2DxIdeal.main_arg2))
      ∧ r.2.sem = fun _ => 0)

def quiescent_RefW2DxIdeal [hRefW2DxIdeal : Cert.RefW2DxIdeal.Facts] : Prop :=
  ∀ (m : (ℓ : Loc Cert.RefW2DxIdeal.nD Cert.RefW2DxIdeal.τ Cert.RefW2DxIdeal.sig) → Buf (Elt Ideal) ℓ) (g : Dev Cert.RefW2DxIdeal.nD → PrngReg), Pre_RefW2DxIdeal m →
    θ_run (Cert.RefW2DxIdeal.defs (F := Ideal)) (onTc (τ := Cert.RefW2DxIdeal.τ) (Cert.RefW2DxIdeal.main (F := Ideal))) ⟨m, fun _ => 0, g⟩ (fun r => (∀ c : Dev Cert.RefW2DxIdeal.nD,
      r.2.mem ((c.tc : Thread Cert.RefW2DxIdeal.nD Cert.RefW2DxIdeal.τ).loc Cert.RefW2DxIdeal.main_arg0) = m ((c.tc : Thread Cert.RefW2DxIdeal.nD Cert.RefW2DxIdeal.τ).loc Cert.RefW2DxIdeal.main_arg0)
      ∧ r.2.mem ((c.tc : Thread Cert.RefW2DxIdeal.nD Cert.RefW2DxIdeal.τ).loc Cert.RefW2DxIdeal.main_arg1) = m ((c.tc : Thread Cert.RefW2DxIdeal.nD Cert.RefW2DxIdeal.τ).loc Cert.RefW2DxIdeal.main_arg1)
      ∧ r.2.mem ((c.tc : Thread Cert.RefW2DxIdeal.nD Cert.RefW2DxIdeal.τ).loc Cert.RefW2DxIdeal.main_arg2) = m ((c.tc : Thread Cert.RefW2DxIdeal.nD Cert.RefW2DxIdeal.τ).loc Cert.RefW2DxIdeal.main_arg2))
      ∧ r.2.sem = fun _ => 0)

def quiescent_W2Dw [hW2Dw : Cert.W2Dw.Facts] : Prop :=
  ∀ (m : (ℓ : Loc Cert.W2Dw.nD Cert.W2Dw.τ Cert.W2Dw.sig) → Buf (Elt Bits) ℓ) (g : Dev Cert.W2Dw.nD → PrngReg), Pre_W2Dw m →
    θ_run (Cert.W2Dw.defs (F := Bits)) (onTc (τ := Cert.W2Dw.τ) (Cert.W2Dw.main (F := Bits))) ⟨m, fun _ => 0, g⟩ (fun r => (∀ c : Dev Cert.W2Dw.nD,
      r.2.mem ((c.tc : Thread Cert.W2Dw.nD Cert.W2Dw.τ).loc Cert.W2Dw.main_arg0) = m ((c.tc : Thread Cert.W2Dw.nD Cert.W2Dw.τ).loc Cert.W2Dw.main_arg0)
      ∧ r.2.mem ((c.tc : Thread Cert.W2Dw.nD Cert.W2Dw.τ).loc Cert.W2Dw.main_arg1) = m ((c.tc : Thread Cert.W2Dw.nD Cert.W2Dw.τ).loc Cert.W2Dw.main_arg1))
      ∧ r.2.sem = fun _ => 0)

def quiescent_W2DwIdeal [hW2DwIdeal : Cert.W2DwIdeal.Facts] : Prop :=
  ∀ (m : (ℓ : Loc Cert.W2DwIdeal.nD Cert.W2DwIdeal.τ Cert.W2DwIdeal.sig) → Buf (Elt Ideal) ℓ) (g : Dev Cert.W2DwIdeal.nD → PrngReg), Pre_W2DwIdeal m →
    θ_run (Cert.W2DwIdeal.defs (F := Ideal)) (onTc (τ := Cert.W2DwIdeal.τ) (Cert.W2DwIdeal.main (F := Ideal))) ⟨m, fun _ => 0, g⟩ (fun r => (∀ c : Dev Cert.W2DwIdeal.nD,
      r.2.mem ((c.tc : Thread Cert.W2DwIdeal.nD Cert.W2DwIdeal.τ).loc Cert.W2DwIdeal.main_arg0) = m ((c.tc : Thread Cert.W2DwIdeal.nD Cert.W2DwIdeal.τ).loc Cert.W2DwIdeal.main_arg0)
      ∧ r.2.mem ((c.tc : Thread Cert.W2DwIdeal.nD Cert.W2DwIdeal.τ).loc Cert.W2DwIdeal.main_arg1) = m ((c.tc : Thread Cert.W2DwIdeal.nD Cert.W2DwIdeal.τ).loc Cert.W2DwIdeal.main_arg1))
      ∧ r.2.sem = fun _ => 0)

def quiescent_RefW2DwIdeal [hRefW2DwIdeal : Cert.RefW2DwIdeal.Facts] : Prop :=
  ∀ (m : (ℓ : Loc Cert.RefW2DwIdeal.nD Cert.RefW2DwIdeal.τ Cert.RefW2DwIdeal.sig) → Buf (Elt Ideal) ℓ) (g : Dev Cert.RefW2DwIdeal.nD → PrngReg), Pre_RefW2DwIdeal m →
    θ_run (Cert.RefW2DwIdeal.defs (F := Ideal)) (onTc (τ := Cert.RefW2DwIdeal.τ) (Cert.RefW2DwIdeal.main (F := Ideal))) ⟨m, fun _ => 0, g⟩ (fun r => (∀ c : Dev Cert.RefW2DwIdeal.nD,
      r.2.mem ((c.tc : Thread Cert.RefW2DwIdeal.nD Cert.RefW2DwIdeal.τ).loc Cert.RefW2DwIdeal.main_arg0) = m ((c.tc : Thread Cert.RefW2DwIdeal.nD Cert.RefW2DwIdeal.τ).loc Cert.RefW2DwIdeal.main_arg0)
      ∧ r.2.mem ((c.tc : Thread Cert.RefW2DwIdeal.nD Cert.RefW2DwIdeal.τ).loc Cert.RefW2DwIdeal.main_arg1) = m ((c.tc : Thread Cert.RefW2DwIdeal.nD Cert.RefW2DwIdeal.τ).loc Cert.RefW2DwIdeal.main_arg1))
      ∧ r.2.sem = fun _ => 0)

def quiescent_W1Dx [hW1Dx : Cert.W1Dx.Facts] : Prop :=
  ∀ (m : (ℓ : Loc Cert.W1Dx.nD Cert.W1Dx.τ Cert.W1Dx.sig) → Buf (Elt Bits) ℓ) (g : Dev Cert.W1Dx.nD → PrngReg), Pre_W1Dx m →
    θ_run (Cert.W1Dx.defs (F := Bits)) (onTc (τ := Cert.W1Dx.τ) (Cert.W1Dx.main (F := Bits))) ⟨m, fun _ => 0, g⟩ (fun r => (∀ c : Dev Cert.W1Dx.nD,
      r.2.mem ((c.tc : Thread Cert.W1Dx.nD Cert.W1Dx.τ).loc Cert.W1Dx.main_arg0) = m ((c.tc : Thread Cert.W1Dx.nD Cert.W1Dx.τ).loc Cert.W1Dx.main_arg0)
      ∧ r.2.mem ((c.tc : Thread Cert.W1Dx.nD Cert.W1Dx.τ).loc Cert.W1Dx.main_arg1) = m ((c.tc : Thread Cert.W1Dx.nD Cert.W1Dx.τ).loc Cert.W1Dx.main_arg1)
      ∧ r.2.mem ((c.tc : Thread Cert.W1Dx.nD Cert.W1Dx.τ).loc Cert.W1Dx.main_arg2) = m ((c.tc : Thread Cert.W1Dx.nD Cert.W1Dx.τ).loc Cert.W1Dx.main_arg2))
      ∧ r.2.sem = fun _ => 0)

def quiescent_W1DxIdeal [hW1DxIdeal : Cert.W1DxIdeal.Facts] : Prop :=
  ∀ (m : (ℓ : Loc Cert.W1DxIdeal.nD Cert.W1DxIdeal.τ Cert.W1DxIdeal.sig) → Buf (Elt Ideal) ℓ) (g : Dev Cert.W1DxIdeal.nD → PrngReg), Pre_W1DxIdeal m →
    θ_run (Cert.W1DxIdeal.defs (F := Ideal)) (onTc (τ := Cert.W1DxIdeal.τ) (Cert.W1DxIdeal.main (F := Ideal))) ⟨m, fun _ => 0, g⟩ (fun r => (∀ c : Dev Cert.W1DxIdeal.nD,
      r.2.mem ((c.tc : Thread Cert.W1DxIdeal.nD Cert.W1DxIdeal.τ).loc Cert.W1DxIdeal.main_arg0) = m ((c.tc : Thread Cert.W1DxIdeal.nD Cert.W1DxIdeal.τ).loc Cert.W1DxIdeal.main_arg0)
      ∧ r.2.mem ((c.tc : Thread Cert.W1DxIdeal.nD Cert.W1DxIdeal.τ).loc Cert.W1DxIdeal.main_arg1) = m ((c.tc : Thread Cert.W1DxIdeal.nD Cert.W1DxIdeal.τ).loc Cert.W1DxIdeal.main_arg1)
      ∧ r.2.mem ((c.tc : Thread Cert.W1DxIdeal.nD Cert.W1DxIdeal.τ).loc Cert.W1DxIdeal.main_arg2) = m ((c.tc : Thread Cert.W1DxIdeal.nD Cert.W1DxIdeal.τ).loc Cert.W1DxIdeal.main_arg2))
      ∧ r.2.sem = fun _ => 0)

def quiescent_RefW1DxIdeal [hRefW1DxIdeal : Cert.RefW1DxIdeal.Facts] : Prop :=
  ∀ (m : (ℓ : Loc Cert.RefW1DxIdeal.nD Cert.RefW1DxIdeal.τ Cert.RefW1DxIdeal.sig) → Buf (Elt Ideal) ℓ) (g : Dev Cert.RefW1DxIdeal.nD → PrngReg), Pre_RefW1DxIdeal m →
    θ_run (Cert.RefW1DxIdeal.defs (F := Ideal)) (onTc (τ := Cert.RefW1DxIdeal.τ) (Cert.RefW1DxIdeal.main (F := Ideal))) ⟨m, fun _ => 0, g⟩ (fun r => (∀ c : Dev Cert.RefW1DxIdeal.nD,
      r.2.mem ((c.tc : Thread Cert.RefW1DxIdeal.nD Cert.RefW1DxIdeal.τ).loc Cert.RefW1DxIdeal.main_arg0) = m ((c.tc : Thread Cert.RefW1DxIdeal.nD Cert.RefW1DxIdeal.τ).loc Cert.RefW1DxIdeal.main_arg0)
      ∧ r.2.mem ((c.tc : Thread Cert.RefW1DxIdeal.nD Cert.RefW1DxIdeal.τ).loc Cert.RefW1DxIdeal.main_arg1) = m ((c.tc : Thread Cert.RefW1DxIdeal.nD Cert.RefW1DxIdeal.τ).loc Cert.RefW1DxIdeal.main_arg1)
      ∧ r.2.mem ((c.tc : Thread Cert.RefW1DxIdeal.nD Cert.RefW1DxIdeal.τ).loc Cert.RefW1DxIdeal.main_arg2) = m ((c.tc : Thread Cert.RefW1DxIdeal.nD Cert.RefW1DxIdeal.τ).loc Cert.RefW1DxIdeal.main_arg2))
      ∧ r.2.sem = fun _ => 0)

def quiescent_W1Dw [hW1Dw : Cert.W1Dw.Facts] : Prop :=
  ∀ (m : (ℓ : Loc Cert.W1Dw.nD Cert.W1Dw.τ Cert.W1Dw.sig) → Buf (Elt Bits) ℓ) (g : Dev Cert.W1Dw.nD → PrngReg), Pre_W1Dw m →
    θ_run (Cert.W1Dw.defs (F := Bits)) (onTc (τ := Cert.W1Dw.τ) (Cert.W1Dw.main (F := Bits))) ⟨m, fun _ => 0, g⟩ (fun r => (∀ c : Dev Cert.W1Dw.nD,
      r.2.mem ((c.tc : Thread Cert.W1Dw.nD Cert.W1Dw.τ).loc Cert.W1Dw.main_arg0) = m ((c.tc : Thread Cert.W1Dw.nD Cert.W1Dw.τ).loc Cert.W1Dw.main_arg0)
      ∧ r.2.mem ((c.tc : Thread Cert.W1Dw.nD Cert.W1Dw.τ).loc Cert.W1Dw.main_arg1) = m ((c.tc : Thread Cert.W1Dw.nD Cert.W1Dw.τ).loc Cert.W1Dw.main_arg1))
      ∧ r.2.sem = fun _ => 0)

def quiescent_W1DwIdeal [hW1DwIdeal : Cert.W1DwIdeal.Facts] : Prop :=
  ∀ (m : (ℓ : Loc Cert.W1DwIdeal.nD Cert.W1DwIdeal.τ Cert.W1DwIdeal.sig) → Buf (Elt Ideal) ℓ) (g : Dev Cert.W1DwIdeal.nD → PrngReg), Pre_W1DwIdeal m →
    θ_run (Cert.W1DwIdeal.defs (F := Ideal)) (onTc (τ := Cert.W1DwIdeal.τ) (Cert.W1DwIdeal.main (F := Ideal))) ⟨m, fun _ => 0, g⟩ (fun r => (∀ c : Dev Cert.W1DwIdeal.nD,
      r.2.mem ((c.tc : Thread Cert.W1DwIdeal.nD Cert.W1DwIdeal.τ).loc Cert.W1DwIdeal.main_arg0) = m ((c.tc : Thread Cert.W1DwIdeal.nD Cert.W1DwIdeal.τ).loc Cert.W1DwIdeal.main_arg0)
      ∧ r.2.mem ((c.tc : Thread Cert.W1DwIdeal.nD Cert.W1DwIdeal.τ).loc Cert.W1DwIdeal.main_arg1) = m ((c.tc : Thread Cert.W1DwIdeal.nD Cert.W1DwIdeal.τ).loc Cert.W1DwIdeal.main_arg1))
      ∧ r.2.sem = fun _ => 0)

def quiescent_RefW1DwIdeal [hRefW1DwIdeal : Cert.RefW1DwIdeal.Facts] : Prop :=
  ∀ (m : (ℓ : Loc Cert.RefW1DwIdeal.nD Cert.RefW1DwIdeal.τ Cert.RefW1DwIdeal.sig) → Buf (Elt Ideal) ℓ) (g : Dev Cert.RefW1DwIdeal.nD → PrngReg), Pre_RefW1DwIdeal m →
    θ_run (Cert.RefW1DwIdeal.defs (F := Ideal)) (onTc (τ := Cert.RefW1DwIdeal.τ) (Cert.RefW1DwIdeal.main (F := Ideal))) ⟨m, fun _ => 0, g⟩ (fun r => (∀ c : Dev Cert.RefW1DwIdeal.nD,
      r.2.mem ((c.tc : Thread Cert.RefW1DwIdeal.nD Cert.RefW1DwIdeal.τ).loc Cert.RefW1DwIdeal.main_arg0) = m ((c.tc : Thread Cert.RefW1DwIdeal.nD Cert.RefW1DwIdeal.τ).loc Cert.RefW1DwIdeal.main_arg0)
      ∧ r.2.mem ((c.tc : Thread Cert.RefW1DwIdeal.nD Cert.RefW1DwIdeal.τ).loc Cert.RefW1DwIdeal.main_arg1) = m ((c.tc : Thread Cert.RefW1DwIdeal.nD Cert.RefW1DwIdeal.τ).loc Cert.RefW1DwIdeal.main_arg1))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1)
      ∧ r.2.mem ((c.tc : Thread Cert.InDx.nD Cert.InDx.τ).loc Cert.InDx.main_arg2) = m ((c.tc : Thread Cert.InDx.nD Cert.InDx.τ).loc Cert.InDx.main_arg2))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
      ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2))
      ∧ r.2.sem = fun _ => 0)

def quiescent_RefInDxIdeal [hRefInDxIdeal : Cert.RefInDxIdeal.Facts] : Prop :=
  ∀ (m : (ℓ : Loc Cert.RefInDxIdeal.nD Cert.RefInDxIdeal.τ Cert.RefInDxIdeal.sig) → Buf (Elt Ideal) ℓ) (g : Dev Cert.RefInDxIdeal.nD → PrngReg), Pre_RefInDxIdeal m →
    θ_run (Cert.RefInDxIdeal.defs (F := Ideal)) (onTc (τ := Cert.RefInDxIdeal.τ) (Cert.RefInDxIdeal.main (F := Ideal))) ⟨m, fun _ => 0, g⟩ (fun r => (∀ c : Dev Cert.RefInDxIdeal.nD,
      r.2.mem ((c.tc : Thread Cert.RefInDxIdeal.nD Cert.RefInDxIdeal.τ).loc Cert.RefInDxIdeal.main_arg0) = m ((c.tc : Thread Cert.RefInDxIdeal.nD Cert.RefInDxIdeal.τ).loc Cert.RefInDxIdeal.main_arg0)
      ∧ r.2.mem ((c.tc : Thread Cert.RefInDxIdeal.nD Cert.RefInDxIdeal.τ).loc Cert.RefInDxIdeal.main_arg1) = m ((c.tc : Thread Cert.RefInDxIdeal.nD Cert.RefInDxIdeal.τ).loc Cert.RefInDxIdeal.main_arg1)
      ∧ r.2.mem ((c.tc : Thread Cert.RefInDxIdeal.nD Cert.RefInDxIdeal.τ).loc Cert.RefInDxIdeal.main_arg2) = m ((c.tc : Thread Cert.RefInDxIdeal.nD Cert.RefInDxIdeal.τ).loc Cert.RefInDxIdeal.main_arg2))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_RefInDwIdeal [hRefInDwIdeal : Cert.RefInDwIdeal.Facts] : Prop :=
  ∀ (m : (ℓ : Loc Cert.RefInDwIdeal.nD Cert.RefInDwIdeal.τ Cert.RefInDwIdeal.sig) → Buf (Elt Ideal) ℓ) (g : Dev Cert.RefInDwIdeal.nD → PrngReg), Pre_RefInDwIdeal m →
    θ_run (Cert.RefInDwIdeal.defs (F := Ideal)) (onTc (τ := Cert.RefInDwIdeal.τ) (Cert.RefInDwIdeal.main (F := Ideal))) ⟨m, fun _ => 0, g⟩ (fun r => (∀ c : Dev Cert.RefInDwIdeal.nD,
      r.2.mem ((c.tc : Thread Cert.RefInDwIdeal.nD Cert.RefInDwIdeal.τ).loc Cert.RefInDwIdeal.main_arg0) = m ((c.tc : Thread Cert.RefInDwIdeal.nD Cert.RefInDwIdeal.τ).loc Cert.RefInDwIdeal.main_arg0)
      ∧ r.2.mem ((c.tc : Thread Cert.RefInDwIdeal.nD Cert.RefInDwIdeal.τ).loc Cert.RefInDwIdeal.main_arg1) = m ((c.tc : Thread Cert.RefInDwIdeal.nD Cert.RefInDwIdeal.τ).loc Cert.RefInDwIdeal.main_arg1))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_RefOutDxIdeal [hRefOutDxIdeal : Cert.RefOutDxIdeal.Facts] : Prop :=
  ∀ (m : (ℓ : Loc Cert.RefOutDxIdeal.nD Cert.RefOutDxIdeal.τ Cert.RefOutDxIdeal.sig) → Buf (Elt Ideal) ℓ) (g : Dev Cert.RefOutDxIdeal.nD → PrngReg), Pre_RefOutDxIdeal m →
    θ_run (Cert.RefOutDxIdeal.defs (F := Ideal)) (onTc (τ := Cert.RefOutDxIdeal.τ) (Cert.RefOutDxIdeal.main (F := Ideal))) ⟨m, fun _ => 0, g⟩ (fun r => (∀ c : Dev Cert.RefOutDxIdeal.nD,
      r.2.mem ((c.tc : Thread Cert.RefOutDxIdeal.nD Cert.RefOutDxIdeal.τ).loc Cert.RefOutDxIdeal.main_arg0) = m ((c.tc : Thread Cert.RefOutDxIdeal.nD Cert.RefOutDxIdeal.τ).loc Cert.RefOutDxIdeal.main_arg0)
      ∧ r.2.mem ((c.tc : Thread Cert.RefOutDxIdeal.nD Cert.RefOutDxIdeal.τ).loc Cert.RefOutDxIdeal.main_arg1) = m ((c.tc : Thread Cert.RefOutDxIdeal.nD Cert.RefOutDxIdeal.τ).loc Cert.RefOutDxIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_RefOutDwIdeal [hRefOutDwIdeal : Cert.RefOutDwIdeal.Facts] : Prop :=
  ∀ (m : (ℓ : Loc Cert.RefOutDwIdeal.nD Cert.RefOutDwIdeal.τ Cert.RefOutDwIdeal.sig) → Buf (Elt Ideal) ℓ) (g : Dev Cert.RefOutDwIdeal.nD → PrngReg), Pre_RefOutDwIdeal m →
    θ_run (Cert.RefOutDwIdeal.defs (F := Ideal)) (onTc (τ := Cert.RefOutDwIdeal.τ) (Cert.RefOutDwIdeal.main (F := Ideal))) ⟨m, fun _ => 0, g⟩ (fun r => (∀ c : Dev Cert.RefOutDwIdeal.nD,
      r.2.mem ((c.tc : Thread Cert.RefOutDwIdeal.nD Cert.RefOutDwIdeal.τ).loc Cert.RefOutDwIdeal.main_arg0) = m ((c.tc : Thread Cert.RefOutDwIdeal.nD Cert.RefOutDwIdeal.τ).loc Cert.RefOutDwIdeal.main_arg0)
      ∧ r.2.mem ((c.tc : Thread Cert.RefOutDwIdeal.nD Cert.RefOutDwIdeal.τ).loc Cert.RefOutDwIdeal.main_arg1) = m ((c.tc : Thread Cert.RefOutDwIdeal.nD Cert.RefOutDwIdeal.τ).loc Cert.RefOutDwIdeal.main_arg1))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2))
      ∧ r.2.sem = fun _ => 0)

def quiescent_NormBwdIdeal_pre_real_norm [hNormBwdIdeal : Cert.NormBwdIdeal.Facts] [hPre_real_norm : Cert.Pre_real_norm.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal_real_norm m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2))
      ∧ r.2.sem = fun _ => 0)

def quiescent_RefNormBwdIdeal [hRefNormBwdIdeal : Cert.RefNormBwdIdeal.Facts] : Prop :=
  ∀ (m : (ℓ : Loc Cert.RefNormBwdIdeal.nD Cert.RefNormBwdIdeal.τ Cert.RefNormBwdIdeal.sig) → Buf (Elt Ideal) ℓ) (g : Dev Cert.RefNormBwdIdeal.nD → PrngReg), Pre_RefNormBwdIdeal m →
    θ_run (Cert.RefNormBwdIdeal.defs (F := Ideal)) (onTc (τ := Cert.RefNormBwdIdeal.τ) (Cert.RefNormBwdIdeal.main (F := Ideal))) ⟨m, fun _ => 0, g⟩ (fun r => (∀ c : Dev Cert.RefNormBwdIdeal.nD,
      r.2.mem ((c.tc : Thread Cert.RefNormBwdIdeal.nD Cert.RefNormBwdIdeal.τ).loc Cert.RefNormBwdIdeal.main_arg0) = m ((c.tc : Thread Cert.RefNormBwdIdeal.nD Cert.RefNormBwdIdeal.τ).loc Cert.RefNormBwdIdeal.main_arg0)
      ∧ r.2.mem ((c.tc : Thread Cert.RefNormBwdIdeal.nD Cert.RefNormBwdIdeal.τ).loc Cert.RefNormBwdIdeal.main_arg1) = m ((c.tc : Thread Cert.RefNormBwdIdeal.nD Cert.RefNormBwdIdeal.τ).loc Cert.RefNormBwdIdeal.main_arg1)
      ∧ r.2.mem ((c.tc : Thread Cert.RefNormBwdIdeal.nD Cert.RefNormBwdIdeal.τ).loc Cert.RefNormBwdIdeal.main_arg2) = m ((c.tc : Thread Cert.RefNormBwdIdeal.nD Cert.RefNormBwdIdeal.τ).loc Cert.RefNormBwdIdeal.main_arg2))
      ∧ r.2.sem = fun _ => 0)

def quiescent_RefNormBwdIdeal_pre_real_norm [hRefNormBwdIdeal : Cert.RefNormBwdIdeal.Facts] [hPre_real_norm : Cert.Pre_real_norm.Facts] : Prop :=
  ∀ (m : (ℓ : Loc Cert.RefNormBwdIdeal.nD Cert.RefNormBwdIdeal.τ Cert.RefNormBwdIdeal.sig) → Buf (Elt Ideal) ℓ) (g : Dev Cert.RefNormBwdIdeal.nD → PrngReg), Pre_RefNormBwdIdeal_real_norm m →
    θ_run (Cert.RefNormBwdIdeal.defs (F := Ideal)) (onTc (τ := Cert.RefNormBwdIdeal.τ) (Cert.RefNormBwdIdeal.main (F := Ideal))) ⟨m, fun _ => 0, g⟩ (fun r => (∀ c : Dev Cert.RefNormBwdIdeal.nD,
      r.2.mem ((c.tc : Thread Cert.RefNormBwdIdeal.nD Cert.RefNormBwdIdeal.τ).loc Cert.RefNormBwdIdeal.main_arg0) = m ((c.tc : Thread Cert.RefNormBwdIdeal.nD Cert.RefNormBwdIdeal.τ).loc Cert.RefNormBwdIdeal.main_arg0)
      ∧ r.2.mem ((c.tc : Thread Cert.RefNormBwdIdeal.nD Cert.RefNormBwdIdeal.τ).loc Cert.RefNormBwdIdeal.main_arg1) = m ((c.tc : Thread Cert.RefNormBwdIdeal.nD Cert.RefNormBwdIdeal.τ).loc Cert.RefNormBwdIdeal.main_arg1)
      ∧ r.2.mem ((c.tc : Thread Cert.RefNormBwdIdeal.nD Cert.RefNormBwdIdeal.τ).loc Cert.RefNormBwdIdeal.main_arg2) = m ((c.tc : Thread Cert.RefNormBwdIdeal.nD Cert.RefNormBwdIdeal.τ).loc Cert.RefNormBwdIdeal.main_arg2))
      ∧ r.2.sem = fun _ => 0)

def quiescent_GateBwd [hGateBwd : Cert.GateBwd.Facts] : Prop :=
  ∀ (m : (ℓ : Loc Cert.GateBwd.nD Cert.GateBwd.τ Cert.GateBwd.sig) → Buf (Elt Bits) ℓ) (g : Dev Cert.GateBwd.nD → PrngReg), Pre_GateBwd m →
    θ_run (Cert.GateBwd.defs (F := Bits)) (onTc (τ := Cert.GateBwd.τ) (Cert.GateBwd.main (F := Bits))) ⟨m, fun _ => 0, g⟩ (fun r => (∀ c : Dev Cert.GateBwd.nD,
      r.2.mem ((c.tc : Thread Cert.GateBwd.nD Cert.GateBwd.τ).loc Cert.GateBwd.main_arg0) = m ((c.tc : Thread Cert.GateBwd.nD Cert.GateBwd.τ).loc Cert.GateBwd.main_arg0)
      ∧ r.2.mem ((c.tc : Thread Cert.GateBwd.nD Cert.GateBwd.τ).loc Cert.GateBwd.main_arg1) = m ((c.tc : Thread Cert.GateBwd.nD Cert.GateBwd.τ).loc Cert.GateBwd.main_arg1)
      ∧ r.2.mem ((c.tc : Thread Cert.GateBwd.nD Cert.GateBwd.τ).loc Cert.GateBwd.main_arg2) = m ((c.tc : Thread Cert.GateBwd.nD Cert.GateBwd.τ).loc Cert.GateBwd.main_arg2))
      ∧ r.2.sem = fun _ => 0)

def quiescent_GateBwdIdeal [hGateBwdIdeal : Cert.GateBwdIdeal.Facts] : Prop :=
  ∀ (m : (ℓ : Loc Cert.GateBwdIdeal.nD Cert.GateBwdIdeal.τ Cert.GateBwdIdeal.sig) → Buf (Elt Ideal) ℓ) (g : Dev Cert.GateBwdIdeal.nD → PrngReg), Pre_GateBwdIdeal m →
    θ_run (Cert.GateBwdIdeal.defs (F := Ideal)) (onTc (τ := Cert.GateBwdIdeal.τ) (Cert.GateBwdIdeal.main (F := Ideal))) ⟨m, fun _ => 0, g⟩ (fun r => (∀ c : Dev Cert.GateBwdIdeal.nD,
      r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
      ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
      ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2))
      ∧ r.2.sem = fun _ => 0)

def quiescent_GateBwdIdeal_pre_real_gate [hGateBwdIdeal : Cert.GateBwdIdeal.Facts] [hPre_real_gate : Cert.Pre_real_gate.Facts] : Prop :=
  ∀ (m : (ℓ : Loc Cert.GateBwdIdeal.nD Cert.GateBwdIdeal.τ Cert.GateBwdIdeal.sig) → Buf (Elt Ideal) ℓ) (g : Dev Cert.GateBwdIdeal.nD → PrngReg), Pre_GateBwdIdeal_real_gate m →
    θ_run (Cert.GateBwdIdeal.defs (F := Ideal)) (onTc (τ := Cert.GateBwdIdeal.τ) (Cert.GateBwdIdeal.main (F := Ideal))) ⟨m, fun _ => 0, g⟩ (fun r => (∀ c : Dev Cert.GateBwdIdeal.nD,
      r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
      ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
      ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2))
      ∧ r.2.sem = fun _ => 0)

def quiescent_RefGateBwdIdeal [hRefGateBwdIdeal : Cert.RefGateBwdIdeal.Facts] : Prop :=
  ∀ (m : (ℓ : Loc Cert.RefGateBwdIdeal.nD Cert.RefGateBwdIdeal.τ Cert.RefGateBwdIdeal.sig) → Buf (Elt Ideal) ℓ) (g : Dev Cert.RefGateBwdIdeal.nD → PrngReg), Pre_RefGateBwdIdeal m →
    θ_run (Cert.RefGateBwdIdeal.defs (F := Ideal)) (onTc (τ := Cert.RefGateBwdIdeal.τ) (Cert.RefGateBwdIdeal.main (F := Ideal))) ⟨m, fun _ => 0, g⟩ (fun r => (∀ c : Dev Cert.RefGateBwdIdeal.nD,
      r.2.mem ((c.tc : Thread Cert.RefGateBwdIdeal.nD Cert.RefGateBwdIdeal.τ).loc Cert.RefGateBwdIdeal.main_arg0) = m ((c.tc : Thread Cert.RefGateBwdIdeal.nD Cert.RefGateBwdIdeal.τ).loc Cert.RefGateBwdIdeal.main_arg0)
      ∧ r.2.mem ((c.tc : Thread Cert.RefGateBwdIdeal.nD Cert.RefGateBwdIdeal.τ).loc Cert.RefGateBwdIdeal.main_arg1) = m ((c.tc : Thread Cert.RefGateBwdIdeal.nD Cert.RefGateBwdIdeal.τ).loc Cert.RefGateBwdIdeal.main_arg1)
      ∧ r.2.mem ((c.tc : Thread Cert.RefGateBwdIdeal.nD Cert.RefGateBwdIdeal.τ).loc Cert.RefGateBwdIdeal.main_arg2) = m ((c.tc : Thread Cert.RefGateBwdIdeal.nD Cert.RefGateBwdIdeal.τ).loc Cert.RefGateBwdIdeal.main_arg2))
      ∧ r.2.sem = fun _ => 0)

def quiescent_RefGateBwdIdeal_pre_real_gate [hRefGateBwdIdeal : Cert.RefGateBwdIdeal.Facts] [hPre_real_gate : Cert.Pre_real_gate.Facts] : Prop :=
  ∀ (m : (ℓ : Loc Cert.RefGateBwdIdeal.nD Cert.RefGateBwdIdeal.τ Cert.RefGateBwdIdeal.sig) → Buf (Elt Ideal) ℓ) (g : Dev Cert.RefGateBwdIdeal.nD → PrngReg), Pre_RefGateBwdIdeal_real_gate m →
    θ_run (Cert.RefGateBwdIdeal.defs (F := Ideal)) (onTc (τ := Cert.RefGateBwdIdeal.τ) (Cert.RefGateBwdIdeal.main (F := Ideal))) ⟨m, fun _ => 0, g⟩ (fun r => (∀ c : Dev Cert.RefGateBwdIdeal.nD,
      r.2.mem ((c.tc : Thread Cert.RefGateBwdIdeal.nD Cert.RefGateBwdIdeal.τ).loc Cert.RefGateBwdIdeal.main_arg0) = m ((c.tc : Thread Cert.RefGateBwdIdeal.nD Cert.RefGateBwdIdeal.τ).loc Cert.RefGateBwdIdeal.main_arg0)
      ∧ r.2.mem ((c.tc : Thread Cert.RefGateBwdIdeal.nD Cert.RefGateBwdIdeal.τ).loc Cert.RefGateBwdIdeal.main_arg1) = m ((c.tc : Thread Cert.RefGateBwdIdeal.nD Cert.RefGateBwdIdeal.τ).loc Cert.RefGateBwdIdeal.main_arg1)
      ∧ r.2.mem ((c.tc : Thread Cert.RefGateBwdIdeal.nD Cert.RefGateBwdIdeal.τ).loc Cert.RefGateBwdIdeal.main_arg2) = m ((c.tc : Thread Cert.RefGateBwdIdeal.nD Cert.RefGateBwdIdeal.τ).loc Cert.RefGateBwdIdeal.main_arg2))
      ∧ r.2.sem = fun _ => 0)

def quiescent_QNormBwd [hQNormBwd : Cert.QNormBwd.Facts] : Prop :=
  ∀ (m : (ℓ : Loc Cert.QNormBwd.nD Cert.QNormBwd.τ Cert.QNormBwd.sig) → Buf (Elt Bits) ℓ) (g : Dev Cert.QNormBwd.nD → PrngReg), Pre_QNormBwd m →
    θ_run (Cert.QNormBwd.defs (F := Bits)) (onTc (τ := Cert.QNormBwd.τ) (Cert.QNormBwd.main (F := Bits))) ⟨m, fun _ => 0, g⟩ (fun r => (∀ c : Dev Cert.QNormBwd.nD,
      r.2.mem ((c.tc : Thread Cert.QNormBwd.nD Cert.QNormBwd.τ).loc Cert.QNormBwd.main_arg0) = m ((c.tc : Thread Cert.QNormBwd.nD Cert.QNormBwd.τ).loc Cert.QNormBwd.main_arg0)
      ∧ r.2.mem ((c.tc : Thread Cert.QNormBwd.nD Cert.QNormBwd.τ).loc Cert.QNormBwd.main_arg1) = m ((c.tc : Thread Cert.QNormBwd.nD Cert.QNormBwd.τ).loc Cert.QNormBwd.main_arg1)
      ∧ r.2.mem ((c.tc : Thread Cert.QNormBwd.nD Cert.QNormBwd.τ).loc Cert.QNormBwd.main_arg2) = m ((c.tc : Thread Cert.QNormBwd.nD Cert.QNormBwd.τ).loc Cert.QNormBwd.main_arg2))
      ∧ r.2.sem = fun _ => 0)

def quiescent_QNormBwdIdeal [hQNormBwdIdeal : Cert.QNormBwdIdeal.Facts] : Prop :=
  ∀ (m : (ℓ : Loc Cert.QNormBwdIdeal.nD Cert.QNormBwdIdeal.τ Cert.QNormBwdIdeal.sig) → Buf (Elt Ideal) ℓ) (g : Dev Cert.QNormBwdIdeal.nD → PrngReg), Pre_QNormBwdIdeal m →
    θ_run (Cert.QNormBwdIdeal.defs (F := Ideal)) (onTc (τ := Cert.QNormBwdIdeal.τ) (Cert.QNormBwdIdeal.main (F := Ideal))) ⟨m, fun _ => 0, g⟩ (fun r => (∀ c : Dev Cert.QNormBwdIdeal.nD,
      r.2.mem ((c.tc : Thread Cert.QNormBwdIdeal.nD Cert.QNormBwdIdeal.τ).loc Cert.QNormBwdIdeal.main_arg0) = m ((c.tc : Thread Cert.QNormBwdIdeal.nD Cert.QNormBwdIdeal.τ).loc Cert.QNormBwdIdeal.main_arg0)
      ∧ r.2.mem ((c.tc : Thread Cert.QNormBwdIdeal.nD Cert.QNormBwdIdeal.τ).loc Cert.QNormBwdIdeal.main_arg1) = m ((c.tc : Thread Cert.QNormBwdIdeal.nD Cert.QNormBwdIdeal.τ).loc Cert.QNormBwdIdeal.main_arg1)
      ∧ r.2.mem ((c.tc : Thread Cert.QNormBwdIdeal.nD Cert.QNormBwdIdeal.τ).loc Cert.QNormBwdIdeal.main_arg2) = m ((c.tc : Thread Cert.QNormBwdIdeal.nD Cert.QNormBwdIdeal.τ).loc Cert.QNormBwdIdeal.main_arg2))
      ∧ r.2.sem = fun _ => 0)

def quiescent_QNormBwdIdeal_pre_real_q_norm [hQNormBwdIdeal : Cert.QNormBwdIdeal.Facts] [hPre_real_q_norm : Cert.Pre_real_q_norm.Facts] : Prop :=
  ∀ (m : (ℓ : Loc Cert.QNormBwdIdeal.nD Cert.QNormBwdIdeal.τ Cert.QNormBwdIdeal.sig) → Buf (Elt Ideal) ℓ) (g : Dev Cert.QNormBwdIdeal.nD → PrngReg), Pre_QNormBwdIdeal_real_q_norm m →
    θ_run (Cert.QNormBwdIdeal.defs (F := Ideal)) (onTc (τ := Cert.QNormBwdIdeal.τ) (Cert.QNormBwdIdeal.main (F := Ideal))) ⟨m, fun _ => 0, g⟩ (fun r => (∀ c : Dev Cert.QNormBwdIdeal.nD,
      r.2.mem ((c.tc : Thread Cert.QNormBwdIdeal.nD Cert.QNormBwdIdeal.τ).loc Cert.QNormBwdIdeal.main_arg0) = m ((c.tc : Thread Cert.QNormBwdIdeal.nD Cert.QNormBwdIdeal.τ).loc Cert.QNormBwdIdeal.main_arg0)
      ∧ r.2.mem ((c.tc : Thread Cert.QNormBwdIdeal.nD Cert.QNormBwdIdeal.τ).loc Cert.QNormBwdIdeal.main_arg1) = m ((c.tc : Thread Cert.QNormBwdIdeal.nD Cert.QNormBwdIdeal.τ).loc Cert.QNormBwdIdeal.main_arg1)
      ∧ r.2.mem ((c.tc : Thread Cert.QNormBwdIdeal.nD Cert.QNormBwdIdeal.τ).loc Cert.QNormBwdIdeal.main_arg2) = m ((c.tc : Thread Cert.QNormBwdIdeal.nD Cert.QNormBwdIdeal.τ).loc Cert.QNormBwdIdeal.main_arg2))
      ∧ r.2.sem = fun _ => 0)

def quiescent_RefQNormBwdIdeal [hRefQNormBwdIdeal : Cert.RefQNormBwdIdeal.Facts] : Prop :=
  ∀ (m : (ℓ : Loc Cert.RefQNormBwdIdeal.nD Cert.RefQNormBwdIdeal.τ Cert.RefQNormBwdIdeal.sig) → Buf (Elt Ideal) ℓ) (g : Dev Cert.RefQNormBwdIdeal.nD → PrngReg), Pre_RefQNormBwdIdeal m →
    θ_run (Cert.RefQNormBwdIdeal.defs (F := Ideal)) (onTc (τ := Cert.RefQNormBwdIdeal.τ) (Cert.RefQNormBwdIdeal.main (F := Ideal))) ⟨m, fun _ => 0, g⟩ (fun r => (∀ c : Dev Cert.RefQNormBwdIdeal.nD,
      r.2.mem ((c.tc : Thread Cert.RefQNormBwdIdeal.nD Cert.RefQNormBwdIdeal.τ).loc Cert.RefQNormBwdIdeal.main_arg0) = m ((c.tc : Thread Cert.RefQNormBwdIdeal.nD Cert.RefQNormBwdIdeal.τ).loc Cert.RefQNormBwdIdeal.main_arg0)
      ∧ r.2.mem ((c.tc : Thread Cert.RefQNormBwdIdeal.nD Cert.RefQNormBwdIdeal.τ).loc Cert.RefQNormBwdIdeal.main_arg1) = m ((c.tc : Thread Cert.RefQNormBwdIdeal.nD Cert.RefQNormBwdIdeal.τ).loc Cert.RefQNormBwdIdeal.main_arg1)
      ∧ r.2.mem ((c.tc : Thread Cert.RefQNormBwdIdeal.nD Cert.RefQNormBwdIdeal.τ).loc Cert.RefQNormBwdIdeal.main_arg2) = m ((c.tc : Thread Cert.RefQNormBwdIdeal.nD Cert.RefQNormBwdIdeal.τ).loc Cert.RefQNormBwdIdeal.main_arg2))
      ∧ r.2.sem = fun _ => 0)

def quiescent_RefQNormBwdIdeal_pre_real_q_norm [hRefQNormBwdIdeal : Cert.RefQNormBwdIdeal.Facts] [hPre_real_q_norm : Cert.Pre_real_q_norm.Facts] : Prop :=
  ∀ (m : (ℓ : Loc Cert.RefQNormBwdIdeal.nD Cert.RefQNormBwdIdeal.τ Cert.RefQNormBwdIdeal.sig) → Buf (Elt Ideal) ℓ) (g : Dev Cert.RefQNormBwdIdeal.nD → PrngReg), Pre_RefQNormBwdIdeal_real_q_norm m →
    θ_run (Cert.RefQNormBwdIdeal.defs (F := Ideal)) (onTc (τ := Cert.RefQNormBwdIdeal.τ) (Cert.RefQNormBwdIdeal.main (F := Ideal))) ⟨m, fun _ => 0, g⟩ (fun r => (∀ c : Dev Cert.RefQNormBwdIdeal.nD,
      r.2.mem ((c.tc : Thread Cert.RefQNormBwdIdeal.nD Cert.RefQNormBwdIdeal.τ).loc Cert.RefQNormBwdIdeal.main_arg0) = m ((c.tc : Thread Cert.RefQNormBwdIdeal.nD Cert.RefQNormBwdIdeal.τ).loc Cert.RefQNormBwdIdeal.main_arg0)
      ∧ r.2.mem ((c.tc : Thread Cert.RefQNormBwdIdeal.nD Cert.RefQNormBwdIdeal.τ).loc Cert.RefQNormBwdIdeal.main_arg1) = m ((c.tc : Thread Cert.RefQNormBwdIdeal.nD Cert.RefQNormBwdIdeal.τ).loc Cert.RefQNormBwdIdeal.main_arg1)
      ∧ r.2.mem ((c.tc : Thread Cert.RefQNormBwdIdeal.nD Cert.RefQNormBwdIdeal.τ).loc Cert.RefQNormBwdIdeal.main_arg2) = m ((c.tc : Thread Cert.RefQNormBwdIdeal.nD Cert.RefQNormBwdIdeal.τ).loc Cert.RefQNormBwdIdeal.main_arg2))
      ∧ r.2.sem = fun _ => 0)

def quiescent_KvNormBwd [hKvNormBwd : Cert.KvNormBwd.Facts] : Prop :=
  ∀ (m : (ℓ : Loc Cert.KvNormBwd.nD Cert.KvNormBwd.τ Cert.KvNormBwd.sig) → Buf (Elt Bits) ℓ) (g : Dev Cert.KvNormBwd.nD → PrngReg), Pre_KvNormBwd m →
    θ_run (Cert.KvNormBwd.defs (F := Bits)) (onTc (τ := Cert.KvNormBwd.τ) (Cert.KvNormBwd.main (F := Bits))) ⟨m, fun _ => 0, g⟩ (fun r => (∀ c : Dev Cert.KvNormBwd.nD,
      r.2.mem ((c.tc : Thread Cert.KvNormBwd.nD Cert.KvNormBwd.τ).loc Cert.KvNormBwd.main_arg0) = m ((c.tc : Thread Cert.KvNormBwd.nD Cert.KvNormBwd.τ).loc Cert.KvNormBwd.main_arg0)
      ∧ r.2.mem ((c.tc : Thread Cert.KvNormBwd.nD Cert.KvNormBwd.τ).loc Cert.KvNormBwd.main_arg1) = m ((c.tc : Thread Cert.KvNormBwd.nD Cert.KvNormBwd.τ).loc Cert.KvNormBwd.main_arg1)
      ∧ r.2.mem ((c.tc : Thread Cert.KvNormBwd.nD Cert.KvNormBwd.τ).loc Cert.KvNormBwd.main_arg2) = m ((c.tc : Thread Cert.KvNormBwd.nD Cert.KvNormBwd.τ).loc Cert.KvNormBwd.main_arg2))
      ∧ r.2.sem = fun _ => 0)

def quiescent_KvNormBwdIdeal [hKvNormBwdIdeal : Cert.KvNormBwdIdeal.Facts] : Prop :=
  ∀ (m : (ℓ : Loc Cert.KvNormBwdIdeal.nD Cert.KvNormBwdIdeal.τ Cert.KvNormBwdIdeal.sig) → Buf (Elt Ideal) ℓ) (g : Dev Cert.KvNormBwdIdeal.nD → PrngReg), Pre_KvNormBwdIdeal m →
    θ_run (Cert.KvNormBwdIdeal.defs (F := Ideal)) (onTc (τ := Cert.KvNormBwdIdeal.τ) (Cert.KvNormBwdIdeal.main (F := Ideal))) ⟨m, fun _ => 0, g⟩ (fun r => (∀ c : Dev Cert.KvNormBwdIdeal.nD,
      r.2.mem ((c.tc : Thread Cert.KvNormBwdIdeal.nD Cert.KvNormBwdIdeal.τ).loc Cert.KvNormBwdIdeal.main_arg0) = m ((c.tc : Thread Cert.KvNormBwdIdeal.nD Cert.KvNormBwdIdeal.τ).loc Cert.KvNormBwdIdeal.main_arg0)
      ∧ r.2.mem ((c.tc : Thread Cert.KvNormBwdIdeal.nD Cert.KvNormBwdIdeal.τ).loc Cert.KvNormBwdIdeal.main_arg1) = m ((c.tc : Thread Cert.KvNormBwdIdeal.nD Cert.KvNormBwdIdeal.τ).loc Cert.KvNormBwdIdeal.main_arg1)
      ∧ r.2.mem ((c.tc : Thread Cert.KvNormBwdIdeal.nD Cert.KvNormBwdIdeal.τ).loc Cert.KvNormBwdIdeal.main_arg2) = m ((c.tc : Thread Cert.KvNormBwdIdeal.nD Cert.KvNormBwdIdeal.τ).loc Cert.KvNormBwdIdeal.main_arg2))
      ∧ r.2.sem = fun _ => 0)

def quiescent_KvNormBwdIdeal_pre_real_kv_norm [hKvNormBwdIdeal : Cert.KvNormBwdIdeal.Facts] [hPre_real_kv_norm : Cert.Pre_real_kv_norm.Facts] : Prop :=
  ∀ (m : (ℓ : Loc Cert.KvNormBwdIdeal.nD Cert.KvNormBwdIdeal.τ Cert.KvNormBwdIdeal.sig) → Buf (Elt Ideal) ℓ) (g : Dev Cert.KvNormBwdIdeal.nD → PrngReg), Pre_KvNormBwdIdeal_real_kv_norm m →
    θ_run (Cert.KvNormBwdIdeal.defs (F := Ideal)) (onTc (τ := Cert.KvNormBwdIdeal.τ) (Cert.KvNormBwdIdeal.main (F := Ideal))) ⟨m, fun _ => 0, g⟩ (fun r => (∀ c : Dev Cert.KvNormBwdIdeal.nD,
      r.2.mem ((c.tc : Thread Cert.KvNormBwdIdeal.nD Cert.KvNormBwdIdeal.τ).loc Cert.KvNormBwdIdeal.main_arg0) = m ((c.tc : Thread Cert.KvNormBwdIdeal.nD Cert.KvNormBwdIdeal.τ).loc Cert.KvNormBwdIdeal.main_arg0)
      ∧ r.2.mem ((c.tc : Thread Cert.KvNormBwdIdeal.nD Cert.KvNormBwdIdeal.τ).loc Cert.KvNormBwdIdeal.main_arg1) = m ((c.tc : Thread Cert.KvNormBwdIdeal.nD Cert.KvNormBwdIdeal.τ).loc Cert.KvNormBwdIdeal.main_arg1)
      ∧ r.2.mem ((c.tc : Thread Cert.KvNormBwdIdeal.nD Cert.KvNormBwdIdeal.τ).loc Cert.KvNormBwdIdeal.main_arg2) = m ((c.tc : Thread Cert.KvNormBwdIdeal.nD Cert.KvNormBwdIdeal.τ).loc Cert.KvNormBwdIdeal.main_arg2))
      ∧ r.2.sem = fun _ => 0)

def quiescent_RefKvNormBwdIdeal [hRefKvNormBwdIdeal : Cert.RefKvNormBwdIdeal.Facts] : Prop :=
  ∀ (m : (ℓ : Loc Cert.RefKvNormBwdIdeal.nD Cert.RefKvNormBwdIdeal.τ Cert.RefKvNormBwdIdeal.sig) → Buf (Elt Ideal) ℓ) (g : Dev Cert.RefKvNormBwdIdeal.nD → PrngReg), Pre_RefKvNormBwdIdeal m →
    θ_run (Cert.RefKvNormBwdIdeal.defs (F := Ideal)) (onTc (τ := Cert.RefKvNormBwdIdeal.τ) (Cert.RefKvNormBwdIdeal.main (F := Ideal))) ⟨m, fun _ => 0, g⟩ (fun r => (∀ c : Dev Cert.RefKvNormBwdIdeal.nD,
      r.2.mem ((c.tc : Thread Cert.RefKvNormBwdIdeal.nD Cert.RefKvNormBwdIdeal.τ).loc Cert.RefKvNormBwdIdeal.main_arg0) = m ((c.tc : Thread Cert.RefKvNormBwdIdeal.nD Cert.RefKvNormBwdIdeal.τ).loc Cert.RefKvNormBwdIdeal.main_arg0)
      ∧ r.2.mem ((c.tc : Thread Cert.RefKvNormBwdIdeal.nD Cert.RefKvNormBwdIdeal.τ).loc Cert.RefKvNormBwdIdeal.main_arg1) = m ((c.tc : Thread Cert.RefKvNormBwdIdeal.nD Cert.RefKvNormBwdIdeal.τ).loc Cert.RefKvNormBwdIdeal.main_arg1)
      ∧ r.2.mem ((c.tc : Thread Cert.RefKvNormBwdIdeal.nD Cert.RefKvNormBwdIdeal.τ).loc Cert.RefKvNormBwdIdeal.main_arg2) = m ((c.tc : Thread Cert.RefKvNormBwdIdeal.nD Cert.RefKvNormBwdIdeal.τ).loc Cert.RefKvNormBwdIdeal.main_arg2))
      ∧ r.2.sem = fun _ => 0)

def quiescent_RefKvNormBwdIdeal_pre_real_kv_norm [hRefKvNormBwdIdeal : Cert.RefKvNormBwdIdeal.Facts] [hPre_real_kv_norm : Cert.Pre_real_kv_norm.Facts] : Prop :=
  ∀ (m : (ℓ : Loc Cert.RefKvNormBwdIdeal.nD Cert.RefKvNormBwdIdeal.τ Cert.RefKvNormBwdIdeal.sig) → Buf (Elt Ideal) ℓ) (g : Dev Cert.RefKvNormBwdIdeal.nD → PrngReg), Pre_RefKvNormBwdIdeal_real_kv_norm m →
    θ_run (Cert.RefKvNormBwdIdeal.defs (F := Ideal)) (onTc (τ := Cert.RefKvNormBwdIdeal.τ) (Cert.RefKvNormBwdIdeal.main (F := Ideal))) ⟨m, fun _ => 0, g⟩ (fun r => (∀ c : Dev Cert.RefKvNormBwdIdeal.nD,
      r.2.mem ((c.tc : Thread Cert.RefKvNormBwdIdeal.nD Cert.RefKvNormBwdIdeal.τ).loc Cert.RefKvNormBwdIdeal.main_arg0) = m ((c.tc : Thread Cert.RefKvNormBwdIdeal.nD Cert.RefKvNormBwdIdeal.τ).loc Cert.RefKvNormBwdIdeal.main_arg0)
      ∧ r.2.mem ((c.tc : Thread Cert.RefKvNormBwdIdeal.nD Cert.RefKvNormBwdIdeal.τ).loc Cert.RefKvNormBwdIdeal.main_arg1) = m ((c.tc : Thread Cert.RefKvNormBwdIdeal.nD Cert.RefKvNormBwdIdeal.τ).loc Cert.RefKvNormBwdIdeal.main_arg1)
      ∧ r.2.mem ((c.tc : Thread Cert.RefKvNormBwdIdeal.nD Cert.RefKvNormBwdIdeal.τ).loc Cert.RefKvNormBwdIdeal.main_arg2) = m ((c.tc : Thread Cert.RefKvNormBwdIdeal.nD Cert.RefKvNormBwdIdeal.τ).loc Cert.RefKvNormBwdIdeal.main_arg2))
      ∧ r.2.sem = fun _ => 0)

def quiescent_EvInDx [hEvInDx : Cert.EvInDx.Facts] : Prop :=
  ∀ (m : (ℓ : Loc Cert.EvInDx.nD Cert.EvInDx.τ Cert.EvInDx.sig) → Buf (Elt Bits) ℓ) (g : Dev Cert.EvInDx.nD → PrngReg), Pre_EvInDx m →
    θ_run (Cert.EvInDx.defs (F := Bits)) (onTc (τ := Cert.EvInDx.τ) (Cert.EvInDx.main (F := Bits))) ⟨m, fun _ => 0, g⟩ (fun r => (∀ c : Dev Cert.EvInDx.nD,
      r.2.mem ((c.tc : Thread Cert.EvInDx.nD Cert.EvInDx.τ).loc Cert.EvInDx.main_arg0) = m ((c.tc : Thread Cert.EvInDx.nD Cert.EvInDx.τ).loc Cert.EvInDx.main_arg0)
      ∧ r.2.mem ((c.tc : Thread Cert.EvInDx.nD Cert.EvInDx.τ).loc Cert.EvInDx.main_arg1) = m ((c.tc : Thread Cert.EvInDx.nD Cert.EvInDx.τ).loc Cert.EvInDx.main_arg1))
      ∧ r.2.sem = fun _ => 0)

def quiescent_EvInDxIdeal [hEvInDxIdeal : Cert.EvInDxIdeal.Facts] : Prop :=
  ∀ (m : (ℓ : Loc Cert.EvInDxIdeal.nD Cert.EvInDxIdeal.τ Cert.EvInDxIdeal.sig) → Buf (Elt Ideal) ℓ) (g : Dev Cert.EvInDxIdeal.nD → PrngReg), Pre_EvInDxIdeal m →
    θ_run (Cert.EvInDxIdeal.defs (F := Ideal)) (onTc (τ := Cert.EvInDxIdeal.τ) (Cert.EvInDxIdeal.main (F := Ideal))) ⟨m, fun _ => 0, g⟩ (fun r => (∀ c : Dev Cert.EvInDxIdeal.nD,
      r.2.mem ((c.tc : Thread Cert.EvInDxIdeal.nD Cert.EvInDxIdeal.τ).loc Cert.EvInDxIdeal.main_arg0) = m ((c.tc : Thread Cert.EvInDxIdeal.nD Cert.EvInDxIdeal.τ).loc Cert.EvInDxIdeal.main_arg0)
      ∧ r.2.mem ((c.tc : Thread Cert.EvInDxIdeal.nD Cert.EvInDxIdeal.τ).loc Cert.EvInDxIdeal.main_arg1) = m ((c.tc : Thread Cert.EvInDxIdeal.nD Cert.EvInDxIdeal.τ).loc Cert.EvInDxIdeal.main_arg1))
      ∧ r.2.sem = fun _ => 0)

def quiescent_RefEvInDxIdeal [hRefEvInDxIdeal : Cert.RefEvInDxIdeal.Facts] : Prop :=
  ∀ (m : (ℓ : Loc Cert.RefEvInDxIdeal.nD Cert.RefEvInDxIdeal.τ Cert.RefEvInDxIdeal.sig) → Buf (Elt Ideal) ℓ) (g : Dev Cert.RefEvInDxIdeal.nD → PrngReg), Pre_RefEvInDxIdeal m →
    θ_run (Cert.RefEvInDxIdeal.defs (F := Ideal)) (onTc (τ := Cert.RefEvInDxIdeal.τ) (Cert.RefEvInDxIdeal.main (F := Ideal))) ⟨m, fun _ => 0, g⟩ (fun r => (∀ c : Dev Cert.RefEvInDxIdeal.nD,
      r.2.mem ((c.tc : Thread Cert.RefEvInDxIdeal.nD Cert.RefEvInDxIdeal.τ).loc Cert.RefEvInDxIdeal.main_arg0) = m ((c.tc : Thread Cert.RefEvInDxIdeal.nD Cert.RefEvInDxIdeal.τ).loc Cert.RefEvInDxIdeal.main_arg0)
      ∧ r.2.mem ((c.tc : Thread Cert.RefEvInDxIdeal.nD Cert.RefEvInDxIdeal.τ).loc Cert.RefEvInDxIdeal.main_arg1) = m ((c.tc : Thread Cert.RefEvInDxIdeal.nD Cert.RefEvInDxIdeal.τ).loc Cert.RefEvInDxIdeal.main_arg1))
      ∧ r.2.sem = fun _ => 0)

def quiescent_EvInDw [hEvInDw : Cert.EvInDw.Facts] : Prop :=
  ∀ (m : (ℓ : Loc Cert.EvInDw.nD Cert.EvInDw.τ Cert.EvInDw.sig) → Buf (Elt Bits) ℓ) (g : Dev Cert.EvInDw.nD → PrngReg), Pre_EvInDw m →
    θ_run (Cert.EvInDw.defs (F := Bits)) (onTc (τ := Cert.EvInDw.τ) (Cert.EvInDw.main (F := Bits))) ⟨m, fun _ => 0, g⟩ (fun r => (∀ c : Dev Cert.EvInDw.nD,
      r.2.mem ((c.tc : Thread Cert.EvInDw.nD Cert.EvInDw.τ).loc Cert.EvInDw.main_arg0) = m ((c.tc : Thread Cert.EvInDw.nD Cert.EvInDw.τ).loc Cert.EvInDw.main_arg0)
      ∧ r.2.mem ((c.tc : Thread Cert.EvInDw.nD Cert.EvInDw.τ).loc Cert.EvInDw.main_arg1) = m ((c.tc : Thread Cert.EvInDw.nD Cert.EvInDw.τ).loc Cert.EvInDw.main_arg1))
      ∧ r.2.sem = fun _ => 0)

def quiescent_EvInDwIdeal [hEvInDwIdeal : Cert.EvInDwIdeal.Facts] : Prop :=
  ∀ (m : (ℓ : Loc Cert.EvInDwIdeal.nD Cert.EvInDwIdeal.τ Cert.EvInDwIdeal.sig) → Buf (Elt Ideal) ℓ) (g : Dev Cert.EvInDwIdeal.nD → PrngReg), Pre_EvInDwIdeal m →
    θ_run (Cert.EvInDwIdeal.defs (F := Ideal)) (onTc (τ := Cert.EvInDwIdeal.τ) (Cert.EvInDwIdeal.main (F := Ideal))) ⟨m, fun _ => 0, g⟩ (fun r => (∀ c : Dev Cert.EvInDwIdeal.nD,
      r.2.mem ((c.tc : Thread Cert.EvInDwIdeal.nD Cert.EvInDwIdeal.τ).loc Cert.EvInDwIdeal.main_arg0) = m ((c.tc : Thread Cert.EvInDwIdeal.nD Cert.EvInDwIdeal.τ).loc Cert.EvInDwIdeal.main_arg0)
      ∧ r.2.mem ((c.tc : Thread Cert.EvInDwIdeal.nD Cert.EvInDwIdeal.τ).loc Cert.EvInDwIdeal.main_arg1) = m ((c.tc : Thread Cert.EvInDwIdeal.nD Cert.EvInDwIdeal.τ).loc Cert.EvInDwIdeal.main_arg1))
      ∧ r.2.sem = fun _ => 0)

def quiescent_RefEvInDwIdeal [hRefEvInDwIdeal : Cert.RefEvInDwIdeal.Facts] : Prop :=
  ∀ (m : (ℓ : Loc Cert.RefEvInDwIdeal.nD Cert.RefEvInDwIdeal.τ Cert.RefEvInDwIdeal.sig) → Buf (Elt Ideal) ℓ) (g : Dev Cert.RefEvInDwIdeal.nD → PrngReg), Pre_RefEvInDwIdeal m →
    θ_run (Cert.RefEvInDwIdeal.defs (F := Ideal)) (onTc (τ := Cert.RefEvInDwIdeal.τ) (Cert.RefEvInDwIdeal.main (F := Ideal))) ⟨m, fun _ => 0, g⟩ (fun r => (∀ c : Dev Cert.RefEvInDwIdeal.nD,
      r.2.mem ((c.tc : Thread Cert.RefEvInDwIdeal.nD Cert.RefEvInDwIdeal.τ).loc Cert.RefEvInDwIdeal.main_arg0) = m ((c.tc : Thread Cert.RefEvInDwIdeal.nD Cert.RefEvInDwIdeal.τ).loc Cert.RefEvInDwIdeal.main_arg0)
      ∧ r.2.mem ((c.tc : Thread Cert.RefEvInDwIdeal.nD Cert.RefEvInDwIdeal.τ).loc Cert.RefEvInDwIdeal.main_arg1) = m ((c.tc : Thread Cert.RefEvInDwIdeal.nD Cert.RefEvInDwIdeal.τ).loc Cert.RefEvInDwIdeal.main_arg1))
      ∧ r.2.sem = fun _ => 0)

def quiescent_UqDx [hUqDx : Cert.UqDx.Facts] : Prop :=
  ∀ (m : (ℓ : Loc Cert.UqDx.nD Cert.UqDx.τ Cert.UqDx.sig) → Buf (Elt Bits) ℓ) (g : Dev Cert.UqDx.nD → PrngReg), Pre_UqDx m →
    θ_run (Cert.UqDx.defs (F := Bits)) (onTc (τ := Cert.UqDx.τ) (Cert.UqDx.main (F := Bits))) ⟨m, fun _ => 0, g⟩ (fun r => (∀ c : Dev Cert.UqDx.nD,
      r.2.mem ((c.tc : Thread Cert.UqDx.nD Cert.UqDx.τ).loc Cert.UqDx.main_arg0) = m ((c.tc : Thread Cert.UqDx.nD Cert.UqDx.τ).loc Cert.UqDx.main_arg0)
      ∧ r.2.mem ((c.tc : Thread Cert.UqDx.nD Cert.UqDx.τ).loc Cert.UqDx.main_arg1) = m ((c.tc : Thread Cert.UqDx.nD Cert.UqDx.τ).loc Cert.UqDx.main_arg1))
      ∧ r.2.sem = fun _ => 0)

def quiescent_UqDxIdeal [hUqDxIdeal : Cert.UqDxIdeal.Facts] : Prop :=
  ∀ (m : (ℓ : Loc Cert.UqDxIdeal.nD Cert.UqDxIdeal.τ Cert.UqDxIdeal.sig) → Buf (Elt Ideal) ℓ) (g : Dev Cert.UqDxIdeal.nD → PrngReg), Pre_UqDxIdeal m →
    θ_run (Cert.UqDxIdeal.defs (F := Ideal)) (onTc (τ := Cert.UqDxIdeal.τ) (Cert.UqDxIdeal.main (F := Ideal))) ⟨m, fun _ => 0, g⟩ (fun r => (∀ c : Dev Cert.UqDxIdeal.nD,
      r.2.mem ((c.tc : Thread Cert.UqDxIdeal.nD Cert.UqDxIdeal.τ).loc Cert.UqDxIdeal.main_arg0) = m ((c.tc : Thread Cert.UqDxIdeal.nD Cert.UqDxIdeal.τ).loc Cert.UqDxIdeal.main_arg0)
      ∧ r.2.mem ((c.tc : Thread Cert.UqDxIdeal.nD Cert.UqDxIdeal.τ).loc Cert.UqDxIdeal.main_arg1) = m ((c.tc : Thread Cert.UqDxIdeal.nD Cert.UqDxIdeal.τ).loc Cert.UqDxIdeal.main_arg1))
      ∧ r.2.sem = fun _ => 0)

def quiescent_RefUqDxIdeal [hRefUqDxIdeal : Cert.RefUqDxIdeal.Facts] : Prop :=
  ∀ (m : (ℓ : Loc Cert.RefUqDxIdeal.nD Cert.RefUqDxIdeal.τ Cert.RefUqDxIdeal.sig) → Buf (Elt Ideal) ℓ) (g : Dev Cert.RefUqDxIdeal.nD → PrngReg), Pre_RefUqDxIdeal m →
    θ_run (Cert.RefUqDxIdeal.defs (F := Ideal)) (onTc (τ := Cert.RefUqDxIdeal.τ) (Cert.RefUqDxIdeal.main (F := Ideal))) ⟨m, fun _ => 0, g⟩ (fun r => (∀ c : Dev Cert.RefUqDxIdeal.nD,
      r.2.mem ((c.tc : Thread Cert.RefUqDxIdeal.nD Cert.RefUqDxIdeal.τ).loc Cert.RefUqDxIdeal.main_arg0) = m ((c.tc : Thread Cert.RefUqDxIdeal.nD Cert.RefUqDxIdeal.τ).loc Cert.RefUqDxIdeal.main_arg0)
      ∧ r.2.mem ((c.tc : Thread Cert.RefUqDxIdeal.nD Cert.RefUqDxIdeal.τ).loc Cert.RefUqDxIdeal.main_arg1) = m ((c.tc : Thread Cert.RefUqDxIdeal.nD Cert.RefUqDxIdeal.τ).loc Cert.RefUqDxIdeal.main_arg1))
      ∧ r.2.sem = fun _ => 0)

def quiescent_UqDw [hUqDw : Cert.UqDw.Facts] : Prop :=
  ∀ (m : (ℓ : Loc Cert.UqDw.nD Cert.UqDw.τ Cert.UqDw.sig) → Buf (Elt Bits) ℓ) (g : Dev Cert.UqDw.nD → PrngReg), Pre_UqDw m →
    θ_run (Cert.UqDw.defs (F := Bits)) (onTc (τ := Cert.UqDw.τ) (Cert.UqDw.main (F := Bits))) ⟨m, fun _ => 0, g⟩ (fun r => (∀ c : Dev Cert.UqDw.nD,
      r.2.mem ((c.tc : Thread Cert.UqDw.nD Cert.UqDw.τ).loc Cert.UqDw.main_arg0) = m ((c.tc : Thread Cert.UqDw.nD Cert.UqDw.τ).loc Cert.UqDw.main_arg0)
      ∧ r.2.mem ((c.tc : Thread Cert.UqDw.nD Cert.UqDw.τ).loc Cert.UqDw.main_arg1) = m ((c.tc : Thread Cert.UqDw.nD Cert.UqDw.τ).loc Cert.UqDw.main_arg1))
      ∧ r.2.sem = fun _ => 0)

def quiescent_UqDwIdeal [hUqDwIdeal : Cert.UqDwIdeal.Facts] : Prop :=
  ∀ (m : (ℓ : Loc Cert.UqDwIdeal.nD Cert.UqDwIdeal.τ Cert.UqDwIdeal.sig) → Buf (Elt Ideal) ℓ) (g : Dev Cert.UqDwIdeal.nD → PrngReg), Pre_UqDwIdeal m →
    θ_run (Cert.UqDwIdeal.defs (F := Ideal)) (onTc (τ := Cert.UqDwIdeal.τ) (Cert.UqDwIdeal.main (F := Ideal))) ⟨m, fun _ => 0, g⟩ (fun r => (∀ c : Dev Cert.UqDwIdeal.nD,
      r.2.mem ((c.tc : Thread Cert.UqDwIdeal.nD Cert.UqDwIdeal.τ).loc Cert.UqDwIdeal.main_arg0) = m ((c.tc : Thread Cert.UqDwIdeal.nD Cert.UqDwIdeal.τ).loc Cert.UqDwIdeal.main_arg0)
      ∧ r.2.mem ((c.tc : Thread Cert.UqDwIdeal.nD Cert.UqDwIdeal.τ).loc Cert.UqDwIdeal.main_arg1) = m ((c.tc : Thread Cert.UqDwIdeal.nD Cert.UqDwIdeal.τ).loc Cert.UqDwIdeal.main_arg1))
      ∧ r.2.sem = fun _ => 0)

def quiescent_RefUqDwIdeal [hRefUqDwIdeal : Cert.RefUqDwIdeal.Facts] : Prop :=
  ∀ (m : (ℓ : Loc Cert.RefUqDwIdeal.nD Cert.RefUqDwIdeal.τ Cert.RefUqDwIdeal.sig) → Buf (Elt Ideal) ℓ) (g : Dev Cert.RefUqDwIdeal.nD → PrngReg), Pre_RefUqDwIdeal m →
    θ_run (Cert.RefUqDwIdeal.defs (F := Ideal)) (onTc (τ := Cert.RefUqDwIdeal.τ) (Cert.RefUqDwIdeal.main (F := Ideal))) ⟨m, fun _ => 0, g⟩ (fun r => (∀ c : Dev Cert.RefUqDwIdeal.nD,
      r.2.mem ((c.tc : Thread Cert.RefUqDwIdeal.nD Cert.RefUqDwIdeal.τ).loc Cert.RefUqDwIdeal.main_arg0) = m ((c.tc : Thread Cert.RefUqDwIdeal.nD Cert.RefUqDwIdeal.τ).loc Cert.RefUqDwIdeal.main_arg0)
      ∧ r.2.mem ((c.tc : Thread Cert.RefUqDwIdeal.nD Cert.RefUqDwIdeal.τ).loc Cert.RefUqDwIdeal.main_arg1) = m ((c.tc : Thread Cert.RefUqDwIdeal.nD Cert.RefUqDwIdeal.τ).loc Cert.RefUqDwIdeal.main_arg1))
      ∧ r.2.sem = fun _ => 0)

def quiescent_UkvDx [hUkvDx : Cert.UkvDx.Facts] : Prop :=
  ∀ (m : (ℓ : Loc Cert.UkvDx.nD Cert.UkvDx.τ Cert.UkvDx.sig) → Buf (Elt Bits) ℓ) (g : Dev Cert.UkvDx.nD → PrngReg), Pre_UkvDx m →
    θ_run (Cert.UkvDx.defs (F := Bits)) (onTc (τ := Cert.UkvDx.τ) (Cert.UkvDx.main (F := Bits))) ⟨m, fun _ => 0, g⟩ (fun r => (∀ c : Dev Cert.UkvDx.nD,
      r.2.mem ((c.tc : Thread Cert.UkvDx.nD Cert.UkvDx.τ).loc Cert.UkvDx.main_arg0) = m ((c.tc : Thread Cert.UkvDx.nD Cert.UkvDx.τ).loc Cert.UkvDx.main_arg0)
      ∧ r.2.mem ((c.tc : Thread Cert.UkvDx.nD Cert.UkvDx.τ).loc Cert.UkvDx.main_arg1) = m ((c.tc : Thread Cert.UkvDx.nD Cert.UkvDx.τ).loc Cert.UkvDx.main_arg1))
      ∧ r.2.sem = fun _ => 0)

def quiescent_UkvDxIdeal [hUkvDxIdeal : Cert.UkvDxIdeal.Facts] : Prop :=
  ∀ (m : (ℓ : Loc Cert.UkvDxIdeal.nD Cert.UkvDxIdeal.τ Cert.UkvDxIdeal.sig) → Buf (Elt Ideal) ℓ) (g : Dev Cert.UkvDxIdeal.nD → PrngReg), Pre_UkvDxIdeal m →
    θ_run (Cert.UkvDxIdeal.defs (F := Ideal)) (onTc (τ := Cert.UkvDxIdeal.τ) (Cert.UkvDxIdeal.main (F := Ideal))) ⟨m, fun _ => 0, g⟩ (fun r => (∀ c : Dev Cert.UkvDxIdeal.nD,
      r.2.mem ((c.tc : Thread Cert.UkvDxIdeal.nD Cert.UkvDxIdeal.τ).loc Cert.UkvDxIdeal.main_arg0) = m ((c.tc : Thread Cert.UkvDxIdeal.nD Cert.UkvDxIdeal.τ).loc Cert.UkvDxIdeal.main_arg0)
      ∧ r.2.mem ((c.tc : Thread Cert.UkvDxIdeal.nD Cert.UkvDxIdeal.τ).loc Cert.UkvDxIdeal.main_arg1) = m ((c.tc : Thread Cert.UkvDxIdeal.nD Cert.UkvDxIdeal.τ).loc Cert.UkvDxIdeal.main_arg1))
      ∧ r.2.sem = fun _ => 0)

def quiescent_RefUkvDxIdeal [hRefUkvDxIdeal : Cert.RefUkvDxIdeal.Facts] : Prop :=
  ∀ (m : (ℓ : Loc Cert.RefUkvDxIdeal.nD Cert.RefUkvDxIdeal.τ Cert.RefUkvDxIdeal.sig) → Buf (Elt Ideal) ℓ) (g : Dev Cert.RefUkvDxIdeal.nD → PrngReg), Pre_RefUkvDxIdeal m →
    θ_run (Cert.RefUkvDxIdeal.defs (F := Ideal)) (onTc (τ := Cert.RefUkvDxIdeal.τ) (Cert.RefUkvDxIdeal.main (F := Ideal))) ⟨m, fun _ => 0, g⟩ (fun r => (∀ c : Dev Cert.RefUkvDxIdeal.nD,
      r.2.mem ((c.tc : Thread Cert.RefUkvDxIdeal.nD Cert.RefUkvDxIdeal.τ).loc Cert.RefUkvDxIdeal.main_arg0) = m ((c.tc : Thread Cert.RefUkvDxIdeal.nD Cert.RefUkvDxIdeal.τ).loc Cert.RefUkvDxIdeal.main_arg0)
      ∧ r.2.mem ((c.tc : Thread Cert.RefUkvDxIdeal.nD Cert.RefUkvDxIdeal.τ).loc Cert.RefUkvDxIdeal.main_arg1) = m ((c.tc : Thread Cert.RefUkvDxIdeal.nD Cert.RefUkvDxIdeal.τ).loc Cert.RefUkvDxIdeal.main_arg1))
      ∧ r.2.sem = fun _ => 0)

def quiescent_UkvDw [hUkvDw : Cert.UkvDw.Facts] : Prop :=
  ∀ (m : (ℓ : Loc Cert.UkvDw.nD Cert.UkvDw.τ Cert.UkvDw.sig) → Buf (Elt Bits) ℓ) (g : Dev Cert.UkvDw.nD → PrngReg), Pre_UkvDw m →
    θ_run (Cert.UkvDw.defs (F := Bits)) (onTc (τ := Cert.UkvDw.τ) (Cert.UkvDw.main (F := Bits))) ⟨m, fun _ => 0, g⟩ (fun r => (∀ c : Dev Cert.UkvDw.nD,
      r.2.mem ((c.tc : Thread Cert.UkvDw.nD Cert.UkvDw.τ).loc Cert.UkvDw.main_arg0) = m ((c.tc : Thread Cert.UkvDw.nD Cert.UkvDw.τ).loc Cert.UkvDw.main_arg0)
      ∧ r.2.mem ((c.tc : Thread Cert.UkvDw.nD Cert.UkvDw.τ).loc Cert.UkvDw.main_arg1) = m ((c.tc : Thread Cert.UkvDw.nD Cert.UkvDw.τ).loc Cert.UkvDw.main_arg1))
      ∧ r.2.sem = fun _ => 0)

def quiescent_UkvDwIdeal [hUkvDwIdeal : Cert.UkvDwIdeal.Facts] : Prop :=
  ∀ (m : (ℓ : Loc Cert.UkvDwIdeal.nD Cert.UkvDwIdeal.τ Cert.UkvDwIdeal.sig) → Buf (Elt Ideal) ℓ) (g : Dev Cert.UkvDwIdeal.nD → PrngReg), Pre_UkvDwIdeal m →
    θ_run (Cert.UkvDwIdeal.defs (F := Ideal)) (onTc (τ := Cert.UkvDwIdeal.τ) (Cert.UkvDwIdeal.main (F := Ideal))) ⟨m, fun _ => 0, g⟩ (fun r => (∀ c : Dev Cert.UkvDwIdeal.nD,
      r.2.mem ((c.tc : Thread Cert.UkvDwIdeal.nD Cert.UkvDwIdeal.τ).loc Cert.UkvDwIdeal.main_arg0) = m ((c.tc : Thread Cert.UkvDwIdeal.nD Cert.UkvDwIdeal.τ).loc Cert.UkvDwIdeal.main_arg0)
      ∧ r.2.mem ((c.tc : Thread Cert.UkvDwIdeal.nD Cert.UkvDwIdeal.τ).loc Cert.UkvDwIdeal.main_arg1) = m ((c.tc : Thread Cert.UkvDwIdeal.nD Cert.UkvDwIdeal.τ).loc Cert.UkvDwIdeal.main_arg1))
      ∧ r.2.sem = fun _ => 0)

def quiescent_RefUkvDwIdeal [hRefUkvDwIdeal : Cert.RefUkvDwIdeal.Facts] : Prop :=
  ∀ (m : (ℓ : Loc Cert.RefUkvDwIdeal.nD Cert.RefUkvDwIdeal.τ Cert.RefUkvDwIdeal.sig) → Buf (Elt Ideal) ℓ) (g : Dev Cert.RefUkvDwIdeal.nD → PrngReg), Pre_RefUkvDwIdeal m →
    θ_run (Cert.RefUkvDwIdeal.defs (F := Ideal)) (onTc (τ := Cert.RefUkvDwIdeal.τ) (Cert.RefUkvDwIdeal.main (F := Ideal))) ⟨m, fun _ => 0, g⟩ (fun r => (∀ c : Dev Cert.RefUkvDwIdeal.nD,
      r.2.mem ((c.tc : Thread Cert.RefUkvDwIdeal.nD Cert.RefUkvDwIdeal.τ).loc Cert.RefUkvDwIdeal.main_arg0) = m ((c.tc : Thread Cert.RefUkvDwIdeal.nD Cert.RefUkvDwIdeal.τ).loc Cert.RefUkvDwIdeal.main_arg0)
      ∧ r.2.mem ((c.tc : Thread Cert.RefUkvDwIdeal.nD Cert.RefUkvDwIdeal.τ).loc Cert.RefUkvDwIdeal.main_arg1) = m ((c.tc : Thread Cert.RefUkvDwIdeal.nD Cert.RefUkvDwIdeal.τ).loc Cert.RefUkvDwIdeal.main_arg1))
      ∧ r.2.sem = fun _ => 0)

def quiescent_EvOutDx [hEvOutDx : Cert.EvOutDx.Facts] : Prop :=
  ∀ (m : (ℓ : Loc Cert.EvOutDx.nD Cert.EvOutDx.τ Cert.EvOutDx.sig) → Buf (Elt Bits) ℓ) (g : Dev Cert.EvOutDx.nD → PrngReg), Pre_EvOutDx m →
    θ_run (Cert.EvOutDx.defs (F := Bits)) (onTc (τ := Cert.EvOutDx.τ) (Cert.EvOutDx.main (F := Bits))) ⟨m, fun _ => 0, g⟩ (fun r => (∀ c : Dev Cert.EvOutDx.nD,
      r.2.mem ((c.tc : Thread Cert.EvOutDx.nD Cert.EvOutDx.τ).loc Cert.EvOutDx.main_arg0) = m ((c.tc : Thread Cert.EvOutDx.nD Cert.EvOutDx.τ).loc Cert.EvOutDx.main_arg0)
      ∧ r.2.mem ((c.tc : Thread Cert.EvOutDx.nD Cert.EvOutDx.τ).loc Cert.EvOutDx.main_arg1) = m ((c.tc : Thread Cert.EvOutDx.nD Cert.EvOutDx.τ).loc Cert.EvOutDx.main_arg1))
      ∧ r.2.sem = fun _ => 0)

def quiescent_EvOutDxIdeal [hEvOutDxIdeal : Cert.EvOutDxIdeal.Facts] : Prop :=
  ∀ (m : (ℓ : Loc Cert.EvOutDxIdeal.nD Cert.EvOutDxIdeal.τ Cert.EvOutDxIdeal.sig) → Buf (Elt Ideal) ℓ) (g : Dev Cert.EvOutDxIdeal.nD → PrngReg), Pre_EvOutDxIdeal m →
    θ_run (Cert.EvOutDxIdeal.defs (F := Ideal)) (onTc (τ := Cert.EvOutDxIdeal.τ) (Cert.EvOutDxIdeal.main (F := Ideal))) ⟨m, fun _ => 0, g⟩ (fun r => (∀ c : Dev Cert.EvOutDxIdeal.nD,
      r.2.mem ((c.tc : Thread Cert.EvOutDxIdeal.nD Cert.EvOutDxIdeal.τ).loc Cert.EvOutDxIdeal.main_arg0) = m ((c.tc : Thread Cert.EvOutDxIdeal.nD Cert.EvOutDxIdeal.τ).loc Cert.EvOutDxIdeal.main_arg0)
      ∧ r.2.mem ((c.tc : Thread Cert.EvOutDxIdeal.nD Cert.EvOutDxIdeal.τ).loc Cert.EvOutDxIdeal.main_arg1) = m ((c.tc : Thread Cert.EvOutDxIdeal.nD Cert.EvOutDxIdeal.τ).loc Cert.EvOutDxIdeal.main_arg1))
      ∧ r.2.sem = fun _ => 0)

def quiescent_RefEvOutDxIdeal [hRefEvOutDxIdeal : Cert.RefEvOutDxIdeal.Facts] : Prop :=
  ∀ (m : (ℓ : Loc Cert.RefEvOutDxIdeal.nD Cert.RefEvOutDxIdeal.τ Cert.RefEvOutDxIdeal.sig) → Buf (Elt Ideal) ℓ) (g : Dev Cert.RefEvOutDxIdeal.nD → PrngReg), Pre_RefEvOutDxIdeal m →
    θ_run (Cert.RefEvOutDxIdeal.defs (F := Ideal)) (onTc (τ := Cert.RefEvOutDxIdeal.τ) (Cert.RefEvOutDxIdeal.main (F := Ideal))) ⟨m, fun _ => 0, g⟩ (fun r => (∀ c : Dev Cert.RefEvOutDxIdeal.nD,
      r.2.mem ((c.tc : Thread Cert.RefEvOutDxIdeal.nD Cert.RefEvOutDxIdeal.τ).loc Cert.RefEvOutDxIdeal.main_arg0) = m ((c.tc : Thread Cert.RefEvOutDxIdeal.nD Cert.RefEvOutDxIdeal.τ).loc Cert.RefEvOutDxIdeal.main_arg0)
      ∧ r.2.mem ((c.tc : Thread Cert.RefEvOutDxIdeal.nD Cert.RefEvOutDxIdeal.τ).loc Cert.RefEvOutDxIdeal.main_arg1) = m ((c.tc : Thread Cert.RefEvOutDxIdeal.nD Cert.RefEvOutDxIdeal.τ).loc Cert.RefEvOutDxIdeal.main_arg1))
      ∧ r.2.sem = fun _ => 0)

def quiescent_EvOutDw [hEvOutDw : Cert.EvOutDw.Facts] : Prop :=
  ∀ (m : (ℓ : Loc Cert.EvOutDw.nD Cert.EvOutDw.τ Cert.EvOutDw.sig) → Buf (Elt Bits) ℓ) (g : Dev Cert.EvOutDw.nD → PrngReg), Pre_EvOutDw m →
    θ_run (Cert.EvOutDw.defs (F := Bits)) (onTc (τ := Cert.EvOutDw.τ) (Cert.EvOutDw.main (F := Bits))) ⟨m, fun _ => 0, g⟩ (fun r => (∀ c : Dev Cert.EvOutDw.nD,
      r.2.mem ((c.tc : Thread Cert.EvOutDw.nD Cert.EvOutDw.τ).loc Cert.EvOutDw.main_arg0) = m ((c.tc : Thread Cert.EvOutDw.nD Cert.EvOutDw.τ).loc Cert.EvOutDw.main_arg0)
      ∧ r.2.mem ((c.tc : Thread Cert.EvOutDw.nD Cert.EvOutDw.τ).loc Cert.EvOutDw.main_arg1) = m ((c.tc : Thread Cert.EvOutDw.nD Cert.EvOutDw.τ).loc Cert.EvOutDw.main_arg1))
      ∧ r.2.sem = fun _ => 0)

def quiescent_EvOutDwIdeal [hEvOutDwIdeal : Cert.EvOutDwIdeal.Facts] : Prop :=
  ∀ (m : (ℓ : Loc Cert.EvOutDwIdeal.nD Cert.EvOutDwIdeal.τ Cert.EvOutDwIdeal.sig) → Buf (Elt Ideal) ℓ) (g : Dev Cert.EvOutDwIdeal.nD → PrngReg), Pre_EvOutDwIdeal m →
    θ_run (Cert.EvOutDwIdeal.defs (F := Ideal)) (onTc (τ := Cert.EvOutDwIdeal.τ) (Cert.EvOutDwIdeal.main (F := Ideal))) ⟨m, fun _ => 0, g⟩ (fun r => (∀ c : Dev Cert.EvOutDwIdeal.nD,
      r.2.mem ((c.tc : Thread Cert.EvOutDwIdeal.nD Cert.EvOutDwIdeal.τ).loc Cert.EvOutDwIdeal.main_arg0) = m ((c.tc : Thread Cert.EvOutDwIdeal.nD Cert.EvOutDwIdeal.τ).loc Cert.EvOutDwIdeal.main_arg0)
      ∧ r.2.mem ((c.tc : Thread Cert.EvOutDwIdeal.nD Cert.EvOutDwIdeal.τ).loc Cert.EvOutDwIdeal.main_arg1) = m ((c.tc : Thread Cert.EvOutDwIdeal.nD Cert.EvOutDwIdeal.τ).loc Cert.EvOutDwIdeal.main_arg1))
      ∧ r.2.sem = fun _ => 0)

def quiescent_RefEvOutDwIdeal [hRefEvOutDwIdeal : Cert.RefEvOutDwIdeal.Facts] : Prop :=
  ∀ (m : (ℓ : Loc Cert.RefEvOutDwIdeal.nD Cert.RefEvOutDwIdeal.τ Cert.RefEvOutDwIdeal.sig) → Buf (Elt Ideal) ℓ) (g : Dev Cert.RefEvOutDwIdeal.nD → PrngReg), Pre_RefEvOutDwIdeal m →
    θ_run (Cert.RefEvOutDwIdeal.defs (F := Ideal)) (onTc (τ := Cert.RefEvOutDwIdeal.τ) (Cert.RefEvOutDwIdeal.main (F := Ideal))) ⟨m, fun _ => 0, g⟩ (fun r => (∀ c : Dev Cert.RefEvOutDwIdeal.nD,
      r.2.mem ((c.tc : Thread Cert.RefEvOutDwIdeal.nD Cert.RefEvOutDwIdeal.τ).loc Cert.RefEvOutDwIdeal.main_arg0) = m ((c.tc : Thread Cert.RefEvOutDwIdeal.nD Cert.RefEvOutDwIdeal.τ).loc Cert.RefEvOutDwIdeal.main_arg0)
      ∧ r.2.mem ((c.tc : Thread Cert.RefEvOutDwIdeal.nD Cert.RefEvOutDwIdeal.τ).loc Cert.RefEvOutDwIdeal.main_arg1) = m ((c.tc : Thread Cert.RefEvOutDwIdeal.nD Cert.RefEvOutDwIdeal.τ).loc Cert.RefEvOutDwIdeal.main_arg1))
      ∧ r.2.sem = fun _ => 0)

def quiescent_W1Fwd [hW1Fwd : Cert.W1Fwd.Facts] : Prop :=
  ∀ (m : (ℓ : Loc Cert.W1Fwd.nD Cert.W1Fwd.τ Cert.W1Fwd.sig) → Buf (Elt Bits) ℓ) (g : Dev Cert.W1Fwd.nD → PrngReg), Pre_W1Fwd m →
    θ_run (Cert.W1Fwd.defs (F := Bits)) (onTc (τ := Cert.W1Fwd.τ) (Cert.W1Fwd.main (F := Bits))) ⟨m, fun _ => 0, g⟩ (fun r => (∀ c : Dev Cert.W1Fwd.nD,
      r.2.mem ((c.tc : Thread Cert.W1Fwd.nD Cert.W1Fwd.τ).loc Cert.W1Fwd.main_arg0) = m ((c.tc : Thread Cert.W1Fwd.nD Cert.W1Fwd.τ).loc Cert.W1Fwd.main_arg0)
      ∧ r.2.mem ((c.tc : Thread Cert.W1Fwd.nD Cert.W1Fwd.τ).loc Cert.W1Fwd.main_arg1) = m ((c.tc : Thread Cert.W1Fwd.nD Cert.W1Fwd.τ).loc Cert.W1Fwd.main_arg1))
      ∧ r.2.sem = fun _ => 0)

def quiescent_W1FwdIdeal [hW1FwdIdeal : Cert.W1FwdIdeal.Facts] : Prop :=
  ∀ (m : (ℓ : Loc Cert.W1FwdIdeal.nD Cert.W1FwdIdeal.τ Cert.W1FwdIdeal.sig) → Buf (Elt Ideal) ℓ) (g : Dev Cert.W1FwdIdeal.nD → PrngReg), Pre_W1FwdIdeal m →
    θ_run (Cert.W1FwdIdeal.defs (F := Ideal)) (onTc (τ := Cert.W1FwdIdeal.τ) (Cert.W1FwdIdeal.main (F := Ideal))) ⟨m, fun _ => 0, g⟩ (fun r => (∀ c : Dev Cert.W1FwdIdeal.nD,
      r.2.mem ((c.tc : Thread Cert.W1FwdIdeal.nD Cert.W1FwdIdeal.τ).loc Cert.W1FwdIdeal.main_arg0) = m ((c.tc : Thread Cert.W1FwdIdeal.nD Cert.W1FwdIdeal.τ).loc Cert.W1FwdIdeal.main_arg0)
      ∧ r.2.mem ((c.tc : Thread Cert.W1FwdIdeal.nD Cert.W1FwdIdeal.τ).loc Cert.W1FwdIdeal.main_arg1) = m ((c.tc : Thread Cert.W1FwdIdeal.nD Cert.W1FwdIdeal.τ).loc Cert.W1FwdIdeal.main_arg1))
      ∧ r.2.sem = fun _ => 0)

def quiescent_RefW1FwdIdeal [hRefW1FwdIdeal : Cert.RefW1FwdIdeal.Facts] : Prop :=
  ∀ (m : (ℓ : Loc Cert.RefW1FwdIdeal.nD Cert.RefW1FwdIdeal.τ Cert.RefW1FwdIdeal.sig) → Buf (Elt Ideal) ℓ) (g : Dev Cert.RefW1FwdIdeal.nD → PrngReg), Pre_RefW1FwdIdeal m →
    θ_run (Cert.RefW1FwdIdeal.defs (F := Ideal)) (onTc (τ := Cert.RefW1FwdIdeal.τ) (Cert.RefW1FwdIdeal.main (F := Ideal))) ⟨m, fun _ => 0, g⟩ (fun r => (∀ c : Dev Cert.RefW1FwdIdeal.nD,
      r.2.mem ((c.tc : Thread Cert.RefW1FwdIdeal.nD Cert.RefW1FwdIdeal.τ).loc Cert.RefW1FwdIdeal.main_arg0) = m ((c.tc : Thread Cert.RefW1FwdIdeal.nD Cert.RefW1FwdIdeal.τ).loc Cert.RefW1FwdIdeal.main_arg0)
      ∧ r.2.mem ((c.tc : Thread Cert.RefW1FwdIdeal.nD Cert.RefW1FwdIdeal.τ).loc Cert.RefW1FwdIdeal.main_arg1) = m ((c.tc : Thread Cert.RefW1FwdIdeal.nD Cert.RefW1FwdIdeal.τ).loc Cert.RefW1FwdIdeal.main_arg1))
      ∧ r.2.sem = fun _ => 0)

def quiescent_W2NormFwd [hW2NormFwd : Cert.W2NormFwd.Facts] : Prop :=
  ∀ (m : (ℓ : Loc Cert.W2NormFwd.nD Cert.W2NormFwd.τ Cert.W2NormFwd.sig) → Buf (Elt Bits) ℓ) (g : Dev Cert.W2NormFwd.nD → PrngReg), Pre_W2NormFwd m →
    θ_run (Cert.W2NormFwd.defs (F := Bits)) (onTc (τ := Cert.W2NormFwd.τ) (Cert.W2NormFwd.main (F := Bits))) ⟨m, fun _ => 0, g⟩ (fun r => (∀ c : Dev Cert.W2NormFwd.nD,
      r.2.mem ((c.tc : Thread Cert.W2NormFwd.nD Cert.W2NormFwd.τ).loc Cert.W2NormFwd.main_arg0) = m ((c.tc : Thread Cert.W2NormFwd.nD Cert.W2NormFwd.τ).loc Cert.W2NormFwd.main_arg0)
      ∧ r.2.mem ((c.tc : Thread Cert.W2NormFwd.nD Cert.W2NormFwd.τ).loc Cert.W2NormFwd.main_arg1) = m ((c.tc : Thread Cert.W2NormFwd.nD Cert.W2NormFwd.τ).loc Cert.W2NormFwd.main_arg1)
      ∧ r.2.mem ((c.tc : Thread Cert.W2NormFwd.nD Cert.W2NormFwd.τ).loc Cert.W2NormFwd.main_arg2) = m ((c.tc : Thread Cert.W2NormFwd.nD Cert.W2NormFwd.τ).loc Cert.W2NormFwd.main_arg2)
      ∧ r.2.mem ((c.tc : Thread Cert.W2NormFwd.nD Cert.W2NormFwd.τ).loc Cert.W2NormFwd.main_arg3) = m ((c.tc : Thread Cert.W2NormFwd.nD Cert.W2NormFwd.τ).loc Cert.W2NormFwd.main_arg3)
      ∧ r.2.mem ((c.tc : Thread Cert.W2NormFwd.nD Cert.W2NormFwd.τ).loc Cert.W2NormFwd.main_arg4) = m ((c.tc : Thread Cert.W2NormFwd.nD Cert.W2NormFwd.τ).loc Cert.W2NormFwd.main_arg4))
      ∧ r.2.sem = fun _ => 0)

def quiescent_W2NormFwdIdeal [hW2NormFwdIdeal : Cert.W2NormFwdIdeal.Facts] : Prop :=
  ∀ (m : (ℓ : Loc Cert.W2NormFwdIdeal.nD Cert.W2NormFwdIdeal.τ Cert.W2NormFwdIdeal.sig) → Buf (Elt Ideal) ℓ) (g : Dev Cert.W2NormFwdIdeal.nD → PrngReg), Pre_W2NormFwdIdeal m →
    θ_run (Cert.W2NormFwdIdeal.defs (F := Ideal)) (onTc (τ := Cert.W2NormFwdIdeal.τ) (Cert.W2NormFwdIdeal.main (F := Ideal))) ⟨m, fun _ => 0, g⟩ (fun r => (∀ c : Dev Cert.W2NormFwdIdeal.nD,
      r.2.mem ((c.tc : Thread Cert.W2NormFwdIdeal.nD Cert.W2NormFwdIdeal.τ).loc Cert.W2NormFwdIdeal.main_arg0) = m ((c.tc : Thread Cert.W2NormFwdIdeal.nD Cert.W2NormFwdIdeal.τ).loc Cert.W2NormFwdIdeal.main_arg0)
      ∧ r.2.mem ((c.tc : Thread Cert.W2NormFwdIdeal.nD Cert.W2NormFwdIdeal.τ).loc Cert.W2NormFwdIdeal.main_arg1) = m ((c.tc : Thread Cert.W2NormFwdIdeal.nD Cert.W2NormFwdIdeal.τ).loc Cert.W2NormFwdIdeal.main_arg1)
      ∧ r.2.mem ((c.tc : Thread Cert.W2NormFwdIdeal.nD Cert.W2NormFwdIdeal.τ).loc Cert.W2NormFwdIdeal.main_arg2) = m ((c.tc : Thread Cert.W2NormFwdIdeal.nD Cert.W2NormFwdIdeal.τ).loc Cert.W2NormFwdIdeal.main_arg2)
      ∧ r.2.mem ((c.tc : Thread Cert.W2NormFwdIdeal.nD Cert.W2NormFwdIdeal.τ).loc Cert.W2NormFwdIdeal.main_arg3) = m ((c.tc : Thread Cert.W2NormFwdIdeal.nD Cert.W2NormFwdIdeal.τ).loc Cert.W2NormFwdIdeal.main_arg3)
      ∧ r.2.mem ((c.tc : Thread Cert.W2NormFwdIdeal.nD Cert.W2NormFwdIdeal.τ).loc Cert.W2NormFwdIdeal.main_arg4) = m ((c.tc : Thread Cert.W2NormFwdIdeal.nD Cert.W2NormFwdIdeal.τ).loc Cert.W2NormFwdIdeal.main_arg4))
      ∧ r.2.sem = fun _ => 0)

def quiescent_RefW2NormFwdIdeal [hRefW2NormFwdIdeal : Cert.RefW2NormFwdIdeal.Facts] : Prop :=
  ∀ (m : (ℓ : Loc Cert.RefW2NormFwdIdeal.nD Cert.RefW2NormFwdIdeal.τ Cert.RefW2NormFwdIdeal.sig) → Buf (Elt Ideal) ℓ) (g : Dev Cert.RefW2NormFwdIdeal.nD → PrngReg), Pre_RefW2NormFwdIdeal m →
    θ_run (Cert.RefW2NormFwdIdeal.defs (F := Ideal)) (onTc (τ := Cert.RefW2NormFwdIdeal.τ) (Cert.RefW2NormFwdIdeal.main (F := Ideal))) ⟨m, fun _ => 0, g⟩ (fun r => (∀ c : Dev Cert.RefW2NormFwdIdeal.nD,
      r.2.mem ((c.tc : Thread Cert.RefW2NormFwdIdeal.nD Cert.RefW2NormFwdIdeal.τ).loc Cert.RefW2NormFwdIdeal.main_arg0) = m ((c.tc : Thread Cert.RefW2NormFwdIdeal.nD Cert.RefW2NormFwdIdeal.τ).loc Cert.RefW2NormFwdIdeal.main_arg0)
      ∧ r.2.mem ((c.tc : Thread Cert.RefW2NormFwdIdeal.nD Cert.RefW2NormFwdIdeal.τ).loc Cert.RefW2NormFwdIdeal.main_arg1) = m ((c.tc : Thread Cert.RefW2NormFwdIdeal.nD Cert.RefW2NormFwdIdeal.τ).loc Cert.RefW2NormFwdIdeal.main_arg1)
      ∧ r.2.mem ((c.tc : Thread Cert.RefW2NormFwdIdeal.nD Cert.RefW2NormFwdIdeal.τ).loc Cert.RefW2NormFwdIdeal.main_arg2) = m ((c.tc : Thread Cert.RefW2NormFwdIdeal.nD Cert.RefW2NormFwdIdeal.τ).loc Cert.RefW2NormFwdIdeal.main_arg2)
      ∧ r.2.mem ((c.tc : Thread Cert.RefW2NormFwdIdeal.nD Cert.RefW2NormFwdIdeal.τ).loc Cert.RefW2NormFwdIdeal.main_arg3) = m ((c.tc : Thread Cert.RefW2NormFwdIdeal.nD Cert.RefW2NormFwdIdeal.τ).loc Cert.RefW2NormFwdIdeal.main_arg3)
      ∧ r.2.mem ((c.tc : Thread Cert.RefW2NormFwdIdeal.nD Cert.RefW2NormFwdIdeal.τ).loc Cert.RefW2NormFwdIdeal.main_arg4) = m ((c.tc : Thread Cert.RefW2NormFwdIdeal.nD Cert.RefW2NormFwdIdeal.τ).loc Cert.RefW2NormFwdIdeal.main_arg4))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1))
      ∧ r.2.sem = fun _ => 0)

def quiescent_RefInFwdIdeal [hRefInFwdIdeal : Cert.RefInFwdIdeal.Facts] : Prop :=
  ∀ (m : (ℓ : Loc Cert.RefInFwdIdeal.nD Cert.RefInFwdIdeal.τ Cert.RefInFwdIdeal.sig) → Buf (Elt Ideal) ℓ) (g : Dev Cert.RefInFwdIdeal.nD → PrngReg), Pre_RefInFwdIdeal m →
    θ_run (Cert.RefInFwdIdeal.defs (F := Ideal)) (onTc (τ := Cert.RefInFwdIdeal.τ) (Cert.RefInFwdIdeal.main (F := Ideal))) ⟨m, fun _ => 0, g⟩ (fun r => (∀ c : Dev Cert.RefInFwdIdeal.nD,
      r.2.mem ((c.tc : Thread Cert.RefInFwdIdeal.nD Cert.RefInFwdIdeal.τ).loc Cert.RefInFwdIdeal.main_arg0) = m ((c.tc : Thread Cert.RefInFwdIdeal.nD Cert.RefInFwdIdeal.τ).loc Cert.RefInFwdIdeal.main_arg0)
      ∧ r.2.mem ((c.tc : Thread Cert.RefInFwdIdeal.nD Cert.RefInFwdIdeal.τ).loc Cert.RefInFwdIdeal.main_arg1) = m ((c.tc : Thread Cert.RefInFwdIdeal.nD Cert.RefInFwdIdeal.τ).loc Cert.RefInFwdIdeal.main_arg1))
      ∧ r.2.sem = fun _ => 0)

def quiescent_OutNormFwd [hOutNormFwd : Cert.OutNormFwd.Facts] : Prop :=
  ∀ (m : (ℓ : Loc Cert.OutNormFwd.nD Cert.OutNormFwd.τ Cert.OutNormFwd.sig) → Buf (Elt Bits) ℓ) (g : Dev Cert.OutNormFwd.nD → PrngReg), Pre_OutNormFwd m →
    θ_run (Cert.OutNormFwd.defs (F := Bits)) (onTc (τ := Cert.OutNormFwd.τ) (Cert.OutNormFwd.main (F := Bits))) ⟨m, fun _ => 0, g⟩ (fun r => (∀ c : Dev Cert.OutNormFwd.nD,
      r.2.mem ((c.tc : Thread Cert.OutNormFwd.nD Cert.OutNormFwd.τ).loc Cert.OutNormFwd.main_arg0) = m ((c.tc : Thread Cert.OutNormFwd.nD Cert.OutNormFwd.τ).loc Cert.OutNormFwd.main_arg0)
      ∧ r.2.mem ((c.tc : Thread Cert.OutNormFwd.nD Cert.OutNormFwd.τ).loc Cert.OutNormFwd.main_arg1) = m ((c.tc : Thread Cert.OutNormFwd.nD Cert.OutNormFwd.τ).loc Cert.OutNormFwd.main_arg1)
      ∧ r.2.mem ((c.tc : Thread Cert.OutNormFwd.nD Cert.OutNormFwd.τ).loc Cert.OutNormFwd.main_arg2) = m ((c.tc : Thread Cert.OutNormFwd.nD Cert.OutNormFwd.τ).loc Cert.OutNormFwd.main_arg2)
      ∧ r.2.mem ((c.tc : Thread Cert.OutNormFwd.nD Cert.OutNormFwd.τ).loc Cert.OutNormFwd.main_arg3) = m ((c.tc : Thread Cert.OutNormFwd.nD Cert.OutNormFwd.τ).loc Cert.OutNormFwd.main_arg3)
      ∧ r.2.mem ((c.tc : Thread Cert.OutNormFwd.nD Cert.OutNormFwd.τ).loc Cert.OutNormFwd.main_arg4) = m ((c.tc : Thread Cert.OutNormFwd.nD Cert.OutNormFwd.τ).loc Cert.OutNormFwd.main_arg4))
      ∧ r.2.sem = fun _ => 0)

def quiescent_OutNormFwdIdeal [hOutNormFwdIdeal : Cert.OutNormFwdIdeal.Facts] : Prop :=
  ∀ (m : (ℓ : Loc Cert.OutNormFwdIdeal.nD Cert.OutNormFwdIdeal.τ Cert.OutNormFwdIdeal.sig) → Buf (Elt Ideal) ℓ) (g : Dev Cert.OutNormFwdIdeal.nD → PrngReg), Pre_OutNormFwdIdeal m →
    θ_run (Cert.OutNormFwdIdeal.defs (F := Ideal)) (onTc (τ := Cert.OutNormFwdIdeal.τ) (Cert.OutNormFwdIdeal.main (F := Ideal))) ⟨m, fun _ => 0, g⟩ (fun r => (∀ c : Dev Cert.OutNormFwdIdeal.nD,
      r.2.mem ((c.tc : Thread Cert.OutNormFwdIdeal.nD Cert.OutNormFwdIdeal.τ).loc Cert.OutNormFwdIdeal.main_arg0) = m ((c.tc : Thread Cert.OutNormFwdIdeal.nD Cert.OutNormFwdIdeal.τ).loc Cert.OutNormFwdIdeal.main_arg0)
      ∧ r.2.mem ((c.tc : Thread Cert.OutNormFwdIdeal.nD Cert.OutNormFwdIdeal.τ).loc Cert.OutNormFwdIdeal.main_arg1) = m ((c.tc : Thread Cert.OutNormFwdIdeal.nD Cert.OutNormFwdIdeal.τ).loc Cert.OutNormFwdIdeal.main_arg1)
      ∧ r.2.mem ((c.tc : Thread Cert.OutNormFwdIdeal.nD Cert.OutNormFwdIdeal.τ).loc Cert.OutNormFwdIdeal.main_arg2) = m ((c.tc : Thread Cert.OutNormFwdIdeal.nD Cert.OutNormFwdIdeal.τ).loc Cert.OutNormFwdIdeal.main_arg2)
      ∧ r.2.mem ((c.tc : Thread Cert.OutNormFwdIdeal.nD Cert.OutNormFwdIdeal.τ).loc Cert.OutNormFwdIdeal.main_arg3) = m ((c.tc : Thread Cert.OutNormFwdIdeal.nD Cert.OutNormFwdIdeal.τ).loc Cert.OutNormFwdIdeal.main_arg3)
      ∧ r.2.mem ((c.tc : Thread Cert.OutNormFwdIdeal.nD Cert.OutNormFwdIdeal.τ).loc Cert.OutNormFwdIdeal.main_arg4) = m ((c.tc : Thread Cert.OutNormFwdIdeal.nD Cert.OutNormFwdIdeal.τ).loc Cert.OutNormFwdIdeal.main_arg4))
      ∧ r.2.sem = fun _ => 0)

def quiescent_RefOutNormFwdIdeal [hRefOutNormFwdIdeal : Cert.RefOutNormFwdIdeal.Facts] : Prop :=
  ∀ (m : (ℓ : Loc Cert.RefOutNormFwdIdeal.nD Cert.RefOutNormFwdIdeal.τ Cert.RefOutNormFwdIdeal.sig) → Buf (Elt Ideal) ℓ) (g : Dev Cert.RefOutNormFwdIdeal.nD → PrngReg), Pre_RefOutNormFwdIdeal m →
    θ_run (Cert.RefOutNormFwdIdeal.defs (F := Ideal)) (onTc (τ := Cert.RefOutNormFwdIdeal.τ) (Cert.RefOutNormFwdIdeal.main (F := Ideal))) ⟨m, fun _ => 0, g⟩ (fun r => (∀ c : Dev Cert.RefOutNormFwdIdeal.nD,
      r.2.mem ((c.tc : Thread Cert.RefOutNormFwdIdeal.nD Cert.RefOutNormFwdIdeal.τ).loc Cert.RefOutNormFwdIdeal.main_arg0) = m ((c.tc : Thread Cert.RefOutNormFwdIdeal.nD Cert.RefOutNormFwdIdeal.τ).loc Cert.RefOutNormFwdIdeal.main_arg0)
      ∧ r.2.mem ((c.tc : Thread Cert.RefOutNormFwdIdeal.nD Cert.RefOutNormFwdIdeal.τ).loc Cert.RefOutNormFwdIdeal.main_arg1) = m ((c.tc : Thread Cert.RefOutNormFwdIdeal.nD Cert.RefOutNormFwdIdeal.τ).loc Cert.RefOutNormFwdIdeal.main_arg1)
      ∧ r.2.mem ((c.tc : Thread Cert.RefOutNormFwdIdeal.nD Cert.RefOutNormFwdIdeal.τ).loc Cert.RefOutNormFwdIdeal.main_arg2) = m ((c.tc : Thread Cert.RefOutNormFwdIdeal.nD Cert.RefOutNormFwdIdeal.τ).loc Cert.RefOutNormFwdIdeal.main_arg2)
      ∧ r.2.mem ((c.tc : Thread Cert.RefOutNormFwdIdeal.nD Cert.RefOutNormFwdIdeal.τ).loc Cert.RefOutNormFwdIdeal.main_arg3) = m ((c.tc : Thread Cert.RefOutNormFwdIdeal.nD Cert.RefOutNormFwdIdeal.τ).loc Cert.RefOutNormFwdIdeal.main_arg3)
      ∧ r.2.mem ((c.tc : Thread Cert.RefOutNormFwdIdeal.nD Cert.RefOutNormFwdIdeal.τ).loc Cert.RefOutNormFwdIdeal.main_arg4) = m ((c.tc : Thread Cert.RefOutNormFwdIdeal.nD Cert.RefOutNormFwdIdeal.τ).loc Cert.RefOutNormFwdIdeal.main_arg4))
      ∧ r.2.sem = fun _ => 0)

def quiescent_EvInFwd [hEvInFwd : Cert.EvInFwd.Facts] : Prop :=
  ∀ (m : (ℓ : Loc Cert.EvInFwd.nD Cert.EvInFwd.τ Cert.EvInFwd.sig) → Buf (Elt Bits) ℓ) (g : Dev Cert.EvInFwd.nD → PrngReg), Pre_EvInFwd m →
    θ_run (Cert.EvInFwd.defs (F := Bits)) (onTc (τ := Cert.EvInFwd.τ) (Cert.EvInFwd.main (F := Bits))) ⟨m, fun _ => 0, g⟩ (fun r => (∀ c : Dev Cert.EvInFwd.nD,
      r.2.mem ((c.tc : Thread Cert.EvInFwd.nD Cert.EvInFwd.τ).loc Cert.EvInFwd.main_arg0) = m ((c.tc : Thread Cert.EvInFwd.nD Cert.EvInFwd.τ).loc Cert.EvInFwd.main_arg0)
      ∧ r.2.mem ((c.tc : Thread Cert.EvInFwd.nD Cert.EvInFwd.τ).loc Cert.EvInFwd.main_arg1) = m ((c.tc : Thread Cert.EvInFwd.nD Cert.EvInFwd.τ).loc Cert.EvInFwd.main_arg1))
      ∧ r.2.sem = fun _ => 0)

def quiescent_EvInFwdIdeal [hEvInFwdIdeal : Cert.EvInFwdIdeal.Facts] : Prop :=
  ∀ (m : (ℓ : Loc Cert.EvInFwdIdeal.nD Cert.EvInFwdIdeal.τ Cert.EvInFwdIdeal.sig) → Buf (Elt Ideal) ℓ) (g : Dev Cert.EvInFwdIdeal.nD → PrngReg), Pre_EvInFwdIdeal m →
    θ_run (Cert.EvInFwdIdeal.defs (F := Ideal)) (onTc (τ := Cert.EvInFwdIdeal.τ) (Cert.EvInFwdIdeal.main (F := Ideal))) ⟨m, fun _ => 0, g⟩ (fun r => (∀ c : Dev Cert.EvInFwdIdeal.nD,
      r.2.mem ((c.tc : Thread Cert.EvInFwdIdeal.nD Cert.EvInFwdIdeal.τ).loc Cert.EvInFwdIdeal.main_arg0) = m ((c.tc : Thread Cert.EvInFwdIdeal.nD Cert.EvInFwdIdeal.τ).loc Cert.EvInFwdIdeal.main_arg0)
      ∧ r.2.mem ((c.tc : Thread Cert.EvInFwdIdeal.nD Cert.EvInFwdIdeal.τ).loc Cert.EvInFwdIdeal.main_arg1) = m ((c.tc : Thread Cert.EvInFwdIdeal.nD Cert.EvInFwdIdeal.τ).loc Cert.EvInFwdIdeal.main_arg1))
      ∧ r.2.sem = fun _ => 0)

def quiescent_RefEvInFwdIdeal [hRefEvInFwdIdeal : Cert.RefEvInFwdIdeal.Facts] : Prop :=
  ∀ (m : (ℓ : Loc Cert.RefEvInFwdIdeal.nD Cert.RefEvInFwdIdeal.τ Cert.RefEvInFwdIdeal.sig) → Buf (Elt Ideal) ℓ) (g : Dev Cert.RefEvInFwdIdeal.nD → PrngReg), Pre_RefEvInFwdIdeal m →
    θ_run (Cert.RefEvInFwdIdeal.defs (F := Ideal)) (onTc (τ := Cert.RefEvInFwdIdeal.τ) (Cert.RefEvInFwdIdeal.main (F := Ideal))) ⟨m, fun _ => 0, g⟩ (fun r => (∀ c : Dev Cert.RefEvInFwdIdeal.nD,
      r.2.mem ((c.tc : Thread Cert.RefEvInFwdIdeal.nD Cert.RefEvInFwdIdeal.τ).loc Cert.RefEvInFwdIdeal.main_arg0) = m ((c.tc : Thread Cert.RefEvInFwdIdeal.nD Cert.RefEvInFwdIdeal.τ).loc Cert.RefEvInFwdIdeal.main_arg0)
      ∧ r.2.mem ((c.tc : Thread Cert.RefEvInFwdIdeal.nD Cert.RefEvInFwdIdeal.τ).loc Cert.RefEvInFwdIdeal.main_arg1) = m ((c.tc : Thread Cert.RefEvInFwdIdeal.nD Cert.RefEvInFwdIdeal.τ).loc Cert.RefEvInFwdIdeal.main_arg1))
      ∧ r.2.sem = fun _ => 0)

def quiescent_UqFwd [hUqFwd : Cert.UqFwd.Facts] : Prop :=
  ∀ (m : (ℓ : Loc Cert.UqFwd.nD Cert.UqFwd.τ Cert.UqFwd.sig) → Buf (Elt Bits) ℓ) (g : Dev Cert.UqFwd.nD → PrngReg), Pre_UqFwd m →
    θ_run (Cert.UqFwd.defs (F := Bits)) (onTc (τ := Cert.UqFwd.τ) (Cert.UqFwd.main (F := Bits))) ⟨m, fun _ => 0, g⟩ (fun r => (∀ c : Dev Cert.UqFwd.nD,
      r.2.mem ((c.tc : Thread Cert.UqFwd.nD Cert.UqFwd.τ).loc Cert.UqFwd.main_arg0) = m ((c.tc : Thread Cert.UqFwd.nD Cert.UqFwd.τ).loc Cert.UqFwd.main_arg0)
      ∧ r.2.mem ((c.tc : Thread Cert.UqFwd.nD Cert.UqFwd.τ).loc Cert.UqFwd.main_arg1) = m ((c.tc : Thread Cert.UqFwd.nD Cert.UqFwd.τ).loc Cert.UqFwd.main_arg1))
      ∧ r.2.sem = fun _ => 0)

def quiescent_UqFwdIdeal [hUqFwdIdeal : Cert.UqFwdIdeal.Facts] : Prop :=
  ∀ (m : (ℓ : Loc Cert.UqFwdIdeal.nD Cert.UqFwdIdeal.τ Cert.UqFwdIdeal.sig) → Buf (Elt Ideal) ℓ) (g : Dev Cert.UqFwdIdeal.nD → PrngReg), Pre_UqFwdIdeal m →
    θ_run (Cert.UqFwdIdeal.defs (F := Ideal)) (onTc (τ := Cert.UqFwdIdeal.τ) (Cert.UqFwdIdeal.main (F := Ideal))) ⟨m, fun _ => 0, g⟩ (fun r => (∀ c : Dev Cert.UqFwdIdeal.nD,
      r.2.mem ((c.tc : Thread Cert.UqFwdIdeal.nD Cert.UqFwdIdeal.τ).loc Cert.UqFwdIdeal.main_arg0) = m ((c.tc : Thread Cert.UqFwdIdeal.nD Cert.UqFwdIdeal.τ).loc Cert.UqFwdIdeal.main_arg0)
      ∧ r.2.mem ((c.tc : Thread Cert.UqFwdIdeal.nD Cert.UqFwdIdeal.τ).loc Cert.UqFwdIdeal.main_arg1) = m ((c.tc : Thread Cert.UqFwdIdeal.nD Cert.UqFwdIdeal.τ).loc Cert.UqFwdIdeal.main_arg1))
      ∧ r.2.sem = fun _ => 0)

def quiescent_RefUqFwdIdeal [hRefUqFwdIdeal : Cert.RefUqFwdIdeal.Facts] : Prop :=
  ∀ (m : (ℓ : Loc Cert.RefUqFwdIdeal.nD Cert.RefUqFwdIdeal.τ Cert.RefUqFwdIdeal.sig) → Buf (Elt Ideal) ℓ) (g : Dev Cert.RefUqFwdIdeal.nD → PrngReg), Pre_RefUqFwdIdeal m →
    θ_run (Cert.RefUqFwdIdeal.defs (F := Ideal)) (onTc (τ := Cert.RefUqFwdIdeal.τ) (Cert.RefUqFwdIdeal.main (F := Ideal))) ⟨m, fun _ => 0, g⟩ (fun r => (∀ c : Dev Cert.RefUqFwdIdeal.nD,
      r.2.mem ((c.tc : Thread Cert.RefUqFwdIdeal.nD Cert.RefUqFwdIdeal.τ).loc Cert.RefUqFwdIdeal.main_arg0) = m ((c.tc : Thread Cert.RefUqFwdIdeal.nD Cert.RefUqFwdIdeal.τ).loc Cert.RefUqFwdIdeal.main_arg0)
      ∧ r.2.mem ((c.tc : Thread Cert.RefUqFwdIdeal.nD Cert.RefUqFwdIdeal.τ).loc Cert.RefUqFwdIdeal.main_arg1) = m ((c.tc : Thread Cert.RefUqFwdIdeal.nD Cert.RefUqFwdIdeal.τ).loc Cert.RefUqFwdIdeal.main_arg1))
      ∧ r.2.sem = fun _ => 0)

def quiescent_UkvFwd [hUkvFwd : Cert.UkvFwd.Facts] : Prop :=
  ∀ (m : (ℓ : Loc Cert.UkvFwd.nD Cert.UkvFwd.τ Cert.UkvFwd.sig) → Buf (Elt Bits) ℓ) (g : Dev Cert.UkvFwd.nD → PrngReg), Pre_UkvFwd m →
    θ_run (Cert.UkvFwd.defs (F := Bits)) (onTc (τ := Cert.UkvFwd.τ) (Cert.UkvFwd.main (F := Bits))) ⟨m, fun _ => 0, g⟩ (fun r => (∀ c : Dev Cert.UkvFwd.nD,
      r.2.mem ((c.tc : Thread Cert.UkvFwd.nD Cert.UkvFwd.τ).loc Cert.UkvFwd.main_arg0) = m ((c.tc : Thread Cert.UkvFwd.nD Cert.UkvFwd.τ).loc Cert.UkvFwd.main_arg0)
      ∧ r.2.mem ((c.tc : Thread Cert.UkvFwd.nD Cert.UkvFwd.τ).loc Cert.UkvFwd.main_arg1) = m ((c.tc : Thread Cert.UkvFwd.nD Cert.UkvFwd.τ).loc Cert.UkvFwd.main_arg1))
      ∧ r.2.sem = fun _ => 0)

def quiescent_UkvFwdIdeal [hUkvFwdIdeal : Cert.UkvFwdIdeal.Facts] : Prop :=
  ∀ (m : (ℓ : Loc Cert.UkvFwdIdeal.nD Cert.UkvFwdIdeal.τ Cert.UkvFwdIdeal.sig) → Buf (Elt Ideal) ℓ) (g : Dev Cert.UkvFwdIdeal.nD → PrngReg), Pre_UkvFwdIdeal m →
    θ_run (Cert.UkvFwdIdeal.defs (F := Ideal)) (onTc (τ := Cert.UkvFwdIdeal.τ) (Cert.UkvFwdIdeal.main (F := Ideal))) ⟨m, fun _ => 0, g⟩ (fun r => (∀ c : Dev Cert.UkvFwdIdeal.nD,
      r.2.mem ((c.tc : Thread Cert.UkvFwdIdeal.nD Cert.UkvFwdIdeal.τ).loc Cert.UkvFwdIdeal.main_arg0) = m ((c.tc : Thread Cert.UkvFwdIdeal.nD Cert.UkvFwdIdeal.τ).loc Cert.UkvFwdIdeal.main_arg0)
      ∧ r.2.mem ((c.tc : Thread Cert.UkvFwdIdeal.nD Cert.UkvFwdIdeal.τ).loc Cert.UkvFwdIdeal.main_arg1) = m ((c.tc : Thread Cert.UkvFwdIdeal.nD Cert.UkvFwdIdeal.τ).loc Cert.UkvFwdIdeal.main_arg1))
      ∧ r.2.sem = fun _ => 0)

def quiescent_RefUkvFwdIdeal [hRefUkvFwdIdeal : Cert.RefUkvFwdIdeal.Facts] : Prop :=
  ∀ (m : (ℓ : Loc Cert.RefUkvFwdIdeal.nD Cert.RefUkvFwdIdeal.τ Cert.RefUkvFwdIdeal.sig) → Buf (Elt Ideal) ℓ) (g : Dev Cert.RefUkvFwdIdeal.nD → PrngReg), Pre_RefUkvFwdIdeal m →
    θ_run (Cert.RefUkvFwdIdeal.defs (F := Ideal)) (onTc (τ := Cert.RefUkvFwdIdeal.τ) (Cert.RefUkvFwdIdeal.main (F := Ideal))) ⟨m, fun _ => 0, g⟩ (fun r => (∀ c : Dev Cert.RefUkvFwdIdeal.nD,
      r.2.mem ((c.tc : Thread Cert.RefUkvFwdIdeal.nD Cert.RefUkvFwdIdeal.τ).loc Cert.RefUkvFwdIdeal.main_arg0) = m ((c.tc : Thread Cert.RefUkvFwdIdeal.nD Cert.RefUkvFwdIdeal.τ).loc Cert.RefUkvFwdIdeal.main_arg0)
      ∧ r.2.mem ((c.tc : Thread Cert.RefUkvFwdIdeal.nD Cert.RefUkvFwdIdeal.τ).loc Cert.RefUkvFwdIdeal.main_arg1) = m ((c.tc : Thread Cert.RefUkvFwdIdeal.nD Cert.RefUkvFwdIdeal.τ).loc Cert.RefUkvFwdIdeal.main_arg1))
      ∧ r.2.sem = fun _ => 0)

def quiescent_EvOutNormFwd [hEvOutNormFwd : Cert.EvOutNormFwd.Facts] : Prop :=
  ∀ (m : (ℓ : Loc Cert.EvOutNormFwd.nD Cert.EvOutNormFwd.τ Cert.EvOutNormFwd.sig) → Buf (Elt Bits) ℓ) (g : Dev Cert.EvOutNormFwd.nD → PrngReg), Pre_EvOutNormFwd m →
    θ_run (Cert.EvOutNormFwd.defs (F := Bits)) (onTc (τ := Cert.EvOutNormFwd.τ) (Cert.EvOutNormFwd.main (F := Bits))) ⟨m, fun _ => 0, g⟩ (fun r => (∀ c : Dev Cert.EvOutNormFwd.nD,
      r.2.mem ((c.tc : Thread Cert.EvOutNormFwd.nD Cert.EvOutNormFwd.τ).loc Cert.EvOutNormFwd.main_arg0) = m ((c.tc : Thread Cert.EvOutNormFwd.nD Cert.EvOutNormFwd.τ).loc Cert.EvOutNormFwd.main_arg0)
      ∧ r.2.mem ((c.tc : Thread Cert.EvOutNormFwd.nD Cert.EvOutNormFwd.τ).loc Cert.EvOutNormFwd.main_arg1) = m ((c.tc : Thread Cert.EvOutNormFwd.nD Cert.EvOutNormFwd.τ).loc Cert.EvOutNormFwd.main_arg1)
      ∧ r.2.mem ((c.tc : Thread Cert.EvOutNormFwd.nD Cert.EvOutNormFwd.τ).loc Cert.EvOutNormFwd.main_arg2) = m ((c.tc : Thread Cert.EvOutNormFwd.nD Cert.EvOutNormFwd.τ).loc Cert.EvOutNormFwd.main_arg2)
      ∧ r.2.mem ((c.tc : Thread Cert.EvOutNormFwd.nD Cert.EvOutNormFwd.τ).loc Cert.EvOutNormFwd.main_arg3) = m ((c.tc : Thread Cert.EvOutNormFwd.nD Cert.EvOutNormFwd.τ).loc Cert.EvOutNormFwd.main_arg3)
      ∧ r.2.mem ((c.tc : Thread Cert.EvOutNormFwd.nD Cert.EvOutNormFwd.τ).loc Cert.EvOutNormFwd.main_arg4) = m ((c.tc : Thread Cert.EvOutNormFwd.nD Cert.EvOutNormFwd.τ).loc Cert.EvOutNormFwd.main_arg4))
      ∧ r.2.sem = fun _ => 0)

def quiescent_EvOutNormFwdIdeal [hEvOutNormFwdIdeal : Cert.EvOutNormFwdIdeal.Facts] : Prop :=
  ∀ (m : (ℓ : Loc Cert.EvOutNormFwdIdeal.nD Cert.EvOutNormFwdIdeal.τ Cert.EvOutNormFwdIdeal.sig) → Buf (Elt Ideal) ℓ) (g : Dev Cert.EvOutNormFwdIdeal.nD → PrngReg), Pre_EvOutNormFwdIdeal m →
    θ_run (Cert.EvOutNormFwdIdeal.defs (F := Ideal)) (onTc (τ := Cert.EvOutNormFwdIdeal.τ) (Cert.EvOutNormFwdIdeal.main (F := Ideal))) ⟨m, fun _ => 0, g⟩ (fun r => (∀ c : Dev Cert.EvOutNormFwdIdeal.nD,
      r.2.mem ((c.tc : Thread Cert.EvOutNormFwdIdeal.nD Cert.EvOutNormFwdIdeal.τ).loc Cert.EvOutNormFwdIdeal.main_arg0) = m ((c.tc : Thread Cert.EvOutNormFwdIdeal.nD Cert.EvOutNormFwdIdeal.τ).loc Cert.EvOutNormFwdIdeal.main_arg0)
      ∧ r.2.mem ((c.tc : Thread Cert.EvOutNormFwdIdeal.nD Cert.EvOutNormFwdIdeal.τ).loc Cert.EvOutNormFwdIdeal.main_arg1) = m ((c.tc : Thread Cert.EvOutNormFwdIdeal.nD Cert.EvOutNormFwdIdeal.τ).loc Cert.EvOutNormFwdIdeal.main_arg1)
      ∧ r.2.mem ((c.tc : Thread Cert.EvOutNormFwdIdeal.nD Cert.EvOutNormFwdIdeal.τ).loc Cert.EvOutNormFwdIdeal.main_arg2) = m ((c.tc : Thread Cert.EvOutNormFwdIdeal.nD Cert.EvOutNormFwdIdeal.τ).loc Cert.EvOutNormFwdIdeal.main_arg2)
      ∧ r.2.mem ((c.tc : Thread Cert.EvOutNormFwdIdeal.nD Cert.EvOutNormFwdIdeal.τ).loc Cert.EvOutNormFwdIdeal.main_arg3) = m ((c.tc : Thread Cert.EvOutNormFwdIdeal.nD Cert.EvOutNormFwdIdeal.τ).loc Cert.EvOutNormFwdIdeal.main_arg3)
      ∧ r.2.mem ((c.tc : Thread Cert.EvOutNormFwdIdeal.nD Cert.EvOutNormFwdIdeal.τ).loc Cert.EvOutNormFwdIdeal.main_arg4) = m ((c.tc : Thread Cert.EvOutNormFwdIdeal.nD Cert.EvOutNormFwdIdeal.τ).loc Cert.EvOutNormFwdIdeal.main_arg4))
      ∧ r.2.sem = fun _ => 0)

def quiescent_RefEvOutNormFwdIdeal [hRefEvOutNormFwdIdeal : Cert.RefEvOutNormFwdIdeal.Facts] : Prop :=
  ∀ (m : (ℓ : Loc Cert.RefEvOutNormFwdIdeal.nD Cert.RefEvOutNormFwdIdeal.τ Cert.RefEvOutNormFwdIdeal.sig) → Buf (Elt Ideal) ℓ) (g : Dev Cert.RefEvOutNormFwdIdeal.nD → PrngReg), Pre_RefEvOutNormFwdIdeal m →
    θ_run (Cert.RefEvOutNormFwdIdeal.defs (F := Ideal)) (onTc (τ := Cert.RefEvOutNormFwdIdeal.τ) (Cert.RefEvOutNormFwdIdeal.main (F := Ideal))) ⟨m, fun _ => 0, g⟩ (fun r => (∀ c : Dev Cert.RefEvOutNormFwdIdeal.nD,
      r.2.mem ((c.tc : Thread Cert.RefEvOutNormFwdIdeal.nD Cert.RefEvOutNormFwdIdeal.τ).loc Cert.RefEvOutNormFwdIdeal.main_arg0) = m ((c.tc : Thread Cert.RefEvOutNormFwdIdeal.nD Cert.RefEvOutNormFwdIdeal.τ).loc Cert.RefEvOutNormFwdIdeal.main_arg0)
      ∧ r.2.mem ((c.tc : Thread Cert.RefEvOutNormFwdIdeal.nD Cert.RefEvOutNormFwdIdeal.τ).loc Cert.RefEvOutNormFwdIdeal.main_arg1) = m ((c.tc : Thread Cert.RefEvOutNormFwdIdeal.nD Cert.RefEvOutNormFwdIdeal.τ).loc Cert.RefEvOutNormFwdIdeal.main_arg1)
      ∧ r.2.mem ((c.tc : Thread Cert.RefEvOutNormFwdIdeal.nD Cert.RefEvOutNormFwdIdeal.τ).loc Cert.RefEvOutNormFwdIdeal.main_arg2) = m ((c.tc : Thread Cert.RefEvOutNormFwdIdeal.nD Cert.RefEvOutNormFwdIdeal.τ).loc Cert.RefEvOutNormFwdIdeal.main_arg2)
      ∧ r.2.mem ((c.tc : Thread Cert.RefEvOutNormFwdIdeal.nD Cert.RefEvOutNormFwdIdeal.τ).loc Cert.RefEvOutNormFwdIdeal.main_arg3) = m ((c.tc : Thread Cert.RefEvOutNormFwdIdeal.nD Cert.RefEvOutNormFwdIdeal.τ).loc Cert.RefEvOutNormFwdIdeal.main_arg3)
      ∧ r.2.mem ((c.tc : Thread Cert.RefEvOutNormFwdIdeal.nD Cert.RefEvOutNormFwdIdeal.τ).loc Cert.RefEvOutNormFwdIdeal.main_arg4) = m ((c.tc : Thread Cert.RefEvOutNormFwdIdeal.nD Cert.RefEvOutNormFwdIdeal.τ).loc Cert.RefEvOutNormFwdIdeal.main_arg4))
      ∧ r.2.sem = fun _ => 0)

def quiescent_GateFwd [hGateFwd : Cert.GateFwd.Facts] : Prop :=
  ∀ (m : (ℓ : Loc Cert.GateFwd.nD Cert.GateFwd.τ Cert.GateFwd.sig) → Buf (Elt Bits) ℓ) (g : Dev Cert.GateFwd.nD → PrngReg), Pre_GateFwd m →
    θ_run (Cert.GateFwd.defs (F := Bits)) (onTc (τ := Cert.GateFwd.τ) (Cert.GateFwd.main (F := Bits))) ⟨m, fun _ => 0, g⟩ (fun r => (∀ c : Dev Cert.GateFwd.nD,
      r.2.mem ((c.tc : Thread Cert.GateFwd.nD Cert.GateFwd.τ).loc Cert.GateFwd.main_arg0) = m ((c.tc : Thread Cert.GateFwd.nD Cert.GateFwd.τ).loc Cert.GateFwd.main_arg0)
      ∧ r.2.mem ((c.tc : Thread Cert.GateFwd.nD Cert.GateFwd.τ).loc Cert.GateFwd.main_arg1) = m ((c.tc : Thread Cert.GateFwd.nD Cert.GateFwd.τ).loc Cert.GateFwd.main_arg1))
      ∧ r.2.sem = fun _ => 0)

def quiescent_GateFwdIdeal [hGateFwdIdeal : Cert.GateFwdIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg), Pre_GateFwdIdeal m →
    θ_run (Cert.GateFwdIdeal.defs (F := Ideal)) (onTc (τ := Cert.GateFwdIdeal.τ) (Cert.GateFwdIdeal.main (F := Ideal))) ⟨m, fun _ => 0, g⟩ (fun r => (∀ c : Dev Cert.GateFwdIdeal.nD,
      r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
      ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1))
      ∧ r.2.sem = fun _ => 0)

def quiescent_RefGateFwdIdeal [hRefGateFwdIdeal : Cert.RefGateFwdIdeal.Facts] : Prop :=
  ∀ (m : (ℓ : Loc Cert.RefGateFwdIdeal.nD Cert.RefGateFwdIdeal.τ Cert.RefGateFwdIdeal.sig) → Buf (Elt Ideal) ℓ) (g : Dev Cert.RefGateFwdIdeal.nD → PrngReg), Pre_RefGateFwdIdeal m →
    θ_run (Cert.RefGateFwdIdeal.defs (F := Ideal)) (onTc (τ := Cert.RefGateFwdIdeal.τ) (Cert.RefGateFwdIdeal.main (F := Ideal))) ⟨m, fun _ => 0, g⟩ (fun r => (∀ c : Dev Cert.RefGateFwdIdeal.nD,
      r.2.mem ((c.tc : Thread Cert.RefGateFwdIdeal.nD Cert.RefGateFwdIdeal.τ).loc Cert.RefGateFwdIdeal.main_arg0) = m ((c.tc : Thread Cert.RefGateFwdIdeal.nD Cert.RefGateFwdIdeal.τ).loc Cert.RefGateFwdIdeal.main_arg0)
      ∧ r.2.mem ((c.tc : Thread Cert.RefGateFwdIdeal.nD Cert.RefGateFwdIdeal.τ).loc Cert.RefGateFwdIdeal.main_arg1) = m ((c.tc : Thread Cert.RefGateFwdIdeal.nD Cert.RefGateFwdIdeal.τ).loc Cert.RefGateFwdIdeal.main_arg1))
      ∧ r.2.sem = fun _ => 0)

def quiescent_QNormFwd [hQNormFwd : Cert.QNormFwd.Facts] : Prop :=
  ∀ (m : (ℓ : Loc Cert.QNormFwd.nD Cert.QNormFwd.τ Cert.QNormFwd.sig) → Buf (Elt Bits) ℓ) (g : Dev Cert.QNormFwd.nD → PrngReg), Pre_QNormFwd m →
    θ_run (Cert.QNormFwd.defs (F := Bits)) (onTc (τ := Cert.QNormFwd.τ) (Cert.QNormFwd.main (F := Bits))) ⟨m, fun _ => 0, g⟩ (fun r => (∀ c : Dev Cert.QNormFwd.nD,
      r.2.mem ((c.tc : Thread Cert.QNormFwd.nD Cert.QNormFwd.τ).loc Cert.QNormFwd.main_arg0) = m ((c.tc : Thread Cert.QNormFwd.nD Cert.QNormFwd.τ).loc Cert.QNormFwd.main_arg0)
      ∧ r.2.mem ((c.tc : Thread Cert.QNormFwd.nD Cert.QNormFwd.τ).loc Cert.QNormFwd.main_arg1) = m ((c.tc : Thread Cert.QNormFwd.nD Cert.QNormFwd.τ).loc Cert.QNormFwd.main_arg1))
      ∧ r.2.sem = fun _ => 0)

def quiescent_QNormFwdIdeal [hQNormFwdIdeal : Cert.QNormFwdIdeal.Facts] : Prop :=
  ∀ (m : (ℓ : Loc Cert.QNormFwdIdeal.nD Cert.QNormFwdIdeal.τ Cert.QNormFwdIdeal.sig) → Buf (Elt Ideal) ℓ) (g : Dev Cert.QNormFwdIdeal.nD → PrngReg), Pre_QNormFwdIdeal m →
    θ_run (Cert.QNormFwdIdeal.defs (F := Ideal)) (onTc (τ := Cert.QNormFwdIdeal.τ) (Cert.QNormFwdIdeal.main (F := Ideal))) ⟨m, fun _ => 0, g⟩ (fun r => (∀ c : Dev Cert.QNormFwdIdeal.nD,
      r.2.mem ((c.tc : Thread Cert.QNormFwdIdeal.nD Cert.QNormFwdIdeal.τ).loc Cert.QNormFwdIdeal.main_arg0) = m ((c.tc : Thread Cert.QNormFwdIdeal.nD Cert.QNormFwdIdeal.τ).loc Cert.QNormFwdIdeal.main_arg0)
      ∧ r.2.mem ((c.tc : Thread Cert.QNormFwdIdeal.nD Cert.QNormFwdIdeal.τ).loc Cert.QNormFwdIdeal.main_arg1) = m ((c.tc : Thread Cert.QNormFwdIdeal.nD Cert.QNormFwdIdeal.τ).loc Cert.QNormFwdIdeal.main_arg1))
      ∧ r.2.sem = fun _ => 0)

def quiescent_RefQNormFwdIdeal [hRefQNormFwdIdeal : Cert.RefQNormFwdIdeal.Facts] : Prop :=
  ∀ (m : (ℓ : Loc Cert.RefQNormFwdIdeal.nD Cert.RefQNormFwdIdeal.τ Cert.RefQNormFwdIdeal.sig) → Buf (Elt Ideal) ℓ) (g : Dev Cert.RefQNormFwdIdeal.nD → PrngReg), Pre_RefQNormFwdIdeal m →
    θ_run (Cert.RefQNormFwdIdeal.defs (F := Ideal)) (onTc (τ := Cert.RefQNormFwdIdeal.τ) (Cert.RefQNormFwdIdeal.main (F := Ideal))) ⟨m, fun _ => 0, g⟩ (fun r => (∀ c : Dev Cert.RefQNormFwdIdeal.nD,
      r.2.mem ((c.tc : Thread Cert.RefQNormFwdIdeal.nD Cert.RefQNormFwdIdeal.τ).loc Cert.RefQNormFwdIdeal.main_arg0) = m ((c.tc : Thread Cert.RefQNormFwdIdeal.nD Cert.RefQNormFwdIdeal.τ).loc Cert.RefQNormFwdIdeal.main_arg0)
      ∧ r.2.mem ((c.tc : Thread Cert.RefQNormFwdIdeal.nD Cert.RefQNormFwdIdeal.τ).loc Cert.RefQNormFwdIdeal.main_arg1) = m ((c.tc : Thread Cert.RefQNormFwdIdeal.nD Cert.RefQNormFwdIdeal.τ).loc Cert.RefQNormFwdIdeal.main_arg1))
      ∧ r.2.sem = fun _ => 0)

def quiescent_KvNormFwd [hKvNormFwd : Cert.KvNormFwd.Facts] : Prop :=
  ∀ (m : (ℓ : Loc Cert.KvNormFwd.nD Cert.KvNormFwd.τ Cert.KvNormFwd.sig) → Buf (Elt Bits) ℓ) (g : Dev Cert.KvNormFwd.nD → PrngReg), Pre_KvNormFwd m →
    θ_run (Cert.KvNormFwd.defs (F := Bits)) (onTc (τ := Cert.KvNormFwd.τ) (Cert.KvNormFwd.main (F := Bits))) ⟨m, fun _ => 0, g⟩ (fun r => (∀ c : Dev Cert.KvNormFwd.nD,
      r.2.mem ((c.tc : Thread Cert.KvNormFwd.nD Cert.KvNormFwd.τ).loc Cert.KvNormFwd.main_arg0) = m ((c.tc : Thread Cert.KvNormFwd.nD Cert.KvNormFwd.τ).loc Cert.KvNormFwd.main_arg0)
      ∧ r.2.mem ((c.tc : Thread Cert.KvNormFwd.nD Cert.KvNormFwd.τ).loc Cert.KvNormFwd.main_arg1) = m ((c.tc : Thread Cert.KvNormFwd.nD Cert.KvNormFwd.τ).loc Cert.KvNormFwd.main_arg1))
      ∧ r.2.sem = fun _ => 0)

def quiescent_KvNormFwdIdeal [hKvNormFwdIdeal : Cert.KvNormFwdIdeal.Facts] : Prop :=
  ∀ (m : (ℓ : Loc Cert.KvNormFwdIdeal.nD Cert.KvNormFwdIdeal.τ Cert.KvNormFwdIdeal.sig) → Buf (Elt Ideal) ℓ) (g : Dev Cert.KvNormFwdIdeal.nD → PrngReg), Pre_KvNormFwdIdeal m →
    θ_run (Cert.KvNormFwdIdeal.defs (F := Ideal)) (onTc (τ := Cert.KvNormFwdIdeal.τ) (Cert.KvNormFwdIdeal.main (F := Ideal))) ⟨m, fun _ => 0, g⟩ (fun r => (∀ c : Dev Cert.KvNormFwdIdeal.nD,
      r.2.mem ((c.tc : Thread Cert.KvNormFwdIdeal.nD Cert.KvNormFwdIdeal.τ).loc Cert.KvNormFwdIdeal.main_arg0) = m ((c.tc : Thread Cert.KvNormFwdIdeal.nD Cert.KvNormFwdIdeal.τ).loc Cert.KvNormFwdIdeal.main_arg0)
      ∧ r.2.mem ((c.tc : Thread Cert.KvNormFwdIdeal.nD Cert.KvNormFwdIdeal.τ).loc Cert.KvNormFwdIdeal.main_arg1) = m ((c.tc : Thread Cert.KvNormFwdIdeal.nD Cert.KvNormFwdIdeal.τ).loc Cert.KvNormFwdIdeal.main_arg1))
      ∧ r.2.sem = fun _ => 0)

def quiescent_RefKvNormFwdIdeal [hRefKvNormFwdIdeal : Cert.RefKvNormFwdIdeal.Facts] : Prop :=
  ∀ (m : (ℓ : Loc Cert.RefKvNormFwdIdeal.nD Cert.RefKvNormFwdIdeal.τ Cert.RefKvNormFwdIdeal.sig) → Buf (Elt Ideal) ℓ) (g : Dev Cert.RefKvNormFwdIdeal.nD → PrngReg), Pre_RefKvNormFwdIdeal m →
    θ_run (Cert.RefKvNormFwdIdeal.defs (F := Ideal)) (onTc (τ := Cert.RefKvNormFwdIdeal.τ) (Cert.RefKvNormFwdIdeal.main (F := Ideal))) ⟨m, fun _ => 0, g⟩ (fun r => (∀ c : Dev Cert.RefKvNormFwdIdeal.nD,
      r.2.mem ((c.tc : Thread Cert.RefKvNormFwdIdeal.nD Cert.RefKvNormFwdIdeal.τ).loc Cert.RefKvNormFwdIdeal.main_arg0) = m ((c.tc : Thread Cert.RefKvNormFwdIdeal.nD Cert.RefKvNormFwdIdeal.τ).loc Cert.RefKvNormFwdIdeal.main_arg0)
      ∧ r.2.mem ((c.tc : Thread Cert.RefKvNormFwdIdeal.nD Cert.RefKvNormFwdIdeal.τ).loc Cert.RefKvNormFwdIdeal.main_arg1) = m ((c.tc : Thread Cert.RefKvNormFwdIdeal.nD Cert.RefKvNormFwdIdeal.τ).loc Cert.RefKvNormFwdIdeal.main_arg1))
      ∧ r.2.sem = fun _ => 0)

def quiescent_RetFwd [hRetFwd : Cert.RetFwd.Facts] : Prop :=
  ∀ (m : (ℓ : Loc Cert.RetFwd.nD Cert.RetFwd.τ Cert.RetFwd.sig) → Buf (Elt Bits) ℓ) (g : Dev Cert.RetFwd.nD → PrngReg), Pre_RetFwd m →
    θ_run (Cert.RetFwd.defs (F := Bits)) (onTc (τ := Cert.RetFwd.τ) (Cert.RetFwd.main (F := Bits))) ⟨m, fun _ => 0, g⟩ (fun r => (∀ c : Dev Cert.RetFwd.nD,
      r.2.mem ((c.tc : Thread Cert.RetFwd.nD Cert.RetFwd.τ).loc Cert.RetFwd.main_arg0) = m ((c.tc : Thread Cert.RetFwd.nD Cert.RetFwd.τ).loc Cert.RetFwd.main_arg0))
      ∧ r.2.sem = fun _ => 0)

def quiescent_RetFwdIdeal [hRetFwdIdeal : Cert.RetFwdIdeal.Facts] : Prop :=
  ∀ (m : (ℓ : Loc Cert.RetFwdIdeal.nD Cert.RetFwdIdeal.τ Cert.RetFwdIdeal.sig) → Buf (Elt Ideal) ℓ) (g : Dev Cert.RetFwdIdeal.nD → PrngReg), Pre_RetFwdIdeal m →
    θ_run (Cert.RetFwdIdeal.defs (F := Ideal)) (onTc (τ := Cert.RetFwdIdeal.τ) (Cert.RetFwdIdeal.main (F := Ideal))) ⟨m, fun _ => 0, g⟩ (fun r => (∀ c : Dev Cert.RetFwdIdeal.nD,
      r.2.mem ((c.tc : Thread Cert.RetFwdIdeal.nD Cert.RetFwdIdeal.τ).loc Cert.RetFwdIdeal.main_arg0) = m ((c.tc : Thread Cert.RetFwdIdeal.nD Cert.RetFwdIdeal.τ).loc Cert.RetFwdIdeal.main_arg0))
      ∧ r.2.sem = fun _ => 0)

def quiescent_RefRetFwdIdeal [hRefRetFwdIdeal : Cert.RefRetFwdIdeal.Facts] : Prop :=
  ∀ (m : (ℓ : Loc Cert.RefRetFwdIdeal.nD Cert.RefRetFwdIdeal.τ Cert.RefRetFwdIdeal.sig) → Buf (Elt Ideal) ℓ) (g : Dev Cert.RefRetFwdIdeal.nD → PrngReg), Pre_RefRetFwdIdeal m →
    θ_run (Cert.RefRetFwdIdeal.defs (F := Ideal)) (onTc (τ := Cert.RefRetFwdIdeal.τ) (Cert.RefRetFwdIdeal.main (F := Ideal))) ⟨m, fun _ => 0, g⟩ (fun r => (∀ c : Dev Cert.RefRetFwdIdeal.nD,
      r.2.mem ((c.tc : Thread Cert.RefRetFwdIdeal.nD Cert.RefRetFwdIdeal.τ).loc Cert.RefRetFwdIdeal.main_arg0) = m ((c.tc : Thread Cert.RefRetFwdIdeal.nD Cert.RefRetFwdIdeal.τ).loc Cert.RefRetFwdIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v25_0)) (v1 : (c : Dev Cert.KernelIdeal.nD) → Buf (Elt Ideal) ((c.tc : Thread Cert.KernelIdeal.nD Cert.KernelIdeal.τ).loc Cert.KernelIdeal.main_v25_1)) (v2 : (c : Dev Cert.KernelIdeal.nD) → Buf (Elt Ideal) ((c.tc : Thread Cert.KernelIdeal.nD Cert.KernelIdeal.τ).loc Cert.KernelIdeal.main_v25_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25_0) = v0 c
          ∧ r.2.mem ((c.tc : Thread Cert.KernelIdeal.nD Cert.KernelIdeal.τ).loc Cert.KernelIdeal.main_v25_1) = v1 c
          ∧ r.2.mem ((c.tc : Thread Cert.KernelIdeal.nD Cert.KernelIdeal.τ).loc Cert.KernelIdeal.main_v25_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v157) = v0 c
          ∧ r.2.mem ((c.tc : Thread Cert.ReferenceIdeal.nD Cert.ReferenceIdeal.τ).loc Cert.ReferenceIdeal.main_v158) = v1 c
          ∧ r.2.mem ((c.tc : Thread Cert.ReferenceIdeal.nD Cert.ReferenceIdeal.τ).loc Cert.ReferenceIdeal.main_v159) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_W2Dx_W2DxIdeal : Prop :=
  True

def algebraic_W2DxIdeal_RefW2DxIdeal [hW2DxIdeal : Cert.W2DxIdeal.Facts] [hRefW2DxIdeal : Cert.RefW2DxIdeal.Facts] : Prop :=
  ∀ (m : (ℓ : Loc Cert.W2DxIdeal.nD Cert.W2DxIdeal.τ Cert.W2DxIdeal.sig) → Buf (Elt Ideal) ℓ) (g : Dev Cert.W2DxIdeal.nD → PrngReg)
    (m' : (ℓ : Loc Cert.RefW2DxIdeal.nD Cert.RefW2DxIdeal.τ Cert.RefW2DxIdeal.sig) → Buf (Elt Ideal) ℓ) (g' : Dev Cert.RefW2DxIdeal.nD → PrngReg), Pre_W2DxIdeal m →
    (∀ c : Dev Cert.W2DxIdeal.nD,
      m' ((c.tc : Thread Cert.RefW2DxIdeal.nD Cert.RefW2DxIdeal.τ).loc Cert.RefW2DxIdeal.main_arg0) = m ((c.tc : Thread Cert.W2DxIdeal.nD Cert.W2DxIdeal.τ).loc Cert.W2DxIdeal.main_arg0)
      ∧ m' ((c.tc : Thread Cert.RefW2DxIdeal.nD Cert.RefW2DxIdeal.τ).loc Cert.RefW2DxIdeal.main_arg1) = m ((c.tc : Thread Cert.W2DxIdeal.nD Cert.W2DxIdeal.τ).loc Cert.W2DxIdeal.main_arg1)
      ∧ m' ((c.tc : Thread Cert.RefW2DxIdeal.nD Cert.RefW2DxIdeal.τ).loc Cert.RefW2DxIdeal.main_arg2) = m ((c.tc : Thread Cert.W2DxIdeal.nD Cert.W2DxIdeal.τ).loc Cert.W2DxIdeal.main_arg2)) →
    ∃ (v0 : (c : Dev Cert.W2DxIdeal.nD) → Buf (Elt Ideal) ((c.tc : Thread Cert.W2DxIdeal.nD Cert.W2DxIdeal.τ).loc Cert.W2DxIdeal.main_v0)),
      θ_run (Cert.W2DxIdeal.defs (F := Ideal)) (onTc (τ := Cert.W2DxIdeal.τ) (Cert.W2DxIdeal.main (F := Ideal))) ⟨m, fun _ => 0, g⟩ (fun r => ∀ c : Dev Cert.W2DxIdeal.nD,
          r.2.mem ((c.tc : Thread Cert.W2DxIdeal.nD Cert.W2DxIdeal.τ).loc Cert.W2DxIdeal.main_v0) = v0 c
          ∧ r.2.mem ((c.tc : Thread Cert.W2DxIdeal.nD Cert.W2DxIdeal.τ).loc Cert.W2DxIdeal.main_arg0) = m ((c.tc : Thread Cert.W2DxIdeal.nD Cert.W2DxIdeal.τ).loc Cert.W2DxIdeal.main_arg0)
          ∧ r.2.mem ((c.tc : Thread Cert.W2DxIdeal.nD Cert.W2DxIdeal.τ).loc Cert.W2DxIdeal.main_arg1) = m ((c.tc : Thread Cert.W2DxIdeal.nD Cert.W2DxIdeal.τ).loc Cert.W2DxIdeal.main_arg1)
          ∧ r.2.mem ((c.tc : Thread Cert.W2DxIdeal.nD Cert.W2DxIdeal.τ).loc Cert.W2DxIdeal.main_arg2) = m ((c.tc : Thread Cert.W2DxIdeal.nD Cert.W2DxIdeal.τ).loc Cert.W2DxIdeal.main_arg2))
      ∧ θ_run (Cert.RefW2DxIdeal.defs (F := Ideal)) (onTc (τ := Cert.RefW2DxIdeal.τ) (Cert.RefW2DxIdeal.main (F := Ideal))) ⟨m', fun _ => 0, g'⟩ (fun r => ∀ c : Dev Cert.RefW2DxIdeal.nD,
          r.2.mem ((c.tc : Thread Cert.RefW2DxIdeal.nD Cert.RefW2DxIdeal.τ).loc Cert.RefW2DxIdeal.main_v14) = v0 c
          ∧ r.2.mem ((c.tc : Thread Cert.RefW2DxIdeal.nD Cert.RefW2DxIdeal.τ).loc Cert.RefW2DxIdeal.main_arg0) = m' ((c.tc : Thread Cert.RefW2DxIdeal.nD Cert.RefW2DxIdeal.τ).loc Cert.RefW2DxIdeal.main_arg0)
          ∧ r.2.mem ((c.tc : Thread Cert.RefW2DxIdeal.nD Cert.RefW2DxIdeal.τ).loc Cert.RefW2DxIdeal.main_arg1) = m' ((c.tc : Thread Cert.RefW2DxIdeal.nD Cert.RefW2DxIdeal.τ).loc Cert.RefW2DxIdeal.main_arg1)
          ∧ r.2.mem ((c.tc : Thread Cert.RefW2DxIdeal.nD Cert.RefW2DxIdeal.τ).loc Cert.RefW2DxIdeal.main_arg2) = m' ((c.tc : Thread Cert.RefW2DxIdeal.nD Cert.RefW2DxIdeal.τ).loc Cert.RefW2DxIdeal.main_arg2))

def preserves_W2Dw_W2DwIdeal : Prop :=
  True

def algebraic_W2DwIdeal_RefW2DwIdeal [hW2DwIdeal : Cert.W2DwIdeal.Facts] [hRefW2DwIdeal : Cert.RefW2DwIdeal.Facts] : Prop :=
  ∀ (m : (ℓ : Loc Cert.W2DwIdeal.nD Cert.W2DwIdeal.τ Cert.W2DwIdeal.sig) → Buf (Elt Ideal) ℓ) (g : Dev Cert.W2DwIdeal.nD → PrngReg)
    (m' : (ℓ : Loc Cert.RefW2DwIdeal.nD Cert.RefW2DwIdeal.τ Cert.RefW2DwIdeal.sig) → Buf (Elt Ideal) ℓ) (g' : Dev Cert.RefW2DwIdeal.nD → PrngReg), Pre_W2DwIdeal m →
    (∀ c : Dev Cert.W2DwIdeal.nD,
      m' ((c.tc : Thread Cert.RefW2DwIdeal.nD Cert.RefW2DwIdeal.τ).loc Cert.RefW2DwIdeal.main_arg0) = m ((c.tc : Thread Cert.W2DwIdeal.nD Cert.W2DwIdeal.τ).loc Cert.W2DwIdeal.main_arg0)
      ∧ m' ((c.tc : Thread Cert.RefW2DwIdeal.nD Cert.RefW2DwIdeal.τ).loc Cert.RefW2DwIdeal.main_arg1) = m ((c.tc : Thread Cert.W2DwIdeal.nD Cert.W2DwIdeal.τ).loc Cert.W2DwIdeal.main_arg1)) →
    ∃ (v0 : (c : Dev Cert.W2DwIdeal.nD) → Buf (Elt Ideal) ((c.tc : Thread Cert.W2DwIdeal.nD Cert.W2DwIdeal.τ).loc Cert.W2DwIdeal.main_v0)),
      θ_run (Cert.W2DwIdeal.defs (F := Ideal)) (onTc (τ := Cert.W2DwIdeal.τ) (Cert.W2DwIdeal.main (F := Ideal))) ⟨m, fun _ => 0, g⟩ (fun r => ∀ c : Dev Cert.W2DwIdeal.nD,
          r.2.mem ((c.tc : Thread Cert.W2DwIdeal.nD Cert.W2DwIdeal.τ).loc Cert.W2DwIdeal.main_v0) = v0 c
          ∧ r.2.mem ((c.tc : Thread Cert.W2DwIdeal.nD Cert.W2DwIdeal.τ).loc Cert.W2DwIdeal.main_arg0) = m ((c.tc : Thread Cert.W2DwIdeal.nD Cert.W2DwIdeal.τ).loc Cert.W2DwIdeal.main_arg0)
          ∧ r.2.mem ((c.tc : Thread Cert.W2DwIdeal.nD Cert.W2DwIdeal.τ).loc Cert.W2DwIdeal.main_arg1) = m ((c.tc : Thread Cert.W2DwIdeal.nD Cert.W2DwIdeal.τ).loc Cert.W2DwIdeal.main_arg1))
      ∧ θ_run (Cert.RefW2DwIdeal.defs (F := Ideal)) (onTc (τ := Cert.RefW2DwIdeal.τ) (Cert.RefW2DwIdeal.main (F := Ideal))) ⟨m', fun _ => 0, g'⟩ (fun r => ∀ c : Dev Cert.RefW2DwIdeal.nD,
          r.2.mem ((c.tc : Thread Cert.RefW2DwIdeal.nD Cert.RefW2DwIdeal.τ).loc Cert.RefW2DwIdeal.main_v8) = v0 c
          ∧ r.2.mem ((c.tc : Thread Cert.RefW2DwIdeal.nD Cert.RefW2DwIdeal.τ).loc Cert.RefW2DwIdeal.main_arg0) = m' ((c.tc : Thread Cert.RefW2DwIdeal.nD Cert.RefW2DwIdeal.τ).loc Cert.RefW2DwIdeal.main_arg0)
          ∧ r.2.mem ((c.tc : Thread Cert.RefW2DwIdeal.nD Cert.RefW2DwIdeal.τ).loc Cert.RefW2DwIdeal.main_arg1) = m' ((c.tc : Thread Cert.RefW2DwIdeal.nD Cert.RefW2DwIdeal.τ).loc Cert.RefW2DwIdeal.main_arg1))

def preserves_W1Dx_W1DxIdeal : Prop :=
  IdealRules.named_const.Statement Cert.W1DxIdeal.κ "alpha" .f32 0x3FB504F3#32 ((Real.sqrt 2 : ℝ) : EReal)

def algebraic_W1DxIdeal_RefW1DxIdeal [hW1DxIdeal : Cert.W1DxIdeal.Facts] [hRefW1DxIdeal : Cert.RefW1DxIdeal.Facts] : Prop :=
  ∀ (m : (ℓ : Loc Cert.W1DxIdeal.nD Cert.W1DxIdeal.τ Cert.W1DxIdeal.sig) → Buf (Elt Ideal) ℓ) (g : Dev Cert.W1DxIdeal.nD → PrngReg)
    (m' : (ℓ : Loc Cert.RefW1DxIdeal.nD Cert.RefW1DxIdeal.τ Cert.RefW1DxIdeal.sig) → Buf (Elt Ideal) ℓ) (g' : Dev Cert.RefW1DxIdeal.nD → PrngReg), Pre_W1DxIdeal m →
    (∀ c : Dev Cert.W1DxIdeal.nD,
      m' ((c.tc : Thread Cert.RefW1DxIdeal.nD Cert.RefW1DxIdeal.τ).loc Cert.RefW1DxIdeal.main_arg0) = m ((c.tc : Thread Cert.W1DxIdeal.nD Cert.W1DxIdeal.τ).loc Cert.W1DxIdeal.main_arg0)
      ∧ m' ((c.tc : Thread Cert.RefW1DxIdeal.nD Cert.RefW1DxIdeal.τ).loc Cert.RefW1DxIdeal.main_arg1) = m ((c.tc : Thread Cert.W1DxIdeal.nD Cert.W1DxIdeal.τ).loc Cert.W1DxIdeal.main_arg1)
      ∧ m' ((c.tc : Thread Cert.RefW1DxIdeal.nD Cert.RefW1DxIdeal.τ).loc Cert.RefW1DxIdeal.main_arg2) = m ((c.tc : Thread Cert.W1DxIdeal.nD Cert.W1DxIdeal.τ).loc Cert.W1DxIdeal.main_arg2)) →
    ∃ (v0 : (c : Dev Cert.W1DxIdeal.nD) → Buf (Elt Ideal) ((c.tc : Thread Cert.W1DxIdeal.nD Cert.W1DxIdeal.τ).loc Cert.W1DxIdeal.main_v0)),
      θ_run (Cert.W1DxIdeal.defs (F := Ideal)) (onTc (τ := Cert.W1DxIdeal.τ) (Cert.W1DxIdeal.main (F := Ideal))) ⟨m, fun _ => 0, g⟩ (fun r => ∀ c : Dev Cert.W1DxIdeal.nD,
          r.2.mem ((c.tc : Thread Cert.W1DxIdeal.nD Cert.W1DxIdeal.τ).loc Cert.W1DxIdeal.main_v0) = v0 c
          ∧ r.2.mem ((c.tc : Thread Cert.W1DxIdeal.nD Cert.W1DxIdeal.τ).loc Cert.W1DxIdeal.main_arg0) = m ((c.tc : Thread Cert.W1DxIdeal.nD Cert.W1DxIdeal.τ).loc Cert.W1DxIdeal.main_arg0)
          ∧ r.2.mem ((c.tc : Thread Cert.W1DxIdeal.nD Cert.W1DxIdeal.τ).loc Cert.W1DxIdeal.main_arg1) = m ((c.tc : Thread Cert.W1DxIdeal.nD Cert.W1DxIdeal.τ).loc Cert.W1DxIdeal.main_arg1)
          ∧ r.2.mem ((c.tc : Thread Cert.W1DxIdeal.nD Cert.W1DxIdeal.τ).loc Cert.W1DxIdeal.main_arg2) = m ((c.tc : Thread Cert.W1DxIdeal.nD Cert.W1DxIdeal.τ).loc Cert.W1DxIdeal.main_arg2))
      ∧ θ_run (Cert.RefW1DxIdeal.defs (F := Ideal)) (onTc (τ := Cert.RefW1DxIdeal.τ) (Cert.RefW1DxIdeal.main (F := Ideal))) ⟨m', fun _ => 0, g'⟩ (fun r => ∀ c : Dev Cert.RefW1DxIdeal.nD,
          r.2.mem ((c.tc : Thread Cert.RefW1DxIdeal.nD Cert.RefW1DxIdeal.τ).loc Cert.RefW1DxIdeal.main_v12) = v0 c
          ∧ r.2.mem ((c.tc : Thread Cert.RefW1DxIdeal.nD Cert.RefW1DxIdeal.τ).loc Cert.RefW1DxIdeal.main_arg0) = m' ((c.tc : Thread Cert.RefW1DxIdeal.nD Cert.RefW1DxIdeal.τ).loc Cert.RefW1DxIdeal.main_arg0)
          ∧ r.2.mem ((c.tc : Thread Cert.RefW1DxIdeal.nD Cert.RefW1DxIdeal.τ).loc Cert.RefW1DxIdeal.main_arg1) = m' ((c.tc : Thread Cert.RefW1DxIdeal.nD Cert.RefW1DxIdeal.τ).loc Cert.RefW1DxIdeal.main_arg1)
          ∧ r.2.mem ((c.tc : Thread Cert.RefW1DxIdeal.nD Cert.RefW1DxIdeal.τ).loc Cert.RefW1DxIdeal.main_arg2) = m' ((c.tc : Thread Cert.RefW1DxIdeal.nD Cert.RefW1DxIdeal.τ).loc Cert.RefW1DxIdeal.main_arg2))

def preserves_W1Dw_W1DwIdeal : Prop :=
  True

def algebraic_W1DwIdeal_RefW1DwIdeal [hW1DwIdeal : Cert.W1DwIdeal.Facts] [hRefW1DwIdeal : Cert.RefW1DwIdeal.Facts] : Prop :=
  ∀ (m : (ℓ : Loc Cert.W1DwIdeal.nD Cert.W1DwIdeal.τ Cert.W1DwIdeal.sig) → Buf (Elt Ideal) ℓ) (g : Dev Cert.W1DwIdeal.nD → PrngReg)
    (m' : (ℓ : Loc Cert.RefW1DwIdeal.nD Cert.RefW1DwIdeal.τ Cert.RefW1DwIdeal.sig) → Buf (Elt Ideal) ℓ) (g' : Dev Cert.RefW1DwIdeal.nD → PrngReg), Pre_W1DwIdeal m →
    (∀ c : Dev Cert.W1DwIdeal.nD,
      m' ((c.tc : Thread Cert.RefW1DwIdeal.nD Cert.RefW1DwIdeal.τ).loc Cert.RefW1DwIdeal.main_arg0) = m ((c.tc : Thread Cert.W1DwIdeal.nD Cert.W1DwIdeal.τ).loc Cert.W1DwIdeal.main_arg0)
      ∧ m' ((c.tc : Thread Cert.RefW1DwIdeal.nD Cert.RefW1DwIdeal.τ).loc Cert.RefW1DwIdeal.main_arg1) = m ((c.tc : Thread Cert.W1DwIdeal.nD Cert.W1DwIdeal.τ).loc Cert.W1DwIdeal.main_arg1)) →
    ∃ (v0 : (c : Dev Cert.W1DwIdeal.nD) → Buf (Elt Ideal) ((c.tc : Thread Cert.W1DwIdeal.nD Cert.W1DwIdeal.τ).loc Cert.W1DwIdeal.main_v0)),
      θ_run (Cert.W1DwIdeal.defs (F := Ideal)) (onTc (τ := Cert.W1DwIdeal.τ) (Cert.W1DwIdeal.main (F := Ideal))) ⟨m, fun _ => 0, g⟩ (fun r => ∀ c : Dev Cert.W1DwIdeal.nD,
          r.2.mem ((c.tc : Thread Cert.W1DwIdeal.nD Cert.W1DwIdeal.τ).loc Cert.W1DwIdeal.main_v0) = v0 c
          ∧ r.2.mem ((c.tc : Thread Cert.W1DwIdeal.nD Cert.W1DwIdeal.τ).loc Cert.W1DwIdeal.main_arg0) = m ((c.tc : Thread Cert.W1DwIdeal.nD Cert.W1DwIdeal.τ).loc Cert.W1DwIdeal.main_arg0)
          ∧ r.2.mem ((c.tc : Thread Cert.W1DwIdeal.nD Cert.W1DwIdeal.τ).loc Cert.W1DwIdeal.main_arg1) = m ((c.tc : Thread Cert.W1DwIdeal.nD Cert.W1DwIdeal.τ).loc Cert.W1DwIdeal.main_arg1))
      ∧ θ_run (Cert.RefW1DwIdeal.defs (F := Ideal)) (onTc (τ := Cert.RefW1DwIdeal.τ) (Cert.RefW1DwIdeal.main (F := Ideal))) ⟨m', fun _ => 0, g'⟩ (fun r => ∀ c : Dev Cert.RefW1DwIdeal.nD,
          r.2.mem ((c.tc : Thread Cert.RefW1DwIdeal.nD Cert.RefW1DwIdeal.τ).loc Cert.RefW1DwIdeal.main_v10) = v0 c
          ∧ r.2.mem ((c.tc : Thread Cert.RefW1DwIdeal.nD Cert.RefW1DwIdeal.τ).loc Cert.RefW1DwIdeal.main_arg0) = m' ((c.tc : Thread Cert.RefW1DwIdeal.nD Cert.RefW1DwIdeal.τ).loc Cert.RefW1DwIdeal.main_arg0)
          ∧ r.2.mem ((c.tc : Thread Cert.RefW1DwIdeal.nD Cert.RefW1DwIdeal.τ).loc Cert.RefW1DwIdeal.main_arg1) = m' ((c.tc : Thread Cert.RefW1DwIdeal.nD Cert.RefW1DwIdeal.τ).loc Cert.RefW1DwIdeal.main_arg1))

def preserves_InDx_InDxIdeal : Prop :=
  IdealRules.named_const.Statement Cert.InDxIdeal.κ "alpha" .f32 0x3FB504F3#32 ((Real.sqrt 2 : ℝ) : EReal)

def algebraic_InDxIdeal_RefInDxIdeal [hInDxIdeal : Cert.InDxIdeal.Facts] [hRefInDxIdeal : Cert.RefInDxIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.RefInDxIdeal.nD Cert.RefInDxIdeal.τ Cert.RefInDxIdeal.sig) → Buf (Elt Ideal) ℓ) (g' : Dev Cert.RefInDxIdeal.nD → PrngReg), Pre_InDxIdeal m →
    (∀ c : Dev Cert.InDxIdeal.nD,
      m' ((c.tc : Thread Cert.RefInDxIdeal.nD Cert.RefInDxIdeal.τ).loc Cert.RefInDxIdeal.main_arg0) = m ((c.tc : Thread Cert.InDxIdeal.nD Cert.InDxIdeal.τ).loc Cert.InDxIdeal.main_arg0)
      ∧ m' ((c.tc : Thread Cert.RefInDxIdeal.nD Cert.RefInDxIdeal.τ).loc Cert.RefInDxIdeal.main_arg1) = m ((c.tc : Thread Cert.InDxIdeal.nD Cert.InDxIdeal.τ).loc Cert.InDxIdeal.main_arg1)
      ∧ m' ((c.tc : Thread Cert.RefInDxIdeal.nD Cert.RefInDxIdeal.τ).loc Cert.RefInDxIdeal.main_arg2) = m ((c.tc : Thread Cert.InDxIdeal.nD Cert.InDxIdeal.τ).loc Cert.InDxIdeal.main_arg2)) →
    ∃ (v0 : (c : Dev Cert.InDxIdeal.nD) → Buf (Elt Ideal) ((c.tc : Thread Cert.InDxIdeal.nD Cert.InDxIdeal.τ).loc Cert.InDxIdeal.main_v0)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v0) = v0 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
          ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2))
      ∧ θ_run (Cert.RefInDxIdeal.defs (F := Ideal)) (onTc (τ := Cert.RefInDxIdeal.τ) (Cert.RefInDxIdeal.main (F := Ideal))) ⟨m', fun _ => 0, g'⟩ (fun r => ∀ c : Dev Cert.RefInDxIdeal.nD,
          r.2.mem ((c.tc : Thread Cert.RefInDxIdeal.nD Cert.RefInDxIdeal.τ).loc Cert.RefInDxIdeal.main_v12) = v0 c
          ∧ r.2.mem ((c.tc : Thread Cert.RefInDxIdeal.nD Cert.RefInDxIdeal.τ).loc Cert.RefInDxIdeal.main_arg0) = m' ((c.tc : Thread Cert.RefInDxIdeal.nD Cert.RefInDxIdeal.τ).loc Cert.RefInDxIdeal.main_arg0)
          ∧ r.2.mem ((c.tc : Thread Cert.RefInDxIdeal.nD Cert.RefInDxIdeal.τ).loc Cert.RefInDxIdeal.main_arg1) = m' ((c.tc : Thread Cert.RefInDxIdeal.nD Cert.RefInDxIdeal.τ).loc Cert.RefInDxIdeal.main_arg1)
          ∧ r.2.mem ((c.tc : Thread Cert.RefInDxIdeal.nD Cert.RefInDxIdeal.τ).loc Cert.RefInDxIdeal.main_arg2) = m' ((c.tc : Thread Cert.RefInDxIdeal.nD Cert.RefInDxIdeal.τ).loc Cert.RefInDxIdeal.main_arg2))

def preserves_InDw_InDwIdeal : Prop :=
  True

def algebraic_InDwIdeal_RefInDwIdeal [hInDwIdeal : Cert.InDwIdeal.Facts] [hRefInDwIdeal : Cert.RefInDwIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.RefInDwIdeal.nD Cert.RefInDwIdeal.τ Cert.RefInDwIdeal.sig) → Buf (Elt Ideal) ℓ) (g' : Dev Cert.RefInDwIdeal.nD → PrngReg), Pre_InDwIdeal m →
    (∀ c : Dev Cert.InDwIdeal.nD,
      m' ((c.tc : Thread Cert.RefInDwIdeal.nD Cert.RefInDwIdeal.τ).loc Cert.RefInDwIdeal.main_arg0) = m ((c.tc : Thread Cert.InDwIdeal.nD Cert.InDwIdeal.τ).loc Cert.InDwIdeal.main_arg0)
      ∧ m' ((c.tc : Thread Cert.RefInDwIdeal.nD Cert.RefInDwIdeal.τ).loc Cert.RefInDwIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v0)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v0) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.RefInDwIdeal.defs (F := Ideal)) (onTc (τ := Cert.RefInDwIdeal.τ) (Cert.RefInDwIdeal.main (F := Ideal))) ⟨m', fun _ => 0, g'⟩ (fun r => ∀ c : Dev Cert.RefInDwIdeal.nD,
          r.2.mem ((c.tc : Thread Cert.RefInDwIdeal.nD Cert.RefInDwIdeal.τ).loc Cert.RefInDwIdeal.main_v10) = v0 c
          ∧ r.2.mem ((c.tc : Thread Cert.RefInDwIdeal.nD Cert.RefInDwIdeal.τ).loc Cert.RefInDwIdeal.main_arg0) = m' ((c.tc : Thread Cert.RefInDwIdeal.nD Cert.RefInDwIdeal.τ).loc Cert.RefInDwIdeal.main_arg0)
          ∧ r.2.mem ((c.tc : Thread Cert.RefInDwIdeal.nD Cert.RefInDwIdeal.τ).loc Cert.RefInDwIdeal.main_arg1) = m' ((c.tc : Thread Cert.RefInDwIdeal.nD Cert.RefInDwIdeal.τ).loc Cert.RefInDwIdeal.main_arg1))

def preserves_OutDx_OutDxIdeal : Prop :=
  True

def algebraic_OutDxIdeal_RefOutDxIdeal [hOutDxIdeal : Cert.OutDxIdeal.Facts] [hRefOutDxIdeal : Cert.RefOutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.RefOutDxIdeal.nD Cert.RefOutDxIdeal.τ Cert.RefOutDxIdeal.sig) → Buf (Elt Ideal) ℓ) (g' : Dev Cert.RefOutDxIdeal.nD → PrngReg), Pre_OutDxIdeal m →
    (∀ c : Dev Cert.OutDxIdeal.nD,
      m' ((c.tc : Thread Cert.RefOutDxIdeal.nD Cert.RefOutDxIdeal.τ).loc Cert.RefOutDxIdeal.main_arg0) = m ((c.tc : Thread Cert.OutDxIdeal.nD Cert.OutDxIdeal.τ).loc Cert.OutDxIdeal.main_arg0)
      ∧ m' ((c.tc : Thread Cert.RefOutDxIdeal.nD Cert.RefOutDxIdeal.τ).loc Cert.RefOutDxIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v0)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v0) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.RefOutDxIdeal.defs (F := Ideal)) (onTc (τ := Cert.RefOutDxIdeal.τ) (Cert.RefOutDxIdeal.main (F := Ideal))) ⟨m', fun _ => 0, g'⟩ (fun r => ∀ c : Dev Cert.RefOutDxIdeal.nD,
          r.2.mem ((c.tc : Thread Cert.RefOutDxIdeal.nD Cert.RefOutDxIdeal.τ).loc Cert.RefOutDxIdeal.main_v3) = v0 c
          ∧ r.2.mem ((c.tc : Thread Cert.RefOutDxIdeal.nD Cert.RefOutDxIdeal.τ).loc Cert.RefOutDxIdeal.main_arg0) = m' ((c.tc : Thread Cert.RefOutDxIdeal.nD Cert.RefOutDxIdeal.τ).loc Cert.RefOutDxIdeal.main_arg0)
          ∧ r.2.mem ((c.tc : Thread Cert.RefOutDxIdeal.nD Cert.RefOutDxIdeal.τ).loc Cert.RefOutDxIdeal.main_arg1) = m' ((c.tc : Thread Cert.RefOutDxIdeal.nD Cert.RefOutDxIdeal.τ).loc Cert.RefOutDxIdeal.main_arg1))

def preserves_OutDw_OutDwIdeal : Prop :=
  True

def algebraic_OutDwIdeal_RefOutDwIdeal [hOutDwIdeal : Cert.OutDwIdeal.Facts] [hRefOutDwIdeal : Cert.RefOutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.RefOutDwIdeal.nD Cert.RefOutDwIdeal.τ Cert.RefOutDwIdeal.sig) → Buf (Elt Ideal) ℓ) (g' : Dev Cert.RefOutDwIdeal.nD → PrngReg), Pre_OutDwIdeal m →
    (∀ c : Dev Cert.OutDwIdeal.nD,
      m' ((c.tc : Thread Cert.RefOutDwIdeal.nD Cert.RefOutDwIdeal.τ).loc Cert.RefOutDwIdeal.main_arg0) = m ((c.tc : Thread Cert.OutDwIdeal.nD Cert.OutDwIdeal.τ).loc Cert.OutDwIdeal.main_arg0)
      ∧ m' ((c.tc : Thread Cert.RefOutDwIdeal.nD Cert.RefOutDwIdeal.τ).loc Cert.RefOutDwIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.RefOutDwIdeal.defs (F := Ideal)) (onTc (τ := Cert.RefOutDwIdeal.τ) (Cert.RefOutDwIdeal.main (F := Ideal))) ⟨m', fun _ => 0, g'⟩ (fun r => ∀ c : Dev Cert.RefOutDwIdeal.nD,
          r.2.mem ((c.tc : Thread Cert.RefOutDwIdeal.nD Cert.RefOutDwIdeal.τ).loc Cert.RefOutDwIdeal.main_v5) = v0 c
          ∧ r.2.mem ((c.tc : Thread Cert.RefOutDwIdeal.nD Cert.RefOutDwIdeal.τ).loc Cert.RefOutDwIdeal.main_arg0) = m' ((c.tc : Thread Cert.RefOutDwIdeal.nD Cert.RefOutDwIdeal.τ).loc Cert.RefOutDwIdeal.main_arg0)
          ∧ r.2.mem ((c.tc : Thread Cert.RefOutDwIdeal.nD Cert.RefOutDwIdeal.τ).loc Cert.RefOutDwIdeal.main_arg1) = m' ((c.tc : Thread Cert.RefOutDwIdeal.nD Cert.RefOutDwIdeal.τ).loc Cert.RefOutDwIdeal.main_arg1))

def preserves_NormBwd_NormBwdIdeal : Prop :=
  True

def algebraic_NormBwdIdeal_RefNormBwdIdeal_pre_real_norm [hNormBwdIdeal : Cert.NormBwdIdeal.Facts] [hRefNormBwdIdeal : Cert.RefNormBwdIdeal.Facts] [hPre_real_norm : Cert.Pre_real_norm.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.RefNormBwdIdeal.nD Cert.RefNormBwdIdeal.τ Cert.RefNormBwdIdeal.sig) → Buf (Elt Ideal) ℓ) (g' : Dev Cert.RefNormBwdIdeal.nD → PrngReg), Pre_NormBwdIdeal_real_norm m →
    (∀ c : Dev Cert.NormBwdIdeal.nD,
      m' ((c.tc : Thread Cert.RefNormBwdIdeal.nD Cert.RefNormBwdIdeal.τ).loc Cert.RefNormBwdIdeal.main_arg0) = m ((c.tc : Thread Cert.NormBwdIdeal.nD Cert.NormBwdIdeal.τ).loc Cert.NormBwdIdeal.main_arg0)
      ∧ m' ((c.tc : Thread Cert.RefNormBwdIdeal.nD Cert.RefNormBwdIdeal.τ).loc Cert.RefNormBwdIdeal.main_arg1) = m ((c.tc : Thread Cert.NormBwdIdeal.nD Cert.NormBwdIdeal.τ).loc Cert.NormBwdIdeal.main_arg1)
      ∧ m' ((c.tc : Thread Cert.RefNormBwdIdeal.nD Cert.RefNormBwdIdeal.τ).loc Cert.RefNormBwdIdeal.main_arg2) = m ((c.tc : Thread Cert.NormBwdIdeal.nD Cert.NormBwdIdeal.τ).loc Cert.NormBwdIdeal.main_arg2)) →
    ∃ (v0 : (c : Dev Cert.NormBwdIdeal.nD) → Buf (Elt Ideal) ((c.tc : Thread Cert.NormBwdIdeal.nD Cert.NormBwdIdeal.τ).loc Cert.NormBwdIdeal.main_v0_0)) (v1 : (c : Dev Cert.NormBwdIdeal.nD) → Buf (Elt Ideal) ((c.tc : Thread Cert.NormBwdIdeal.nD Cert.NormBwdIdeal.τ).loc Cert.NormBwdIdeal.main_v0_1)) (v2 : (c : Dev Cert.NormBwdIdeal.nD) → Buf (Elt Ideal) ((c.tc : Thread Cert.NormBwdIdeal.nD Cert.NormBwdIdeal.τ).loc Cert.NormBwdIdeal.main_v0_2)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v0_0) = v0 c
          ∧ r.2.mem ((c.tc : Thread Cert.NormBwdIdeal.nD Cert.NormBwdIdeal.τ).loc Cert.NormBwdIdeal.main_v0_1) = v1 c
          ∧ r.2.mem ((c.tc : Thread Cert.NormBwdIdeal.nD Cert.NormBwdIdeal.τ).loc Cert.NormBwdIdeal.main_v0_2) = v2 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2))
      ∧ θ_run (Cert.RefNormBwdIdeal.defs (F := Ideal)) (onTc (τ := Cert.RefNormBwdIdeal.τ) (Cert.RefNormBwdIdeal.main (F := Ideal))) ⟨m', fun _ => 0, g'⟩ (fun r => ∀ c : Dev Cert.RefNormBwdIdeal.nD,
          r.2.mem ((c.tc : Thread Cert.RefNormBwdIdeal.nD Cert.RefNormBwdIdeal.τ).loc Cert.RefNormBwdIdeal.main_v53) = v0 c
          ∧ r.2.mem ((c.tc : Thread Cert.RefNormBwdIdeal.nD Cert.RefNormBwdIdeal.τ).loc Cert.RefNormBwdIdeal.main_v31) = v1 c
          ∧ r.2.mem ((c.tc : Thread Cert.RefNormBwdIdeal.nD Cert.RefNormBwdIdeal.τ).loc Cert.RefNormBwdIdeal.main_v28) = v2 c
          ∧ r.2.mem ((c.tc : Thread Cert.RefNormBwdIdeal.nD Cert.RefNormBwdIdeal.τ).loc Cert.RefNormBwdIdeal.main_arg0) = m' ((c.tc : Thread Cert.RefNormBwdIdeal.nD Cert.RefNormBwdIdeal.τ).loc Cert.RefNormBwdIdeal.main_arg0)
          ∧ r.2.mem ((c.tc : Thread Cert.RefNormBwdIdeal.nD Cert.RefNormBwdIdeal.τ).loc Cert.RefNormBwdIdeal.main_arg1) = m' ((c.tc : Thread Cert.RefNormBwdIdeal.nD Cert.RefNormBwdIdeal.τ).loc Cert.RefNormBwdIdeal.main_arg1)
          ∧ r.2.mem ((c.tc : Thread Cert.RefNormBwdIdeal.nD Cert.RefNormBwdIdeal.τ).loc Cert.RefNormBwdIdeal.main_arg2) = m' ((c.tc : Thread Cert.RefNormBwdIdeal.nD Cert.RefNormBwdIdeal.τ).loc Cert.RefNormBwdIdeal.main_arg2))

def preserves_GateBwd_GateBwdIdeal : Prop :=
  True

def algebraic_GateBwdIdeal_RefGateBwdIdeal_pre_real_gate [hGateBwdIdeal : Cert.GateBwdIdeal.Facts] [hRefGateBwdIdeal : Cert.RefGateBwdIdeal.Facts] [hPre_real_gate : Cert.Pre_real_gate.Facts] : Prop :=
  ∀ (m : (ℓ : Loc Cert.GateBwdIdeal.nD Cert.GateBwdIdeal.τ Cert.GateBwdIdeal.sig) → Buf (Elt Ideal) ℓ) (g : Dev Cert.GateBwdIdeal.nD → PrngReg)
    (m' : (ℓ : Loc Cert.RefGateBwdIdeal.nD Cert.RefGateBwdIdeal.τ Cert.RefGateBwdIdeal.sig) → Buf (Elt Ideal) ℓ) (g' : Dev Cert.RefGateBwdIdeal.nD → PrngReg), Pre_GateBwdIdeal_real_gate m →
    (∀ c : Dev Cert.GateBwdIdeal.nD,
      m' ((c.tc : Thread Cert.RefGateBwdIdeal.nD Cert.RefGateBwdIdeal.τ).loc Cert.RefGateBwdIdeal.main_arg0) = m ((c.tc : Thread Cert.GateBwdIdeal.nD Cert.GateBwdIdeal.τ).loc Cert.GateBwdIdeal.main_arg0)
      ∧ m' ((c.tc : Thread Cert.RefGateBwdIdeal.nD Cert.RefGateBwdIdeal.τ).loc Cert.RefGateBwdIdeal.main_arg1) = m ((c.tc : Thread Cert.GateBwdIdeal.nD Cert.GateBwdIdeal.τ).loc Cert.GateBwdIdeal.main_arg1)
      ∧ m' ((c.tc : Thread Cert.RefGateBwdIdeal.nD Cert.RefGateBwdIdeal.τ).loc Cert.RefGateBwdIdeal.main_arg2) = m ((c.tc : Thread Cert.GateBwdIdeal.nD Cert.GateBwdIdeal.τ).loc Cert.GateBwdIdeal.main_arg2)) →
    ∃ (v0 : (c : Dev Cert.GateBwdIdeal.nD) → Buf (Elt Ideal) ((c.tc : Thread Cert.GateBwdIdeal.nD Cert.GateBwdIdeal.τ).loc Cert.GateBwdIdeal.main_v0_0)) (v1 : (c : Dev Cert.GateBwdIdeal.nD) → Buf (Elt Ideal) ((c.tc : Thread Cert.GateBwdIdeal.nD Cert.GateBwdIdeal.τ).loc Cert.GateBwdIdeal.main_v0_1)),
      θ_run (Cert.GateBwdIdeal.defs (F := Ideal)) (onTc (τ := Cert.GateBwdIdeal.τ) (Cert.GateBwdIdeal.main (F := Ideal))) ⟨m, fun _ => 0, g⟩ (fun r => ∀ c : Dev Cert.GateBwdIdeal.nD,
          r.2.mem ((c.tc : Thread Cert.GateBwdIdeal.nD Cert.GateBwdIdeal.τ).loc Cert.GateBwdIdeal.main_v0_0) = v0 c
          ∧ r.2.mem ((c.tc : Thread Cert.GateBwdIdeal.nD Cert.GateBwdIdeal.τ).loc Cert.GateBwdIdeal.main_v0_1) = v1 c
          ∧ r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
          ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
          ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2))
      ∧ θ_run (Cert.RefGateBwdIdeal.defs (F := Ideal)) (onTc (τ := Cert.RefGateBwdIdeal.τ) (Cert.RefGateBwdIdeal.main (F := Ideal))) ⟨m', fun _ => 0, g'⟩ (fun r => ∀ c : Dev Cert.RefGateBwdIdeal.nD,
          r.2.mem ((c.tc : Thread Cert.RefGateBwdIdeal.nD Cert.RefGateBwdIdeal.τ).loc Cert.RefGateBwdIdeal.main_v41) = v0 c
          ∧ r.2.mem ((c.tc : Thread Cert.RefGateBwdIdeal.nD Cert.RefGateBwdIdeal.τ).loc Cert.RefGateBwdIdeal.main_v42) = v1 c
          ∧ r.2.mem ((c.tc : Thread Cert.RefGateBwdIdeal.nD Cert.RefGateBwdIdeal.τ).loc Cert.RefGateBwdIdeal.main_arg0) = m' ((c.tc : Thread Cert.RefGateBwdIdeal.nD Cert.RefGateBwdIdeal.τ).loc Cert.RefGateBwdIdeal.main_arg0)
          ∧ r.2.mem ((c.tc : Thread Cert.RefGateBwdIdeal.nD Cert.RefGateBwdIdeal.τ).loc Cert.RefGateBwdIdeal.main_arg1) = m' ((c.tc : Thread Cert.RefGateBwdIdeal.nD Cert.RefGateBwdIdeal.τ).loc Cert.RefGateBwdIdeal.main_arg1)
          ∧ r.2.mem ((c.tc : Thread Cert.RefGateBwdIdeal.nD Cert.RefGateBwdIdeal.τ).loc Cert.RefGateBwdIdeal.main_arg2) = m' ((c.tc : Thread Cert.RefGateBwdIdeal.nD Cert.RefGateBwdIdeal.τ).loc Cert.RefGateBwdIdeal.main_arg2))

def preserves_QNormBwd_QNormBwdIdeal : Prop :=
  True

def algebraic_QNormBwdIdeal_RefQNormBwdIdeal_pre_real_q_norm [hQNormBwdIdeal : Cert.QNormBwdIdeal.Facts] [hRefQNormBwdIdeal : Cert.RefQNormBwdIdeal.Facts] [hPre_real_q_norm : Cert.Pre_real_q_norm.Facts] : Prop :=
  ∀ (m : (ℓ : Loc Cert.QNormBwdIdeal.nD Cert.QNormBwdIdeal.τ Cert.QNormBwdIdeal.sig) → Buf (Elt Ideal) ℓ) (g : Dev Cert.QNormBwdIdeal.nD → PrngReg)
    (m' : (ℓ : Loc Cert.RefQNormBwdIdeal.nD Cert.RefQNormBwdIdeal.τ Cert.RefQNormBwdIdeal.sig) → Buf (Elt Ideal) ℓ) (g' : Dev Cert.RefQNormBwdIdeal.nD → PrngReg), Pre_QNormBwdIdeal_real_q_norm m →
    (∀ c : Dev Cert.QNormBwdIdeal.nD,
      m' ((c.tc : Thread Cert.RefQNormBwdIdeal.nD Cert.RefQNormBwdIdeal.τ).loc Cert.RefQNormBwdIdeal.main_arg0) = m ((c.tc : Thread Cert.QNormBwdIdeal.nD Cert.QNormBwdIdeal.τ).loc Cert.QNormBwdIdeal.main_arg0)
      ∧ m' ((c.tc : Thread Cert.RefQNormBwdIdeal.nD Cert.RefQNormBwdIdeal.τ).loc Cert.RefQNormBwdIdeal.main_arg1) = m ((c.tc : Thread Cert.QNormBwdIdeal.nD Cert.QNormBwdIdeal.τ).loc Cert.QNormBwdIdeal.main_arg1)
      ∧ m' ((c.tc : Thread Cert.RefQNormBwdIdeal.nD Cert.RefQNormBwdIdeal.τ).loc Cert.RefQNormBwdIdeal.main_arg2) = m ((c.tc : Thread Cert.QNormBwdIdeal.nD Cert.QNormBwdIdeal.τ).loc Cert.QNormBwdIdeal.main_arg2)) →
    ∃ (v0 : (c : Dev Cert.QNormBwdIdeal.nD) → Buf (Elt Ideal) ((c.tc : Thread Cert.QNormBwdIdeal.nD Cert.QNormBwdIdeal.τ).loc Cert.QNormBwdIdeal.main_v0_0)) (v1 : (c : Dev Cert.QNormBwdIdeal.nD) → Buf (Elt Ideal) ((c.tc : Thread Cert.QNormBwdIdeal.nD Cert.QNormBwdIdeal.τ).loc Cert.QNormBwdIdeal.main_v0_1)),
      θ_run (Cert.QNormBwdIdeal.defs (F := Ideal)) (onTc (τ := Cert.QNormBwdIdeal.τ) (Cert.QNormBwdIdeal.main (F := Ideal))) ⟨m, fun _ => 0, g⟩ (fun r => ∀ c : Dev Cert.QNormBwdIdeal.nD,
          r.2.mem ((c.tc : Thread Cert.QNormBwdIdeal.nD Cert.QNormBwdIdeal.τ).loc Cert.QNormBwdIdeal.main_v0_0) = v0 c
          ∧ r.2.mem ((c.tc : Thread Cert.QNormBwdIdeal.nD Cert.QNormBwdIdeal.τ).loc Cert.QNormBwdIdeal.main_v0_1) = v1 c
          ∧ r.2.mem ((c.tc : Thread Cert.QNormBwdIdeal.nD Cert.QNormBwdIdeal.τ).loc Cert.QNormBwdIdeal.main_arg0) = m ((c.tc : Thread Cert.QNormBwdIdeal.nD Cert.QNormBwdIdeal.τ).loc Cert.QNormBwdIdeal.main_arg0)
          ∧ r.2.mem ((c.tc : Thread Cert.QNormBwdIdeal.nD Cert.QNormBwdIdeal.τ).loc Cert.QNormBwdIdeal.main_arg1) = m ((c.tc : Thread Cert.QNormBwdIdeal.nD Cert.QNormBwdIdeal.τ).loc Cert.QNormBwdIdeal.main_arg1)
          ∧ r.2.mem ((c.tc : Thread Cert.QNormBwdIdeal.nD Cert.QNormBwdIdeal.τ).loc Cert.QNormBwdIdeal.main_arg2) = m ((c.tc : Thread Cert.QNormBwdIdeal.nD Cert.QNormBwdIdeal.τ).loc Cert.QNormBwdIdeal.main_arg2))
      ∧ θ_run (Cert.RefQNormBwdIdeal.defs (F := Ideal)) (onTc (τ := Cert.RefQNormBwdIdeal.τ) (Cert.RefQNormBwdIdeal.main (F := Ideal))) ⟨m', fun _ => 0, g'⟩ (fun r => ∀ c : Dev Cert.RefQNormBwdIdeal.nD,
          r.2.mem ((c.tc : Thread Cert.RefQNormBwdIdeal.nD Cert.RefQNormBwdIdeal.τ).loc Cert.RefQNormBwdIdeal.main_v38) = v0 c
          ∧ r.2.mem ((c.tc : Thread Cert.RefQNormBwdIdeal.nD Cert.RefQNormBwdIdeal.τ).loc Cert.RefQNormBwdIdeal.main_v24) = v1 c
          ∧ r.2.mem ((c.tc : Thread Cert.RefQNormBwdIdeal.nD Cert.RefQNormBwdIdeal.τ).loc Cert.RefQNormBwdIdeal.main_arg0) = m' ((c.tc : Thread Cert.RefQNormBwdIdeal.nD Cert.RefQNormBwdIdeal.τ).loc Cert.RefQNormBwdIdeal.main_arg0)
          ∧ r.2.mem ((c.tc : Thread Cert.RefQNormBwdIdeal.nD Cert.RefQNormBwdIdeal.τ).loc Cert.RefQNormBwdIdeal.main_arg1) = m' ((c.tc : Thread Cert.RefQNormBwdIdeal.nD Cert.RefQNormBwdIdeal.τ).loc Cert.RefQNormBwdIdeal.main_arg1)
          ∧ r.2.mem ((c.tc : Thread Cert.RefQNormBwdIdeal.nD Cert.RefQNormBwdIdeal.τ).loc Cert.RefQNormBwdIdeal.main_arg2) = m' ((c.tc : Thread Cert.RefQNormBwdIdeal.nD Cert.RefQNormBwdIdeal.τ).loc Cert.RefQNormBwdIdeal.main_arg2))

def preserves_KvNormBwd_KvNormBwdIdeal : Prop :=
  True

def algebraic_KvNormBwdIdeal_RefKvNormBwdIdeal_pre_real_kv_norm [hKvNormBwdIdeal : Cert.KvNormBwdIdeal.Facts] [hRefKvNormBwdIdeal : Cert.RefKvNormBwdIdeal.Facts] [hPre_real_kv_norm : Cert.Pre_real_kv_norm.Facts] : Prop :=
  ∀ (m : (ℓ : Loc Cert.KvNormBwdIdeal.nD Cert.KvNormBwdIdeal.τ Cert.KvNormBwdIdeal.sig) → Buf (Elt Ideal) ℓ) (g : Dev Cert.KvNormBwdIdeal.nD → PrngReg)
    (m' : (ℓ : Loc Cert.RefKvNormBwdIdeal.nD Cert.RefKvNormBwdIdeal.τ Cert.RefKvNormBwdIdeal.sig) → Buf (Elt Ideal) ℓ) (g' : Dev Cert.RefKvNormBwdIdeal.nD → PrngReg), Pre_KvNormBwdIdeal_real_kv_norm m →
    (∀ c : Dev Cert.KvNormBwdIdeal.nD,
      m' ((c.tc : Thread Cert.RefKvNormBwdIdeal.nD Cert.RefKvNormBwdIdeal.τ).loc Cert.RefKvNormBwdIdeal.main_arg0) = m ((c.tc : Thread Cert.KvNormBwdIdeal.nD Cert.KvNormBwdIdeal.τ).loc Cert.KvNormBwdIdeal.main_arg0)
      ∧ m' ((c.tc : Thread Cert.RefKvNormBwdIdeal.nD Cert.RefKvNormBwdIdeal.τ).loc Cert.RefKvNormBwdIdeal.main_arg1) = m ((c.tc : Thread Cert.KvNormBwdIdeal.nD Cert.KvNormBwdIdeal.τ).loc Cert.KvNormBwdIdeal.main_arg1)
      ∧ m' ((c.tc : Thread Cert.RefKvNormBwdIdeal.nD Cert.RefKvNormBwdIdeal.τ).loc Cert.RefKvNormBwdIdeal.main_arg2) = m ((c.tc : Thread Cert.KvNormBwdIdeal.nD Cert.KvNormBwdIdeal.τ).loc Cert.KvNormBwdIdeal.main_arg2)) →
    ∃ (v0 : (c : Dev Cert.KvNormBwdIdeal.nD) → Buf (Elt Ideal) ((c.tc : Thread Cert.KvNormBwdIdeal.nD Cert.KvNormBwdIdeal.τ).loc Cert.KvNormBwdIdeal.main_v0_0)) (v1 : (c : Dev Cert.KvNormBwdIdeal.nD) → Buf (Elt Ideal) ((c.tc : Thread Cert.KvNormBwdIdeal.nD Cert.KvNormBwdIdeal.τ).loc Cert.KvNormBwdIdeal.main_v0_1)),
      θ_run (Cert.KvNormBwdIdeal.defs (F := Ideal)) (onTc (τ := Cert.KvNormBwdIdeal.τ) (Cert.KvNormBwdIdeal.main (F := Ideal))) ⟨m, fun _ => 0, g⟩ (fun r => ∀ c : Dev Cert.KvNormBwdIdeal.nD,
          r.2.mem ((c.tc : Thread Cert.KvNormBwdIdeal.nD Cert.KvNormBwdIdeal.τ).loc Cert.KvNormBwdIdeal.main_v0_0) = v0 c
          ∧ r.2.mem ((c.tc : Thread Cert.KvNormBwdIdeal.nD Cert.KvNormBwdIdeal.τ).loc Cert.KvNormBwdIdeal.main_v0_1) = v1 c
          ∧ r.2.mem ((c.tc : Thread Cert.KvNormBwdIdeal.nD Cert.KvNormBwdIdeal.τ).loc Cert.KvNormBwdIdeal.main_arg0) = m ((c.tc : Thread Cert.KvNormBwdIdeal.nD Cert.KvNormBwdIdeal.τ).loc Cert.KvNormBwdIdeal.main_arg0)
          ∧ r.2.mem ((c.tc : Thread Cert.KvNormBwdIdeal.nD Cert.KvNormBwdIdeal.τ).loc Cert.KvNormBwdIdeal.main_arg1) = m ((c.tc : Thread Cert.KvNormBwdIdeal.nD Cert.KvNormBwdIdeal.τ).loc Cert.KvNormBwdIdeal.main_arg1)
          ∧ r.2.mem ((c.tc : Thread Cert.KvNormBwdIdeal.nD Cert.KvNormBwdIdeal.τ).loc Cert.KvNormBwdIdeal.main_arg2) = m ((c.tc : Thread Cert.KvNormBwdIdeal.nD Cert.KvNormBwdIdeal.τ).loc Cert.KvNormBwdIdeal.main_arg2))
      ∧ θ_run (Cert.RefKvNormBwdIdeal.defs (F := Ideal)) (onTc (τ := Cert.RefKvNormBwdIdeal.τ) (Cert.RefKvNormBwdIdeal.main (F := Ideal))) ⟨m', fun _ => 0, g'⟩ (fun r => ∀ c : Dev Cert.RefKvNormBwdIdeal.nD,
          r.2.mem ((c.tc : Thread Cert.RefKvNormBwdIdeal.nD Cert.RefKvNormBwdIdeal.τ).loc Cert.RefKvNormBwdIdeal.main_v38) = v0 c
          ∧ r.2.mem ((c.tc : Thread Cert.RefKvNormBwdIdeal.nD Cert.RefKvNormBwdIdeal.τ).loc Cert.RefKvNormBwdIdeal.main_v24) = v1 c
          ∧ r.2.mem ((c.tc : Thread Cert.RefKvNormBwdIdeal.nD Cert.RefKvNormBwdIdeal.τ).loc Cert.RefKvNormBwdIdeal.main_arg0) = m' ((c.tc : Thread Cert.RefKvNormBwdIdeal.nD Cert.RefKvNormBwdIdeal.τ).loc Cert.RefKvNormBwdIdeal.main_arg0)
          ∧ r.2.mem ((c.tc : Thread Cert.RefKvNormBwdIdeal.nD Cert.RefKvNormBwdIdeal.τ).loc Cert.RefKvNormBwdIdeal.main_arg1) = m' ((c.tc : Thread Cert.RefKvNormBwdIdeal.nD Cert.RefKvNormBwdIdeal.τ).loc Cert.RefKvNormBwdIdeal.main_arg1)
          ∧ r.2.mem ((c.tc : Thread Cert.RefKvNormBwdIdeal.nD Cert.RefKvNormBwdIdeal.τ).loc Cert.RefKvNormBwdIdeal.main_arg2) = m' ((c.tc : Thread Cert.RefKvNormBwdIdeal.nD Cert.RefKvNormBwdIdeal.τ).loc Cert.RefKvNormBwdIdeal.main_arg2))

def preserves_EvInDx_EvInDxIdeal : Prop :=
  True

def algebraic_EvInDxIdeal_RefEvInDxIdeal [hEvInDxIdeal : Cert.EvInDxIdeal.Facts] [hRefEvInDxIdeal : Cert.RefEvInDxIdeal.Facts] : Prop :=
  ∀ (m : (ℓ : Loc Cert.EvInDxIdeal.nD Cert.EvInDxIdeal.τ Cert.EvInDxIdeal.sig) → Buf (Elt Ideal) ℓ) (g : Dev Cert.EvInDxIdeal.nD → PrngReg)
    (m' : (ℓ : Loc Cert.RefEvInDxIdeal.nD Cert.RefEvInDxIdeal.τ Cert.RefEvInDxIdeal.sig) → Buf (Elt Ideal) ℓ) (g' : Dev Cert.RefEvInDxIdeal.nD → PrngReg), Pre_EvInDxIdeal m →
    (∀ c : Dev Cert.EvInDxIdeal.nD,
      m' ((c.tc : Thread Cert.RefEvInDxIdeal.nD Cert.RefEvInDxIdeal.τ).loc Cert.RefEvInDxIdeal.main_arg0) = m ((c.tc : Thread Cert.EvInDxIdeal.nD Cert.EvInDxIdeal.τ).loc Cert.EvInDxIdeal.main_arg0)
      ∧ m' ((c.tc : Thread Cert.RefEvInDxIdeal.nD Cert.RefEvInDxIdeal.τ).loc Cert.RefEvInDxIdeal.main_arg1) = m ((c.tc : Thread Cert.EvInDxIdeal.nD Cert.EvInDxIdeal.τ).loc Cert.EvInDxIdeal.main_arg1)) →
    ∃ (v0 : (c : Dev Cert.EvInDxIdeal.nD) → Buf (Elt Ideal) ((c.tc : Thread Cert.EvInDxIdeal.nD Cert.EvInDxIdeal.τ).loc Cert.EvInDxIdeal.main_v0)),
      θ_run (Cert.EvInDxIdeal.defs (F := Ideal)) (onTc (τ := Cert.EvInDxIdeal.τ) (Cert.EvInDxIdeal.main (F := Ideal))) ⟨m, fun _ => 0, g⟩ (fun r => ∀ c : Dev Cert.EvInDxIdeal.nD,
          r.2.mem ((c.tc : Thread Cert.EvInDxIdeal.nD Cert.EvInDxIdeal.τ).loc Cert.EvInDxIdeal.main_v0) = v0 c
          ∧ r.2.mem ((c.tc : Thread Cert.EvInDxIdeal.nD Cert.EvInDxIdeal.τ).loc Cert.EvInDxIdeal.main_arg0) = m ((c.tc : Thread Cert.EvInDxIdeal.nD Cert.EvInDxIdeal.τ).loc Cert.EvInDxIdeal.main_arg0)
          ∧ r.2.mem ((c.tc : Thread Cert.EvInDxIdeal.nD Cert.EvInDxIdeal.τ).loc Cert.EvInDxIdeal.main_arg1) = m ((c.tc : Thread Cert.EvInDxIdeal.nD Cert.EvInDxIdeal.τ).loc Cert.EvInDxIdeal.main_arg1))
      ∧ θ_run (Cert.RefEvInDxIdeal.defs (F := Ideal)) (onTc (τ := Cert.RefEvInDxIdeal.τ) (Cert.RefEvInDxIdeal.main (F := Ideal))) ⟨m', fun _ => 0, g'⟩ (fun r => ∀ c : Dev Cert.RefEvInDxIdeal.nD,
          r.2.mem ((c.tc : Thread Cert.RefEvInDxIdeal.nD Cert.RefEvInDxIdeal.τ).loc Cert.RefEvInDxIdeal.main_v3) = v0 c
          ∧ r.2.mem ((c.tc : Thread Cert.RefEvInDxIdeal.nD Cert.RefEvInDxIdeal.τ).loc Cert.RefEvInDxIdeal.main_arg0) = m' ((c.tc : Thread Cert.RefEvInDxIdeal.nD Cert.RefEvInDxIdeal.τ).loc Cert.RefEvInDxIdeal.main_arg0)
          ∧ r.2.mem ((c.tc : Thread Cert.RefEvInDxIdeal.nD Cert.RefEvInDxIdeal.τ).loc Cert.RefEvInDxIdeal.main_arg1) = m' ((c.tc : Thread Cert.RefEvInDxIdeal.nD Cert.RefEvInDxIdeal.τ).loc Cert.RefEvInDxIdeal.main_arg1))

def preserves_EvInDw_EvInDwIdeal : Prop :=
  True

def algebraic_EvInDwIdeal_RefEvInDwIdeal [hEvInDwIdeal : Cert.EvInDwIdeal.Facts] [hRefEvInDwIdeal : Cert.RefEvInDwIdeal.Facts] : Prop :=
  ∀ (m : (ℓ : Loc Cert.EvInDwIdeal.nD Cert.EvInDwIdeal.τ Cert.EvInDwIdeal.sig) → Buf (Elt Ideal) ℓ) (g : Dev Cert.EvInDwIdeal.nD → PrngReg)
    (m' : (ℓ : Loc Cert.RefEvInDwIdeal.nD Cert.RefEvInDwIdeal.τ Cert.RefEvInDwIdeal.sig) → Buf (Elt Ideal) ℓ) (g' : Dev Cert.RefEvInDwIdeal.nD → PrngReg), Pre_EvInDwIdeal m →
    (∀ c : Dev Cert.EvInDwIdeal.nD,
      m' ((c.tc : Thread Cert.RefEvInDwIdeal.nD Cert.RefEvInDwIdeal.τ).loc Cert.RefEvInDwIdeal.main_arg0) = m ((c.tc : Thread Cert.EvInDwIdeal.nD Cert.EvInDwIdeal.τ).loc Cert.EvInDwIdeal.main_arg0)
      ∧ m' ((c.tc : Thread Cert.RefEvInDwIdeal.nD Cert.RefEvInDwIdeal.τ).loc Cert.RefEvInDwIdeal.main_arg1) = m ((c.tc : Thread Cert.EvInDwIdeal.nD Cert.EvInDwIdeal.τ).loc Cert.EvInDwIdeal.main_arg1)) →
    ∃ (v0 : (c : Dev Cert.EvInDwIdeal.nD) → Buf (Elt Ideal) ((c.tc : Thread Cert.EvInDwIdeal.nD Cert.EvInDwIdeal.τ).loc Cert.EvInDwIdeal.main_v0)),
      θ_run (Cert.EvInDwIdeal.defs (F := Ideal)) (onTc (τ := Cert.EvInDwIdeal.τ) (Cert.EvInDwIdeal.main (F := Ideal))) ⟨m, fun _ => 0, g⟩ (fun r => ∀ c : Dev Cert.EvInDwIdeal.nD,
          r.2.mem ((c.tc : Thread Cert.EvInDwIdeal.nD Cert.EvInDwIdeal.τ).loc Cert.EvInDwIdeal.main_v0) = v0 c
          ∧ r.2.mem ((c.tc : Thread Cert.EvInDwIdeal.nD Cert.EvInDwIdeal.τ).loc Cert.EvInDwIdeal.main_arg0) = m ((c.tc : Thread Cert.EvInDwIdeal.nD Cert.EvInDwIdeal.τ).loc Cert.EvInDwIdeal.main_arg0)
          ∧ r.2.mem ((c.tc : Thread Cert.EvInDwIdeal.nD Cert.EvInDwIdeal.τ).loc Cert.EvInDwIdeal.main_arg1) = m ((c.tc : Thread Cert.EvInDwIdeal.nD Cert.EvInDwIdeal.τ).loc Cert.EvInDwIdeal.main_arg1))
      ∧ θ_run (Cert.RefEvInDwIdeal.defs (F := Ideal)) (onTc (τ := Cert.RefEvInDwIdeal.τ) (Cert.RefEvInDwIdeal.main (F := Ideal))) ⟨m', fun _ => 0, g'⟩ (fun r => ∀ c : Dev Cert.RefEvInDwIdeal.nD,
          r.2.mem ((c.tc : Thread Cert.RefEvInDwIdeal.nD Cert.RefEvInDwIdeal.τ).loc Cert.RefEvInDwIdeal.main_v5) = v0 c
          ∧ r.2.mem ((c.tc : Thread Cert.RefEvInDwIdeal.nD Cert.RefEvInDwIdeal.τ).loc Cert.RefEvInDwIdeal.main_arg0) = m' ((c.tc : Thread Cert.RefEvInDwIdeal.nD Cert.RefEvInDwIdeal.τ).loc Cert.RefEvInDwIdeal.main_arg0)
          ∧ r.2.mem ((c.tc : Thread Cert.RefEvInDwIdeal.nD Cert.RefEvInDwIdeal.τ).loc Cert.RefEvInDwIdeal.main_arg1) = m' ((c.tc : Thread Cert.RefEvInDwIdeal.nD Cert.RefEvInDwIdeal.τ).loc Cert.RefEvInDwIdeal.main_arg1))

def preserves_UqDx_UqDxIdeal : Prop :=
  True

def algebraic_UqDxIdeal_RefUqDxIdeal [hUqDxIdeal : Cert.UqDxIdeal.Facts] [hRefUqDxIdeal : Cert.RefUqDxIdeal.Facts] : Prop :=
  ∀ (m : (ℓ : Loc Cert.UqDxIdeal.nD Cert.UqDxIdeal.τ Cert.UqDxIdeal.sig) → Buf (Elt Ideal) ℓ) (g : Dev Cert.UqDxIdeal.nD → PrngReg)
    (m' : (ℓ : Loc Cert.RefUqDxIdeal.nD Cert.RefUqDxIdeal.τ Cert.RefUqDxIdeal.sig) → Buf (Elt Ideal) ℓ) (g' : Dev Cert.RefUqDxIdeal.nD → PrngReg), Pre_UqDxIdeal m →
    (∀ c : Dev Cert.UqDxIdeal.nD,
      m' ((c.tc : Thread Cert.RefUqDxIdeal.nD Cert.RefUqDxIdeal.τ).loc Cert.RefUqDxIdeal.main_arg0) = m ((c.tc : Thread Cert.UqDxIdeal.nD Cert.UqDxIdeal.τ).loc Cert.UqDxIdeal.main_arg0)
      ∧ m' ((c.tc : Thread Cert.RefUqDxIdeal.nD Cert.RefUqDxIdeal.τ).loc Cert.RefUqDxIdeal.main_arg1) = m ((c.tc : Thread Cert.UqDxIdeal.nD Cert.UqDxIdeal.τ).loc Cert.UqDxIdeal.main_arg1)) →
    ∃ (v0 : (c : Dev Cert.UqDxIdeal.nD) → Buf (Elt Ideal) ((c.tc : Thread Cert.UqDxIdeal.nD Cert.UqDxIdeal.τ).loc Cert.UqDxIdeal.main_v0)),
      θ_run (Cert.UqDxIdeal.defs (F := Ideal)) (onTc (τ := Cert.UqDxIdeal.τ) (Cert.UqDxIdeal.main (F := Ideal))) ⟨m, fun _ => 0, g⟩ (fun r => ∀ c : Dev Cert.UqDxIdeal.nD,
          r.2.mem ((c.tc : Thread Cert.UqDxIdeal.nD Cert.UqDxIdeal.τ).loc Cert.UqDxIdeal.main_v0) = v0 c
          ∧ r.2.mem ((c.tc : Thread Cert.UqDxIdeal.nD Cert.UqDxIdeal.τ).loc Cert.UqDxIdeal.main_arg0) = m ((c.tc : Thread Cert.UqDxIdeal.nD Cert.UqDxIdeal.τ).loc Cert.UqDxIdeal.main_arg0)
          ∧ r.2.mem ((c.tc : Thread Cert.UqDxIdeal.nD Cert.UqDxIdeal.τ).loc Cert.UqDxIdeal.main_arg1) = m ((c.tc : Thread Cert.UqDxIdeal.nD Cert.UqDxIdeal.τ).loc Cert.UqDxIdeal.main_arg1))
      ∧ θ_run (Cert.RefUqDxIdeal.defs (F := Ideal)) (onTc (τ := Cert.RefUqDxIdeal.τ) (Cert.RefUqDxIdeal.main (F := Ideal))) ⟨m', fun _ => 0, g'⟩ (fun r => ∀ c : Dev Cert.RefUqDxIdeal.nD,
          r.2.mem ((c.tc : Thread Cert.RefUqDxIdeal.nD Cert.RefUqDxIdeal.τ).loc Cert.RefUqDxIdeal.main_v4) = v0 c
          ∧ r.2.mem ((c.tc : Thread Cert.RefUqDxIdeal.nD Cert.RefUqDxIdeal.τ).loc Cert.RefUqDxIdeal.main_arg0) = m' ((c.tc : Thread Cert.RefUqDxIdeal.nD Cert.RefUqDxIdeal.τ).loc Cert.RefUqDxIdeal.main_arg0)
          ∧ r.2.mem ((c.tc : Thread Cert.RefUqDxIdeal.nD Cert.RefUqDxIdeal.τ).loc Cert.RefUqDxIdeal.main_arg1) = m' ((c.tc : Thread Cert.RefUqDxIdeal.nD Cert.RefUqDxIdeal.τ).loc Cert.RefUqDxIdeal.main_arg1))

def preserves_UqDw_UqDwIdeal : Prop :=
  True

def algebraic_UqDwIdeal_RefUqDwIdeal [hUqDwIdeal : Cert.UqDwIdeal.Facts] [hRefUqDwIdeal : Cert.RefUqDwIdeal.Facts] : Prop :=
  ∀ (m : (ℓ : Loc Cert.UqDwIdeal.nD Cert.UqDwIdeal.τ Cert.UqDwIdeal.sig) → Buf (Elt Ideal) ℓ) (g : Dev Cert.UqDwIdeal.nD → PrngReg)
    (m' : (ℓ : Loc Cert.RefUqDwIdeal.nD Cert.RefUqDwIdeal.τ Cert.RefUqDwIdeal.sig) → Buf (Elt Ideal) ℓ) (g' : Dev Cert.RefUqDwIdeal.nD → PrngReg), Pre_UqDwIdeal m →
    (∀ c : Dev Cert.UqDwIdeal.nD,
      m' ((c.tc : Thread Cert.RefUqDwIdeal.nD Cert.RefUqDwIdeal.τ).loc Cert.RefUqDwIdeal.main_arg0) = m ((c.tc : Thread Cert.UqDwIdeal.nD Cert.UqDwIdeal.τ).loc Cert.UqDwIdeal.main_arg0)
      ∧ m' ((c.tc : Thread Cert.RefUqDwIdeal.nD Cert.RefUqDwIdeal.τ).loc Cert.RefUqDwIdeal.main_arg1) = m ((c.tc : Thread Cert.UqDwIdeal.nD Cert.UqDwIdeal.τ).loc Cert.UqDwIdeal.main_arg1)) →
    ∃ (v0 : (c : Dev Cert.UqDwIdeal.nD) → Buf (Elt Ideal) ((c.tc : Thread Cert.UqDwIdeal.nD Cert.UqDwIdeal.τ).loc Cert.UqDwIdeal.main_v0)),
      θ_run (Cert.UqDwIdeal.defs (F := Ideal)) (onTc (τ := Cert.UqDwIdeal.τ) (Cert.UqDwIdeal.main (F := Ideal))) ⟨m, fun _ => 0, g⟩ (fun r => ∀ c : Dev Cert.UqDwIdeal.nD,
          r.2.mem ((c.tc : Thread Cert.UqDwIdeal.nD Cert.UqDwIdeal.τ).loc Cert.UqDwIdeal.main_v0) = v0 c
          ∧ r.2.mem ((c.tc : Thread Cert.UqDwIdeal.nD Cert.UqDwIdeal.τ).loc Cert.UqDwIdeal.main_arg0) = m ((c.tc : Thread Cert.UqDwIdeal.nD Cert.UqDwIdeal.τ).loc Cert.UqDwIdeal.main_arg0)
          ∧ r.2.mem ((c.tc : Thread Cert.UqDwIdeal.nD Cert.UqDwIdeal.τ).loc Cert.UqDwIdeal.main_arg1) = m ((c.tc : Thread Cert.UqDwIdeal.nD Cert.UqDwIdeal.τ).loc Cert.UqDwIdeal.main_arg1))
      ∧ θ_run (Cert.RefUqDwIdeal.defs (F := Ideal)) (onTc (τ := Cert.RefUqDwIdeal.τ) (Cert.RefUqDwIdeal.main (F := Ideal))) ⟨m', fun _ => 0, g'⟩ (fun r => ∀ c : Dev Cert.RefUqDwIdeal.nD,
          r.2.mem ((c.tc : Thread Cert.RefUqDwIdeal.nD Cert.RefUqDwIdeal.τ).loc Cert.RefUqDwIdeal.main_v6) = v0 c
          ∧ r.2.mem ((c.tc : Thread Cert.RefUqDwIdeal.nD Cert.RefUqDwIdeal.τ).loc Cert.RefUqDwIdeal.main_arg0) = m' ((c.tc : Thread Cert.RefUqDwIdeal.nD Cert.RefUqDwIdeal.τ).loc Cert.RefUqDwIdeal.main_arg0)
          ∧ r.2.mem ((c.tc : Thread Cert.RefUqDwIdeal.nD Cert.RefUqDwIdeal.τ).loc Cert.RefUqDwIdeal.main_arg1) = m' ((c.tc : Thread Cert.RefUqDwIdeal.nD Cert.RefUqDwIdeal.τ).loc Cert.RefUqDwIdeal.main_arg1))

def preserves_UkvDx_UkvDxIdeal : Prop :=
  True

def algebraic_UkvDxIdeal_RefUkvDxIdeal [hUkvDxIdeal : Cert.UkvDxIdeal.Facts] [hRefUkvDxIdeal : Cert.RefUkvDxIdeal.Facts] : Prop :=
  ∀ (m : (ℓ : Loc Cert.UkvDxIdeal.nD Cert.UkvDxIdeal.τ Cert.UkvDxIdeal.sig) → Buf (Elt Ideal) ℓ) (g : Dev Cert.UkvDxIdeal.nD → PrngReg)
    (m' : (ℓ : Loc Cert.RefUkvDxIdeal.nD Cert.RefUkvDxIdeal.τ Cert.RefUkvDxIdeal.sig) → Buf (Elt Ideal) ℓ) (g' : Dev Cert.RefUkvDxIdeal.nD → PrngReg), Pre_UkvDxIdeal m →
    (∀ c : Dev Cert.UkvDxIdeal.nD,
      m' ((c.tc : Thread Cert.RefUkvDxIdeal.nD Cert.RefUkvDxIdeal.τ).loc Cert.RefUkvDxIdeal.main_arg0) = m ((c.tc : Thread Cert.UkvDxIdeal.nD Cert.UkvDxIdeal.τ).loc Cert.UkvDxIdeal.main_arg0)
      ∧ m' ((c.tc : Thread Cert.RefUkvDxIdeal.nD Cert.RefUkvDxIdeal.τ).loc Cert.RefUkvDxIdeal.main_arg1) = m ((c.tc : Thread Cert.UkvDxIdeal.nD Cert.UkvDxIdeal.τ).loc Cert.UkvDxIdeal.main_arg1)) →
    ∃ (v0 : (c : Dev Cert.UkvDxIdeal.nD) → Buf (Elt Ideal) ((c.tc : Thread Cert.UkvDxIdeal.nD Cert.UkvDxIdeal.τ).loc Cert.UkvDxIdeal.main_v0)),
      θ_run (Cert.UkvDxIdeal.defs (F := Ideal)) (onTc (τ := Cert.UkvDxIdeal.τ) (Cert.UkvDxIdeal.main (F := Ideal))) ⟨m, fun _ => 0, g⟩ (fun r => ∀ c : Dev Cert.UkvDxIdeal.nD,
          r.2.mem ((c.tc : Thread Cert.UkvDxIdeal.nD Cert.UkvDxIdeal.τ).loc Cert.UkvDxIdeal.main_v0) = v0 c
          ∧ r.2.mem ((c.tc : Thread Cert.UkvDxIdeal.nD Cert.UkvDxIdeal.τ).loc Cert.UkvDxIdeal.main_arg0) = m ((c.tc : Thread Cert.UkvDxIdeal.nD Cert.UkvDxIdeal.τ).loc Cert.UkvDxIdeal.main_arg0)
          ∧ r.2.mem ((c.tc : Thread Cert.UkvDxIdeal.nD Cert.UkvDxIdeal.τ).loc Cert.UkvDxIdeal.main_arg1) = m ((c.tc : Thread Cert.UkvDxIdeal.nD Cert.UkvDxIdeal.τ).loc Cert.UkvDxIdeal.main_arg1))
      ∧ θ_run (Cert.RefUkvDxIdeal.defs (F := Ideal)) (onTc (τ := Cert.RefUkvDxIdeal.τ) (Cert.RefUkvDxIdeal.main (F := Ideal))) ⟨m', fun _ => 0, g'⟩ (fun r => ∀ c : Dev Cert.RefUkvDxIdeal.nD,
          r.2.mem ((c.tc : Thread Cert.RefUkvDxIdeal.nD Cert.RefUkvDxIdeal.τ).loc Cert.RefUkvDxIdeal.main_v4) = v0 c
          ∧ r.2.mem ((c.tc : Thread Cert.RefUkvDxIdeal.nD Cert.RefUkvDxIdeal.τ).loc Cert.RefUkvDxIdeal.main_arg0) = m' ((c.tc : Thread Cert.RefUkvDxIdeal.nD Cert.RefUkvDxIdeal.τ).loc Cert.RefUkvDxIdeal.main_arg0)
          ∧ r.2.mem ((c.tc : Thread Cert.RefUkvDxIdeal.nD Cert.RefUkvDxIdeal.τ).loc Cert.RefUkvDxIdeal.main_arg1) = m' ((c.tc : Thread Cert.RefUkvDxIdeal.nD Cert.RefUkvDxIdeal.τ).loc Cert.RefUkvDxIdeal.main_arg1))

def preserves_UkvDw_UkvDwIdeal : Prop :=
  True

def algebraic_UkvDwIdeal_RefUkvDwIdeal [hUkvDwIdeal : Cert.UkvDwIdeal.Facts] [hRefUkvDwIdeal : Cert.RefUkvDwIdeal.Facts] : Prop :=
  ∀ (m : (ℓ : Loc Cert.UkvDwIdeal.nD Cert.UkvDwIdeal.τ Cert.UkvDwIdeal.sig) → Buf (Elt Ideal) ℓ) (g : Dev Cert.UkvDwIdeal.nD → PrngReg)
    (m' : (ℓ : Loc Cert.RefUkvDwIdeal.nD Cert.RefUkvDwIdeal.τ Cert.RefUkvDwIdeal.sig) → Buf (Elt Ideal) ℓ) (g' : Dev Cert.RefUkvDwIdeal.nD → PrngReg), Pre_UkvDwIdeal m →
    (∀ c : Dev Cert.UkvDwIdeal.nD,
      m' ((c.tc : Thread Cert.RefUkvDwIdeal.nD Cert.RefUkvDwIdeal.τ).loc Cert.RefUkvDwIdeal.main_arg0) = m ((c.tc : Thread Cert.UkvDwIdeal.nD Cert.UkvDwIdeal.τ).loc Cert.UkvDwIdeal.main_arg0)
      ∧ m' ((c.tc : Thread Cert.RefUkvDwIdeal.nD Cert.RefUkvDwIdeal.τ).loc Cert.RefUkvDwIdeal.main_arg1) = m ((c.tc : Thread Cert.UkvDwIdeal.nD Cert.UkvDwIdeal.τ).loc Cert.UkvDwIdeal.main_arg1)) →
    ∃ (v0 : (c : Dev Cert.UkvDwIdeal.nD) → Buf (Elt Ideal) ((c.tc : Thread Cert.UkvDwIdeal.nD Cert.UkvDwIdeal.τ).loc Cert.UkvDwIdeal.main_v0)),
      θ_run (Cert.UkvDwIdeal.defs (F := Ideal)) (onTc (τ := Cert.UkvDwIdeal.τ) (Cert.UkvDwIdeal.main (F := Ideal))) ⟨m, fun _ => 0, g⟩ (fun r => ∀ c : Dev Cert.UkvDwIdeal.nD,
          r.2.mem ((c.tc : Thread Cert.UkvDwIdeal.nD Cert.UkvDwIdeal.τ).loc Cert.UkvDwIdeal.main_v0) = v0 c
          ∧ r.2.mem ((c.tc : Thread Cert.UkvDwIdeal.nD Cert.UkvDwIdeal.τ).loc Cert.UkvDwIdeal.main_arg0) = m ((c.tc : Thread Cert.UkvDwIdeal.nD Cert.UkvDwIdeal.τ).loc Cert.UkvDwIdeal.main_arg0)
          ∧ r.2.mem ((c.tc : Thread Cert.UkvDwIdeal.nD Cert.UkvDwIdeal.τ).loc Cert.UkvDwIdeal.main_arg1) = m ((c.tc : Thread Cert.UkvDwIdeal.nD Cert.UkvDwIdeal.τ).loc Cert.UkvDwIdeal.main_arg1))
      ∧ θ_run (Cert.RefUkvDwIdeal.defs (F := Ideal)) (onTc (τ := Cert.RefUkvDwIdeal.τ) (Cert.RefUkvDwIdeal.main (F := Ideal))) ⟨m', fun _ => 0, g'⟩ (fun r => ∀ c : Dev Cert.RefUkvDwIdeal.nD,
          r.2.mem ((c.tc : Thread Cert.RefUkvDwIdeal.nD Cert.RefUkvDwIdeal.τ).loc Cert.RefUkvDwIdeal.main_v6) = v0 c
          ∧ r.2.mem ((c.tc : Thread Cert.RefUkvDwIdeal.nD Cert.RefUkvDwIdeal.τ).loc Cert.RefUkvDwIdeal.main_arg0) = m' ((c.tc : Thread Cert.RefUkvDwIdeal.nD Cert.RefUkvDwIdeal.τ).loc Cert.RefUkvDwIdeal.main_arg0)
          ∧ r.2.mem ((c.tc : Thread Cert.RefUkvDwIdeal.nD Cert.RefUkvDwIdeal.τ).loc Cert.RefUkvDwIdeal.main_arg1) = m' ((c.tc : Thread Cert.RefUkvDwIdeal.nD Cert.RefUkvDwIdeal.τ).loc Cert.RefUkvDwIdeal.main_arg1))

def preserves_EvOutDx_EvOutDxIdeal : Prop :=
  True

def algebraic_EvOutDxIdeal_RefEvOutDxIdeal [hEvOutDxIdeal : Cert.EvOutDxIdeal.Facts] [hRefEvOutDxIdeal : Cert.RefEvOutDxIdeal.Facts] : Prop :=
  ∀ (m : (ℓ : Loc Cert.EvOutDxIdeal.nD Cert.EvOutDxIdeal.τ Cert.EvOutDxIdeal.sig) → Buf (Elt Ideal) ℓ) (g : Dev Cert.EvOutDxIdeal.nD → PrngReg)
    (m' : (ℓ : Loc Cert.RefEvOutDxIdeal.nD Cert.RefEvOutDxIdeal.τ Cert.RefEvOutDxIdeal.sig) → Buf (Elt Ideal) ℓ) (g' : Dev Cert.RefEvOutDxIdeal.nD → PrngReg), Pre_EvOutDxIdeal m →
    (∀ c : Dev Cert.EvOutDxIdeal.nD,
      m' ((c.tc : Thread Cert.RefEvOutDxIdeal.nD Cert.RefEvOutDxIdeal.τ).loc Cert.RefEvOutDxIdeal.main_arg0) = m ((c.tc : Thread Cert.EvOutDxIdeal.nD Cert.EvOutDxIdeal.τ).loc Cert.EvOutDxIdeal.main_arg0)
      ∧ m' ((c.tc : Thread Cert.RefEvOutDxIdeal.nD Cert.RefEvOutDxIdeal.τ).loc Cert.RefEvOutDxIdeal.main_arg1) = m ((c.tc : Thread Cert.EvOutDxIdeal.nD Cert.EvOutDxIdeal.τ).loc Cert.EvOutDxIdeal.main_arg1)) →
    ∃ (v0 : (c : Dev Cert.EvOutDxIdeal.nD) → Buf (Elt Ideal) ((c.tc : Thread Cert.EvOutDxIdeal.nD Cert.EvOutDxIdeal.τ).loc Cert.EvOutDxIdeal.main_v0)),
      θ_run (Cert.EvOutDxIdeal.defs (F := Ideal)) (onTc (τ := Cert.EvOutDxIdeal.τ) (Cert.EvOutDxIdeal.main (F := Ideal))) ⟨m, fun _ => 0, g⟩ (fun r => ∀ c : Dev Cert.EvOutDxIdeal.nD,
          r.2.mem ((c.tc : Thread Cert.EvOutDxIdeal.nD Cert.EvOutDxIdeal.τ).loc Cert.EvOutDxIdeal.main_v0) = v0 c
          ∧ r.2.mem ((c.tc : Thread Cert.EvOutDxIdeal.nD Cert.EvOutDxIdeal.τ).loc Cert.EvOutDxIdeal.main_arg0) = m ((c.tc : Thread Cert.EvOutDxIdeal.nD Cert.EvOutDxIdeal.τ).loc Cert.EvOutDxIdeal.main_arg0)
          ∧ r.2.mem ((c.tc : Thread Cert.EvOutDxIdeal.nD Cert.EvOutDxIdeal.τ).loc Cert.EvOutDxIdeal.main_arg1) = m ((c.tc : Thread Cert.EvOutDxIdeal.nD Cert.EvOutDxIdeal.τ).loc Cert.EvOutDxIdeal.main_arg1))
      ∧ θ_run (Cert.RefEvOutDxIdeal.defs (F := Ideal)) (onTc (τ := Cert.RefEvOutDxIdeal.τ) (Cert.RefEvOutDxIdeal.main (F := Ideal))) ⟨m', fun _ => 0, g'⟩ (fun r => ∀ c : Dev Cert.RefEvOutDxIdeal.nD,
          r.2.mem ((c.tc : Thread Cert.RefEvOutDxIdeal.nD Cert.RefEvOutDxIdeal.τ).loc Cert.RefEvOutDxIdeal.main_v3) = v0 c
          ∧ r.2.mem ((c.tc : Thread Cert.RefEvOutDxIdeal.nD Cert.RefEvOutDxIdeal.τ).loc Cert.RefEvOutDxIdeal.main_arg0) = m' ((c.tc : Thread Cert.RefEvOutDxIdeal.nD Cert.RefEvOutDxIdeal.τ).loc Cert.RefEvOutDxIdeal.main_arg0)
          ∧ r.2.mem ((c.tc : Thread Cert.RefEvOutDxIdeal.nD Cert.RefEvOutDxIdeal.τ).loc Cert.RefEvOutDxIdeal.main_arg1) = m' ((c.tc : Thread Cert.RefEvOutDxIdeal.nD Cert.RefEvOutDxIdeal.τ).loc Cert.RefEvOutDxIdeal.main_arg1))

def preserves_EvOutDw_EvOutDwIdeal : Prop :=
  True

def algebraic_EvOutDwIdeal_RefEvOutDwIdeal [hEvOutDwIdeal : Cert.EvOutDwIdeal.Facts] [hRefEvOutDwIdeal : Cert.RefEvOutDwIdeal.Facts] : Prop :=
  ∀ (m : (ℓ : Loc Cert.EvOutDwIdeal.nD Cert.EvOutDwIdeal.τ Cert.EvOutDwIdeal.sig) → Buf (Elt Ideal) ℓ) (g : Dev Cert.EvOutDwIdeal.nD → PrngReg)
    (m' : (ℓ : Loc Cert.RefEvOutDwIdeal.nD Cert.RefEvOutDwIdeal.τ Cert.RefEvOutDwIdeal.sig) → Buf (Elt Ideal) ℓ) (g' : Dev Cert.RefEvOutDwIdeal.nD → PrngReg), Pre_EvOutDwIdeal m →
    (∀ c : Dev Cert.EvOutDwIdeal.nD,
      m' ((c.tc : Thread Cert.RefEvOutDwIdeal.nD Cert.RefEvOutDwIdeal.τ).loc Cert.RefEvOutDwIdeal.main_arg0) = m ((c.tc : Thread Cert.EvOutDwIdeal.nD Cert.EvOutDwIdeal.τ).loc Cert.EvOutDwIdeal.main_arg0)
      ∧ m' ((c.tc : Thread Cert.RefEvOutDwIdeal.nD Cert.RefEvOutDwIdeal.τ).loc Cert.RefEvOutDwIdeal.main_arg1) = m ((c.tc : Thread Cert.EvOutDwIdeal.nD Cert.EvOutDwIdeal.τ).loc Cert.EvOutDwIdeal.main_arg1)) →
    ∃ (v0 : (c : Dev Cert.EvOutDwIdeal.nD) → Buf (Elt Ideal) ((c.tc : Thread Cert.EvOutDwIdeal.nD Cert.EvOutDwIdeal.τ).loc Cert.EvOutDwIdeal.main_v0)),
      θ_run (Cert.EvOutDwIdeal.defs (F := Ideal)) (onTc (τ := Cert.EvOutDwIdeal.τ) (Cert.EvOutDwIdeal.main (F := Ideal))) ⟨m, fun _ => 0, g⟩ (fun r => ∀ c : Dev Cert.EvOutDwIdeal.nD,
          r.2.mem ((c.tc : Thread Cert.EvOutDwIdeal.nD Cert.EvOutDwIdeal.τ).loc Cert.EvOutDwIdeal.main_v0) = v0 c
          ∧ r.2.mem ((c.tc : Thread Cert.EvOutDwIdeal.nD Cert.EvOutDwIdeal.τ).loc Cert.EvOutDwIdeal.main_arg0) = m ((c.tc : Thread Cert.EvOutDwIdeal.nD Cert.EvOutDwIdeal.τ).loc Cert.EvOutDwIdeal.main_arg0)
          ∧ r.2.mem ((c.tc : Thread Cert.EvOutDwIdeal.nD Cert.EvOutDwIdeal.τ).loc Cert.EvOutDwIdeal.main_arg1) = m ((c.tc : Thread Cert.EvOutDwIdeal.nD Cert.EvOutDwIdeal.τ).loc Cert.EvOutDwIdeal.main_arg1))
      ∧ θ_run (Cert.RefEvOutDwIdeal.defs (F := Ideal)) (onTc (τ := Cert.RefEvOutDwIdeal.τ) (Cert.RefEvOutDwIdeal.main (F := Ideal))) ⟨m', fun _ => 0, g'⟩ (fun r => ∀ c : Dev Cert.RefEvOutDwIdeal.nD,
          r.2.mem ((c.tc : Thread Cert.RefEvOutDwIdeal.nD Cert.RefEvOutDwIdeal.τ).loc Cert.RefEvOutDwIdeal.main_v5) = v0 c
          ∧ r.2.mem ((c.tc : Thread Cert.RefEvOutDwIdeal.nD Cert.RefEvOutDwIdeal.τ).loc Cert.RefEvOutDwIdeal.main_arg0) = m' ((c.tc : Thread Cert.RefEvOutDwIdeal.nD Cert.RefEvOutDwIdeal.τ).loc Cert.RefEvOutDwIdeal.main_arg0)
          ∧ r.2.mem ((c.tc : Thread Cert.RefEvOutDwIdeal.nD Cert.RefEvOutDwIdeal.τ).loc Cert.RefEvOutDwIdeal.main_arg1) = m' ((c.tc : Thread Cert.RefEvOutDwIdeal.nD Cert.RefEvOutDwIdeal.τ).loc Cert.RefEvOutDwIdeal.main_arg1))

def preserves_W1Fwd_W1FwdIdeal : Prop :=
  True

def algebraic_W1FwdIdeal_RefW1FwdIdeal [hW1FwdIdeal : Cert.W1FwdIdeal.Facts] [hRefW1FwdIdeal : Cert.RefW1FwdIdeal.Facts] : Prop :=
  ∀ (m : (ℓ : Loc Cert.W1FwdIdeal.nD Cert.W1FwdIdeal.τ Cert.W1FwdIdeal.sig) → Buf (Elt Ideal) ℓ) (g : Dev Cert.W1FwdIdeal.nD → PrngReg)
    (m' : (ℓ : Loc Cert.RefW1FwdIdeal.nD Cert.RefW1FwdIdeal.τ Cert.RefW1FwdIdeal.sig) → Buf (Elt Ideal) ℓ) (g' : Dev Cert.RefW1FwdIdeal.nD → PrngReg), Pre_W1FwdIdeal m →
    (∀ c : Dev Cert.W1FwdIdeal.nD,
      m' ((c.tc : Thread Cert.RefW1FwdIdeal.nD Cert.RefW1FwdIdeal.τ).loc Cert.RefW1FwdIdeal.main_arg0) = m ((c.tc : Thread Cert.W1FwdIdeal.nD Cert.W1FwdIdeal.τ).loc Cert.W1FwdIdeal.main_arg0)
      ∧ m' ((c.tc : Thread Cert.RefW1FwdIdeal.nD Cert.RefW1FwdIdeal.τ).loc Cert.RefW1FwdIdeal.main_arg1) = m ((c.tc : Thread Cert.W1FwdIdeal.nD Cert.W1FwdIdeal.τ).loc Cert.W1FwdIdeal.main_arg1)) →
    ∃ (v0 : (c : Dev Cert.W1FwdIdeal.nD) → Buf (Elt Ideal) ((c.tc : Thread Cert.W1FwdIdeal.nD Cert.W1FwdIdeal.τ).loc Cert.W1FwdIdeal.main_v0)),
      θ_run (Cert.W1FwdIdeal.defs (F := Ideal)) (onTc (τ := Cert.W1FwdIdeal.τ) (Cert.W1FwdIdeal.main (F := Ideal))) ⟨m, fun _ => 0, g⟩ (fun r => ∀ c : Dev Cert.W1FwdIdeal.nD,
          r.2.mem ((c.tc : Thread Cert.W1FwdIdeal.nD Cert.W1FwdIdeal.τ).loc Cert.W1FwdIdeal.main_v0) = v0 c
          ∧ r.2.mem ((c.tc : Thread Cert.W1FwdIdeal.nD Cert.W1FwdIdeal.τ).loc Cert.W1FwdIdeal.main_arg0) = m ((c.tc : Thread Cert.W1FwdIdeal.nD Cert.W1FwdIdeal.τ).loc Cert.W1FwdIdeal.main_arg0)
          ∧ r.2.mem ((c.tc : Thread Cert.W1FwdIdeal.nD Cert.W1FwdIdeal.τ).loc Cert.W1FwdIdeal.main_arg1) = m ((c.tc : Thread Cert.W1FwdIdeal.nD Cert.W1FwdIdeal.τ).loc Cert.W1FwdIdeal.main_arg1))
      ∧ θ_run (Cert.RefW1FwdIdeal.defs (F := Ideal)) (onTc (τ := Cert.RefW1FwdIdeal.τ) (Cert.RefW1FwdIdeal.main (F := Ideal))) ⟨m', fun _ => 0, g'⟩ (fun r => ∀ c : Dev Cert.RefW1FwdIdeal.nD,
          r.2.mem ((c.tc : Thread Cert.RefW1FwdIdeal.nD Cert.RefW1FwdIdeal.τ).loc Cert.RefW1FwdIdeal.main_v4) = v0 c
          ∧ r.2.mem ((c.tc : Thread Cert.RefW1FwdIdeal.nD Cert.RefW1FwdIdeal.τ).loc Cert.RefW1FwdIdeal.main_arg0) = m' ((c.tc : Thread Cert.RefW1FwdIdeal.nD Cert.RefW1FwdIdeal.τ).loc Cert.RefW1FwdIdeal.main_arg0)
          ∧ r.2.mem ((c.tc : Thread Cert.RefW1FwdIdeal.nD Cert.RefW1FwdIdeal.τ).loc Cert.RefW1FwdIdeal.main_arg1) = m' ((c.tc : Thread Cert.RefW1FwdIdeal.nD Cert.RefW1FwdIdeal.τ).loc Cert.RefW1FwdIdeal.main_arg1))

def preserves_W2NormFwd_W2NormFwdIdeal : Prop :=
  IdealRules.named_const.Statement Cert.W2NormFwdIdeal.κ "alpha" .f32 0x3FB504F3#32 ((Real.sqrt 2 : ℝ) : EReal)

def algebraic_W2NormFwdIdeal_RefW2NormFwdIdeal [hW2NormFwdIdeal : Cert.W2NormFwdIdeal.Facts] [hRefW2NormFwdIdeal : Cert.RefW2NormFwdIdeal.Facts] : Prop :=
  ∀ (m : (ℓ : Loc Cert.W2NormFwdIdeal.nD Cert.W2NormFwdIdeal.τ Cert.W2NormFwdIdeal.sig) → Buf (Elt Ideal) ℓ) (g : Dev Cert.W2NormFwdIdeal.nD → PrngReg)
    (m' : (ℓ : Loc Cert.RefW2NormFwdIdeal.nD Cert.RefW2NormFwdIdeal.τ Cert.RefW2NormFwdIdeal.sig) → Buf (Elt Ideal) ℓ) (g' : Dev Cert.RefW2NormFwdIdeal.nD → PrngReg), Pre_W2NormFwdIdeal m →
    (∀ c : Dev Cert.W2NormFwdIdeal.nD,
      m' ((c.tc : Thread Cert.RefW2NormFwdIdeal.nD Cert.RefW2NormFwdIdeal.τ).loc Cert.RefW2NormFwdIdeal.main_arg0) = m ((c.tc : Thread Cert.W2NormFwdIdeal.nD Cert.W2NormFwdIdeal.τ).loc Cert.W2NormFwdIdeal.main_arg0)
      ∧ m' ((c.tc : Thread Cert.RefW2NormFwdIdeal.nD Cert.RefW2NormFwdIdeal.τ).loc Cert.RefW2NormFwdIdeal.main_arg1) = m ((c.tc : Thread Cert.W2NormFwdIdeal.nD Cert.W2NormFwdIdeal.τ).loc Cert.W2NormFwdIdeal.main_arg1)
      ∧ m' ((c.tc : Thread Cert.RefW2NormFwdIdeal.nD Cert.RefW2NormFwdIdeal.τ).loc Cert.RefW2NormFwdIdeal.main_arg2) = m ((c.tc : Thread Cert.W2NormFwdIdeal.nD Cert.W2NormFwdIdeal.τ).loc Cert.W2NormFwdIdeal.main_arg2)
      ∧ m' ((c.tc : Thread Cert.RefW2NormFwdIdeal.nD Cert.RefW2NormFwdIdeal.τ).loc Cert.RefW2NormFwdIdeal.main_arg3) = m ((c.tc : Thread Cert.W2NormFwdIdeal.nD Cert.W2NormFwdIdeal.τ).loc Cert.W2NormFwdIdeal.main_arg3)
      ∧ m' ((c.tc : Thread Cert.RefW2NormFwdIdeal.nD Cert.RefW2NormFwdIdeal.τ).loc Cert.RefW2NormFwdIdeal.main_arg4) = m ((c.tc : Thread Cert.W2NormFwdIdeal.nD Cert.W2NormFwdIdeal.τ).loc Cert.W2NormFwdIdeal.main_arg4)) →
    ∃ (v0 : (c : Dev Cert.W2NormFwdIdeal.nD) → Buf (Elt Ideal) ((c.tc : Thread Cert.W2NormFwdIdeal.nD Cert.W2NormFwdIdeal.τ).loc Cert.W2NormFwdIdeal.main_v0_0)) (v1 : (c : Dev Cert.W2NormFwdIdeal.nD) → Buf (Elt Ideal) ((c.tc : Thread Cert.W2NormFwdIdeal.nD Cert.W2NormFwdIdeal.τ).loc Cert.W2NormFwdIdeal.main_v0_1)),
      θ_run (Cert.W2NormFwdIdeal.defs (F := Ideal)) (onTc (τ := Cert.W2NormFwdIdeal.τ) (Cert.W2NormFwdIdeal.main (F := Ideal))) ⟨m, fun _ => 0, g⟩ (fun r => ∀ c : Dev Cert.W2NormFwdIdeal.nD,
          r.2.mem ((c.tc : Thread Cert.W2NormFwdIdeal.nD Cert.W2NormFwdIdeal.τ).loc Cert.W2NormFwdIdeal.main_v0_0) = v0 c
          ∧ r.2.mem ((c.tc : Thread Cert.W2NormFwdIdeal.nD Cert.W2NormFwdIdeal.τ).loc Cert.W2NormFwdIdeal.main_v0_1) = v1 c
          ∧ r.2.mem ((c.tc : Thread Cert.W2NormFwdIdeal.nD Cert.W2NormFwdIdeal.τ).loc Cert.W2NormFwdIdeal.main_arg0) = m ((c.tc : Thread Cert.W2NormFwdIdeal.nD Cert.W2NormFwdIdeal.τ).loc Cert.W2NormFwdIdeal.main_arg0)
          ∧ r.2.mem ((c.tc : Thread Cert.W2NormFwdIdeal.nD Cert.W2NormFwdIdeal.τ).loc Cert.W2NormFwdIdeal.main_arg1) = m ((c.tc : Thread Cert.W2NormFwdIdeal.nD Cert.W2NormFwdIdeal.τ).loc Cert.W2NormFwdIdeal.main_arg1)
          ∧ r.2.mem ((c.tc : Thread Cert.W2NormFwdIdeal.nD Cert.W2NormFwdIdeal.τ).loc Cert.W2NormFwdIdeal.main_arg2) = m ((c.tc : Thread Cert.W2NormFwdIdeal.nD Cert.W2NormFwdIdeal.τ).loc Cert.W2NormFwdIdeal.main_arg2)
          ∧ r.2.mem ((c.tc : Thread Cert.W2NormFwdIdeal.nD Cert.W2NormFwdIdeal.τ).loc Cert.W2NormFwdIdeal.main_arg3) = m ((c.tc : Thread Cert.W2NormFwdIdeal.nD Cert.W2NormFwdIdeal.τ).loc Cert.W2NormFwdIdeal.main_arg3)
          ∧ r.2.mem ((c.tc : Thread Cert.W2NormFwdIdeal.nD Cert.W2NormFwdIdeal.τ).loc Cert.W2NormFwdIdeal.main_arg4) = m ((c.tc : Thread Cert.W2NormFwdIdeal.nD Cert.W2NormFwdIdeal.τ).loc Cert.W2NormFwdIdeal.main_arg4))
      ∧ θ_run (Cert.RefW2NormFwdIdeal.defs (F := Ideal)) (onTc (τ := Cert.RefW2NormFwdIdeal.τ) (Cert.RefW2NormFwdIdeal.main (F := Ideal))) ⟨m', fun _ => 0, g'⟩ (fun r => ∀ c : Dev Cert.RefW2NormFwdIdeal.nD,
          r.2.mem ((c.tc : Thread Cert.RefW2NormFwdIdeal.nD Cert.RefW2NormFwdIdeal.τ).loc Cert.RefW2NormFwdIdeal.main_v28) = v0 c
          ∧ r.2.mem ((c.tc : Thread Cert.RefW2NormFwdIdeal.nD Cert.RefW2NormFwdIdeal.τ).loc Cert.RefW2NormFwdIdeal.main_v8) = v1 c
          ∧ r.2.mem ((c.tc : Thread Cert.RefW2NormFwdIdeal.nD Cert.RefW2NormFwdIdeal.τ).loc Cert.RefW2NormFwdIdeal.main_arg0) = m' ((c.tc : Thread Cert.RefW2NormFwdIdeal.nD Cert.RefW2NormFwdIdeal.τ).loc Cert.RefW2NormFwdIdeal.main_arg0)
          ∧ r.2.mem ((c.tc : Thread Cert.RefW2NormFwdIdeal.nD Cert.RefW2NormFwdIdeal.τ).loc Cert.RefW2NormFwdIdeal.main_arg1) = m' ((c.tc : Thread Cert.RefW2NormFwdIdeal.nD Cert.RefW2NormFwdIdeal.τ).loc Cert.RefW2NormFwdIdeal.main_arg1)
          ∧ r.2.mem ((c.tc : Thread Cert.RefW2NormFwdIdeal.nD Cert.RefW2NormFwdIdeal.τ).loc Cert.RefW2NormFwdIdeal.main_arg2) = m' ((c.tc : Thread Cert.RefW2NormFwdIdeal.nD Cert.RefW2NormFwdIdeal.τ).loc Cert.RefW2NormFwdIdeal.main_arg2)
          ∧ r.2.mem ((c.tc : Thread Cert.RefW2NormFwdIdeal.nD Cert.RefW2NormFwdIdeal.τ).loc Cert.RefW2NormFwdIdeal.main_arg3) = m' ((c.tc : Thread Cert.RefW2NormFwdIdeal.nD Cert.RefW2NormFwdIdeal.τ).loc Cert.RefW2NormFwdIdeal.main_arg3)
          ∧ r.2.mem ((c.tc : Thread Cert.RefW2NormFwdIdeal.nD Cert.RefW2NormFwdIdeal.τ).loc Cert.RefW2NormFwdIdeal.main_arg4) = m' ((c.tc : Thread Cert.RefW2NormFwdIdeal.nD Cert.RefW2NormFwdIdeal.τ).loc Cert.RefW2NormFwdIdeal.main_arg4))

def preserves_InFwd_InFwdIdeal : Prop :=
  True

def algebraic_InFwdIdeal_RefInFwdIdeal [hInFwdIdeal : Cert.InFwdIdeal.Facts] [hRefInFwdIdeal : Cert.RefInFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.RefInFwdIdeal.nD Cert.RefInFwdIdeal.τ Cert.RefInFwdIdeal.sig) → Buf (Elt Ideal) ℓ) (g' : Dev Cert.RefInFwdIdeal.nD → PrngReg), Pre_InFwdIdeal m →
    (∀ c : Dev Cert.InFwdIdeal.nD,
      m' ((c.tc : Thread Cert.RefInFwdIdeal.nD Cert.RefInFwdIdeal.τ).loc Cert.RefInFwdIdeal.main_arg0) = m ((c.tc : Thread Cert.InFwdIdeal.nD Cert.InFwdIdeal.τ).loc Cert.InFwdIdeal.main_arg0)
      ∧ m' ((c.tc : Thread Cert.RefInFwdIdeal.nD Cert.RefInFwdIdeal.τ).loc Cert.RefInFwdIdeal.main_arg1) = m ((c.tc : Thread Cert.InFwdIdeal.nD Cert.InFwdIdeal.τ).loc Cert.InFwdIdeal.main_arg1)) →
    ∃ (v0 : (c : Dev Cert.InFwdIdeal.nD) → Buf (Elt Ideal) ((c.tc : Thread Cert.InFwdIdeal.nD Cert.InFwdIdeal.τ).loc Cert.InFwdIdeal.main_v0)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v0) = v0 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1))
      ∧ θ_run (Cert.RefInFwdIdeal.defs (F := Ideal)) (onTc (τ := Cert.RefInFwdIdeal.τ) (Cert.RefInFwdIdeal.main (F := Ideal))) ⟨m', fun _ => 0, g'⟩ (fun r => ∀ c : Dev Cert.RefInFwdIdeal.nD,
          r.2.mem ((c.tc : Thread Cert.RefInFwdIdeal.nD Cert.RefInFwdIdeal.τ).loc Cert.RefInFwdIdeal.main_v4) = v0 c
          ∧ r.2.mem ((c.tc : Thread Cert.RefInFwdIdeal.nD Cert.RefInFwdIdeal.τ).loc Cert.RefInFwdIdeal.main_arg0) = m' ((c.tc : Thread Cert.RefInFwdIdeal.nD Cert.RefInFwdIdeal.τ).loc Cert.RefInFwdIdeal.main_arg0)
          ∧ r.2.mem ((c.tc : Thread Cert.RefInFwdIdeal.nD Cert.RefInFwdIdeal.τ).loc Cert.RefInFwdIdeal.main_arg1) = m' ((c.tc : Thread Cert.RefInFwdIdeal.nD Cert.RefInFwdIdeal.τ).loc Cert.RefInFwdIdeal.main_arg1))

def preserves_OutNormFwd_OutNormFwdIdeal : Prop :=
  IdealRules.named_const.Statement Cert.OutNormFwdIdeal.κ "alpha" .f32 0x3FB504F3#32 ((Real.sqrt 2 : ℝ) : EReal)

def algebraic_OutNormFwdIdeal_RefOutNormFwdIdeal [hOutNormFwdIdeal : Cert.OutNormFwdIdeal.Facts] [hRefOutNormFwdIdeal : Cert.RefOutNormFwdIdeal.Facts] : Prop :=
  ∀ (m : (ℓ : Loc Cert.OutNormFwdIdeal.nD Cert.OutNormFwdIdeal.τ Cert.OutNormFwdIdeal.sig) → Buf (Elt Ideal) ℓ) (g : Dev Cert.OutNormFwdIdeal.nD → PrngReg)
    (m' : (ℓ : Loc Cert.RefOutNormFwdIdeal.nD Cert.RefOutNormFwdIdeal.τ Cert.RefOutNormFwdIdeal.sig) → Buf (Elt Ideal) ℓ) (g' : Dev Cert.RefOutNormFwdIdeal.nD → PrngReg), Pre_OutNormFwdIdeal m →
    (∀ c : Dev Cert.OutNormFwdIdeal.nD,
      m' ((c.tc : Thread Cert.RefOutNormFwdIdeal.nD Cert.RefOutNormFwdIdeal.τ).loc Cert.RefOutNormFwdIdeal.main_arg0) = m ((c.tc : Thread Cert.OutNormFwdIdeal.nD Cert.OutNormFwdIdeal.τ).loc Cert.OutNormFwdIdeal.main_arg0)
      ∧ m' ((c.tc : Thread Cert.RefOutNormFwdIdeal.nD Cert.RefOutNormFwdIdeal.τ).loc Cert.RefOutNormFwdIdeal.main_arg1) = m ((c.tc : Thread Cert.OutNormFwdIdeal.nD Cert.OutNormFwdIdeal.τ).loc Cert.OutNormFwdIdeal.main_arg1)
      ∧ m' ((c.tc : Thread Cert.RefOutNormFwdIdeal.nD Cert.RefOutNormFwdIdeal.τ).loc Cert.RefOutNormFwdIdeal.main_arg2) = m ((c.tc : Thread Cert.OutNormFwdIdeal.nD Cert.OutNormFwdIdeal.τ).loc Cert.OutNormFwdIdeal.main_arg2)
      ∧ m' ((c.tc : Thread Cert.RefOutNormFwdIdeal.nD Cert.RefOutNormFwdIdeal.τ).loc Cert.RefOutNormFwdIdeal.main_arg3) = m ((c.tc : Thread Cert.OutNormFwdIdeal.nD Cert.OutNormFwdIdeal.τ).loc Cert.OutNormFwdIdeal.main_arg3)
      ∧ m' ((c.tc : Thread Cert.RefOutNormFwdIdeal.nD Cert.RefOutNormFwdIdeal.τ).loc Cert.RefOutNormFwdIdeal.main_arg4) = m ((c.tc : Thread Cert.OutNormFwdIdeal.nD Cert.OutNormFwdIdeal.τ).loc Cert.OutNormFwdIdeal.main_arg4)) →
    ∃ (v0 : (c : Dev Cert.OutNormFwdIdeal.nD) → Buf (Elt Ideal) ((c.tc : Thread Cert.OutNormFwdIdeal.nD Cert.OutNormFwdIdeal.τ).loc Cert.OutNormFwdIdeal.main_v0_0)) (v1 : (c : Dev Cert.OutNormFwdIdeal.nD) → Buf (Elt Ideal) ((c.tc : Thread Cert.OutNormFwdIdeal.nD Cert.OutNormFwdIdeal.τ).loc Cert.OutNormFwdIdeal.main_v0_1)),
      θ_run (Cert.OutNormFwdIdeal.defs (F := Ideal)) (onTc (τ := Cert.OutNormFwdIdeal.τ) (Cert.OutNormFwdIdeal.main (F := Ideal))) ⟨m, fun _ => 0, g⟩ (fun r => ∀ c : Dev Cert.OutNormFwdIdeal.nD,
          r.2.mem ((c.tc : Thread Cert.OutNormFwdIdeal.nD Cert.OutNormFwdIdeal.τ).loc Cert.OutNormFwdIdeal.main_v0_0) = v0 c
          ∧ r.2.mem ((c.tc : Thread Cert.OutNormFwdIdeal.nD Cert.OutNormFwdIdeal.τ).loc Cert.OutNormFwdIdeal.main_v0_1) = v1 c
          ∧ r.2.mem ((c.tc : Thread Cert.OutNormFwdIdeal.nD Cert.OutNormFwdIdeal.τ).loc Cert.OutNormFwdIdeal.main_arg0) = m ((c.tc : Thread Cert.OutNormFwdIdeal.nD Cert.OutNormFwdIdeal.τ).loc Cert.OutNormFwdIdeal.main_arg0)
          ∧ r.2.mem ((c.tc : Thread Cert.OutNormFwdIdeal.nD Cert.OutNormFwdIdeal.τ).loc Cert.OutNormFwdIdeal.main_arg1) = m ((c.tc : Thread Cert.OutNormFwdIdeal.nD Cert.OutNormFwdIdeal.τ).loc Cert.OutNormFwdIdeal.main_arg1)
          ∧ r.2.mem ((c.tc : Thread Cert.OutNormFwdIdeal.nD Cert.OutNormFwdIdeal.τ).loc Cert.OutNormFwdIdeal.main_arg2) = m ((c.tc : Thread Cert.OutNormFwdIdeal.nD Cert.OutNormFwdIdeal.τ).loc Cert.OutNormFwdIdeal.main_arg2)
          ∧ r.2.mem ((c.tc : Thread Cert.OutNormFwdIdeal.nD Cert.OutNormFwdIdeal.τ).loc Cert.OutNormFwdIdeal.main_arg3) = m ((c.tc : Thread Cert.OutNormFwdIdeal.nD Cert.OutNormFwdIdeal.τ).loc Cert.OutNormFwdIdeal.main_arg3)
          ∧ r.2.mem ((c.tc : Thread Cert.OutNormFwdIdeal.nD Cert.OutNormFwdIdeal.τ).loc Cert.OutNormFwdIdeal.main_arg4) = m ((c.tc : Thread Cert.OutNormFwdIdeal.nD Cert.OutNormFwdIdeal.τ).loc Cert.OutNormFwdIdeal.main_arg4))
      ∧ θ_run (Cert.RefOutNormFwdIdeal.defs (F := Ideal)) (onTc (τ := Cert.RefOutNormFwdIdeal.τ) (Cert.RefOutNormFwdIdeal.main (F := Ideal))) ⟨m', fun _ => 0, g'⟩ (fun r => ∀ c : Dev Cert.RefOutNormFwdIdeal.nD,
          r.2.mem ((c.tc : Thread Cert.RefOutNormFwdIdeal.nD Cert.RefOutNormFwdIdeal.τ).loc Cert.RefOutNormFwdIdeal.main_v25) = v0 c
          ∧ r.2.mem ((c.tc : Thread Cert.RefOutNormFwdIdeal.nD Cert.RefOutNormFwdIdeal.τ).loc Cert.RefOutNormFwdIdeal.main_v5) = v1 c
          ∧ r.2.mem ((c.tc : Thread Cert.RefOutNormFwdIdeal.nD Cert.RefOutNormFwdIdeal.τ).loc Cert.RefOutNormFwdIdeal.main_arg0) = m' ((c.tc : Thread Cert.RefOutNormFwdIdeal.nD Cert.RefOutNormFwdIdeal.τ).loc Cert.RefOutNormFwdIdeal.main_arg0)
          ∧ r.2.mem ((c.tc : Thread Cert.RefOutNormFwdIdeal.nD Cert.RefOutNormFwdIdeal.τ).loc Cert.RefOutNormFwdIdeal.main_arg1) = m' ((c.tc : Thread Cert.RefOutNormFwdIdeal.nD Cert.RefOutNormFwdIdeal.τ).loc Cert.RefOutNormFwdIdeal.main_arg1)
          ∧ r.2.mem ((c.tc : Thread Cert.RefOutNormFwdIdeal.nD Cert.RefOutNormFwdIdeal.τ).loc Cert.RefOutNormFwdIdeal.main_arg2) = m' ((c.tc : Thread Cert.RefOutNormFwdIdeal.nD Cert.RefOutNormFwdIdeal.τ).loc Cert.RefOutNormFwdIdeal.main_arg2)
          ∧ r.2.mem ((c.tc : Thread Cert.RefOutNormFwdIdeal.nD Cert.RefOutNormFwdIdeal.τ).loc Cert.RefOutNormFwdIdeal.main_arg3) = m' ((c.tc : Thread Cert.RefOutNormFwdIdeal.nD Cert.RefOutNormFwdIdeal.τ).loc Cert.RefOutNormFwdIdeal.main_arg3)
          ∧ r.2.mem ((c.tc : Thread Cert.RefOutNormFwdIdeal.nD Cert.RefOutNormFwdIdeal.τ).loc Cert.RefOutNormFwdIdeal.main_arg4) = m' ((c.tc : Thread Cert.RefOutNormFwdIdeal.nD Cert.RefOutNormFwdIdeal.τ).loc Cert.RefOutNormFwdIdeal.main_arg4))

def preserves_EvInFwd_EvInFwdIdeal : Prop :=
  True

def algebraic_EvInFwdIdeal_RefEvInFwdIdeal [hEvInFwdIdeal : Cert.EvInFwdIdeal.Facts] [hRefEvInFwdIdeal : Cert.RefEvInFwdIdeal.Facts] : Prop :=
  ∀ (m : (ℓ : Loc Cert.EvInFwdIdeal.nD Cert.EvInFwdIdeal.τ Cert.EvInFwdIdeal.sig) → Buf (Elt Ideal) ℓ) (g : Dev Cert.EvInFwdIdeal.nD → PrngReg)
    (m' : (ℓ : Loc Cert.RefEvInFwdIdeal.nD Cert.RefEvInFwdIdeal.τ Cert.RefEvInFwdIdeal.sig) → Buf (Elt Ideal) ℓ) (g' : Dev Cert.RefEvInFwdIdeal.nD → PrngReg), Pre_EvInFwdIdeal m →
    (∀ c : Dev Cert.EvInFwdIdeal.nD,
      m' ((c.tc : Thread Cert.RefEvInFwdIdeal.nD Cert.RefEvInFwdIdeal.τ).loc Cert.RefEvInFwdIdeal.main_arg0) = m ((c.tc : Thread Cert.EvInFwdIdeal.nD Cert.EvInFwdIdeal.τ).loc Cert.EvInFwdIdeal.main_arg0)
      ∧ m' ((c.tc : Thread Cert.RefEvInFwdIdeal.nD Cert.RefEvInFwdIdeal.τ).loc Cert.RefEvInFwdIdeal.main_arg1) = m ((c.tc : Thread Cert.EvInFwdIdeal.nD Cert.EvInFwdIdeal.τ).loc Cert.EvInFwdIdeal.main_arg1)) →
    ∃ (v0 : (c : Dev Cert.EvInFwdIdeal.nD) → Buf (Elt Ideal) ((c.tc : Thread Cert.EvInFwdIdeal.nD Cert.EvInFwdIdeal.τ).loc Cert.EvInFwdIdeal.main_v0)),
      θ_run (Cert.EvInFwdIdeal.defs (F := Ideal)) (onTc (τ := Cert.EvInFwdIdeal.τ) (Cert.EvInFwdIdeal.main (F := Ideal))) ⟨m, fun _ => 0, g⟩ (fun r => ∀ c : Dev Cert.EvInFwdIdeal.nD,
          r.2.mem ((c.tc : Thread Cert.EvInFwdIdeal.nD Cert.EvInFwdIdeal.τ).loc Cert.EvInFwdIdeal.main_v0) = v0 c
          ∧ r.2.mem ((c.tc : Thread Cert.EvInFwdIdeal.nD Cert.EvInFwdIdeal.τ).loc Cert.EvInFwdIdeal.main_arg0) = m ((c.tc : Thread Cert.EvInFwdIdeal.nD Cert.EvInFwdIdeal.τ).loc Cert.EvInFwdIdeal.main_arg0)
          ∧ r.2.mem ((c.tc : Thread Cert.EvInFwdIdeal.nD Cert.EvInFwdIdeal.τ).loc Cert.EvInFwdIdeal.main_arg1) = m ((c.tc : Thread Cert.EvInFwdIdeal.nD Cert.EvInFwdIdeal.τ).loc Cert.EvInFwdIdeal.main_arg1))
      ∧ θ_run (Cert.RefEvInFwdIdeal.defs (F := Ideal)) (onTc (τ := Cert.RefEvInFwdIdeal.τ) (Cert.RefEvInFwdIdeal.main (F := Ideal))) ⟨m', fun _ => 0, g'⟩ (fun r => ∀ c : Dev Cert.RefEvInFwdIdeal.nD,
          r.2.mem ((c.tc : Thread Cert.RefEvInFwdIdeal.nD Cert.RefEvInFwdIdeal.τ).loc Cert.RefEvInFwdIdeal.main_v1) = v0 c
          ∧ r.2.mem ((c.tc : Thread Cert.RefEvInFwdIdeal.nD Cert.RefEvInFwdIdeal.τ).loc Cert.RefEvInFwdIdeal.main_arg0) = m' ((c.tc : Thread Cert.RefEvInFwdIdeal.nD Cert.RefEvInFwdIdeal.τ).loc Cert.RefEvInFwdIdeal.main_arg0)
          ∧ r.2.mem ((c.tc : Thread Cert.RefEvInFwdIdeal.nD Cert.RefEvInFwdIdeal.τ).loc Cert.RefEvInFwdIdeal.main_arg1) = m' ((c.tc : Thread Cert.RefEvInFwdIdeal.nD Cert.RefEvInFwdIdeal.τ).loc Cert.RefEvInFwdIdeal.main_arg1))

def preserves_UqFwd_UqFwdIdeal : Prop :=
  True

def algebraic_UqFwdIdeal_RefUqFwdIdeal [hUqFwdIdeal : Cert.UqFwdIdeal.Facts] [hRefUqFwdIdeal : Cert.RefUqFwdIdeal.Facts] : Prop :=
  ∀ (m : (ℓ : Loc Cert.UqFwdIdeal.nD Cert.UqFwdIdeal.τ Cert.UqFwdIdeal.sig) → Buf (Elt Ideal) ℓ) (g : Dev Cert.UqFwdIdeal.nD → PrngReg)
    (m' : (ℓ : Loc Cert.RefUqFwdIdeal.nD Cert.RefUqFwdIdeal.τ Cert.RefUqFwdIdeal.sig) → Buf (Elt Ideal) ℓ) (g' : Dev Cert.RefUqFwdIdeal.nD → PrngReg), Pre_UqFwdIdeal m →
    (∀ c : Dev Cert.UqFwdIdeal.nD,
      m' ((c.tc : Thread Cert.RefUqFwdIdeal.nD Cert.RefUqFwdIdeal.τ).loc Cert.RefUqFwdIdeal.main_arg0) = m ((c.tc : Thread Cert.UqFwdIdeal.nD Cert.UqFwdIdeal.τ).loc Cert.UqFwdIdeal.main_arg0)
      ∧ m' ((c.tc : Thread Cert.RefUqFwdIdeal.nD Cert.RefUqFwdIdeal.τ).loc Cert.RefUqFwdIdeal.main_arg1) = m ((c.tc : Thread Cert.UqFwdIdeal.nD Cert.UqFwdIdeal.τ).loc Cert.UqFwdIdeal.main_arg1)) →
    ∃ (v0 : (c : Dev Cert.UqFwdIdeal.nD) → Buf (Elt Ideal) ((c.tc : Thread Cert.UqFwdIdeal.nD Cert.UqFwdIdeal.τ).loc Cert.UqFwdIdeal.main_v0)),
      θ_run (Cert.UqFwdIdeal.defs (F := Ideal)) (onTc (τ := Cert.UqFwdIdeal.τ) (Cert.UqFwdIdeal.main (F := Ideal))) ⟨m, fun _ => 0, g⟩ (fun r => ∀ c : Dev Cert.UqFwdIdeal.nD,
          r.2.mem ((c.tc : Thread Cert.UqFwdIdeal.nD Cert.UqFwdIdeal.τ).loc Cert.UqFwdIdeal.main_v0) = v0 c
          ∧ r.2.mem ((c.tc : Thread Cert.UqFwdIdeal.nD Cert.UqFwdIdeal.τ).loc Cert.UqFwdIdeal.main_arg0) = m ((c.tc : Thread Cert.UqFwdIdeal.nD Cert.UqFwdIdeal.τ).loc Cert.UqFwdIdeal.main_arg0)
          ∧ r.2.mem ((c.tc : Thread Cert.UqFwdIdeal.nD Cert.UqFwdIdeal.τ).loc Cert.UqFwdIdeal.main_arg1) = m ((c.tc : Thread Cert.UqFwdIdeal.nD Cert.UqFwdIdeal.τ).loc Cert.UqFwdIdeal.main_arg1))
      ∧ θ_run (Cert.RefUqFwdIdeal.defs (F := Ideal)) (onTc (τ := Cert.RefUqFwdIdeal.τ) (Cert.RefUqFwdIdeal.main (F := Ideal))) ⟨m', fun _ => 0, g'⟩ (fun r => ∀ c : Dev Cert.RefUqFwdIdeal.nD,
          r.2.mem ((c.tc : Thread Cert.RefUqFwdIdeal.nD Cert.RefUqFwdIdeal.τ).loc Cert.RefUqFwdIdeal.main_v2) = v0 c
          ∧ r.2.mem ((c.tc : Thread Cert.RefUqFwdIdeal.nD Cert.RefUqFwdIdeal.τ).loc Cert.RefUqFwdIdeal.main_arg0) = m' ((c.tc : Thread Cert.RefUqFwdIdeal.nD Cert.RefUqFwdIdeal.τ).loc Cert.RefUqFwdIdeal.main_arg0)
          ∧ r.2.mem ((c.tc : Thread Cert.RefUqFwdIdeal.nD Cert.RefUqFwdIdeal.τ).loc Cert.RefUqFwdIdeal.main_arg1) = m' ((c.tc : Thread Cert.RefUqFwdIdeal.nD Cert.RefUqFwdIdeal.τ).loc Cert.RefUqFwdIdeal.main_arg1))

def preserves_UkvFwd_UkvFwdIdeal : Prop :=
  True

def algebraic_UkvFwdIdeal_RefUkvFwdIdeal [hUkvFwdIdeal : Cert.UkvFwdIdeal.Facts] [hRefUkvFwdIdeal : Cert.RefUkvFwdIdeal.Facts] : Prop :=
  ∀ (m : (ℓ : Loc Cert.UkvFwdIdeal.nD Cert.UkvFwdIdeal.τ Cert.UkvFwdIdeal.sig) → Buf (Elt Ideal) ℓ) (g : Dev Cert.UkvFwdIdeal.nD → PrngReg)
    (m' : (ℓ : Loc Cert.RefUkvFwdIdeal.nD Cert.RefUkvFwdIdeal.τ Cert.RefUkvFwdIdeal.sig) → Buf (Elt Ideal) ℓ) (g' : Dev Cert.RefUkvFwdIdeal.nD → PrngReg), Pre_UkvFwdIdeal m →
    (∀ c : Dev Cert.UkvFwdIdeal.nD,
      m' ((c.tc : Thread Cert.RefUkvFwdIdeal.nD Cert.RefUkvFwdIdeal.τ).loc Cert.RefUkvFwdIdeal.main_arg0) = m ((c.tc : Thread Cert.UkvFwdIdeal.nD Cert.UkvFwdIdeal.τ).loc Cert.UkvFwdIdeal.main_arg0)
      ∧ m' ((c.tc : Thread Cert.RefUkvFwdIdeal.nD Cert.RefUkvFwdIdeal.τ).loc Cert.RefUkvFwdIdeal.main_arg1) = m ((c.tc : Thread Cert.UkvFwdIdeal.nD Cert.UkvFwdIdeal.τ).loc Cert.UkvFwdIdeal.main_arg1)) →
    ∃ (v0 : (c : Dev Cert.UkvFwdIdeal.nD) → Buf (Elt Ideal) ((c.tc : Thread Cert.UkvFwdIdeal.nD Cert.UkvFwdIdeal.τ).loc Cert.UkvFwdIdeal.main_v0)),
      θ_run (Cert.UkvFwdIdeal.defs (F := Ideal)) (onTc (τ := Cert.UkvFwdIdeal.τ) (Cert.UkvFwdIdeal.main (F := Ideal))) ⟨m, fun _ => 0, g⟩ (fun r => ∀ c : Dev Cert.UkvFwdIdeal.nD,
          r.2.mem ((c.tc : Thread Cert.UkvFwdIdeal.nD Cert.UkvFwdIdeal.τ).loc Cert.UkvFwdIdeal.main_v0) = v0 c
          ∧ r.2.mem ((c.tc : Thread Cert.UkvFwdIdeal.nD Cert.UkvFwdIdeal.τ).loc Cert.UkvFwdIdeal.main_arg0) = m ((c.tc : Thread Cert.UkvFwdIdeal.nD Cert.UkvFwdIdeal.τ).loc Cert.UkvFwdIdeal.main_arg0)
          ∧ r.2.mem ((c.tc : Thread Cert.UkvFwdIdeal.nD Cert.UkvFwdIdeal.τ).loc Cert.UkvFwdIdeal.main_arg1) = m ((c.tc : Thread Cert.UkvFwdIdeal.nD Cert.UkvFwdIdeal.τ).loc Cert.UkvFwdIdeal.main_arg1))
      ∧ θ_run (Cert.RefUkvFwdIdeal.defs (F := Ideal)) (onTc (τ := Cert.RefUkvFwdIdeal.τ) (Cert.RefUkvFwdIdeal.main (F := Ideal))) ⟨m', fun _ => 0, g'⟩ (fun r => ∀ c : Dev Cert.RefUkvFwdIdeal.nD,
          r.2.mem ((c.tc : Thread Cert.RefUkvFwdIdeal.nD Cert.RefUkvFwdIdeal.τ).loc Cert.RefUkvFwdIdeal.main_v2) = v0 c
          ∧ r.2.mem ((c.tc : Thread Cert.RefUkvFwdIdeal.nD Cert.RefUkvFwdIdeal.τ).loc Cert.RefUkvFwdIdeal.main_arg0) = m' ((c.tc : Thread Cert.RefUkvFwdIdeal.nD Cert.RefUkvFwdIdeal.τ).loc Cert.RefUkvFwdIdeal.main_arg0)
          ∧ r.2.mem ((c.tc : Thread Cert.RefUkvFwdIdeal.nD Cert.RefUkvFwdIdeal.τ).loc Cert.RefUkvFwdIdeal.main_arg1) = m' ((c.tc : Thread Cert.RefUkvFwdIdeal.nD Cert.RefUkvFwdIdeal.τ).loc Cert.RefUkvFwdIdeal.main_arg1))

def preserves_EvOutNormFwd_EvOutNormFwdIdeal : Prop :=
  IdealRules.named_const.Statement Cert.EvOutNormFwdIdeal.κ "alpha" .f32 0x3FB504F3#32 ((Real.sqrt 2 : ℝ) : EReal)

def algebraic_EvOutNormFwdIdeal_RefEvOutNormFwdIdeal [hEvOutNormFwdIdeal : Cert.EvOutNormFwdIdeal.Facts] [hRefEvOutNormFwdIdeal : Cert.RefEvOutNormFwdIdeal.Facts] : Prop :=
  ∀ (m : (ℓ : Loc Cert.EvOutNormFwdIdeal.nD Cert.EvOutNormFwdIdeal.τ Cert.EvOutNormFwdIdeal.sig) → Buf (Elt Ideal) ℓ) (g : Dev Cert.EvOutNormFwdIdeal.nD → PrngReg)
    (m' : (ℓ : Loc Cert.RefEvOutNormFwdIdeal.nD Cert.RefEvOutNormFwdIdeal.τ Cert.RefEvOutNormFwdIdeal.sig) → Buf (Elt Ideal) ℓ) (g' : Dev Cert.RefEvOutNormFwdIdeal.nD → PrngReg), Pre_EvOutNormFwdIdeal m →
    (∀ c : Dev Cert.EvOutNormFwdIdeal.nD,
      m' ((c.tc : Thread Cert.RefEvOutNormFwdIdeal.nD Cert.RefEvOutNormFwdIdeal.τ).loc Cert.RefEvOutNormFwdIdeal.main_arg0) = m ((c.tc : Thread Cert.EvOutNormFwdIdeal.nD Cert.EvOutNormFwdIdeal.τ).loc Cert.EvOutNormFwdIdeal.main_arg0)
      ∧ m' ((c.tc : Thread Cert.RefEvOutNormFwdIdeal.nD Cert.RefEvOutNormFwdIdeal.τ).loc Cert.RefEvOutNormFwdIdeal.main_arg1) = m ((c.tc : Thread Cert.EvOutNormFwdIdeal.nD Cert.EvOutNormFwdIdeal.τ).loc Cert.EvOutNormFwdIdeal.main_arg1)
      ∧ m' ((c.tc : Thread Cert.RefEvOutNormFwdIdeal.nD Cert.RefEvOutNormFwdIdeal.τ).loc Cert.RefEvOutNormFwdIdeal.main_arg2) = m ((c.tc : Thread Cert.EvOutNormFwdIdeal.nD Cert.EvOutNormFwdIdeal.τ).loc Cert.EvOutNormFwdIdeal.main_arg2)
      ∧ m' ((c.tc : Thread Cert.RefEvOutNormFwdIdeal.nD Cert.RefEvOutNormFwdIdeal.τ).loc Cert.RefEvOutNormFwdIdeal.main_arg3) = m ((c.tc : Thread Cert.EvOutNormFwdIdeal.nD Cert.EvOutNormFwdIdeal.τ).loc Cert.EvOutNormFwdIdeal.main_arg3)
      ∧ m' ((c.tc : Thread Cert.RefEvOutNormFwdIdeal.nD Cert.RefEvOutNormFwdIdeal.τ).loc Cert.RefEvOutNormFwdIdeal.main_arg4) = m ((c.tc : Thread Cert.EvOutNormFwdIdeal.nD Cert.EvOutNormFwdIdeal.τ).loc Cert.EvOutNormFwdIdeal.main_arg4)) →
    ∃ (v0 : (c : Dev Cert.EvOutNormFwdIdeal.nD) → Buf (Elt Ideal) ((c.tc : Thread Cert.EvOutNormFwdIdeal.nD Cert.EvOutNormFwdIdeal.τ).loc Cert.EvOutNormFwdIdeal.main_v0_0)) (v1 : (c : Dev Cert.EvOutNormFwdIdeal.nD) → Buf (Elt Ideal) ((c.tc : Thread Cert.EvOutNormFwdIdeal.nD Cert.EvOutNormFwdIdeal.τ).loc Cert.EvOutNormFwdIdeal.main_v0_1)),
      θ_run (Cert.EvOutNormFwdIdeal.defs (F := Ideal)) (onTc (τ := Cert.EvOutNormFwdIdeal.τ) (Cert.EvOutNormFwdIdeal.main (F := Ideal))) ⟨m, fun _ => 0, g⟩ (fun r => ∀ c : Dev Cert.EvOutNormFwdIdeal.nD,
          r.2.mem ((c.tc : Thread Cert.EvOutNormFwdIdeal.nD Cert.EvOutNormFwdIdeal.τ).loc Cert.EvOutNormFwdIdeal.main_v0_0) = v0 c
          ∧ r.2.mem ((c.tc : Thread Cert.EvOutNormFwdIdeal.nD Cert.EvOutNormFwdIdeal.τ).loc Cert.EvOutNormFwdIdeal.main_v0_1) = v1 c
          ∧ r.2.mem ((c.tc : Thread Cert.EvOutNormFwdIdeal.nD Cert.EvOutNormFwdIdeal.τ).loc Cert.EvOutNormFwdIdeal.main_arg0) = m ((c.tc : Thread Cert.EvOutNormFwdIdeal.nD Cert.EvOutNormFwdIdeal.τ).loc Cert.EvOutNormFwdIdeal.main_arg0)
          ∧ r.2.mem ((c.tc : Thread Cert.EvOutNormFwdIdeal.nD Cert.EvOutNormFwdIdeal.τ).loc Cert.EvOutNormFwdIdeal.main_arg1) = m ((c.tc : Thread Cert.EvOutNormFwdIdeal.nD Cert.EvOutNormFwdIdeal.τ).loc Cert.EvOutNormFwdIdeal.main_arg1)
          ∧ r.2.mem ((c.tc : Thread Cert.EvOutNormFwdIdeal.nD Cert.EvOutNormFwdIdeal.τ).loc Cert.EvOutNormFwdIdeal.main_arg2) = m ((c.tc : Thread Cert.EvOutNormFwdIdeal.nD Cert.EvOutNormFwdIdeal.τ).loc Cert.EvOutNormFwdIdeal.main_arg2)
          ∧ r.2.mem ((c.tc : Thread Cert.EvOutNormFwdIdeal.nD Cert.EvOutNormFwdIdeal.τ).loc Cert.EvOutNormFwdIdeal.main_arg3) = m ((c.tc : Thread Cert.EvOutNormFwdIdeal.nD Cert.EvOutNormFwdIdeal.τ).loc Cert.EvOutNormFwdIdeal.main_arg3)
          ∧ r.2.mem ((c.tc : Thread Cert.EvOutNormFwdIdeal.nD Cert.EvOutNormFwdIdeal.τ).loc Cert.EvOutNormFwdIdeal.main_arg4) = m ((c.tc : Thread Cert.EvOutNormFwdIdeal.nD Cert.EvOutNormFwdIdeal.τ).loc Cert.EvOutNormFwdIdeal.main_arg4))
      ∧ θ_run (Cert.RefEvOutNormFwdIdeal.defs (F := Ideal)) (onTc (τ := Cert.RefEvOutNormFwdIdeal.τ) (Cert.RefEvOutNormFwdIdeal.main (F := Ideal))) ⟨m', fun _ => 0, g'⟩ (fun r => ∀ c : Dev Cert.RefEvOutNormFwdIdeal.nD,
          r.2.mem ((c.tc : Thread Cert.RefEvOutNormFwdIdeal.nD Cert.RefEvOutNormFwdIdeal.τ).loc Cert.RefEvOutNormFwdIdeal.main_v25) = v0 c
          ∧ r.2.mem ((c.tc : Thread Cert.RefEvOutNormFwdIdeal.nD Cert.RefEvOutNormFwdIdeal.τ).loc Cert.RefEvOutNormFwdIdeal.main_v5) = v1 c
          ∧ r.2.mem ((c.tc : Thread Cert.RefEvOutNormFwdIdeal.nD Cert.RefEvOutNormFwdIdeal.τ).loc Cert.RefEvOutNormFwdIdeal.main_arg0) = m' ((c.tc : Thread Cert.RefEvOutNormFwdIdeal.nD Cert.RefEvOutNormFwdIdeal.τ).loc Cert.RefEvOutNormFwdIdeal.main_arg0)
          ∧ r.2.mem ((c.tc : Thread Cert.RefEvOutNormFwdIdeal.nD Cert.RefEvOutNormFwdIdeal.τ).loc Cert.RefEvOutNormFwdIdeal.main_arg1) = m' ((c.tc : Thread Cert.RefEvOutNormFwdIdeal.nD Cert.RefEvOutNormFwdIdeal.τ).loc Cert.RefEvOutNormFwdIdeal.main_arg1)
          ∧ r.2.mem ((c.tc : Thread Cert.RefEvOutNormFwdIdeal.nD Cert.RefEvOutNormFwdIdeal.τ).loc Cert.RefEvOutNormFwdIdeal.main_arg2) = m' ((c.tc : Thread Cert.RefEvOutNormFwdIdeal.nD Cert.RefEvOutNormFwdIdeal.τ).loc Cert.RefEvOutNormFwdIdeal.main_arg2)
          ∧ r.2.mem ((c.tc : Thread Cert.RefEvOutNormFwdIdeal.nD Cert.RefEvOutNormFwdIdeal.τ).loc Cert.RefEvOutNormFwdIdeal.main_arg3) = m' ((c.tc : Thread Cert.RefEvOutNormFwdIdeal.nD Cert.RefEvOutNormFwdIdeal.τ).loc Cert.RefEvOutNormFwdIdeal.main_arg3)
          ∧ r.2.mem ((c.tc : Thread Cert.RefEvOutNormFwdIdeal.nD Cert.RefEvOutNormFwdIdeal.τ).loc Cert.RefEvOutNormFwdIdeal.main_arg4) = m' ((c.tc : Thread Cert.RefEvOutNormFwdIdeal.nD Cert.RefEvOutNormFwdIdeal.τ).loc Cert.RefEvOutNormFwdIdeal.main_arg4))

def preserves_GateFwd_GateFwdIdeal : Prop :=
  True

def algebraic_GateFwdIdeal_RefGateFwdIdeal [hGateFwdIdeal : Cert.GateFwdIdeal.Facts] [hRefGateFwdIdeal : Cert.RefGateFwdIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg)
    (m' : (ℓ : Loc Cert.RefGateFwdIdeal.nD Cert.RefGateFwdIdeal.τ Cert.RefGateFwdIdeal.sig) → Buf (Elt Ideal) ℓ) (g' : Dev Cert.RefGateFwdIdeal.nD → PrngReg), Pre_GateFwdIdeal m →
    (∀ c : Dev Cert.GateFwdIdeal.nD,
      m' ((c.tc : Thread Cert.RefGateFwdIdeal.nD Cert.RefGateFwdIdeal.τ).loc Cert.RefGateFwdIdeal.main_arg0) = m ((c.tc : Thread Cert.GateFwdIdeal.nD Cert.GateFwdIdeal.τ).loc Cert.GateFwdIdeal.main_arg0)
      ∧ m' ((c.tc : Thread Cert.RefGateFwdIdeal.nD Cert.RefGateFwdIdeal.τ).loc Cert.RefGateFwdIdeal.main_arg1) = m ((c.tc : Thread Cert.GateFwdIdeal.nD Cert.GateFwdIdeal.τ).loc Cert.GateFwdIdeal.main_arg1)) →
    ∃ (v0 : (c : Dev Cert.GateFwdIdeal.nD) → Buf (Elt Ideal) ((c.tc : Thread Cert.GateFwdIdeal.nD Cert.GateFwdIdeal.τ).loc Cert.GateFwdIdeal.main_v0)),
      θ_run (Cert.GateFwdIdeal.defs (F := Ideal)) (onTc (τ := Cert.GateFwdIdeal.τ) (Cert.GateFwdIdeal.main (F := Ideal))) ⟨m, fun _ => 0, g⟩ (fun r => ∀ c : Dev Cert.GateFwdIdeal.nD,
          r.2.mem ((c.tc : Thread Cert.GateFwdIdeal.nD Cert.GateFwdIdeal.τ).loc Cert.GateFwdIdeal.main_v0) = v0 c
          ∧ r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
          ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1))
      ∧ θ_run (Cert.RefGateFwdIdeal.defs (F := Ideal)) (onTc (τ := Cert.RefGateFwdIdeal.τ) (Cert.RefGateFwdIdeal.main (F := Ideal))) ⟨m', fun _ => 0, g'⟩ (fun r => ∀ c : Dev Cert.RefGateFwdIdeal.nD,
          r.2.mem ((c.tc : Thread Cert.RefGateFwdIdeal.nD Cert.RefGateFwdIdeal.τ).loc Cert.RefGateFwdIdeal.main_v18) = v0 c
          ∧ r.2.mem ((c.tc : Thread Cert.RefGateFwdIdeal.nD Cert.RefGateFwdIdeal.τ).loc Cert.RefGateFwdIdeal.main_arg0) = m' ((c.tc : Thread Cert.RefGateFwdIdeal.nD Cert.RefGateFwdIdeal.τ).loc Cert.RefGateFwdIdeal.main_arg0)
          ∧ r.2.mem ((c.tc : Thread Cert.RefGateFwdIdeal.nD Cert.RefGateFwdIdeal.τ).loc Cert.RefGateFwdIdeal.main_arg1) = m' ((c.tc : Thread Cert.RefGateFwdIdeal.nD Cert.RefGateFwdIdeal.τ).loc Cert.RefGateFwdIdeal.main_arg1))

def preserves_QNormFwd_QNormFwdIdeal : Prop :=
  True

def algebraic_QNormFwdIdeal_RefQNormFwdIdeal [hQNormFwdIdeal : Cert.QNormFwdIdeal.Facts] [hRefQNormFwdIdeal : Cert.RefQNormFwdIdeal.Facts] : Prop :=
  ∀ (m : (ℓ : Loc Cert.QNormFwdIdeal.nD Cert.QNormFwdIdeal.τ Cert.QNormFwdIdeal.sig) → Buf (Elt Ideal) ℓ) (g : Dev Cert.QNormFwdIdeal.nD → PrngReg)
    (m' : (ℓ : Loc Cert.RefQNormFwdIdeal.nD Cert.RefQNormFwdIdeal.τ Cert.RefQNormFwdIdeal.sig) → Buf (Elt Ideal) ℓ) (g' : Dev Cert.RefQNormFwdIdeal.nD → PrngReg), Pre_QNormFwdIdeal m →
    (∀ c : Dev Cert.QNormFwdIdeal.nD,
      m' ((c.tc : Thread Cert.RefQNormFwdIdeal.nD Cert.RefQNormFwdIdeal.τ).loc Cert.RefQNormFwdIdeal.main_arg0) = m ((c.tc : Thread Cert.QNormFwdIdeal.nD Cert.QNormFwdIdeal.τ).loc Cert.QNormFwdIdeal.main_arg0)
      ∧ m' ((c.tc : Thread Cert.RefQNormFwdIdeal.nD Cert.RefQNormFwdIdeal.τ).loc Cert.RefQNormFwdIdeal.main_arg1) = m ((c.tc : Thread Cert.QNormFwdIdeal.nD Cert.QNormFwdIdeal.τ).loc Cert.QNormFwdIdeal.main_arg1)) →
    ∃ (v0 : (c : Dev Cert.QNormFwdIdeal.nD) → Buf (Elt Ideal) ((c.tc : Thread Cert.QNormFwdIdeal.nD Cert.QNormFwdIdeal.τ).loc Cert.QNormFwdIdeal.main_v0)),
      θ_run (Cert.QNormFwdIdeal.defs (F := Ideal)) (onTc (τ := Cert.QNormFwdIdeal.τ) (Cert.QNormFwdIdeal.main (F := Ideal))) ⟨m, fun _ => 0, g⟩ (fun r => ∀ c : Dev Cert.QNormFwdIdeal.nD,
          r.2.mem ((c.tc : Thread Cert.QNormFwdIdeal.nD Cert.QNormFwdIdeal.τ).loc Cert.QNormFwdIdeal.main_v0) = v0 c
          ∧ r.2.mem ((c.tc : Thread Cert.QNormFwdIdeal.nD Cert.QNormFwdIdeal.τ).loc Cert.QNormFwdIdeal.main_arg0) = m ((c.tc : Thread Cert.QNormFwdIdeal.nD Cert.QNormFwdIdeal.τ).loc Cert.QNormFwdIdeal.main_arg0)
          ∧ r.2.mem ((c.tc : Thread Cert.QNormFwdIdeal.nD Cert.QNormFwdIdeal.τ).loc Cert.QNormFwdIdeal.main_arg1) = m ((c.tc : Thread Cert.QNormFwdIdeal.nD Cert.QNormFwdIdeal.τ).loc Cert.QNormFwdIdeal.main_arg1))
      ∧ θ_run (Cert.RefQNormFwdIdeal.defs (F := Ideal)) (onTc (τ := Cert.RefQNormFwdIdeal.τ) (Cert.RefQNormFwdIdeal.main (F := Ideal))) ⟨m', fun _ => 0, g'⟩ (fun r => ∀ c : Dev Cert.RefQNormFwdIdeal.nD,
          r.2.mem ((c.tc : Thread Cert.RefQNormFwdIdeal.nD Cert.RefQNormFwdIdeal.τ).loc Cert.RefQNormFwdIdeal.main_v16) = v0 c
          ∧ r.2.mem ((c.tc : Thread Cert.RefQNormFwdIdeal.nD Cert.RefQNormFwdIdeal.τ).loc Cert.RefQNormFwdIdeal.main_arg0) = m' ((c.tc : Thread Cert.RefQNormFwdIdeal.nD Cert.RefQNormFwdIdeal.τ).loc Cert.RefQNormFwdIdeal.main_arg0)
          ∧ r.2.mem ((c.tc : Thread Cert.RefQNormFwdIdeal.nD Cert.RefQNormFwdIdeal.τ).loc Cert.RefQNormFwdIdeal.main_arg1) = m' ((c.tc : Thread Cert.RefQNormFwdIdeal.nD Cert.RefQNormFwdIdeal.τ).loc Cert.RefQNormFwdIdeal.main_arg1))

def preserves_KvNormFwd_KvNormFwdIdeal : Prop :=
  True

def algebraic_KvNormFwdIdeal_RefKvNormFwdIdeal [hKvNormFwdIdeal : Cert.KvNormFwdIdeal.Facts] [hRefKvNormFwdIdeal : Cert.RefKvNormFwdIdeal.Facts] : Prop :=
  ∀ (m : (ℓ : Loc Cert.KvNormFwdIdeal.nD Cert.KvNormFwdIdeal.τ Cert.KvNormFwdIdeal.sig) → Buf (Elt Ideal) ℓ) (g : Dev Cert.KvNormFwdIdeal.nD → PrngReg)
    (m' : (ℓ : Loc Cert.RefKvNormFwdIdeal.nD Cert.RefKvNormFwdIdeal.τ Cert.RefKvNormFwdIdeal.sig) → Buf (Elt Ideal) ℓ) (g' : Dev Cert.RefKvNormFwdIdeal.nD → PrngReg), Pre_KvNormFwdIdeal m →
    (∀ c : Dev Cert.KvNormFwdIdeal.nD,
      m' ((c.tc : Thread Cert.RefKvNormFwdIdeal.nD Cert.RefKvNormFwdIdeal.τ).loc Cert.RefKvNormFwdIdeal.main_arg0) = m ((c.tc : Thread Cert.KvNormFwdIdeal.nD Cert.KvNormFwdIdeal.τ).loc Cert.KvNormFwdIdeal.main_arg0)
      ∧ m' ((c.tc : Thread Cert.RefKvNormFwdIdeal.nD Cert.RefKvNormFwdIdeal.τ).loc Cert.RefKvNormFwdIdeal.main_arg1) = m ((c.tc : Thread Cert.KvNormFwdIdeal.nD Cert.KvNormFwdIdeal.τ).loc Cert.KvNormFwdIdeal.main_arg1)) →
    ∃ (v0 : (c : Dev Cert.KvNormFwdIdeal.nD) → Buf (Elt Ideal) ((c.tc : Thread Cert.KvNormFwdIdeal.nD Cert.KvNormFwdIdeal.τ).loc Cert.KvNormFwdIdeal.main_v0)),
      θ_run (Cert.KvNormFwdIdeal.defs (F := Ideal)) (onTc (τ := Cert.KvNormFwdIdeal.τ) (Cert.KvNormFwdIdeal.main (F := Ideal))) ⟨m, fun _ => 0, g⟩ (fun r => ∀ c : Dev Cert.KvNormFwdIdeal.nD,
          r.2.mem ((c.tc : Thread Cert.KvNormFwdIdeal.nD Cert.KvNormFwdIdeal.τ).loc Cert.KvNormFwdIdeal.main_v0) = v0 c
          ∧ r.2.mem ((c.tc : Thread Cert.KvNormFwdIdeal.nD Cert.KvNormFwdIdeal.τ).loc Cert.KvNormFwdIdeal.main_arg0) = m ((c.tc : Thread Cert.KvNormFwdIdeal.nD Cert.KvNormFwdIdeal.τ).loc Cert.KvNormFwdIdeal.main_arg0)
          ∧ r.2.mem ((c.tc : Thread Cert.KvNormFwdIdeal.nD Cert.KvNormFwdIdeal.τ).loc Cert.KvNormFwdIdeal.main_arg1) = m ((c.tc : Thread Cert.KvNormFwdIdeal.nD Cert.KvNormFwdIdeal.τ).loc Cert.KvNormFwdIdeal.main_arg1))
      ∧ θ_run (Cert.RefKvNormFwdIdeal.defs (F := Ideal)) (onTc (τ := Cert.RefKvNormFwdIdeal.τ) (Cert.RefKvNormFwdIdeal.main (F := Ideal))) ⟨m', fun _ => 0, g'⟩ (fun r => ∀ c : Dev Cert.RefKvNormFwdIdeal.nD,
          r.2.mem ((c.tc : Thread Cert.RefKvNormFwdIdeal.nD Cert.RefKvNormFwdIdeal.τ).loc Cert.RefKvNormFwdIdeal.main_v16) = v0 c
          ∧ r.2.mem ((c.tc : Thread Cert.RefKvNormFwdIdeal.nD Cert.RefKvNormFwdIdeal.τ).loc Cert.RefKvNormFwdIdeal.main_arg0) = m' ((c.tc : Thread Cert.RefKvNormFwdIdeal.nD Cert.RefKvNormFwdIdeal.τ).loc Cert.RefKvNormFwdIdeal.main_arg0)
          ∧ r.2.mem ((c.tc : Thread Cert.RefKvNormFwdIdeal.nD Cert.RefKvNormFwdIdeal.τ).loc Cert.RefKvNormFwdIdeal.main_arg1) = m' ((c.tc : Thread Cert.RefKvNormFwdIdeal.nD Cert.RefKvNormFwdIdeal.τ).loc Cert.RefKvNormFwdIdeal.main_arg1))

def preserves_RetFwd_RetFwdIdeal : Prop :=
  True

def algebraic_RetFwdIdeal_RefRetFwdIdeal [hRetFwdIdeal : Cert.RetFwdIdeal.Facts] [hRefRetFwdIdeal : Cert.RefRetFwdIdeal.Facts] : Prop :=
  ∀ (m : (ℓ : Loc Cert.RetFwdIdeal.nD Cert.RetFwdIdeal.τ Cert.RetFwdIdeal.sig) → Buf (Elt Ideal) ℓ) (g : Dev Cert.RetFwdIdeal.nD → PrngReg)
    (m' : (ℓ : Loc Cert.RefRetFwdIdeal.nD Cert.RefRetFwdIdeal.τ Cert.RefRetFwdIdeal.sig) → Buf (Elt Ideal) ℓ) (g' : Dev Cert.RefRetFwdIdeal.nD → PrngReg), Pre_RetFwdIdeal m →
    (∀ c : Dev Cert.RetFwdIdeal.nD,
      m' ((c.tc : Thread Cert.RefRetFwdIdeal.nD Cert.RefRetFwdIdeal.τ).loc Cert.RefRetFwdIdeal.main_arg0) = m ((c.tc : Thread Cert.RetFwdIdeal.nD Cert.RetFwdIdeal.τ).loc Cert.RetFwdIdeal.main_arg0)) →
    ∃ (v0 : (c : Dev Cert.RetFwdIdeal.nD) → Buf (Elt Ideal) ((c.tc : Thread Cert.RetFwdIdeal.nD Cert.RetFwdIdeal.τ).loc Cert.RetFwdIdeal.main_v24)),
      θ_run (Cert.RetFwdIdeal.defs (F := Ideal)) (onTc (τ := Cert.RetFwdIdeal.τ) (Cert.RetFwdIdeal.main (F := Ideal))) ⟨m, fun _ => 0, g⟩ (fun r => ∀ c : Dev Cert.RetFwdIdeal.nD,
          r.2.mem ((c.tc : Thread Cert.RetFwdIdeal.nD Cert.RetFwdIdeal.τ).loc Cert.RetFwdIdeal.main_v24) = v0 c
          ∧ r.2.mem ((c.tc : Thread Cert.RetFwdIdeal.nD Cert.RetFwdIdeal.τ).loc Cert.RetFwdIdeal.main_arg0) = m ((c.tc : Thread Cert.RetFwdIdeal.nD Cert.RetFwdIdeal.τ).loc Cert.RetFwdIdeal.main_arg0))
      ∧ θ_run (Cert.RefRetFwdIdeal.defs (F := Ideal)) (onTc (τ := Cert.RefRetFwdIdeal.τ) (Cert.RefRetFwdIdeal.main (F := Ideal))) ⟨m', fun _ => 0, g'⟩ (fun r => ∀ c : Dev Cert.RefRetFwdIdeal.nD,
          r.2.mem ((c.tc : Thread Cert.RefRetFwdIdeal.nD Cert.RefRetFwdIdeal.τ).loc Cert.RefRetFwdIdeal.main_v102) = v0 c
          ∧ r.2.mem ((c.tc : Thread Cert.RefRetFwdIdeal.nD Cert.RefRetFwdIdeal.τ).loc Cert.RefRetFwdIdeal.main_arg0) = m' ((c.tc : Thread Cert.RefRetFwdIdeal.nD Cert.RefRetFwdIdeal.τ).loc Cert.RefRetFwdIdeal.main_arg0))

def Claim : Prop :=
  ∃ (hKernel : Cert.Kernel.Facts) (hKernelIdeal : Cert.KernelIdeal.Facts) (hReferenceIdeal : Cert.ReferenceIdeal.Facts) (hW2Dx : Cert.W2Dx.Facts) (hW2DxIdeal : Cert.W2DxIdeal.Facts) (hRefW2DxIdeal : Cert.RefW2DxIdeal.Facts) (hW2Dw : Cert.W2Dw.Facts) (hW2DwIdeal : Cert.W2DwIdeal.Facts) (hRefW2DwIdeal : Cert.RefW2DwIdeal.Facts) (hW1Dx : Cert.W1Dx.Facts) (hW1DxIdeal : Cert.W1DxIdeal.Facts) (hRefW1DxIdeal : Cert.RefW1DxIdeal.Facts) (hW1Dw : Cert.W1Dw.Facts) (hW1DwIdeal : Cert.W1DwIdeal.Facts) (hRefW1DwIdeal : Cert.RefW1DwIdeal.Facts) (hInDx : Cert.InDx.Facts) (hInDxIdeal : Cert.InDxIdeal.Facts) (hRefInDxIdeal : Cert.RefInDxIdeal.Facts) (hInDw : Cert.InDw.Facts) (hInDwIdeal : Cert.InDwIdeal.Facts) (hRefInDwIdeal : Cert.RefInDwIdeal.Facts) (hOutDx : Cert.OutDx.Facts) (hOutDxIdeal : Cert.OutDxIdeal.Facts) (hRefOutDxIdeal : Cert.RefOutDxIdeal.Facts) (hOutDw : Cert.OutDw.Facts) (hOutDwIdeal : Cert.OutDwIdeal.Facts) (hRefOutDwIdeal : Cert.RefOutDwIdeal.Facts) (hNormBwd : Cert.NormBwd.Facts) (hNormBwdIdeal : Cert.NormBwdIdeal.Facts) (hRefNormBwdIdeal : Cert.RefNormBwdIdeal.Facts) (hGateBwd : Cert.GateBwd.Facts) (hGateBwdIdeal : Cert.GateBwdIdeal.Facts) (hRefGateBwdIdeal : Cert.RefGateBwdIdeal.Facts) (hQNormBwd : Cert.QNormBwd.Facts) (hQNormBwdIdeal : Cert.QNormBwdIdeal.Facts) (hRefQNormBwdIdeal : Cert.RefQNormBwdIdeal.Facts) (hKvNormBwd : Cert.KvNormBwd.Facts) (hKvNormBwdIdeal : Cert.KvNormBwdIdeal.Facts) (hRefKvNormBwdIdeal : Cert.RefKvNormBwdIdeal.Facts) (hEvInDx : Cert.EvInDx.Facts) (hEvInDxIdeal : Cert.EvInDxIdeal.Facts) (hRefEvInDxIdeal : Cert.RefEvInDxIdeal.Facts) (hEvInDw : Cert.EvInDw.Facts) (hEvInDwIdeal : Cert.EvInDwIdeal.Facts) (hRefEvInDwIdeal : Cert.RefEvInDwIdeal.Facts) (hUqDx : Cert.UqDx.Facts) (hUqDxIdeal : Cert.UqDxIdeal.Facts) (hRefUqDxIdeal : Cert.RefUqDxIdeal.Facts) (hUqDw : Cert.UqDw.Facts) (hUqDwIdeal : Cert.UqDwIdeal.Facts) (hRefUqDwIdeal : Cert.RefUqDwIdeal.Facts) (hUkvDx : Cert.UkvDx.Facts) (hUkvDxIdeal : Cert.UkvDxIdeal.Facts) (hRefUkvDxIdeal : Cert.RefUkvDxIdeal.Facts) (hUkvDw : Cert.UkvDw.Facts) (hUkvDwIdeal : Cert.UkvDwIdeal.Facts) (hRefUkvDwIdeal : Cert.RefUkvDwIdeal.Facts) (hEvOutDx : Cert.EvOutDx.Facts) (hEvOutDxIdeal : Cert.EvOutDxIdeal.Facts) (hRefEvOutDxIdeal : Cert.RefEvOutDxIdeal.Facts) (hEvOutDw : Cert.EvOutDw.Facts) (hEvOutDwIdeal : Cert.EvOutDwIdeal.Facts) (hRefEvOutDwIdeal : Cert.RefEvOutDwIdeal.Facts) (hW1Fwd : Cert.W1Fwd.Facts) (hW1FwdIdeal : Cert.W1FwdIdeal.Facts) (hRefW1FwdIdeal : Cert.RefW1FwdIdeal.Facts) (hW2NormFwd : Cert.W2NormFwd.Facts) (hW2NormFwdIdeal : Cert.W2NormFwdIdeal.Facts) (hRefW2NormFwdIdeal : Cert.RefW2NormFwdIdeal.Facts) (hInFwd : Cert.InFwd.Facts) (hInFwdIdeal : Cert.InFwdIdeal.Facts) (hRefInFwdIdeal : Cert.RefInFwdIdeal.Facts) (hOutNormFwd : Cert.OutNormFwd.Facts) (hOutNormFwdIdeal : Cert.OutNormFwdIdeal.Facts) (hRefOutNormFwdIdeal : Cert.RefOutNormFwdIdeal.Facts) (hEvInFwd : Cert.EvInFwd.Facts) (hEvInFwdIdeal : Cert.EvInFwdIdeal.Facts) (hRefEvInFwdIdeal : Cert.RefEvInFwdIdeal.Facts) (hUqFwd : Cert.UqFwd.Facts) (hUqFwdIdeal : Cert.UqFwdIdeal.Facts) (hRefUqFwdIdeal : Cert.RefUqFwdIdeal.Facts) (hUkvFwd : Cert.UkvFwd.Facts) (hUkvFwdIdeal : Cert.UkvFwdIdeal.Facts) (hRefUkvFwdIdeal : Cert.RefUkvFwdIdeal.Facts) (hEvOutNormFwd : Cert.EvOutNormFwd.Facts) (hEvOutNormFwdIdeal : Cert.EvOutNormFwdIdeal.Facts) (hRefEvOutNormFwdIdeal : Cert.RefEvOutNormFwdIdeal.Facts) (hGateFwd : Cert.GateFwd.Facts) (hGateFwdIdeal : Cert.GateFwdIdeal.Facts) (hRefGateFwdIdeal : Cert.RefGateFwdIdeal.Facts) (hQNormFwd : Cert.QNormFwd.Facts) (hQNormFwdIdeal : Cert.QNormFwdIdeal.Facts) (hRefQNormFwdIdeal : Cert.RefQNormFwdIdeal.Facts) (hKvNormFwd : Cert.KvNormFwd.Facts) (hKvNormFwdIdeal : Cert.KvNormFwdIdeal.Facts) (hRefKvNormFwdIdeal : Cert.RefKvNormFwdIdeal.Facts) (hRetFwd : Cert.RetFwd.Facts) (hRetFwdIdeal : Cert.RetFwdIdeal.Facts) (hRefRetFwdIdeal : Cert.RefRetFwdIdeal.Facts) (hPre_real_norm : Cert.Pre_real_norm.Facts) (hPre_real_gate : Cert.Pre_real_gate.Facts) (hPre_real_q_norm : Cert.Pre_real_q_norm.Facts) (hPre_real_kv_norm : Cert.Pre_real_kv_norm.Facts),
    quiescent_Kernel (hKernel := hKernel)
    ∧ quiescent_KernelIdeal (hKernelIdeal := hKernelIdeal)
    ∧ quiescent_ReferenceIdeal (hReferenceIdeal := hReferenceIdeal)
    ∧ quiescent_W2Dx (hW2Dx := hW2Dx)
    ∧ quiescent_W2DxIdeal (hW2DxIdeal := hW2DxIdeal)
    ∧ quiescent_RefW2DxIdeal (hRefW2DxIdeal := hRefW2DxIdeal)
    ∧ quiescent_W2Dw (hW2Dw := hW2Dw)
    ∧ quiescent_W2DwIdeal (hW2DwIdeal := hW2DwIdeal)
    ∧ quiescent_RefW2DwIdeal (hRefW2DwIdeal := hRefW2DwIdeal)
    ∧ quiescent_W1Dx (hW1Dx := hW1Dx)
    ∧ quiescent_W1DxIdeal (hW1DxIdeal := hW1DxIdeal)
    ∧ quiescent_RefW1DxIdeal (hRefW1DxIdeal := hRefW1DxIdeal)
    ∧ quiescent_W1Dw (hW1Dw := hW1Dw)
    ∧ quiescent_W1DwIdeal (hW1DwIdeal := hW1DwIdeal)
    ∧ quiescent_RefW1DwIdeal (hRefW1DwIdeal := hRefW1DwIdeal)
    ∧ quiescent_InDx (hInDx := hInDx)
    ∧ quiescent_InDxIdeal (hInDxIdeal := hInDxIdeal)
    ∧ quiescent_RefInDxIdeal (hRefInDxIdeal := hRefInDxIdeal)
    ∧ quiescent_InDw (hInDw := hInDw)
    ∧ quiescent_InDwIdeal (hInDwIdeal := hInDwIdeal)
    ∧ quiescent_RefInDwIdeal (hRefInDwIdeal := hRefInDwIdeal)
    ∧ quiescent_OutDx (hOutDx := hOutDx)
    ∧ quiescent_OutDxIdeal (hOutDxIdeal := hOutDxIdeal)
    ∧ quiescent_RefOutDxIdeal (hRefOutDxIdeal := hRefOutDxIdeal)
    ∧ quiescent_OutDw (hOutDw := hOutDw)
    ∧ quiescent_OutDwIdeal (hOutDwIdeal := hOutDwIdeal)
    ∧ quiescent_RefOutDwIdeal (hRefOutDwIdeal := hRefOutDwIdeal)
    ∧ quiescent_NormBwd (hNormBwd := hNormBwd)
    ∧ quiescent_NormBwdIdeal (hNormBwdIdeal := hNormBwdIdeal)
    ∧ quiescent_NormBwdIdeal_pre_real_norm (hNormBwdIdeal := hNormBwdIdeal) (hPre_real_norm := hPre_real_norm)
    ∧ quiescent_RefNormBwdIdeal (hRefNormBwdIdeal := hRefNormBwdIdeal)
    ∧ quiescent_RefNormBwdIdeal_pre_real_norm (hRefNormBwdIdeal := hRefNormBwdIdeal) (hPre_real_norm := hPre_real_norm)
    ∧ quiescent_GateBwd (hGateBwd := hGateBwd)
    ∧ quiescent_GateBwdIdeal (hGateBwdIdeal := hGateBwdIdeal)
    ∧ quiescent_GateBwdIdeal_pre_real_gate (hGateBwdIdeal := hGateBwdIdeal) (hPre_real_gate := hPre_real_gate)
    ∧ quiescent_RefGateBwdIdeal (hRefGateBwdIdeal := hRefGateBwdIdeal)
    ∧ quiescent_RefGateBwdIdeal_pre_real_gate (hRefGateBwdIdeal := hRefGateBwdIdeal) (hPre_real_gate := hPre_real_gate)
    ∧ quiescent_QNormBwd (hQNormBwd := hQNormBwd)
    ∧ quiescent_QNormBwdIdeal (hQNormBwdIdeal := hQNormBwdIdeal)
    ∧ quiescent_QNormBwdIdeal_pre_real_q_norm (hQNormBwdIdeal := hQNormBwdIdeal) (hPre_real_q_norm := hPre_real_q_norm)
    ∧ quiescent_RefQNormBwdIdeal (hRefQNormBwdIdeal := hRefQNormBwdIdeal)
    ∧ quiescent_RefQNormBwdIdeal_pre_real_q_norm (hRefQNormBwdIdeal := hRefQNormBwdIdeal) (hPre_real_q_norm := hPre_real_q_norm)
    ∧ quiescent_KvNormBwd (hKvNormBwd := hKvNormBwd)
    ∧ quiescent_KvNormBwdIdeal (hKvNormBwdIdeal := hKvNormBwdIdeal)
    ∧ quiescent_KvNormBwdIdeal_pre_real_kv_norm (hKvNormBwdIdeal := hKvNormBwdIdeal) (hPre_real_kv_norm := hPre_real_kv_norm)
    ∧ quiescent_RefKvNormBwdIdeal (hRefKvNormBwdIdeal := hRefKvNormBwdIdeal)
    ∧ quiescent_RefKvNormBwdIdeal_pre_real_kv_norm (hRefKvNormBwdIdeal := hRefKvNormBwdIdeal) (hPre_real_kv_norm := hPre_real_kv_norm)
    ∧ quiescent_EvInDx (hEvInDx := hEvInDx)
    ∧ quiescent_EvInDxIdeal (hEvInDxIdeal := hEvInDxIdeal)
    ∧ quiescent_RefEvInDxIdeal (hRefEvInDxIdeal := hRefEvInDxIdeal)
    ∧ quiescent_EvInDw (hEvInDw := hEvInDw)
    ∧ quiescent_EvInDwIdeal (hEvInDwIdeal := hEvInDwIdeal)
    ∧ quiescent_RefEvInDwIdeal (hRefEvInDwIdeal := hRefEvInDwIdeal)
    ∧ quiescent_UqDx (hUqDx := hUqDx)
    ∧ quiescent_UqDxIdeal (hUqDxIdeal := hUqDxIdeal)
    ∧ quiescent_RefUqDxIdeal (hRefUqDxIdeal := hRefUqDxIdeal)
    ∧ quiescent_UqDw (hUqDw := hUqDw)
    ∧ quiescent_UqDwIdeal (hUqDwIdeal := hUqDwIdeal)
    ∧ quiescent_RefUqDwIdeal (hRefUqDwIdeal := hRefUqDwIdeal)
    ∧ quiescent_UkvDx (hUkvDx := hUkvDx)
    ∧ quiescent_UkvDxIdeal (hUkvDxIdeal := hUkvDxIdeal)
    ∧ quiescent_RefUkvDxIdeal (hRefUkvDxIdeal := hRefUkvDxIdeal)
    ∧ quiescent_UkvDw (hUkvDw := hUkvDw)
    ∧ quiescent_UkvDwIdeal (hUkvDwIdeal := hUkvDwIdeal)
    ∧ quiescent_RefUkvDwIdeal (hRefUkvDwIdeal := hRefUkvDwIdeal)
    ∧ quiescent_EvOutDx (hEvOutDx := hEvOutDx)
    ∧ quiescent_EvOutDxIdeal (hEvOutDxIdeal := hEvOutDxIdeal)
    ∧ quiescent_RefEvOutDxIdeal (hRefEvOutDxIdeal := hRefEvOutDxIdeal)
    ∧ quiescent_EvOutDw (hEvOutDw := hEvOutDw)
    ∧ quiescent_EvOutDwIdeal (hEvOutDwIdeal := hEvOutDwIdeal)
    ∧ quiescent_RefEvOutDwIdeal (hRefEvOutDwIdeal := hRefEvOutDwIdeal)
    ∧ quiescent_W1Fwd (hW1Fwd := hW1Fwd)
    ∧ quiescent_W1FwdIdeal (hW1FwdIdeal := hW1FwdIdeal)
    ∧ quiescent_RefW1FwdIdeal (hRefW1FwdIdeal := hRefW1FwdIdeal)
    ∧ quiescent_W2NormFwd (hW2NormFwd := hW2NormFwd)
    ∧ quiescent_W2NormFwdIdeal (hW2NormFwdIdeal := hW2NormFwdIdeal)
    ∧ quiescent_RefW2NormFwdIdeal (hRefW2NormFwdIdeal := hRefW2NormFwdIdeal)
    ∧ quiescent_InFwd (hInFwd := hInFwd)
    ∧ quiescent_InFwdIdeal (hInFwdIdeal := hInFwdIdeal)
    ∧ quiescent_RefInFwdIdeal (hRefInFwdIdeal := hRefInFwdIdeal)
    ∧ quiescent_OutNormFwd (hOutNormFwd := hOutNormFwd)
    ∧ quiescent_OutNormFwdIdeal (hOutNormFwdIdeal := hOutNormFwdIdeal)
    ∧ quiescent_RefOutNormFwdIdeal (hRefOutNormFwdIdeal := hRefOutNormFwdIdeal)
    ∧ quiescent_EvInFwd (hEvInFwd := hEvInFwd)
    ∧ quiescent_EvInFwdIdeal (hEvInFwdIdeal := hEvInFwdIdeal)
    ∧ quiescent_RefEvInFwdIdeal (hRefEvInFwdIdeal := hRefEvInFwdIdeal)
    ∧ quiescent_UqFwd (hUqFwd := hUqFwd)
    ∧ quiescent_UqFwdIdeal (hUqFwdIdeal := hUqFwdIdeal)
    ∧ quiescent_RefUqFwdIdeal (hRefUqFwdIdeal := hRefUqFwdIdeal)
    ∧ quiescent_UkvFwd (hUkvFwd := hUkvFwd)
    ∧ quiescent_UkvFwdIdeal (hUkvFwdIdeal := hUkvFwdIdeal)
    ∧ quiescent_RefUkvFwdIdeal (hRefUkvFwdIdeal := hRefUkvFwdIdeal)
    ∧ quiescent_EvOutNormFwd (hEvOutNormFwd := hEvOutNormFwd)
    ∧ quiescent_EvOutNormFwdIdeal (hEvOutNormFwdIdeal := hEvOutNormFwdIdeal)
    ∧ quiescent_RefEvOutNormFwdIdeal (hRefEvOutNormFwdIdeal := hRefEvOutNormFwdIdeal)
    ∧ quiescent_GateFwd (hGateFwd := hGateFwd)
    ∧ quiescent_GateFwdIdeal (hGateFwdIdeal := hGateFwdIdeal)
    ∧ quiescent_RefGateFwdIdeal (hRefGateFwdIdeal := hRefGateFwdIdeal)
    ∧ quiescent_QNormFwd (hQNormFwd := hQNormFwd)
    ∧ quiescent_QNormFwdIdeal (hQNormFwdIdeal := hQNormFwdIdeal)
    ∧ quiescent_RefQNormFwdIdeal (hRefQNormFwdIdeal := hRefQNormFwdIdeal)
    ∧ quiescent_KvNormFwd (hKvNormFwd := hKvNormFwd)
    ∧ quiescent_KvNormFwdIdeal (hKvNormFwdIdeal := hKvNormFwdIdeal)
    ∧ quiescent_RefKvNormFwdIdeal (hRefKvNormFwdIdeal := hRefKvNormFwdIdeal)
    ∧ quiescent_RetFwd (hRetFwd := hRetFwd)
    ∧ quiescent_RetFwdIdeal (hRetFwdIdeal := hRetFwdIdeal)
    ∧ quiescent_RefRetFwdIdeal (hRefRetFwdIdeal := hRefRetFwdIdeal)
    ∧ preserves_Kernel_KernelIdeal
    ∧ algebraic_KernelIdeal_ReferenceIdeal (hKernelIdeal := hKernelIdeal) (hReferenceIdeal := hReferenceIdeal)
    ∧ preserves_W2Dx_W2DxIdeal
    ∧ algebraic_W2DxIdeal_RefW2DxIdeal (hW2DxIdeal := hW2DxIdeal) (hRefW2DxIdeal := hRefW2DxIdeal)
    ∧ preserves_W2Dw_W2DwIdeal
    ∧ algebraic_W2DwIdeal_RefW2DwIdeal (hW2DwIdeal := hW2DwIdeal) (hRefW2DwIdeal := hRefW2DwIdeal)
    ∧ preserves_W1Dx_W1DxIdeal
    ∧ algebraic_W1DxIdeal_RefW1DxIdeal (hW1DxIdeal := hW1DxIdeal) (hRefW1DxIdeal := hRefW1DxIdeal)
    ∧ preserves_W1Dw_W1DwIdeal
    ∧ algebraic_W1DwIdeal_RefW1DwIdeal (hW1DwIdeal := hW1DwIdeal) (hRefW1DwIdeal := hRefW1DwIdeal)
    ∧ preserves_InDx_InDxIdeal
    ∧ algebraic_InDxIdeal_RefInDxIdeal (hInDxIdeal := hInDxIdeal) (hRefInDxIdeal := hRefInDxIdeal)
    ∧ preserves_InDw_InDwIdeal
    ∧ algebraic_InDwIdeal_RefInDwIdeal (hInDwIdeal := hInDwIdeal) (hRefInDwIdeal := hRefInDwIdeal)
    ∧ preserves_OutDx_OutDxIdeal
    ∧ algebraic_OutDxIdeal_RefOutDxIdeal (hOutDxIdeal := hOutDxIdeal) (hRefOutDxIdeal := hRefOutDxIdeal)
    ∧ preserves_OutDw_OutDwIdeal
    ∧ algebraic_OutDwIdeal_RefOutDwIdeal (hOutDwIdeal := hOutDwIdeal) (hRefOutDwIdeal := hRefOutDwIdeal)
    ∧ preserves_NormBwd_NormBwdIdeal
    ∧ algebraic_NormBwdIdeal_RefNormBwdIdeal_pre_real_norm (hNormBwdIdeal := hNormBwdIdeal) (hRefNormBwdIdeal := hRefNormBwdIdeal) (hPre_real_norm := hPre_real_norm)
    ∧ preserves_GateBwd_GateBwdIdeal
    ∧ algebraic_GateBwdIdeal_RefGateBwdIdeal_pre_real_gate (hGateBwdIdeal := hGateBwdIdeal) (hRefGateBwdIdeal := hRefGateBwdIdeal) (hPre_real_gate := hPre_real_gate)
    ∧ preserves_QNormBwd_QNormBwdIdeal
    ∧ algebraic_QNormBwdIdeal_RefQNormBwdIdeal_pre_real_q_norm (hQNormBwdIdeal := hQNormBwdIdeal) (hRefQNormBwdIdeal := hRefQNormBwdIdeal) (hPre_real_q_norm := hPre_real_q_norm)
    ∧ preserves_KvNormBwd_KvNormBwdIdeal
    ∧ algebraic_KvNormBwdIdeal_RefKvNormBwdIdeal_pre_real_kv_norm (hKvNormBwdIdeal := hKvNormBwdIdeal) (hRefKvNormBwdIdeal := hRefKvNormBwdIdeal) (hPre_real_kv_norm := hPre_real_kv_norm)
    ∧ preserves_EvInDx_EvInDxIdeal
    ∧ algebraic_EvInDxIdeal_RefEvInDxIdeal (hEvInDxIdeal := hEvInDxIdeal) (hRefEvInDxIdeal := hRefEvInDxIdeal)
    ∧ preserves_EvInDw_EvInDwIdeal
    ∧ algebraic_EvInDwIdeal_RefEvInDwIdeal (hEvInDwIdeal := hEvInDwIdeal) (hRefEvInDwIdeal := hRefEvInDwIdeal)
    ∧ preserves_UqDx_UqDxIdeal
    ∧ algebraic_UqDxIdeal_RefUqDxIdeal (hUqDxIdeal := hUqDxIdeal) (hRefUqDxIdeal := hRefUqDxIdeal)
    ∧ preserves_UqDw_UqDwIdeal
    ∧ algebraic_UqDwIdeal_RefUqDwIdeal (hUqDwIdeal := hUqDwIdeal) (hRefUqDwIdeal := hRefUqDwIdeal)
    ∧ preserves_UkvDx_UkvDxIdeal
    ∧ algebraic_UkvDxIdeal_RefUkvDxIdeal (hUkvDxIdeal := hUkvDxIdeal) (hRefUkvDxIdeal := hRefUkvDxIdeal)
    ∧ preserves_UkvDw_UkvDwIdeal
    ∧ algebraic_UkvDwIdeal_RefUkvDwIdeal (hUkvDwIdeal := hUkvDwIdeal) (hRefUkvDwIdeal := hRefUkvDwIdeal)
    ∧ preserves_EvOutDx_EvOutDxIdeal
    ∧ algebraic_EvOutDxIdeal_RefEvOutDxIdeal (hEvOutDxIdeal := hEvOutDxIdeal) (hRefEvOutDxIdeal := hRefEvOutDxIdeal)
    ∧ preserves_EvOutDw_EvOutDwIdeal
    ∧ algebraic_EvOutDwIdeal_RefEvOutDwIdeal (hEvOutDwIdeal := hEvOutDwIdeal) (hRefEvOutDwIdeal := hRefEvOutDwIdeal)
    ∧ preserves_W1Fwd_W1FwdIdeal
    ∧ algebraic_W1FwdIdeal_RefW1FwdIdeal (hW1FwdIdeal := hW1FwdIdeal) (hRefW1FwdIdeal := hRefW1FwdIdeal)
    ∧ preserves_W2NormFwd_W2NormFwdIdeal
    ∧ algebraic_W2NormFwdIdeal_RefW2NormFwdIdeal (hW2NormFwdIdeal := hW2NormFwdIdeal) (hRefW2NormFwdIdeal := hRefW2NormFwdIdeal)
    ∧ preserves_InFwd_InFwdIdeal
    ∧ algebraic_InFwdIdeal_RefInFwdIdeal (hInFwdIdeal := hInFwdIdeal) (hRefInFwdIdeal := hRefInFwdIdeal)
    ∧ preserves_OutNormFwd_OutNormFwdIdeal
    ∧ algebraic_OutNormFwdIdeal_RefOutNormFwdIdeal (hOutNormFwdIdeal := hOutNormFwdIdeal) (hRefOutNormFwdIdeal := hRefOutNormFwdIdeal)
    ∧ preserves_EvInFwd_EvInFwdIdeal
    ∧ algebraic_EvInFwdIdeal_RefEvInFwdIdeal (hEvInFwdIdeal := hEvInFwdIdeal) (hRefEvInFwdIdeal := hRefEvInFwdIdeal)
    ∧ preserves_UqFwd_UqFwdIdeal
    ∧ algebraic_UqFwdIdeal_RefUqFwdIdeal (hUqFwdIdeal := hUqFwdIdeal) (hRefUqFwdIdeal := hRefUqFwdIdeal)
    ∧ preserves_UkvFwd_UkvFwdIdeal
    ∧ algebraic_UkvFwdIdeal_RefUkvFwdIdeal (hUkvFwdIdeal := hUkvFwdIdeal) (hRefUkvFwdIdeal := hRefUkvFwdIdeal)
    ∧ preserves_EvOutNormFwd_EvOutNormFwdIdeal
    ∧ algebraic_EvOutNormFwdIdeal_RefEvOutNormFwdIdeal (hEvOutNormFwdIdeal := hEvOutNormFwdIdeal) (hRefEvOutNormFwdIdeal := hRefEvOutNormFwdIdeal)
    ∧ preserves_GateFwd_GateFwdIdeal
    ∧ algebraic_GateFwdIdeal_RefGateFwdIdeal (hGateFwdIdeal := hGateFwdIdeal) (hRefGateFwdIdeal := hRefGateFwdIdeal)
    ∧ preserves_QNormFwd_QNormFwdIdeal
    ∧ algebraic_QNormFwdIdeal_RefQNormFwdIdeal (hQNormFwdIdeal := hQNormFwdIdeal) (hRefQNormFwdIdeal := hRefQNormFwdIdeal)
    ∧ preserves_KvNormFwd_KvNormFwdIdeal
    ∧ algebraic_KvNormFwdIdeal_RefKvNormFwdIdeal (hKvNormFwdIdeal := hKvNormFwdIdeal) (hRefKvNormFwdIdeal := hRefKvNormFwdIdeal)
    ∧ preserves_RetFwd_RetFwdIdeal
    ∧ algebraic_RetFwdIdeal_RefRetFwdIdeal (hRetFwdIdeal := hRetFwdIdeal) (hRefRetFwdIdeal := hRefRetFwdIdeal)
-- ==== Pre_real_gate.lean ====
abbrev S4352x2048 : Shape := ⟨2, ![4352, 2048]⟩
abbrev S4352x6144 : Shape := ⟨2, ![4352, 6144]⟩
abbrev S4352x1024 : Shape := ⟨2, ![4352, 1024]⟩
abbrev S_ : Shape := ⟨0, ![]⟩

class Facts : Prop where
  slices_S4352x6144_S4352x1024_0_0 : S4352x6144.Slices ![0, 0] S4352x1024
  slices_S4352x6144_S4352x1024_0_1024 : S4352x6144.Slices ![0, 1024] S4352x1024
  slices_S4352x6144_S4352x2048_0_2048 : S4352x6144.Slices ![0, 2048] S4352x2048
  slices_S4352x6144_S4352x2048_0_4096 : S4352x6144.Slices ![0, 4096] S4352x2048
  bitsLt_bf16_f32 : FTy.bits .bf16 < FTy.bits .f32
  bcast_S_S4352x2048 : S_.BroadcastsInDim S4352x2048 (![] : Fin 0 → Fin S4352x2048.rank)
  reducesTo_S4352x2048_S_d0_1 : S4352x2048.ReducesTo [0, 1] S_
  h_S_ : 0 < S_.numel

variable [Facts]

def fn {F : FTy → Type} [FloatOps F] (main_arg0 : FVec F S4352x2048 .f32) (main_arg1 : FVec F S4352x6144 .bf16) (main_arg2 : FVec F S4352x2048 .f32) : IVec S_ 1 :=
  let main_v0 : FVec F S4352x1024 .bf16 := (extractStridedSlice S4352x1024 ![0, 0] · slices_S4352x6144_S4352x1024_0_0) main_arg1
  let main_v1 : FVec F S4352x1024 .bf16 := (extractStridedSlice S4352x1024 ![0, 1024] · slices_S4352x6144_S4352x1024_0_1024) main_arg1
  let main_v2 : FVec F S4352x2048 .bf16 := (extractStridedSlice S4352x2048 ![0, 2048] · slices_S4352x6144_S4352x2048_0_2048) main_arg1
  let main_v3 : FVec F S4352x2048 .bf16 := (extractStridedSlice S4352x2048 ![0, 4096] · slices_S4352x6144_S4352x2048_0_4096) main_arg1
  let main_v4 : FVec F S4352x2048 .f32 := (extf .f32 · bitsLt_bf16_f32) main_v3
  let main_v5 : FVec F S4352x2048 .f32 := Host.absf main_v4
  let main_cst : FVec F S_ .f32 := constant S_ .f32 0x7F800000#32
  let main_v6 : FVec F S4352x2048 .f32 := broadcastInDim S4352x2048 ![] bcast_S_S4352x2048 main_cst
  let main_v7 : IVec S4352x2048 1 := cmpf .olt main_v5 main_v6
  let main_c : IVec S_ 1 := constantI S_ 1 1#1
  let main_v8 : IVec S_ 1 := (fun x v => Host.reduce IntOp.andi x v reducesTo_S4352x2048_S_d0_1 h_S_) main_v7 main_c
  let main_v9 : FVec F S4352x2048 .f32 := Host.absf main_arg2
  let main_cst_0 : FVec F S_ .f32 := constant S_ .f32 0x7F800000#32
  let main_v10 : FVec F S4352x2048 .f32 := broadcastInDim S4352x2048 ![] bcast_S_S4352x2048 main_cst_0
  let main_v11 : IVec S4352x2048 1 := cmpf .olt main_v9 main_v10
  let main_c_1 : IVec S_ 1 := constantI S_ 1 1#1
  let main_v12 : IVec S_ 1 := (fun x v => Host.reduce IntOp.andi x v reducesTo_S4352x2048_S_d0_1 h_S_) main_v11 main_c_1
  let main_v13 : IVec S_ 1 := andi main_v8 main_v12
  main_v13
-- ==== Pre_real_kv_norm.lean ====
abbrev S4352x1440 : Shape := ⟨2, ![4352, 1440]⟩
abbrev S1x128 : Shape := ⟨2, ![1, 128]⟩
abbrev S4352x128 : Shape := ⟨2, ![4352, 128]⟩
abbrev S_ : Shape := ⟨0, ![]⟩

class Facts : Prop where
  bcast_S_S1x128 : S_.BroadcastsInDim S1x128 (![] : Fin 0 → Fin S1x128.rank)
  reducesTo_S1x128_S_d0_1 : S1x128.ReducesTo [0, 1] S_
  h_S_ : 0 < S_.numel
  bcast_S_S4352x128 : S_.BroadcastsInDim S4352x128 (![] : Fin 0 → Fin S4352x128.rank)
  reducesTo_S4352x128_S_d0_1 : S4352x128.ReducesTo [0, 1] S_

variable [Facts]

def fn {F : FTy → Type} [FloatOps F] (main_arg0 : FVec F S4352x1440 .f32) (main_arg1 : FVec F S1x128 .f32) (main_arg2 : FVec F S4352x128 .f32) : IVec S_ 1 :=
  let main_v0 : FVec F S1x128 .f32 := Host.absf main_arg1
  let main_cst : FVec F S_ .f32 := constant S_ .f32 0x7F800000#32
  let main_v1 : FVec F S1x128 .f32 := broadcastInDim S1x128 ![] bcast_S_S1x128 main_cst
  let main_v2 : IVec S1x128 1 := cmpf .olt main_v0 main_v1
  let main_c : IVec S_ 1 := constantI S_ 1 1#1
  let main_v3 : IVec S_ 1 := (fun x v => Host.reduce IntOp.andi x v reducesTo_S1x128_S_d0_1 h_S_) main_v2 main_c
  let main_v4 : FVec F S4352x128 .f32 := Host.absf main_arg2
  let main_cst_0 : FVec F S_ .f32 := constant S_ .f32 0x7F800000#32
  let main_v5 : FVec F S4352x128 .f32 := broadcastInDim S4352x128 ![] bcast_S_S4352x128 main_cst_0
  let main_v6 : IVec S4352x128 1 := cmpf .olt main_v4 main_v5
  let main_c_1 : IVec S_ 1 := constantI S_ 1 1#1
  let main_v7 : IVec S_ 1 := (fun x v => Host.reduce IntOp.andi x v reducesTo_S4352x128_S_d0_1 h_S_) main_v6 main_c_1
  let main_v8 : IVec S_ 1 := andi main_v3 main_v7
  main_v8
-- ==== Pre_real_norm.lean ====
abbrev S4352x1024 : Shape := ⟨2, ![4352, 1024]⟩
abbrev S1x1024 : Shape := ⟨2, ![1, 1024]⟩
abbrev S_ : Shape := ⟨0, ![]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  bcast_S_S4352x1024 : S_.BroadcastsInDim S4352x1024 (![] : Fin 0 → Fin S4352x1024.rank)
  reducesTo_S4352x1024_S_d0_1 : S4352x1024.ReducesTo [0, 1] S_

variable [Facts]

def fn {F : FTy → Type} [FloatOps F] (main_arg0 : FVec F S4352x1024 .f32) (main_arg1 : FVec F S1x1024 .f32) (main_arg2 : FVec F S4352x1024 .f32) : IVec S_ 1 :=
  let main_v0 : FVec F S1x1024 .f32 := Host.absf main_arg1
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_c : IVec S_ 1 := constantI S_ 1 1#1
  let main_v3 : IVec S_ 1 := (fun x v => Host.reduce IntOp.andi x v reducesTo_S1x1024_S_d0_1 h_S_) main_v2 main_c
  let main_v4 : FVec F S4352x1024 .f32 := Host.absf main_arg2
  let main_cst_0 : FVec F S_ .f32 := constant S_ .f32 0x7F800000#32
  let main_v5 : FVec F S4352x1024 .f32 := broadcastInDim S4352x1024 ![] bcast_S_S4352x1024 main_cst_0
  let main_v6 : IVec S4352x1024 1 := cmpf .olt main_v4 main_v5
  let main_c_1 : IVec S_ 1 := constantI S_ 1 1#1
  let main_v7 : IVec S_ 1 := (fun x v => Host.reduce IntOp.andi x v reducesTo_S4352x1024_S_d0_1 h_S_) main_v6 main_c_1
  let main_v8 : IVec S_ 1 := andi main_v3 main_v7
  main_v8
-- ==== Pre_real_q_norm.lean ====
abbrev S4352x1440 : Shape := ⟨2, ![4352, 1440]⟩
abbrev S1x256 : Shape := ⟨2, ![1, 256]⟩
abbrev S4352x256 : Shape := ⟨2, ![4352, 256]⟩
abbrev S_ : Shape := ⟨0, ![]⟩

class Facts : Prop where
  bcast_S_S1x256 : S_.BroadcastsInDim S1x256 (![] : Fin 0 → Fin S1x256.rank)
  reducesTo_S1x256_S_d0_1 : S1x256.ReducesTo [0, 1] S_
  h_S_ : 0 < S_.numel
  bcast_S_S4352x256 : S_.BroadcastsInDim S4352x256 (![] : Fin 0 → Fin S4352x256.rank)
  reducesTo_S4352x256_S_d0_1 : S4352x256.ReducesTo [0, 1] S_

variable [Facts]

def fn {F : FTy → Type} [FloatOps F] (main_arg0 : FVec F S4352x1440 .f32) (main_arg1 : FVec F S1x256 .f32) (main_arg2 : FVec F S4352x256 .f32) : IVec S_ 1 :=
  let main_v0 : FVec F S1x256 .f32 := Host.absf main_arg1
  let main_cst : FVec F S_ .f32 := constant S_ .f32 0x7F800000#32
  let main_v1 : FVec F S1x256 .f32 := broadcastInDim S1x256 ![] bcast_S_S1x256 main_cst
  let main_v2 : IVec S1x256 1 := cmpf .olt main_v0 main_v1
  let main_c : IVec S_ 1 := constantI S_ 1 1#1
  let main_v3 : IVec S_ 1 := (fun x v => Host.reduce IntOp.andi x v reducesTo_S1x256_S_d0_1 h_S_) main_v2 main_c
  let main_v4 : FVec F S4352x256 .f32 := Host.absf main_arg2
  let main_cst_0 : FVec F S_ .f32 := constant S_ .f32 0x7F800000#32
  let main_v5 : FVec F S4352x256 .f32 := broadcastInDim S4352x256 ![] bcast_S_S4352x256 main_cst_0
  let main_v6 : IVec S4352x256 1 := cmpf .olt main_v4 main_v5
  let main_c_1 : IVec S_ 1 := constantI S_ 1 1#1
  let main_v7 : IVec S_ 1 := (fun x v => Host.reduce IntOp.andi x v reducesTo_S4352x256_S_d0_1 h_S_) main_v6 main_c_1
  let main_v8 : IVec S_ 1 := andi main_v3 main_v7
  main_v8
-- ==== Kernel.lean ====
abbrev S2x2176x6144 : Shape := ⟨3, ![2, 2176, 6144]⟩
abbrev S2x2064x2048 : Shape := ⟨3, ![2, 2064, 2048]⟩
abbrev S_ : Shape := ⟨0, ![]⟩
abbrev S2x2176x2048 : Shape := ⟨3, ![2, 2176, 2048]⟩
abbrev S128 : Shape := ⟨1, ![128]⟩
abbrev S2176 : Shape := ⟨1, ![2176]⟩
abbrev S2176x1 : Shape := ⟨2, ![2176, 1]⟩
abbrev S1x128 : Shape := ⟨2, ![1, 128]⟩
abbrev S2176x128 : Shape := ⟨2, ![2176, 128]⟩
abbrev S4 : Shape := ⟨1, ![4]⟩
abbrev S4x1x1 : Shape := ⟨3, ![4, 1, 1]⟩
abbrev S2x2176x1024 : Shape := ⟨3, ![2, 2176, 1024]⟩
abbrev S1x2176x256 : Shape := ⟨3, ![1, 2176, 256]⟩
abbrev S1x2176x512 : Shape := ⟨3, ![1, 2176, 512]⟩
abbrev S1x1x1 : Shape := ⟨3, ![1, 1, 1]⟩
abbrev S2176x256 : Shape := ⟨2, ![2176, 256]⟩
abbrev S2176x512 : Shape := ⟨2, ![2176, 512]⟩
abbrev S1x1 : Shape := ⟨2, ![1, 1]⟩
abbrev S128x256 : Shape := ⟨2, ![128, 256]⟩
abbrev S1x128x512 : Shape := ⟨3, ![1, 128, 512]⟩
abbrev S128x512 : Shape := ⟨2, ![128, 512]⟩
abbrev S128x128 : Shape := ⟨2, ![128, 128]⟩
abbrev S512x256 : Shape := ⟨2, ![512, 256]⟩
abbrev S1x512x512 : Shape := ⟨3, ![1, 512, 512]⟩
abbrev S512x512 : Shape := ⟨2, ![512, 512]⟩
abbrev S640x256 : Shape := ⟨2, ![640, 256]⟩
abbrev S512x640 : Shape := ⟨2, ![512, 640]⟩
abbrev S512x128 : Shape := ⟨2, ![512, 128]⟩
abbrev S640x512 : Shape := ⟨2, ![640, 512]⟩
abbrev S1x640x512 : Shape := ⟨3, ![1, 640, 512]⟩
abbrev S1152x256 : Shape := ⟨2, ![1152, 256]⟩
abbrev S512x1152 : Shape := ⟨2, ![512, 1152]⟩
abbrev S1152x512 : Shape := ⟨2, ![1152, 512]⟩
abbrev S1x1152x512 : Shape := ⟨3, ![1, 1152, 512]⟩
abbrev S1664x256 : Shape := ⟨2, ![1664, 256]⟩
abbrev S512x1664 : Shape := ⟨2, ![512, 1664]⟩
abbrev S1664x512 : Shape := ⟨2, ![1664, 512]⟩
abbrev S1x1664x512 : Shape := ⟨3, ![1, 1664, 512]⟩
abbrev S512x2176 : Shape := ⟨2, ![512, 2176]⟩

abbrev nBuf : Space → Nat
  | .hbm => 37
  | .vmem => 23
  | .smem => 0
  | _ => 0

abbrev bufTy : (tb : Table) → Fin (tcTables nBuf tb) → BufTy
  | .hbm, ⟨0, _⟩ => ⟨S2x2176x6144, .bf16⟩
  | .hbm, ⟨1, _⟩ => ⟨S2x2064x2048, .bf16⟩
  | .hbm, ⟨2, _⟩ => ⟨S_, .i32⟩
  | .hbm, ⟨3, _⟩ => ⟨S_, .bf16⟩
  | .hbm, ⟨4, _⟩ => ⟨S2x2176x2048, .bf16⟩
  | .hbm, ⟨5, _⟩ => ⟨S128, .f32⟩
  | .hbm, ⟨6, _⟩ => ⟨S128, .f32⟩
  | .hbm, ⟨7, _⟩ => ⟨S_, .f32⟩
  | .hbm, ⟨8, _⟩ => ⟨S128, .f32⟩
  | .hbm, ⟨9, _⟩ => ⟨S128, .f32⟩
  | .hbm, ⟨10, _⟩ => ⟨S_, .f32⟩
  | .hbm, ⟨11, _⟩ => ⟨S128, .f32⟩
  | .hbm, ⟨12, _⟩ => ⟨S128, .f32⟩
  | .hbm, ⟨13, _⟩ => ⟨S2176, .i32⟩
  | .hbm, ⟨14, _⟩ => ⟨S2176, .f32⟩
  | .hbm, ⟨15, _⟩ => ⟨S2176x1, .f32⟩
  | .hbm, ⟨16, _⟩ => ⟨S1x128, .f32⟩
  | .hbm, ⟨17, _⟩ => ⟨S2176x128, .f32⟩
  | .hbm, ⟨18, _⟩ => ⟨S2176x128, .f32⟩
  | .hbm, ⟨19, _⟩ => ⟨S2176x128, .f32⟩
  | .hbm, ⟨20, _⟩ => ⟨S2176x128, .f32⟩
  | .hbm, ⟨21, _⟩ => ⟨S2176x128, .f32⟩
  | .hbm, ⟨22, _⟩ => ⟨S4, .f32⟩
  | .hbm, ⟨23, _⟩ => ⟨S_, .f32⟩
  | .hbm, ⟨24, _⟩ => ⟨S4, .f32⟩
  | .hbm, ⟨25, _⟩ => ⟨S4, .f32⟩
  | .hbm, ⟨26, _⟩ => ⟨S_, .f32⟩
  | .hbm, ⟨27, _⟩ => ⟨S4, .f32⟩
  | .hbm, ⟨28, _⟩ => ⟨S4, .f32⟩
  | .hbm, ⟨29, _⟩ => ⟨S_, .f32⟩
  | .hbm, ⟨30, _⟩ => ⟨S4, .f32⟩
  | .hbm, ⟨31, _⟩ => ⟨S4, .f32⟩
  | .hbm, ⟨32, _⟩ => ⟨S4, .f32⟩
  | .hbm, ⟨33, _⟩ => ⟨S4x1x1, .f32⟩
  | .hbm, ⟨34, _⟩ => ⟨S2x2176x1024, .bf16⟩
  | .hbm, ⟨35, _⟩ => ⟨S2x2176x1024, .bf16⟩
  | .hbm, ⟨36, _⟩ => ⟨S2x2176x2048, .bf16⟩
  | .local _ .vmem, ⟨0, _⟩ => ⟨S1x2176x256, .bf16⟩
  | .local _ .vmem, ⟨1, _⟩ => ⟨S1x2176x256, .bf16⟩
  | .local _ .vmem, ⟨2, _⟩ => ⟨S1x2176x256, .bf16⟩
  | .local _ .vmem, ⟨3, _⟩ => ⟨S1x2176x256, .bf16⟩
  | .local _ .vmem, ⟨4, _⟩ => ⟨S1x2176x512, .bf16⟩
  | .local _ .vmem, ⟨5, _⟩ => ⟨S1x2176x512, .bf16⟩
  | .local _ .vmem, ⟨6, _⟩ => ⟨S1x2176x512, .bf16⟩
  | .local _ .vmem, ⟨7, _⟩ => ⟨S1x2176x512, .bf16⟩
  | .local _ .vmem, ⟨8, _⟩ => ⟨S2176x128, .f32⟩
  | .local _ .vmem, ⟨9, _⟩ => ⟨S2176x128, .f32⟩
  | .local _ .vmem, ⟨10, _⟩ => ⟨S1x1x1, .f32⟩
  | .local _ .vmem, ⟨11, _⟩ => ⟨S1x1x1, .f32⟩
  | .local _ .vmem, ⟨12, _⟩ => ⟨S1x2176x256, .bf16⟩
  | .local _ .vmem, ⟨13, _⟩ => ⟨S1x2176x256, .bf16⟩
  | .local _ .vmem, ⟨14, _⟩ => ⟨S1x2176x256, .bf16⟩
  | .local _ .vmem, ⟨15, _⟩ => ⟨S1x2176x256, .bf16⟩
  | .local _ .vmem, ⟨16, _⟩ => ⟨S1x2176x512, .bf16⟩
  | .local _ .vmem, ⟨17, _⟩ => ⟨S1x2176x512, .bf16⟩
  | .local _ .vmem, ⟨18, _⟩ => ⟨S2176x256, .bf16⟩
  | .local _ .vmem, ⟨19, _⟩ => ⟨S2176x256, .bf16⟩
  | .local _ .vmem, ⟨20, _⟩ => ⟨S2176x256, .f32⟩
  | .local _ .vmem, ⟨21, _⟩ => ⟨S2176x256, .f32⟩
  | .local _ .vmem, ⟨22, _⟩ => ⟨S2176x512, .f32⟩
  | _, _ => ⟨S2x2176x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25_0 : Ref sig .tc := ⟨.hbm, 34, rfl⟩
abbrev main_v25_1 : Ref sig .tc := ⟨.hbm, 35, rfl⟩
abbrev main_v25_2 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2176x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2176x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2176x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2176x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S2176x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2176x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x2176x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2176x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2176x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S2x2176x6144 : Shape := ⟨3, ![2, 2176, 6144]⟩
abbrev S2x2064x2048 : Shape := ⟨3, ![2, 2064, 2048]⟩
abbrev S2x2064x6144 : Shape := ⟨3, ![2, 2064, 6144]⟩
abbrev S2x2064x1024 : Shape := ⟨3, ![2, 2064, 1024]⟩
abbrev S2064 : Shape := ⟨1, ![2064]⟩
abbrev S2x2064x4x256 : Shape := ⟨4, ![2, 2064, 4, 256]⟩
abbrev S128 : Shape := ⟨1, ![128]⟩
abbrev S_ : Shape := ⟨0, ![]⟩
abbrev S2064x1 : Shape := ⟨2, ![2064, 1]⟩
abbrev S1x128 : Shape := ⟨2, ![1, 128]⟩
abbrev S2064x128 : Shape := ⟨2, ![2064, 128]⟩
abbrev S1x2064x1x128 : Shape := ⟨4, ![1, 2064, 1, 128]⟩
abbrev S2x2064x4x128 : Shape := ⟨4, ![2, 2064, 4, 128]⟩
abbrev S2x2064x4x512 : Shape := ⟨4, ![2, 2064, 4, 512]⟩
abbrev S4 : Shape := ⟨1, ![4]⟩
abbrev S1x2064 : Shape := ⟨2, ![1, 2064]⟩
abbrev S2064x2064 : Shape := ⟨2, ![2064, 2064]⟩
abbrev S4x1x1 : Shape := ⟨3, ![4, 1, 1]⟩
abbrev S1x2064x2064 : Shape := ⟨3, ![1, 2064, 2064]⟩
abbrev S4x2064x2064 : Shape := ⟨3, ![4, 2064, 2064]⟩
abbrev S2x4x2064x2064 : Shape := ⟨4, ![2, 4, 2064, 2064]⟩
abbrev S1x4x2064x2064 : Shape := ⟨4, ![1, 4, 2064, 2064]⟩
abbrev S2x4x512x2064 : Shape := ⟨4, ![2, 4, 512, 2064]⟩
abbrev S2x4x2064x256 : Shape := ⟨4, ![2, 4, 2064, 256]⟩
abbrev S2x2176x1024 : Shape := ⟨3, ![2, 2176, 1024]⟩
abbrev S2x2176x2048 : Shape := ⟨3, ![2, 2176, 2048]⟩

abbrev nBuf : Space → Nat
  | .hbm => 187
  | .vmem => 0
  | .smem => 0
  | _ => 0

abbrev hbmTy0_0 (i : Nat) : BufTy := match i % 128 with
  | 0 => ⟨S2x2176x6144, .bf16⟩
  | 1 => ⟨S2x2064x2048, .bf16⟩
  | 2 => ⟨S2x2064x6144, .bf16⟩
  | 3 => ⟨S2x2064x1024, .bf16⟩
  | 4 => ⟨S2x2064x1024, .bf16⟩
  | 5 => ⟨S2x2064x2048, .bf16⟩
  | 6 => ⟨S2x2064x2048, .bf16⟩
  | 7 => ⟨S2x2064x1024, .f32⟩
  | 8 => ⟨S2x2064x1024, .f32⟩
  | 9 => ⟨S2x2064x2048, .f32⟩
  | 10 => ⟨S2064, .i32⟩
  | 11 => ⟨S2x2064x4x256, .f32⟩
  | 12 => ⟨S128, .f32⟩
  | 13 => ⟨S128, .f32⟩
  | 14 => ⟨S_, .f32⟩
  | 15 => ⟨S128, .f32⟩
  | 16 => ⟨S128, .f32⟩
  | 17 => ⟨S_, .f32⟩
  | 18 => ⟨S128, .f32⟩
  | 19 => ⟨S128, .f32⟩
  | 20 => ⟨S2064, .f32⟩
  | 21 => ⟨S2064x1, .f32⟩
  | 22 => ⟨S1x128, .f32⟩
  | 23 => ⟨S2064x128, .f32⟩
  | 24 => ⟨S2064x128, .f32⟩
  | 25 => ⟨S2064x128, .f32⟩
  | 26 => ⟨S2064x128, .f32⟩
  | 27 => ⟨S1x2064x1x128, .f32⟩
  | 28 => ⟨S2064x128, .f32⟩
  | 29 => ⟨S1x2064x1x128, .f32⟩
  | 30 => ⟨S2x2064x4x128, .f32⟩
  | 31 => ⟨S2x2064x4x128, .f32⟩
  | 32 => ⟨S2x2064x4x128, .f32⟩
  | 33 => ⟨S2x2064x4x128, .f32⟩
  | 34 => ⟨S2x2064x4x128, .f32⟩
  | 35 => ⟨S2x2064x4x128, .f32⟩
  | 36 => ⟨S2x2064x4x128, .f32⟩
  | 37 => ⟨S2x2064x4x128, .f32⟩
  | 38 => ⟨S2x2064x4x128, .f32⟩
  | 39 => ⟨S2x2064x4x128, .f32⟩
  | 40 => ⟨S2x2064x4x128, .f32⟩
  | 41 => ⟨S2x2064x4x128, .f32⟩
  | 42 => ⟨S2x2064x4x256, .f32⟩
  | 43 => ⟨S2x2064x4x256, .f32⟩
  | 44 => ⟨S128, .f32⟩
  | 45 => ⟨S128, .f32⟩
  | 46 => ⟨S_, .f32⟩
  | 47 => ⟨S128, .f32⟩
  | 48 => ⟨S128, .f32⟩
  | 49 => ⟨S_, .f32⟩
  | 50 => ⟨S128, .f32⟩
  | 51 => ⟨S128, .f32⟩
  | 52 => ⟨S2064, .f32⟩
  | 53 => ⟨S2064x1, .f32⟩
  | 54 => ⟨S1x128, .f32⟩
  | 55 => ⟨S2064x128, .f32⟩
  | 56 => ⟨S2064x128, .f32⟩
  | 57 => ⟨S2064x128, .f32⟩
  | 58 => ⟨S2064x128, .f32⟩
  | 59 => ⟨S1x2064x1x128, .f32⟩
  | 60 => ⟨S2064x128, .f32⟩
  | 61 => ⟨S1x2064x1x128, .f32⟩
  | 62 => ⟨S2x2064x4x128, .f32⟩
  | 63 => ⟨S2x2064x4x128, .f32⟩
  | 64 => ⟨S2x2064x4x128, .f32⟩
  | 65 => ⟨S2x2064x4x128, .f32⟩
  | 66 => ⟨S2x2064x4x128, .f32⟩
  | 67 => ⟨S2x2064x4x128, .f32⟩
  | 68 => ⟨S2x2064x4x128, .f32⟩
  | 69 => ⟨S2x2064x4x128, .f32⟩
  | 70 => ⟨S2x2064x4x128, .f32⟩
  | 71 => ⟨S2x2064x4x128, .f32⟩
  | 72 => ⟨S2x2064x4x128, .f32⟩
  | 73 => ⟨S2x2064x4x128, .f32⟩
  | 74 => ⟨S2x2064x4x256, .f32⟩
  | 75 => ⟨S_, .f32⟩
  | 76 => ⟨S2x2064x4x256, .f32⟩
  | 77 => ⟨S2x2064x4x256, .f32⟩
  | 78 => ⟨S2x2064x4x512, .f32⟩
  | 79 => ⟨S4, .f32⟩
  | 80 => ⟨S_, .f32⟩
  | 81 => ⟨S4, .f32⟩
  | 82 => ⟨S4, .f32⟩
  | 83 => ⟨S_, .f32⟩
  | 84 => ⟨S4, .f32⟩
  | 85 => ⟨S4, .f32⟩
  | 86 => ⟨S_, .f32⟩
  | 87 => ⟨S4, .f32⟩
  | 88 => ⟨S4, .f32⟩
  | 89 => ⟨S4, .f32⟩
  | 90 => ⟨S2064, .f32⟩
  | 91 => ⟨S2064x1, .f32⟩
  | 92 => ⟨S1x2064, .f32⟩
  | 93 => ⟨S2064x2064, .f32⟩
  | 94 => ⟨S2064x2064, .f32⟩
  | 95 => ⟨S2064x2064, .f32⟩
  | 96 => ⟨S_, .f32⟩
  | 97 => ⟨S2064x2064, .f32⟩
  | 98 => ⟨S2064x2064, .i1⟩
  | 99 => ⟨S4x1x1, .f32⟩
  | 100 => ⟨S_, .f32⟩
  | 101 => ⟨S2064x2064, .f32⟩
  | 102 => ⟨S2064x2064, .f32⟩
  | 103 => ⟨S1x2064x2064, .f32⟩
  | 104 => ⟨S4x2064x2064, .f32⟩
  | 105 => ⟨S4x2064x2064, .f32⟩
  | 106 => ⟨S4x2064x2064, .f32⟩
  | 107 => ⟨S4x2064x2064, .f32⟩
  | 108 => ⟨S_, .f32⟩
  | 109 => ⟨S_, .f32⟩
  | 110 => ⟨S4x2064x2064, .i1⟩
  | 111 => ⟨S4x2064x2064, .f32⟩
  | 112 => ⟨S4x2064x2064, .f32⟩
  | 113 => ⟨S2x4x2064x2064, .f32⟩
  | 114 => ⟨S1x4x2064x2064, .f32⟩
  | 115 => ⟨S2x4x2064x2064, .f32⟩
  | 116 => ⟨S2x4x2064x2064, .f32⟩
  | 117 => ⟨S2x4x512x2064, .f32⟩
  | 118 => ⟨S2x2064x4x512, .f32⟩
  | 119 => ⟨S2x2064x2048, .f32⟩
  | 120 => ⟨S2x2064x2048, .bf16⟩
  | 121 => ⟨S2x2064x2048, .f32⟩
  | 122 => ⟨S2x2064x4x512, .f32⟩
  | 123 => ⟨S2x4x512x2064, .f32⟩
  | 124 => ⟨S2x4x2064x2064, .f32⟩
  | 125 => ⟨S2x4x512x2064, .f32⟩
  | 126 => ⟨S2x2064x4x512, .f32⟩
  | 127 => ⟨S2x4x2064x2064, .f32⟩
  | _ => ⟨S2x2176x6144, .bf16⟩

abbrev hbmTy0_1 (i : Nat) : BufTy := match i % 128 with
  | 0 => ⟨S2x4x2064x2064, .f32⟩
  | 1 => ⟨S2x4x2064x256, .f32⟩
  | 2 => ⟨S2x2064x4x256, .f32⟩
  | 3 => ⟨S2x4x2064x256, .f32⟩
  | 4 => ⟨S2x2064x4x256, .f32⟩
  | 5 => ⟨S2x2064x2048, .f32⟩
  | 6 => ⟨S_, .f32⟩
  | 7 => ⟨S2x2064x4x256, .f32⟩
  | 8 => ⟨S2x2064x4x256, .f32⟩
  | 9 => ⟨S2x2064x4x128, .f32⟩
  | 10 => ⟨S2x2064x4x128, .f32⟩
  | 11 => ⟨S2x2064x4x128, .f32⟩
  | 12 => ⟨S2x2064x4x128, .f32⟩
  | 13 => ⟨S2x2064x4x128, .f32⟩
  | 14 => ⟨S2x2064x4x128, .f32⟩
  | 15 => ⟨S2x2064x4x128, .f32⟩
  | 16 => ⟨S2x2064x4x128, .f32⟩
  | 17 => ⟨S2x2064x4x128, .f32⟩
  | 18 => ⟨S2x2064x4x128, .f32⟩
  | 19 => ⟨S2x2064x4x128, .f32⟩
  | 20 => ⟨S2x2064x4x128, .f32⟩
  | 21 => ⟨S2x2064x4x128, .f32⟩
  | 22 => ⟨S_, .f32⟩
  | 23 => ⟨S2x2064x4x256, .f32⟩
  | 24 => ⟨S_, .f32⟩
  | 25 => ⟨S2x2064x4x256, .f32⟩
  | 26 => ⟨S2x2064x4x256, .f32⟩
  | 27 => ⟨S2x2064x1024, .f32⟩
  | 28 => ⟨S2x2064x4x128, .f32⟩
  | 29 => ⟨S2x2064x4x128, .f32⟩
  | 30 => ⟨S2x2064x4x128, .f32⟩
  | 31 => ⟨S2x2064x4x128, .f32⟩
  | 32 => ⟨S2x2064x4x128, .f32⟩
  | 33 => ⟨S2x2064x4x128, .f32⟩
  | 34 => ⟨S2x2064x4x128, .f32⟩
  | 35 => ⟨S2x2064x4x128, .f32⟩
  | 36 => ⟨S2x2064x4x128, .f32⟩
  | 37 => ⟨S2x2064x4x128, .f32⟩
  | 38 => ⟨S2x2064x4x128, .f32⟩
  | 39 => ⟨S2x2064x4x128, .f32⟩
  | 40 => ⟨S2x2064x4x128, .f32⟩
  | 41 => ⟨S_, .f32⟩
  | 42 => ⟨S2x2064x4x256, .f32⟩
  | 43 => ⟨S_, .f32⟩
  | 44 => ⟨S2x2064x4x256, .f32⟩
  | 45 => ⟨S2x2064x4x256, .f32⟩
  | 46 => ⟨S2x2064x1024, .f32⟩
  | 47 => ⟨S2x2064x2048, .bf16⟩
  | 48 => ⟨S2x2064x1024, .bf16⟩
  | 49 => ⟨S2x2064x1024, .bf16⟩
  | 50 => ⟨S_, .i32⟩
  | 51 => ⟨S_, .bf16⟩
  | 52 => ⟨S2x2176x1024, .bf16⟩
  | 53 => ⟨S_, .i32⟩
  | 54 => ⟨S_, .bf16⟩
  | 55 => ⟨S2x2176x1024, .bf16⟩
  | 56 => ⟨S_, .i32⟩
  | 57 => ⟨S_, .bf16⟩
  | 58 => ⟨S2x2176x2048, .bf16⟩
  | _ => ⟨S2x2176x6144, .bf16⟩

abbrev hbmTy (i : Nat) : BufTy := match i / 128 with
  | 0 => hbmTy0_0 i
  | 1 => hbmTy0_1 i
  | _ => ⟨S2x2176x6144, .bf16⟩

abbrev bufTy : (tb : Table) → Fin (tcTables nBuf tb) → BufTy
  | .hbm, ⟨i, _⟩ => hbmTy i
  | _, _ => ⟨S2x2176x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_cst_1 : Ref sig .tc := ⟨.hbm, 46, rfl⟩
abbrev main_v42 : Ref sig .tc := ⟨.hbm, 47, rfl⟩
abbrev main_v43 : Ref sig .tc := ⟨.hbm, 48, rfl⟩
abbrev main_cst_2 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_cst_3 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_cst_4 : Ref sig .tc := ⟨.hbm, 80, rfl⟩
abbrev main_v73 : Ref sig .tc := ⟨.hbm, 81, rfl⟩
abbrev main_v74 : Ref sig .tc := ⟨.hbm, 82, rfl⟩
abbrev main_cst_5 : Ref sig .tc := ⟨.hbm, 83, rfl⟩
abbrev main_v75 : Ref sig .tc := ⟨.hbm, 84, rfl⟩
abbrev main_v76 : Ref sig .tc := ⟨.hbm, 85, rfl⟩
abbrev main_cst_6 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_cst_7 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_cst_8 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_cst_9 : Ref sig .tc := ⟨.hbm, 108, rfl⟩
abbrev main_call0_v0 : Ref sig .tc := ⟨.hbm, 109, rfl⟩
abbrev main_call0_v1 : Ref sig .tc := ⟨.hbm, 110, rfl⟩
abbrev main_call0_v2 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_cst_10 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_cst_11 : Ref sig .tc := ⟨.hbm, 150, rfl⟩
abbrev main_v133 : Ref sig .tc := ⟨.hbm, 151, rfl⟩
abbrev main_cst_12 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_v138 : Ref sig .tc := ⟨.hbm, 157, rfl⟩
abbrev main_v139 : Ref sig .tc := ⟨.hbm, 158, rfl⟩
abbrev main_v140 : Ref sig .tc := ⟨.hbm, 159, rfl⟩
abbrev main_v141 : Ref sig .tc := ⟨.hbm, 160, rfl⟩
abbrev main_v142 : Ref sig .tc := ⟨.hbm, 161, rfl⟩
abbrev main_v143 : Ref sig .tc := ⟨.hbm, 162, rfl⟩
abbrev main_v144 : Ref sig .tc := ⟨.hbm, 163, rfl⟩
abbrev main_v145 : Ref sig .tc := ⟨.hbm, 164, rfl⟩
abbrev main_v146 : Ref sig .tc := ⟨.hbm, 165, rfl⟩
abbrev main_v147 : Ref sig .tc := ⟨.hbm, 166, rfl⟩
abbrev main_v148 : Ref sig .tc := ⟨.hbm, 167, rfl⟩
abbrev main_v149 : Ref sig .tc := ⟨.hbm, 168, rfl⟩
abbrev main_cst_13 : Ref sig .tc := ⟨.hbm, 169, rfl⟩
abbrev main_v150 : Ref sig .tc := ⟨.hbm, 170, rfl⟩
abbrev main_cst_14 : Ref sig .tc := ⟨.hbm, 171, rfl⟩
abbrev main_v151 : Ref sig .tc := ⟨.hbm, 172, rfl⟩
abbrev main_v152 : Ref sig .tc := ⟨.hbm, 173, rfl⟩
abbrev main_v153 : Ref sig .tc := ⟨.hbm, 174, rfl⟩
abbrev main_v154 : Ref sig .tc := ⟨.hbm, 175, rfl⟩
abbrev main_v155 : Ref sig .tc := ⟨.hbm, 176, rfl⟩
abbrev main_v156 : Ref sig .tc := ⟨.hbm, 177, rfl⟩
abbrev main_c : Ref sig .tc := ⟨.hbm, 178, rfl⟩
abbrev main_call1_v0 : Ref sig .tc := ⟨.hbm, 179, rfl⟩
abbrev main_v157 : Ref sig .tc := ⟨.hbm, 180, rfl⟩
abbrev main_c_15 : Ref sig .tc := ⟨.hbm, 181, rfl⟩
abbrev main_call2_v0 : Ref sig .tc := ⟨.hbm, 182, rfl⟩
abbrev main_v158 : Ref sig .tc := ⟨.hbm, 183, rfl⟩
abbrev main_c_16 : Ref sig .tc := ⟨.hbm, 184, rfl⟩
abbrev main_call3_v0 : Ref sig .tc := ⟨.hbm, 185, rfl⟩
abbrev main_v159 : Ref sig .tc := ⟨.hbm, 186, rfl⟩

abbrev nD : Nat := 1
abbrev τ : Topo := Topo.v7x

variable {F : FTy → Type} [FloatOps F]
-- ==== W2Dx.lean ====
abbrev S4352x1024 : Shape := ⟨2, ![4352, 1024]⟩
abbrev S4096x1024 : Shape := ⟨2, ![4096, 1024]⟩
abbrev S4352x4096 : Shape := ⟨2, ![4352, 4096]⟩
abbrev S1088x1024 : Shape := ⟨2, ![1088, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4352x1024, .f32⟩
  | .hbm, ⟨1, _⟩ => ⟨S4096x1024, .bf16⟩
  | .hbm, ⟨2, _⟩ => ⟨S4352x4096, .bf16⟩
  | .hbm, ⟨3, _⟩ => ⟨S4352x4096, .bf16⟩
  | .local _ .vmem, ⟨0, _⟩ => ⟨S1088x1024, .f32⟩
  | .local _ .vmem, ⟨1, _⟩ => ⟨S1088x1024, .f32⟩
  | .local _ .vmem, ⟨2, _⟩ => ⟨S1024x1024, .bf16⟩
  | .local _ .vmem, ⟨3, _⟩ => ⟨S1024x1024, .bf16⟩
  | .local _ .vmem, ⟨4, _⟩ => ⟨S1088x1024, .bf16⟩
  | .local _ .vmem, ⟨5, _⟩ => ⟨S1088x1024, .bf16⟩
  | .local _ .vmem, ⟨6, _⟩ => ⟨S1088x1024, .bf16⟩
  | .local _ .vmem, ⟨7, _⟩ => ⟨S1088x1024, .bf16⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1088x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RefW2DxIdeal.lean ====
abbrev S4352x1024 : Shape := ⟨2, ![4352, 1024]⟩
abbrev S4096x1024 : Shape := ⟨2, ![4096, 1024]⟩
abbrev S4352x4096 : Shape := ⟨2, ![4352, 4096]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S4096x1024, .bf16⟩
  | .hbm, ⟨2, _⟩ => ⟨S4352x4096, .bf16⟩
  | .hbm, ⟨3, _⟩ => ⟨S4352x4096, .f32⟩
  | .hbm, ⟨4, _⟩ => ⟨S_, .f32⟩
  | .hbm, ⟨5, _⟩ => ⟨S4352x4096, .f32⟩
  | .hbm, ⟨6, _⟩ => ⟨S4352x4096, .f32⟩
  | .hbm, ⟨7, _⟩ => ⟨S_, .f32⟩
  | .hbm, ⟨8, _⟩ => ⟨S4352x4096, .f32⟩
  | .hbm, ⟨9, _⟩ => ⟨S4352x4096, .i1⟩
  | .hbm, ⟨10, _⟩ => ⟨S_, .f32⟩
  | .hbm, ⟨11, _⟩ => ⟨S4352x4096, .f32⟩
  | .hbm, ⟨12, _⟩ => ⟨S4352x4096, .f32⟩
  | .hbm, ⟨13, _⟩ => ⟨S_, .f32⟩
  | .hbm, ⟨14, _⟩ => ⟨S4352x4096, .f32⟩
  | .hbm, ⟨15, _⟩ => ⟨S4352x4096, .f32⟩
  | .hbm, ⟨16, _⟩ => ⟨S4096x1024, .f32⟩
  | .hbm, ⟨17, _⟩ => ⟨S4352x1024, .f32⟩
  | .hbm, ⟨18, _⟩ => ⟨S4352x4096, .f32⟩
  | .hbm, ⟨19, _⟩ => ⟨S4352x4096, .f32⟩
  | .hbm, ⟨20, _⟩ => ⟨S_, .f32⟩
  | .hbm, ⟨21, _⟩ => ⟨S4352x4096, .f32⟩
  | .hbm, ⟨22, _⟩ => ⟨S4352x4096, .f32⟩
  | .hbm, ⟨23, _⟩ => ⟨S4352x4096, .bf16⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== W2Dw.lean ====
abbrev S4352x4096 : Shape := ⟨2, ![4352, 4096]⟩
abbrev S4352x1024 : Shape := ⟨2, ![4352, 1024]⟩
abbrev S4096x1024 : Shape := ⟨2, ![4096, 1024]⟩
abbrev S2176x1024 : Shape := ⟨2, ![2176, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4352x4096, .bf16⟩
  | .hbm, ⟨1, _⟩ => ⟨S4352x1024, .f32⟩
  | .hbm, ⟨2, _⟩ => ⟨S4096x1024, .bf16⟩
  | .local _ .vmem, ⟨0, _⟩ => ⟨S2176x1024, .bf16⟩
  | .local _ .vmem, ⟨1, _⟩ => ⟨S2176x1024, .bf16⟩
  | .local _ .vmem, ⟨2, _⟩ => ⟨S2176x1024, .f32⟩
  | .local _ .vmem, ⟨3, _⟩ => ⟨S2176x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4352x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v15 : BitVec 1 := Scalar.cmpi .eq arg2 c1_i32
  let v16 : BitVec 32 := Scalar.extui v15
  let c0_i32_7 : BitVec 32 := 0#32
  let v17 : BitVec 1 := Scalar.cmpi .ne v16 c0_i32_7
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefW2DwIdeal.lean ====
abbrev S4352x4096 : Shape := ⟨2, ![4352, 4096]⟩
abbrev S4352x1024 : Shape := ⟨2, ![4352, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 14
  | .vmem => 0
  | .smem => 0
  | _ => 0

abbrev bufTy : (tb : Table) → Fin (tcTables nBuf tb) → BufTy
  | .hbm, ⟨0, _⟩ => ⟨S4352x4096, .bf16⟩
  | .hbm, ⟨1, _⟩ => ⟨S4352x1024, .f32⟩
  | .hbm, ⟨2, _⟩ => ⟨S_, .bf16⟩
  | .hbm, ⟨3, _⟩ => ⟨S4096x1024, .bf16⟩
  | .hbm, ⟨4, _⟩ => ⟨S4352x4096, .f32⟩
  | .hbm, ⟨5, _⟩ => ⟨S_, .f32⟩
  | .hbm, ⟨6, _⟩ => ⟨S4352x4096, .f32⟩
  | .hbm, ⟨7, _⟩ => ⟨S4352x4096, .f32⟩
  | .hbm, ⟨8, _⟩ => ⟨S4352x4096, .f32⟩
  | .hbm, ⟨9, _⟩ => ⟨S4096x1024, .f32⟩
  | .hbm, ⟨10, _⟩ => ⟨S4352x1024, .f32⟩
  | .hbm, ⟨11, _⟩ => ⟨S1024x4096, .f32⟩
  | .hbm, ⟨12, _⟩ => ⟨S4096x1024, .f32⟩
  | .hbm, ⟨13, _⟩ => ⟨S4096x1024, .bf16⟩
  | _, _ => ⟨S4352x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== W1Dx.lean ====
abbrev S4352x4096 : Shape := ⟨2, ![4352, 4096]⟩
abbrev S4x1024x1024 : Shape := ⟨3, ![4, 1024, 1024]⟩
abbrev S4352x1024 : Shape := ⟨2, ![4352, 1024]⟩
abbrev S544x4096 : Shape := ⟨2, ![544, 4096]⟩
abbrev S544x1024 : Shape := ⟨2, ![544, 1024]⟩
abbrev S1x1024x1024 : Shape := ⟨3, ![1, 1024, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4352x4096, .bf16⟩
  | .hbm, ⟨1, _⟩ => ⟨S4x1024x1024, .bf16⟩
  | .hbm, ⟨2, _⟩ => ⟨S4352x1024, .f32⟩
  | .hbm, ⟨3, _⟩ => ⟨S4352x1024, .f32⟩
  | .local _ .vmem, ⟨0, _⟩ => ⟨S544x4096, .bf16⟩
  | .local _ .vmem, ⟨1, _⟩ => ⟨S544x4096, .bf16⟩
  | .local _ .vmem, ⟨2, _⟩ => ⟨S4x1024x1024, .bf16⟩
  | .local _ .vmem, ⟨3, _⟩ => ⟨S544x1024, .f32⟩
  | .local _ .vmem, ⟨4, _⟩ => ⟨S544x1024, .f32⟩
  | .local _ .vmem, ⟨5, _⟩ => ⟨S544x1024, .f32⟩
  | .local _ .vmem, ⟨6, _⟩ => ⟨S544x1024, .f32⟩
  | _, _ => ⟨S4352x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S544x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S544x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== W1DxIdeal.lean ====
variable {F : FTy → Type} [FloatOps F] [Named F]
def κ : String → Option EReal := fun
  | "alpha" => some ((Real.sqrt 2 : ℝ) : EReal)
  | _ => none
-- ==== RefW1DxIdeal.lean ====
abbrev S4352x4096 : Shape := ⟨2, ![4352, 4096]⟩
abbrev S4x1024x1024 : Shape := ⟨3, ![4, 1024, 1024]⟩
abbrev S4352x1024 : Shape := ⟨2, ![4352, 1024]⟩
abbrev S_ : Shape := ⟨0, ![]⟩
abbrev S1024x4x1024 : Shape := ⟨3, ![1024, 4, 1024]⟩
abbrev S1024x4096 : Shape := ⟨2, ![1024, 4096]⟩

abbrev nBuf : Space → Nat
  | .hbm => 18
  | .vmem => 0
  | .smem => 0
  | _ => 0

abbrev bufTy : (tb : Table) → Fin (tcTables nBuf tb) → BufTy
  | .hbm, ⟨0, _⟩ => ⟨S4352x4096, .bf16⟩
  | .hbm, ⟨1, _⟩ => ⟨S4x1024x1024, .bf16⟩
  | .hbm, ⟨2, _⟩ => ⟨S4352x1024, .f32⟩
  | .hbm, ⟨3, _⟩ => ⟨S_, .f32⟩
  | .hbm, ⟨4, _⟩ => ⟨S4352x1024, .f32⟩
  | .hbm, ⟨5, _⟩ => ⟨S1024x4x1024, .bf16⟩
  | .hbm, ⟨6, _⟩ => ⟨S1024x4096, .bf16⟩
  | .hbm, ⟨7, _⟩ => ⟨S1024x4096, .f32⟩
  | .hbm, ⟨8, _⟩ => ⟨S4352x4096, .f32⟩
  | .hbm, ⟨9, _⟩ => ⟨S_, .f32⟩
  | .hbm, ⟨10, _⟩ => ⟨S_, .f32⟩
  | .hbm, ⟨11, _⟩ => ⟨S4352x1024, .f32⟩
  | .hbm, ⟨12, _⟩ => ⟨S4352x1024, .f32⟩
  | .hbm, ⟨13, _⟩ => ⟨S4352x4096, .f32⟩
  | .hbm, ⟨14, _⟩ => ⟨S4352x1024, .f32⟩
  | .hbm, ⟨15, _⟩ => ⟨S4352x1024, .f32⟩
  | .hbm, ⟨16, _⟩ => ⟨S4352x1024, .f32⟩
  | .hbm, ⟨17, _⟩ => ⟨S4352x1024, .f32⟩
  | _, _ => ⟨S4352x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== W1Dw.lean ====
abbrev S4352x1024 : Shape := ⟨2, ![4352, 1024]⟩
abbrev S4352x4096 : Shape := ⟨2, ![4352, 4096]⟩
abbrev S4x1024x1024 : Shape := ⟨3, ![4, 1024, 1024]⟩
abbrev S2176x1024 : Shape := ⟨2, ![2176, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4352x1024, .f32⟩
  | .hbm, ⟨1, _⟩ => ⟨S4352x4096, .bf16⟩
  | .hbm, ⟨2, _⟩ => ⟨S4x1024x1024, .bf16⟩
  | .local _ .vmem, ⟨0, _⟩ => ⟨S2176x1024, .f32⟩
  | .local _ .vmem, ⟨1, _⟩ => ⟨S2176x1024, .f32⟩
  | .local _ .vmem, ⟨2, _⟩ => ⟨S2176x1024, .bf16⟩
  | .local _ .vmem, ⟨3, _⟩ => ⟨S2176x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefW1DwIdeal.lean ====
abbrev S4352x1024 : Shape := ⟨2, ![4352, 1024]⟩
abbrev S4352x4096 : Shape := ⟨2, ![4352, 4096]⟩
abbrev S_ : Shape := ⟨0, ![]⟩
abbrev S4x1024x1024 : Shape := ⟨3, ![4, 1024, 1024]⟩
abbrev S1024x4x1024 : Shape := ⟨3, ![1024, 4, 1024]⟩
abbrev S1024x4096 : Shape := ⟨2, ![1024, 4096]⟩
abbrev S4096x1024 : Shape := ⟨2, ![4096, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S4352x4096, .bf16⟩
  | .hbm, ⟨2, _⟩ => ⟨S_, .bf16⟩
  | .hbm, ⟨3, _⟩ => ⟨S4x1024x1024, .bf16⟩
  | .hbm, ⟨4, _⟩ => ⟨S1024x4x1024, .bf16⟩
  | .hbm, ⟨5, _⟩ => ⟨S1024x4096, .bf16⟩
  | .hbm, ⟨6, _⟩ => ⟨S1024x4096, .f32⟩
  | .hbm, ⟨7, _⟩ => ⟨S4352x4096, .f32⟩
  | .hbm, ⟨8, _⟩ => ⟨S4352x4096, .f32⟩
  | .hbm, ⟨9, _⟩ => ⟨S4096x1024, .f32⟩
  | .hbm, ⟨10, _⟩ => ⟨S1024x4096, .f32⟩
  | .hbm, ⟨11, _⟩ => ⟨S1024x4096, .bf16⟩
  | .hbm, ⟨12, _⟩ => ⟨S1024x4x1024, .bf16⟩
  | .hbm, ⟨13, _⟩ => ⟨S4x1024x1024, .bf16⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== InDx.lean ====
abbrev S4352x6144 : Shape := ⟨2, ![4352, 6144]⟩
abbrev S4x1024x1536 : Shape := ⟨3, ![4, 1024, 1536]⟩
abbrev S4352x1024 : Shape := ⟨2, ![4352, 1024]⟩
abbrev S544x6144 : Shape := ⟨2, ![544, 6144]⟩
abbrev S544x1024 : Shape := ⟨2, ![544, 1024]⟩
abbrev S544x1536 : Shape := ⟨2, ![544, 1536]⟩
abbrev S1x1024x1536 : Shape := ⟨3, ![1, 1024, 1536]⟩
abbrev S1024x1536 : Shape := ⟨2, ![1024, 1536]⟩

abbrev nBuf : Space → Nat
  | .hbm => 4
  | .vmem => 7
  | .smem => 0
  | _ => 0

abbrev bufTy : (tb : Table) → Fin (tcTables nBuf tb) → BufTy
  | .hbm, ⟨0, _⟩ => ⟨S4352x6144, .bf16⟩
  | .hbm, ⟨1, _⟩ => ⟨S4x1024x1536, .bf16⟩
  | .hbm, ⟨2, _⟩ => ⟨S4352x1024, .f32⟩
  | .hbm, ⟨3, _⟩ => ⟨S4352x1024, .f32⟩
  | .local _ .vmem, ⟨0, _⟩ => ⟨S544x6144, .bf16⟩
  | .local _ .vmem, ⟨1, _⟩ => ⟨S544x6144, .bf16⟩
  | .local _ .vmem, ⟨2, _⟩ => ⟨S4x1024x1536, .bf16⟩
  | .local _ .vmem, ⟨3, _⟩ => ⟨S544x1024, .f32⟩
  | .local _ .vmem, ⟨4, _⟩ => ⟨S544x1024, .f32⟩
  | .local _ .vmem, ⟨5, _⟩ => ⟨S544x1024, .f32⟩
  | .local _ .vmem, ⟨6, _⟩ => ⟨S544x1024, .f32⟩
  | _, _ => ⟨S4352x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S544x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4x1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S544x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== InDxIdeal.lean ====
variable {F : FTy → Type} [FloatOps F] [Named F]
def κ : String → Option EReal := fun
  | "alpha" => some ((Real.sqrt 2 : ℝ) : EReal)
  | _ => none
-- ==== RefInDxIdeal.lean ====
abbrev S4352x6144 : Shape := ⟨2, ![4352, 6144]⟩
abbrev S4x1024x1536 : Shape := ⟨3, ![4, 1024, 1536]⟩
abbrev S4352x1024 : Shape := ⟨2, ![4352, 1024]⟩
abbrev S_ : Shape := ⟨0, ![]⟩
abbrev S1024x4x1536 : Shape := ⟨3, ![1024, 4, 1536]⟩
abbrev S1024x6144 : Shape := ⟨2, ![1024, 6144]⟩

abbrev nBuf : Space → Nat
  | .hbm => 18
  | .vmem => 0
  | .smem => 0
  | _ => 0

abbrev bufTy : (tb : Table) → Fin (tcTables nBuf tb) → BufTy
  | .hbm, ⟨0, _⟩ => ⟨S4352x6144, .bf16⟩
  | .hbm, ⟨1, _⟩ => ⟨S4x1024x1536, .bf16⟩
  | .hbm, ⟨2, _⟩ => ⟨S4352x1024, .f32⟩
  | .hbm, ⟨3, _⟩ => ⟨S_, .f32⟩
  | .hbm, ⟨4, _⟩ => ⟨S4352x1024, .f32⟩
  | .hbm, ⟨5, _⟩ => ⟨S1024x4x1536, .bf16⟩
  | .hbm, ⟨6, _⟩ => ⟨S1024x6144, .bf16⟩
  | .hbm, ⟨7, _⟩ => ⟨S1024x6144, .f32⟩
  | .hbm, ⟨8, _⟩ => ⟨S4352x6144, .f32⟩
  | .hbm, ⟨9, _⟩ => ⟨S_, .f32⟩
  | .hbm, ⟨10, _⟩ => ⟨S_, .f32⟩
  | .hbm, ⟨11, _⟩ => ⟨S4352x1024, .f32⟩
  | .hbm, ⟨12, _⟩ => ⟨S4352x1024, .f32⟩
  | .hbm, ⟨13, _⟩ => ⟨S4352x6144, .f32⟩
  | .hbm, ⟨14, _⟩ => ⟨S4352x1024, .f32⟩
  | .hbm, ⟨15, _⟩ => ⟨S4352x1024, .f32⟩
  | .hbm, ⟨16, _⟩ => ⟨S4352x1024, .f32⟩
  | .hbm, ⟨17, _⟩ => ⟨S4352x1024, .f32⟩
  | _, _ => ⟨S4352x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== InDw.lean ====
abbrev S4352x1024 : Shape := ⟨2, ![4352, 1024]⟩
abbrev S4352x6144 : Shape := ⟨2, ![4352, 6144]⟩
abbrev S4x1024x1536 : Shape := ⟨3, ![4, 1024, 1536]⟩
abbrev S2176x1024 : Shape := ⟨2, ![2176, 1024]⟩
abbrev S2176x768 : Shape := ⟨2, ![2176, 768]⟩
abbrev S1x1024x768 : Shape := ⟨3, ![1, 1024, 768]⟩
abbrev S1024x768 : Shape := ⟨2, ![1024, 768]⟩

abbrev nBuf : Space → Nat
  | .hbm => 3
  | .vmem => 7
  | .smem => 0
  | _ => 0

abbrev bufTy : (tb : Table) → Fin (tcTables nBuf tb) → BufTy
  | .hbm, ⟨0, _⟩ => ⟨S4352x1024, .f32⟩
  | .hbm, ⟨1, _⟩ => ⟨S4352x6144, .bf16⟩
  | .hbm, ⟨2, _⟩ => ⟨S4x1024x1536, .bf16⟩
  | .local _ .vmem, ⟨0, _⟩ => ⟨S2176x1024, .f32⟩
  | .local _ .vmem, ⟨1, _⟩ => ⟨S2176x1024, .f32⟩
  | .local _ .vmem, ⟨2, _⟩ => ⟨S2176x768, .bf16⟩
  | .local _ .vmem, ⟨3, _⟩ => ⟨S2176x768, .bf16⟩
  | .local _ .vmem, ⟨4, _⟩ => ⟨S1x1024x768, .bf16⟩
  | .local _ .vmem, ⟨5, _⟩ => ⟨S1x1024x768, .bf16⟩
  | .local _ .vmem, ⟨6, _⟩ => ⟨S1024x768, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefInDwIdeal.lean ====
abbrev S4352x1024 : Shape := ⟨2, ![4352, 1024]⟩
abbrev S4352x6144 : Shape := ⟨2, ![4352, 6144]⟩
abbrev S_ : Shape := ⟨0, ![]⟩
abbrev S4x1024x1536 : Shape := ⟨3, ![4, 1024, 1536]⟩
abbrev S1024x4x1536 : Shape := ⟨3, ![1024, 4, 1536]⟩
abbrev S1024x6144 : Shape := ⟨2, ![1024, 6144]⟩
abbrev S6144x1024 : Shape := ⟨2, ![6144, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S4352x6144, .bf16⟩
  | .hbm, ⟨2, _⟩ => ⟨S_, .bf16⟩
  | .hbm, ⟨3, _⟩ => ⟨S4x1024x1536, .bf16⟩
  | .hbm, ⟨4, _⟩ => ⟨S1024x4x1536, .bf16⟩
  | .hbm, ⟨5, _⟩ => ⟨S1024x6144, .bf16⟩
  | .hbm, ⟨6, _⟩ => ⟨S1024x6144, .f32⟩
  | .hbm, ⟨7, _⟩ => ⟨S4352x6144, .f32⟩
  | .hbm, ⟨8, _⟩ => ⟨S4352x6144, .f32⟩
  | .hbm, ⟨9, _⟩ => ⟨S6144x1024, .f32⟩
  | .hbm, ⟨10, _⟩ => ⟨S1024x6144, .f32⟩
  | .hbm, ⟨11, _⟩ => ⟨S1024x6144, .bf16⟩
  | .hbm, ⟨12, _⟩ => ⟨S1024x4x1536, .bf16⟩
  | .hbm, ⟨13, _⟩ => ⟨S4x1024x1536, .bf16⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== OutDx.lean ====
abbrev S4352x1024 : Shape := ⟨2, ![4352, 1024]⟩
abbrev S2048x1024 : Shape := ⟨2, ![2048, 1024]⟩
abbrev S4352x2048 : Shape := ⟨2, ![4352, 2048]⟩
abbrev S1088x1024 : Shape := ⟨2, ![1088, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4352x1024, .f32⟩
  | .hbm, ⟨1, _⟩ => ⟨S2048x1024, .bf16⟩
  | .hbm, ⟨2, _⟩ => ⟨S4352x2048, .f32⟩
  | .local _ .vmem, ⟨0, _⟩ => ⟨S1088x1024, .f32⟩
  | .local _ .vmem, ⟨1, _⟩ => ⟨S1088x1024, .f32⟩
  | .local _ .vmem, ⟨2, _⟩ => ⟨S1024x1024, .bf16⟩
  | .local _ .vmem, ⟨3, _⟩ => ⟨S1024x1024, .bf16⟩
  | .local _ .vmem, ⟨4, _⟩ => ⟨S1088x1024, .f32⟩
  | .local _ .vmem, ⟨5, _⟩ => ⟨S1088x1024, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefOutDxIdeal.lean ====
abbrev S4352x1024 : Shape := ⟨2, ![4352, 1024]⟩
abbrev S2048x1024 : Shape := ⟨2, ![2048, 1024]⟩
abbrev S_ : Shape := ⟨0, ![]⟩
abbrev S4352x2048 : Shape := ⟨2, ![4352, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S2048x1024, .bf16⟩
  | .hbm, ⟨2, _⟩ => ⟨S_, .f32⟩
  | .hbm, ⟨3, _⟩ => ⟨S4352x2048, .f32⟩
  | .hbm, ⟨4, _⟩ => ⟨S2048x1024, .f32⟩
  | .hbm, ⟨5, _⟩ => ⟨S4352x1024, .f32⟩
  | .hbm, ⟨6, _⟩ => ⟨S4352x2048, .f32⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutDw.lean ====
abbrev S4352x2048 : Shape := ⟨2, ![4352, 2048]⟩
abbrev S4352x1024 : Shape := ⟨2, ![4352, 1024]⟩
abbrev S2048x1024 : Shape := ⟨2, ![2048, 1024]⟩
abbrev S1088x1024 : Shape := ⟨2, ![1088, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4352x2048, .f32⟩
  | .hbm, ⟨1, _⟩ => ⟨S4352x1024, .f32⟩
  | .hbm, ⟨2, _⟩ => ⟨S2048x1024, .bf16⟩
  | .local _ .vmem, ⟨0, _⟩ => ⟨S1088x1024, .f32⟩
  | .local _ .vmem, ⟨1, _⟩ => ⟨S1088x1024, .f32⟩
  | .local _ .vmem, ⟨2, _⟩ => ⟨S1088x1024, .f32⟩
  | .local _ .vmem, ⟨3, _⟩ => ⟨S1088x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1088x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefOutDwIdeal.lean ====
abbrev S4352x2048 : Shape := ⟨2, ![4352, 2048]⟩
abbrev S4352x1024 : Shape := ⟨2, ![4352, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4352x2048, .f32⟩
  | .hbm, ⟨1, _⟩ => ⟨S4352x1024, .f32⟩
  | .hbm, ⟨2, _⟩ => ⟨S_, .bf16⟩
  | .hbm, ⟨3, _⟩ => ⟨S2048x1024, .bf16⟩
  | .hbm, ⟨4, _⟩ => ⟨S2048x1024, .f32⟩
  | .hbm, ⟨5, _⟩ => ⟨S4352x1024, .f32⟩
  | .hbm, ⟨6, _⟩ => ⟨S1024x2048, .f32⟩
  | .hbm, ⟨7, _⟩ => ⟨S2048x1024, .f32⟩
  | .hbm, ⟨8, _⟩ => ⟨S2048x1024, .bf16⟩
  | _, _ => ⟨S4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== NormBwd.lean ====
abbrev S4352x1024 : Shape := ⟨2, ![4352, 1024]⟩
abbrev S1x1024 : Shape := ⟨2, ![1, 1024]⟩
abbrev S544x1024 : Shape := ⟨2, ![544, 1024]⟩
abbrev S544 : Shape := ⟨1, ![544]⟩
abbrev S544x1 : Shape := ⟨2, ![544, 1]⟩
abbrev S1024 : Shape := ⟨1, ![1024]⟩

abbrev nBuf : Space → Nat
  | .hbm => 6
  | .vmem => 9
  | .smem => 0
  | _ => 0

abbrev bufTy : (tb : Table) → Fin (tcTables nBuf tb) → BufTy
  | .hbm, ⟨0, _⟩ => ⟨S4352x1024, .f32⟩
  | .hbm, ⟨1, _⟩ => ⟨S1x1024, .f32⟩
  | .hbm, ⟨2, _⟩ => ⟨S4352x1024, .f32⟩
  | .hbm, ⟨3, _⟩ => ⟨S4352x1024, .f32⟩
  | .hbm, ⟨4, _⟩ => ⟨S1x1024, .f32⟩
  | .hbm, ⟨5, _⟩ => ⟨S1x1024, .f32⟩
  | .local _ .vmem, ⟨0, _⟩ => ⟨S544x1024, .f32⟩
  | .local _ .vmem, ⟨1, _⟩ => ⟨S544x1024, .f32⟩
  | .local _ .vmem, ⟨2, _⟩ => ⟨S1x1024, .f32⟩
  | .local _ .vmem, ⟨3, _⟩ => ⟨S544x1024, .f32⟩
  | .local _ .vmem, ⟨4, _⟩ => ⟨S544x1024, .f32⟩
  | .local _ .vmem, ⟨5, _⟩ => ⟨S544x1024, .f32⟩
  | .local _ .vmem, ⟨6, _⟩ => ⟨S544x1024, .f32⟩
  | .local _ .vmem, ⟨7, _⟩ => ⟨S1x1024, .f32⟩
  | .local _ .vmem, ⟨8, _⟩ => ⟨S1x1024, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S544x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S544x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== RefNormBwdIdeal.lean ====
abbrev S4352x1024 : Shape := ⟨2, ![4352, 1024]⟩
abbrev S1x1024 : Shape := ⟨2, ![1, 1024]⟩
abbrev S_ : Shape := ⟨0, ![]⟩
abbrev S4352 : Shape := ⟨1, ![4352]⟩
abbrev S4352x1 : Shape := ⟨2, ![4352, 1]⟩
abbrev S1024 : Shape := ⟨1, ![1024]⟩

abbrev nBuf : Space → Nat
  | .hbm => 73
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S1x1024, .f32⟩
  | .hbm, ⟨2, _⟩ => ⟨S4352x1024, .f32⟩
  | .hbm, ⟨3, _⟩ => ⟨S_, .f32⟩
  | .hbm, ⟨4, _⟩ => ⟨S1x1024, .f32⟩
  | .hbm, ⟨5, _⟩ => ⟨S_, .f32⟩
  | .hbm, ⟨6, _⟩ => ⟨S4352, .f32⟩
  | .hbm, ⟨7, _⟩ => ⟨S4352x1, .f32⟩
  | .hbm, ⟨8, _⟩ => ⟨S_, .f32⟩
  | .hbm, ⟨9, _⟩ => ⟨S4352x1, .f32⟩
  | .hbm, ⟨10, _⟩ => ⟨S4352x1, .f32⟩
  | .hbm, ⟨11, _⟩ => ⟨S4352x1024, .f32⟩
  | .hbm, ⟨12, _⟩ => ⟨S4352x1024, .f32⟩
  | .hbm, ⟨13, _⟩ => ⟨S4352x1024, .f32⟩
  | .hbm, ⟨14, _⟩ => ⟨S_, .f32⟩
  | .hbm, ⟨15, _⟩ => ⟨S4352x1024, .f32⟩
  | .hbm, ⟨16, _⟩ => ⟨S4352x1024, .f32⟩
  | .hbm, ⟨17, _⟩ => ⟨S_, .f32⟩
  | .hbm, ⟨18, _⟩ => ⟨S4352, .f32⟩
  | .hbm, ⟨19, _⟩ => ⟨S4352x1, .f32⟩
  | .hbm, ⟨20, _⟩ => ⟨S_, .f32⟩
  | .hbm, ⟨21, _⟩ => ⟨S4352x1, .f32⟩
  | .hbm, ⟨22, _⟩ => ⟨S4352x1, .f32⟩
  | .hbm, ⟨23, _⟩ => ⟨S_, .f32⟩
  | .hbm, ⟨24, _⟩ => ⟨S4352x1, .f32⟩
  | .hbm, ⟨25, _⟩ => ⟨S4352x1, .f32⟩
  | .hbm, ⟨26, _⟩ => ⟨S4352x1, .f32⟩
  | .hbm, ⟨27, _⟩ => ⟨S4352x1, .f32⟩
  | .hbm, ⟨28, _⟩ => ⟨S_, .f32⟩
  | .hbm, ⟨29, _⟩ => ⟨S4352x1, .f32⟩
  | .hbm, ⟨30, _⟩ => ⟨S4352x1, .f32⟩
  | .hbm, ⟨31, _⟩ => ⟨S4352x1024, .f32⟩
  | .hbm, ⟨32, _⟩ => ⟨S4352x1024, .f32⟩
  | .hbm, ⟨33, _⟩ => ⟨S4352x1024, .f32⟩
  | .hbm, ⟨34, _⟩ => ⟨S4352x1024, .f32⟩
  | .hbm, ⟨35, _⟩ => ⟨S4352x1024, .f32⟩
  | .hbm, ⟨36, _⟩ => ⟨S4352x1024, .f32⟩
  | .hbm, ⟨37, _⟩ => ⟨S4352x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S4352x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S4352x1024, .f32⟩
  | .hbm, ⟨46, _⟩ => ⟨S4352x1024, .f32⟩
  | .hbm, ⟨47, _⟩ => ⟨S4352x1024, .f32⟩
  | .hbm, ⟨48, _⟩ => ⟨S_, .f32⟩
  | .hbm, ⟨49, _⟩ => ⟨S4352, .f32⟩
  | .hbm, ⟨50, _⟩ => ⟨S4352x1, .f32⟩
  | .hbm, ⟨51, _⟩ => ⟨S4352x1024, .f32⟩
  | .hbm, ⟨52, _⟩ => ⟨S4352x1024, .f32⟩
  | .hbm, ⟨53, _⟩ => ⟨S4352x1, .f32⟩
  | .hbm, ⟨54, _⟩ => ⟨S_, .f32⟩
  | .hbm, ⟨55, _⟩ => ⟨S4352x1, .f32⟩
  | .hbm, ⟨56, _⟩ => ⟨S4352x1, .f32⟩
  | .hbm, ⟨57, _⟩ => ⟨S_, .f32⟩
  | .hbm, ⟨58, _⟩ => ⟨S4352, .f32⟩
  | .hbm, ⟨59, _⟩ => ⟨S4352x1024, .f32⟩
  | .hbm, ⟨60, _⟩ => ⟨S4352x1024, .f32⟩
  | .hbm, ⟨61, _⟩ => ⟨S4352x1024, .f32⟩
  | .hbm, ⟨62, _⟩ => ⟨S4352x1024, .f32⟩
  | .hbm, ⟨63, _⟩ => ⟨S_, .f32⟩
  | .hbm, ⟨64, _⟩ => ⟨S4352, .f32⟩
  | .hbm, ⟨65, _⟩ => ⟨S4352x1, .f32⟩
  | .hbm, ⟨66, _⟩ => ⟨S_, .f32⟩
  | .hbm, ⟨67, _⟩ => ⟨S4352x1, .f32⟩
  | .hbm, ⟨68, _⟩ => ⟨S4352x1, .f32⟩
  | .hbm, ⟨69, _⟩ => ⟨S_, .f32⟩
  | .hbm, ⟨70, _⟩ => ⟨S4352, .f32⟩
  | .hbm, ⟨71, _⟩ => ⟨S4352x1024, .f32⟩
  | .hbm, ⟨72, _⟩ => ⟨S4352x1024, .f32⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_v13 : Ref sig .tc := ⟨.hbm, 22, rfl⟩
abbrev main_cst_5 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_6 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_7 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_8 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_9 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_10 : Ref sig .tc := ⟨.hbm, 54, rfl⟩
abbrev main_v40 : Ref sig .tc := ⟨.hbm, 55, rfl⟩
abbrev main_v41 : Ref sig .tc := ⟨.hbm, 56, rfl⟩
abbrev main_cst_11 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_12 : Ref sig .tc := ⟨.hbm, 63, rfl⟩
abbrev main_v47 : Ref sig .tc := ⟨.hbm, 64, rfl⟩
abbrev main_v48 : Ref sig .tc := ⟨.hbm, 65, rfl⟩
abbrev main_cst_13 : Ref sig .tc := ⟨.hbm, 66, rfl⟩
abbrev main_v49 : Ref sig .tc := ⟨.hbm, 67, rfl⟩
abbrev main_v50 : Ref sig .tc := ⟨.hbm, 68, rfl⟩
abbrev main_cst_14 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩

abbrev nD : Nat := 1
abbrev τ : Topo := Topo.v7x

variable {F : FTy → Type} [FloatOps F]
-- ==== GateBwd.lean ====
abbrev S4352x2048 : Shape := ⟨2, ![4352, 2048]⟩
abbrev S4352x6144 : Shape := ⟨2, ![4352, 6144]⟩
abbrev S1088x512 : Shape := ⟨2, ![1088, 512]⟩
abbrev S1088 : Shape := ⟨1, ![1088]⟩
abbrev S1088x1 : Shape := ⟨2, ![1088, 1]⟩

abbrev nBuf : Space → Nat
  | .hbm => 5
  | .vmem => 10
  | .smem => 0
  | _ => 0

abbrev bufTy : (tb : Table) → Fin (tcTables nBuf tb) → BufTy
  | .hbm, ⟨0, _⟩ => ⟨S4352x2048, .f32⟩
  | .hbm, ⟨1, _⟩ => ⟨S4352x6144, .bf16⟩
  | .hbm, ⟨2, _⟩ => ⟨S4352x2048, .f32⟩
  | .hbm, ⟨3, _⟩ => ⟨S4352x2048, .bf16⟩
  | .hbm, ⟨4, _⟩ => ⟨S4352x2048, .bf16⟩
  | .local _ .vmem, ⟨0, _⟩ => ⟨S1088x512, .f32⟩
  | .local _ .vmem, ⟨1, _⟩ => ⟨S1088x512, .f32⟩
  | .local _ .vmem, ⟨2, _⟩ => ⟨S1088x512, .bf16⟩
  | .local _ .vmem, ⟨3, _⟩ => ⟨S1088x512, .bf16⟩
  | .local _ .vmem, ⟨4, _⟩ => ⟨S1088x512, .f32⟩
  | .local _ .vmem, ⟨5, _⟩ => ⟨S1088x512, .f32⟩
  | .local _ .vmem, ⟨6, _⟩ => ⟨S1088x512, .bf16⟩
  | .local _ .vmem, ⟨7, _⟩ => ⟨S1088x512, .bf16⟩
  | .local _ .vmem, ⟨8, _⟩ => ⟨S1088x512, .bf16⟩
  | .local _ .vmem, ⟨9, _⟩ => ⟨S1088x512, .bf16⟩
  | _, _ => ⟨S4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1088x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1088x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1088x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1088x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== RefGateBwdIdeal.lean ====
abbrev S4352x2048 : Shape := ⟨2, ![4352, 2048]⟩
abbrev S4352x6144 : Shape := ⟨2, ![4352, 6144]⟩
abbrev S4352x1024 : Shape := ⟨2, ![4352, 1024]⟩
abbrev S4352x4x512 : Shape := ⟨3, ![4352, 4, 512]⟩
abbrev S_ : Shape := ⟨0, ![]⟩
abbrev S4352x4 : Shape := ⟨2, ![4352, 4]⟩
abbrev S4352x4x1 : Shape := ⟨3, ![4352, 4, 1]⟩

abbrev nBuf : Space → Nat
  | .hbm => 69
  | .vmem => 0
  | .smem => 0
  | _ => 0

abbrev bufTy : (tb : Table) → Fin (tcTables nBuf tb) → BufTy
  | .hbm, ⟨0, _⟩ => ⟨S4352x2048, .f32⟩
  | .hbm, ⟨1, _⟩ => ⟨S4352x6144, .bf16⟩
  | .hbm, ⟨2, _⟩ => ⟨S4352x2048, .f32⟩
  | .hbm, ⟨3, _⟩ => ⟨S4352x1024, .bf16⟩
  | .hbm, ⟨4, _⟩ => ⟨S4352x1024, .bf16⟩
  | .hbm, ⟨5, _⟩ => ⟨S4352x2048, .bf16⟩
  | .hbm, ⟨6, _⟩ => ⟨S4352x2048, .bf16⟩
  | .hbm, ⟨7, _⟩ => ⟨S4352x2048, .f32⟩
  | .hbm, ⟨8, _⟩ => ⟨S4352x4x512, .f32⟩
  | .hbm, ⟨9, _⟩ => ⟨S4352x4x512, .f32⟩
  | .hbm, ⟨10, _⟩ => ⟨S_, .f32⟩
  | .hbm, ⟨11, _⟩ => ⟨S4352x4x512, .f32⟩
  | .hbm, ⟨12, _⟩ => ⟨S4352x4x512, .f32⟩
  | .hbm, ⟨13, _⟩ => ⟨S_, .f32⟩
  | .hbm, ⟨14, _⟩ => ⟨S4352x4, .f32⟩
  | .hbm, ⟨15, _⟩ => ⟨S4352x4x1, .f32⟩
  | .hbm, ⟨16, _⟩ => ⟨S_, .f32⟩
  | .hbm, ⟨17, _⟩ => ⟨S4352x4x1, .f32⟩
  | .hbm, ⟨18, _⟩ => ⟨S4352x4x1, .f32⟩
  | .hbm, ⟨19, _⟩ => ⟨S_, .f32⟩
  | .hbm, ⟨20, _⟩ => ⟨S4352x4x1, .f32⟩
  | .hbm, ⟨21, _⟩ => ⟨S4352x4x1, .f32⟩
  | .hbm, ⟨22, _⟩ => ⟨S4352x4x1, .f32⟩
  | .hbm, ⟨23, _⟩ => ⟨S4352x4x1, .f32⟩
  | .hbm, ⟨24, _⟩ => ⟨S_, .f32⟩
  | .hbm, ⟨25, _⟩ => ⟨S4352x4x1, .f32⟩
  | .hbm, ⟨26, _⟩ => ⟨S4352x4x1, .f32⟩
  | .hbm, ⟨27, _⟩ => ⟨S4352x4x512, .f32⟩
  | .hbm, ⟨28, _⟩ => ⟨S4352x4x512, .f32⟩
  | .hbm, ⟨29, _⟩ => ⟨S4352x2048, .f32⟩
  | .hbm, ⟨30, _⟩ => ⟨S4352x2048, .f32⟩
  | .hbm, ⟨31, _⟩ => ⟨S_, .f32⟩
  | .hbm, ⟨32, _⟩ => ⟨S4352x2048, .f32⟩
  | .hbm, ⟨33, _⟩ => ⟨S4352x2048, .f32⟩
  | .hbm, ⟨34, _⟩ => ⟨S_, .f32⟩
  | .hbm, ⟨35, _⟩ => ⟨S4352x2048, .f32⟩
  | .hbm, ⟨36, _⟩ => ⟨S4352x2048, .f32⟩
  | .hbm, ⟨37, _⟩ => ⟨S_, .f32⟩
  | .hbm, ⟨38, _⟩ => ⟨S4352x2048, .f32⟩
  | .hbm, ⟨39, _⟩ => ⟨S4352x2048, .f32⟩
  | .hbm, ⟨40, _⟩ => ⟨S4352x2048, .f32⟩
  | .hbm, ⟨41, _⟩ => ⟨S4352x2048, .f32⟩
  | .hbm, ⟨42, _⟩ => ⟨S4352x2048, .f32⟩
  | .hbm, ⟨43, _⟩ => ⟨S4352x2048, .f32⟩
  | .hbm, ⟨44, _⟩ => ⟨S4352x2048, .f32⟩
  | .hbm, ⟨45, _⟩ => ⟨S4352x2048, .f32⟩
  | .hbm, ⟨46, _⟩ => ⟨S4352x4x512, .f32⟩
  | .hbm, ⟨47, _⟩ => ⟨S4352x2048, .f32⟩
  | .hbm, ⟨48, _⟩ => ⟨S4352x2048, .f32⟩
  | .hbm, ⟨49, _⟩ => ⟨S4352x2048, .f32⟩
  | .hbm, ⟨50, _⟩ => ⟨S4352x2048, .f32⟩
  | .hbm, ⟨51, _⟩ => ⟨S4352x4x512, .f32⟩
  | .hbm, ⟨52, _⟩ => ⟨S_, .f32⟩
  | .hbm, ⟨53, _⟩ => ⟨S4352x4, .f32⟩
  | .hbm, ⟨54, _⟩ => ⟨S4352x4x1, .f32⟩
  | .hbm, ⟨55, _⟩ => ⟨S4352x4x512, .f32⟩
  | .hbm, ⟨56, _⟩ => ⟨S4352x4x512, .f32⟩
  | .hbm, ⟨57, _⟩ => ⟨S4352x4x1, .f32⟩
  | .hbm, ⟨58, _⟩ => ⟨S_, .f32⟩
  | .hbm, ⟨59, _⟩ => ⟨S4352x4x1, .f32⟩
  | .hbm, ⟨60, _⟩ => ⟨S4352x4x1, .f32⟩
  | .hbm, ⟨61, _⟩ => ⟨S_, .f32⟩
  | .hbm, ⟨62, _⟩ => ⟨S4352x4, .f32⟩
  | .hbm, ⟨63, _⟩ => ⟨S4352x4x512, .f32⟩
  | .hbm, ⟨64, _⟩ => ⟨S4352x4x512, .f32⟩
  | .hbm, ⟨65, _⟩ => ⟨S4352x4x512, .f32⟩
  | .hbm, ⟨66, _⟩ => ⟨S4352x2048, .f32⟩
  | .hbm, ⟨67, _⟩ => ⟨S4352x2048, .bf16⟩
  | .hbm, ⟨68, _⟩ => ⟨S4352x2048, .bf16⟩
  | _, _ => ⟨S4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_v21_2 : Ref sig .tc := ⟨.hbm, 36, rfl⟩
abbrev main_call0_cst_1 : Ref sig .tc := ⟨.hbm, 37, rfl⟩
abbrev main_call0_v6 : Ref sig .tc := ⟨.hbm, 38, rfl⟩
abbrev main_call0_v7 : Ref sig .tc := ⟨.hbm, 39, rfl⟩
abbrev main_v21_1 : Ref sig .tc := ⟨.hbm, 40, rfl⟩
abbrev main_v21_0 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v27 : Ref sig .tc := ⟨.hbm, 50, rfl⟩
abbrev main_v28 : Ref sig .tc := ⟨.hbm, 51, rfl⟩
abbrev main_cst_4 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_5 : Ref sig .tc := ⟨.hbm, 58, rfl⟩
abbrev main_v34 : Ref sig .tc := ⟨.hbm, 59, rfl⟩
abbrev main_v35 : Ref sig .tc := ⟨.hbm, 60, rfl⟩
abbrev main_cst_6 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩

abbrev nD : Nat := 1
abbrev τ : Topo := Topo.v7x

variable {F : FTy → Type} [FloatOps F]
-- ==== QNormBwd.lean ====
abbrev S4352x1440 : Shape := ⟨2, ![4352, 1440]⟩
abbrev S1x256 : Shape := ⟨2, ![1, 256]⟩
abbrev S4352x256 : Shape := ⟨2, ![4352, 256]⟩
abbrev S1088x256 : Shape := ⟨2, ![1088, 256]⟩
abbrev S1088 : Shape := ⟨1, ![1088]⟩
abbrev S1088x1 : Shape := ⟨2, ![1088, 1]⟩
abbrev S256 : Shape := ⟨1, ![256]⟩

abbrev nBuf : Space → Nat
  | .hbm => 5
  | .vmem => 8
  | .smem => 0
  | _ => 0

abbrev bufTy : (tb : Table) → Fin (tcTables nBuf tb) → BufTy
  | .hbm, ⟨0, _⟩ => ⟨S4352x1440, .f32⟩
  | .hbm, ⟨1, _⟩ => ⟨S1x256, .f32⟩
  | .hbm, ⟨2, _⟩ => ⟨S4352x256, .f32⟩
  | .hbm, ⟨3, _⟩ => ⟨S4352x256, .f32⟩
  | .hbm, ⟨4, _⟩ => ⟨S1x256, .f32⟩
  | .local _ .vmem, ⟨0, _⟩ => ⟨S1088x256, .f32⟩
  | .local _ .vmem, ⟨1, _⟩ => ⟨S1088x256, .f32⟩
  | .local _ .vmem, ⟨2, _⟩ => ⟨S1x256, .f32⟩
  | .local _ .vmem, ⟨3, _⟩ => ⟨S1088x256, .f32⟩
  | .local _ .vmem, ⟨4, _⟩ => ⟨S1088x256, .f32⟩
  | .local _ .vmem, ⟨5, _⟩ => ⟨S1088x256, .f32⟩
  | .local _ .vmem, ⟨6, _⟩ => ⟨S1088x256, .f32⟩
  | .local _ .vmem, ⟨7, _⟩ => ⟨S1x256, .f32⟩
  | _, _ => ⟨S4352x1440, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1088x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1088x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1088x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== RefQNormBwdIdeal.lean ====
abbrev S4352x1440 : Shape := ⟨2, ![4352, 1440]⟩
abbrev S1x256 : Shape := ⟨2, ![1, 256]⟩
abbrev S4352x256 : Shape := ⟨2, ![4352, 256]⟩
abbrev S4352x512 : Shape := ⟨2, ![4352, 512]⟩
abbrev S4352x128 : Shape := ⟨2, ![4352, 128]⟩
abbrev S4352x32 : Shape := ⟨2, ![4352, 32]⟩
abbrev S_ : Shape := ⟨0, ![]⟩
abbrev S4352 : Shape := ⟨1, ![4352]⟩
abbrev S4352x1 : Shape := ⟨2, ![4352, 1]⟩
abbrev S256 : Shape := ⟨1, ![256]⟩

abbrev nBuf : Space → Nat
  | .hbm => 51
  | .vmem => 0
  | .smem => 0
  | _ => 0

abbrev bufTy : (tb : Table) → Fin (tcTables nBuf tb) → BufTy
  | .hbm, ⟨0, _⟩ => ⟨S4352x1440, .f32⟩
  | .hbm, ⟨1, _⟩ => ⟨S1x256, .f32⟩
  | .hbm, ⟨2, _⟩ => ⟨S4352x256, .f32⟩
  | .hbm, ⟨3, _⟩ => ⟨S4352x512, .f32⟩
  | .hbm, ⟨4, _⟩ => ⟨S4352x512, .f32⟩
  | .hbm, ⟨5, _⟩ => ⟨S4352x256, .f32⟩
  | .hbm, ⟨6, _⟩ => ⟨S4352x128, .f32⟩
  | .hbm, ⟨7, _⟩ => ⟨S4352x32, .f32⟩
  | .hbm, ⟨8, _⟩ => ⟨S4352x256, .f32⟩
  | .hbm, ⟨9, _⟩ => ⟨S_, .f32⟩
  | .hbm, ⟨10, _⟩ => ⟨S4352x256, .f32⟩
  | .hbm, ⟨11, _⟩ => ⟨S4352x256, .f32⟩
  | .hbm, ⟨12, _⟩ => ⟨S_, .f32⟩
  | .hbm, ⟨13, _⟩ => ⟨S4352, .f32⟩
  | .hbm, ⟨14, _⟩ => ⟨S4352x1, .f32⟩
  | .hbm, ⟨15, _⟩ => ⟨S_, .f32⟩
  | .hbm, ⟨16, _⟩ => ⟨S4352x1, .f32⟩
  | .hbm, ⟨17, _⟩ => ⟨S4352x1, .f32⟩
  | .hbm, ⟨18, _⟩ => ⟨S_, .f32⟩
  | .hbm, ⟨19, _⟩ => ⟨S4352x1, .f32⟩
  | .hbm, ⟨20, _⟩ => ⟨S4352x1, .f32⟩
  | .hbm, ⟨21, _⟩ => ⟨S4352x1, .f32⟩
  | .hbm, ⟨22, _⟩ => ⟨S4352x1, .f32⟩
  | .hbm, ⟨23, _⟩ => ⟨S_, .f32⟩
  | .hbm, ⟨24, _⟩ => ⟨S4352x1, .f32⟩
  | .hbm, ⟨25, _⟩ => ⟨S4352x1, .f32⟩
  | .hbm, ⟨26, _⟩ => ⟨S4352x256, .f32⟩
  | .hbm, ⟨27, _⟩ => ⟨S4352x256, .f32⟩
  | .hbm, ⟨28, _⟩ => ⟨S4352x256, .f32⟩
  | .hbm, ⟨29, _⟩ => ⟨S4352x256, .f32⟩
  | .hbm, ⟨30, _⟩ => ⟨S4352x256, .f32⟩
  | .hbm, ⟨31, _⟩ => ⟨S_, .f32⟩
  | .hbm, ⟨32, _⟩ => ⟨S256, .f32⟩
  | .hbm, ⟨33, _⟩ => ⟨S1x256, .f32⟩
  | .hbm, ⟨34, _⟩ => ⟨S4352x256, .f32⟩
  | .hbm, ⟨35, _⟩ => ⟨S4352x256, .f32⟩
  | .hbm, ⟨36, _⟩ => ⟨S4352x256, .f32⟩
  | .hbm, ⟨37, _⟩ => ⟨S_, .f32⟩
  | .hbm, ⟨38, _⟩ => ⟨S4352, .f32⟩
  | .hbm, ⟨39, _⟩ => ⟨S4352x1, .f32⟩
  | .hbm, ⟨40, _⟩ => ⟨S4352x256, .f32⟩
  | .hbm, ⟨41, _⟩ => ⟨S4352x256, .f32⟩
  | .hbm, ⟨42, _⟩ => ⟨S4352x1, .f32⟩
  | .hbm, ⟨43, _⟩ => ⟨S_, .f32⟩
  | .hbm, ⟨44, _⟩ => ⟨S4352x1, .f32⟩
  | .hbm, ⟨45, _⟩ => ⟨S4352x1, .f32⟩
  | .hbm, ⟨46, _⟩ => ⟨S_, .f32⟩
  | .hbm, ⟨47, _⟩ => ⟨S4352, .f32⟩
  | .hbm, ⟨48, _⟩ => ⟨S4352x256, .f32⟩
  | .hbm, ⟨49, _⟩ => ⟨S4352x256, .f32⟩
  | .hbm, ⟨50, _⟩ => ⟨S4352x256, .f32⟩
  | _, _ => ⟨S4352x1440, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_5 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_6 : Ref sig .tc := ⟨.hbm, 43, rfl⟩
abbrev main_v33 : Ref sig .tc := ⟨.hbm, 44, rfl⟩
abbrev main_v34 : Ref sig .tc := ⟨.hbm, 45, rfl⟩
abbrev main_cst_7 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]
-- ==== KvNormBwd.lean ====
abbrev S4352x1440 : Shape := ⟨2, ![4352, 1440]⟩
abbrev S1x128 : Shape := ⟨2, ![1, 128]⟩
abbrev S4352x128 : Shape := ⟨2, ![4352, 128]⟩
abbrev S1088x128 : Shape := ⟨2, ![1088, 128]⟩
abbrev S1088 : Shape := ⟨1, ![1088]⟩
abbrev S1088x1 : Shape := ⟨2, ![1088, 1]⟩
abbrev S128 : Shape := ⟨1, ![128]⟩

abbrev nBuf : Space → Nat
  | .hbm => 5
  | .vmem => 8
  | .smem => 0
  | _ => 0

abbrev bufTy : (tb : Table) → Fin (tcTables nBuf tb) → BufTy
  | .hbm, ⟨0, _⟩ => ⟨S4352x1440, .f32⟩
  | .hbm, ⟨1, _⟩ => ⟨S1x128, .f32⟩
  | .hbm, ⟨2, _⟩ => ⟨S4352x128, .f32⟩
  | .hbm, ⟨3, _⟩ => ⟨S4352x128, .f32⟩
  | .hbm, ⟨4, _⟩ => ⟨S1x128, .f32⟩
  | .local _ .vmem, ⟨0, _⟩ => ⟨S1088x128, .f32⟩
  | .local _ .vmem, ⟨1, _⟩ => ⟨S1088x128, .f32⟩
  | .local _ .vmem, ⟨2, _⟩ => ⟨S1x128, .f32⟩
  | .local _ .vmem, ⟨3, _⟩ => ⟨S1088x128, .f32⟩
  | .local _ .vmem, ⟨4, _⟩ => ⟨S1088x128, .f32⟩
  | .local _ .vmem, ⟨5, _⟩ => ⟨S1088x128, .f32⟩
  | .local _ .vmem, ⟨6, _⟩ => ⟨S1088x128, .f32⟩
  | .local _ .vmem, ⟨7, _⟩ => ⟨S1x128, .f32⟩
  | _, _ => ⟨S4352x1440, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1088x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1088x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1088x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== RefKvNormBwdIdeal.lean ====
abbrev S4352x1440 : Shape := ⟨2, ![4352, 1440]⟩
abbrev S1x128 : Shape := ⟨2, ![1, 128]⟩
abbrev S4352x128 : Shape := ⟨2, ![4352, 128]⟩
abbrev S4352x512 : Shape := ⟨2, ![4352, 512]⟩
abbrev S4352x256 : Shape := ⟨2, ![4352, 256]⟩
abbrev S4352x32 : Shape := ⟨2, ![4352, 32]⟩
abbrev S_ : Shape := ⟨0, ![]⟩
abbrev S4352 : Shape := ⟨1, ![4352]⟩
abbrev S4352x1 : Shape := ⟨2, ![4352, 1]⟩
abbrev S128 : Shape := ⟨1, ![128]⟩

abbrev nBuf : Space → Nat
  | .hbm => 51
  | .vmem => 0
  | .smem => 0
  | _ => 0

abbrev bufTy : (tb : Table) → Fin (tcTables nBuf tb) → BufTy
  | .hbm, ⟨0, _⟩ => ⟨S4352x1440, .f32⟩
  | .hbm, ⟨1, _⟩ => ⟨S1x128, .f32⟩
  | .hbm, ⟨2, _⟩ => ⟨S4352x128, .f32⟩
  | .hbm, ⟨3, _⟩ => ⟨S4352x512, .f32⟩
  | .hbm, ⟨4, _⟩ => ⟨S4352x512, .f32⟩
  | .hbm, ⟨5, _⟩ => ⟨S4352x256, .f32⟩
  | .hbm, ⟨6, _⟩ => ⟨S4352x128, .f32⟩
  | .hbm, ⟨7, _⟩ => ⟨S4352x32, .f32⟩
  | .hbm, ⟨8, _⟩ => ⟨S4352x128, .f32⟩
  | .hbm, ⟨9, _⟩ => ⟨S_, .f32⟩
  | .hbm, ⟨10, _⟩ => ⟨S4352x128, .f32⟩
  | .hbm, ⟨11, _⟩ => ⟨S4352x128, .f32⟩
  | .hbm, ⟨12, _⟩ => ⟨S_, .f32⟩
  | .hbm, ⟨13, _⟩ => ⟨S4352, .f32⟩
  | .hbm, ⟨14, _⟩ => ⟨S4352x1, .f32⟩
  | .hbm, ⟨15, _⟩ => ⟨S_, .f32⟩
  | .hbm, ⟨16, _⟩ => ⟨S4352x1, .f32⟩
  | .hbm, ⟨17, _⟩ => ⟨S4352x1, .f32⟩
  | .hbm, ⟨18, _⟩ => ⟨S_, .f32⟩
  | .hbm, ⟨19, _⟩ => ⟨S4352x1, .f32⟩
  | .hbm, ⟨20, _⟩ => ⟨S4352x1, .f32⟩
  | .hbm, ⟨21, _⟩ => ⟨S4352x1, .f32⟩
  | .hbm, ⟨22, _⟩ => ⟨S4352x1, .f32⟩
  | .hbm, ⟨23, _⟩ => ⟨S_, .f32⟩
  | .hbm, ⟨24, _⟩ => ⟨S4352x1, .f32⟩
  | .hbm, ⟨25, _⟩ => ⟨S4352x1, .f32⟩
  | .hbm, ⟨26, _⟩ => ⟨S4352x128, .f32⟩
  | .hbm, ⟨27, _⟩ => ⟨S4352x128, .f32⟩
  | .hbm, ⟨28, _⟩ => ⟨S4352x128, .f32⟩
  | .hbm, ⟨29, _⟩ => ⟨S4352x128, .f32⟩
  | .hbm, ⟨30, _⟩ => ⟨S4352x128, .f32⟩
  | .hbm, ⟨31, _⟩ => ⟨S_, .f32⟩
  | .hbm, ⟨32, _⟩ => ⟨S128, .f32⟩
  | .hbm, ⟨33, _⟩ => ⟨S1x128, .f32⟩
  | .hbm, ⟨34, _⟩ => ⟨S4352x128, .f32⟩
  | .hbm, ⟨35, _⟩ => ⟨S4352x128, .f32⟩
  | .hbm, ⟨36, _⟩ => ⟨S4352x128, .f32⟩
  | .hbm, ⟨37, _⟩ => ⟨S_, .f32⟩
  | .hbm, ⟨38, _⟩ => ⟨S4352, .f32⟩
  | .hbm, ⟨39, _⟩ => ⟨S4352x1, .f32⟩
  | .hbm, ⟨40, _⟩ => ⟨S4352x128, .f32⟩
  | .hbm, ⟨41, _⟩ => ⟨S4352x128, .f32⟩
  | .hbm, ⟨42, _⟩ => ⟨S4352x1, .f32⟩
  | .hbm, ⟨43, _⟩ => ⟨S_, .f32⟩
  | .hbm, ⟨44, _⟩ => ⟨S4352x1, .f32⟩
  | .hbm, ⟨45, _⟩ => ⟨S4352x1, .f32⟩
  | .hbm, ⟨46, _⟩ => ⟨S_, .f32⟩
  | .hbm, ⟨47, _⟩ => ⟨S4352, .f32⟩
  | .hbm, ⟨48, _⟩ => ⟨S4352x128, .f32⟩
  | .hbm, ⟨49, _⟩ => ⟨S4352x128, .f32⟩
  | .hbm, ⟨50, _⟩ => ⟨S4352x128, .f32⟩
  | _, _ => ⟨S4352x1440, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_5 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_6 : Ref sig .tc := ⟨.hbm, 43, rfl⟩
abbrev main_v33 : Ref sig .tc := ⟨.hbm, 44, rfl⟩
abbrev main_v34 : Ref sig .tc := ⟨.hbm, 45, rfl⟩
abbrev main_cst_7 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]
-- ==== EvInDx.lean ====
abbrev S4352x1440 : Shape := ⟨2, ![4352, 1440]⟩
abbrev S1024x1440 : Shape := ⟨2, ![1024, 1440]⟩
abbrev S4352x1024 : Shape := ⟨2, ![4352, 1024]⟩
abbrev S544x1440 : Shape := ⟨2, ![544, 1440]⟩
abbrev S544x1024 : Shape := ⟨2, ![544, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4352x1440, .f32⟩
  | .hbm, ⟨1, _⟩ => ⟨S1024x1440, .bf16⟩
  | .hbm, ⟨2, _⟩ => ⟨S4352x1024, .f32⟩
  | .local _ .vmem, ⟨0, _⟩ => ⟨S544x1440, .f32⟩
  | .local _ .vmem, ⟨1, _⟩ => ⟨S544x1440, .f32⟩
  | .local _ .vmem, ⟨2, _⟩ => ⟨S1024x1440, .bf16⟩
  | .local _ .vmem, ⟨3, _⟩ => ⟨S544x1024, .f32⟩
  | .local _ .vmem, ⟨4, _⟩ => ⟨S544x1024, .f32⟩
  | _, _ => ⟨S4352x1440, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S544x1440 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1440 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvInDxIdeal.lean ====
abbrev S4352x1440 : Shape := ⟨2, ![4352, 1440]⟩
abbrev S1024x1440 : Shape := ⟨2, ![1024, 1440]⟩
abbrev S4352x1024 : Shape := ⟨2, ![4352, 1024]⟩
abbrev S544x1440 : Shape := ⟨2, ![544, 1440]⟩
abbrev S544x1024 : Shape := ⟨2, ![544, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4352x1440, .f32⟩
  | .hbm, ⟨1, _⟩ => ⟨S1024x1440, .bf16⟩
  | .hbm, ⟨2, _⟩ => ⟨S4352x1024, .f32⟩
  | .local _ .vmem, ⟨0, _⟩ => ⟨S544x1440, .f32⟩
  | .local _ .vmem, ⟨1, _⟩ => ⟨S544x1440, .f32⟩
  | .local _ .vmem, ⟨2, _⟩ => ⟨S1024x1440, .bf16⟩
  | .local _ .vmem, ⟨3, _⟩ => ⟨S544x1024, .f32⟩
  | .local _ .vmem, ⟨4, _⟩ => ⟨S544x1024, .f32⟩
  | _, _ => ⟨S4352x1440, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S544x1440 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1440 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefEvInDxIdeal.lean ====
abbrev S4352x1440 : Shape := ⟨2, ![4352, 1440]⟩
abbrev S1024x1440 : Shape := ⟨2, ![1024, 1440]⟩
abbrev S_ : Shape := ⟨0, ![]⟩
abbrev S4352x1024 : Shape := ⟨2, ![4352, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4352x1440, .f32⟩
  | .hbm, ⟨1, _⟩ => ⟨S1024x1440, .bf16⟩
  | .hbm, ⟨2, _⟩ => ⟨S_, .f32⟩
  | .hbm, ⟨3, _⟩ => ⟨S4352x1024, .f32⟩
  | .hbm, ⟨4, _⟩ => ⟨S1024x1440, .f32⟩
  | .hbm, ⟨5, _⟩ => ⟨S4352x1440, .f32⟩
  | .hbm, ⟨6, _⟩ => ⟨S4352x1024, .f32⟩
  | _, _ => ⟨S4352x1440, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== EvInDw.lean ====
abbrev S4352x1024 : Shape := ⟨2, ![4352, 1024]⟩
abbrev S4352x1440 : Shape := ⟨2, ![4352, 1440]⟩
abbrev S1024x1440 : Shape := ⟨2, ![1024, 1440]⟩
abbrev S1088x1024 : Shape := ⟨2, ![1088, 1024]⟩
abbrev S1088x1440 : Shape := ⟨2, ![1088, 1440]⟩

abbrev nBuf : Space → Nat
  | .hbm => 3
  | .vmem => 6
  | .smem => 0
  | _ => 0

abbrev bufTy : (tb : Table) → Fin (tcTables nBuf tb) → BufTy
  | .hbm, ⟨0, _⟩ => ⟨S4352x1024, .f32⟩
  | .hbm, ⟨1, _⟩ => ⟨S4352x1440, .f32⟩
  | .hbm, ⟨2, _⟩ => ⟨S1024x1440, .bf16⟩
  | .local _ .vmem, ⟨0, _⟩ => ⟨S1088x1024, .f32⟩
  | .local _ .vmem, ⟨1, _⟩ => ⟨S1088x1024, .f32⟩
  | .local _ .vmem, ⟨2, _⟩ => ⟨S1088x1440, .f32⟩
  | .local _ .vmem, ⟨3, _⟩ => ⟨S1088x1440, .f32⟩
  | .local _ .vmem, ⟨4, _⟩ => ⟨S1024x1440, .bf16⟩
  | .local _ .vmem, ⟨5, _⟩ => ⟨S1024x1440, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1088x1440 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1440 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== EvInDwIdeal.lean ====
abbrev S4352x1024 : Shape := ⟨2, ![4352, 1024]⟩
abbrev S4352x1440 : Shape := ⟨2, ![4352, 1440]⟩
abbrev S1024x1440 : Shape := ⟨2, ![1024, 1440]⟩
abbrev S1088x1024 : Shape := ⟨2, ![1088, 1024]⟩
abbrev S1088x1440 : Shape := ⟨2, ![1088, 1440]⟩

abbrev nBuf : Space → Nat
  | .hbm => 3
  | .vmem => 6
  | .smem => 0
  | _ => 0

abbrev bufTy : (tb : Table) → Fin (tcTables nBuf tb) → BufTy
  | .hbm, ⟨0, _⟩ => ⟨S4352x1024, .f32⟩
  | .hbm, ⟨1, _⟩ => ⟨S4352x1440, .f32⟩
  | .hbm, ⟨2, _⟩ => ⟨S1024x1440, .bf16⟩
  | .local _ .vmem, ⟨0, _⟩ => ⟨S1088x1024, .f32⟩
  | .local _ .vmem, ⟨1, _⟩ => ⟨S1088x1024, .f32⟩
  | .local _ .vmem, ⟨2, _⟩ => ⟨S1088x1440, .f32⟩
  | .local _ .vmem, ⟨3, _⟩ => ⟨S1088x1440, .f32⟩
  | .local _ .vmem, ⟨4, _⟩ => ⟨S1024x1440, .bf16⟩
  | .local _ .vmem, ⟨5, _⟩ => ⟨S1024x1440, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1088x1440 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1440 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== RefEvInDwIdeal.lean ====
abbrev S4352x1024 : Shape := ⟨2, ![4352, 1024]⟩
abbrev S4352x1440 : Shape := ⟨2, ![4352, 1440]⟩
abbrev S_ : Shape := ⟨0, ![]⟩
abbrev S1024x1440 : Shape := ⟨2, ![1024, 1440]⟩
abbrev S1440x1024 : Shape := ⟨2, ![1440, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S4352x1440, .f32⟩
  | .hbm, ⟨2, _⟩ => ⟨S_, .bf16⟩
  | .hbm, ⟨3, _⟩ => ⟨S1024x1440, .bf16⟩
  | .hbm, ⟨4, _⟩ => ⟨S1024x1440, .f32⟩
  | .hbm, ⟨5, _⟩ => ⟨S4352x1440, .f32⟩
  | .hbm, ⟨6, _⟩ => ⟨S1440x1024, .f32⟩
  | .hbm, ⟨7, _⟩ => ⟨S1024x1440, .f32⟩
  | .hbm, ⟨8, _⟩ => ⟨S1024x1440, .bf16⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== UqDx.lean ====
abbrev S4352x1024 : Shape := ⟨2, ![4352, 1024]⟩
abbrev S256x1024 : Shape := ⟨2, ![256, 1024]⟩
abbrev S4352x256 : Shape := ⟨2, ![4352, 256]⟩
abbrev S1088x1024 : Shape := ⟨2, ![1088, 1024]⟩
abbrev S1088x256 : Shape := ⟨2, ![1088, 256]⟩

abbrev nBuf : Space → Nat
  | .hbm => 3
  | .vmem => 5
  | .smem => 0
  | _ => 0

abbrev bufTy : (tb : Table) → Fin (tcTables nBuf tb) → BufTy
  | .hbm, ⟨0, _⟩ => ⟨S4352x1024, .bf16⟩
  | .hbm, ⟨1, _⟩ => ⟨S256x1024, .bf16⟩
  | .hbm, ⟨2, _⟩ => ⟨S4352x256, .f32⟩
  | .local _ .vmem, ⟨0, _⟩ => ⟨S1088x1024, .bf16⟩
  | .local _ .vmem, ⟨1, _⟩ => ⟨S1088x1024, .bf16⟩
  | .local _ .vmem, ⟨2, _⟩ => ⟨S256x1024, .bf16⟩
  | .local _ .vmem, ⟨3, _⟩ => ⟨S1088x256, .f32⟩
  | .local _ .vmem, ⟨4, _⟩ => ⟨S1088x256, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1088x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UqDxIdeal.lean ====
abbrev S4352x1024 : Shape := ⟨2, ![4352, 1024]⟩
abbrev S256x1024 : Shape := ⟨2, ![256, 1024]⟩
abbrev S4352x256 : Shape := ⟨2, ![4352, 256]⟩
abbrev S1088x1024 : Shape := ⟨2, ![1088, 1024]⟩
abbrev S1088x256 : Shape := ⟨2, ![1088, 256]⟩

abbrev nBuf : Space → Nat
  | .hbm => 3
  | .vmem => 5
  | .smem => 0
  | _ => 0

abbrev bufTy : (tb : Table) → Fin (tcTables nBuf tb) → BufTy
  | .hbm, ⟨0, _⟩ => ⟨S4352x1024, .bf16⟩
  | .hbm, ⟨1, _⟩ => ⟨S256x1024, .bf16⟩
  | .hbm, ⟨2, _⟩ => ⟨S4352x256, .f32⟩
  | .local _ .vmem, ⟨0, _⟩ => ⟨S1088x1024, .bf16⟩
  | .local _ .vmem, ⟨1, _⟩ => ⟨S1088x1024, .bf16⟩
  | .local _ .vmem, ⟨2, _⟩ => ⟨S256x1024, .bf16⟩
  | .local _ .vmem, ⟨3, _⟩ => ⟨S1088x256, .f32⟩
  | .local _ .vmem, ⟨4, _⟩ => ⟨S1088x256, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1088x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefUqDxIdeal.lean ====
abbrev S4352x1024 : Shape := ⟨2, ![4352, 1024]⟩
abbrev S256x1024 : Shape := ⟨2, ![256, 1024]⟩
abbrev S_ : Shape := ⟨0, ![]⟩
abbrev S4352x256 : Shape := ⟨2, ![4352, 256]⟩

abbrev nBuf : Space → Nat
  | .hbm => 8
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S256x1024, .bf16⟩
  | .hbm, ⟨2, _⟩ => ⟨S_, .f32⟩
  | .hbm, ⟨3, _⟩ => ⟨S4352x256, .f32⟩
  | .hbm, ⟨4, _⟩ => ⟨S256x1024, .f32⟩
  | .hbm, ⟨5, _⟩ => ⟨S4352x1024, .f32⟩
  | .hbm, ⟨6, _⟩ => ⟨S4352x1024, .f32⟩
  | .hbm, ⟨7, _⟩ => ⟨S4352x256, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== UqDw.lean ====
abbrev S4352x256 : Shape := ⟨2, ![4352, 256]⟩
abbrev S4352x1024 : Shape := ⟨2, ![4352, 1024]⟩
abbrev S256x1024 : Shape := ⟨2, ![256, 1024]⟩
abbrev S2176x256 : Shape := ⟨2, ![2176, 256]⟩
abbrev S2176x1024 : Shape := ⟨2, ![2176, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4352x256, .f32⟩
  | .hbm, ⟨1, _⟩ => ⟨S4352x1024, .bf16⟩
  | .hbm, ⟨2, _⟩ => ⟨S256x1024, .bf16⟩
  | .local _ .vmem, ⟨0, _⟩ => ⟨S2176x256, .f32⟩
  | .local _ .vmem, ⟨1, _⟩ => ⟨S2176x256, .f32⟩
  | .local _ .vmem, ⟨2, _⟩ => ⟨S2176x1024, .bf16⟩
  | .local _ .vmem, ⟨3, _⟩ => ⟨S2176x1024, .bf16⟩
  | .local _ .vmem, ⟨4, _⟩ => ⟨S256x1024, .bf16⟩
  | .local _ .vmem, ⟨5, _⟩ => ⟨S256x1024, .f32⟩
  | _, _ => ⟨S4352x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== UqDwIdeal.lean ====
abbrev S4352x256 : Shape := ⟨2, ![4352, 256]⟩
abbrev S4352x1024 : Shape := ⟨2, ![4352, 1024]⟩
abbrev S256x1024 : Shape := ⟨2, ![256, 1024]⟩
abbrev S2176x256 : Shape := ⟨2, ![2176, 256]⟩
abbrev S2176x1024 : Shape := ⟨2, ![2176, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4352x256, .f32⟩
  | .hbm, ⟨1, _⟩ => ⟨S4352x1024, .bf16⟩
  | .hbm, ⟨2, _⟩ => ⟨S256x1024, .bf16⟩
  | .local _ .vmem, ⟨0, _⟩ => ⟨S2176x256, .f32⟩
  | .local _ .vmem, ⟨1, _⟩ => ⟨S2176x256, .f32⟩
  | .local _ .vmem, ⟨2, _⟩ => ⟨S2176x1024, .bf16⟩
  | .local _ .vmem, ⟨3, _⟩ => ⟨S2176x1024, .bf16⟩
  | .local _ .vmem, ⟨4, _⟩ => ⟨S256x1024, .bf16⟩
  | .local _ .vmem, ⟨5, _⟩ => ⟨S256x1024, .f32⟩
  | _, _ => ⟨S4352x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== RefUqDwIdeal.lean ====
abbrev S4352x256 : Shape := ⟨2, ![4352, 256]⟩
abbrev S4352x1024 : Shape := ⟨2, ![4352, 1024]⟩
abbrev S_ : Shape := ⟨0, ![]⟩
abbrev S256x1024 : Shape := ⟨2, ![256, 1024]⟩
abbrev S1024x256 : Shape := ⟨2, ![1024, 256]⟩

abbrev nBuf : Space → Nat
  | .hbm => 10
  | .vmem => 0
  | .smem => 0
  | _ => 0

abbrev bufTy : (tb : Table) → Fin (tcTables nBuf tb) → BufTy
  | .hbm, ⟨0, _⟩ => ⟨S4352x256, .f32⟩
  | .hbm, ⟨1, _⟩ => ⟨S4352x1024, .bf16⟩
  | .hbm, ⟨2, _⟩ => ⟨S_, .bf16⟩
  | .hbm, ⟨3, _⟩ => ⟨S256x1024, .bf16⟩
  | .hbm, ⟨4, _⟩ => ⟨S256x1024, .f32⟩
  | .hbm, ⟨5, _⟩ => ⟨S4352x1024, .f32⟩
  | .hbm, ⟨6, _⟩ => ⟨S4352x1024, .f32⟩
  | .hbm, ⟨7, _⟩ => ⟨S1024x256, .f32⟩
  | .hbm, ⟨8, _⟩ => ⟨S256x1024, .f32⟩
  | .hbm, ⟨9, _⟩ => ⟨S256x1024, .bf16⟩
  | _, _ => ⟨S4352x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== UkvDx.lean ====
abbrev S4352x1024 : Shape := ⟨2, ![4352, 1024]⟩
abbrev S128x1024 : Shape := ⟨2, ![128, 1024]⟩
abbrev S4352x128 : Shape := ⟨2, ![4352, 128]⟩
abbrev S1088x1024 : Shape := ⟨2, ![1088, 1024]⟩
abbrev S1088x128 : Shape := ⟨2, ![1088, 128]⟩

abbrev nBuf : Space → Nat
  | .hbm => 3
  | .vmem => 5
  | .smem => 0
  | _ => 0

abbrev bufTy : (tb : Table) → Fin (tcTables nBuf tb) → BufTy
  | .hbm, ⟨0, _⟩ => ⟨S4352x1024, .bf16⟩
  | .hbm, ⟨1, _⟩ => ⟨S128x1024, .bf16⟩
  | .hbm, ⟨2, _⟩ => ⟨S4352x128, .f32⟩
  | .local _ .vmem, ⟨0, _⟩ => ⟨S1088x1024, .bf16⟩
  | .local _ .vmem, ⟨1, _⟩ => ⟨S1088x1024, .bf16⟩
  | .local _ .vmem, ⟨2, _⟩ => ⟨S128x1024, .bf16⟩
  | .local _ .vmem, ⟨3, _⟩ => ⟨S1088x128, .f32⟩
  | .local _ .vmem, ⟨4, _⟩ => ⟨S1088x128, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1088x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UkvDxIdeal.lean ====
abbrev S4352x1024 : Shape := ⟨2, ![4352, 1024]⟩
abbrev S128x1024 : Shape := ⟨2, ![128, 1024]⟩
abbrev S4352x128 : Shape := ⟨2, ![4352, 128]⟩
abbrev S1088x1024 : Shape := ⟨2, ![1088, 1024]⟩
abbrev S1088x128 : Shape := ⟨2, ![1088, 128]⟩

abbrev nBuf : Space → Nat
  | .hbm => 3
  | .vmem => 5
  | .smem => 0
  | _ => 0

abbrev bufTy : (tb : Table) → Fin (tcTables nBuf tb) → BufTy
  | .hbm, ⟨0, _⟩ => ⟨S4352x1024, .bf16⟩
  | .hbm, ⟨1, _⟩ => ⟨S128x1024, .bf16⟩
  | .hbm, ⟨2, _⟩ => ⟨S4352x128, .f32⟩
  | .local _ .vmem, ⟨0, _⟩ => ⟨S1088x1024, .bf16⟩
  | .local _ .vmem, ⟨1, _⟩ => ⟨S1088x1024, .bf16⟩
  | .local _ .vmem, ⟨2, _⟩ => ⟨S128x1024, .bf16⟩
  | .local _ .vmem, ⟨3, _⟩ => ⟨S1088x128, .f32⟩
  | .local _ .vmem, ⟨4, _⟩ => ⟨S1088x128, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1088x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefUkvDxIdeal.lean ====
abbrev S4352x1024 : Shape := ⟨2, ![4352, 1024]⟩
abbrev S128x1024 : Shape := ⟨2, ![128, 1024]⟩
abbrev S_ : Shape := ⟨0, ![]⟩
abbrev S4352x128 : Shape := ⟨2, ![4352, 128]⟩

abbrev nBuf : Space → Nat
  | .hbm => 8
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S128x1024, .bf16⟩
  | .hbm, ⟨2, _⟩ => ⟨S_, .f32⟩
  | .hbm, ⟨3, _⟩ => ⟨S4352x128, .f32⟩
  | .hbm, ⟨4, _⟩ => ⟨S128x1024, .f32⟩
  | .hbm, ⟨5, _⟩ => ⟨S4352x1024, .f32⟩
  | .hbm, ⟨6, _⟩ => ⟨S4352x1024, .f32⟩
  | .hbm, ⟨7, _⟩ => ⟨S4352x128, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== UkvDw.lean ====
abbrev S4352x128 : Shape := ⟨2, ![4352, 128]⟩
abbrev S4352x1024 : Shape := ⟨2, ![4352, 1024]⟩
abbrev S128x1024 : Shape := ⟨2, ![128, 1024]⟩
abbrev S2176x128 : Shape := ⟨2, ![2176, 128]⟩
abbrev S2176x1024 : Shape := ⟨2, ![2176, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4352x128, .f32⟩
  | .hbm, ⟨1, _⟩ => ⟨S4352x1024, .bf16⟩
  | .hbm, ⟨2, _⟩ => ⟨S128x1024, .bf16⟩
  | .local _ .vmem, ⟨0, _⟩ => ⟨S2176x128, .f32⟩
  | .local _ .vmem, ⟨1, _⟩ => ⟨S2176x128, .f32⟩
  | .local _ .vmem, ⟨2, _⟩ => ⟨S2176x1024, .bf16⟩
  | .local _ .vmem, ⟨3, _⟩ => ⟨S2176x1024, .bf16⟩
  | .local _ .vmem, ⟨4, _⟩ => ⟨S128x1024, .bf16⟩
  | .local _ .vmem, ⟨5, _⟩ => ⟨S128x1024, .f32⟩
  | _, _ => ⟨S4352x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== UkvDwIdeal.lean ====
abbrev S4352x128 : Shape := ⟨2, ![4352, 128]⟩
abbrev S4352x1024 : Shape := ⟨2, ![4352, 1024]⟩
abbrev S128x1024 : Shape := ⟨2, ![128, 1024]⟩
abbrev S2176x128 : Shape := ⟨2, ![2176, 128]⟩
abbrev S2176x1024 : Shape := ⟨2, ![2176, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4352x128, .f32⟩
  | .hbm, ⟨1, _⟩ => ⟨S4352x1024, .bf16⟩
  | .hbm, ⟨2, _⟩ => ⟨S128x1024, .bf16⟩
  | .local _ .vmem, ⟨0, _⟩ => ⟨S2176x128, .f32⟩
  | .local _ .vmem, ⟨1, _⟩ => ⟨S2176x128, .f32⟩
  | .local _ .vmem, ⟨2, _⟩ => ⟨S2176x1024, .bf16⟩
  | .local _ .vmem, ⟨3, _⟩ => ⟨S2176x1024, .bf16⟩
  | .local _ .vmem, ⟨4, _⟩ => ⟨S128x1024, .bf16⟩
  | .local _ .vmem, ⟨5, _⟩ => ⟨S128x1024, .f32⟩
  | _, _ => ⟨S4352x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== RefUkvDwIdeal.lean ====
abbrev S4352x128 : Shape := ⟨2, ![4352, 128]⟩
abbrev S4352x1024 : Shape := ⟨2, ![4352, 1024]⟩
abbrev S_ : Shape := ⟨0, ![]⟩
abbrev S128x1024 : Shape := ⟨2, ![128, 1024]⟩
abbrev S1024x128 : Shape := ⟨2, ![1024, 128]⟩

abbrev nBuf : Space → Nat
  | .hbm => 10
  | .vmem => 0
  | .smem => 0
  | _ => 0

abbrev bufTy : (tb : Table) → Fin (tcTables nBuf tb) → BufTy
  | .hbm, ⟨0, _⟩ => ⟨S4352x128, .f32⟩
  | .hbm, ⟨1, _⟩ => ⟨S4352x1024, .bf16⟩
  | .hbm, ⟨2, _⟩ => ⟨S_, .bf16⟩
  | .hbm, ⟨3, _⟩ => ⟨S128x1024, .bf16⟩
  | .hbm, ⟨4, _⟩ => ⟨S128x1024, .f32⟩
  | .hbm, ⟨5, _⟩ => ⟨S4352x1024, .f32⟩
  | .hbm, ⟨6, _⟩ => ⟨S4352x1024, .f32⟩
  | .hbm, ⟨7, _⟩ => ⟨S1024x128, .f32⟩
  | .hbm, ⟨8, _⟩ => ⟨S128x1024, .f32⟩
  | .hbm, ⟨9, _⟩ => ⟨S128x1024, .bf16⟩
  | _, _ => ⟨S4352x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== EvOutDx.lean ====
abbrev S4352x1024 : Shape := ⟨2, ![4352, 1024]⟩
abbrev S1536x1024 : Shape := ⟨2, ![1536, 1024]⟩
abbrev S4352x1536 : Shape := ⟨2, ![4352, 1536]⟩
abbrev S1088x1024 : Shape := ⟨2, ![1088, 1024]⟩
abbrev S768x1024 : Shape := ⟨2, ![768, 1024]⟩
abbrev S1088x768 : Shape := ⟨2, ![1088, 768]⟩

abbrev nBuf : Space → Nat
  | .hbm => 3
  | .vmem => 6
  | .smem => 0
  | _ => 0

abbrev bufTy : (tb : Table) → Fin (tcTables nBuf tb) → BufTy
  | .hbm, ⟨0, _⟩ => ⟨S4352x1024, .f32⟩
  | .hbm, ⟨1, _⟩ => ⟨S1536x1024, .bf16⟩
  | .hbm, ⟨2, _⟩ => ⟨S4352x1536, .f32⟩
  | .local _ .vmem, ⟨0, _⟩ => ⟨S1088x1024, .f32⟩
  | .local _ .vmem, ⟨1, _⟩ => ⟨S1088x1024, .f32⟩
  | .local _ .vmem, ⟨2, _⟩ => ⟨S768x1024, .bf16⟩
  | .local _ .vmem, ⟨3, _⟩ => ⟨S768x1024, .bf16⟩
  | .local _ .vmem, ⟨4, _⟩ => ⟨S1088x768, .f32⟩
  | .local _ .vmem, ⟨5, _⟩ => ⟨S1088x768, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefEvOutDxIdeal.lean ====
abbrev S4352x1024 : Shape := ⟨2, ![4352, 1024]⟩
abbrev S1536x1024 : Shape := ⟨2, ![1536, 1024]⟩
abbrev S_ : Shape := ⟨0, ![]⟩
abbrev S4352x1536 : Shape := ⟨2, ![4352, 1536]⟩

abbrev nBuf : Space → Nat
  | .hbm => 7
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S1536x1024, .bf16⟩
  | .hbm, ⟨2, _⟩ => ⟨S_, .f32⟩
  | .hbm, ⟨3, _⟩ => ⟨S4352x1536, .f32⟩
  | .hbm, ⟨4, _⟩ => ⟨S1536x1024, .f32⟩
  | .hbm, ⟨5, _⟩ => ⟨S4352x1024, .f32⟩
  | .hbm, ⟨6, _⟩ => ⟨S4352x1536, .f32⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== EvOutDw.lean ====
abbrev S4352x1536 : Shape := ⟨2, ![4352, 1536]⟩
abbrev S4352x1024 : Shape := ⟨2, ![4352, 1024]⟩
abbrev S1536x1024 : Shape := ⟨2, ![1536, 1024]⟩
abbrev S1088x768 : Shape := ⟨2, ![1088, 768]⟩
abbrev S1088x1024 : Shape := ⟨2, ![1088, 1024]⟩
abbrev S768x1024 : Shape := ⟨2, ![768, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4352x1536, .f32⟩
  | .hbm, ⟨1, _⟩ => ⟨S4352x1024, .f32⟩
  | .hbm, ⟨2, _⟩ => ⟨S1536x1024, .bf16⟩
  | .local _ .vmem, ⟨0, _⟩ => ⟨S1088x768, .f32⟩
  | .local _ .vmem, ⟨1, _⟩ => ⟨S1088x768, .f32⟩
  | .local _ .vmem, ⟨2, _⟩ => ⟨S1088x1024, .f32⟩
  | .local _ .vmem, ⟨3, _⟩ => ⟨S1088x1024, .f32⟩
  | .local _ .vmem, ⟨4, _⟩ => ⟨S768x1024, .bf16⟩
  | .local _ .vmem, ⟨5, _⟩ => ⟨S768x1024, .bf16⟩
  | .local _ .vmem, ⟨6, _⟩ => ⟨S768x1024, .f32⟩
  | _, _ => ⟨S4352x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1088x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefEvOutDwIdeal.lean ====
abbrev S4352x1536 : Shape := ⟨2, ![4352, 1536]⟩
abbrev S4352x1024 : Shape := ⟨2, ![4352, 1024]⟩
abbrev S_ : Shape := ⟨0, ![]⟩
abbrev S1536x1024 : Shape := ⟨2, ![1536, 1024]⟩
abbrev S1024x1536 : Shape := ⟨2, ![1024, 1536]⟩

abbrev nBuf : Space → Nat
  | .hbm => 9
  | .vmem => 0
  | .smem => 0
  | _ => 0

abbrev bufTy : (tb : Table) → Fin (tcTables nBuf tb) → BufTy
  | .hbm, ⟨0, _⟩ => ⟨S4352x1536, .f32⟩
  | .hbm, ⟨1, _⟩ => ⟨S4352x1024, .f32⟩
  | .hbm, ⟨2, _⟩ => ⟨S_, .bf16⟩
  | .hbm, ⟨3, _⟩ => ⟨S1536x1024, .bf16⟩
  | .hbm, ⟨4, _⟩ => ⟨S1536x1024, .f32⟩
  | .hbm, ⟨5, _⟩ => ⟨S4352x1024, .f32⟩
  | .hbm, ⟨6, _⟩ => ⟨S1024x1536, .f32⟩
  | .hbm, ⟨7, _⟩ => ⟨S1536x1024, .f32⟩
  | .hbm, ⟨8, _⟩ => ⟨S1536x1024, .bf16⟩
  | _, _ => ⟨S4352x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== W1Fwd.lean ====
abbrev S4352x1024 : Shape := ⟨2, ![4352, 1024]⟩
abbrev S4x1024x1024 : Shape := ⟨3, ![4, 1024, 1024]⟩
abbrev S4352x4096 : Shape := ⟨2, ![4352, 4096]⟩
abbrev S2176x1024 : Shape := ⟨2, ![2176, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4352x1024, .f32⟩
  | .hbm, ⟨1, _⟩ => ⟨S4x1024x1024, .bf16⟩
  | .hbm, ⟨2, _⟩ => ⟨S4352x4096, .bf16⟩
  | .local _ .vmem, ⟨0, _⟩ => ⟨S2176x1024, .f32⟩
  | .local _ .vmem, ⟨1, _⟩ => ⟨S2176x1024, .f32⟩
  | .local _ .vmem, ⟨2, _⟩ => ⟨S1x1024x1024, .bf16⟩
  | .local _ .vmem, ⟨3, _⟩ => ⟨S1x1024x1024, .bf16⟩
  | .local _ .vmem, ⟨4, _⟩ => ⟨S2176x1024, .bf16⟩
  | .local _ .vmem, ⟨5, _⟩ => ⟨S2176x1024, .bf16⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2176x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== W1FwdIdeal.lean ====
abbrev S4352x1024 : Shape := ⟨2, ![4352, 1024]⟩
abbrev S4x1024x1024 : Shape := ⟨3, ![4, 1024, 1024]⟩
abbrev S4352x4096 : Shape := ⟨2, ![4352, 4096]⟩
abbrev S2176x1024 : Shape := ⟨2, ![2176, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4352x1024, .f32⟩
  | .hbm, ⟨1, _⟩ => ⟨S4x1024x1024, .bf16⟩
  | .hbm, ⟨2, _⟩ => ⟨S4352x4096, .bf16⟩
  | .local _ .vmem, ⟨0, _⟩ => ⟨S2176x1024, .f32⟩
  | .local _ .vmem, ⟨1, _⟩ => ⟨S2176x1024, .f32⟩
  | .local _ .vmem, ⟨2, _⟩ => ⟨S1x1024x1024, .bf16⟩
  | .local _ .vmem, ⟨3, _⟩ => ⟨S1x1024x1024, .bf16⟩
  | .local _ .vmem, ⟨4, _⟩ => ⟨S2176x1024, .bf16⟩
  | .local _ .vmem, ⟨5, _⟩ => ⟨S2176x1024, .bf16⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2176x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefW1FwdIdeal.lean ====
abbrev S4352x1024 : Shape := ⟨2, ![4352, 1024]⟩
abbrev S4x1024x1024 : Shape := ⟨3, ![4, 1024, 1024]⟩
abbrev S1024x4x1024 : Shape := ⟨3, ![1024, 4, 1024]⟩
abbrev S1024x4096 : Shape := ⟨2, ![1024, 4096]⟩
abbrev S4352x4096 : Shape := ⟨2, ![4352, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S4x1024x1024, .bf16⟩
  | .hbm, ⟨2, _⟩ => ⟨S1024x4x1024, .bf16⟩
  | .hbm, ⟨3, _⟩ => ⟨S1024x4096, .bf16⟩
  | .hbm, ⟨4, _⟩ => ⟨S1024x4096, .f32⟩
  | .hbm, ⟨5, _⟩ => ⟨S4352x4096, .f32⟩
  | .hbm, ⟨6, _⟩ => ⟨S4352x4096, .bf16⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== W2NormFwd.lean ====
abbrev S4352x4096 : Shape := ⟨2, ![4352, 4096]⟩
abbrev S4096x1024 : Shape := ⟨2, ![4096, 1024]⟩
abbrev S4352x1024 : Shape := ⟨2, ![4352, 1024]⟩
abbrev S1x1024 : Shape := ⟨2, ![1, 1024]⟩
abbrev S544x4096 : Shape := ⟨2, ![544, 4096]⟩
abbrev S544x1024 : Shape := ⟨2, ![544, 1024]⟩
abbrev S544 : Shape := ⟨1, ![544]⟩
abbrev S544x1 : Shape := ⟨2, ![544, 1]⟩

abbrev nBuf : Space → Nat
  | .hbm => 7
  | .vmem => 11
  | .smem => 0
  | _ => 0

abbrev bufTy : (tb : Table) → Fin (tcTables nBuf tb) → BufTy
  | .hbm, ⟨0, _⟩ => ⟨S4352x4096, .bf16⟩
  | .hbm, ⟨1, _⟩ => ⟨S4096x1024, .bf16⟩
  | .hbm, ⟨2, _⟩ => ⟨S4352x1024, .f32⟩
  | .hbm, ⟨3, _⟩ => ⟨S1x1024, .f32⟩
  | .hbm, ⟨4, _⟩ => ⟨S1x1024, .f32⟩
  | .hbm, ⟨5, _⟩ => ⟨S4352x1024, .f32⟩
  | .hbm, ⟨6, _⟩ => ⟨S4352x1024, .f32⟩
  | .local _ .vmem, ⟨0, _⟩ => ⟨S544x4096, .bf16⟩
  | .local _ .vmem, ⟨1, _⟩ => ⟨S544x4096, .bf16⟩
  | .local _ .vmem, ⟨2, _⟩ => ⟨S4096x1024, .bf16⟩
  | .local _ .vmem, ⟨3, _⟩ => ⟨S544x1024, .f32⟩
  | .local _ .vmem, ⟨4, _⟩ => ⟨S544x1024, .f32⟩
  | .local _ .vmem, ⟨5, _⟩ => ⟨S1x1024, .f32⟩
  | .local _ .vmem, ⟨6, _⟩ => ⟨S1x1024, .f32⟩
  | .local _ .vmem, ⟨7, _⟩ => ⟨S544x1024, .f32⟩
  | .local _ .vmem, ⟨8, _⟩ => ⟨S544x1024, .f32⟩
  | .local _ .vmem, ⟨9, _⟩ => ⟨S544x1024, .f32⟩
  | .local _ .vmem, ⟨10, _⟩ => ⟨S544x1024, .f32⟩
  | _, _ => ⟨S4352x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S544x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S544x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S544x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== W2NormFwdIdeal.lean ====
variable {F : FTy → Type} [FloatOps F] [Named F]
def κ : String → Option EReal := fun
  | "alpha" => some ((Real.sqrt 2 : ℝ) : EReal)
  | _ => none
-- ==== RefW2NormFwdIdeal.lean ====
abbrev S4352x4096 : Shape := ⟨2, ![4352, 4096]⟩
abbrev S4096x1024 : Shape := ⟨2, ![4096, 1024]⟩
abbrev S4352x1024 : Shape := ⟨2, ![4352, 1024]⟩
abbrev S1x1024 : Shape := ⟨2, ![1, 1024]⟩
abbrev S_ : Shape := ⟨0, ![]⟩
abbrev S4352 : Shape := ⟨1, ![4352]⟩
abbrev S4352x1 : Shape := ⟨2, ![4352, 1]⟩

abbrev nBuf : Space → Nat
  | .hbm => 42
  | .vmem => 0
  | .smem => 0
  | _ => 0

abbrev bufTy : (tb : Table) → Fin (tcTables nBuf tb) → BufTy
  | .hbm, ⟨0, _⟩ => ⟨S4352x4096, .bf16⟩
  | .hbm, ⟨1, _⟩ => ⟨S4096x1024, .bf16⟩
  | .hbm, ⟨2, _⟩ => ⟨S4352x1024, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S_, .f32⟩
  | .hbm, ⟨7, _⟩ => ⟨S4352x1024, .f32⟩
  | .hbm, ⟨8, _⟩ => ⟨S4352x1024, .f32⟩
  | .hbm, ⟨9, _⟩ => ⟨S4352x4096, .f32⟩
  | .hbm, ⟨10, _⟩ => ⟨S_, .f32⟩
  | .hbm, ⟨11, _⟩ => ⟨S4352x4096, .f32⟩
  | .hbm, ⟨12, _⟩ => ⟨S4352x4096, .f32⟩
  | .hbm, ⟨13, _⟩ => ⟨S4352x4096, .f32⟩
  | .hbm, ⟨14, _⟩ => ⟨S4096x1024, .f32⟩
  | .hbm, ⟨15, _⟩ => ⟨S4352x1024, .f32⟩
  | .hbm, ⟨16, _⟩ => ⟨S4352x1024, .f32⟩
  | .hbm, ⟨17, _⟩ => ⟨S_, .f32⟩
  | .hbm, ⟨18, _⟩ => ⟨S4352, .f32⟩
  | .hbm, ⟨19, _⟩ => ⟨S4352x1, .f32⟩
  | .hbm, ⟨20, _⟩ => ⟨S_, .f32⟩
  | .hbm, ⟨21, _⟩ => ⟨S4352x1, .f32⟩
  | .hbm, ⟨22, _⟩ => ⟨S4352x1, .f32⟩
  | .hbm, ⟨23, _⟩ => ⟨S4352x1024, .f32⟩
  | .hbm, ⟨24, _⟩ => ⟨S4352x1024, .f32⟩
  | .hbm, ⟨25, _⟩ => ⟨S4352x1024, .f32⟩
  | .hbm, ⟨26, _⟩ => ⟨S_, .f32⟩
  | .hbm, ⟨27, _⟩ => ⟨S4352, .f32⟩
  | .hbm, ⟨28, _⟩ => ⟨S4352x1, .f32⟩
  | .hbm, ⟨29, _⟩ => ⟨S_, .f32⟩
  | .hbm, ⟨30, _⟩ => ⟨S4352x1, .f32⟩
  | .hbm, ⟨31, _⟩ => ⟨S4352x1, .f32⟩
  | .hbm, ⟨32, _⟩ => ⟨S_, .f32⟩
  | .hbm, ⟨33, _⟩ => ⟨S4352x1, .f32⟩
  | .hbm, ⟨34, _⟩ => ⟨S4352x1, .f32⟩
  | .hbm, ⟨35, _⟩ => ⟨S4352x1, .f32⟩
  | .hbm, ⟨36, _⟩ => ⟨S4352x1024, .f32⟩
  | .hbm, ⟨37, _⟩ => ⟨S4352x1024, .f32⟩
  | .hbm, ⟨38, _⟩ => ⟨S4352x1024, .f32⟩
  | .hbm, ⟨39, _⟩ => ⟨S4352x1024, .f32⟩
  | .hbm, ⟨40, _⟩ => ⟨S4352x1024, .f32⟩
  | .hbm, ⟨41, _⟩ => ⟨S4352x1024, .f32⟩
  | _, _ => ⟨S4352x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]
-- ==== InFwd.lean ====
abbrev S4352x1024 : Shape := ⟨2, ![4352, 1024]⟩
abbrev S4x1024x1536 : Shape := ⟨3, ![4, 1024, 1536]⟩
abbrev S4352x6144 : Shape := ⟨2, ![4352, 6144]⟩
abbrev S2176x1024 : Shape := ⟨2, ![2176, 1024]⟩
abbrev S1x1024x768 : Shape := ⟨3, ![1, 1024, 768]⟩
abbrev S2176x768 : Shape := ⟨2, ![2176, 768]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S4352x1024, .f32⟩
  | .hbm, ⟨1, _⟩ => ⟨S4x1024x1536, .bf16⟩
  | .hbm, ⟨2, _⟩ => ⟨S4352x6144, .bf16⟩
  | .local _ .vmem, ⟨0, _⟩ => ⟨S2176x1024, .f32⟩
  | .local _ .vmem, ⟨1, _⟩ => ⟨S2176x1024, .f32⟩
  | .local _ .vmem, ⟨2, _⟩ => ⟨S1x1024x768, .bf16⟩
  | .local _ .vmem, ⟨3, _⟩ => ⟨S1x1024x768, .bf16⟩
  | .local _ .vmem, ⟨4, _⟩ => ⟨S2176x768, .bf16⟩
  | .local _ .vmem, ⟨5, _⟩ => ⟨S2176x768, .bf16⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2176x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InFwdIdeal.lean ====
abbrev S4352x1024 : Shape := ⟨2, ![4352, 1024]⟩
abbrev S4x1024x1536 : Shape := ⟨3, ![4, 1024, 1536]⟩
abbrev S4352x6144 : Shape := ⟨2, ![4352, 6144]⟩
abbrev S2176x1024 : Shape := ⟨2, ![2176, 1024]⟩
abbrev S1x1024x768 : Shape := ⟨3, ![1, 1024, 768]⟩
abbrev S2176x768 : Shape := ⟨2, ![2176, 768]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S4352x1024, .f32⟩
  | .hbm, ⟨1, _⟩ => ⟨S4x1024x1536, .bf16⟩
  | .hbm, ⟨2, _⟩ => ⟨S4352x6144, .bf16⟩
  | .local _ .vmem, ⟨0, _⟩ => ⟨S2176x1024, .f32⟩
  | .local _ .vmem, ⟨1, _⟩ => ⟨S2176x1024, .f32⟩
  | .local _ .vmem, ⟨2, _⟩ => ⟨S1x1024x768, .bf16⟩
  | .local _ .vmem, ⟨3, _⟩ => ⟨S1x1024x768, .bf16⟩
  | .local _ .vmem, ⟨4, _⟩ => ⟨S2176x768, .bf16⟩
  | .local _ .vmem, ⟨5, _⟩ => ⟨S2176x768, .bf16⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2176x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefInFwdIdeal.lean ====
abbrev S4352x1024 : Shape := ⟨2, ![4352, 1024]⟩
abbrev S4x1024x1536 : Shape := ⟨3, ![4, 1024, 1536]⟩
abbrev S1024x4x1536 : Shape := ⟨3, ![1024, 4, 1536]⟩
abbrev S1024x6144 : Shape := ⟨2, ![1024, 6144]⟩
abbrev S4352x6144 : Shape := ⟨2, ![4352, 6144]⟩

abbrev nBuf : Space → Nat
  | .hbm => 7
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S4x1024x1536, .bf16⟩
  | .hbm, ⟨2, _⟩ => ⟨S1024x4x1536, .bf16⟩
  | .hbm, ⟨3, _⟩ => ⟨S1024x6144, .bf16⟩
  | .hbm, ⟨4, _⟩ => ⟨S1024x6144, .f32⟩
  | .hbm, ⟨5, _⟩ => ⟨S4352x6144, .f32⟩
  | .hbm, ⟨6, _⟩ => ⟨S4352x6144, .bf16⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== OutNormFwd.lean ====
abbrev S4352x2048 : Shape := ⟨2, ![4352, 2048]⟩
abbrev S2048x1024 : Shape := ⟨2, ![2048, 1024]⟩
abbrev S4352x1024 : Shape := ⟨2, ![4352, 1024]⟩
abbrev S1x1024 : Shape := ⟨2, ![1, 1024]⟩
abbrev S544x2048 : Shape := ⟨2, ![544, 2048]⟩
abbrev S544x1024 : Shape := ⟨2, ![544, 1024]⟩
abbrev S544 : Shape := ⟨1, ![544]⟩
abbrev S544x1 : Shape := ⟨2, ![544, 1]⟩

abbrev nBuf : Space → Nat
  | .hbm => 7
  | .vmem => 11
  | .smem => 0
  | _ => 0

abbrev bufTy : (tb : Table) → Fin (tcTables nBuf tb) → BufTy
  | .hbm, ⟨0, _⟩ => ⟨S4352x2048, .f32⟩
  | .hbm, ⟨1, _⟩ => ⟨S2048x1024, .bf16⟩
  | .hbm, ⟨2, _⟩ => ⟨S4352x1024, .f32⟩
  | .hbm, ⟨3, _⟩ => ⟨S1x1024, .f32⟩
  | .hbm, ⟨4, _⟩ => ⟨S1x1024, .f32⟩
  | .hbm, ⟨5, _⟩ => ⟨S4352x1024, .f32⟩
  | .hbm, ⟨6, _⟩ => ⟨S4352x1024, .f32⟩
  | .local _ .vmem, ⟨0, _⟩ => ⟨S544x2048, .f32⟩
  | .local _ .vmem, ⟨1, _⟩ => ⟨S544x2048, .f32⟩
  | .local _ .vmem, ⟨2, _⟩ => ⟨S2048x1024, .bf16⟩
  | .local _ .vmem, ⟨3, _⟩ => ⟨S544x1024, .f32⟩
  | .local _ .vmem, ⟨4, _⟩ => ⟨S544x1024, .f32⟩
  | .local _ .vmem, ⟨5, _⟩ => ⟨S1x1024, .f32⟩
  | .local _ .vmem, ⟨6, _⟩ => ⟨S1x1024, .f32⟩
  | .local _ .vmem, ⟨7, _⟩ => ⟨S544x1024, .f32⟩
  | .local _ .vmem, ⟨8, _⟩ => ⟨S544x1024, .f32⟩
  | .local _ .vmem, ⟨9, _⟩ => ⟨S544x1024, .f32⟩
  | .local _ .vmem, ⟨10, _⟩ => ⟨S544x1024, .f32⟩
  | _, _ => ⟨S4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S544x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S544x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S544x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== OutNormFwdIdeal.lean ====
abbrev S4352x2048 : Shape := ⟨2, ![4352, 2048]⟩
abbrev S2048x1024 : Shape := ⟨2, ![2048, 1024]⟩
abbrev S4352x1024 : Shape := ⟨2, ![4352, 1024]⟩
abbrev S1x1024 : Shape := ⟨2, ![1, 1024]⟩
abbrev S544x2048 : Shape := ⟨2, ![544, 2048]⟩
abbrev S544x1024 : Shape := ⟨2, ![544, 1024]⟩
abbrev S544 : Shape := ⟨1, ![544]⟩
abbrev S544x1 : Shape := ⟨2, ![544, 1]⟩

abbrev nBuf : Space → Nat
  | .hbm => 7
  | .vmem => 11
  | .smem => 0
  | _ => 0

abbrev bufTy : (tb : Table) → Fin (tcTables nBuf tb) → BufTy
  | .hbm, ⟨0, _⟩ => ⟨S4352x2048, .f32⟩
  | .hbm, ⟨1, _⟩ => ⟨S2048x1024, .bf16⟩
  | .hbm, ⟨2, _⟩ => ⟨S4352x1024, .f32⟩
  | .hbm, ⟨3, _⟩ => ⟨S1x1024, .f32⟩
  | .hbm, ⟨4, _⟩ => ⟨S1x1024, .f32⟩
  | .hbm, ⟨5, _⟩ => ⟨S4352x1024, .f32⟩
  | .hbm, ⟨6, _⟩ => ⟨S4352x1024, .f32⟩
  | .local _ .vmem, ⟨0, _⟩ => ⟨S544x2048, .f32⟩
  | .local _ .vmem, ⟨1, _⟩ => ⟨S544x2048, .f32⟩
  | .local _ .vmem, ⟨2, _⟩ => ⟨S2048x1024, .bf16⟩
  | .local _ .vmem, ⟨3, _⟩ => ⟨S544x1024, .f32⟩
  | .local _ .vmem, ⟨4, _⟩ => ⟨S544x1024, .f32⟩
  | .local _ .vmem, ⟨5, _⟩ => ⟨S1x1024, .f32⟩
  | .local _ .vmem, ⟨6, _⟩ => ⟨S1x1024, .f32⟩
  | .local _ .vmem, ⟨7, _⟩ => ⟨S544x1024, .f32⟩
  | .local _ .vmem, ⟨8, _⟩ => ⟨S544x1024, .f32⟩
  | .local _ .vmem, ⟨9, _⟩ => ⟨S544x1024, .f32⟩
  | .local _ .vmem, ⟨10, _⟩ => ⟨S544x1024, .f32⟩
  | _, _ => ⟨S4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F] [Named F]

def κ : String → Option EReal := fun
  | "alpha" => some ((Real.sqrt 2 : ℝ) : EReal)
  | _ => none

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S544x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S544x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S544x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== RefOutNormFwdIdeal.lean ====
abbrev S4352x2048 : Shape := ⟨2, ![4352, 2048]⟩
abbrev S2048x1024 : Shape := ⟨2, ![2048, 1024]⟩
abbrev S4352x1024 : Shape := ⟨2, ![4352, 1024]⟩
abbrev S1x1024 : Shape := ⟨2, ![1, 1024]⟩
abbrev S_ : Shape := ⟨0, ![]⟩
abbrev S4352 : Shape := ⟨1, ![4352]⟩
abbrev S4352x1 : Shape := ⟨2, ![4352, 1]⟩

abbrev nBuf : Space → Nat
  | .hbm => 37
  | .vmem => 0
  | .smem => 0
  | _ => 0

abbrev bufTy : (tb : Table) → Fin (tcTables nBuf tb) → BufTy
  | .hbm, ⟨0, _⟩ => ⟨S4352x2048, .f32⟩
  | .hbm, ⟨1, _⟩ => ⟨S2048x1024, .bf16⟩
  | .hbm, ⟨2, _⟩ => ⟨S4352x1024, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S_, .f32⟩
  | .hbm, ⟨7, _⟩ => ⟨S4352x1024, .f32⟩
  | .hbm, ⟨8, _⟩ => ⟨S4352x1024, .f32⟩
  | .hbm, ⟨9, _⟩ => ⟨S2048x1024, .f32⟩
  | .hbm, ⟨10, _⟩ => ⟨S4352x1024, .f32⟩
  | .hbm, ⟨11, _⟩ => ⟨S4352x1024, .f32⟩
  | .hbm, ⟨12, _⟩ => ⟨S_, .f32⟩
  | .hbm, ⟨13, _⟩ => ⟨S4352, .f32⟩
  | .hbm, ⟨14, _⟩ => ⟨S4352x1, .f32⟩
  | .hbm, ⟨15, _⟩ => ⟨S_, .f32⟩
  | .hbm, ⟨16, _⟩ => ⟨S4352x1, .f32⟩
  | .hbm, ⟨17, _⟩ => ⟨S4352x1, .f32⟩
  | .hbm, ⟨18, _⟩ => ⟨S4352x1024, .f32⟩
  | .hbm, ⟨19, _⟩ => ⟨S4352x1024, .f32⟩
  | .hbm, ⟨20, _⟩ => ⟨S4352x1024, .f32⟩
  | .hbm, ⟨21, _⟩ => ⟨S_, .f32⟩
  | .hbm, ⟨22, _⟩ => ⟨S4352, .f32⟩
  | .hbm, ⟨23, _⟩ => ⟨S4352x1, .f32⟩
  | .hbm, ⟨24, _⟩ => ⟨S_, .f32⟩
  | .hbm, ⟨25, _⟩ => ⟨S4352x1, .f32⟩
  | .hbm, ⟨26, _⟩ => ⟨S4352x1, .f32⟩
  | .hbm, ⟨27, _⟩ => ⟨S_, .f32⟩
  | .hbm, ⟨28, _⟩ => ⟨S4352x1, .f32⟩
  | .hbm, ⟨29, _⟩ => ⟨S4352x1, .f32⟩
  | .hbm, ⟨30, _⟩ => ⟨S4352x1, .f32⟩
  | .hbm, ⟨31, _⟩ => ⟨S4352x1024, .f32⟩
  | .hbm, ⟨32, _⟩ => ⟨S4352x1024, .f32⟩
  | .hbm, ⟨33, _⟩ => ⟨S4352x1024, .f32⟩
  | .hbm, ⟨34, _⟩ => ⟨S4352x1024, .f32⟩
  | .hbm, ⟨35, _⟩ => ⟨S4352x1024, .f32⟩
  | .hbm, ⟨36, _⟩ => ⟨S4352x1024, .f32⟩
  | _, _ => ⟨S4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]
-- ==== EvInFwd.lean ====
abbrev S4352x1024 : Shape := ⟨2, ![4352, 1024]⟩
abbrev S1024x1440 : Shape := ⟨2, ![1024, 1440]⟩
abbrev S4352x1440 : Shape := ⟨2, ![4352, 1440]⟩
abbrev S1088x1024 : Shape := ⟨2, ![1088, 1024]⟩
abbrev S1088x1440 : Shape := ⟨2, ![1088, 1440]⟩

abbrev nBuf : Space → Nat
  | .hbm => 3
  | .vmem => 5
  | .smem => 0
  | _ => 0

abbrev bufTy : (tb : Table) → Fin (tcTables nBuf tb) → BufTy
  | .hbm, ⟨0, _⟩ => ⟨S4352x1024, .f32⟩
  | .hbm, ⟨1, _⟩ => ⟨S1024x1440, .bf16⟩
  | .hbm, ⟨2, _⟩ => ⟨S4352x1440, .f32⟩
  | .local _ .vmem, ⟨0, _⟩ => ⟨S1088x1024, .f32⟩
  | .local _ .vmem, ⟨1, _⟩ => ⟨S1088x1024, .f32⟩
  | .local _ .vmem, ⟨2, _⟩ => ⟨S1024x1440, .bf16⟩
  | .local _ .vmem, ⟨3, _⟩ => ⟨S1088x1440, .f32⟩
  | .local _ .vmem, ⟨4, _⟩ => ⟨S1088x1440, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1088x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1440 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1088x1440 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefEvInFwdIdeal.lean ====
abbrev S4352x1024 : Shape := ⟨2, ![4352, 1024]⟩
abbrev S1024x1440 : Shape := ⟨2, ![1024, 1440]⟩
abbrev S4352x1440 : Shape := ⟨2, ![4352, 1440]⟩

abbrev nBuf : Space → Nat
  | .hbm => 4
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S1024x1440, .bf16⟩
  | .hbm, ⟨2, _⟩ => ⟨S1024x1440, .f32⟩
  | .hbm, ⟨3, _⟩ => ⟨S4352x1440, .f32⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== UqFwd.lean ====
abbrev S4352x256 : Shape := ⟨2, ![4352, 256]⟩
abbrev S256x1024 : Shape := ⟨2, ![256, 1024]⟩
abbrev S4352x1024 : Shape := ⟨2, ![4352, 1024]⟩
abbrev S2176x256 : Shape := ⟨2, ![2176, 256]⟩
abbrev S2176x1024 : Shape := ⟨2, ![2176, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4352x256, .f32⟩
  | .hbm, ⟨1, _⟩ => ⟨S256x1024, .bf16⟩
  | .hbm, ⟨2, _⟩ => ⟨S4352x1024, .bf16⟩
  | .local _ .vmem, ⟨0, _⟩ => ⟨S2176x256, .f32⟩
  | .local _ .vmem, ⟨1, _⟩ => ⟨S2176x256, .f32⟩
  | .local _ .vmem, ⟨2, _⟩ => ⟨S256x1024, .bf16⟩
  | .local _ .vmem, ⟨3, _⟩ => ⟨S2176x1024, .bf16⟩
  | .local _ .vmem, ⟨4, _⟩ => ⟨S2176x1024, .bf16⟩
  | _, _ => ⟨S4352x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2176x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S2176x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== UqFwdIdeal.lean ====
abbrev S4352x256 : Shape := ⟨2, ![4352, 256]⟩
abbrev S256x1024 : Shape := ⟨2, ![256, 1024]⟩
abbrev S4352x1024 : Shape := ⟨2, ![4352, 1024]⟩
abbrev S2176x256 : Shape := ⟨2, ![2176, 256]⟩
abbrev S2176x1024 : Shape := ⟨2, ![2176, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4352x256, .f32⟩
  | .hbm, ⟨1, _⟩ => ⟨S256x1024, .bf16⟩
  | .hbm, ⟨2, _⟩ => ⟨S4352x1024, .bf16⟩
  | .local _ .vmem, ⟨0, _⟩ => ⟨S2176x256, .f32⟩
  | .local _ .vmem, ⟨1, _⟩ => ⟨S2176x256, .f32⟩
  | .local _ .vmem, ⟨2, _⟩ => ⟨S256x1024, .bf16⟩
  | .local _ .vmem, ⟨3, _⟩ => ⟨S2176x1024, .bf16⟩
  | .local _ .vmem, ⟨4, _⟩ => ⟨S2176x1024, .bf16⟩
  | _, _ => ⟨S4352x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2176x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S2176x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefUqFwdIdeal.lean ====
abbrev S4352x256 : Shape := ⟨2, ![4352, 256]⟩
abbrev S256x1024 : Shape := ⟨2, ![256, 1024]⟩
abbrev S4352x1024 : Shape := ⟨2, ![4352, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4352x256, .f32⟩
  | .hbm, ⟨1, _⟩ => ⟨S256x1024, .bf16⟩
  | .hbm, ⟨2, _⟩ => ⟨S256x1024, .f32⟩
  | .hbm, ⟨3, _⟩ => ⟨S4352x1024, .f32⟩
  | .hbm, ⟨4, _⟩ => ⟨S4352x1024, .bf16⟩
  | _, _ => ⟨S4352x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== UkvFwd.lean ====
abbrev S4352x128 : Shape := ⟨2, ![4352, 128]⟩
abbrev S128x1024 : Shape := ⟨2, ![128, 1024]⟩
abbrev S4352x1024 : Shape := ⟨2, ![4352, 1024]⟩
abbrev S2176x128 : Shape := ⟨2, ![2176, 128]⟩
abbrev S2176x1024 : Shape := ⟨2, ![2176, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4352x128, .f32⟩
  | .hbm, ⟨1, _⟩ => ⟨S128x1024, .bf16⟩
  | .hbm, ⟨2, _⟩ => ⟨S4352x1024, .bf16⟩
  | .local _ .vmem, ⟨0, _⟩ => ⟨S2176x128, .f32⟩
  | .local _ .vmem, ⟨1, _⟩ => ⟨S2176x128, .f32⟩
  | .local _ .vmem, ⟨2, _⟩ => ⟨S128x1024, .bf16⟩
  | .local _ .vmem, ⟨3, _⟩ => ⟨S2176x1024, .bf16⟩
  | .local _ .vmem, ⟨4, _⟩ => ⟨S2176x1024, .bf16⟩
  | _, _ => ⟨S4352x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2176x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S2176x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefUkvFwdIdeal.lean ====
abbrev S4352x128 : Shape := ⟨2, ![4352, 128]⟩
abbrev S128x1024 : Shape := ⟨2, ![128, 1024]⟩
abbrev S4352x1024 : Shape := ⟨2, ![4352, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4352x128, .f32⟩
  | .hbm, ⟨1, _⟩ => ⟨S128x1024, .bf16⟩
  | .hbm, ⟨2, _⟩ => ⟨S128x1024, .f32⟩
  | .hbm, ⟨3, _⟩ => ⟨S4352x1024, .f32⟩
  | .hbm, ⟨4, _⟩ => ⟨S4352x1024, .bf16⟩
  | _, _ => ⟨S4352x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== EvOutNormFwd.lean ====
abbrev S4352x1536 : Shape := ⟨2, ![4352, 1536]⟩
abbrev S1536x1024 : Shape := ⟨2, ![1536, 1024]⟩
abbrev S4352x1024 : Shape := ⟨2, ![4352, 1024]⟩
abbrev S1x1024 : Shape := ⟨2, ![1, 1024]⟩
abbrev S544x1536 : Shape := ⟨2, ![544, 1536]⟩
abbrev S544x1024 : Shape := ⟨2, ![544, 1024]⟩
abbrev S544 : Shape := ⟨1, ![544]⟩
abbrev S544x1 : Shape := ⟨2, ![544, 1]⟩

abbrev nBuf : Space → Nat
  | .hbm => 7
  | .vmem => 11
  | .smem => 0
  | _ => 0

abbrev bufTy : (tb : Table) → Fin (tcTables nBuf tb) → BufTy
  | .hbm, ⟨0, _⟩ => ⟨S4352x1536, .f32⟩
  | .hbm, ⟨1, _⟩ => ⟨S1536x1024, .bf16⟩
  | .hbm, ⟨2, _⟩ => ⟨S4352x1024, .f32⟩
  | .hbm, ⟨3, _⟩ => ⟨S1x1024, .f32⟩
  | .hbm, ⟨4, _⟩ => ⟨S1x1024, .f32⟩
  | .hbm, ⟨5, _⟩ => ⟨S4352x1024, .f32⟩
  | .hbm, ⟨6, _⟩ => ⟨S4352x1024, .f32⟩
  | .local _ .vmem, ⟨0, _⟩ => ⟨S544x1536, .f32⟩
  | .local _ .vmem, ⟨1, _⟩ => ⟨S544x1536, .f32⟩
  | .local _ .vmem, ⟨2, _⟩ => ⟨S1536x1024, .bf16⟩
  | .local _ .vmem, ⟨3, _⟩ => ⟨S544x1024, .f32⟩
  | .local _ .vmem, ⟨4, _⟩ => ⟨S544x1024, .f32⟩
  | .local _ .vmem, ⟨5, _⟩ => ⟨S1x1024, .f32⟩
  | .local _ .vmem, ⟨6, _⟩ => ⟨S1x1024, .f32⟩
  | .local _ .vmem, ⟨7, _⟩ => ⟨S544x1024, .f32⟩
  | .local _ .vmem, ⟨8, _⟩ => ⟨S544x1024, .f32⟩
  | .local _ .vmem, ⟨9, _⟩ => ⟨S544x1024, .f32⟩
  | .local _ .vmem, ⟨10, _⟩ => ⟨S544x1024, .f32⟩
  | _, _ => ⟨S4352x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S544x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S544x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S544x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== EvOutNormFwdIdeal.lean ====
variable {F : FTy → Type} [FloatOps F] [Named F]
def κ : String → Option EReal := fun
  | "alpha" => some ((Real.sqrt 2 : ℝ) : EReal)
  | _ => none
-- ==== RefEvOutNormFwdIdeal.lean ====
abbrev S4352x1536 : Shape := ⟨2, ![4352, 1536]⟩
abbrev S1536x1024 : Shape := ⟨2, ![1536, 1024]⟩
abbrev S4352x1024 : Shape := ⟨2, ![4352, 1024]⟩
abbrev S1x1024 : Shape := ⟨2, ![1, 1024]⟩
abbrev S_ : Shape := ⟨0, ![]⟩
abbrev S4352 : Shape := ⟨1, ![4352]⟩
abbrev S4352x1 : Shape := ⟨2, ![4352, 1]⟩

abbrev nBuf : Space → Nat
  | .hbm => 37
  | .vmem => 0
  | .smem => 0
  | _ => 0

abbrev bufTy : (tb : Table) → Fin (tcTables nBuf tb) → BufTy
  | .hbm, ⟨0, _⟩ => ⟨S4352x1536, .f32⟩
  | .hbm, ⟨1, _⟩ => ⟨S1536x1024, .bf16⟩
  | .hbm, ⟨2, _⟩ => ⟨S4352x1024, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S_, .f32⟩
  | .hbm, ⟨7, _⟩ => ⟨S4352x1024, .f32⟩
  | .hbm, ⟨8, _⟩ => ⟨S4352x1024, .f32⟩
  | .hbm, ⟨9, _⟩ => ⟨S1536x1024, .f32⟩
  | .hbm, ⟨10, _⟩ => ⟨S4352x1024, .f32⟩
  | .hbm, ⟨11, _⟩ => ⟨S4352x1024, .f32⟩
  | .hbm, ⟨12, _⟩ => ⟨S_, .f32⟩
  | .hbm, ⟨13, _⟩ => ⟨S4352, .f32⟩
  | .hbm, ⟨14, _⟩ => ⟨S4352x1, .f32⟩
  | .hbm, ⟨15, _⟩ => ⟨S_, .f32⟩
  | .hbm, ⟨16, _⟩ => ⟨S4352x1, .f32⟩
  | .hbm, ⟨17, _⟩ => ⟨S4352x1, .f32⟩
  | .hbm, ⟨18, _⟩ => ⟨S4352x1024, .f32⟩
  | .hbm, ⟨19, _⟩ => ⟨S4352x1024, .f32⟩
  | .hbm, ⟨20, _⟩ => ⟨S4352x1024, .f32⟩
  | .hbm, ⟨21, _⟩ => ⟨S_, .f32⟩
  | .hbm, ⟨22, _⟩ => ⟨S4352, .f32⟩
  | .hbm, ⟨23, _⟩ => ⟨S4352x1, .f32⟩
  | .hbm, ⟨24, _⟩ => ⟨S_, .f32⟩
  | .hbm, ⟨25, _⟩ => ⟨S4352x1, .f32⟩
  | .hbm, ⟨26, _⟩ => ⟨S4352x1, .f32⟩
  | .hbm, ⟨27, _⟩ => ⟨S_, .f32⟩
  | .hbm, ⟨28, _⟩ => ⟨S4352x1, .f32⟩
  | .hbm, ⟨29, _⟩ => ⟨S4352x1, .f32⟩
  | .hbm, ⟨30, _⟩ => ⟨S4352x1, .f32⟩
  | .hbm, ⟨31, _⟩ => ⟨S4352x1024, .f32⟩
  | .hbm, ⟨32, _⟩ => ⟨S4352x1024, .f32⟩
  | .hbm, ⟨33, _⟩ => ⟨S4352x1024, .f32⟩
  | .hbm, ⟨34, _⟩ => ⟨S4352x1024, .f32⟩
  | .hbm, ⟨35, _⟩ => ⟨S4352x1024, .f32⟩
  | .hbm, ⟨36, _⟩ => ⟨S4352x1024, .f32⟩
  | _, _ => ⟨S4352x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]
-- ==== GateFwd.lean ====
abbrev S4352x2048 : Shape := ⟨2, ![4352, 2048]⟩
abbrev S4352x6144 : Shape := ⟨2, ![4352, 6144]⟩
abbrev S1088x512 : Shape := ⟨2, ![1088, 512]⟩
abbrev S1088 : Shape := ⟨1, ![1088]⟩
abbrev S1088x1 : Shape := ⟨2, ![1088, 1]⟩

abbrev nBuf : Space → Nat
  | .hbm => 3
  | .vmem => 6
  | .smem => 0
  | _ => 0

abbrev bufTy : (tb : Table) → Fin (tcTables nBuf tb) → BufTy
  | .hbm, ⟨0, _⟩ => ⟨S4352x2048, .f32⟩
  | .hbm, ⟨1, _⟩ => ⟨S4352x6144, .bf16⟩
  | .hbm, ⟨2, _⟩ => ⟨S4352x2048, .f32⟩
  | .local _ .vmem, ⟨0, _⟩ => ⟨S1088x512, .f32⟩
  | .local _ .vmem, ⟨1, _⟩ => ⟨S1088x512, .f32⟩
  | .local _ .vmem, ⟨2, _⟩ => ⟨S1088x512, .bf16⟩
  | .local _ .vmem, ⟨3, _⟩ => ⟨S1088x512, .bf16⟩
  | .local _ .vmem, ⟨4, _⟩ => ⟨S1088x512, .f32⟩
  | .local _ .vmem, ⟨5, _⟩ => ⟨S1088x512, .f32⟩
  | _, _ => ⟨S4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1088x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1088x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefGateFwdIdeal.lean ====
abbrev S4352x2048 : Shape := ⟨2, ![4352, 2048]⟩
abbrev S4352x6144 : Shape := ⟨2, ![4352, 6144]⟩
abbrev S4352x1024 : Shape := ⟨2, ![4352, 1024]⟩
abbrev S4352x4x512 : Shape := ⟨3, ![4352, 4, 512]⟩
abbrev S_ : Shape := ⟨0, ![]⟩
abbrev S4352x4 : Shape := ⟨2, ![4352, 4]⟩
abbrev S4352x4x1 : Shape := ⟨3, ![4352, 4, 1]⟩

abbrev nBuf : Space → Nat
  | .hbm => 32
  | .vmem => 0
  | .smem => 0
  | _ => 0

abbrev bufTy : (tb : Table) → Fin (tcTables nBuf tb) → BufTy
  | .hbm, ⟨0, _⟩ => ⟨S4352x2048, .f32⟩
  | .hbm, ⟨1, _⟩ => ⟨S4352x6144, .bf16⟩
  | .hbm, ⟨2, _⟩ => ⟨S4352x1024, .bf16⟩
  | .hbm, ⟨3, _⟩ => ⟨S4352x1024, .bf16⟩
  | .hbm, ⟨4, _⟩ => ⟨S4352x2048, .bf16⟩
  | .hbm, ⟨5, _⟩ => ⟨S4352x2048, .bf16⟩
  | .hbm, ⟨6, _⟩ => ⟨S4352x2048, .f32⟩
  | .hbm, ⟨7, _⟩ => ⟨S4352x4x512, .f32⟩
  | .hbm, ⟨8, _⟩ => ⟨S4352x4x512, .f32⟩
  | .hbm, ⟨9, _⟩ => ⟨S_, .f32⟩
  | .hbm, ⟨10, _⟩ => ⟨S4352x4, .f32⟩
  | .hbm, ⟨11, _⟩ => ⟨S4352x4x1, .f32⟩
  | .hbm, ⟨12, _⟩ => ⟨S_, .f32⟩
  | .hbm, ⟨13, _⟩ => ⟨S4352x4x1, .f32⟩
  | .hbm, ⟨14, _⟩ => ⟨S4352x4x1, .f32⟩
  | .hbm, ⟨15, _⟩ => ⟨S_, .f32⟩
  | .hbm, ⟨16, _⟩ => ⟨S4352x4x1, .f32⟩
  | .hbm, ⟨17, _⟩ => ⟨S4352x4x1, .f32⟩
  | .hbm, ⟨18, _⟩ => ⟨S4352x4x1, .f32⟩
  | .hbm, ⟨19, _⟩ => ⟨S4352x4x512, .f32⟩
  | .hbm, ⟨20, _⟩ => ⟨S4352x4x512, .f32⟩
  | .hbm, ⟨21, _⟩ => ⟨S4352x2048, .f32⟩
  | .hbm, ⟨22, _⟩ => ⟨S4352x2048, .f32⟩
  | .hbm, ⟨23, _⟩ => ⟨S_, .f32⟩
  | .hbm, ⟨24, _⟩ => ⟨S4352x2048, .f32⟩
  | .hbm, ⟨25, _⟩ => ⟨S4352x2048, .f32⟩
  | .hbm, ⟨26, _⟩ => ⟨S_, .f32⟩
  | .hbm, ⟨27, _⟩ => ⟨S4352x2048, .f32⟩
  | .hbm, ⟨28, _⟩ => ⟨S4352x2048, .f32⟩
  | .hbm, ⟨29, _⟩ => ⟨S4352x2048, .f32⟩
  | .hbm, ⟨30, _⟩ => ⟨S4352x2048, .f32⟩
  | .hbm, ⟨31, _⟩ => ⟨S4352x2048, .f32⟩
  | _, _ => ⟨S4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩

abbrev nD : Nat := 1
abbrev τ : Topo := Topo.v7x

variable {F : FTy → Type} [FloatOps F]
-- ==== QNormFwd.lean ====
abbrev S4352x1440 : Shape := ⟨2, ![4352, 1440]⟩
abbrev S1x256 : Shape := ⟨2, ![1, 256]⟩
abbrev S4352x256 : Shape := ⟨2, ![4352, 256]⟩
abbrev S1088x256 : Shape := ⟨2, ![1088, 256]⟩
abbrev S1088 : Shape := ⟨1, ![1088]⟩
abbrev S1088x1 : Shape := ⟨2, ![1088, 1]⟩

abbrev nBuf : Space → Nat
  | .hbm => 3
  | .vmem => 5
  | .smem => 0
  | _ => 0

abbrev bufTy : (tb : Table) → Fin (tcTables nBuf tb) → BufTy
  | .hbm, ⟨0, _⟩ => ⟨S4352x1440, .f32⟩
  | .hbm, ⟨1, _⟩ => ⟨S1x256, .f32⟩
  | .hbm, ⟨2, _⟩ => ⟨S4352x256, .f32⟩
  | .local _ .vmem, ⟨0, _⟩ => ⟨S1088x256, .f32⟩
  | .local _ .vmem, ⟨1, _⟩ => ⟨S1088x256, .f32⟩
  | .local _ .vmem, ⟨2, _⟩ => ⟨S1x256, .f32⟩
  | .local _ .vmem, ⟨3, _⟩ => ⟨S1088x256, .f32⟩
  | .local _ .vmem, ⟨4, _⟩ => ⟨S1088x256, .f32⟩
  | _, _ => ⟨S4352x1440, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1088x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1088x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RefQNormFwdIdeal.lean ====
abbrev S4352x1440 : Shape := ⟨2, ![4352, 1440]⟩
abbrev S1x256 : Shape := ⟨2, ![1, 256]⟩
abbrev S4352x512 : Shape := ⟨2, ![4352, 512]⟩
abbrev S4352x256 : Shape := ⟨2, ![4352, 256]⟩
abbrev S4352x128 : Shape := ⟨2, ![4352, 128]⟩
abbrev S4352x32 : Shape := ⟨2, ![4352, 32]⟩
abbrev S_ : Shape := ⟨0, ![]⟩
abbrev S4352 : Shape := ⟨1, ![4352]⟩
abbrev S4352x1 : Shape := ⟨2, ![4352, 1]⟩

abbrev nBuf : Space → Nat
  | .hbm => 22
  | .vmem => 0
  | .smem => 0
  | _ => 0

abbrev bufTy : (tb : Table) → Fin (tcTables nBuf tb) → BufTy
  | .hbm, ⟨0, _⟩ => ⟨S4352x1440, .f32⟩
  | .hbm, ⟨1, _⟩ => ⟨S1x256, .f32⟩
  | .hbm, ⟨2, _⟩ => ⟨S4352x512, .f32⟩
  | .hbm, ⟨3, _⟩ => ⟨S4352x512, .f32⟩
  | .hbm, ⟨4, _⟩ => ⟨S4352x256, .f32⟩
  | .hbm, ⟨5, _⟩ => ⟨S4352x128, .f32⟩
  | .hbm, ⟨6, _⟩ => ⟨S4352x32, .f32⟩
  | .hbm, ⟨7, _⟩ => ⟨S4352x256, .f32⟩
  | .hbm, ⟨8, _⟩ => ⟨S_, .f32⟩
  | .hbm, ⟨9, _⟩ => ⟨S4352, .f32⟩
  | .hbm, ⟨10, _⟩ => ⟨S4352x1, .f32⟩
  | .hbm, ⟨11, _⟩ => ⟨S_, .f32⟩
  | .hbm, ⟨12, _⟩ => ⟨S4352x1, .f32⟩
  | .hbm, ⟨13, _⟩ => ⟨S4352x1, .f32⟩
  | .hbm, ⟨14, _⟩ => ⟨S_, .f32⟩
  | .hbm, ⟨15, _⟩ => ⟨S4352x1, .f32⟩
  | .hbm, ⟨16, _⟩ => ⟨S4352x1, .f32⟩
  | .hbm, ⟨17, _⟩ => ⟨S4352x1, .f32⟩
  | .hbm, ⟨18, _⟩ => ⟨S4352x256, .f32⟩
  | .hbm, ⟨19, _⟩ => ⟨S4352x256, .f32⟩
  | .hbm, ⟨20, _⟩ => ⟨S4352x256, .f32⟩
  | .hbm, ⟨21, _⟩ => ⟨S4352x256, .f32⟩
  | _, _ => ⟨S4352x1440, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== KvNormFwd.lean ====
abbrev S4352x1440 : Shape := ⟨2, ![4352, 1440]⟩
abbrev S1x128 : Shape := ⟨2, ![1, 128]⟩
abbrev S4352x128 : Shape := ⟨2, ![4352, 128]⟩
abbrev S1088x128 : Shape := ⟨2, ![1088, 128]⟩
abbrev S1088 : Shape := ⟨1, ![1088]⟩
abbrev S1088x1 : Shape := ⟨2, ![1088, 1]⟩

abbrev nBuf : Space → Nat
  | .hbm => 3
  | .vmem => 5
  | .smem => 0
  | _ => 0

abbrev bufTy : (tb : Table) → Fin (tcTables nBuf tb) → BufTy
  | .hbm, ⟨0, _⟩ => ⟨S4352x1440, .f32⟩
  | .hbm, ⟨1, _⟩ => ⟨S1x128, .f32⟩
  | .hbm, ⟨2, _⟩ => ⟨S4352x128, .f32⟩
  | .local _ .vmem, ⟨0, _⟩ => ⟨S1088x128, .f32⟩
  | .local _ .vmem, ⟨1, _⟩ => ⟨S1088x128, .f32⟩
  | .local _ .vmem, ⟨2, _⟩ => ⟨S1x128, .f32⟩
  | .local _ .vmem, ⟨3, _⟩ => ⟨S1088x128, .f32⟩
  | .local _ .vmem, ⟨4, _⟩ => ⟨S1088x128, .f32⟩
  | _, _ => ⟨S4352x1440, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1088x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1088x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RefKvNormFwdIdeal.lean ====
abbrev S4352x1440 : Shape := ⟨2, ![4352, 1440]⟩
abbrev S1x128 : Shape := ⟨2, ![1, 128]⟩
abbrev S4352x512 : Shape := ⟨2, ![4352, 512]⟩
abbrev S4352x256 : Shape := ⟨2, ![4352, 256]⟩
abbrev S4352x128 : Shape := ⟨2, ![4352, 128]⟩
abbrev S4352x32 : Shape := ⟨2, ![4352, 32]⟩
abbrev S_ : Shape := ⟨0, ![]⟩
abbrev S4352 : Shape := ⟨1, ![4352]⟩
abbrev S4352x1 : Shape := ⟨2, ![4352, 1]⟩

abbrev nBuf : Space → Nat
  | .hbm => 22
  | .vmem => 0
  | .smem => 0
  | _ => 0

abbrev bufTy : (tb : Table) → Fin (tcTables nBuf tb) → BufTy
  | .hbm, ⟨0, _⟩ => ⟨S4352x1440, .f32⟩
  | .hbm, ⟨1, _⟩ => ⟨S1x128, .f32⟩
  | .hbm, ⟨2, _⟩ => ⟨S4352x512, .f32⟩
  | .hbm, ⟨3, _⟩ => ⟨S4352x512, .f32⟩
  | .hbm, ⟨4, _⟩ => ⟨S4352x256, .f32⟩
  | .hbm, ⟨5, _⟩ => ⟨S4352x128, .f32⟩
  | .hbm, ⟨6, _⟩ => ⟨S4352x32, .f32⟩
  | .hbm, ⟨7, _⟩ => ⟨S4352x128, .f32⟩
  | .hbm, ⟨8, _⟩ => ⟨S_, .f32⟩
  | .hbm, ⟨9, _⟩ => ⟨S4352, .f32⟩
  | .hbm, ⟨10, _⟩ => ⟨S4352x1, .f32⟩
  | .hbm, ⟨11, _⟩ => ⟨S_, .f32⟩
  | .hbm, ⟨12, _⟩ => ⟨S4352x1, .f32⟩
  | .hbm, ⟨13, _⟩ => ⟨S4352x1, .f32⟩
  | .hbm, ⟨14, _⟩ => ⟨S_, .f32⟩
  | .hbm, ⟨15, _⟩ => ⟨S4352x1, .f32⟩
  | .hbm, ⟨16, _⟩ => ⟨S4352x1, .f32⟩
  | .hbm, ⟨17, _⟩ => ⟨S4352x1, .f32⟩
  | .hbm, ⟨18, _⟩ => ⟨S4352x128, .f32⟩
  | .hbm, ⟨19, _⟩ => ⟨S4352x128, .f32⟩
  | .hbm, ⟨20, _⟩ => ⟨S4352x128, .f32⟩
  | .hbm, ⟨21, _⟩ => ⟨S4352x128, .f32⟩
  | _, _ => ⟨S4352x1440, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== RetFwd.lean ====
abbrev S2x2176x6144 : Shape := ⟨3, ![2, 2176, 6144]⟩
abbrev S128 : Shape := ⟨1, ![128]⟩
abbrev S_ : Shape := ⟨0, ![]⟩
abbrev S2176 : Shape := ⟨1, ![2176]⟩
abbrev S2176x1 : Shape := ⟨2, ![2176, 1]⟩
abbrev S1x128 : Shape := ⟨2, ![1, 128]⟩
abbrev S2176x128 : Shape := ⟨2, ![2176, 128]⟩
abbrev S4 : Shape := ⟨1, ![4]⟩
abbrev S4x1x1 : Shape := ⟨3, ![4, 1, 1]⟩
abbrev S2x2176x2048 : Shape := ⟨3, ![2, 2176, 2048]⟩
abbrev S1x2176x256 : Shape := ⟨3, ![1, 2176, 256]⟩
abbrev S1x2176x512 : Shape := ⟨3, ![1, 2176, 512]⟩
abbrev S1x1x1 : Shape := ⟨3, ![1, 1, 1]⟩
abbrev S2176x256 : Shape := ⟨2, ![2176, 256]⟩
abbrev S1x1 : Shape := ⟨2, ![1, 1]⟩
abbrev S128x256 : Shape := ⟨2, ![128, 256]⟩
abbrev S128x128 : Shape := ⟨2, ![128, 128]⟩
abbrev S1x128x512 : Shape := ⟨3, ![1, 128, 512]⟩
abbrev S128x512 : Shape := ⟨2, ![128, 512]⟩
abbrev S512x256 : Shape := ⟨2, ![512, 256]⟩
abbrev S640x256 : Shape := ⟨2, ![640, 256]⟩
abbrev S512x640 : Shape := ⟨2, ![512, 640]⟩
abbrev S512x512 : Shape := ⟨2, ![512, 512]⟩
abbrev S512x128 : Shape := ⟨2, ![512, 128]⟩
abbrev S1x640x512 : Shape := ⟨3, ![1, 640, 512]⟩
abbrev S640x512 : Shape := ⟨2, ![640, 512]⟩
abbrev S1x512x512 : Shape := ⟨3, ![1, 512, 512]⟩
abbrev S1152x256 : Shape := ⟨2, ![1152, 256]⟩
abbrev S512x1152 : Shape := ⟨2, ![512, 1152]⟩
abbrev S1x1152x512 : Shape := ⟨3, ![1, 1152, 512]⟩
abbrev S1152x512 : Shape := ⟨2, ![1152, 512]⟩
abbrev S1664x256 : Shape := ⟨2, ![1664, 256]⟩
abbrev S512x1664 : Shape := ⟨2, ![512, 1664]⟩
abbrev S1x1664x512 : Shape := ⟨3, ![1, 1664, 512]⟩
abbrev S1664x512 : Shape := ⟨2, ![1664, 512]⟩
abbrev S512x2176 : Shape := ⟨2, ![512, 2176]⟩
abbrev S2176x512 : Shape := ⟨2, ![2176, 512]⟩

abbrev nBuf : Space → Nat
  | .hbm => 31
  | .vmem => 14
  | .smem => 0
  | _ => 0

abbrev bufTy : (tb : Table) → Fin (tcTables nBuf tb) → BufTy
  | .hbm, ⟨0, _⟩ => ⟨S2x2176x6144, .bf16⟩
  | .hbm, ⟨1, _⟩ => ⟨S128, .f32⟩
  | .hbm, ⟨2, _⟩ => ⟨S128, .f32⟩
  | .hbm, ⟨3, _⟩ => ⟨S_, .f32⟩
  | .hbm, ⟨4, _⟩ => ⟨S128, .f32⟩
  | .hbm, ⟨5, _⟩ => ⟨S128, .f32⟩
  | .hbm, ⟨6, _⟩ => ⟨S_, .f32⟩
  | .hbm, ⟨7, _⟩ => ⟨S128, .f32⟩
  | .hbm, ⟨8, _⟩ => ⟨S128, .f32⟩
  | .hbm, ⟨9, _⟩ => ⟨S2176, .i32⟩
  | .hbm, ⟨10, _⟩ => ⟨S2176, .f32⟩
  | .hbm, ⟨11, _⟩ => ⟨S2176x1, .f32⟩
  | .hbm, ⟨12, _⟩ => ⟨S1x128, .f32⟩
  | .hbm, ⟨13, _⟩ => ⟨S2176x128, .f32⟩
  | .hbm, ⟨14, _⟩ => ⟨S2176x128, .f32⟩
  | .hbm, ⟨15, _⟩ => ⟨S2176x128, .f32⟩
  | .hbm, ⟨16, _⟩ => ⟨S2176x128, .f32⟩
  | .hbm, ⟨17, _⟩ => ⟨S2176x128, .f32⟩
  | .hbm, ⟨18, _⟩ => ⟨S4, .f32⟩
  | .hbm, ⟨19, _⟩ => ⟨S_, .f32⟩
  | .hbm, ⟨20, _⟩ => ⟨S4, .f32⟩
  | .hbm, ⟨21, _⟩ => ⟨S4, .f32⟩
  | .hbm, ⟨22, _⟩ => ⟨S_, .f32⟩
  | .hbm, ⟨23, _⟩ => ⟨S4, .f32⟩
  | .hbm, ⟨24, _⟩ => ⟨S4, .f32⟩
  | .hbm, ⟨25, _⟩ => ⟨S_, .f32⟩
  | .hbm, ⟨26, _⟩ => ⟨S4, .f32⟩
  | .hbm, ⟨27, _⟩ => ⟨S4, .f32⟩
  | .hbm, ⟨28, _⟩ => ⟨S4, .f32⟩
  | .hbm, ⟨29, _⟩ => ⟨S4x1x1, .f32⟩
  | .hbm, ⟨30, _⟩ => ⟨S2x2176x2048, .f32⟩
  | .local _ .vmem, ⟨0, _⟩ => ⟨S1x2176x256, .bf16⟩
  | .local _ .vmem, ⟨1, _⟩ => ⟨S1x2176x256, .bf16⟩
  | .local _ .vmem, ⟨2, _⟩ => ⟨S1x2176x256, .bf16⟩
  | .local _ .vmem, ⟨3, _⟩ => ⟨S1x2176x256, .bf16⟩
  | .local _ .vmem, ⟨4, _⟩ => ⟨S1x2176x512, .bf16⟩
  | .local _ .vmem, ⟨5, _⟩ => ⟨S1x2176x512, .bf16⟩
  | .local _ .vmem, ⟨6, _⟩ => ⟨S2176x128, .f32⟩
  | .local _ .vmem, ⟨7, _⟩ => ⟨S2176x128, .f32⟩
  | .local _ .vmem, ⟨8, _⟩ => ⟨S1x1x1, .f32⟩
  | .local _ .vmem, ⟨9, _⟩ => ⟨S1x1x1, .f32⟩
  | .local _ .vmem, ⟨10, _⟩ => ⟨S1x2176x512, .f32⟩
  | .local _ .vmem, ⟨11, _⟩ => ⟨S1x2176x512, .f32⟩
  | .local _ .vmem, ⟨12, _⟩ => ⟨S2176x256, .bf16⟩
  | .local _ .vmem, ⟨13, _⟩ => ⟨S2176x256, .bf16⟩
  | _, _ => ⟨S2x2176x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst_1 : Ref sig .tc := ⟨.hbm, 19, rfl⟩
abbrev main_v16 : Ref sig .tc := ⟨.hbm, 20, rfl⟩
abbrev main_v17 : Ref sig .tc := ⟨.hbm, 21, rfl⟩
abbrev main_cst_2 : Ref sig .tc := ⟨.hbm, 22, rfl⟩
abbrev main_v18 : Ref sig .tc := ⟨.hbm, 23, rfl⟩
abbrev main_v19 : Ref sig .tc := ⟨.hbm, 24, rfl⟩
abbrev main_cst_3 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2176x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2176x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2176x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S2176x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2176x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x2176x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== RefRetFwdIdeal.lean ====
abbrev S2x2176x6144 : Shape := ⟨3, ![2, 2176, 6144]⟩
abbrev S2x2176x1024 : Shape := ⟨3, ![2, 2176, 1024]⟩
abbrev S2x2176x2048 : Shape := ⟨3, ![2, 2176, 2048]⟩
abbrev S2176 : Shape := ⟨1, ![2176]⟩
abbrev S2x2176x4x256 : Shape := ⟨4, ![2, 2176, 4, 256]⟩
abbrev S128 : Shape := ⟨1, ![128]⟩
abbrev S_ : Shape := ⟨0, ![]⟩
abbrev S2176x1 : Shape := ⟨2, ![2176, 1]⟩
abbrev S1x128 : Shape := ⟨2, ![1, 128]⟩
abbrev S2176x128 : Shape := ⟨2, ![2176, 128]⟩
abbrev S1x2176x1x128 : Shape := ⟨4, ![1, 2176, 1, 128]⟩
abbrev S2x2176x4x128 : Shape := ⟨4, ![2, 2176, 4, 128]⟩
abbrev S2x2176x4x512 : Shape := ⟨4, ![2, 2176, 4, 512]⟩
abbrev S4 : Shape := ⟨1, ![4]⟩
abbrev S1x2176 : Shape := ⟨2, ![1, 2176]⟩
abbrev S2176x2176 : Shape := ⟨2, ![2176, 2176]⟩
abbrev S4x1x1 : Shape := ⟨3, ![4, 1, 1]⟩
abbrev S1x2176x2176 : Shape := ⟨3, ![1, 2176, 2176]⟩
abbrev S4x2176x2176 : Shape := ⟨3, ![4, 2176, 2176]⟩
abbrev S2x4x2176x2176 : Shape := ⟨4, ![2, 4, 2176, 2176]⟩
abbrev S1x4x2176x2176 : Shape := ⟨4, ![1, 4, 2176, 2176]⟩
abbrev S2x4x512x2176 : Shape := ⟨4, ![2, 4, 512, 2176]⟩

abbrev nBuf : Space → Nat
  | .hbm => 118
  | .vmem => 0
  | .smem => 0
  | _ => 0

abbrev bufTy : (tb : Table) → Fin (tcTables nBuf tb) → BufTy
  | .hbm, ⟨0, _⟩ => ⟨S2x2176x6144, .bf16⟩
  | .hbm, ⟨1, _⟩ => ⟨S2x2176x1024, .bf16⟩
  | .hbm, ⟨2, _⟩ => ⟨S2x2176x1024, .bf16⟩
  | .hbm, ⟨3, _⟩ => ⟨S2x2176x2048, .bf16⟩
  | .hbm, ⟨4, _⟩ => ⟨S2x2176x2048, .bf16⟩
  | .hbm, ⟨5, _⟩ => ⟨S2x2176x1024, .f32⟩
  | .hbm, ⟨6, _⟩ => ⟨S2x2176x1024, .f32⟩
  | .hbm, ⟨7, _⟩ => ⟨S2x2176x2048, .f32⟩
  | .hbm, ⟨8, _⟩ => ⟨S2176, .i32⟩
  | .hbm, ⟨9, _⟩ => ⟨S2x2176x4x256, .f32⟩
  | .hbm, ⟨10, _⟩ => ⟨S128, .f32⟩
  | .hbm, ⟨11, _⟩ => ⟨S128, .f32⟩
  | .hbm, ⟨12, _⟩ => ⟨S_, .f32⟩
  | .hbm, ⟨13, _⟩ => ⟨S128, .f32⟩
  | .hbm, ⟨14, _⟩ => ⟨S128, .f32⟩
  | .hbm, ⟨15, _⟩ => ⟨S_, .f32⟩
  | .hbm, ⟨16, _⟩ => ⟨S128, .f32⟩
  | .hbm, ⟨17, _⟩ => ⟨S128, .f32⟩
  | .hbm, ⟨18, _⟩ => ⟨S2176, .f32⟩
  | .hbm, ⟨19, _⟩ => ⟨S2176x1, .f32⟩
  | .hbm, ⟨20, _⟩ => ⟨S1x128, .f32⟩
  | .hbm, ⟨21, _⟩ => ⟨S2176x128, .f32⟩
  | .hbm, ⟨22, _⟩ => ⟨S2176x128, .f32⟩
  | .hbm, ⟨23, _⟩ => ⟨S2176x128, .f32⟩
  | .hbm, ⟨24, _⟩ => ⟨S2176x128, .f32⟩
  | .hbm, ⟨25, _⟩ => ⟨S1x2176x1x128, .f32⟩
  | .hbm, ⟨26, _⟩ => ⟨S2176x128, .f32⟩
  | .hbm, ⟨27, _⟩ => ⟨S1x2176x1x128, .f32⟩
  | .hbm, ⟨28, _⟩ => ⟨S2x2176x4x128, .f32⟩
  | .hbm, ⟨29, _⟩ => ⟨S2x2176x4x128, .f32⟩
  | .hbm, ⟨30, _⟩ => ⟨S2x2176x4x128, .f32⟩
  | .hbm, ⟨31, _⟩ => ⟨S2x2176x4x128, .f32⟩
  | .hbm, ⟨32, _⟩ => ⟨S2x2176x4x128, .f32⟩
  | .hbm, ⟨33, _⟩ => ⟨S2x2176x4x128, .f32⟩
  | .hbm, ⟨34, _⟩ => ⟨S2x2176x4x128, .f32⟩
  | .hbm, ⟨35, _⟩ => ⟨S2x2176x4x128, .f32⟩
  | .hbm, ⟨36, _⟩ => ⟨S2x2176x4x128, .f32⟩
  | .hbm, ⟨37, _⟩ => ⟨S2x2176x4x128, .f32⟩
  | .hbm, ⟨38, _⟩ => ⟨S2x2176x4x128, .f32⟩
  | .hbm, ⟨39, _⟩ => ⟨S2x2176x4x128, .f32⟩
  | .hbm, ⟨40, _⟩ => ⟨S2x2176x4x256, .f32⟩
  | .hbm, ⟨41, _⟩ => ⟨S2x2176x4x256, .f32⟩
  | .hbm, ⟨42, _⟩ => ⟨S128, .f32⟩
  | .hbm, ⟨43, _⟩ => ⟨S128, .f32⟩
  | .hbm, ⟨44, _⟩ => ⟨S_, .f32⟩
  | .hbm, ⟨45, _⟩ => ⟨S128, .f32⟩
  | .hbm, ⟨46, _⟩ => ⟨S128, .f32⟩
  | .hbm, ⟨47, _⟩ => ⟨S_, .f32⟩
  | .hbm, ⟨48, _⟩ => ⟨S128, .f32⟩
  | .hbm, ⟨49, _⟩ => ⟨S128, .f32⟩
  | .hbm, ⟨50, _⟩ => ⟨S2176, .f32⟩
  | .hbm, ⟨51, _⟩ => ⟨S2176x1, .f32⟩
  | .hbm, ⟨52, _⟩ => ⟨S1x128, .f32⟩
  | .hbm, ⟨53, _⟩ => ⟨S2176x128, .f32⟩
  | .hbm, ⟨54, _⟩ => ⟨S2176x128, .f32⟩
  | .hbm, ⟨55, _⟩ => ⟨S2176x128, .f32⟩
  | .hbm, ⟨56, _⟩ => ⟨S2176x128, .f32⟩
  | .hbm, ⟨57, _⟩ => ⟨S1x2176x1x128, .f32⟩
  | .hbm, ⟨58, _⟩ => ⟨S2176x128, .f32⟩
  | .hbm, ⟨59, _⟩ => ⟨S1x2176x1x128, .f32⟩
  | .hbm, ⟨60, _⟩ => ⟨S2x2176x4x128, .f32⟩
  | .hbm, ⟨61, _⟩ => ⟨S2x2176x4x128, .f32⟩
  | .hbm, ⟨62, _⟩ => ⟨S2x2176x4x128, .f32⟩
  | .hbm, ⟨63, _⟩ => ⟨S2x2176x4x128, .f32⟩
  | .hbm, ⟨64, _⟩ => ⟨S2x2176x4x128, .f32⟩
  | .hbm, ⟨65, _⟩ => ⟨S2x2176x4x128, .f32⟩
  | .hbm, ⟨66, _⟩ => ⟨S2x2176x4x128, .f32⟩
  | .hbm, ⟨67, _⟩ => ⟨S2x2176x4x128, .f32⟩
  | .hbm, ⟨68, _⟩ => ⟨S2x2176x4x128, .f32⟩
  | .hbm, ⟨69, _⟩ => ⟨S2x2176x4x128, .f32⟩
  | .hbm, ⟨70, _⟩ => ⟨S2x2176x4x128, .f32⟩
  | .hbm, ⟨71, _⟩ => ⟨S2x2176x4x128, .f32⟩
  | .hbm, ⟨72, _⟩ => ⟨S2x2176x4x256, .f32⟩
  | .hbm, ⟨73, _⟩ => ⟨S_, .f32⟩
  | .hbm, ⟨74, _⟩ => ⟨S2x2176x4x256, .f32⟩
  | .hbm, ⟨75, _⟩ => ⟨S2x2176x4x256, .f32⟩
  | .hbm, ⟨76, _⟩ => ⟨S2x2176x4x512, .f32⟩
  | .hbm, ⟨77, _⟩ => ⟨S4, .f32⟩
  | .hbm, ⟨78, _⟩ => ⟨S_, .f32⟩
  | .hbm, ⟨79, _⟩ => ⟨S4, .f32⟩
  | .hbm, ⟨80, _⟩ => ⟨S4, .f32⟩
  | .hbm, ⟨81, _⟩ => ⟨S_, .f32⟩
  | .hbm, ⟨82, _⟩ => ⟨S4, .f32⟩
  | .hbm, ⟨83, _⟩ => ⟨S4, .f32⟩
  | .hbm, ⟨84, _⟩ => ⟨S_, .f32⟩
  | .hbm, ⟨85, _⟩ => ⟨S4, .f32⟩
  | .hbm, ⟨86, _⟩ => ⟨S4, .f32⟩
  | .hbm, ⟨87, _⟩ => ⟨S4, .f32⟩
  | .hbm, ⟨88, _⟩ => ⟨S2176, .f32⟩
  | .hbm, ⟨89, _⟩ => ⟨S2176x1, .f32⟩
  | .hbm, ⟨90, _⟩ => ⟨S1x2176, .f32⟩
  | .hbm, ⟨91, _⟩ => ⟨S2176x2176, .f32⟩
  | .hbm, ⟨92, _⟩ => ⟨S2176x2176, .f32⟩
  | .hbm, ⟨93, _⟩ => ⟨S2176x2176, .f32⟩
  | .hbm, ⟨94, _⟩ => ⟨S_, .f32⟩
  | .hbm, ⟨95, _⟩ => ⟨S2176x2176, .f32⟩
  | .hbm, ⟨96, _⟩ => ⟨S2176x2176, .i1⟩
  | .hbm, ⟨97, _⟩ => ⟨S4x1x1, .f32⟩
  | .hbm, ⟨98, _⟩ => ⟨S_, .f32⟩
  | .hbm, ⟨99, _⟩ => ⟨S2176x2176, .f32⟩
  | .hbm, ⟨100, _⟩ => ⟨S2176x2176, .f32⟩
  | .hbm, ⟨101, _⟩ => ⟨S1x2176x2176, .f32⟩
  | .hbm, ⟨102, _⟩ => ⟨S4x2176x2176, .f32⟩
  | .hbm, ⟨103, _⟩ => ⟨S4x2176x2176, .f32⟩
  | .hbm, ⟨104, _⟩ => ⟨S4x2176x2176, .f32⟩
  | .hbm, ⟨105, _⟩ => ⟨S4x2176x2176, .f32⟩
  | .hbm, ⟨106, _⟩ => ⟨S_, .f32⟩
  | .hbm, ⟨107, _⟩ => ⟨S_, .f32⟩
  | .hbm, ⟨108, _⟩ => ⟨S4x2176x2176, .i1⟩
  | .hbm, ⟨109, _⟩ => ⟨S4x2176x2176, .f32⟩
  | .hbm, ⟨110, _⟩ => ⟨S4x2176x2176, .f32⟩
  | .hbm, ⟨111, _⟩ => ⟨S2x4x2176x2176, .f32⟩
  | .hbm, ⟨112, _⟩ => ⟨S1x4x2176x2176, .f32⟩
  | .hbm, ⟨113, _⟩ => ⟨S2x4x2176x2176, .f32⟩
  | .hbm, ⟨114, _⟩ => ⟨S2x4x2176x2176, .f32⟩
  | .hbm, ⟨115, _⟩ => ⟨S2x4x512x2176, .f32⟩
  | .hbm, ⟨116, _⟩ => ⟨S2x2176x4x512, .f32⟩
  | .hbm, ⟨117, _⟩ => ⟨S2x2176x2048, .f32⟩
  | _, _ => ⟨S2x2176x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_cst : Ref sig .tc := ⟨.hbm, 12, rfl⟩
abbrev main_v11 : Ref sig .tc := ⟨.hbm, 13, rfl⟩
abbrev main_v12 : Ref sig .tc := ⟨.hbm, 14, rfl⟩
abbrev main_cst_0 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_cst_1 : Ref sig .tc := ⟨.hbm, 44, rfl⟩
abbrev main_v41 : Ref sig .tc := ⟨.hbm, 45, rfl⟩
abbrev main_v42 : Ref sig .tc := ⟨.hbm, 46, rfl⟩
abbrev main_cst_2 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_cst_3 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_cst_4 : Ref sig .tc := ⟨.hbm, 78, rfl⟩
abbrev main_v72 : Ref sig .tc := ⟨.hbm, 79, rfl⟩
abbrev main_v73 : Ref sig .tc := ⟨.hbm, 80, rfl⟩
abbrev main_cst_5 : Ref sig .tc := ⟨.hbm, 81, rfl⟩
abbrev main_v74 : Ref sig .tc := ⟨.hbm, 82, rfl⟩
abbrev main_v75 : Ref sig .tc := ⟨.hbm, 83, rfl⟩
abbrev main_cst_6 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_cst_7 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_cst_8 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_cst_9 : Ref sig .tc := ⟨.hbm, 106, rfl⟩
abbrev main_call0_v0 : Ref sig .tc := ⟨.hbm, 107, rfl⟩
abbrev main_call0_v1 : Ref sig .tc := ⟨.hbm, 108, rfl⟩
abbrev main_call0_v2 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩

abbrev nD : Nat := 1
abbrev τ : Topo := Topo.v7x

variable {F : FTy → Type} [FloatOps F]
-- ==== Proof.Chain.lean ====
module

public import proofs.«01_k».proof.Proof.Gen.KernelIdeal.Value
public import Idealize.ShloMosaic.Lib.Pointwise

/-! What the three accumulators of the retention backward kernel hold, as lists of stores. -/

@[expose] public section

set_option maxRecDepth 65536

noncomputable section

namespace Cert.KernelIdeal

open Idealize.ShloMosaic Idealize.ShloMosaic.TcCoe Idealize.ShloMosaic.Tactic
open Gen

/-- A rectangle of rows `o … o + n` of a matrix of `w` columns. -/
abbrev rows {N w : ℕ} (o n : ℕ) (h : ∀ a, (![o, 0] : Fin 2 → ℕ) a + (⟨2, ![n, w]⟩ : Shape).size a ≤ (⟨2, ![N, w]⟩ : Shape).size a) :
    Rect (⟨2, ![N, w]⟩ : Shape) := Rect.unit ![o, 0] (⟨2, ![n, w]⟩ : Shape).size h

section lists

variable (Q K : Vec Ideal S2176x256 .bf16) (v g : Vec Ideal S1x2176x512 .bf16)

/-- The cotangent of the values, before any block: zeros. -/
def lv0 : List (View.Piece (Elt Ideal) S2176x512 .f32) := [⟨(Rect.unit (s := S2176x512) ![0, 0] S2176x512.size inb_S2176x512_S2176x512_0_0), (k0_pay16 (F := Ideal))⟩]

/-- The cotangent of the keys, before any block: zeros. -/
def lk0 : List (View.Piece (Elt Ideal) S2176x256 .f32) := [⟨(Rect.unit (s := S2176x256) ![0, 0] S2176x256.size inb_S2176x256_S2176x256_0_0), (k0_pay15 (F := Ideal))⟩]

/-- What query block 1 stores of the values' cotangent. -/
def pv1 : Vec Ideal S128x512 .f32 :=
  k0_pay19 (k0_pay17 (View.ld g (Rect.unit (s := S1x2176x512) ![0, 0, 0] S1x128x512.size inb_S1x2176x512_S1x128x512_0_0_0))) (k0_pay18 (View.ld Q (Rect.unit (s := S2176x256) ![0, 0] S128x256.size inb_S2176x256_S128x256_0_0)) (View.ld K (Rect.unit (s := S2176x256) ![0, 0] S128x256.size inb_S2176x256_S128x256_0_0))) (View.ld (View.canon (lv0)) (Rect.unit (s := S2176x512) ![0, 0] S128x512.size inb_S2176x512_S128x512_0_0)) (constant S128x512 .f32 0x00000000#32)

/-- The stores into the values' cotangent up to query block 1, last first. -/
def lv1 : List (View.Piece (Elt Ideal) S2176x512 .f32) := ⟨(Rect.unit (s := S2176x512) ![0, 0] S128x512.size inb_S2176x512_S128x512_0_0), pv1 Q K g⟩ :: lv0

/-- What query block 1 stores of the keys' cotangent. -/
def pk1 : Vec Ideal S128x256 .f32 :=
  k0_pay22 (View.ld Q (Rect.unit (s := S2176x256) ![0, 0] S128x256.size inb_S2176x256_S128x256_0_0)) (k0_pay17 (View.ld g (Rect.unit (s := S1x2176x512) ![0, 0, 0] S1x128x512.size inb_S1x2176x512_S1x128x512_0_0_0))) (View.ld v (Rect.unit (s := S1x2176x512) ![0, 0, 0] S1x128x512.size inb_S1x2176x512_S1x128x512_0_0_0)) (View.ld (View.canon (lk0)) (Rect.unit (s := S2176x256) ![0, 0] S128x256.size inb_S2176x256_S128x256_0_0))

/-- The stores into the keys' cotangent up to query block 1, last first. -/
def lk1 : List (View.Piece (Elt Ideal) S2176x256 .f32) := ⟨(Rect.unit (s := S2176x256) ![0, 0] S128x256.size inb_S2176x256_S128x256_0_0), pk1 Q v g⟩ :: lk0

/-- What query block 1 stores of the queries' cotangent. -/
def pa1 : Vec Ideal S128x256 .f32 :=
  k0_pay21 (k0_pay17 (View.ld g (Rect.unit (s := S1x2176x512) ![0, 0, 0] S1x128x512.size inb_S1x2176x512_S1x128x512_0_0_0))) (View.ld v (Rect.unit (s := S1x2176x512) ![0, 0, 0] S1x128x512.size inb_S1x2176x512_S1x128x512_0_0_0)) (View.ld K (Rect.unit (s := S2176x256) ![0, 0] S128x256.size inb_S2176x256_S128x256_0_0))

/-- What query block 2 stores of the values' cotangent. -/
def pv2 : Vec Ideal S640x512 .f32 :=
  k0_pay25 (k0_pay23 (View.ld g (Rect.unit (s := S1x2176x512) ![0, 128, 0] S1x512x512.size inb_S1x2176x512_S1x512x512_0_128_0))) (k0_pay24 (View.ld Q (Rect.unit (s := S2176x256) ![128, 0] S512x256.size inb_S2176x256_S512x256_128_0)) (View.ld K (Rect.unit (s := S2176x256) ![0, 0] S640x256.size inb_S2176x256_S640x256_0_0))) (iota .tc S512x512 32 [0] iota_S512x512_d0_w32) (iota .tc S512x512 32 [1] iota_S512x512_d1_w32) (View.ld (View.canon (lv1 Q K g)) (Rect.unit (s := S2176x512) ![0, 0] S640x512.size inb_S2176x512_S640x512_0_0))

/-- The stores into the values' cotangent up to query block 2, last first. -/
def lv2 : List (View.Piece (Elt Ideal) S2176x512 .f32) := ⟨(Rect.unit (s := S2176x512) ![0, 0] S640x512.size inb_S2176x512_S640x512_0_0), pv2 Q K g⟩ :: lv1 Q K g

/-- What query block 2 stores of the keys' cotangent. -/
def pk2 : Vec Ideal S640x256 .f32 :=
  k0_pay28 (View.ld Q (Rect.unit (s := S2176x256) ![128, 0] S512x256.size inb_S2176x256_S512x256_128_0)) (k0_pay23 (View.ld g (Rect.unit (s := S1x2176x512) ![0, 128, 0] S1x512x512.size inb_S1x2176x512_S1x512x512_0_128_0))) (View.ld v (Rect.unit (s := S1x2176x512) ![0, 0, 0] S1x640x512.size inb_S1x2176x512_S1x640x512_0_0_0)) (View.ld (View.canon (lk1 Q v g)) (Rect.unit (s := S2176x256) ![0, 0] S640x256.size inb_S2176x256_S640x256_0_0))

/-- The stores into the keys' cotangent up to query block 2, last first. -/
def lk2 : List (View.Piece (Elt Ideal) S2176x256 .f32) := ⟨(Rect.unit (s := S2176x256) ![0, 0] S640x256.size inb_S2176x256_S640x256_0_0), pk2 Q v g⟩ :: lk1 Q v g

/-- What query block 2 stores of the queries' cotangent. -/
def pa2 : Vec Ideal S512x256 .f32 :=
  k0_pay27 (k0_pay23 (View.ld g (Rect.unit (s := S1x2176x512) ![0, 128, 0] S1x512x512.size inb_S1x2176x512_S1x512x512_0_128_0))) (View.ld v (Rect.unit (s := S1x2176x512) ![0, 0, 0] S1x640x512.size inb_S1x2176x512_S1x640x512_0_0_0)) (View.ld K (Rect.unit (s := S2176x256) ![0, 0] S640x256.size inb_S2176x256_S640x256_0_0))

/-- What query block 3 stores of the values' cotangent. -/
def pv3 : Vec Ideal S1152x512 .f32 :=
  k0_pay30 (View.ld Q (Rect.unit (s := S2176x256) ![640, 0] S512x256.size inb_S2176x256_S512x256_640_0)) (View.ld g (Rect.unit (s := S1x2176x512) ![0, 640, 0] S1x512x512.size inb_S1x2176x512_S1x512x512_0_640_0)) (View.ld K (Rect.unit (s := S2176x256) ![0, 0] S1152x256.size inb_S2176x256_S1152x256_0_0)) (View.ld (View.canon (lv2 Q K g)) (Rect.unit (s := S2176x512) ![0, 0] S1152x512.size inb_S2176x512_S1152x512_0_0))

/-- The stores into the values' cotangent up to query block 3, last first. -/
def lv3 : List (View.Piece (Elt Ideal) S2176x512 .f32) := ⟨(Rect.unit (s := S2176x512) ![0, 0] S1152x512.size inb_S2176x512_S1152x512_0_0), pv3 Q K g⟩ :: lv2 Q K g

/-- What query block 3 stores of the keys' cotangent. -/
def pk3 : Vec Ideal S1152x256 .f32 :=
  k0_pay34 (View.ld Q (Rect.unit (s := S2176x256) ![640, 0] S512x256.size inb_S2176x256_S512x256_640_0)) (k0_pay31 (View.ld g (Rect.unit (s := S1x2176x512) ![0, 640, 0] S1x512x512.size inb_S1x2176x512_S1x512x512_0_640_0)) (View.ld v (Rect.unit (s := S1x2176x512) ![0, 0, 0] S1x1152x512.size inb_S1x2176x512_S1x1152x512_0_0_0))) (View.ld (View.canon (lk2 Q v g)) (Rect.unit (s := S2176x256) ![0, 0] S1152x256.size inb_S2176x256_S1152x256_0_0))

/-- The stores into the keys' cotangent up to query block 3, last first. -/
def lk3 : List (View.Piece (Elt Ideal) S2176x256 .f32) := ⟨(Rect.unit (s := S2176x256) ![0, 0] S1152x256.size inb_S2176x256_S1152x256_0_0), pk3 Q v g⟩ :: lk2 Q v g

/-- What query block 3 stores of the queries' cotangent. -/
def pa3 : Vec Ideal S512x256 .f32 :=
  k0_pay33 (k0_pay32 (View.ld g (Rect.unit (s := S1x2176x512) ![0, 640, 0] S1x512x512.size inb_S1x2176x512_S1x512x512_0_640_0)) (View.ld v (Rect.unit (s := S1x2176x512) ![0, 0, 0] S1x1152x512.size inb_S1x2176x512_S1x1152x512_0_0_0)) (View.ld K (Rect.unit (s := S2176x256) ![0, 0] S1152x256.size inb_S2176x256_S1152x256_0_0)))

/-- What query block 4 stores of the values' cotangent. -/
def pv4 : Vec Ideal S1664x512 .f32 :=
  k0_pay36 (View.ld Q (Rect.unit (s := S2176x256) ![1152, 0] S512x256.size inb_S2176x256_S512x256_1152_0)) (View.ld g (Rect.unit (s := S1x2176x512) ![0, 1152, 0] S1x512x512.size inb_S1x2176x512_S1x512x512_0_1152_0)) (View.ld K (Rect.unit (s := S2176x256) ![0, 0] S1664x256.size inb_S2176x256_S1664x256_0_0)) (View.ld (View.canon (lv3 Q K g)) (Rect.unit (s := S2176x512) ![0, 0] S1664x512.size inb_S2176x512_S1664x512_0_0))

/-- The stores into the values' cotangent up to query block 4, last first. -/
def lv4 : List (View.Piece (Elt Ideal) S2176x512 .f32) := ⟨(Rect.unit (s := S2176x512) ![0, 0] S1664x512.size inb_S2176x512_S1664x512_0_0), pv4 Q K g⟩ :: lv3 Q K g

/-- What query block 4 stores of the keys' cotangent. -/
def pk4 : Vec Ideal S1664x256 .f32 :=
  k0_pay41 (View.ld Q (Rect.unit (s := S2176x256) ![1152, 0] S512x256.size inb_S2176x256_S512x256_1152_0)) (k0_pay37 (View.ld g (Rect.unit (s := S1x2176x512) ![0, 1152, 0] S1x512x512.size inb_S1x2176x512_S1x512x512_0_1152_0)) (View.ld v (Rect.unit (s := S1x2176x512) ![0, 0, 0] S1x1664x512.size inb_S1x2176x512_S1x1664x512_0_0_0))) k0_pay38 (View.ld (View.canon (lk3 Q v g)) (Rect.unit (s := S2176x256) ![0, 0] S1664x256.size inb_S2176x256_S1664x256_0_0))

/-- The stores into the keys' cotangent up to query block 4, last first. -/
def lk4 : List (View.Piece (Elt Ideal) S2176x256 .f32) := ⟨(Rect.unit (s := S2176x256) ![0, 0] S1664x256.size inb_S2176x256_S1664x256_0_0), pk4 Q v g⟩ :: lk3 Q v g

/-- What query block 4 stores of the queries' cotangent. -/
def pa4 : Vec Ideal S512x256 .f32 :=
  k0_pay40 (k0_pay37 (View.ld g (Rect.unit (s := S1x2176x512) ![0, 1152, 0] S1x512x512.size inb_S1x2176x512_S1x512x512_0_1152_0)) (View.ld v (Rect.unit (s := S1x2176x512) ![0, 0, 0] S1x1664x512.size inb_S1x2176x512_S1x1664x512_0_0_0))) k0_pay38 (View.ld K (Rect.unit (s := S2176x256) ![0, 0] S1664x256.size inb_S2176x256_S1664x256_0_0))

/-- What query block 5 stores of the values' cotangent. -/
def pv5 : Vec Ideal S2176x512 .f32 :=
  k0_pay44 (k0_pay43 (View.ld Q (Rect.unit (s := S2176x256) ![1664, 0] S512x256.size inb_S2176x256_S512x256_1664_0)) (View.ld g (Rect.unit (s := S1x2176x512) ![0, 1664, 0] S1x512x512.size inb_S1x2176x512_S1x512x512_0_1664_0)) (View.ld K (Rect.unit (s := S2176x256) ![0, 0] S2176x256.size inb_S2176x256_S2176x256_0_0)) (View.ld (View.canon (lv4 Q K g)) (Rect.unit (s := S2176x512) ![0, 0] S2176x512.size inb_S2176x512_S2176x512_0_0)))

/-- The stores into the values' cotangent up to query block 5, last first. -/
def lv5 : List (View.Piece (Elt Ideal) S2176x512 .f32) := ⟨(Rect.unit (s := S2176x512) ![0, 0] S2176x512.size inb_S2176x512_S2176x512_0_0), pv5 Q K g⟩ :: lv4 Q K g

/-- What query block 5 stores of the keys' cotangent. -/
def pk5 : Vec Ideal S2176x256 .f32 :=
  k0_pay47 (View.ld Q (Rect.unit (s := S2176x256) ![1664, 0] S512x256.size inb_S2176x256_S512x256_1664_0)) (k0_pay42 (View.ld g (Rect.unit (s := S1x2176x512) ![0, 1664, 0] S1x512x512.size inb_S1x2176x512_S1x512x512_0_1664_0))) (View.ld v (Rect.unit (s := S1x2176x512) ![0, 0, 0] S1x2176x512.size inb_S1x2176x512_S1x2176x512_0_0_0)) (View.ld (View.canon (lk4 Q v g)) (Rect.unit (s := S2176x256) ![0, 0] S2176x256.size inb_S2176x256_S2176x256_0_0))

/-- The stores into the keys' cotangent up to query block 5, last first. -/
def lk5 : List (View.Piece (Elt Ideal) S2176x256 .f32) := ⟨(Rect.unit (s := S2176x256) ![0, 0] S2176x256.size inb_S2176x256_S2176x256_0_0), pk5 Q v g⟩ :: lk4 Q v g

/-- What query block 5 stores of the queries' cotangent. -/
def pa5 : Vec Ideal S512x256 .f32 :=
  k0_pay46 (k0_pay42 (View.ld g (Rect.unit (s := S1x2176x512) ![0, 1664, 0] S1x512x512.size inb_S1x2176x512_S1x512x512_0_1664_0))) (View.ld v (Rect.unit (s := S1x2176x512) ![0, 0, 0] S1x2176x512.size inb_S1x2176x512_S1x2176x512_0_0_0)) (View.ld K (Rect.unit (s := S2176x256) ![0, 0] S2176x256.size inb_S2176x256_S2176x256_0_0))

/-- The stores into the queries' cotangent, last first: one block of rows each. -/
def la : List (View.Piece (Elt Ideal) S2176x256 .f32) :=
  [⟨(Rect.unit (s := S2176x256) ![1664, 0] S512x256.size inb_S2176x256_S512x256_1664_0), pa5 K v g⟩,
   ⟨(Rect.unit (s := S2176x256) ![1152, 0] S512x256.size inb_S2176x256_S512x256_1152_0), pa4 K v g⟩,
   ⟨(Rect.unit (s := S2176x256) ![640, 0] S512x256.size inb_S2176x256_S512x256_640_0), pa3 K v g⟩,
   ⟨(Rect.unit (s := S2176x256) ![128, 0] S512x256.size inb_S2176x256_S512x256_128_0), pa2 K v g⟩,
   ⟨(Rect.unit (s := S2176x256) ![0, 0] S128x256.size inb_S2176x256_S128x256_0_0), pa1 K v g⟩]

end lists

/-- The scaled rotated queries, as the kernel keeps them. -/
def qs (q : Vec Ideal S1x2176x256 .bf16) (co si : Vec Ideal S2176x128 .f32) (lg : Vec Ideal S1x1x1 .f32) : Vec Ideal S2176x256 .bf16 :=
  k0_pay13 (k0_pay10 co si lg q)

/-- The scaled rotated keys, as the kernel keeps them. -/
def ks (k : Vec Ideal S1x2176x256 .bf16) (co si : Vec Ideal S2176x128 .f32) (lg : Vec Ideal S1x1x1 .f32) : Vec Ideal S2176x256 .bf16 :=
  k0_pay14 (k0_pay8 lg) (k0_pay11 co si k) (Scalar.ofBits .f32 0x3D800000#32)

/-- A load of what a list of stores left reads the list's last writers. -/
theorem rd {κ : Kind} {sp : Space} {s : Shape} {e : EltTy} (V : View sig κ sp s e) (L : List (View.Piece (Elt Ideal) s e)) (r : Rect s) :
    V.readCov L r.toLoadRect = View.ld (View.canon L) r := View.readCov_eq_canon' _ _ _

theorem canon_one (h) (w : S2176x256.Idx → Elt Ideal .bf16) :
    View.canon [(⟨Rect.unit (s := S2176x256) ![0, 0] ![2176, 256] h, w⟩ : View.Piece (Elt Ideal) S2176x256 .bf16)] = w :=
  View.canon_unit_zero (by funext a; fin_cases a <;> rfl) _ _
theorem ldm256 {e : EltTy} (h) (X : S2176x256.Idx → Elt Ideal e) : View.ld X (Rect.unit (s := S2176x256) ![0, 0] ![2176, 256] h) = X :=
  View.ld_unit_zero (by funext a; fin_cases a <;> rfl) _ _
theorem ldm512 {e : EltTy} (h) (X : S2176x512.Idx → Elt Ideal e) : View.ld X (Rect.unit (s := S2176x512) ![0, 0] ![2176, 512] h) = X :=
  View.ld_unit_zero (by funext a; fin_cases a <;> rfl) _ _
theorem ldm128 {e : EltTy} (h) (X : S2176x128.Idx → Elt Ideal e) : View.ld X (Rect.unit (s := S2176x128) ![0, 0] ![2176, 128] h) = X :=
  View.ld_unit_zero (by funext a; fin_cases a <;> rfl) _ _
theorem ldq {e : EltTy} (h) (X : S1x2176x256.Idx → Elt Ideal e) : View.ld X (Rect.unit (s := S1x2176x256) ![0, 0, 0] ![1, 2176, 256] h) = X :=
  View.ld_unit_zero (by funext a; fin_cases a <;> rfl) _ _
theorem ldv {e : EltTy} (h) (X : S1x2176x512.Idx → Elt Ideal e) : View.ld X (Rect.unit (s := S1x2176x512) ![0, 0, 0] ![1, 2176, 512] h) = X :=
  View.ld_unit_zero (by funext a; fin_cases a <;> rfl) _ _
theorem ldg {e : EltTy} (h) (X : S1x1x1.Idx → Elt Ideal e) : View.ld X (Rect.unit (s := S1x1x1) ![0, 0, 0] ![1, 1, 1] h) = X :=
  View.ld_unit_zero (by funext a; fin_cases a <;> rfl) _ _

variable (m : (ℓ : Loc nD τ sig) → Buf (Elt Ideal) ℓ)

/-- One grid point's block of the values' cotangent. -/
theorem out9_eq (c : Dev nD) (t : Fin cfg0.N) : (outsAt0 m c t).2.2 = k0_pay3 (View.canon (lv5 (qs (iblk m c 0 t) (iblk m c 4 t) (iblk m c 5 t) (iblk m c 6 t)) (ks (iblk m c 1 t) (iblk m c 4 t) (iblk m c 5 t) (iblk m c 6 t)) (iblk m c 3 t))) := by
  unfold outsAt0 out0_A_9
  dsimp only
  rw [View.read_writes_eq_canon _ _ _ (cover0_A_9 c _ _ _ _ _ _ _ _ _ _ _ _ _ _ _ _ _ _ _ _ _ _ _ _ _ _ _ _ _ _ _ _ _ _ _ _ _ _)]
  unfold kernelRun0_A
  dsimp only
  rw [View.canon_unit_zero (by funext a; fin_cases a <;> rfl)]
  sl_unfold_words
  simp only [rd, View.readAt_eq_ld, (hs0_0 t).read_unread, (hs0_1 t).read_unread, (hs0_2 t).read_unread,
    (hs0_3 t).read_unread, (hs0_4 t).read_unread, (hs0_5 t).read_unread, (hs0_6 t).read_unread]
  simp only [qs, ks, la, lv5, lv4, lv3, lv2, lv1, lv0, lk5, lk4, lk3, lk2, lk1, lk0, pv1, pv2, pv3, pv4, pv5, pk1, pk2, pk3,
    pk4, pk5, pa1, pa2, pa3, pa4, pa5, canon_one, ldm256, ldm512, ldm128, ldq, ldv, ldg]

/-- One grid point's block of the keys' cotangent. -/
theorem out8_eq (c : Dev nD) (t : Fin cfg0.N) : (outsAt0 m c t).2.1 = k0_pay2 (k0_pay4 (iblk m c 4 t)) (k0_pay5 (iblk m c 5 t)) (k0_pay12 (k0_pay8 (iblk m c 6 t))) (View.canon (lk5 (qs (iblk m c 0 t) (iblk m c 4 t) (iblk m c 5 t) (iblk m c 6 t)) (iblk m c 2 t) (iblk m c 3 t))) := by
  unfold outsAt0 out0_A_8
  dsimp only
  rw [View.read_writes_eq_canon _ _ _ (cover0_A_8 c _ _ _ _ _ _ _ _ _ _ _ _ _ _ _ _ _ _ _ _ _ _ _ _ _ _ _ _ _ _ _ _ _ _ _ _ _ _)]
  unfold kernelRun0_A
  dsimp only
  rw [View.canon_unit_zero (by funext a; fin_cases a <;> rfl)]
  sl_unfold_words
  simp only [rd, View.readAt_eq_ld, (hs0_0 t).read_unread, (hs0_1 t).read_unread, (hs0_2 t).read_unread,
    (hs0_3 t).read_unread, (hs0_4 t).read_unread, (hs0_5 t).read_unread, (hs0_6 t).read_unread]
  simp only [qs, ks, la, lv5, lv4, lv3, lv2, lv1, lv0, lk5, lk4, lk3, lk2, lk1, lk0, pv1, pv2, pv3, pv4, pv5, pk1, pk2, pk3,
    pk4, pk5, pa1, pa2, pa3, pa4, pa5, canon_one, ldm256, ldm512, ldm128, ldq, ldv, ldg]

/-- One grid point's block of the queries' cotangent. -/
theorem out7_eq (c : Dev nD) (t : Fin cfg0.N) : (outsAt0 m c t).1 = k0_pay1 (k0_pay48 (k0_pay4 (iblk m c 4 t)) (k0_pay5 (iblk m c 5 t)) (k0_pay9 (iblk m c 6 t)) (View.canon (la (ks (iblk m c 1 t) (iblk m c 4 t) (iblk m c 5 t) (iblk m c 6 t)) (iblk m c 2 t) (iblk m c 3 t)))) := by
  unfold outsAt0 out0_A_7
  dsimp only
  rw [View.read_writes_eq_canon _ _ _ (cover0_A_7 c _ _ _ _ _ _ _ _ _ _ _ _ _ _ _ _ _ _ _ _ _ _ _ _ _ _ _ _ _ _ _ _ _ _ _ _ _ _)]
  unfold kernelRun0_A
  dsimp only
  rw [View.canon_unit_zero (by funext a; fin_cases a <;> rfl)]
  sl_unfold_words
  simp only [rd, View.readAt_eq_ld, (hs0_0 t).read_unread, (hs0_1 t).read_unread, (hs0_2 t).read_unread,
    (hs0_3 t).read_unread, (hs0_4 t).read_unread, (hs0_5 t).read_unread, (hs0_6 t).read_unread]
  simp only [qs, ks, la, lv5, lv4, lv3, lv2, lv1, lv0, lk5, lk4, lk3, lk2, lk1, lk0, pv1, pv2, pv3, pv4, pv5, pk1, pk2, pk3,
    pk4, pk5, pa1, pa2, pa3, pa4, pa5, canon_one, ldm256, ldm512, ldm128, ldq, ldv, ldg]

end Cert.KernelIdeal

end
-- ==== Proof.Pays.lean ====
module

public import proofs.«01_k».proof.Proof.Chain

/-! What each query block stores, at an index: masked scores times the output's cotangent, and the masked cotangent of the
scores times queries or keys. -/

@[expose] public section

set_option maxRecDepth 65536

noncomputable section

namespace Cert.KernelIdeal

open Idealize.ShloMosaic Idealize.ShloMosaic.TcCoe Idealize.ShloMosaic.Tactic
open Gen

section

variable (Q K : Vec Ideal S2176x256 .bf16) (v g : Vec Ideal S1x2176x512 .bf16)

/-- The score of query row `i` against key row `j`, unmasked. -/
def sc0 (i j : Fin 2176) : EReal := ∑ d : Fin 256, Q (ix2 i d) * K (ix2 j d)

/-- The score of query row `i` against key row `j`, zero where the key is later than the query. -/
def sc (i j : Fin 2176) : EReal := if j ≤ i then sc0 Q K i j else 0

/-- The score's cotangent at query row `i` and key row `j`, unmasked. -/
def dsc0 (i j : Fin 2176) : EReal := ∑ d : Fin 512, g (ix3 0 i d) * v (ix3 0 j d)

/-- The score's cotangent at query row `i` and key row `j`, zero where the key is later than the query. -/
def dsc (i j : Fin 2176) : EReal := if j ≤ i then dsc0 v g i j else 0

/-- The signed comparison of two small words decides as the numbers do. -/
theorem sel_le {a b : ℕ} (ha : a < 2176) (hb : b < 2176) (x y : EReal) :
    Scalar.select (α := EReal) (IntOp.cmpi CmpIPredicate.sle (BitVec.ofNat 32 a) (BitVec.ofNat 32 b)) x y = if a ≤ b then x else y := by
  have h : (BitVec.ofNat 32 a).sle (BitVec.ofNat 32 b) = decide (a ≤ b) := by
    have k : ∀ n : ℕ, n < 2176 → (BitVec.ofNat 32 n).toInt = n := by
      intro n hn
      rw [BitVec.toInt_eq_toNat_of_lt (by simp only [BitVec.toNat_ofNat]; omega), BitVec.toNat_ofNat, Nat.mod_eq_of_lt (by omega)]
    simp only [BitVec.sle, k a ha, k b hb, Nat.cast_le]
  unfold Scalar.select IntOp.cmpi
  by_cases hab : a ≤ b <;> simp [h, hab]

/-- A block whose last columns alone are masked is the masked block. -/
theorem mask_cat {a b r : ℕ} (hb : b < 512) (ha : a < r + 512) (hr : r + 512 ≤ 2176) (X : Fin 2176 → EReal) :
    (if _h : a < r then X ⟨a, by omega⟩
      else Scalar.select (α := EReal) (IntOp.cmpi CmpIPredicate.sle (BitVec.ofNat 32 (a - r)) (BitVec.ofNat 32 b))
        (X ⟨r + (a - r), by omega⟩) 0) = if (⟨a, by omega⟩ : Fin 2176) ≤ ⟨r + b, by omega⟩ then X ⟨a, by omega⟩ else 0 := by
  simp only [Fin.mk_le_mk]
  by_cases h : a < r
  · rw [dif_pos h, if_pos (by omega)]
  · have e : r + (a - r) = a := by omega
    rw [dif_neg h, sel_le (by omega) (by omega)]
    simp only [e]
    by_cases h2 : a ≤ r + b
    · rw [if_pos h2, if_pos (by omega)]
    · rw [if_neg h2, if_neg (by omega)]

/-- The first block, masked whole; the factor stands inside the choice. -/
theorem mask_one {a b : ℕ} (hb : b < 128) (ha : a < 128) (X : Fin 2176 → EReal) (y : EReal) :
    Scalar.select (α := EReal) (IntOp.cmpi CmpIPredicate.sle (BitVec.ofNat 32 a) (BitVec.ofNat 32 b)) (X ⟨a, by omega⟩ * y) 0
      = (if (⟨a, by omega⟩ : Fin 2176) ≤ ⟨b, by omega⟩ then X ⟨a, by omega⟩ else 0) * y := by
  rw [sel_le (by omega) (by omega)]
  simp only [Fin.mk_le_mk]
  by_cases h : a ≤ b
  · rw [if_pos h, if_pos h]
  · rw [if_neg h, if_neg h, zero_mul]

/-- A sum over a block's columns, the last 512 masked, is the sum of the masked block. -/
theorem mask_sum {b r : ℕ} (hb : b < 512) (hr : r + 512 ≤ 2176) (X Y : Fin 2176 → EReal) :
    ((∑ x : Fin r, X ⟨x.1, by omega⟩ * Y ⟨x.1, by omega⟩)
      + ∑ x : Fin 512, Scalar.select (α := EReal) (IntOp.cmpi CmpIPredicate.sle (BitVec.ofNat 32 x.1) (BitVec.ofNat 32 b))
        (X ⟨r + x.1, by omega⟩ * Y ⟨r + x.1, by omega⟩) 0)
      = ∑ j : Fin (r + 512), (if (⟨j.1, by omega⟩ : Fin 2176) ≤ ⟨r + b, by omega⟩ then X ⟨j.1, by omega⟩ else 0) * Y ⟨j.1, by omega⟩ := by
  rw [Fin.sum_univ_add]
  congr 1
  · refine Finset.sum_congr rfl fun x _ => ?_
    have := x.2
    rw [if_pos (by simp only [Fin.mk_le_mk, Fin.val_castAdd]; omega)]
    rfl
  · refine Finset.sum_congr rfl fun x _ => ?_
    rw [sel_le (by omega) (by omega)]
    simp only [Fin.mk_le_mk, Fin.val_natAdd, Nat.add_le_add_iff_left]
    by_cases h : x.1 ≤ b
    · rw [if_pos h, if_pos h]
    · rw [if_neg h, if_neg h, zero_mul]

/-- Query block 1's store into the values' cotangent, at an index. -/
theorem pv1_at (j : Fin 128) (c : Fin 512) :
    pv1 Q K g (ix2 j c) = View.canon (lv0) (ix2 ⟨j.1, by omega⟩ c)
      + ∑ i : Fin 128, sc Q K ⟨i.1, by omega⟩ ⟨j.1, by omega⟩ * g (ix3 0 ⟨i.1, by omega⟩ c) := by
  unfold pv1
  generalize View.canon (lv0) = A
  pointwise [k0_pay19, k0_pay18, k0_pay17]
  refine congrArg (A _ + ·) (Finset.sum_congr rfl fun i _ => ?_)
  exact mask_one i.2 j.2 (sc0 Q K ⟨i.1, by have := i.2; omega⟩) _

/-- Query block 1's store into the keys' cotangent, at an index. -/
theorem pk1_at (j : Fin 128) (c : Fin 256) :
    pk1 Q v g (ix2 j c) = View.canon (lk0) (ix2 ⟨j.1, by omega⟩ c)
      + ∑ i : Fin 128, dsc v g ⟨i.1, by omega⟩ ⟨j.1, by omega⟩ * Q (ix2 ⟨i.1, by omega⟩ c) := by
  unfold pk1
  generalize View.canon (lk0) = A
  pointwise [k0_pay22, k0_pay20, k0_pay17]
  refine congrArg (A _ + ·) (Finset.sum_congr rfl fun i _ => ?_)
  exact mask_one i.2 j.2 (dsc0 v g ⟨i.1, by have := i.2; omega⟩) _

/-- Query block 1's rows of the queries' cotangent, at an index. -/
theorem pa1_at (i : Fin 128) (c : Fin 256) :
    pa1 K v g (ix2 i c) = ∑ j : Fin 128, dsc v g ⟨i.1, by omega⟩ ⟨j.1, by omega⟩ * K (ix2 ⟨j.1, by omega⟩ c) := by
  unfold pa1
  pointwise [k0_pay21, k0_pay20, k0_pay17]
  exact Finset.sum_congr rfl fun j _ => mask_one i.2 j.2 (dsc0 v g ⟨i.1, by have := i.2; omega⟩) _

/-- Query block 2's store into the values' cotangent, at an index. -/
theorem pv2_at (j : Fin 640) (c : Fin 512) :
    pv2 Q K g (ix2 j c) = View.canon (lv1 Q K g) (ix2 ⟨j.1, by omega⟩ c)
      + ∑ i : Fin 512, sc Q K ⟨128 + i.1, by omega⟩ ⟨j.1, by omega⟩ * g (ix3 0 ⟨128 + i.1, by omega⟩ c) := by
  unfold pv2
  generalize View.canon (lv1 Q K g) = A
  pointwise [k0_pay25, k0_pay24, k0_pay23]
  refine congrArg (A _ + ·) (Finset.sum_congr rfl fun i _ => congrArg (fun x : EReal => x * _) ?_)
  exact mask_cat (r := 128) i.2 j.2 (by omega) (sc0 Q K ⟨128 + i.1, by have := i.2; omega⟩)

/-- Query block 2's store into the keys' cotangent, at an index. -/
theorem pk2_at (j : Fin 640) (c : Fin 256) :
    pk2 Q v g (ix2 j c) = View.canon (lk1 Q v g) (ix2 ⟨j.1, by omega⟩ c)
      + ∑ i : Fin 512, dsc v g ⟨128 + i.1, by omega⟩ ⟨j.1, by omega⟩ * Q (ix2 ⟨128 + i.1, by omega⟩ c) := by
  unfold pk2
  generalize View.canon (lk1 Q v g) = A
  pointwise [k0_pay28, k0_pay26, k0_pay23]
  refine congrArg (A _ + ·) (Finset.sum_congr rfl fun i _ => congrArg (fun x : EReal => x * _) ?_)
  exact mask_cat (r := 128) i.2 j.2 (by omega) (dsc0 v g ⟨128 + i.1, by have := i.2; omega⟩)

/-- Query block 2's rows of the queries' cotangent, at an index. -/
theorem pa2_at (i : Fin 512) (c : Fin 256) :
    pa2 K v g (ix2 i c) = ∑ j : Fin 640, dsc v g ⟨128 + i.1, by omega⟩ ⟨j.1, by omega⟩ * K (ix2 ⟨j.1, by omega⟩ c) := by
  unfold pa2
  pointwise [k0_pay27, k0_pay26, k0_pay23]
  exact mask_sum (r := 128) i.2 (by omega) (dsc0 v g ⟨128 + i.1, by have := i.2; omega⟩) (fun j => K (ix2 j c))

/-- Query block 3's store into the values' cotangent, at an index. -/
theorem pv3_at (j : Fin 1152) (c : Fin 512) :
    pv3 Q K g (ix2 j c) = View.canon (lv2 Q K g) (ix2 ⟨j.1, by omega⟩ c)
      + ∑ i : Fin 512, sc Q K ⟨640 + i.1, by omega⟩ ⟨j.1, by omega⟩ * g (ix3 0 ⟨640 + i.1, by omega⟩ c) := by
  unfold pv3
  generalize View.canon (lv2 Q K g) = A
  pointwise [k0_pay30, k0_pay29]
  refine congrArg (A _ + ·) (Finset.sum_congr rfl fun i _ => congrArg (fun x : EReal => x * _) ?_)
  exact mask_cat (r := 640) i.2 j.2 (by omega) (sc0 Q K ⟨640 + i.1, by have := i.2; omega⟩)

/-- Query block 3's store into the keys' cotangent, at an index. -/
theorem pk3_at (j : Fin 1152) (c : Fin 256) :
    pk3 Q v g (ix2 j c) = View.canon (lk2 Q v g) (ix2 ⟨j.1, by omega⟩ c)
      + ∑ i : Fin 512, dsc v g ⟨640 + i.1, by omega⟩ ⟨j.1, by omega⟩ * Q (ix2 ⟨640 + i.1, by omega⟩ c) := by
  unfold pk3
  generalize View.canon (lk2 Q v g) = A
  pointwise [k0_pay34, k0_pay31, k0_pay29]
  refine congrArg (A _ + ·) (Finset.sum_congr rfl fun i _ => congrArg (fun x : EReal => x * _) ?_)
  exact mask_cat (r := 640) i.2 j.2 (by omega) (dsc0 v g ⟨640 + i.1, by have := i.2; omega⟩)

/-- Query block 3's rows of the queries' cotangent, at an index. -/
theorem pa3_at (i : Fin 512) (c : Fin 256) :
    pa3 K v g (ix2 i c) = ∑ j : Fin 1152, dsc v g ⟨640 + i.1, by omega⟩ ⟨j.1, by omega⟩ * K (ix2 ⟨j.1, by omega⟩ c) := by
  unfold pa3
  pointwise [k0_pay33, k0_pay32, k0_pay31, k0_pay29]
  exact mask_sum (r := 640) i.2 (by omega) (dsc0 v g ⟨640 + i.1, by have := i.2; omega⟩) (fun j => K (ix2 j c))

/-- Query block 4's store into the values' cotangent, at an index. -/
theorem pv4_at (j : Fin 1664) (c : Fin 512) :
    pv4 Q K g (ix2 j c) = View.canon (lv3 Q K g) (ix2 ⟨j.1, by omega⟩ c)
      + ∑ i : Fin 512, sc Q K ⟨1152 + i.1, by omega⟩ ⟨j.1, by omega⟩ * g (ix3 0 ⟨1152 + i.1, by omega⟩ c) := by
  unfold pv4
  generalize View.canon (lv3 Q K g) = A
  pointwise [k0_pay36, k0_pay35]
  refine congrArg (A _ + ·) (Finset.sum_congr rfl fun i _ => congrArg (fun x : EReal => x * _) ?_)
  exact mask_cat (r := 1152) i.2 j.2 (by omega) (sc0 Q K ⟨1152 + i.1, by have := i.2; omega⟩)

/-- Query block 4's store into the keys' cotangent, at an index. -/
theorem pk4_at (j : Fin 1664) (c : Fin 256) :
    pk4 Q v g (ix2 j c) = View.canon (lk3 Q v g) (ix2 ⟨j.1, by omega⟩ c)
      + ∑ i : Fin 512, dsc v g ⟨1152 + i.1, by omega⟩ ⟨j.1, by omega⟩ * Q (ix2 ⟨1152 + i.1, by omega⟩ c) := by
  unfold pk4
  generalize View.canon (lk3 Q v g) = A
  pointwise [k0_pay41, k0_pay39, k0_pay37, k0_pay38, k0_pay35]
  refine congrArg (A _ + ·) (Finset.sum_congr rfl fun i _ => congrArg (fun x : EReal => x * _) ?_)
  exact mask_cat (r := 1152) i.2 j.2 (by omega) (dsc0 v g ⟨1152 + i.1, by have := i.2; omega⟩)

/-- Query block 4's rows of the queries' cotangent, at an index. -/
theorem pa4_at (i : Fin 512) (c : Fin 256) :
    pa4 K v g (ix2 i c) = ∑ j : Fin 1664, dsc v g ⟨1152 + i.1, by omega⟩ ⟨j.1, by omega⟩ * K (ix2 ⟨j.1, by omega⟩ c) := by
  unfold pa4
  pointwise [k0_pay40, k0_pay39, k0_pay37, k0_pay38, k0_pay35]
  exact mask_sum (r := 1152) i.2 (by omega) (dsc0 v g ⟨1152 + i.1, by have := i.2; omega⟩) (fun j => K (ix2 j c))

/-- Query block 5's store into the values' cotangent, at an index. -/
theorem pv5_at (j : Fin 2176) (c : Fin 512) :
    pv5 Q K g (ix2 j c) = View.canon (lv4 Q K g) (ix2 ⟨j.1, by omega⟩ c)
      + ∑ i : Fin 512, sc Q K ⟨1664 + i.1, by omega⟩ ⟨j.1, by omega⟩ * g (ix3 0 ⟨1664 + i.1, by omega⟩ c) := by
  unfold pv5
  generalize View.canon (lv4 Q K g) = A
  pointwise [k0_pay44, k0_pay43, k0_pay42]
  refine congrArg (A _ + ·) (Finset.sum_congr rfl fun i _ => congrArg (fun x : EReal => x * _) ?_)
  exact mask_cat (r := 1664) i.2 j.2 (by omega) (sc0 Q K ⟨1664 + i.1, by have := i.2; omega⟩)

/-- Query block 5's store into the keys' cotangent, at an index. -/
theorem pk5_at (j : Fin 2176) (c : Fin 256) :
    pk5 Q v g (ix2 j c) = View.canon (lk4 Q v g) (ix2 ⟨j.1, by omega⟩ c)
      + ∑ i : Fin 512, dsc v g ⟨1664 + i.1, by omega⟩ ⟨j.1, by omega⟩ * Q (ix2 ⟨1664 + i.1, by omega⟩ c) := by
  unfold pk5
  generalize View.canon (lk4 Q v g) = A
  pointwise [k0_pay47, k0_pay45, k0_pay42]
  refine congrArg (A _ + ·) (Finset.sum_congr rfl fun i _ => congrArg (fun x : EReal => x * _) ?_)
  exact mask_cat (r := 1664) i.2 j.2 (by omega) (dsc0 v g ⟨1664 + i.1, by have := i.2; omega⟩)

/-- Query block 5's rows of the queries' cotangent, at an index. -/
theorem pa5_at (i : Fin 512) (c : Fin 256) :
    pa5 K v g (ix2 i c) = ∑ j : Fin 2176, dsc v g ⟨1664 + i.1, by omega⟩ ⟨j.1, by omega⟩ * K (ix2 ⟨j.1, by omega⟩ c) := by
  unfold pa5
  pointwise [k0_pay46, k0_pay45, k0_pay42]
  exact mask_sum (r := 1664) i.2 (by omega) (dsc0 v g ⟨1664 + i.1, by have := i.2; omega⟩) (fun j => K (ix2 j c))

end

end Cert.KernelIdeal

end
-- ==== Proof.Sums.lean ====
module

public import proofs.«01_k».proof.Proof.Pays

/-! The accumulators after the last query block: sums over all query rows, over all key rows. -/

@[expose] public section

set_option maxRecDepth 65536

noncomputable section

namespace Cert.KernelIdeal

open Idealize.ShloMosaic Idealize.ShloMosaic.TcCoe Idealize.ShloMosaic.Tactic
open Gen

/-- What lists of stores of whole rows hold at an index: the last store's payload on its rows, what was there elsewhere. -/
theorem canon_rows {N W o n : ℕ} {e : EltTy} (h) (w : (⟨2, ![n, W]⟩ : Shape).Idx → Elt Ideal e)
    (L : List (View.Piece (Elt Ideal) (⟨2, ![N, W]⟩ : Shape) e)) (i : Fin N) (c : Fin W) :
    View.canon ((⟨Rect.unit (s := (⟨2, ![N, W]⟩ : Shape)) ![o, 0] ![n, W] h, w⟩ : View.Piece (Elt Ideal) (⟨2, ![N, W]⟩ : Shape) e) :: L) (ix2 i c)
      = if hi : o ≤ i.1 ∧ i.1 < o + n then w (ix2 ⟨i.1 - o, by omega⟩ c) else View.canon L (ix2 i c) := by
  by_cases hi : o ≤ i.1 ∧ i.1 < o + n
  · rw [dif_pos hi]
    have e : (Rect.unit (s := (⟨2, ![N, W]⟩ : Shape)) ![o, 0] ![n, W] h).emb (ix2 (⟨i.1 - o, by omega⟩ : Fin n) c)
        = (ix2 i c : (⟨2, ![N, W]⟩ : Shape).Idx) := by
      funext a
      apply Fin.ext
      rw [Rect.emb_apply]
      refine Fin.cases ?_ (fun b => ?_) a
      · show o + 1 * (i.1 - o) = i.1
        omega
      · obtain rfl : b = 0 := Subsingleton.elim _ _
        show 0 + 1 * c.1 = c.1
        omega
    rw [← e]
    exact View.canon_cons_emb (Rect.unit (s := (⟨2, ![N, W]⟩ : Shape)) ![o, 0] ![n, W] h) w L _
  · rw [dif_neg hi]
    refine View.canon_cons_of_not_mem _ _ fun hm => hi ?_
    exact (Rect.mem_set_unit (inb := h)).mp hm 0

/-- A function of the rows, as a function of numbers. -/
def ext (f : Fin 2176 → EReal) (n : ℕ) : EReal := if h : n < 2176 then f ⟨n, h⟩ else 0

/-- The sum over the first `L` rows. -/
def up (L : ℕ) (f : Fin 2176 → EReal) : EReal := ∑ n ∈ Finset.range L, ext f n

theorem up_zero (f : Fin 2176 → EReal) : up 0 f = 0 := Finset.sum_range_zero _

theorem up_add {r R : ℕ} (h : r + R ≤ 2176) (f : Fin 2176 → EReal) :
    up (r + R) f = up r f + ∑ x : Fin R, f ⟨r + x.1, by omega⟩ := by
  unfold up
  rw [Finset.sum_range_add, Finset.sum_range (n := R)]
  congr 1
  refine Finset.sum_congr rfl fun x _ => ?_
  unfold ext
  rw [dif_pos (by omega)]

theorem up_all (f : Fin 2176 → EReal) : up 2176 f = ∑ i, f i := by
  unfold up
  rw [Finset.sum_range]
  refine Finset.sum_congr rfl fun x _ => ?_
  unfold ext
  rw [dif_pos x.2]

/-- The sum over the first rows is the whole sum where the others vanish. -/
theorem up_of_zero {L : ℕ} (h : L ≤ 2176) (f : Fin 2176 → EReal) (hf : ∀ i : Fin 2176, L ≤ i.1 → f i = 0) :
    up L f = ∑ i, f i := by
  rw [← up_all]
  have := up_add (r := L) (R := 2176 - L) (by omega) f
  rw [Finset.sum_eq_zero (fun x _ => hf _ (by simp)), add_zero] at this
  rw [← this, Nat.add_sub_cancel' h]

theorem sum_up {L : ℕ} (h : L ≤ 2176) (f : Fin 2176 → EReal) : (∑ x : Fin L, f ⟨x.1, by omega⟩) = up L f := by
  unfold up
  rw [Finset.sum_range]
  refine Finset.sum_congr rfl fun x _ => ?_
  unfold ext
  rw [dif_pos (by omega)]

section

variable (Q K : Vec Ideal S2176x256 .bf16) (v g : Vec Ideal S1x2176x512 .bf16)

theorem sc_zero {i j : Fin 2176} (h : i < j) : sc Q K i j = 0 := if_neg (not_le.mpr h)
theorem dsc_zero {i j : Fin 2176} (h : i < j) : dsc v g i j = 0 := if_neg (not_le.mpr h)

/-- One block's step of an accumulator: rows below `L` gain the block's sum, the others' sum is zero. -/
theorem acc_step {r L : ℕ} (R : ℕ) (hL : L = r + R) (h : L ≤ 2176) (j : Fin 2176) (f : Fin 2176 → EReal) (hf : ∀ i, i < j → f i = 0)
    (A : EReal) (B : j.1 < L → EReal) (hA : A = up r f) (hB : ∀ hj : j.1 < L, B hj = A + ∑ x : Fin R, f ⟨r + x.1, by omega⟩) :
    (if hj : 0 ≤ j.1 ∧ j.1 < 0 + L then B (by omega) else A) = up L f := by
  subst hL
  rw [up_add h]
  by_cases hj : j.1 < r + R
  · rw [dif_pos (by omega), hB hj, hA]
  · rw [dif_neg (by omega), hA, Finset.sum_eq_zero, add_zero]
    intro x _
    exact hf _ (by show r + x.1 < j.1; omega)

/-- The values' cotangent before any block is zero. -/
theorem lv0_at (j : Fin 2176) (c : Fin 512) : View.canon lv0 (ix2 j c) = up 0 (fun i => sc Q K i j * g (ix3 0 i c)) := by
  rw [up_zero]
  unfold lv0
  rw [canon_rows, dif_pos (by omega)]
  pointwise [k0_pay16, k0_pay15]

/-- The values' cotangent after query block 1: the sum over the query rows so far. -/
theorem lv1_at (j : Fin 2176) (c : Fin 512) :
    View.canon (lv1 Q K g) (ix2 j c) = up 128 (fun i => sc Q K i j * g (ix3 0 i c)) := by
  unfold lv1
  rw [canon_rows]
  refine acc_step 128 (r := 0) (by omega) (by omega) j (fun i => sc Q K i j * g (ix3 0 i c)) (fun i hi => ?_)
    (View.canon (lv0) (ix2 j c)) (fun hj => pv1 Q K g (ix2 ⟨j.1, hj⟩ c)) (lv0_at Q K g j c) fun hj => ?_
  · show sc Q K i j * _ = 0
    rw [sc_zero _ _ hi, zero_mul]
  · simpa only [Nat.zero_add] using pv1_at Q K g ⟨j.1, hj⟩ c

/-- The values' cotangent after query block 2: the sum over the query rows so far. -/
theorem lv2_at (j : Fin 2176) (c : Fin 512) :
    View.canon (lv2 Q K g) (ix2 j c) = up 640 (fun i => sc Q K i j * g (ix3 0 i c)) := by
  unfold lv2
  rw [canon_rows]
  refine acc_step 512 (r := 128) (by omega) (by omega) j (fun i => sc Q K i j * g (ix3 0 i c)) (fun i hi => ?_)
    (View.canon (lv1 Q K g) (ix2 j c)) (fun hj => pv2 Q K g (ix2 ⟨j.1, hj⟩ c)) (lv1_at Q K g j c) fun hj => ?_
  · show sc Q K i j * _ = 0
    rw [sc_zero _ _ hi, zero_mul]
  · exact pv2_at Q K g ⟨j.1, hj⟩ c

/-- The values' cotangent after query block 3: the sum over the query rows so far. -/
theorem lv3_at (j : Fin 2176) (c : Fin 512) :
    View.canon (lv3 Q K g) (ix2 j c) = up 1152 (fun i => sc Q K i j * g (ix3 0 i c)) := by
  unfold lv3
  rw [canon_rows]
  refine acc_step 512 (r := 640) (by omega) (by omega) j (fun i => sc Q K i j * g (ix3 0 i c)) (fun i hi => ?_)
    (View.canon (lv2 Q K g) (ix2 j c)) (fun hj => pv3 Q K g (ix2 ⟨j.1, hj⟩ c)) (lv2_at Q K g j c) fun hj => ?_
  · show sc Q K i j * _ = 0
    rw [sc_zero _ _ hi, zero_mul]
  · exact pv3_at Q K g ⟨j.1, hj⟩ c

/-- The values' cotangent after query block 4: the sum over the query rows so far. -/
theorem lv4_at (j : Fin 2176) (c : Fin 512) :
    View.canon (lv4 Q K g) (ix2 j c) = up 1664 (fun i => sc Q K i j * g (ix3 0 i c)) := by
  unfold lv4
  rw [canon_rows]
  refine acc_step 512 (r := 1152) (by omega) (by omega) j (fun i => sc Q K i j * g (ix3 0 i c)) (fun i hi => ?_)
    (View.canon (lv3 Q K g) (ix2 j c)) (fun hj => pv4 Q K g (ix2 ⟨j.1, hj⟩ c)) (lv3_at Q K g j c) fun hj => ?_
  · show sc Q K i j * _ = 0
    rw [sc_zero _ _ hi, zero_mul]
  · exact pv4_at Q K g ⟨j.1, hj⟩ c

/-- The values' cotangent after query block 5: the sum over the query rows so far. -/
theorem lv5_at (j : Fin 2176) (c : Fin 512) :
    View.canon (lv5 Q K g) (ix2 j c) = up 2176 (fun i => sc Q K i j * g (ix3 0 i c)) := by
  unfold lv5
  rw [canon_rows]
  refine acc_step 512 (r := 1664) (by omega) (by omega) j (fun i => sc Q K i j * g (ix3 0 i c)) (fun i hi => ?_)
    (View.canon (lv4 Q K g) (ix2 j c)) (fun hj => pv5 Q K g (ix2 ⟨j.1, hj⟩ c)) (lv4_at Q K g j c) fun hj => ?_
  · show sc Q K i j * _ = 0
    rw [sc_zero _ _ hi, zero_mul]
  · exact pv5_at Q K g ⟨j.1, hj⟩ c

/-- The values' cotangent after the last block: the sum over all query rows. -/
theorem lv_at (j : Fin 2176) (c : Fin 512) :
    View.canon (lv5 Q K g) (ix2 j c) = ∑ i, sc Q K i j * g (ix3 0 i c) := by
  rw [lv5_at, up_all]

/-- The keys' cotangent before any block is zero. -/
theorem lk0_at (j : Fin 2176) (c : Fin 256) : View.canon lk0 (ix2 j c) = up 0 (fun i => dsc v g i j * Q (ix2 i c)) := by
  rw [up_zero]
  unfold lk0
  rw [canon_rows, dif_pos (by omega)]
  pointwise [k0_pay16, k0_pay15]

/-- The keys' cotangent after query block 1: the sum over the query rows so far. -/
theorem lk1_at (j : Fin 2176) (c : Fin 256) :
    View.canon (lk1 Q v g) (ix2 j c) = up 128 (fun i => dsc v g i j * Q (ix2 i c)) := by
  unfold lk1
  rw [canon_rows]
  refine acc_step 128 (r := 0) (by omega) (by omega) j (fun i => dsc v g i j * Q (ix2 i c)) (fun i hi => ?_)
    (View.canon (lk0) (ix2 j c)) (fun hj => pk1 Q v g (ix2 ⟨j.1, hj⟩ c)) (lk0_at Q v g j c) fun hj => ?_
  · show dsc v g i j * _ = 0
    rw [dsc_zero _ _ hi, zero_mul]
  · simpa only [Nat.zero_add] using pk1_at Q v g ⟨j.1, hj⟩ c

/-- The keys' cotangent after query block 2: the sum over the query rows so far. -/
theorem lk2_at (j : Fin 2176) (c : Fin 256) :
    View.canon (lk2 Q v g) (ix2 j c) = up 640 (fun i => dsc v g i j * Q (ix2 i c)) := by
  unfold lk2
  rw [canon_rows]
  refine acc_step 512 (r := 128) (by omega) (by omega) j (fun i => dsc v g i j * Q (ix2 i c)) (fun i hi => ?_)
    (View.canon (lk1 Q v g) (ix2 j c)) (fun hj => pk2 Q v g (ix2 ⟨j.1, hj⟩ c)) (lk1_at Q v g j c) fun hj => ?_
  · show dsc v g i j * _ = 0
    rw [dsc_zero _ _ hi, zero_mul]
  · exact pk2_at Q v g ⟨j.1, hj⟩ c

/-- The keys' cotangent after query block 3: the sum over the query rows so far. -/
theorem lk3_at (j : Fin 2176) (c : Fin 256) :
    View.canon (lk3 Q v g) (ix2 j c) = up 1152 (fun i => dsc v g i j * Q (ix2 i c)) := by
  unfold lk3
  rw [canon_rows]
  refine acc_step 512 (r := 640) (by omega) (by omega) j (fun i => dsc v g i j * Q (ix2 i c)) (fun i hi => ?_)
    (View.canon (lk2 Q v g) (ix2 j c)) (fun hj => pk3 Q v g (ix2 ⟨j.1, hj⟩ c)) (lk2_at Q v g j c) fun hj => ?_
  · show dsc v g i j * _ = 0
    rw [dsc_zero _ _ hi, zero_mul]
  · exact pk3_at Q v g ⟨j.1, hj⟩ c

/-- The keys' cotangent after query block 4: the sum over the query rows so far. -/
theorem lk4_at (j : Fin 2176) (c : Fin 256) :
    View.canon (lk4 Q v g) (ix2 j c) = up 1664 (fun i => dsc v g i j * Q (ix2 i c)) := by
  unfold lk4
  rw [canon_rows]
  refine acc_step 512 (r := 1152) (by omega) (by omega) j (fun i => dsc v g i j * Q (ix2 i c)) (fun i hi => ?_)
    (View.canon (lk3 Q v g) (ix2 j c)) (fun hj => pk4 Q v g (ix2 ⟨j.1, hj⟩ c)) (lk3_at Q v g j c) fun hj => ?_
  · show dsc v g i j * _ = 0
    rw [dsc_zero _ _ hi, zero_mul]
  · exact pk4_at Q v g ⟨j.1, hj⟩ c

/-- The keys' cotangent after query block 5: the sum over the query rows so far. -/
theorem lk5_at (j : Fin 2176) (c : Fin 256) :
    View.canon (lk5 Q v g) (ix2 j c) = up 2176 (fun i => dsc v g i j * Q (ix2 i c)) := by
  unfold lk5
  rw [canon_rows]
  refine acc_step 512 (r := 1664) (by omega) (by omega) j (fun i => dsc v g i j * Q (ix2 i c)) (fun i hi => ?_)
    (View.canon (lk4 Q v g) (ix2 j c)) (fun hj => pk5 Q v g (ix2 ⟨j.1, hj⟩ c)) (lk4_at Q v g j c) fun hj => ?_
  · show dsc v g i j * _ = 0
    rw [dsc_zero _ _ hi, zero_mul]
  · exact pk5_at Q v g ⟨j.1, hj⟩ c

/-- The keys' cotangent after the last block: the sum over all query rows. -/
theorem lk_at (j : Fin 2176) (c : Fin 256) :
    View.canon (lk5 Q v g) (ix2 j c) = ∑ i, dsc v g i j * Q (ix2 i c) := by
  rw [lk5_at, up_all]

/-- A block's rows of the queries' cotangent sum over all key rows. -/
theorem row_sum {L : ℕ} (h : L ≤ 2176) (i : Fin 2176) (hi : i.1 < L) (c : Fin 256) :
    (∑ j : Fin L, dsc v g i ⟨j.1, by omega⟩ * K (ix2 ⟨j.1, by omega⟩ c)) = ∑ j, dsc v g i j * K (ix2 j c) := by
  rw [sum_up h (fun j => dsc v g i j * K (ix2 j c))]
  refine up_of_zero h _ fun j hj => ?_
  rw [dsc_zero _ _ (show i.1 < j.1 by omega), zero_mul]

/-- The queries' cotangent after the last block: each row's sum over all key rows. -/
theorem la_at (i : Fin 2176) (c : Fin 256) : View.canon (la K v g) (ix2 i c) = ∑ j, dsc v g i j * K (ix2 j c) := by
  unfold la
  rw [canon_rows]
  by_cases h5 : 1664 ≤ i.1
  · rw [dif_pos (by omega), pa5_at, ← row_sum K v g (L := 2176) (by omega) i (by omega) c]
    have e : 1664 + (i.1 - 1664) = i.1 := by omega
    simp only [e]
  rw [dif_neg (by omega)]
  rw [canon_rows]
  by_cases h4 : 1152 ≤ i.1
  · rw [dif_pos (by omega), pa4_at, ← row_sum K v g (L := 1664) (by omega) i (by omega) c]
    have e : 1152 + (i.1 - 1152) = i.1 := by omega
    simp only [e]
  rw [dif_neg (by omega)]
  rw [canon_rows]
  by_cases h3 : 640 ≤ i.1
  · rw [dif_pos (by omega), pa3_at, ← row_sum K v g (L := 1152) (by omega) i (by omega) c]
    have e : 640 + (i.1 - 640) = i.1 := by omega
    simp only [e]
  rw [dif_neg (by omega)]
  rw [canon_rows]
  by_cases h2 : 128 ≤ i.1
  · rw [dif_pos (by omega), pa2_at, ← row_sum K v g (L := 640) (by omega) i (by omega) c]
    have e : 128 + (i.1 - 128) = i.1 := by omega
    simp only [e]
  rw [dif_neg (by omega)]
  rw [canon_rows, dif_pos (by omega), pa1_at, ← row_sum K v g (L := 128) (by omega) i (by omega) c]
  simp only [Nat.sub_zero]

end

end Cert.KernelIdeal

end
-- ==== Proof.Spec.lean ====
module

public import Idealize.ShloMosaic.Lib.Pointwise

/-! The gradient of retention as closed sums over extended reals, and the facts of extended reals it needs. Both programs
are read as these sums. -/

@[expose] public section

noncomputable section

namespace Cert.Ret

open Idealize.ShloMosaic

/-- The number `n` as an extended real. -/
def num (n : ℕ) : EReal := ((n : ℝ) : EReal)

/-- An integer word below 2^31 denotes its number. -/
theorem word_num {n : ℕ} (h : n < 2176) : (((BitVec.ofNat 32 n).toInt : ℝ) : EReal) = num n := by
  have k : (BitVec.ofNat 32 n).toInt = n := by
    rw [BitVec.toInt_eq_toNat_of_lt (by simp only [BitVec.toNat_ofNat]; omega), BitVec.toNat_ofNat, Nat.mod_eq_of_lt (by omega)]
  rw [k]
  rfl

/-- The rotary angle of position `i` in half-channel `d`. -/
def ang (i d : ℕ) : EReal :=
  num i * Ideal.pow (Ideal.ofBits .f32 1176256512#32) (Ideal.div (-num d) (Ideal.ofBits .f32 1124073472#32))

/-- The cosine table. -/
def co (i : ℕ) (d : Fin 128) : EReal := Ideal.cos (ang i d.1)

/-- The sine table. -/
def si (i : ℕ) (d : Fin 128) : EReal := Ideal.sin (ang i d.1)

/-- The logarithm of head `h`'s decay. -/
def lgm (h : ℕ) : EReal := Ideal.log (1 - Ideal.pow (Ideal.ofBits .f32 1073741824#32) (Ideal.ofBits .f32 3231711232#32 - num h))

/-- The scale of the keys, one sixteenth. -/
def ksc : EReal := Ideal.ofBits .f32 1031798784#32

/-- The rotation of a head's 256 channels, halves paired. -/
def rope (x : Fin 256 → EReal) (c s : Fin 128 → EReal) (d : Fin 256) : EReal :=
  if h : d.1 < 128 then x ⟨d.1, d.2⟩ * c ⟨d.1, h⟩ - x ⟨128 + d.1, by omega⟩ * s ⟨d.1, h⟩
  else x ⟨d.1 - 128, by omega⟩ * s ⟨d.1 - 128, by omega⟩ + x ⟨128 + (d.1 - 128), by omega⟩ * c ⟨d.1 - 128, by omega⟩

/-- The rotation back. -/
def unrope (x : Fin 256 → EReal) (c s : Fin 128 → EReal) (d : Fin 256) : EReal :=
  if h : d.1 < 128 then x ⟨d.1, d.2⟩ * c ⟨d.1, h⟩ + x ⟨128 + d.1, by omega⟩ * s ⟨d.1, h⟩
  else x ⟨128 + (d.1 - 128), by omega⟩ * c ⟨d.1 - 128, by omega⟩ - x ⟨d.1 - 128, by omega⟩ * s ⟨d.1 - 128, by omega⟩

theorem unrope_zero (c s : Fin 128 → EReal) (d : Fin 256) : unrope (fun _ => 0) c s d = 0 := by
  unfold unrope
  split <;> simp only [zero_mul, add_zero, sub_zero]

section spec

/- `p`: the rows of queries, keys, values and gates of the batch; `g`: the output's cotangent, `T` rows. -/
variable (p : Fin 2 → Fin 2176 → Fin 6144 → EReal) (b : Fin 2) (h : Fin 4)

/-- The rotated query of row `i`. -/
def rq (i : Fin 2176) (d : Fin 256) : EReal := rope (fun e => p b i ⟨h.1 * 256 + e.1, by omega⟩) (co i.1) (si i.1) d

/-- The rotated key of row `j`, not scaled. -/
def rk (j : Fin 2176) (d : Fin 256) : EReal := rope (fun e => p b j ⟨1024 + (h.1 * 256 + e.1), by omega⟩) (co j.1) (si j.1) d

/-- The value of row `j`. -/
def vv (j : Fin 2176) (c : Fin 512) : EReal := p b j ⟨2048 + (h.1 * 512 + c.1), by omega⟩

/-- The decay from key row `j` to query row `i`: zero where the key is later. -/
def dec (i j : ℕ) : EReal := if j ≤ i then Ideal.exp (lgm h.1 * num (i - j)) else 0

variable (g : Fin 2 → Fin 2064 → Fin 2048 → EReal)

/-- The output's cotangent of row `i`. -/
def gg (i : Fin 2064) (c : Fin 512) : EReal := g b i ⟨h.1 * 512 + c.1, by omega⟩

/-- Row `i` of the 2064 as a row of the 2176. -/
def row (i : Fin 2064) : Fin 2176 := ⟨i.1, by omega⟩

/-- The decayed score. -/
def scr (i j : Fin 2064) : EReal := (∑ d, rq p b h (row i) d * (rk p b h (row j) d * ksc)) * dec h i.1 j.1

/-- The score's cotangent, decayed. -/
def dscr (i j : Fin 2064) : EReal := (∑ c, gg b h g i c * vv p b h (row j) c) * dec h i.1 j.1

/-- The values' cotangent. -/
def gradV (j : Fin 2064) (c : Fin 512) : EReal := ∑ i, gg b h g i c * scr p b h i j

/-- The keys' cotangent. -/
def gradK (j : Fin 2064) (d : Fin 256) : EReal :=
  unrope (fun e => (∑ i, dscr p b h g i j * rq p b h (row i) e) * ksc) (co j.1) (si j.1) d

/-- The queries' cotangent. -/
def gradQ (i : Fin 2064) (d : Fin 256) : EReal :=
  unrope (fun e => ∑ j, dscr p b h g i j * (rk p b h (row j) e * ksc)) (co i.1) (si i.1) d

end spec

/-! ### Extended reals -/

theorem ksc_eq : ksc = (((1 / 16 : ℝ)) : EReal) := by
  unfold ksc
  simp [Ideal.ofBits, Ideal.ieee, -EReal.coe_mul]
  norm_num

/-- Every head's logarithm of its decay is a real number. -/
theorem lgm_real (h : Fin 4) : ∃ r : ℝ, lgm h.1 = (r : EReal) := by
  have e2 : Ideal.ofBits .f32 1073741824#32 = ((2 : ℝ) : EReal) := by
    simp [Ideal.ofBits, Ideal.ieee, -EReal.coe_mul]
    norm_num
  have e5 : Ideal.ofBits .f32 3231711232#32 = ((-5 : ℝ) : EReal) := by
    simp [Ideal.ofBits, Ideal.ieee, -EReal.coe_mul]
    norm_num
  refine ⟨Real.log (1 - (2 : ℝ) ^ ((-5 : ℝ) - (h.1 : ℝ))), ?_⟩
  have hp : (2 : ℝ) ^ ((-5 : ℝ) - (h.1 : ℝ)) < 1 :=
    Real.rpow_lt_one_of_one_lt_of_neg (by norm_num) (by have : (0 : ℝ) ≤ h.1 := Nat.cast_nonneg _; linarith)
  unfold lgm num
  rw [e2, e5, ← EReal.coe_sub, Ideal.pow_coe_coe, Real.rpow_eq_pow, ← EReal.coe_one, ← EReal.coe_sub, Ideal.log_coe, if_neg (by linarith)]

/-- A nonnegative real factor leaves a sum. -/
theorem sum_mul_real {n : ℕ} (f : Fin n → EReal) {r : ℝ} (hr : 0 ≤ r) : (∑ i, f i) * (r : EReal) = ∑ i, f i * (r : EReal) := by
  classical
  induction (Finset.univ : Finset (Fin n)) using Finset.induction_on with
  | empty => simp
  | insert a s ha ih =>
    rw [Finset.sum_insert ha, Finset.sum_insert ha,
      EReal.right_distrib_of_nonneg_of_ne_top (EReal.coe_nonneg.mpr hr) (EReal.coe_ne_top r), ih]

/-- The growth and decay factors of one head are positive reals and multiply to the decay between two rows. -/
theorem exp_pair (h : Fin 4) : ∃ u w : ℕ → ℝ, (∀ n, 0 ≤ u n ∧ 0 ≤ w n)
    ∧ (∀ n, Ideal.exp (lgm h.1 * num n) = (u n : EReal)) ∧ (∀ n, Ideal.exp ((0 - lgm h.1) * num n) = (w n : EReal))
    ∧ ∀ i j : ℕ, j ≤ i → (u i : EReal) * (w j : EReal) = dec h i j := by
  obtain ⟨r, hr⟩ := lgm_real h
  refine ⟨fun n => Real.exp (r * n), fun n => Real.exp ((0 - r) * n), fun n => ⟨(Real.exp_pos _).le, (Real.exp_pos _).le⟩,
    fun n => ?_, fun n => ?_, fun i j hij => ?_⟩
  · rw [hr, num, ← EReal.coe_mul, Ideal.exp_coe]
  · rw [hr, num, ← EReal.coe_zero, ← EReal.coe_sub, ← EReal.coe_mul, Ideal.exp_coe]
  · rw [dec, if_pos hij, hr, num, ← EReal.coe_mul, ← EReal.coe_mul, Ideal.exp_coe, ← Real.exp_add, Nat.cast_sub hij]
    congr 2
    ring

end Cert.Ret

end
-- ==== Proof.Equation.lean ====
module

public import proofs.«01_k».proof.Proof.Sums
public import proofs.«01_k».proof.Proof.Spec

/-! From the kernel's sums over all 2176 rows, of operands scaled by growth and decay, to the closed sums of `Spec` over
the 2064 rows. -/

@[expose] public section

noncomputable section

namespace Cert.KernelIdeal

open Idealize.ShloMosaic Cert.Ret

/-- A sum over all rows whose terms vanish past row 2064 is the sum over the first 2064. -/
theorem sum_rows (f : Fin 2176 → EReal) (f' : Fin 2064 → EReal) (h1 : ∀ i, f (row i) = f' i)
    (h2 : ∀ i : Fin 2176, ¬ i.1 < 2064 → f i = 0) : ∑ i, f i = ∑ i, f' i := by
  refine (Finset.sum_of_injOn row (fun a _ b _ hab => Fin.ext (congrArg (fun r : Fin 2176 => r.1) hab)) (fun _ _ => Finset.mem_coe.mpr (Finset.mem_univ _))
    (fun i _ hi => h2 i fun hlt => hi ⟨⟨i.1, hlt⟩, Finset.mem_coe.mpr (Finset.mem_univ _), rfl⟩) (fun i _ => (h1 i).symm)).symm

section eqs

variable (p : Fin 2 → Fin 2176 → Fin 6144 → EReal) (b : Fin 2) (h : Fin 4) (G : Fin 2 → Fin 2064 → Fin 2048 → EReal)
  (Q K : Vec Ideal S2176x256 .bf16) (v g : Vec Ideal S1x2176x512 .bf16)

/-- What the scaled operands and the blocks of one grid point hold. -/
structure Holds : Prop where
  q : ∀ (i : Fin 2176) (d : Fin 256), Q (ix2 i d) = rq p b h i d * Ideal.exp (lgm h.1 * num i.1)
  k : ∀ (j : Fin 2176) (d : Fin 256), K (ix2 j d) = rk p b h j d * (Ideal.exp ((0 - lgm h.1) * num j.1) * ksc)
  v : ∀ (j : Fin 2176) (c : Fin 512), v (ix3 0 j c) = vv p b h j c
  g : ∀ (i : Fin 2176) (c : Fin 512), g (ix3 0 i c) = if hi : i.1 < 2064 then gg b h G ⟨i.1, hi⟩ c else 0

variable {p b h G Q K v g}

theorem Holds.g_row (H : Holds p b h G Q K v g) (i : Fin 2064) (c : Fin 512) : g (ix3 0 (row i) c) = gg b h G i c := by
  rw [H.g, dif_pos (show (row i).1 < 2064 from i.2)]
  rfl

theorem Holds.g_zero (H : Holds p b h G Q K v g) (i : Fin 2176) (hi : ¬ i.1 < 2064) (c : Fin 512) : g (ix3 0 i c) = 0 := by
  rw [H.g, dif_neg hi]

/-- The cotangent's product with the values, undecayed, at two rows. -/
theorem Holds.dsc_row (H : Holds p b h G Q K v g) (i : Fin 2064) (j : Fin 2176) :
    dsc v g (row i) j = if j.1 ≤ i.1 then ∑ c, gg b h G i c * vv p b h j c else 0 := by
  unfold dsc dsc0
  simp only [H.g_row, H.v]
  rfl

theorem Holds.dsc_low (H : Holds p b h G Q K v g) (i : Fin 2176) (hi : ¬ i.1 < 2064) (j : Fin 2176) : dsc v g i j = 0 := by
  unfold dsc dsc0
  simp only [H.g_zero i hi, zero_mul, Finset.sum_const_zero, ite_self]

/-- The score of the scaled operands is the decayed score. -/
theorem Holds.sc_row (H : Holds p b h G Q K v g) (i j : Fin 2064) : sc Q K (row i) (row j) = scr p b h i j := by
  obtain ⟨u, w, h0, hu, hw, huw⟩ := exp_pair h
  unfold sc sc0 scr
  by_cases hij : j.1 ≤ i.1
  · rw [if_pos (show row j ≤ row i from hij), ← huw i.1 j.1 hij, ← EReal.coe_mul, sum_mul_real _ (mul_nonneg (h0 _).1 (h0 _).2)]
    refine Finset.sum_congr rfl fun d _ => ?_
    rw [H.q, H.k, hu, hw, EReal.coe_mul]
    show _ * (u i.1 : EReal) * (_ * ((w j.1 : EReal) * _)) = _
    ac_rfl
  · rw [if_neg (show ¬ row j ≤ row i from hij), dec, if_neg hij, mul_zero]

/-- The kernel's sum for the values' cotangent. -/
theorem Holds.sumV (H : Holds p b h G Q K v g) (j : Fin 2176) (c : Fin 512) :
    ∑ i, sc Q K i j * g (ix3 0 i c) = if hj : j.1 < 2064 then gradV p b h G ⟨j.1, hj⟩ c else 0 := by
  by_cases hj : j.1 < 2064
  · rw [dif_pos hj]
    refine sum_rows _ _ (fun i => ?_) fun i hi => ?_
    · rw [show sc Q K (row i) j = scr p b h i ⟨j.1, hj⟩ from H.sc_row i ⟨j.1, hj⟩, H.g_row, mul_comm]
    · rw [H.g_zero i hi, mul_zero]
  · rw [dif_neg hj]
    refine Finset.sum_eq_zero fun i _ => ?_
    by_cases hi : i.1 < 2064
    · unfold sc
      rw [if_neg (fun hle : j ≤ i => hj (lt_of_le_of_lt hle hi)), zero_mul]
    · rw [H.g_zero i hi, mul_zero]

/-- The kernel's sum for the rotated keys' cotangent, rescaled. -/
theorem Holds.sumK (H : Holds p b h G Q K v g) (j : Fin 2176) (e : Fin 256) :
    (∑ i, dsc v g i j * Q (ix2 i e)) * (Ideal.exp ((0 - lgm h.1) * num j.1) * ksc)
      = if hj : j.1 < 2064 then (∑ i, dscr p b h G i ⟨j.1, hj⟩ * rq p b h (row i) e) * ksc else 0 := by
  obtain ⟨u, w, h0, hu, hw, huw⟩ := exp_pair h
  by_cases hj : j.1 < 2064
  · rw [dif_pos hj, hw, ← mul_assoc, sum_mul_real _ (h0 _).2]
    congr 1
    refine sum_rows _ _ (fun i => ?_) fun i hi => ?_
    · rw [H.dsc_row, H.q, hu]
      unfold dscr
      by_cases hij : j.1 ≤ i.1
      · rw [if_pos hij, ← huw i.1 j.1 hij]
        show _ * (_ * (u i.1 : EReal)) * _ = _
        rw [show row ⟨j.1, hj⟩ = j from rfl]
        ac_rfl
      · rw [if_neg hij, dec, if_neg hij, mul_zero, zero_mul, zero_mul, zero_mul]
    · rw [H.dsc_low i hi, zero_mul, zero_mul]
  · rw [dif_neg hj, Finset.sum_eq_zero, zero_mul]
    intro i _
    by_cases hi : i.1 < 2064
    · unfold dsc
      rw [if_neg (fun hle : j ≤ i => hj (lt_of_le_of_lt hle hi)), zero_mul]
    · rw [H.dsc_low i hi, zero_mul]

/-- The kernel's sum for the rotated queries' cotangent, rescaled. -/
theorem Holds.sumQ (H : Holds p b h G Q K v g) (i : Fin 2176) (e : Fin 256) :
    (∑ j, dsc v g i j * K (ix2 j e)) * Ideal.exp (lgm h.1 * num i.1)
      = if hi : i.1 < 2064 then ∑ j, dscr p b h G ⟨i.1, hi⟩ j * (rk p b h (row j) e * ksc) else 0 := by
  obtain ⟨u, w, h0, hu, hw, huw⟩ := exp_pair h
  by_cases hi : i.1 < 2064
  · rw [dif_pos hi, hu, sum_mul_real _ (h0 _).1]
    refine sum_rows _ _ (fun j => ?_) fun j hj => ?_
    · rw [show dsc v g i (row j) = _ from H.dsc_row ⟨i.1, hi⟩ (row j), H.k, hw]
      unfold dscr
      by_cases hij : j.1 ≤ i.1
      · rw [if_pos (show (row j).1 ≤ i.1 from hij), ← huw i.1 j.1 hij]
        show _ * (_ * ((w j.1 : EReal) * _)) * (u i.1 : EReal) = _
        ac_rfl
      · rw [if_neg (show ¬ (row j).1 ≤ i.1 from hij), dec, if_neg hij, mul_zero, zero_mul, zero_mul, zero_mul]
    · unfold dsc
      rw [if_neg (fun hle : j ≤ i => hj (lt_of_le_of_lt hle hi)), zero_mul, zero_mul]
  · rw [dif_neg hi, Finset.sum_eq_zero, zero_mul]
    intro j _
    rw [H.dsc_low i hi, zero_mul]

end eqs

end Cert.KernelIdeal

end
-- ==== Proof.KerVal.lean ====
module

public import proofs.«01_k».proof.Proof.Equation
public import Idealize.ShloMosaic.Lib.Pipeline.ValueKit
public import Idealize.ShloMosaic.Lib.StableHlo.ReadAt
public import proofs.«01_k».proof.Proof.Gen.KernelIdeal.Value

/-! What the kernel's windows hold at a grid point, and the arrays after its run, as the closed sums of `Spec`. -/

@[expose] public section

set_option maxRecDepth 65536

noncomputable section

namespace Cert.KernelIdeal

open Idealize.ShloMosaic Idealize.ShloMosaic.TcCoe Idealize.ShloMosaic.Tactic Cert.Ret
open Gen

section pays

variable (co si : Vec Ideal S2176x128 .f32) (lg : Vec Ideal S1x1x1 .f32)

theorem sitofp_num (n : ℕ) (h : n < 2176) : (FloatOps.sitofp (F := Ideal) FTy.f32 (BitVec.ofNat 32 n) : EReal) = num n := word_num h

/-- The scaled queries at an index. -/
theorem qs_at (q : Vec Ideal S1x2176x256 .bf16) (i : Fin 2176) (d : Fin 256) : qs q co si lg (ix2 i d)
    = rope (fun e => q (ix3 0 i e)) (fun e => co (ix2 i e)) (fun e => si (ix2 i e)) d * Ideal.exp (lg (ix3 0 0 0) * num i.1) := by
  pointwise [qs, k0_pay13, k0_pay10, k0_pay9, k0_pay6, k0_pay4, k0_pay5, k0_pay7]
  rw [sitofp_num _ i.2]
  rfl

/-- The scaled keys at an index. -/
theorem ks_at (k : Vec Ideal S1x2176x256 .bf16) (i : Fin 2176) (d : Fin 256) : ks k co si lg (ix2 i d)
    = rope (fun e => k (ix3 0 i e)) (fun e => co (ix2 i e)) (fun e => si (ix2 i e)) d
      * (Ideal.exp ((0 - lg (ix3 0 0 0)) * num i.1) * ksc) := by
  pointwise [ks, k0_pay14, k0_pay8, k0_pay11, k0_pay12, k0_pay6, k0_pay4, k0_pay5, k0_pay7]
  rw [sitofp_num _ i.2]
  rfl

/-- The stored cotangent of the queries at an index. -/
theorem outq_at (A : Vec Ideal S2176x256 .f32) (i : Fin 2176) (d : Fin 256) :
    k0_pay1 (k0_pay48 (k0_pay4 co) (k0_pay5 si) (k0_pay9 lg) A) (ix3 0 i d)
    = unrope (fun e => A (ix2 i e) * Ideal.exp (lg (ix3 0 0 0) * num i.1)) (fun e => co (ix2 i e)) (fun e => si (ix2 i e)) d := by
  pointwise [k0_pay1, k0_pay48, k0_pay9, k0_pay8, k0_pay6, k0_pay4, k0_pay5, k0_pay7]
  rw [sitofp_num _ i.2]
  rfl

/-- The stored cotangent of the keys at an index. -/
theorem outk_at (A : Vec Ideal S2176x256 .f32) (i : Fin 2176) (d : Fin 256) :
    k0_pay2 (k0_pay4 co) (k0_pay5 si) (k0_pay12 (k0_pay8 lg)) A (ix3 0 i d)
    = unrope (fun e => A (ix2 i e) * (Ideal.exp ((0 - lg (ix3 0 0 0)) * num i.1) * ksc)) (fun e => co (ix2 i e)) (fun e => si (ix2 i e)) d := by
  pointwise [k0_pay2, k0_pay12, k0_pay8, k0_pay6, k0_pay4, k0_pay5, k0_pay7]
  rw [sitofp_num _ i.2]
  rfl

/-- The stored cotangent of the values at an index. -/
theorem outv_at (A : Vec Ideal S2176x512 .f32) (i : Fin 2176) (d : Fin 512) : k0_pay3 (F := Ideal) A (ix3 0 i d) = A (ix2 i d) := by
  pointwise [k0_pay3]

end pays

variable (m : (ℓ : Loc nD τ sig) → Buf (Elt Ideal) ℓ) (c : Dev nD) (t : Fin cfg0.N)

/-- The first argument by its coordinates. -/
def pM (b : Fin 2) (i : Fin 2176) (n : Fin 6144) : EReal := m (c.tc.loc main_arg0) (ix3 b i n)

/-- The second argument by its coordinates. -/
def gM (b : Fin 2) (i : Fin 2064) (n : Fin 2048) : EReal := m (c.tc.loc main_arg1) (ix3 b i n)

theorem points : cfg0.N = 8 := by decide +kernel

/-- The batch of a grid point. -/
def bt : Fin 2 := ⟨t.1 / 4, by have := t.2; have := points; omega⟩

/-- The head of a grid point. -/
def ht : Fin 4 := ⟨t.1 % 4, by omega⟩

/-- The cosine table. -/
theorem tab_co (i : Fin 2176) (d : Fin 128) : V m c main_v14 (ix2 i d) = co i.1 d := by
  unfold V
  simp only [List.flatten_cons, List.flatten_nil, List.append_nil, hostOps0, hostOps0_1, hostOps0_2, List.cons_append, List.nil_append]
  after_reads_at
  rw [sitofp_num _ i.2, sitofp_num _ (show d.1 < 2176 by omega)]
  rfl

/-- The sine table. -/
theorem tab_si (i : Fin 2176) (d : Fin 128) : V m c main_v15 (ix2 i d) = si i.1 d := by
  unfold V
  simp only [List.flatten_cons, List.flatten_nil, List.append_nil, hostOps0, hostOps0_1, hostOps0_2, List.cons_append, List.nil_append]
  after_reads_at
  rw [sitofp_num _ i.2, sitofp_num _ (show d.1 < 2176 by omega)]
  rfl

/-- The heads' logarithms of their decays. -/
theorem tab_lg (h : Fin 4) : V m c main_v24 (ix3 h 0 0) = lgm h.1 := by
  unfold V
  simp only [List.flatten_cons, List.flatten_nil, List.append_nil, hostOps0, hostOps0_1, hostOps0_2, List.cons_append, List.nil_append]
  after_reads_at
  rw [sitofp_num _ (show h.1 < 2176 by omega)]
  rfl

/-- The cotangent with its added rows. -/
theorem pad_g (b : Fin 2) (i : Fin 2176) (n : Fin 2048) :
    V m c main_v0 (ix3 b i n) = if hi : i.1 < 2064 then gM m c b ⟨i.1, hi⟩ n else 0 := by
  unfold V
  simp only [List.flatten_cons, List.flatten_nil, List.append_nil, hostOps0, hostOps0_1, hostOps0_2, List.cons_append, List.nil_append]
  after_reads_at
  have z : (FloatOps.sitofp (F := Ideal) FTy.bf16 0#32 : EReal) = 0 := by
    show ((((0#32 : BitVec 32).toInt : ℤ) : ℝ) : EReal) = 0
    simp
  rw [z]
  rfl

theorem idx0 : ∀ t : Fin cfg0.N, win0_0.index t = ![(t : ℕ) / 4, 0, (t : ℕ) % 4] := by decide +kernel
theorem idx1 : ∀ t : Fin cfg0.N, win0_1.index t = ![(t : ℕ) / 4, 0, 4 + (t : ℕ) % 4] := by decide +kernel
theorem idx2 : ∀ t : Fin cfg0.N, win0_2.index t = ![(t : ℕ) / 4, 0, 4 + (t : ℕ) % 4] := by decide +kernel
theorem idx3 : ∀ t : Fin cfg0.N, win0_3.index t = ![(t : ℕ) / 4, 0, (t : ℕ) % 4] := by decide +kernel
theorem idx4 : ∀ t : Fin cfg0.N, win0_4.index t = ![0, 0] := by decide +kernel
theorem idx5 : ∀ t : Fin cfg0.N, win0_5.index t = ![0, 0] := by decide +kernel
theorem idx6 : ∀ t : Fin cfg0.N, win0_6.index t = ![(t : ℕ) % 4, 0, 0] := by decide +kernel
theorem idx7 : ∀ t : Fin cfg0.N, win0_7.index t = ![(t : ℕ) / 4, 0, (t : ℕ) % 4] := by decide +kernel
theorem idx8 : ∀ t : Fin cfg0.N, win0_8.index t = ![(t : ℕ) / 4, 0, (t : ℕ) % 4] := by decide +kernel
theorem idx9 : ∀ t : Fin cfg0.N, win0_9.index t = ![(t : ℕ) / 4, 0, (t : ℕ) % 4] := by decide +kernel

theorem blk0 (i : Fin 2176) (e : Fin 256) :
    iblk m c 0 t (ix3 0 i e) = pM m c (bt t) i ⟨(ht t).1 * 256 + e.1, by have := (ht t).2; omega⟩ := by
  unfold pM
  blk_ext [iblk, V_main_arg0, idx0 t, bt, ht]

theorem blk1 (i : Fin 2176) (e : Fin 256) :
    iblk m c 1 t (ix3 0 i e) = pM m c (bt t) i ⟨1024 + ((ht t).1 * 256 + e.1), by have := (ht t).2; omega⟩ := by
  unfold pM
  blk_ext [iblk, V_main_arg0, idx1 t, bt, ht]

theorem blk2 (i : Fin 2176) (e : Fin 512) :
    iblk m c 2 t (ix3 0 i e) = pM m c (bt t) i ⟨2048 + ((ht t).1 * 512 + e.1), by have := (ht t).2; omega⟩ := by
  unfold pM
  blk_ext [iblk, V_main_arg0, idx2 t, bt, ht]

theorem blk3 (i : Fin 2176) (e : Fin 512) : iblk m c 3 t (ix3 0 i e)
    = if hi : i.1 < 2064 then gM m c (bt t) ⟨i.1, hi⟩ ⟨(ht t).1 * 512 + e.1, by have := (ht t).2; omega⟩ else 0 :=
  Eq.trans (by blk_ext [iblk, idx3 t, bt, ht]) (pad_g m c (bt t) i ⟨(ht t).1 * 512 + e.1, by have := (ht t).2; omega⟩)

theorem blk4 (i : Fin 2176) (e : Fin 128) : iblk m c 4 t (ix2 i e) = co i.1 e :=
  Eq.trans (by blk_ext [iblk, idx4 t]) (tab_co m c i e)

theorem blk5 (i : Fin 2176) (e : Fin 128) : iblk m c 5 t (ix2 i e) = si i.1 e :=
  Eq.trans (by blk_ext [iblk, idx5 t]) (tab_si m c i e)

theorem blk6 : iblk m c 6 t (ix3 0 0 0) = lgm (ht t).1 :=
  Eq.trans (by blk_ext [iblk, idx6 t, ht]) (tab_lg m c (ht t))

/-- The scaled queries of a grid point. -/
abbrev Qt : Vec Ideal S2176x256 .bf16 := qs (iblk m c 0 t) (iblk m c 4 t) (iblk m c 5 t) (iblk m c 6 t)

/-- The scaled keys of a grid point. -/
abbrev Kt : Vec Ideal S2176x256 .bf16 := ks (iblk m c 1 t) (iblk m c 4 t) (iblk m c 5 t) (iblk m c 6 t)

theorem rope_congr {x x' : Fin 256 → EReal} {u u' w w' : Fin 128 → EReal} (hx : ∀ e, x e = x' e) (hu : ∀ e, u e = u' e)
    (hw : ∀ e, w e = w' e) (d : Fin 256) : rope x u w d = rope x' u' w' d := by
  rw [funext hx, funext hu, funext hw]

theorem unrope_congr {x x' : Fin 256 → EReal} {u u' w w' : Fin 128 → EReal} (hx : ∀ e, x e = x' e) (hu : ∀ e, u e = u' e)
    (hw : ∀ e, w e = w' e) (d : Fin 256) : unrope x u w d = unrope x' u' w' d := by
  rw [funext hx, funext hu, funext hw]

/-- The operands of a grid point are those of its batch and head. -/
theorem holds : Holds (pM m c) (bt t) (ht t) (gM m c) (Qt m c t) (Kt m c t) (iblk m c 2 t) (iblk m c 3 t) where
  q i d := by
    rw [Qt, qs_at, blk6]
    exact congrArg (· * _) (rope_congr (blk0 m c t i) (blk4 m c t i) (blk5 m c t i) d)
  k j d := by
    rw [Kt, ks_at, blk6]
    exact congrArg (· * _) (rope_congr (blk1 m c t j) (blk4 m c t j) (blk5 m c t j) d)
  v j e := blk2 m c t j e
  g i e := blk3 m c t i e

/-- What a grid point writes for the queries' cotangent. -/
theorem point7 (i : Fin 2176) (d : Fin 256) : (outsAt0 m c t).1 (ix3 0 i d)
    = if hi : i.1 < 2064 then gradQ (pM m c) (bt t) (ht t) (gM m c) ⟨i.1, hi⟩ d else 0 := by
  rw [out7_eq, outq_at, blk6]
  refine (unrope_congr (fun e => ((congrArg (· * _) (la_at _ _ _ i e)).trans ((holds m c t).sumQ i e))) (blk4 m c t i) (blk5 m c t i) d).trans ?_
  by_cases hi : i.1 < 2064
  · simp only [dif_pos hi]
    rfl
  · simp only [dif_neg hi]
    exact unrope_zero _ _ d

/-- What a grid point writes for the keys' cotangent. -/
theorem point8 (i : Fin 2176) (d : Fin 256) : (outsAt0 m c t).2.1 (ix3 0 i d)
    = if hi : i.1 < 2064 then gradK (pM m c) (bt t) (ht t) (gM m c) ⟨i.1, hi⟩ d else 0 := by
  rw [out8_eq, outk_at, blk6]
  refine (unrope_congr (fun e => ((congrArg (· * _) (lk_at _ _ _ i e)).trans ((holds m c t).sumK i e))) (blk4 m c t i) (blk5 m c t i) d).trans ?_
  by_cases hi : i.1 < 2064
  · simp only [dif_pos hi]
    rfl
  · simp only [dif_neg hi]
    exact unrope_zero _ _ d

/-- What a grid point writes for the values' cotangent. -/
theorem point9 (i : Fin 2176) (d : Fin 512) : (outsAt0 m c t).2.2 (ix3 0 i d)
    = if hi : i.1 < 2064 then gradV (pM m c) (bt t) (ht t) (gM m c) ⟨i.1, hi⟩ d else 0 := by
  rw [out9_eq, outv_at, lv_at]
  exact (holds m c t).sumV i d

/-- The queries' cotangent as an array. -/
def G7 : S2x2176x1024.Idx → EReal := fun x => if hi : (x 1).1 < 2064 then
  gradQ (pM m c) ⟨(x 0).1, (x 0).2⟩ ⟨(x 2).1 / 256, by have : (x 2).1 < 1024 := (x 2).2; omega⟩ (gM m c) ⟨(x 1).1, hi⟩ ⟨(x 2).1 % 256, by omega⟩ else 0

/-- The queries' cotangent after the run. -/
theorem final7 : (dats m 0 c).arrAt 7 cfg0.N = G7 m c := by
  refine (dats m 0 c).arrAt_eq_of_covers 7 _ (by decide +kernel) fun t hf y => ?_
  obtain ⟨z, i, d, rfl⟩ : ∃ (z : Fin 1) (i : Fin 2176) (d : Fin 256), y = ix3 z i d := ⟨y 0, y 1, y 2, by funext a; fin_cases a <;> rfl⟩
  obtain rfl : z = 0 := Subsingleton.elim _ _
  have e : (win0_7.blk t).view.emb (ix3 0 i d) = ix3 (bt t) i ⟨(ht t).1 * 256 + d.1, by have := (ht t).2; omega⟩ := by
    blk_ext [idx7 t, bt, ht]
  blk_simp
  rw [after0_7]
  refine (point7 m c t i d).trans ?_
  refine Eq.trans ?_ (congrArg (G7 m c) e.symm)
  have e1 : ((ht t).1 * 256 + d.1) / 256 = (ht t).1 := by omega
  have e2 : ((ht t).1 * 256 + d.1) % 256 = d.1 := by omega
  unfold G7
  show _ = if hi : i.1 < 2064 then gradQ (pM m c) (bt t) ⟨((ht t).1 * 256 + d.1) / 256, _⟩ (gM m c) ⟨i.1, hi⟩ ⟨((ht t).1 * 256 + d.1) % 256, _⟩ else 0
  simp only [e1, e2]

/-- The keys' cotangent as an array. -/
def G8 : S2x2176x1024.Idx → EReal := fun x => if hi : (x 1).1 < 2064 then
  gradK (pM m c) ⟨(x 0).1, (x 0).2⟩ ⟨(x 2).1 / 256, by have : (x 2).1 < 1024 := (x 2).2; omega⟩ (gM m c) ⟨(x 1).1, hi⟩ ⟨(x 2).1 % 256, by omega⟩ else 0

/-- The keys' cotangent after the run. -/
theorem final8 : (dats m 0 c).arrAt 8 cfg0.N = G8 m c := by
  refine (dats m 0 c).arrAt_eq_of_covers 8 _ (by decide +kernel) fun t hf y => ?_
  obtain ⟨z, i, d, rfl⟩ : ∃ (z : Fin 1) (i : Fin 2176) (d : Fin 256), y = ix3 z i d := ⟨y 0, y 1, y 2, by funext a; fin_cases a <;> rfl⟩
  obtain rfl : z = 0 := Subsingleton.elim _ _
  have e : (win0_8.blk t).view.emb (ix3 0 i d) = ix3 (bt t) i ⟨(ht t).1 * 256 + d.1, by have := (ht t).2; omega⟩ := by
    blk_ext [idx8 t, bt, ht]
  blk_simp
  rw [after0_8]
  refine (point8 m c t i d).trans ?_
  refine Eq.trans ?_ (congrArg (G8 m c) e.symm)
  have e1 : ((ht t).1 * 256 + d.1) / 256 = (ht t).1 := by omega
  have e2 : ((ht t).1 * 256 + d.1) % 256 = d.1 := by omega
  unfold G8
  show _ = if hi : i.1 < 2064 then gradK (pM m c) (bt t) ⟨((ht t).1 * 256 + d.1) / 256, _⟩ (gM m c) ⟨i.1, hi⟩ ⟨((ht t).1 * 256 + d.1) % 256, _⟩ else 0
  simp only [e1, e2]

/-- The values' cotangent as an array. -/
def G9 : S2x2176x2048.Idx → EReal := fun x => if hi : (x 1).1 < 2064 then
  gradV (pM m c) ⟨(x 0).1, (x 0).2⟩ ⟨(x 2).1 / 512, by have : (x 2).1 < 2048 := (x 2).2; omega⟩ (gM m c) ⟨(x 1).1, hi⟩ ⟨(x 2).1 % 512, by omega⟩ else 0

/-- The values' cotangent after the run. -/
theorem final9 : (dats m 0 c).arrAt 9 cfg0.N = G9 m c := by
  refine (dats m 0 c).arrAt_eq_of_covers 9 _ (by decide +kernel) fun t hf y => ?_
  obtain ⟨z, i, d, rfl⟩ : ∃ (z : Fin 1) (i : Fin 2176) (d : Fin 512), y = ix3 z i d := ⟨y 0, y 1, y 2, by funext a; fin_cases a <;> rfl⟩
  obtain rfl : z = 0 := Subsingleton.elim _ _
  have e : (win0_9.blk t).view.emb (ix3 0 i d) = ix3 (bt t) i ⟨(ht t).1 * 512 + d.1, by have := (ht t).2; omega⟩ := by
    blk_ext [idx9 t, bt, ht]
  blk_simp
  rw [after0_9]
  refine (point9 m c t i d).trans ?_
  refine Eq.trans ?_ (congrArg (G9 m c) e.symm)
  have e1 : ((ht t).1 * 512 + d.1) / 512 = (ht t).1 := by omega
  have e2 : ((ht t).1 * 512 + d.1) % 512 = d.1 := by omega
  unfold G9
  show _ = if hi : i.1 < 2064 then gradV (pM m c) (bt t) ⟨((ht t).1 * 512 + d.1) / 512, _⟩ (gM m c) ⟨i.1, hi⟩ ⟨((ht t).1 * 512 + d.1) % 512, _⟩ else 0
  simp only [e1, e2]

end Cert.KernelIdeal

end
-- ==== Proof.RefVal.lean ====
module

public import proofs.«01_k».proof.Proof.Gen.ReferenceIdeal.Read
public import proofs.«01_k».proof.Proof.Spec

/-! The reference's values at an index: the closed sums of `Spec`. -/

@[expose] public section

set_option maxRecDepth 65536

noncomputable section

namespace Cert.ReferenceIdeal.Read

open Idealize.ShloMosaic Idealize.ShloMosaic.TcCoe Idealize.ShloMosaic.Tactic Cert.Ret

variable (x0 : (⟨S2x2176x6144, .bf16⟩ : BufTy).Contents (Elt Ideal)) (x1 : (⟨S2x2064x2048, .bf16⟩ : BufTy).Contents (Elt Ideal))

/-- The first argument by its coordinates. -/
def pOf (b : Fin 2) (i : Fin 2176) (n : Fin 6144) : EReal := x0 (ix3 b i n)

/-- The cotangent by its coordinates. -/
def gOf (b : Fin 2) (i : Fin 2064) (n : Fin 2048) : EReal := x1 (ix3 b i n)

theorem sitofp_num (n : ℕ) (h : n < 2176) : (FloatOps.sitofp (F := Ideal) FTy.f32 (BitVec.ofNat 32 n) : EReal) = num n := word_num h

/-- The queries by heads. -/
theorem at_v9 (b : Fin 2) (i : Fin 2064) (h : Fin 4) (d : Fin 256) :
    val_main_v9 (F := Ideal) x0 (ix4 b i h d) = pOf x0 b (row i) ⟨h.1 * 256 + d.1, by omega⟩ := by
  pointwise [val_main_v9, val_main_v5, val_main_v1, val_main_v0]
  rfl

/-- The keys by heads. -/
theorem at_v39 (b : Fin 2) (i : Fin 2064) (h : Fin 4) (d : Fin 256) :
    val_main_v39 (F := Ideal) x0 (ix4 b i h d) = pOf x0 b (row i) ⟨1024 + (h.1 * 256 + d.1), by omega⟩ := by
  pointwise [val_main_v39, val_main_v6, val_main_v2, val_main_v0]
  rfl

/-- The values by heads. -/
theorem at_v71 (b : Fin 2) (i : Fin 2064) (h : Fin 4) (d : Fin 512) :
    val_main_v71 (F := Ideal) x0 (ix4 b i h d) = vv (pOf x0) b h (row i) d := by
  pointwise [val_main_v71, val_main_v7, val_main_v3, val_main_v0]
  rfl

theorem at_v22 (i : Fin 2064) (d : Fin 128) : val_main_v22 (F := Ideal) (ix2 i d) = co i.1 d := by
  pointwise [val_main_v8, val_main_v10, val_main_v11, val_main_v12, val_main_v13, val_main_v14, val_main_v15, val_main_v16, val_main_v17, val_main_v18, val_main_v19, val_main_v20, val_main_v21, val_main_v22, val_main_cst, val_main_cst_0]
  rw [sitofp_num _ (by omega), sitofp_num _ (by omega)]
  rfl

theorem at_v24 (i : Fin 2064) (d : Fin 128) : val_main_v24 (F := Ideal) (ix2 i d) = si i.1 d := by
  pointwise [val_main_v8, val_main_v10, val_main_v11, val_main_v12, val_main_v13, val_main_v14, val_main_v15, val_main_v16, val_main_v17, val_main_v18, val_main_v19, val_main_v20, val_main_v21, val_main_v24, val_main_cst, val_main_cst_0]
  rw [sitofp_num _ (by omega), sitofp_num _ (by omega)]
  rfl

theorem at_v52 (i : Fin 2064) (d : Fin 128) : val_main_v52 (F := Ideal) (ix2 i d) = co i.1 d := by
  pointwise [val_main_v8, val_main_v40, val_main_v41, val_main_v42, val_main_v43, val_main_v44, val_main_v45, val_main_v46, val_main_v47, val_main_v48, val_main_v49, val_main_v50, val_main_v51, val_main_v52, val_main_cst_1, val_main_cst_2]
  rw [sitofp_num _ (by omega), sitofp_num _ (by omega)]
  rfl

theorem at_v54 (i : Fin 2064) (d : Fin 128) : val_main_v54 (F := Ideal) (ix2 i d) = si i.1 d := by
  pointwise [val_main_v8, val_main_v40, val_main_v41, val_main_v42, val_main_v43, val_main_v44, val_main_v45, val_main_v46, val_main_v47, val_main_v48, val_main_v49, val_main_v50, val_main_v51, val_main_v54, val_main_cst_1, val_main_cst_2]
  rw [sitofp_num _ (by omega), sitofp_num _ (by omega)]
  rfl

theorem at_v38 (b : Fin 2) (i : Fin 2064) (h : Fin 4) (d : Fin 256) :
    val_main_v38 (F := Ideal) x0 (ix4 b i h d) = rq (pOf x0) b h (row i) d := by
  pointwise [val_main_v26, val_main_v27, val_main_v28, val_main_v29, val_main_v30, val_main_v31, val_main_v32, val_main_v33, val_main_v34, val_main_v35, val_main_v36, val_main_v37, val_main_v38, val_main_v25, val_main_v23]
  simp only [at_v9, at_v22, at_v24]
  rfl

theorem at_v68 (b : Fin 2) (i : Fin 2064) (h : Fin 4) (d : Fin 256) :
    val_main_v68 (F := Ideal) x0 (ix4 b i h d) = rk (pOf x0) b h (row i) d := by
  pointwise [val_main_v56, val_main_v57, val_main_v58, val_main_v59, val_main_v60, val_main_v61, val_main_v62, val_main_v63, val_main_v64, val_main_v65, val_main_v66, val_main_v67, val_main_v68, val_main_v55, val_main_v53]
  simp only [at_v39, at_v52, at_v54]
  rfl

theorem at_v70 (b : Fin 2) (i : Fin 2064) (h : Fin 4) (d : Fin 256) :
    val_main_v70 (F := Ideal) x0 (ix4 b i h d) = rk (pOf x0) b h (row i) d * ksc := by
  pointwise [val_main_v70, val_main_v69, val_main_cst_3]
  rw [at_v68]
  rfl

theorem at_v79 (h : Fin 4) : val_main_v79 (F := Ideal) (ix1 h) = lgm h.1 := by
  pointwise [val_main_v72, val_main_v73, val_main_v74, val_main_v75, val_main_v76, val_main_v77, val_main_v78, val_main_v79, val_main_cst_4, val_main_cst_5, val_main_cst_6]
  rw [sitofp_num _ (by omega)]
  rfl

theorem at_v85 (i j : Fin 2064) : val_main_v85 (F := Ideal) (ix2 i j) = num i.1 - num j.1 := by
  pointwise [val_main_v80, val_main_v81, val_main_v82, val_main_v83, val_main_v84, val_main_v85]
  rw [sitofp_num _ (by omega), sitofp_num _ (by omega)]

theorem at_v87 (i j : Fin 2064) : val_main_v87 (F := Ideal) (ix2 i j) = BitVec.ofBool (decide (j.1 ≤ i.1)) := by
  pointwise [val_main_v87, val_main_v86, val_main_cst_7]
  rw [at_v85]
  congr 2
  simp only [num]
  rw [← EReal.coe_sub, EReal.coe_nonneg, sub_nonneg, Nat.cast_le]

theorem at_v98 (i j : Fin 2064) (h : Fin 4) : val_main_v98 (F := Ideal) (ix4 0 h i j) = dec h i.1 j.1 := by
  pointwise [val_main_v88, val_main_v89, val_main_v90, val_main_v91, val_main_v92, val_main_v93, val_main_v94, val_main_v95, val_main_v96, val_main_v98, val_main_call0_v0, val_main_call0_v1, val_main_call0_v2, val_main_cst_9, val_main_cst_8]
  rw [at_v87, at_v79, at_v85]
  unfold dec
  by_cases hij : j.1 ≤ i.1
  · rw [if_pos hij, decide_eq_true hij]
    show Ideal.exp _ = _
    simp only [num]
    rw [← EReal.coe_sub, max_eq_left (EReal.coe_nonneg.mpr (sub_nonneg.mpr (Nat.cast_le.mpr hij))), Nat.cast_sub hij]
  · rw [if_neg hij, decide_eq_false hij]
    show Ideal.ofBits .f32 0#32 = 0
    exact Ideal.ofBits_zero_f32

theorem at_v99 (b : Fin 2) (i j : Fin 2064) (h : Fin 4) : val_main_v99 (F := Ideal) (ix4 b h i j) = dec h i.1 j.1 := by
  pointwise [val_main_v99]
  exact at_v98 i j h

theorem at_v111 (b : Fin 2) (i j : Fin 2064) (h : Fin 4) : val_main_v111 (F := Ideal) (ix4 b h i j) = dec h i.1 j.1 := by
  pointwise [val_main_v111]
  exact at_v98 i j h

/-- The decayed scores. -/
theorem at_v100 (b : Fin 2) (i j : Fin 2064) (h : Fin 4) :
    val_main_v100 (F := Ideal) x0 (ix4 b h i j) = scr (pOf x0) b h i j := by
  pointwise [val_main_v100, val_main_v97]
  simp only [at_v38, at_v70, at_v99]
  rfl

/-- The cotangent by heads. -/
theorem at_v107 (b : Fin 2) (i : Fin 2064) (h : Fin 4) (c : Fin 512) :
    val_main_v107 (F := Ideal) x1 (ix4 b h c i) = gg b h (gOf x1) i c := by
  pointwise [val_main_v107, val_main_v106, val_main_v105]
  rfl

/-- The decayed cotangent of the scores. -/
theorem at_v112 (b : Fin 2) (i j : Fin 2064) (h : Fin 4) :
    val_main_v112 (F := Ideal) x0 x1 (ix4 b h i j) = dscr (pOf x0) b h (gOf x1) i j := by
  pointwise [val_main_v112, val_main_v108]
  simp only [at_v107, at_v71, at_v111]
  rfl

theorem at_v119 (b : Fin 2) (j : Fin 2064) (h : Fin 4) (d : Fin 256) : val_main_v119 (F := Ideal) x0 x1 (ix4 b j h d)
    = (∑ i, dscr (pOf x0) b h (gOf x1) i j * rq (pOf x0) b h (row i) d) * ksc := by
  pointwise [val_main_v119, val_main_v118, val_main_v114, val_main_v113, val_main_cst_10]
  simp only [at_v112, at_v38]
  rfl

theorem at_v116 (b : Fin 2) (i : Fin 2064) (h : Fin 4) (d : Fin 256) : val_main_v116 (F := Ideal) x0 x1 (ix4 b i h d)
    = ∑ j, dscr (pOf x0) b h (gOf x1) i j * (rk (pOf x0) b h (row j) d * ksc) := by
  pointwise [val_main_v116, val_main_v115]
  simp only [at_v112, at_v70]

/-- The rotation back, as two padded halves added. -/
theorem unrope_pads (x : Fin 256 → EReal) (c s : Fin 128 → EReal) (d : Fin 256) :
    ((if h : 128 ≤ d.1 ∧ d.1 - 128 < 128 then x ⟨128 + (d.1 - 128), by omega⟩ * c ⟨d.1 - 128, by omega⟩
        + -x ⟨d.1 - 128, by omega⟩ * s ⟨d.1 - 128, by omega⟩ else 0)
      + if h : d.1 < 128 then x ⟨128 + d.1, by omega⟩ * s ⟨d.1, h⟩ + x d * c ⟨d.1, h⟩ else 0) = unrope x c s d := by
  unfold unrope
  by_cases h : d.1 < 128
  · rw [dif_neg (by omega), dif_pos h, dif_pos h, zero_add, add_comm]
  · rw [dif_pos (by omega), dif_neg h, dif_neg h, add_zero, neg_mul, sub_eq_add_neg]

/-- The queries' cotangent by heads. -/
theorem at_v152 (b : Fin 2) (i : Fin 2064) (h : Fin 4) (d : Fin 256) :
    val_main_v152 (F := Ideal) x0 x1 (ix4 b i h d) = gradQ (pOf x0) b h (gOf x1) i d := by
  pointwise [val_main_v137, val_main_v138, val_main_v139, val_main_v140, val_main_v141, val_main_v142, val_main_v143, val_main_v144, val_main_v145, val_main_v146, val_main_v147, val_main_v148, val_main_v149, val_main_v150, val_main_v151, val_main_v152, val_main_v25, val_main_v23, val_main_cst_13, val_main_cst_14]
  simp only [at_v116, at_v22, at_v24]
  exact unrope_pads (fun e => ∑ j, dscr (pOf x0) b h (gOf x1) i j * (rk (pOf x0) b h (row j) e * ksc)) (co i.1) (si i.1) d

/-- The keys' cotangent by heads. -/
theorem at_v135 (b : Fin 2) (i : Fin 2064) (h : Fin 4) (d : Fin 256) :
    val_main_v135 (F := Ideal) x0 x1 (ix4 b i h d) = gradK (pOf x0) b h (gOf x1) i d := by
  pointwise [val_main_v120, val_main_v121, val_main_v122, val_main_v123, val_main_v124, val_main_v125, val_main_v126, val_main_v127, val_main_v128, val_main_v129, val_main_v130, val_main_v131, val_main_v132, val_main_v133, val_main_v134, val_main_v135, val_main_v55, val_main_v53, val_main_cst_11, val_main_cst_12]
  simp only [at_v119, at_v52, at_v54]
  exact unrope_pads (fun e => (∑ k, dscr (pOf x0) b h (gOf x1) k i * rq (pOf x0) b h (row k) e) * ksc) (co i.1) (si i.1) d

theorem zero_word {φ : FTy} : (FloatOps.sitofp (F := Ideal) φ (0#32) : EReal) = 0 := by
  show ((((0#32 : BitVec 32).toInt : ℤ) : ℝ) : EReal) = 0
  simp

/-- The first result: the queries' cotangent, zero in the added rows. -/
theorem at_v157 (b : Fin 2) (i : Fin 2176) (n : Fin 1024) : val_main_v157 (F := Ideal) x0 x1 (ix3 b i n)
    = if hi : i.1 < 2064 then gradQ (pOf x0) b ⟨n.1 / 256, by omega⟩ (gOf x1) ⟨i.1, hi⟩ ⟨n.1 % 256, by omega⟩ else 0 := by
  pointwise [val_main_v157, val_main_v156, val_main_v153, val_main_call1_v0, val_main_c]
  simp only [at_v152, zero_word]

/-- The second result: the keys' cotangent, zero in the added rows. -/
theorem at_v158 (b : Fin 2) (i : Fin 2176) (n : Fin 1024) : val_main_v158 (F := Ideal) x0 x1 (ix3 b i n)
    = if hi : i.1 < 2064 then gradK (pOf x0) b ⟨n.1 / 256, by omega⟩ (gOf x1) ⟨i.1, hi⟩ ⟨n.1 % 256, by omega⟩ else 0 := by
  pointwise [val_main_v158, val_main_v155, val_main_v136, val_main_call2_v0, val_main_c_15]
  simp only [at_v135, zero_word]

/-- The third result: the values' cotangent, zero in the added rows. -/
theorem at_v159 (b : Fin 2) (i : Fin 2176) (n : Fin 2048) : val_main_v159 (F := Ideal) x0 x1 (ix3 b i n)
    = if hi : i.1 < 2064 then gradV (pOf x0) b ⟨n.1 / 512, by omega⟩ (gOf x1) ⟨i.1, hi⟩ ⟨n.1 % 512, by omega⟩ else 0 := by
  pointwise [val_main_v159, val_main_v154, val_main_v117, val_main_v110, val_main_v109, val_main_call3_v0, val_main_c_16]
  simp only [at_v107, at_v100, zero_word]
  rfl

end Cert.ReferenceIdeal.Read

end
-- ==== Proof.Norms.lean ====
module

public import Idealize.ShloMosaic.Lib.Pipeline.ValueKit
public import Idealize.ShloMosaic.Lib.Pointwise

/-! The norms of a row, as the programs take them. -/

@[expose] public section

noncomputable section

namespace Cert.Norms

open Idealize.ShloMosaic

variable {K : ℕ} (n : EReal) (x : Fin K → EReal)

/-- The norms' small constant. -/
abbrev eps : EReal := Ideal.ofBits .f32 0x3727C5AC#32

/-- A row's mean, its length given. -/
def mean : EReal := Ideal.div (∑ k, x k) n

/-- A row less its mean. -/
def centred (k : Fin K) : EReal := x k - mean n x

/-- The reciprocal of a row's root mean square. -/
def rstd : EReal := Ideal.rsqrt (mean n (fun k => x k * x k) + eps)

/-- The logistic function, as the programs write it. -/
def sigma (a : EReal) : EReal := Ideal.div 1 (1 + Ideal.exp (-a))

/-- The layer norm. -/
def layer (g b : Fin K → EReal) (k : Fin K) : EReal := centred n x k * rstd n (centred n x) * g k + b k

/-- The norm without a mean. -/
def rms (g : Fin K → EReal) (k : Fin K) : EReal := x k * rstd n x * g k

theorem layer_eq {n : EReal} {x x' g g' b b' : Fin K → EReal} (hx : ∀ k, x k = x' k) (hg : ∀ k, g k = g' k) (hb : ∀ k, b k = b' k)
    (k : Fin K) : layer n x g b k = layer n x' g' b' k := by
  rw [funext hx, funext hg, funext hb]

theorem rms_eq {n : EReal} {x x' g g' : Fin K → EReal} (hx : ∀ k, x k = x' k) (hg : ∀ k, g k = g' k) (k : Fin K) :
    rms n x g k = rms n x' g' k := by
  rw [funext hx, funext hg]

/-- An index of a single row is its column. -/
theorem idx_one (y : (⟨2, ![1, K]⟩ : Shape).Idx) : y = ix2 0 (y 1) := by
  funext a
  fin_cases a
  · exact Subsingleton.elim (α := Fin 1) _ _
  · rfl

variable {M : ℕ}

/-- The layer norm of every row. -/
def layerRows (z : (⟨2, ![M, K]⟩ : Shape).Idx → EReal) (g b : (⟨2, ![1, K]⟩ : Shape).Idx → EReal) : (⟨2, ![M, K]⟩ : Shape).Idx → EReal := fun y =>
  layer n (fun k => z (ix2 (y 0) k)) (fun k => g (ix2 0 k)) (fun k => b (ix2 0 k)) (y 1)

end Cert.Norms
end
-- ==== Proof.Consts.lean ====
module

public import Idealize.ShloMosaic.PureOps.Ideal

/-! The real numbers that the programs' literals are. -/

@[expose] public section

noncomputable section

namespace Cert.Consts

open Idealize.ShloMosaic

theorem lit_2 : Ideal.ofBits .f32 0x40000000#32 = ((2 : ℝ) : EReal) := by
  simp [Ideal.ofBits, Ideal.ieee, -EReal.coe_mul]; norm_num

theorem lit_half : Ideal.ofBits .f32 0xBF000000#32 = ((-(1 / 2) : ℝ) : EReal) := by
  simp [Ideal.ofBits, Ideal.ieee, -EReal.coe_mul]; norm_num

theorem lit_1 : Ideal.ofBits .f32 0x3F800000#32 = ((1 : ℝ) : EReal) := by
  simp [Ideal.ofBits, Ideal.ieee, -EReal.coe_mul]; norm_num

theorem lit_1024 : Ideal.ofBits .f32 0x44800000#32 = ((1024 : ℝ) : EReal) := by
  simp [Ideal.ofBits, Ideal.ieee, -EReal.coe_mul]; norm_num

theorem lit_512 : Ideal.ofBits .f32 0x44000000#32 = ((512 : ℝ) : EReal) := by
  simp [Ideal.ofBits, Ideal.ieee, -EReal.coe_mul]; norm_num

theorem lit_256 : Ideal.ofBits .f32 0x43800000#32 = ((256 : ℝ) : EReal) := by
  simp [Ideal.ofBits, Ideal.ieee, -EReal.coe_mul]; norm_num

theorem lit_128 : Ideal.ofBits .f32 0x43000000#32 = ((128 : ℝ) : EReal) := by
  simp [Ideal.ofBits, Ideal.ieee, -EReal.coe_mul]; norm_num

theorem lit_inf : Ideal.ofBits .f32 0x7F800000#32 = ⊤ := by
  simp [Ideal.ofBits, Ideal.ieee, -EReal.coe_mul]

theorem lit_inf16 : Ideal.ofBits .bf16 0x7F80#16 = ⊤ := by
  simp [Ideal.ofBits, Ideal.ieee, -EReal.coe_mul]

/-- The norms' small constant, a positive real. -/
def eps : ℝ := 10995116 / 1099511627776

theorem lit_eps : Ideal.ofBits .f32 0x3727C5AC#32 = ((eps : ℝ) : EReal) := by
  simp [Ideal.ofBits, Ideal.ieee, -EReal.coe_mul, eps]; norm_num

theorem eps_pos : 0 < eps := by unfold eps; norm_num

/-- The square root of two, taken by the program. -/
theorem sqrt_2 : Ideal.sqrt (Ideal.ofBits .f32 0x40000000#32) = ((Real.sqrt 2 : ℝ) : EReal) := by
  rw [lit_2, Ideal.sqrt_coe, if_neg (by norm_num)]

end Cert.Consts
end
-- ==== Proof.Vjp.lean ====
module

public import proofs.«01_k».proof.Proof.Norms
public import proofs.«01_k».proof.Proof.Consts
public import Idealize.ShloMosaic.Lib.ReduceAll

/-! The norms' derivatives: the form the kernels compute is the form reverse mode takes, over the reals. -/

@[expose] public section

noncomputable section

namespace Cert.Norms

open Idealize.ShloMosaic

variable {K : ℕ}

/-- The cotangent of a row under the norm without a mean, as the kernels take it. -/
def rmsGrad (n : EReal) (x y : Fin K → EReal) (k : Fin K) : EReal :=
  rstd n x * (y k - x k * rstd n x * mean n (fun k => y k * (x k * rstd n x)))

theorem rmsGrad_eq {n : EReal} {x x' y y' : Fin K → EReal} (hx : ∀ k, x k = x' k) (hy : ∀ k, y k = y' k) (k : Fin K) :
    rmsGrad n x y k = rmsGrad n x' y' k := by
  rw [funext hx, funext hy]

/-- The cotangent of the columns that are normalized, row by row. -/
def rmsRows {M L : ℕ} (n : EReal) (lat : Fin K → Fin L) (p : (⟨2, ![M, L]⟩ : Shape).Idx → EReal) (g : (⟨2, ![1, K]⟩ : Shape).Idx → EReal)
    (y : (⟨2, ![M, K]⟩ : Shape).Idx → EReal) : (⟨2, ![M, K]⟩ : Shape).Idx → EReal := fun x =>
  rmsGrad n (fun k => p (ix2 (x 0) (lat k))) (fun k => y (ix2 (x 0) k) * g (ix2 0 k)) (x 1)

/-- The gradient of the scale of the norm without a mean. -/
def rmsScale {M L : ℕ} (n : EReal) (lat : Fin K → Fin L) (p : (⟨2, ![M, L]⟩ : Shape).Idx → EReal)
    (y : (⟨2, ![M, K]⟩ : Shape).Idx → EReal) : (⟨2, ![1, K]⟩ : Shape).Idx → EReal := fun x =>
  ∑ r : Fin M, y (ix2 r (x 1)) * (p (ix2 r (lat (x 1))) * rstd n (fun k => p (ix2 r (lat k))))

/-- The cotangent of a row under the layer norm, as the kernels take it. -/
def layerGrad (n : EReal) (x y : Fin K → EReal) (k : Fin K) : EReal :=
  rstd n (centred n x) * (y k - mean n y
    - centred n x k * rstd n (centred n x) * mean n (fun k => y k * (centred n x k * rstd n (centred n x))))

/-- The cotangent of the mean of the squares, by reverse mode. -/
def slope (n : EReal) (x y : Fin K → EReal) : EReal :=
  Ideal.div ((∑ k, x k * y k) * (Ideal.ofBits .f32 0xBF000000#32 * Ideal.div (rstd n x) (mean n (fun k => x k * x k) + eps))) n

/-- The cotangent of a row under the norm without a mean, by reverse mode. -/
def rmsVjp (n : EReal) (x y : Fin K → EReal) (k : Fin K) : EReal :=
  y k * rstd n x + slope n x y * (Ideal.ofBits .f32 0x40000000#32 * x k)

/-- The cotangent of a row under the layer norm, by reverse mode. -/
def layerVjp (n : EReal) (x y : Fin K → EReal) (k : Fin K) : EReal :=
  rmsVjp n (centred n x) y k + Ideal.div (∑ k, -rmsVjp n (centred n x) y k) n

namespace Real

variable (n : ℝ) (x y : Fin K → ℝ)

theorem sum_coe : (∑ k, (x k : EReal)) = ((∑ k, x k : ℝ) : EReal) := by
  induction K with
  | zero => simp
  | succ K ih => rw [Fin.sum_univ_succ, Fin.sum_univ_succ, EReal.coe_add, ih]

/-- A real row's mean. -/
def mean : ℝ := (∑ k, x k) * (1 / n)

/-- The mean of a real row's squares, a positive constant added. -/
def var : ℝ := mean n (fun k => x k * x k) + Consts.eps

/-- The reciprocal of a real row's root mean square. -/
def rstd : ℝ := (_root_.Real.sqrt (var n x))⁻¹

variable {n}

theorem mean_coe (hn : 0 < n) : Norms.mean n (fun k => (x k : EReal)) = ((mean n x : ℝ) : EReal) := by
  rw [Norms.mean, sum_coe, Ideal.div_coe hn.ne', ← EReal.coe_mul]
  rfl

theorem var_coe (hn : 0 < n) : Norms.mean n (fun k => ((x k * x k : ℝ) : EReal)) + eps = ((var n x : ℝ) : EReal) := by
  rw [mean_coe _ hn, eps, Consts.lit_eps, ← EReal.coe_add]
  rfl

theorem var_pos (hn : 0 < n) : 0 < var n x :=
  add_pos_of_nonneg_of_pos (mul_nonneg (Finset.sum_nonneg fun k _ => mul_self_nonneg (x k)) (by positivity)) Consts.eps_pos

theorem rstd_coe (hn : 0 < n) : Norms.rstd n (fun k => (x k : EReal)) = ((rstd n x : ℝ) : EReal) := by
  simp only [Norms.rstd, ← EReal.coe_mul]
  rw [var_coe x hn, Ideal.rsqrt_coe, if_neg (not_lt.mpr (var_pos x hn).le), if_neg (var_pos x hn).ne']
  rfl

theorem rstd_sq (hn : 0 < n) : rstd n x * rstd n x = 1 / var n x := by
  rw [rstd, ← mul_inv, _root_.Real.mul_self_sqrt (var_pos x hn).le, one_div]

/-- The cotangent under the norm without a mean, of real rows. -/
def rmsGrad (n : ℝ) (x y : Fin K → ℝ) (k : Fin K) : ℝ := rstd n x * (y k - x k * rstd n x * mean n (fun k => y k * (x k * rstd n x)))

theorem rmsGrad_coe (hn : 0 < n) (k : Fin K) :
    Norms.rmsGrad n (fun k => (x k : EReal)) (fun k => (y k : EReal)) k = ((rmsGrad n x y k : ℝ) : EReal) := by
  simp only [Norms.rmsGrad, rstd_coe x hn, ← EReal.coe_mul]
  rw [mean_coe _ hn, ← EReal.coe_mul, ← EReal.coe_sub, ← EReal.coe_mul]
  rfl

theorem rmsVjp_coe (hn : 0 < n) (k : Fin K) :
    Norms.rmsVjp n (fun k => (x k : EReal)) (fun k => (y k : EReal)) k = ((rmsGrad n x y k : ℝ) : EReal) := by
  simp only [Norms.rmsVjp, Norms.slope, rstd_coe x hn, var_coe x hn, Consts.lit_half, Consts.lit_2, Ideal.div_coe (var_pos x hn).ne',
    Ideal.div_coe hn.ne', ← EReal.coe_mul, sum_coe, ← EReal.coe_add, EReal.coe_eq_coe_iff]
  rw [← rstd_sq x hn, rmsGrad, mean]
  have h : (∑ k, y k * (x k * rstd n x)) = (∑ k, x k * y k) * rstd n x := by
    rw [Finset.sum_mul]
    exact Finset.sum_congr rfl fun k _ => by ring
  rw [h]
  ring

theorem centred_coe (hn : 0 < n) (k : Fin K) : centred n (fun k => (x k : EReal)) k = ((x k - mean n x : ℝ) : EReal) := by
  rw [centred, mean_coe x hn, ← EReal.coe_sub]

end Real

/-- The two forms of the cotangent under the norm without a mean are one, of real rows. -/
theorem rmsVjp_eq {n : ℝ} (hn : 0 < n) (x y : Fin K → ℝ) (k : Fin K) :
    rmsVjp n (fun k => (x k : EReal)) (fun k => (y k : EReal)) k = rmsGrad n (fun k => (x k : EReal)) (fun k => (y k : EReal)) k :=
  (Real.rmsVjp_coe x y hn k).trans (Real.rmsGrad_coe x y hn k).symm

/-- The two forms of the cotangent under the layer norm are one, of real rows of the length divided by. -/
theorem layerVjp_eq {n : ℝ} (hn : 0 < n) (hK : (K : ℝ) = n) (x y : Fin K → ℝ) (k : Fin K) :
    layerVjp n (fun k => (x k : EReal)) (fun k => (y k : EReal)) k = layerGrad n (fun k => (x k : EReal)) (fun k => (y k : EReal)) k := by
  have hc : centred n (fun k => (x k : EReal)) = fun k => ((x k - Real.mean n x : ℝ) : EReal) := funext (Real.centred_coe x hn)
  unfold layerVjp layerGrad
  rw [hc]
  obtain ⟨z, hz⟩ : ∃ z : Fin K → ℝ, ∀ k, x k - Real.mean n x = z k := ⟨_, fun _ => rfl⟩
  have h0 : ∑ k, z k = 0 := by
    rw [← Finset.sum_congr rfl fun k _ => hz k, Finset.sum_sub_distrib, Finset.sum_const, Finset.card_univ, Fintype.card_fin, nsmul_eq_mul, hK, Real.mean]
    field_simp
    ring
  simp only [hz, Real.rmsVjp_coe z y hn]
  simp only [Real.rstd_coe z hn, ← EReal.coe_mul, ← EReal.coe_neg]
  rw [Real.sum_coe, Real.mean_coe _ hn, Real.mean_coe _ hn, Ideal.div_coe hn.ne']
  simp only [← EReal.coe_mul, ← EReal.coe_sub, ← EReal.coe_add, EReal.coe_eq_coe_iff]
  have h1 : ∑ k, -Real.rmsGrad n z y k = -(Real.rstd n z * ∑ k, y k) := by
    have h2 : ∀ k, Real.rmsGrad n z y k = Real.rstd n z * y k
        - Real.rstd n z * Real.rstd n z * Real.mean n (fun k => y k * (z k * Real.rstd n z)) * z k := fun k => by
      rw [Real.rmsGrad]
      ring
    simp only [h2, Finset.sum_neg_distrib, Finset.sum_sub_distrib, ← Finset.mul_sum, h0, mul_zero, sub_zero]
  rw [h1, Real.rmsGrad]
  simp only [Real.mean]
  ring

/-- A sum that is a real has a real first term. -/
theorem real_of_add {a b : EReal} (h : ∃ r : ℝ, a + b = r) : ∃ r : ℝ, a = r := by
  obtain ⟨r, h⟩ := h
  induction a with
  | bot => rw [EReal.bot_add] at h; exact absurd h.symm (EReal.coe_ne_bot r)
  | coe a => exact ⟨a, rfl⟩
  | top =>
    induction b with
    | bot => rw [EReal.add_bot] at h; exact absurd h.symm (EReal.coe_ne_bot r)
    | coe b => rw [EReal.top_add_coe] at h; exact absurd h.symm (EReal.coe_ne_top r)
    | top => rw [EReal.top_add_top] at h; exact absurd h.symm (EReal.coe_ne_top r)

theorem sq_nonneg (a : EReal) : 0 ≤ a * a := by
  induction a with
  | bot => rw [EReal.bot_mul_bot]; exact le_top
  | coe a => rw [← EReal.coe_mul]; exact EReal.coe_nonneg.mpr (mul_self_nonneg a)
  | top => rw [EReal.top_mul_top]; exact le_top

theorem sq_top {a : EReal} (h : ¬∃ r : ℝ, a = r) : a * a = ⊤ := by
  induction a with
  | bot => exact EReal.bot_mul_bot
  | coe a => exact absurd ⟨a, rfl⟩ h
  | top => exact EReal.top_mul_top

/-- The mean of the squares of a row with an infinite entry. -/
theorem var_top {n : ℝ} (hn : 0 < n) {x : Fin K → EReal} (h : ¬∀ k, ∃ r : ℝ, x k = r) : mean n (fun k => x k * x k) + eps = ⊤ := by
  obtain ⟨j, hj⟩ := not_forall.mp h
  have e : (∑ k, x k * x k) = ⊤ :=
    top_le_iff.mp ((sq_top hj).symm.le.trans (Finset.single_le_sum (f := fun k => x k * x k) (fun k _ => sq_nonneg (x k)) (Finset.mem_univ j)))
  rw [mean, e, Ideal.div_coe hn.ne', EReal.top_mul_coe_of_pos (by positivity), eps, Consts.lit_eps, EReal.top_add_coe]

/-- Such a row's factor vanishes. -/
theorem rstd_zero {n : ℝ} (hn : 0 < n) {x : Fin K → EReal} (h : ¬∀ k, ∃ r : ℝ, x k = r) : rstd n x = 0 := by
  rw [rstd, var_top hn h, Ideal.rsqrt_top]

theorem div_zero_left {a : EReal} (h : a ≠ 0) : Ideal.div 0 a = 0 := by
  rw [Ideal.div, if_neg h, zero_mul]

/-- So does reverse mode's form of its cotangent. -/
theorem rmsVjp_zero {n : ℝ} (hn : 0 < n) {x : Fin K → EReal} (h : ¬∀ k, ∃ r : ℝ, x k = r) (y : Fin K → EReal) (k : Fin K) :
    rmsVjp n x y k = 0 := by
  rw [rmsVjp, slope, rstd_zero hn h, var_top hn h, div_zero_left EReal.top_ne_zero, mul_zero, mul_zero, mul_zero,
    div_zero_left (EReal.coe_ne_zero.mpr hn.ne'), zero_mul, add_zero]

/-- The two forms of the cotangent under the norm without a mean are one, of real cotangents. -/
theorem rmsVjp_of {n : ℝ} (hn : 0 < n) {x y : Fin K → EReal} (hy : ∀ k, ∃ r : ℝ, y k = r) (k : Fin K) :
    rmsVjp n x y k = rmsGrad n x y k := by
  by_cases hx : ∀ k, ∃ r : ℝ, x k = r
  · choose x' hx using hx
    choose y' hy using hy
    rw [funext hx, funext hy]
    exact rmsVjp_eq hn x' y' k
  · rw [rmsVjp_zero hn hx, rmsGrad, rstd_zero hn hx, zero_mul]

/-- The two forms of the cotangent under the layer norm are one, of real cotangents. -/
theorem layerVjp_of {n : ℝ} (hn : 0 < n) (hK : (K : ℝ) = n) {x y : Fin K → EReal} (hy : ∀ k, ∃ r : ℝ, y k = r) (k : Fin K) :
    layerVjp n x y k = layerGrad n x y k := by
  by_cases hx : ∀ k, ∃ r : ℝ, x k = r
  · choose x' hx using hx
    choose y' hy using hy
    rw [funext hx, funext hy]
    exact layerVjp_eq hn hK x' y' k
  · have h : ¬∀ k, ∃ r : ℝ, centred n x k = r := fun h => hx fun k => by
      obtain ⟨r, h⟩ := h k
      rw [centred, sub_eq_add_neg] at h
      exact real_of_add ⟨r, h⟩
    rw [layerVjp, rmsVjp_zero hn h, layerGrad, rstd_zero hn h, zero_mul]
    simp only [rmsVjp_zero hn h, neg_zero, Finset.sum_const_zero]
    rw [div_zero_left (EReal.coe_ne_zero.mpr hn.ne'), add_zero]

/-- A row's entry times its factor is real. -/
theorem hat_real {n : ℝ} (hn : 0 < n) (x : Fin K → EReal) (k : Fin K) : ∃ r : ℝ, x k * rstd n x = r := by
  by_cases hx : ∀ k, ∃ r : ℝ, x k = r
  · choose x' hx using hx
    rw [funext hx, Real.rstd_coe x' hn, ← EReal.coe_mul]
    exact ⟨_, rfl⟩
  · rw [rstd_zero hn hx, mul_zero]
    exact ⟨0, rfl⟩

theorem real_mul {a b : EReal} (ha : ∃ r : ℝ, a = r) (hb : ∃ r : ℝ, b = r) : ∃ r : ℝ, a * b = r := by
  obtain ⟨r, rfl⟩ := ha
  obtain ⟨s, rfl⟩ := hb
  exact ⟨r * s, (EReal.coe_mul r s).symm⟩

/-- Reverse mode's form, row by row, of a finite cotangent and scale. -/
theorem rmsRows_of {M L : ℕ} {n : EReal} {n' : ℝ} (e : n = n') (hn : 0 < n') {lat : Fin K → Fin L}
    {p : (⟨2, ![M, L]⟩ : Shape).Idx → EReal} {g : (⟨2, ![1, K]⟩ : Shape).Idx → EReal} {y f : (⟨2, ![M, K]⟩ : Shape).Idx → EReal}
    (h : ∀ i k, f (ix2 i k) = rmsVjp n (fun k => p (ix2 i (lat k))) (fun k => y (ix2 i k) * g (ix2 0 k)) k)
    (hg : ∀ x, ∃ r : ℝ, g x = r) (hy : ∀ x, ∃ r : ℝ, y x = r) : f = rmsRows n lat p g y := by
  subst e
  funext x
  obtain ⟨i, j, rfl⟩ : ∃ (i : Fin M) (j : Fin K), x = ix2 i j := ⟨x 0, x 1, by funext a; fin_cases a <;> rfl⟩
  exact (h i j).trans (rmsVjp_of hn (fun k => real_mul (hy _) (hg _)) j)

/-- What lies below infinity in absolute value is a real. -/
theorem real_of_abs {φ : FTy} {a b : Ideal φ} (hb : b = (⊤ : EReal)) (h : FloatOps.cmpf .olt (FloatOps.hostAbsf a) b = 1#1) :
    ∃ r : ℝ, (a : EReal) = r := by
  have h1 : max (a : EReal) (-a) < ⊤ := by
    by_contra h2
    have h3 : (max (a : EReal) (-a) < (b : EReal)) = False := by rw [hb]; exact eq_false h2
    have h4 : BitVec.ofBool (decide (max (a : EReal) (-a) < (b : EReal))) = 1#1 := h
    simp [h3] at h4
  obtain ⟨h2, h3⟩ := max_lt_iff.mp h1
  refine ⟨EReal.toReal a, (EReal.coe_toReal h2.ne fun h => ?_).symm⟩
  rw [h] at h3
  exact absurd h3 (by simp)

/-- The logistic function of a real. -/
theorem sigma_coe (a : ℝ) : sigma (a : EReal) = ((1 / (1 + _root_.Real.exp (-a)) : ℝ) : EReal) := by
  have h : (1 + _root_.Real.exp (-a)) ≠ 0 := (add_pos one_pos (_root_.Real.exp_pos _)).ne'
  rw [sigma, ← EReal.coe_neg, Ideal.exp_coe, ← EReal.coe_one, ← EReal.coe_add, Ideal.div_coe h, ← EReal.coe_mul, one_mul]

end Cert.Norms
end
-- ==== Proof.Finite.lean ====
module

public import proofs.«01_k».proof.Defs
public import proofs.«01_k».proof.Proof.Vjp
public import proofs.«01_k».proof.Proof.Gen.RefGateBwdIdeal.Read

/-! What the preconditions say: every entry of the scale, or of the gate, and of the cotangent is a real number. -/

@[expose] public section

set_option maxRecDepth 65536

noncomputable section

namespace Cert.Finite

open Idealize.ShloMosaic

/-- The shape of no axes. -/
abbrev unit : Shape := ⟨0, ![]⟩

instance : Subsingleton unit.Idx := ⟨fun _ _ => funext fun a => a.elim0⟩

theorem bit_and : ∀ a b : BitVec 1, IntOp.andi a b = 1#1 → a = 1#1 ∧ b = 1#1 := by decide

/-- A comparison of an array's absolute values with infinity that holds at every entry. -/
theorem of_reduce {s : Shape} {axes : List (Fin s.rank)} {φ : FTy} {x b : FVec Ideal s φ} {v : IVec unit 1} {h : s.ReducesTo axes unit}
    {hu : 0 < unit.numel} {j : unit.Idx} (hb : ∀ i, b i = (⊤ : EReal))
    (e : Host.reduce IntOp.andi (cmpf .olt (Host.absf x) b) v h hu j = 1#1) (i : s.Idx) : ∃ r : ℝ, (x i : EReal) = r :=
  Norms.real_of_abs (hb i) (Host.reduce_andi_all _ _ h hu j e i)

instance facts_norm : Cert.Pre_real_norm.Facts where
  bcast_S_S1x1024 := by decide
  reducesTo_S1x1024_S_d0_1 := by decide
  h_S_ := by decide
  bcast_S_S4352x1024 := by decide
  reducesTo_S4352x1024_S_d0_1 := by decide

instance facts_gate : Cert.Pre_real_gate.Facts where
  slices_S4352x6144_S4352x1024_0_0 := by decide
  slices_S4352x6144_S4352x1024_0_1024 := by decide
  slices_S4352x6144_S4352x2048_0_2048 := by decide
  slices_S4352x6144_S4352x2048_0_4096 := by decide
  bitsLt_bf16_f32 := by decide
  bcast_S_S4352x2048 := by decide
  reducesTo_S4352x2048_S_d0_1 := by decide
  h_S_ := by decide

instance facts_q_norm : Cert.Pre_real_q_norm.Facts where
  bcast_S_S1x256 := by decide
  reducesTo_S1x256_S_d0_1 := by decide
  h_S_ := by decide
  bcast_S_S4352x256 := by decide
  reducesTo_S4352x256_S_d0_1 := by decide

instance facts_kv_norm : Cert.Pre_real_kv_norm.Facts where
  bcast_S_S1x128 := by decide
  reducesTo_S1x128_S_d0_1 := by decide
  h_S_ := by decide
  bcast_S_S4352x128 := by decide
  reducesTo_S4352x128_S_d0_1 := by decide

/-- Two arrays whose comparisons' conjunctions a predicate joins are finite. -/
theorem both {s s' : Shape} {φ φ' : FTy} {axes : List (Fin s.rank)} {axes' : List (Fin s'.rank)} {x b : FVec Ideal s φ} {x' b' : FVec Ideal s' φ'}
    {v v' : IVec unit 1} {h : s.ReducesTo axes unit} {h' : s'.ReducesTo axes' unit} {hu hu' : 0 < unit.numel}
    (hb : ∀ i, b i = (⊤ : EReal)) (hb' : ∀ i, b' i = (⊤ : EReal))
    (e : andi (Host.reduce IntOp.andi (cmpf .olt (Host.absf x) b) v h hu) (Host.reduce IntOp.andi (cmpf .olt (Host.absf x') b') v' h' hu')
      = fun _ => 1#1) : (∀ i, ∃ r : ℝ, (x i : EReal) = r) ∧ (∀ i, ∃ r : ℝ, (x' i : EReal) = r) := by
  obtain ⟨h0, h1⟩ := bit_and _ _ (congrFun e (fun a => a.elim0))
  exact ⟨of_reduce hb h0, of_reduce hb' h1⟩

theorem norm {z : FVec Ideal Cert.Pre_real_norm.S4352x1024 .f32} {g : FVec Ideal Cert.Pre_real_norm.S1x1024 .f32}
    {y : FVec Ideal Cert.Pre_real_norm.S4352x1024 .f32} (e : Cert.Pre_real_norm.fn (F := Ideal) z g y = fun _ => 1#1) :
    (∀ x, ∃ r : ℝ, (g x : EReal) = r) ∧ (∀ x, ∃ r : ℝ, (y x : EReal) = r) :=
  both (fun _ => Consts.lit_inf) (fun _ => Consts.lit_inf) e

theorem gate {o : FVec Ideal Cert.Pre_real_gate.S4352x2048 .f32} {p : FVec Ideal Cert.Pre_real_gate.S4352x6144 .bf16}
    {y : FVec Ideal Cert.Pre_real_gate.S4352x2048 .f32} (e : Cert.Pre_real_gate.fn (F := Ideal) o p y = fun _ => 1#1) :
    (∀ x, ∃ r : ℝ, (Cert.RefGateBwdIdeal.Read.val_main_v4 (F := Ideal) p x : EReal) = r) ∧ (∀ x, ∃ r : ℝ, (y x : EReal) = r) :=
  both (fun _ => Consts.lit_inf) (fun _ => Consts.lit_inf) e

theorem q_norm {p : FVec Ideal Cert.Pre_real_q_norm.S4352x1440 .f32} {g : FVec Ideal Cert.Pre_real_q_norm.S1x256 .f32}
    {y : FVec Ideal Cert.Pre_real_q_norm.S4352x256 .f32} (e : Cert.Pre_real_q_norm.fn (F := Ideal) p g y = fun _ => 1#1) :
    (∀ x, ∃ r : ℝ, (g x : EReal) = r) ∧ (∀ x, ∃ r : ℝ, (y x : EReal) = r) :=
  both (fun _ => Consts.lit_inf) (fun _ => Consts.lit_inf) e

theorem kv_norm {p : FVec Ideal Cert.Pre_real_kv_norm.S4352x1440 .f32} {g : FVec Ideal Cert.Pre_real_kv_norm.S1x128 .f32}
    {y : FVec Ideal Cert.Pre_real_kv_norm.S4352x128 .f32} (e : Cert.Pre_real_kv_norm.fn (F := Ideal) p g y = fun _ => 1#1) :
    (∀ x, ∃ r : ℝ, (g x : EReal) = r) ∧ (∀ x, ∃ r : ℝ, (y x : EReal) = r) :=
  both (fun _ => Consts.lit_inf) (fun _ => Consts.lit_inf) e

end Cert.Finite
end
-- ==== Proof.Frames.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Gen.W2Dx
public import proofs.«01_k».proof.Proof.Gen.W2Dx.Skeleton
public import proofs.«01_k».proof.Proof.Gen.W2Dx.Launch
public import proofs.«01_k».proof.Proof.Gen.W2Dx.Points
public import proofs.«01_k».proof.Proof.Gen.W2Dx.Frame
public import proofs.«01_k».proof.Proof.Gen.W2DxIdeal
public import proofs.«01_k».proof.Proof.Gen.W2DxIdeal.Skeleton
public import proofs.«01_k».proof.Proof.Gen.W2DxIdeal.Launch
public import proofs.«01_k».proof.Proof.Gen.W2DxIdeal.Points
public import proofs.«01_k».proof.Proof.Gen.W2DxIdeal.Frame
public import proofs.«01_k».proof.Proof.Gen.W2DxIdeal.Value
public import proofs.«01_k».proof.Proof.Gen.RefW2DxIdeal
public import proofs.«01_k».proof.Proof.Gen.RefW2DxIdeal.Run
public import proofs.«01_k».proof.Proof.Gen.RefW2DxIdeal.Read
public import proofs.«01_k».proof.Proof.Gen.W2Dw
public import proofs.«01_k».proof.Proof.Gen.W2Dw.Skeleton
public import proofs.«01_k».proof.Proof.Gen.W2Dw.Launch
public import proofs.«01_k».proof.Proof.Gen.W2Dw.Points
public import proofs.«01_k».proof.Proof.Gen.W2Dw.Frame
public import proofs.«01_k».proof.Proof.Gen.W2DwIdeal
public import proofs.«01_k».proof.Proof.Gen.W2DwIdeal.Skeleton
public import proofs.«01_k».proof.Proof.Gen.W2DwIdeal.Launch
public import proofs.«01_k».proof.Proof.Gen.W2DwIdeal.Points
public import proofs.«01_k».proof.Proof.Gen.W2DwIdeal.Frame
public import proofs.«01_k».proof.Proof.Gen.W2DwIdeal.Value
public import proofs.«01_k».proof.Proof.Gen.RefW2DwIdeal
public import proofs.«01_k».proof.Proof.Gen.RefW2DwIdeal.Run
public import proofs.«01_k».proof.Proof.Gen.RefW2DwIdeal.Read
public import proofs.«01_k».proof.Proof.Gen.W1Dx
public import proofs.«01_k».proof.Proof.Gen.W1Dx.Skeleton
public import proofs.«01_k».proof.Proof.Gen.W1Dx.Launch
public import proofs.«01_k».proof.Proof.Gen.W1Dx.Points
public import proofs.«01_k».proof.Proof.Gen.W1Dx.Frame
public import proofs.«01_k».proof.Proof.Gen.W1DxIdeal
public import proofs.«01_k».proof.Proof.Gen.W1DxIdeal.Skeleton
public import proofs.«01_k».proof.Proof.Gen.W1DxIdeal.Launch
public import proofs.«01_k».proof.Proof.Gen.W1DxIdeal.Points
public import proofs.«01_k».proof.Proof.Gen.W1DxIdeal.Frame
public import proofs.«01_k».proof.Proof.Gen.W1DxIdeal.Value
public import proofs.«01_k».proof.Proof.Gen.RefW1DxIdeal
public import proofs.«01_k».proof.Proof.Gen.RefW1DxIdeal.Run
public import proofs.«01_k».proof.Proof.Gen.RefW1DxIdeal.Read
public import proofs.«01_k».proof.Proof.Gen.W1Dw
public import proofs.«01_k».proof.Proof.Gen.W1Dw.Skeleton
public import proofs.«01_k».proof.Proof.Gen.W1Dw.Launch
public import proofs.«01_k».proof.Proof.Gen.W1Dw.Points
public import proofs.«01_k».proof.Proof.Gen.W1Dw.Frame
public import proofs.«01_k».proof.Proof.Gen.W1DwIdeal
public import proofs.«01_k».proof.Proof.Gen.W1DwIdeal.Skeleton
public import proofs.«01_k».proof.Proof.Gen.W1DwIdeal.Launch
public import proofs.«01_k».proof.Proof.Gen.W1DwIdeal.Points
public import proofs.«01_k».proof.Proof.Gen.W1DwIdeal.Frame
public import proofs.«01_k».proof.Proof.Gen.W1DwIdeal.Value
public import proofs.«01_k».proof.Proof.Gen.RefW1DwIdeal
public import proofs.«01_k».proof.Proof.Gen.RefW1DwIdeal.Run
public import proofs.«01_k».proof.Proof.Gen.RefW1DwIdeal.Read
public import proofs.«01_k».proof.Proof.Gen.InDx
public import proofs.«01_k».proof.Proof.Gen.InDx.Skeleton
public import proofs.«01_k».proof.Proof.Gen.InDx.Launch
public import proofs.«01_k».proof.Proof.Gen.InDx.Points
public import proofs.«01_k».proof.Proof.Gen.InDx.Frame
public import proofs.«01_k».proof.Proof.Gen.InDxIdeal
public import proofs.«01_k».proof.Proof.Gen.InDxIdeal.Skeleton
public import proofs.«01_k».proof.Proof.Gen.InDxIdeal.Launch
public import proofs.«01_k».proof.Proof.Gen.InDxIdeal.Points
public import proofs.«01_k».proof.Proof.Gen.InDxIdeal.Frame
public import proofs.«01_k».proof.Proof.Gen.InDxIdeal.Value
public import proofs.«01_k».proof.Proof.Gen.RefInDxIdeal
public import proofs.«01_k».proof.Proof.Gen.RefInDxIdeal.Run
public import proofs.«01_k».proof.Proof.Gen.RefInDxIdeal.Read
public import proofs.«01_k».proof.Proof.Gen.InDw
public import proofs.«01_k».proof.Proof.Gen.InDw.Skeleton
public import proofs.«01_k».proof.Proof.Gen.InDw.Launch
public import proofs.«01_k».proof.Proof.Gen.InDw.Points
public import proofs.«01_k».proof.Proof.Gen.InDw.Frame
public import proofs.«01_k».proof.Proof.Gen.InDwIdeal
public import proofs.«01_k».proof.Proof.Gen.InDwIdeal.Skeleton
public import proofs.«01_k».proof.Proof.Gen.InDwIdeal.Launch
public import proofs.«01_k».proof.Proof.Gen.InDwIdeal.Points
public import proofs.«01_k».proof.Proof.Gen.InDwIdeal.Frame
public import proofs.«01_k».proof.Proof.Gen.InDwIdeal.Value
public import proofs.«01_k».proof.Proof.Gen.RefInDwIdeal
public import proofs.«01_k».proof.Proof.Gen.RefInDwIdeal.Run
public import proofs.«01_k».proof.Proof.Gen.RefInDwIdeal.Read
public import proofs.«01_k».proof.Proof.Gen.OutDx
public import proofs.«01_k».proof.Proof.Gen.OutDx.Skeleton
public import proofs.«01_k».proof.Proof.Gen.OutDx.Launch
public import proofs.«01_k».proof.Proof.Gen.OutDx.Points
public import proofs.«01_k».proof.Proof.Gen.OutDx.Frame
public import proofs.«01_k».proof.Proof.Gen.OutDxIdeal
public import proofs.«01_k».proof.Proof.Gen.OutDxIdeal.Skeleton
public import proofs.«01_k».proof.Proof.Gen.OutDxIdeal.Launch
public import proofs.«01_k».proof.Proof.Gen.OutDxIdeal.Points
public import proofs.«01_k».proof.Proof.Gen.OutDxIdeal.Frame
public import proofs.«01_k».proof.Proof.Gen.OutDxIdeal.Value
public import proofs.«01_k».proof.Proof.Gen.RefOutDxIdeal
public import proofs.«01_k».proof.Proof.Gen.RefOutDxIdeal.Run
public import proofs.«01_k».proof.Proof.Gen.RefOutDxIdeal.Read
public import proofs.«01_k».proof.Proof.Gen.OutDw
public import proofs.«01_k».proof.Proof.Gen.OutDw.Skeleton
public import proofs.«01_k».proof.Proof.Gen.OutDw.Launch
public import proofs.«01_k».proof.Proof.Gen.OutDw.Points
public import proofs.«01_k».proof.Proof.Gen.OutDw.Frame
public import proofs.«01_k».proof.Proof.Gen.OutDwIdeal
public import proofs.«01_k».proof.Proof.Gen.OutDwIdeal.Skeleton
public import proofs.«01_k».proof.Proof.Gen.OutDwIdeal.Launch
public import proofs.«01_k».proof.Proof.Gen.OutDwIdeal.Points
public import proofs.«01_k».proof.Proof.Gen.OutDwIdeal.Frame
public import proofs.«01_k».proof.Proof.Gen.OutDwIdeal.Value
public import proofs.«01_k».proof.Proof.Gen.RefOutDwIdeal
public import proofs.«01_k».proof.Proof.Gen.RefOutDwIdeal.Run
public import proofs.«01_k».proof.Proof.Gen.RefOutDwIdeal.Read
public import proofs.«01_k».proof.Proof.Gen.NormBwd
public import proofs.«01_k».proof.Proof.Gen.NormBwd.Skeleton
public import proofs.«01_k».proof.Proof.Gen.NormBwd.Launch
public import proofs.«01_k».proof.Proof.Gen.NormBwd.Points
public import proofs.«01_k».proof.Proof.Gen.NormBwd.Frame
public import proofs.«01_k».proof.Proof.Gen.NormBwdIdeal
public import proofs.«01_k».proof.Proof.Gen.NormBwdIdeal.Skeleton
public import proofs.«01_k».proof.Proof.Gen.NormBwdIdeal.Launch
public import proofs.«01_k».proof.Proof.Gen.NormBwdIdeal.Points
public import proofs.«01_k».proof.Proof.Gen.NormBwdIdeal.Frame
public import proofs.«01_k».proof.Proof.Gen.NormBwdIdeal.Value
public import proofs.«01_k».proof.Proof.Gen.RefNormBwdIdeal
public import proofs.«01_k».proof.Proof.Gen.RefNormBwdIdeal.Run
public import proofs.«01_k».proof.Proof.Gen.RefNormBwdIdeal.Read
public import proofs.«01_k».proof.Proof.Gen.GateBwd
public import proofs.«01_k».proof.Proof.Gen.GateBwd.Skeleton
public import proofs.«01_k».proof.Proof.Gen.GateBwd.Launch
public import proofs.«01_k».proof.Proof.Gen.GateBwd.Points
public import proofs.«01_k».proof.Proof.Gen.GateBwd.Frame
public import proofs.«01_k».proof.Proof.Gen.GateBwdIdeal
public import proofs.«01_k».proof.Proof.Gen.GateBwdIdeal.Skeleton
public import proofs.«01_k».proof.Proof.Gen.GateBwdIdeal.Launch
public import proofs.«01_k».proof.Proof.Gen.GateBwdIdeal.Points
public import proofs.«01_k».proof.Proof.Gen.GateBwdIdeal.Frame
public import proofs.«01_k».proof.Proof.Gen.GateBwdIdeal.Value
public import proofs.«01_k».proof.Proof.Gen.RefGateBwdIdeal
public import proofs.«01_k».proof.Proof.Gen.RefGateBwdIdeal.Run
public import proofs.«01_k».proof.Proof.Gen.RefGateBwdIdeal.Read
public import proofs.«01_k».proof.Proof.Gen.QNormBwd
public import proofs.«01_k».proof.Proof.Gen.QNormBwd.Skeleton
public import proofs.«01_k».proof.Proof.Gen.QNormBwd.Launch
public import proofs.«01_k».proof.Proof.Gen.QNormBwd.Points
public import proofs.«01_k».proof.Proof.Gen.QNormBwd.Frame
public import proofs.«01_k».proof.Proof.Gen.QNormBwdIdeal
public import proofs.«01_k».proof.Proof.Gen.QNormBwdIdeal.Skeleton
public import proofs.«01_k».proof.Proof.Gen.QNormBwdIdeal.Launch
public import proofs.«01_k».proof.Proof.Gen.QNormBwdIdeal.Points
public import proofs.«01_k».proof.Proof.Gen.QNormBwdIdeal.Frame
public import proofs.«01_k».proof.Proof.Gen.QNormBwdIdeal.Value
public import proofs.«01_k».proof.Proof.Gen.RefQNormBwdIdeal
public import proofs.«01_k».proof.Proof.Gen.RefQNormBwdIdeal.Run
public import proofs.«01_k».proof.Proof.Gen.RefQNormBwdIdeal.Read
public import proofs.«01_k».proof.Proof.Gen.KvNormBwd
public import proofs.«01_k».proof.Proof.Gen.KvNormBwd.Skeleton
public import proofs.«01_k».proof.Proof.Gen.KvNormBwd.Launch
public import proofs.«01_k».proof.Proof.Gen.KvNormBwd.Points
public import proofs.«01_k».proof.Proof.Gen.KvNormBwd.Frame
public import proofs.«01_k».proof.Proof.Gen.KvNormBwdIdeal
public import proofs.«01_k».proof.Proof.Gen.KvNormBwdIdeal.Skeleton
public import proofs.«01_k».proof.Proof.Gen.KvNormBwdIdeal.Launch
public import proofs.«01_k».proof.Proof.Gen.KvNormBwdIdeal.Points
public import proofs.«01_k».proof.Proof.Gen.KvNormBwdIdeal.Frame
public import proofs.«01_k».proof.Proof.Gen.KvNormBwdIdeal.Value
public import proofs.«01_k».proof.Proof.Gen.RefKvNormBwdIdeal
public import proofs.«01_k».proof.Proof.Gen.RefKvNormBwdIdeal.Run
public import proofs.«01_k».proof.Proof.Gen.RefKvNormBwdIdeal.Read
public import proofs.«01_k».proof.Proof.Gen.EvInDx
public import proofs.«01_k».proof.Proof.Gen.EvInDx.Skeleton
public import proofs.«01_k».proof.Proof.Gen.EvInDx.Launch
public import proofs.«01_k».proof.Proof.Gen.EvInDx.Points
public import proofs.«01_k».proof.Proof.Gen.EvInDx.Frame
public import proofs.«01_k».proof.Proof.Gen.EvInDxIdeal
public import proofs.«01_k».proof.Proof.Gen.EvInDxIdeal.Skeleton
public import proofs.«01_k».proof.Proof.Gen.EvInDxIdeal.Launch
public import proofs.«01_k».proof.Proof.Gen.EvInDxIdeal.Points
public import proofs.«01_k».proof.Proof.Gen.EvInDxIdeal.Frame
public import proofs.«01_k».proof.Proof.Gen.EvInDxIdeal.Value
public import proofs.«01_k».proof.Proof.Gen.RefEvInDxIdeal
public import proofs.«01_k».proof.Proof.Gen.RefEvInDxIdeal.Run
public import proofs.«01_k».proof.Proof.Gen.RefEvInDxIdeal.Read
public import proofs.«01_k».proof.Proof.Gen.EvInDw
public import proofs.«01_k».proof.Proof.Gen.EvInDw.Skeleton
public import proofs.«01_k».proof.Proof.Gen.EvInDw.Launch
public import proofs.«01_k».proof.Proof.Gen.EvInDw.Points
public import proofs.«01_k».proof.Proof.Gen.EvInDw.Frame
public import proofs.«01_k».proof.Proof.Gen.EvInDwIdeal
public import proofs.«01_k».proof.Proof.Gen.EvInDwIdeal.Skeleton
public import proofs.«01_k».proof.Proof.Gen.EvInDwIdeal.Launch
public import proofs.«01_k».proof.Proof.Gen.EvInDwIdeal.Points
public import proofs.«01_k».proof.Proof.Gen.EvInDwIdeal.Frame
public import proofs.«01_k».proof.Proof.Gen.EvInDwIdeal.Value
public import proofs.«01_k».proof.Proof.Gen.RefEvInDwIdeal
public import proofs.«01_k».proof.Proof.Gen.RefEvInDwIdeal.Run
public import proofs.«01_k».proof.Proof.Gen.RefEvInDwIdeal.Read
public import proofs.«01_k».proof.Proof.Gen.UqDx
public import proofs.«01_k».proof.Proof.Gen.UqDx.Skeleton
public import proofs.«01_k».proof.Proof.Gen.UqDx.Launch
public import proofs.«01_k».proof.Proof.Gen.UqDx.Points
public import proofs.«01_k».proof.Proof.Gen.UqDx.Frame
public import proofs.«01_k».proof.Proof.Gen.UqDxIdeal
public import proofs.«01_k».proof.Proof.Gen.UqDxIdeal.Skeleton
public import proofs.«01_k».proof.Proof.Gen.UqDxIdeal.Launch
public import proofs.«01_k».proof.Proof.Gen.UqDxIdeal.Points
public import proofs.«01_k».proof.Proof.Gen.UqDxIdeal.Frame
public import proofs.«01_k».proof.Proof.Gen.UqDxIdeal.Value
public import proofs.«01_k».proof.Proof.Gen.RefUqDxIdeal
public import proofs.«01_k».proof.Proof.Gen.RefUqDxIdeal.Run
public import proofs.«01_k».proof.Proof.Gen.RefUqDxIdeal.Read
public import proofs.«01_k».proof.Proof.Gen.UqDw
public import proofs.«01_k».proof.Proof.Gen.UqDw.Skeleton
public import proofs.«01_k».proof.Proof.Gen.UqDw.Launch
public import proofs.«01_k».proof.Proof.Gen.UqDw.Points
public import proofs.«01_k».proof.Proof.Gen.UqDw.Frame
public import proofs.«01_k».proof.Proof.Gen.UqDwIdeal
public import proofs.«01_k».proof.Proof.Gen.UqDwIdeal.Skeleton
public import proofs.«01_k».proof.Proof.Gen.UqDwIdeal.Launch
public import proofs.«01_k».proof.Proof.Gen.UqDwIdeal.Points
public import proofs.«01_k».proof.Proof.Gen.UqDwIdeal.Frame
public import proofs.«01_k».proof.Proof.Gen.UqDwIdeal.Value
public import proofs.«01_k».proof.Proof.Gen.RefUqDwIdeal
public import proofs.«01_k».proof.Proof.Gen.RefUqDwIdeal.Run
public import proofs.«01_k».proof.Proof.Gen.RefUqDwIdeal.Read
public import proofs.«01_k».proof.Proof.Gen.UkvDx
public import proofs.«01_k».proof.Proof.Gen.UkvDx.Skeleton
public import proofs.«01_k».proof.Proof.Gen.UkvDx.Launch
public import proofs.«01_k».proof.Proof.Gen.UkvDx.Points
public import proofs.«01_k».proof.Proof.Gen.UkvDx.Frame
public import proofs.«01_k».proof.Proof.Gen.UkvDxIdeal
public import proofs.«01_k».proof.Proof.Gen.UkvDxIdeal.Skeleton
public import proofs.«01_k».proof.Proof.Gen.UkvDxIdeal.Launch
public import proofs.«01_k».proof.Proof.Gen.UkvDxIdeal.Points
public import proofs.«01_k».proof.Proof.Gen.UkvDxIdeal.Frame
public import proofs.«01_k».proof.Proof.Gen.UkvDxIdeal.Value
public import proofs.«01_k».proof.Proof.Gen.RefUkvDxIdeal
public import proofs.«01_k».proof.Proof.Gen.RefUkvDxIdeal.Run
public import proofs.«01_k».proof.Proof.Gen.RefUkvDxIdeal.Read
public import proofs.«01_k».proof.Proof.Gen.UkvDw
public import proofs.«01_k».proof.Proof.Gen.UkvDw.Skeleton
public import proofs.«01_k».proof.Proof.Gen.UkvDw.Launch
public import proofs.«01_k».proof.Proof.Gen.UkvDw.Points
public import proofs.«01_k».proof.Proof.Gen.UkvDw.Frame
public import proofs.«01_k».proof.Proof.Gen.UkvDwIdeal
public import proofs.«01_k».proof.Proof.Gen.UkvDwIdeal.Skeleton
public import proofs.«01_k».proof.Proof.Gen.UkvDwIdeal.Launch
public import proofs.«01_k».proof.Proof.Gen.UkvDwIdeal.Points
public import proofs.«01_k».proof.Proof.Gen.UkvDwIdeal.Frame
public import proofs.«01_k».proof.Proof.Gen.UkvDwIdeal.Value
public import proofs.«01_k».proof.Proof.Gen.RefUkvDwIdeal
public import proofs.«01_k».proof.Proof.Gen.RefUkvDwIdeal.Run
public import proofs.«01_k».proof.Proof.Gen.RefUkvDwIdeal.Read
public import proofs.«01_k».proof.Proof.Gen.EvOutDx
public import proofs.«01_k».proof.Proof.Gen.EvOutDx.Skeleton
public import proofs.«01_k».proof.Proof.Gen.EvOutDx.Launch
public import proofs.«01_k».proof.Proof.Gen.EvOutDx.Points
public import proofs.«01_k».proof.Proof.Gen.EvOutDx.Frame
public import proofs.«01_k».proof.Proof.Gen.EvOutDxIdeal
public import proofs.«01_k».proof.Proof.Gen.EvOutDxIdeal.Skeleton
public import proofs.«01_k».proof.Proof.Gen.EvOutDxIdeal.Launch
public import proofs.«01_k».proof.Proof.Gen.EvOutDxIdeal.Points
public import proofs.«01_k».proof.Proof.Gen.EvOutDxIdeal.Frame
public import proofs.«01_k».proof.Proof.Gen.EvOutDxIdeal.Value
public import proofs.«01_k».proof.Proof.Gen.RefEvOutDxIdeal
public import proofs.«01_k».proof.Proof.Gen.RefEvOutDxIdeal.Run
public import proofs.«01_k».proof.Proof.Gen.RefEvOutDxIdeal.Read
public import proofs.«01_k».proof.Proof.Gen.EvOutDw
public import proofs.«01_k».proof.Proof.Gen.EvOutDw.Skeleton
public import proofs.«01_k».proof.Proof.Gen.EvOutDw.Launch
public import proofs.«01_k».proof.Proof.Gen.EvOutDw.Points
public import proofs.«01_k».proof.Proof.Gen.EvOutDw.Frame
public import proofs.«01_k».proof.Proof.Gen.EvOutDwIdeal
public import proofs.«01_k».proof.Proof.Gen.EvOutDwIdeal.Skeleton
public import proofs.«01_k».proof.Proof.Gen.EvOutDwIdeal.Launch
public import proofs.«01_k».proof.Proof.Gen.EvOutDwIdeal.Points
public import proofs.«01_k».proof.Proof.Gen.EvOutDwIdeal.Frame
public import proofs.«01_k».proof.Proof.Gen.EvOutDwIdeal.Value
public import proofs.«01_k».proof.Proof.Gen.RefEvOutDwIdeal
public import proofs.«01_k».proof.Proof.Gen.RefEvOutDwIdeal.Run
public import proofs.«01_k».proof.Proof.Gen.RefEvOutDwIdeal.Read
public import proofs.«01_k».proof.Proof.Gen.W1Fwd
public import proofs.«01_k».proof.Proof.Gen.W1Fwd.Skeleton
public import proofs.«01_k».proof.Proof.Gen.W1Fwd.Launch
public import proofs.«01_k».proof.Proof.Gen.W1Fwd.Points
public import proofs.«01_k».proof.Proof.Gen.W1Fwd.Frame
public import proofs.«01_k».proof.Proof.Gen.W1FwdIdeal
public import proofs.«01_k».proof.Proof.Gen.W1FwdIdeal.Skeleton
public import proofs.«01_k».proof.Proof.Gen.W1FwdIdeal.Launch
public import proofs.«01_k».proof.Proof.Gen.W1FwdIdeal.Points
public import proofs.«01_k».proof.Proof.Gen.W1FwdIdeal.Frame
public import proofs.«01_k».proof.Proof.Gen.W1FwdIdeal.Value
public import proofs.«01_k».proof.Proof.Gen.RefW1FwdIdeal
public import proofs.«01_k».proof.Proof.Gen.RefW1FwdIdeal.Run
public import proofs.«01_k».proof.Proof.Gen.RefW1FwdIdeal.Read
public import proofs.«01_k».proof.Proof.Gen.W2NormFwd
public import proofs.«01_k».proof.Proof.Gen.W2NormFwd.Skeleton
public import proofs.«01_k».proof.Proof.Gen.W2NormFwd.Launch
public import proofs.«01_k».proof.Proof.Gen.W2NormFwd.Points
public import proofs.«01_k».proof.Proof.Gen.W2NormFwd.Frame
public import proofs.«01_k».proof.Proof.Gen.W2NormFwdIdeal
public import proofs.«01_k».proof.Proof.Gen.W2NormFwdIdeal.Skeleton
public import proofs.«01_k».proof.Proof.Gen.W2NormFwdIdeal.Launch
public import proofs.«01_k».proof.Proof.Gen.W2NormFwdIdeal.Points
public import proofs.«01_k».proof.Proof.Gen.W2NormFwdIdeal.Frame
public import proofs.«01_k».proof.Proof.Gen.W2NormFwdIdeal.Value
public import proofs.«01_k».proof.Proof.Gen.RefW2NormFwdIdeal
public import proofs.«01_k».proof.Proof.Gen.RefW2NormFwdIdeal.Run
public import proofs.«01_k».proof.Proof.Gen.RefW2NormFwdIdeal.Read
public import proofs.«01_k».proof.Proof.Gen.InFwd
public import proofs.«01_k».proof.Proof.Gen.InFwd.Skeleton
public import proofs.«01_k».proof.Proof.Gen.InFwd.Launch
public import proofs.«01_k».proof.Proof.Gen.InFwd.Points
public import proofs.«01_k».proof.Proof.Gen.InFwd.Frame
public import proofs.«01_k».proof.Proof.Gen.InFwdIdeal
public import proofs.«01_k».proof.Proof.Gen.InFwdIdeal.Skeleton
public import proofs.«01_k».proof.Proof.Gen.InFwdIdeal.Launch
public import proofs.«01_k».proof.Proof.Gen.InFwdIdeal.Points
public import proofs.«01_k».proof.Proof.Gen.InFwdIdeal.Frame
public import proofs.«01_k».proof.Proof.Gen.InFwdIdeal.Value
public import proofs.«01_k».proof.Proof.Gen.RefInFwdIdeal
public import proofs.«01_k».proof.Proof.Gen.RefInFwdIdeal.Run
public import proofs.«01_k».proof.Proof.Gen.RefInFwdIdeal.Read
public import proofs.«01_k».proof.Proof.Gen.OutNormFwd
public import proofs.«01_k».proof.Proof.Gen.OutNormFwd.Skeleton
public import proofs.«01_k».proof.Proof.Gen.OutNormFwd.Launch
public import proofs.«01_k».proof.Proof.Gen.OutNormFwd.Points
public import proofs.«01_k».proof.Proof.Gen.OutNormFwd.Frame
public import proofs.«01_k».proof.Proof.Gen.OutNormFwdIdeal
public import proofs.«01_k».proof.Proof.Gen.OutNormFwdIdeal.Skeleton
public import proofs.«01_k».proof.Proof.Gen.OutNormFwdIdeal.Launch
public import proofs.«01_k».proof.Proof.Gen.OutNormFwdIdeal.Points
public import proofs.«01_k».proof.Proof.Gen.OutNormFwdIdeal.Frame
public import proofs.«01_k».proof.Proof.Gen.OutNormFwdIdeal.Value
public import proofs.«01_k».proof.Proof.Gen.RefOutNormFwdIdeal
public import proofs.«01_k».proof.Proof.Gen.RefOutNormFwdIdeal.Run
public import proofs.«01_k».proof.Proof.Gen.RefOutNormFwdIdeal.Read
public import proofs.«01_k».proof.Proof.Gen.EvInFwd
public import proofs.«01_k».proof.Proof.Gen.EvInFwd.Skeleton
public import proofs.«01_k».proof.Proof.Gen.EvInFwd.Launch
public import proofs.«01_k».proof.Proof.Gen.EvInFwd.Points
public import proofs.«01_k».proof.Proof.Gen.EvInFwd.Frame
public import proofs.«01_k».proof.Proof.Gen.EvInFwdIdeal
public import proofs.«01_k».proof.Proof.Gen.EvInFwdIdeal.Skeleton
public import proofs.«01_k».proof.Proof.Gen.EvInFwdIdeal.Launch
public import proofs.«01_k».proof.Proof.Gen.EvInFwdIdeal.Points
public import proofs.«01_k».proof.Proof.Gen.EvInFwdIdeal.Frame
public import proofs.«01_k».proof.Proof.Gen.EvInFwdIdeal.Value
public import proofs.«01_k».proof.Proof.Gen.RefEvInFwdIdeal
public import proofs.«01_k».proof.Proof.Gen.RefEvInFwdIdeal.Run
public import proofs.«01_k».proof.Proof.Gen.RefEvInFwdIdeal.Read
public import proofs.«01_k».proof.Proof.Gen.UqFwd
public import proofs.«01_k».proof.Proof.Gen.UqFwd.Skeleton
public import proofs.«01_k».proof.Proof.Gen.UqFwd.Launch
public import proofs.«01_k».proof.Proof.Gen.UqFwd.Points
public import proofs.«01_k».proof.Proof.Gen.UqFwd.Frame
public import proofs.«01_k».proof.Proof.Gen.UqFwdIdeal
public import proofs.«01_k».proof.Proof.Gen.UqFwdIdeal.Skeleton
public import proofs.«01_k».proof.Proof.Gen.UqFwdIdeal.Launch
public import proofs.«01_k».proof.Proof.Gen.UqFwdIdeal.Points
public import proofs.«01_k».proof.Proof.Gen.UqFwdIdeal.Frame
public import proofs.«01_k».proof.Proof.Gen.UqFwdIdeal.Value
public import proofs.«01_k».proof.Proof.Gen.RefUqFwdIdeal
public import proofs.«01_k».proof.Proof.Gen.RefUqFwdIdeal.Run
public import proofs.«01_k».proof.Proof.Gen.RefUqFwdIdeal.Read
public import proofs.«01_k».proof.Proof.Gen.UkvFwd
public import proofs.«01_k».proof.Proof.Gen.UkvFwd.Skeleton
public import proofs.«01_k».proof.Proof.Gen.UkvFwd.Launch
public import proofs.«01_k».proof.Proof.Gen.UkvFwd.Points
public import proofs.«01_k».proof.Proof.Gen.UkvFwd.Frame
public import proofs.«01_k».proof.Proof.Gen.UkvFwdIdeal
public import proofs.«01_k».proof.Proof.Gen.UkvFwdIdeal.Skeleton
public import proofs.«01_k».proof.Proof.Gen.UkvFwdIdeal.Launch
public import proofs.«01_k».proof.Proof.Gen.UkvFwdIdeal.Points
public import proofs.«01_k».proof.Proof.Gen.UkvFwdIdeal.Frame
public import proofs.«01_k».proof.Proof.Gen.UkvFwdIdeal.Value
public import proofs.«01_k».proof.Proof.Gen.RefUkvFwdIdeal
public import proofs.«01_k».proof.Proof.Gen.RefUkvFwdIdeal.Run
public import proofs.«01_k».proof.Proof.Gen.RefUkvFwdIdeal.Read
public import proofs.«01_k».proof.Proof.Gen.EvOutNormFwd
public import proofs.«01_k».proof.Proof.Gen.EvOutNormFwd.Skeleton
public import proofs.«01_k».proof.Proof.Gen.EvOutNormFwd.Launch
public import proofs.«01_k».proof.Proof.Gen.EvOutNormFwd.Points
public import proofs.«01_k».proof.Proof.Gen.EvOutNormFwd.Frame
public import proofs.«01_k».proof.Proof.Gen.EvOutNormFwdIdeal
public import proofs.«01_k».proof.Proof.Gen.EvOutNormFwdIdeal.Skeleton
public import proofs.«01_k».proof.Proof.Gen.EvOutNormFwdIdeal.Launch
public import proofs.«01_k».proof.Proof.Gen.EvOutNormFwdIdeal.Points
public import proofs.«01_k».proof.Proof.Gen.EvOutNormFwdIdeal.Frame
public import proofs.«01_k».proof.Proof.Gen.EvOutNormFwdIdeal.Value
public import proofs.«01_k».proof.Proof.Gen.RefEvOutNormFwdIdeal
public import proofs.«01_k».proof.Proof.Gen.RefEvOutNormFwdIdeal.Run
public import proofs.«01_k».proof.Proof.Gen.RefEvOutNormFwdIdeal.Read
public import proofs.«01_k».proof.Proof.Gen.GateFwd
public import proofs.«01_k».proof.Proof.Gen.GateFwd.Skeleton
public import proofs.«01_k».proof.Proof.Gen.GateFwd.Launch
public import proofs.«01_k».proof.Proof.Gen.GateFwd.Points
public import proofs.«01_k».proof.Proof.Gen.GateFwd.Frame
public import proofs.«01_k».proof.Proof.Gen.GateFwdIdeal
public import proofs.«01_k».proof.Proof.Gen.GateFwdIdeal.Skeleton
public import proofs.«01_k».proof.Proof.Gen.GateFwdIdeal.Launch
public import proofs.«01_k».proof.Proof.Gen.GateFwdIdeal.Points
public import proofs.«01_k».proof.Proof.Gen.GateFwdIdeal.Frame
public import proofs.«01_k».proof.Proof.Gen.GateFwdIdeal.Value
public import proofs.«01_k».proof.Proof.Gen.RefGateFwdIdeal
public import proofs.«01_k».proof.Proof.Gen.RefGateFwdIdeal.Run
public import proofs.«01_k».proof.Proof.Gen.RefGateFwdIdeal.Read
public import proofs.«01_k».proof.Proof.Gen.QNormFwd
public import proofs.«01_k».proof.Proof.Gen.QNormFwd.Skeleton
public import proofs.«01_k».proof.Proof.Gen.QNormFwd.Launch
public import proofs.«01_k».proof.Proof.Gen.QNormFwd.Points
public import proofs.«01_k».proof.Proof.Gen.QNormFwd.Frame
public import proofs.«01_k».proof.Proof.Gen.QNormFwdIdeal
public import proofs.«01_k».proof.Proof.Gen.QNormFwdIdeal.Skeleton
public import proofs.«01_k».proof.Proof.Gen.QNormFwdIdeal.Launch
public import proofs.«01_k».proof.Proof.Gen.QNormFwdIdeal.Points
public import proofs.«01_k».proof.Proof.Gen.QNormFwdIdeal.Frame
public import proofs.«01_k».proof.Proof.Gen.QNormFwdIdeal.Value
public import proofs.«01_k».proof.Proof.Gen.RefQNormFwdIdeal
public import proofs.«01_k».proof.Proof.Gen.RefQNormFwdIdeal.Run
public import proofs.«01_k».proof.Proof.Gen.RefQNormFwdIdeal.Read
public import proofs.«01_k».proof.Proof.Gen.KvNormFwd
public import proofs.«01_k».proof.Proof.Gen.KvNormFwd.Skeleton
public import proofs.«01_k».proof.Proof.Gen.KvNormFwd.Launch
public import proofs.«01_k».proof.Proof.Gen.KvNormFwd.Points
public import proofs.«01_k».proof.Proof.Gen.KvNormFwd.Frame
public import proofs.«01_k».proof.Proof.Gen.KvNormFwdIdeal
public import proofs.«01_k».proof.Proof.Gen.KvNormFwdIdeal.Skeleton
public import proofs.«01_k».proof.Proof.Gen.KvNormFwdIdeal.Launch
public import proofs.«01_k».proof.Proof.Gen.KvNormFwdIdeal.Points
public import proofs.«01_k».proof.Proof.Gen.KvNormFwdIdeal.Frame
public import proofs.«01_k».proof.Proof.Gen.KvNormFwdIdeal.Value
public import proofs.«01_k».proof.Proof.Gen.RefKvNormFwdIdeal
public import proofs.«01_k».proof.Proof.Gen.RefKvNormFwdIdeal.Run
public import proofs.«01_k».proof.Proof.Gen.RefKvNormFwdIdeal.Read
public import proofs.«01_k».proof.Proof.Gen.RetFwd
public import proofs.«01_k».proof.Proof.Gen.RetFwd.Skeleton
public import proofs.«01_k».proof.Proof.Gen.RetFwd.Launch
public import proofs.«01_k».proof.Proof.Gen.RetFwd.Points
public import proofs.«01_k».proof.Proof.Gen.RetFwd.Frame
public import proofs.«01_k».proof.Proof.Gen.RetFwdIdeal
public import proofs.«01_k».proof.Proof.Gen.RetFwdIdeal.Skeleton
public import proofs.«01_k».proof.Proof.Gen.RetFwdIdeal.Launch
public import proofs.«01_k».proof.Proof.Gen.RetFwdIdeal.Points
public import proofs.«01_k».proof.Proof.Gen.RetFwdIdeal.Frame
public import proofs.«01_k».proof.Proof.Gen.RetFwdIdeal.Value
public import proofs.«01_k».proof.Proof.Gen.RefRetFwdIdeal
public import proofs.«01_k».proof.Proof.Gen.RefRetFwdIdeal.Run
public import proofs.«01_k».proof.Proof.Gen.RefRetFwdIdeal.Read
public import proofs.«01_k».proof.Proof.Finite
public import Idealize.ShloMosaic.Adequacy
public import Idealize.ShloMosaic.Init

/-! The calls taken one by one: each runs, leaves its arguments and ends with every counter at zero. -/

@[expose] public section

set_option maxRecDepth 65536

noncomputable section

namespace Cert.Proof

open Idealize.ShloMosaic Idealize.ShloMosaic.StableHlo Idealize.SL.Sem

theorem frame_W2Dx : Cert.quiescent_W2Dx (hW2Dx := Cert.W2Dx.Gen.facts) := fun m ρ _ => Cert.W2Dx.Gen.frame m ρ
theorem frame_W2DxIdeal : Cert.quiescent_W2DxIdeal (hW2DxIdeal := Cert.W2DxIdeal.Gen.facts) := fun m ρ _ => Cert.W2DxIdeal.Gen.frame m ρ
theorem frame_RefW2DxIdeal : Cert.quiescent_RefW2DxIdeal (hRefW2DxIdeal := Cert.RefW2DxIdeal.Gen.facts) := fun m ρ _ =>
  (θ_run Cert.RefW2DxIdeal.defs _ _).mono (fun r h => ⟨fun c => (h c).2, sem_eq_zero_of_no_sems (by decide) r.2⟩)
    (Cert.RefW2DxIdeal.Value.run (F := Ideal) m ρ)

theorem frame_W2Dw : Cert.quiescent_W2Dw (hW2Dw := Cert.W2Dw.Gen.facts) := fun m ρ _ => Cert.W2Dw.Gen.frame m ρ
theorem frame_W2DwIdeal : Cert.quiescent_W2DwIdeal (hW2DwIdeal := Cert.W2DwIdeal.Gen.facts) := fun m ρ _ => Cert.W2DwIdeal.Gen.frame m ρ
theorem frame_RefW2DwIdeal : Cert.quiescent_RefW2DwIdeal (hRefW2DwIdeal := Cert.RefW2DwIdeal.Gen.facts) := fun m ρ _ =>
  (θ_run Cert.RefW2DwIdeal.defs _ _).mono (fun r h => ⟨fun c => (h c).2, sem_eq_zero_of_no_sems (by decide) r.2⟩)
    (Cert.RefW2DwIdeal.Value.run (F := Ideal) m ρ)

theorem frame_W1Dx : Cert.quiescent_W1Dx (hW1Dx := Cert.W1Dx.Gen.facts) := fun m ρ _ => Cert.W1Dx.Gen.frame m ρ
theorem frame_W1DxIdeal : Cert.quiescent_W1DxIdeal (hW1DxIdeal := Cert.W1DxIdeal.Gen.facts) := fun m ρ _ => Cert.W1DxIdeal.Gen.frame m ρ
theorem frame_RefW1DxIdeal : Cert.quiescent_RefW1DxIdeal (hRefW1DxIdeal := Cert.RefW1DxIdeal.Gen.facts) := fun m ρ _ =>
  (θ_run Cert.RefW1DxIdeal.defs _ _).mono (fun r h => ⟨fun c => (h c).2, sem_eq_zero_of_no_sems (by decide) r.2⟩)
    (Cert.RefW1DxIdeal.Value.run (F := Ideal) m ρ)

theorem frame_W1Dw : Cert.quiescent_W1Dw (hW1Dw := Cert.W1Dw.Gen.facts) := fun m ρ _ => Cert.W1Dw.Gen.frame m ρ
theorem frame_W1DwIdeal : Cert.quiescent_W1DwIdeal (hW1DwIdeal := Cert.W1DwIdeal.Gen.facts) := fun m ρ _ => Cert.W1DwIdeal.Gen.frame m ρ
theorem frame_RefW1DwIdeal : Cert.quiescent_RefW1DwIdeal (hRefW1DwIdeal := Cert.RefW1DwIdeal.Gen.facts) := fun m ρ _ =>
  (θ_run Cert.RefW1DwIdeal.defs _ _).mono (fun r h => ⟨fun c => (h c).2, sem_eq_zero_of_no_sems (by decide) r.2⟩)
    (Cert.RefW1DwIdeal.Value.run (F := Ideal) m ρ)

theorem frame_InDx : Cert.quiescent_InDx (hInDx := Cert.InDx.Gen.facts) := fun m ρ _ => Cert.InDx.Gen.frame m ρ
theorem frame_InDxIdeal : Cert.quiescent_InDxIdeal (hInDxIdeal := Cert.InDxIdeal.Gen.facts) := fun m ρ _ => Cert.InDxIdeal.Gen.frame m ρ
theorem frame_RefInDxIdeal : Cert.quiescent_RefInDxIdeal (hRefInDxIdeal := Cert.RefInDxIdeal.Gen.facts) := fun m ρ _ =>
  (θ_run Cert.RefInDxIdeal.defs _ _).mono (fun r h => ⟨fun c => (h c).2, sem_eq_zero_of_no_sems (by decide) r.2⟩)
    (Cert.RefInDxIdeal.Value.run (F := Ideal) m ρ)

theorem frame_InDw : Cert.quiescent_InDw (hInDw := Cert.InDw.Gen.facts) := fun m ρ _ => Cert.InDw.Gen.frame m ρ
theorem frame_InDwIdeal : Cert.quiescent_InDwIdeal (hInDwIdeal := Cert.InDwIdeal.Gen.facts) := fun m ρ _ => Cert.InDwIdeal.Gen.frame m ρ
theorem frame_RefInDwIdeal : Cert.quiescent_RefInDwIdeal (hRefInDwIdeal := Cert.RefInDwIdeal.Gen.facts) := fun m ρ _ =>
  (θ_run Cert.RefInDwIdeal.defs _ _).mono (fun r h => ⟨fun c => (h c).2, sem_eq_zero_of_no_sems (by decide) r.2⟩)
    (Cert.RefInDwIdeal.Value.run (F := Ideal) m ρ)

theorem frame_OutDx : Cert.quiescent_OutDx (hOutDx := Cert.OutDx.Gen.facts) := fun m ρ _ => Cert.OutDx.Gen.frame m ρ
theorem frame_OutDxIdeal : Cert.quiescent_OutDxIdeal (hOutDxIdeal := Cert.OutDxIdeal.Gen.facts) := fun m ρ _ => Cert.OutDxIdeal.Gen.frame m ρ
theorem frame_RefOutDxIdeal : Cert.quiescent_RefOutDxIdeal (hRefOutDxIdeal := Cert.RefOutDxIdeal.Gen.facts) := fun m ρ _ =>
  (θ_run Cert.RefOutDxIdeal.defs _ _).mono (fun r h => ⟨fun c => (h c).2, sem_eq_zero_of_no_sems (by decide) r.2⟩)
    (Cert.RefOutDxIdeal.Value.run (F := Ideal) m ρ)

theorem frame_OutDw : Cert.quiescent_OutDw (hOutDw := Cert.OutDw.Gen.facts) := fun m ρ _ => Cert.OutDw.Gen.frame m ρ
theorem frame_OutDwIdeal : Cert.quiescent_OutDwIdeal (hOutDwIdeal := Cert.OutDwIdeal.Gen.facts) := fun m ρ _ => Cert.OutDwIdeal.Gen.frame m ρ
theorem frame_RefOutDwIdeal : Cert.quiescent_RefOutDwIdeal (hRefOutDwIdeal := Cert.RefOutDwIdeal.Gen.facts) := fun m ρ _ =>
  (θ_run Cert.RefOutDwIdeal.defs _ _).mono (fun r h => ⟨fun c => (h c).2, sem_eq_zero_of_no_sems (by decide) r.2⟩)
    (Cert.RefOutDwIdeal.Value.run (F := Ideal) m ρ)

theorem frame_NormBwd : Cert.quiescent_NormBwd (hNormBwd := Cert.NormBwd.Gen.facts) := fun m ρ _ => Cert.NormBwd.Gen.frame m ρ
theorem frame_NormBwdIdeal : Cert.quiescent_NormBwdIdeal (hNormBwdIdeal := Cert.NormBwdIdeal.Gen.facts) := fun m ρ _ => Cert.NormBwdIdeal.Gen.frame m ρ
theorem frame_RefNormBwdIdeal : Cert.quiescent_RefNormBwdIdeal (hRefNormBwdIdeal := Cert.RefNormBwdIdeal.Gen.facts) := fun m ρ _ =>
  (θ_run Cert.RefNormBwdIdeal.defs _ _).mono (fun r h => ⟨fun c => (h c).2.2.2, sem_eq_zero_of_no_sems (by decide) r.2⟩)
    (Cert.RefNormBwdIdeal.Value.run (F := Ideal) m ρ)
theorem frame_NormBwdIdeal_pre : Cert.quiescent_NormBwdIdeal_pre_real_norm (hNormBwdIdeal := Cert.NormBwdIdeal.Gen.facts) (hPre_real_norm := Cert.Finite.facts_norm) := fun m ρ _ =>
  frame_NormBwdIdeal m ρ trivial
theorem frame_RefNormBwdIdeal_pre : Cert.quiescent_RefNormBwdIdeal_pre_real_norm (hRefNormBwdIdeal := Cert.RefNormBwdIdeal.Gen.facts) (hPre_real_norm := Cert.Finite.facts_norm) := fun m ρ _ =>
  frame_RefNormBwdIdeal m ρ trivial

theorem frame_GateBwd : Cert.quiescent_GateBwd (hGateBwd := Cert.GateBwd.Gen.facts) := fun m ρ _ => Cert.GateBwd.Gen.frame m ρ
theorem frame_GateBwdIdeal : Cert.quiescent_GateBwdIdeal (hGateBwdIdeal := Cert.GateBwdIdeal.Gen.facts) := fun m ρ _ => Cert.GateBwdIdeal.Gen.frame m ρ
theorem frame_RefGateBwdIdeal : Cert.quiescent_RefGateBwdIdeal (hRefGateBwdIdeal := Cert.RefGateBwdIdeal.Gen.facts) := fun m ρ _ =>
  (θ_run Cert.RefGateBwdIdeal.defs _ _).mono (fun r h => ⟨fun c => (h c).2.2, sem_eq_zero_of_no_sems (by decide) r.2⟩)
    (Cert.RefGateBwdIdeal.Value.run (F := Ideal) m ρ)
theorem frame_GateBwdIdeal_pre : Cert.quiescent_GateBwdIdeal_pre_real_gate (hGateBwdIdeal := Cert.GateBwdIdeal.Gen.facts) (hPre_real_gate := Cert.Finite.facts_gate) := fun m ρ _ =>
  frame_GateBwdIdeal m ρ trivial
theorem frame_RefGateBwdIdeal_pre : Cert.quiescent_RefGateBwdIdeal_pre_real_gate (hRefGateBwdIdeal := Cert.RefGateBwdIdeal.Gen.facts) (hPre_real_gate := Cert.Finite.facts_gate) := fun m ρ _ =>
  frame_RefGateBwdIdeal m ρ trivial

theorem frame_QNormBwd : Cert.quiescent_QNormBwd (hQNormBwd := Cert.QNormBwd.Gen.facts) := fun m ρ _ => Cert.QNormBwd.Gen.frame m ρ
theorem frame_QNormBwdIdeal : Cert.quiescent_QNormBwdIdeal (hQNormBwdIdeal := Cert.QNormBwdIdeal.Gen.facts) := fun m ρ _ => Cert.QNormBwdIdeal.Gen.frame m ρ
theorem frame_RefQNormBwdIdeal : Cert.quiescent_RefQNormBwdIdeal (hRefQNormBwdIdeal := Cert.RefQNormBwdIdeal.Gen.facts) := fun m ρ _ =>
  (θ_run Cert.RefQNormBwdIdeal.defs _ _).mono (fun r h => ⟨fun c => (h c).2.2, sem_eq_zero_of_no_sems (by decide) r.2⟩)
    (Cert.RefQNormBwdIdeal.Value.run (F := Ideal) m ρ)
theorem frame_QNormBwdIdeal_pre : Cert.quiescent_QNormBwdIdeal_pre_real_q_norm (hQNormBwdIdeal := Cert.QNormBwdIdeal.Gen.facts) (hPre_real_q_norm := Cert.Finite.facts_q_norm) := fun m ρ _ =>
  frame_QNormBwdIdeal m ρ trivial
theorem frame_RefQNormBwdIdeal_pre : Cert.quiescent_RefQNormBwdIdeal_pre_real_q_norm (hRefQNormBwdIdeal := Cert.RefQNormBwdIdeal.Gen.facts) (hPre_real_q_norm := Cert.Finite.facts_q_norm) := fun m ρ _ =>
  frame_RefQNormBwdIdeal m ρ trivial

theorem frame_KvNormBwd : Cert.quiescent_KvNormBwd (hKvNormBwd := Cert.KvNormBwd.Gen.facts) := fun m ρ _ => Cert.KvNormBwd.Gen.frame m ρ
theorem frame_KvNormBwdIdeal : Cert.quiescent_KvNormBwdIdeal (hKvNormBwdIdeal := Cert.KvNormBwdIdeal.Gen.facts) := fun m ρ _ => Cert.KvNormBwdIdeal.Gen.frame m ρ
theorem frame_RefKvNormBwdIdeal : Cert.quiescent_RefKvNormBwdIdeal (hRefKvNormBwdIdeal := Cert.RefKvNormBwdIdeal.Gen.facts) := fun m ρ _ =>
  (θ_run Cert.RefKvNormBwdIdeal.defs _ _).mono (fun r h => ⟨fun c => (h c).2.2, sem_eq_zero_of_no_sems (by decide) r.2⟩)
    (Cert.RefKvNormBwdIdeal.Value.run (F := Ideal) m ρ)
theorem frame_KvNormBwdIdeal_pre : Cert.quiescent_KvNormBwdIdeal_pre_real_kv_norm (hKvNormBwdIdeal := Cert.KvNormBwdIdeal.Gen.facts) (hPre_real_kv_norm := Cert.Finite.facts_kv_norm) := fun m ρ _ =>
  frame_KvNormBwdIdeal m ρ trivial
theorem frame_RefKvNormBwdIdeal_pre : Cert.quiescent_RefKvNormBwdIdeal_pre_real_kv_norm (hRefKvNormBwdIdeal := Cert.RefKvNormBwdIdeal.Gen.facts) (hPre_real_kv_norm := Cert.Finite.facts_kv_norm) := fun m ρ _ =>
  frame_RefKvNormBwdIdeal m ρ trivial

theorem frame_EvInDx : Cert.quiescent_EvInDx (hEvInDx := Cert.EvInDx.Gen.facts) := fun m ρ _ => Cert.EvInDx.Gen.frame m ρ
theorem frame_EvInDxIdeal : Cert.quiescent_EvInDxIdeal (hEvInDxIdeal := Cert.EvInDxIdeal.Gen.facts) := fun m ρ _ => Cert.EvInDxIdeal.Gen.frame m ρ
theorem frame_RefEvInDxIdeal : Cert.quiescent_RefEvInDxIdeal (hRefEvInDxIdeal := Cert.RefEvInDxIdeal.Gen.facts) := fun m ρ _ =>
  (θ_run Cert.RefEvInDxIdeal.defs _ _).mono (fun r h => ⟨fun c => (h c).2, sem_eq_zero_of_no_sems (by decide) r.2⟩)
    (Cert.RefEvInDxIdeal.Value.run (F := Ideal) m ρ)

theorem frame_EvInDw : Cert.quiescent_EvInDw (hEvInDw := Cert.EvInDw.Gen.facts) := fun m ρ _ => Cert.EvInDw.Gen.frame m ρ
theorem frame_EvInDwIdeal : Cert.quiescent_EvInDwIdeal (hEvInDwIdeal := Cert.EvInDwIdeal.Gen.facts) := fun m ρ _ => Cert.EvInDwIdeal.Gen.frame m ρ
theorem frame_RefEvInDwIdeal : Cert.quiescent_RefEvInDwIdeal (hRefEvInDwIdeal := Cert.RefEvInDwIdeal.Gen.facts) := fun m ρ _ =>
  (θ_run Cert.RefEvInDwIdeal.defs _ _).mono (fun r h => ⟨fun c => (h c).2, sem_eq_zero_of_no_sems (by decide) r.2⟩)
    (Cert.RefEvInDwIdeal.Value.run (F := Ideal) m ρ)

theorem frame_UqDx : Cert.quiescent_UqDx (hUqDx := Cert.UqDx.Gen.facts) := fun m ρ _ => Cert.UqDx.Gen.frame m ρ
theorem frame_UqDxIdeal : Cert.quiescent_UqDxIdeal (hUqDxIdeal := Cert.UqDxIdeal.Gen.facts) := fun m ρ _ => Cert.UqDxIdeal.Gen.frame m ρ
theorem frame_RefUqDxIdeal : Cert.quiescent_RefUqDxIdeal (hRefUqDxIdeal := Cert.RefUqDxIdeal.Gen.facts) := fun m ρ _ =>
  (θ_run Cert.RefUqDxIdeal.defs _ _).mono (fun r h => ⟨fun c => (h c).2, sem_eq_zero_of_no_sems (by decide) r.2⟩)
    (Cert.RefUqDxIdeal.Value.run (F := Ideal) m ρ)

theorem frame_UqDw : Cert.quiescent_UqDw (hUqDw := Cert.UqDw.Gen.facts) := fun m ρ _ => Cert.UqDw.Gen.frame m ρ
theorem frame_UqDwIdeal : Cert.quiescent_UqDwIdeal (hUqDwIdeal := Cert.UqDwIdeal.Gen.facts) := fun m ρ _ => Cert.UqDwIdeal.Gen.frame m ρ
theorem frame_RefUqDwIdeal : Cert.quiescent_RefUqDwIdeal (hRefUqDwIdeal := Cert.RefUqDwIdeal.Gen.facts) := fun m ρ _ =>
  (θ_run Cert.RefUqDwIdeal.defs _ _).mono (fun r h => ⟨fun c => (h c).2, sem_eq_zero_of_no_sems (by decide) r.2⟩)
    (Cert.RefUqDwIdeal.Value.run (F := Ideal) m ρ)

theorem frame_UkvDx : Cert.quiescent_UkvDx (hUkvDx := Cert.UkvDx.Gen.facts) := fun m ρ _ => Cert.UkvDx.Gen.frame m ρ
theorem frame_UkvDxIdeal : Cert.quiescent_UkvDxIdeal (hUkvDxIdeal := Cert.UkvDxIdeal.Gen.facts) := fun m ρ _ => Cert.UkvDxIdeal.Gen.frame m ρ
theorem frame_RefUkvDxIdeal : Cert.quiescent_RefUkvDxIdeal (hRefUkvDxIdeal := Cert.RefUkvDxIdeal.Gen.facts) := fun m ρ _ =>
  (θ_run Cert.RefUkvDxIdeal.defs _ _).mono (fun r h => ⟨fun c => (h c).2, sem_eq_zero_of_no_sems (by decide) r.2⟩)
    (Cert.RefUkvDxIdeal.Value.run (F := Ideal) m ρ)

theorem frame_UkvDw : Cert.quiescent_UkvDw (hUkvDw := Cert.UkvDw.Gen.facts) := fun m ρ _ => Cert.UkvDw.Gen.frame m ρ
theorem frame_UkvDwIdeal : Cert.quiescent_UkvDwIdeal (hUkvDwIdeal := Cert.UkvDwIdeal.Gen.facts) := fun m ρ _ => Cert.UkvDwIdeal.Gen.frame m ρ
theorem frame_RefUkvDwIdeal : Cert.quiescent_RefUkvDwIdeal (hRefUkvDwIdeal := Cert.RefUkvDwIdeal.Gen.facts) := fun m ρ _ =>
  (θ_run Cert.RefUkvDwIdeal.defs _ _).mono (fun r h => ⟨fun c => (h c).2, sem_eq_zero_of_no_sems (by decide) r.2⟩)
    (Cert.RefUkvDwIdeal.Value.run (F := Ideal) m ρ)

theorem frame_EvOutDx : Cert.quiescent_EvOutDx (hEvOutDx := Cert.EvOutDx.Gen.facts) := fun m ρ _ => Cert.EvOutDx.Gen.frame m ρ
theorem frame_EvOutDxIdeal : Cert.quiescent_EvOutDxIdeal (hEvOutDxIdeal := Cert.EvOutDxIdeal.Gen.facts) := fun m ρ _ => Cert.EvOutDxIdeal.Gen.frame m ρ
theorem frame_RefEvOutDxIdeal : Cert.quiescent_RefEvOutDxIdeal (hRefEvOutDxIdeal := Cert.RefEvOutDxIdeal.Gen.facts) := fun m ρ _ =>
  (θ_run Cert.RefEvOutDxIdeal.defs _ _).mono (fun r h => ⟨fun c => (h c).2, sem_eq_zero_of_no_sems (by decide) r.2⟩)
    (Cert.RefEvOutDxIdeal.Value.run (F := Ideal) m ρ)

theorem frame_EvOutDw : Cert.quiescent_EvOutDw (hEvOutDw := Cert.EvOutDw.Gen.facts) := fun m ρ _ => Cert.EvOutDw.Gen.frame m ρ
theorem frame_EvOutDwIdeal : Cert.quiescent_EvOutDwIdeal (hEvOutDwIdeal := Cert.EvOutDwIdeal.Gen.facts) := fun m ρ _ => Cert.EvOutDwIdeal.Gen.frame m ρ
theorem frame_RefEvOutDwIdeal : Cert.quiescent_RefEvOutDwIdeal (hRefEvOutDwIdeal := Cert.RefEvOutDwIdeal.Gen.facts) := fun m ρ _ =>
  (θ_run Cert.RefEvOutDwIdeal.defs _ _).mono (fun r h => ⟨fun c => (h c).2, sem_eq_zero_of_no_sems (by decide) r.2⟩)
    (Cert.RefEvOutDwIdeal.Value.run (F := Ideal) m ρ)

theorem frame_W1Fwd : Cert.quiescent_W1Fwd (hW1Fwd := Cert.W1Fwd.Gen.facts) := fun m ρ _ => Cert.W1Fwd.Gen.frame m ρ
theorem frame_W1FwdIdeal : Cert.quiescent_W1FwdIdeal (hW1FwdIdeal := Cert.W1FwdIdeal.Gen.facts) := fun m ρ _ => Cert.W1FwdIdeal.Gen.frame m ρ
theorem frame_RefW1FwdIdeal : Cert.quiescent_RefW1FwdIdeal (hRefW1FwdIdeal := Cert.RefW1FwdIdeal.Gen.facts) := fun m ρ _ =>
  (θ_run Cert.RefW1FwdIdeal.defs _ _).mono (fun r h => ⟨fun c => (h c).2, sem_eq_zero_of_no_sems (by decide) r.2⟩)
    (Cert.RefW1FwdIdeal.Value.run (F := Ideal) m ρ)

theorem frame_W2NormFwd : Cert.quiescent_W2NormFwd (hW2NormFwd := Cert.W2NormFwd.Gen.facts) := fun m ρ _ => Cert.W2NormFwd.Gen.frame m ρ
theorem frame_W2NormFwdIdeal : Cert.quiescent_W2NormFwdIdeal (hW2NormFwdIdeal := Cert.W2NormFwdIdeal.Gen.facts) := fun m ρ _ => Cert.W2NormFwdIdeal.Gen.frame m ρ
theorem frame_RefW2NormFwdIdeal : Cert.quiescent_RefW2NormFwdIdeal (hRefW2NormFwdIdeal := Cert.RefW2NormFwdIdeal.Gen.facts) := fun m ρ _ =>
  (θ_run Cert.RefW2NormFwdIdeal.defs _ _).mono (fun r h => ⟨fun c => (h c).2.2, sem_eq_zero_of_no_sems (by decide) r.2⟩)
    (Cert.RefW2NormFwdIdeal.Value.run (F := Ideal) m ρ)

theorem frame_InFwd : Cert.quiescent_InFwd (hInFwd := Cert.InFwd.Gen.facts) := fun m ρ _ => Cert.InFwd.Gen.frame m ρ
theorem frame_InFwdIdeal : Cert.quiescent_InFwdIdeal (hInFwdIdeal := Cert.InFwdIdeal.Gen.facts) := fun m ρ _ => Cert.InFwdIdeal.Gen.frame m ρ
theorem frame_RefInFwdIdeal : Cert.quiescent_RefInFwdIdeal (hRefInFwdIdeal := Cert.RefInFwdIdeal.Gen.facts) := fun m ρ _ =>
  (θ_run Cert.RefInFwdIdeal.defs _ _).mono (fun r h => ⟨fun c => (h c).2, sem_eq_zero_of_no_sems (by decide) r.2⟩)
    (Cert.RefInFwdIdeal.Value.run (F := Ideal) m ρ)

theorem frame_OutNormFwd : Cert.quiescent_OutNormFwd (hOutNormFwd := Cert.OutNormFwd.Gen.facts) := fun m ρ _ => Cert.OutNormFwd.Gen.frame m ρ
theorem frame_OutNormFwdIdeal : Cert.quiescent_OutNormFwdIdeal (hOutNormFwdIdeal := Cert.OutNormFwdIdeal.Gen.facts) := fun m ρ _ => Cert.OutNormFwdIdeal.Gen.frame m ρ
theorem frame_RefOutNormFwdIdeal : Cert.quiescent_RefOutNormFwdIdeal (hRefOutNormFwdIdeal := Cert.RefOutNormFwdIdeal.Gen.facts) := fun m ρ _ =>
  (θ_run Cert.RefOutNormFwdIdeal.defs _ _).mono (fun r h => ⟨fun c => (h c).2.2, sem_eq_zero_of_no_sems (by decide) r.2⟩)
    (Cert.RefOutNormFwdIdeal.Value.run (F := Ideal) m ρ)

theorem frame_EvInFwd : Cert.quiescent_EvInFwd (hEvInFwd := Cert.EvInFwd.Gen.facts) := fun m ρ _ => Cert.EvInFwd.Gen.frame m ρ
theorem frame_EvInFwdIdeal : Cert.quiescent_EvInFwdIdeal (hEvInFwdIdeal := Cert.EvInFwdIdeal.Gen.facts) := fun m ρ _ => Cert.EvInFwdIdeal.Gen.frame m ρ
theorem frame_RefEvInFwdIdeal : Cert.quiescent_RefEvInFwdIdeal (hRefEvInFwdIdeal := Cert.RefEvInFwdIdeal.Gen.facts) := fun m ρ _ =>
  (θ_run Cert.RefEvInFwdIdeal.defs _ _).mono (fun r h => ⟨fun c => (h c).2, sem_eq_zero_of_no_sems (by decide) r.2⟩)
    (Cert.RefEvInFwdIdeal.Value.run (F := Ideal) m ρ)

theorem frame_UqFwd : Cert.quiescent_UqFwd (hUqFwd := Cert.UqFwd.Gen.facts) := fun m ρ _ => Cert.UqFwd.Gen.frame m ρ
theorem frame_UqFwdIdeal : Cert.quiescent_UqFwdIdeal (hUqFwdIdeal := Cert.UqFwdIdeal.Gen.facts) := fun m ρ _ => Cert.UqFwdIdeal.Gen.frame m ρ
theorem frame_RefUqFwdIdeal : Cert.quiescent_RefUqFwdIdeal (hRefUqFwdIdeal := Cert.RefUqFwdIdeal.Gen.facts) := fun m ρ _ =>
  (θ_run Cert.RefUqFwdIdeal.defs _ _).mono (fun r h => ⟨fun c => (h c).2, sem_eq_zero_of_no_sems (by decide) r.2⟩)
    (Cert.RefUqFwdIdeal.Value.run (F := Ideal) m ρ)

theorem frame_UkvFwd : Cert.quiescent_UkvFwd (hUkvFwd := Cert.UkvFwd.Gen.facts) := fun m ρ _ => Cert.UkvFwd.Gen.frame m ρ
theorem frame_UkvFwdIdeal : Cert.quiescent_UkvFwdIdeal (hUkvFwdIdeal := Cert.UkvFwdIdeal.Gen.facts) := fun m ρ _ => Cert.UkvFwdIdeal.Gen.frame m ρ
theorem frame_RefUkvFwdIdeal : Cert.quiescent_RefUkvFwdIdeal (hRefUkvFwdIdeal := Cert.RefUkvFwdIdeal.Gen.facts) := fun m ρ _ =>
  (θ_run Cert.RefUkvFwdIdeal.defs _ _).mono (fun r h => ⟨fun c => (h c).2, sem_eq_zero_of_no_sems (by decide) r.2⟩)
    (Cert.RefUkvFwdIdeal.Value.run (F := Ideal) m ρ)

theorem frame_EvOutNormFwd : Cert.quiescent_EvOutNormFwd (hEvOutNormFwd := Cert.EvOutNormFwd.Gen.facts) := fun m ρ _ => Cert.EvOutNormFwd.Gen.frame m ρ
theorem frame_EvOutNormFwdIdeal : Cert.quiescent_EvOutNormFwdIdeal (hEvOutNormFwdIdeal := Cert.EvOutNormFwdIdeal.Gen.facts) := fun m ρ _ => Cert.EvOutNormFwdIdeal.Gen.frame m ρ
theorem frame_RefEvOutNormFwdIdeal : Cert.quiescent_RefEvOutNormFwdIdeal (hRefEvOutNormFwdIdeal := Cert.RefEvOutNormFwdIdeal.Gen.facts) := fun m ρ _ =>
  (θ_run Cert.RefEvOutNormFwdIdeal.defs _ _).mono (fun r h => ⟨fun c => (h c).2.2, sem_eq_zero_of_no_sems (by decide) r.2⟩)
    (Cert.RefEvOutNormFwdIdeal.Value.run (F := Ideal) m ρ)

theorem frame_GateFwd : Cert.quiescent_GateFwd (hGateFwd := Cert.GateFwd.Gen.facts) := fun m ρ _ => Cert.GateFwd.Gen.frame m ρ
theorem frame_GateFwdIdeal : Cert.quiescent_GateFwdIdeal (hGateFwdIdeal := Cert.GateFwdIdeal.Gen.facts) := fun m ρ _ => Cert.GateFwdIdeal.Gen.frame m ρ
theorem frame_RefGateFwdIdeal : Cert.quiescent_RefGateFwdIdeal (hRefGateFwdIdeal := Cert.RefGateFwdIdeal.Gen.facts) := fun m ρ _ =>
  (θ_run Cert.RefGateFwdIdeal.defs _ _).mono (fun r h => ⟨fun c => (h c).2, sem_eq_zero_of_no_sems (by decide) r.2⟩)
    (Cert.RefGateFwdIdeal.Value.run (F := Ideal) m ρ)

theorem frame_QNormFwd : Cert.quiescent_QNormFwd (hQNormFwd := Cert.QNormFwd.Gen.facts) := fun m ρ _ => Cert.QNormFwd.Gen.frame m ρ
theorem frame_QNormFwdIdeal : Cert.quiescent_QNormFwdIdeal (hQNormFwdIdeal := Cert.QNormFwdIdeal.Gen.facts) := fun m ρ _ => Cert.QNormFwdIdeal.Gen.frame m ρ
theorem frame_RefQNormFwdIdeal : Cert.quiescent_RefQNormFwdIdeal (hRefQNormFwdIdeal := Cert.RefQNormFwdIdeal.Gen.facts) := fun m ρ _ =>
  (θ_run Cert.RefQNormFwdIdeal.defs _ _).mono (fun r h => ⟨fun c => (h c).2, sem_eq_zero_of_no_sems (by decide) r.2⟩)
    (Cert.RefQNormFwdIdeal.Value.run (F := Ideal) m ρ)

theorem frame_KvNormFwd : Cert.quiescent_KvNormFwd (hKvNormFwd := Cert.KvNormFwd.Gen.facts) := fun m ρ _ => Cert.KvNormFwd.Gen.frame m ρ
theorem frame_KvNormFwdIdeal : Cert.quiescent_KvNormFwdIdeal (hKvNormFwdIdeal := Cert.KvNormFwdIdeal.Gen.facts) := fun m ρ _ => Cert.KvNormFwdIdeal.Gen.frame m ρ
theorem frame_RefKvNormFwdIdeal : Cert.quiescent_RefKvNormFwdIdeal (hRefKvNormFwdIdeal := Cert.RefKvNormFwdIdeal.Gen.facts) := fun m ρ _ =>
  (θ_run Cert.RefKvNormFwdIdeal.defs _ _).mono (fun r h => ⟨fun c => (h c).2, sem_eq_zero_of_no_sems (by decide) r.2⟩)
    (Cert.RefKvNormFwdIdeal.Value.run (F := Ideal) m ρ)
theorem frame_RetFwd : Cert.quiescent_RetFwd (hRetFwd := Cert.RetFwd.Gen.facts) := fun m ρ _ => Cert.RetFwd.Gen.frame m ρ
theorem frame_RetFwdIdeal : Cert.quiescent_RetFwdIdeal (hRetFwdIdeal := Cert.RetFwdIdeal.Gen.facts) := fun m ρ _ => Cert.RetFwdIdeal.Gen.frame m ρ
theorem frame_RefRetFwdIdeal : Cert.quiescent_RefRetFwdIdeal (hRefRetFwdIdeal := Cert.RefRetFwdIdeal.Gen.facts) := fun m ρ _ =>
  (θ_run Cert.RefRetFwdIdeal.defs _ _).mono (fun r h => ⟨fun c => (h c).2, sem_eq_zero_of_no_sems (by decide) r.2⟩)
    (Cert.RefRetFwdIdeal.Value.run (F := Ideal) m ρ)

end Cert.Proof

end
-- ==== Proof.W2Dx.lean ====
module

public import Idealize.ShloMosaic.Lib.Pipeline.ValueKit
public import Idealize.ShloMosaic.Lib.Pointwise
public import proofs.«01_k».proof.Proof.Gen.W2DxIdeal.Value
public import proofs.«01_k».proof.Proof.Gen.RefW2DxIdeal.Read

/-! The squared-ReLU MLP's down projection, its input's cotangent: what the kernel and the reference compute. -/

@[expose] public section

set_option maxRecDepth 65536

noncomputable section

namespace Cert.W2DxIdeal

open Idealize.ShloMosaic Idealize.ShloMosaic.TcCoe Idealize.ShloMosaic.Tactic
open Gen

/-- The factor of the square's derivative. -/
abbrev two : EReal := Ideal.ofBits FTy.f32 0x40000000#32

/-- A block's product, times the derivative of the squared ReLU. -/
theorem pay_at (z : Vec Ideal S1088x1024 .f32) (w : Vec Ideal S1024x1024 .bf16) (u : Vec Ideal S1088x1024 .bf16)
    (i : Fin 1088) (j : Fin 1024) : k0_pay1 z w u (ix2 i j)
    = (∑ k : Fin 1024, z (ix2 i k) * w (ix2 j k)) * (two * max (u (ix2 i j)) 0) := by
  pointwise [k0_pay1]

variable (m : (ℓ : Loc nD τ sig) → Buf (Elt Ideal) ℓ) (c : Dev nD) (t : Fin cfg0.N)

theorem points : cfg0.N = 16 := by decide +kernel

theorem idx0 : ∀ t : Fin cfg0.N, win0_0.index t = ![(t : ℕ) / 4, 0] := by decide +kernel
theorem idx1 : ∀ t : Fin cfg0.N, win0_1.index t = ![(t : ℕ) % 4, 0] := by decide +kernel
theorem idx2 : ∀ t : Fin cfg0.N, win0_2.index t = ![(t : ℕ) / 4, (t : ℕ) % 4] := by decide +kernel
theorem idx3 : ∀ t : Fin cfg0.N, win0_3.index t = ![(t : ℕ) / 4, (t : ℕ) % 4] := by decide +kernel

/-- The row of the arrays that a block's row is. -/
def row (i : Fin 1088) : Fin 4352 := ⟨t.1 / 4 * 1088 + i.1, by have := t.2; have := points; omega⟩

/-- The column of the arrays that a block's column is. -/
def col (j : Fin 1024) : Fin 4096 := ⟨t.1 % 4 * 1024 + j.1, by omega⟩

theorem blk0 (i : Fin 1088) (k : Fin 1024) : iblk m c 0 t (ix2 i k) = m (c.tc.loc main_arg0) (ix2 (row t i) k) := by
  blk_ext [iblk, V_main_arg0, idx0 t, row]

theorem blk1 (j : Fin 1024) (k : Fin 1024) : iblk m c 1 t (ix2 j k) = m (c.tc.loc main_arg1) (ix2 (col t j) k) := by
  blk_ext [iblk, V_main_arg1, idx1 t, col]

theorem blk2 (i : Fin 1088) (j : Fin 1024) : iblk m c 2 t (ix2 i j) = m (c.tc.loc main_arg2) (ix2 (row t i) (col t j)) := by
  blk_ext [iblk, V_main_arg2, idx2 t, row, col]

/-- The cotangent at an index. -/
def dx (z : S4352x1024.Idx → EReal) (w : S4096x1024.Idx → EReal) (u : S4352x4096.Idx → EReal) : S4352x4096.Idx → EReal := fun x =>
  (∑ k : Fin 1024, z (ix2 (x 0) k) * w (ix2 (x 1) k)) * (two * max (u x) 0)

/-- The cotangent as an array. -/
def G : S4352x4096.Idx → EReal :=
  dx (m (c.tc.loc main_arg0)) (m (c.tc.loc main_arg1)) (m (c.tc.loc main_arg2))

/-- The cotangent after the run. -/
theorem final : (dats m 0 c).arrAt 3 cfg0.N = G m c := by
  refine (dats m 0 c).arrAt_eq_of_covers 3 _ (by decide +kernel) fun t hf y => ?_
  obtain ⟨i, j, rfl⟩ : ∃ (i : Fin 1088) (j : Fin 1024), y = ix2 i j := ⟨y 0, y 1, by funext a; fin_cases a <;> rfl⟩
  have e : (win0_3.blk t).view.emb (ix2 i j) = ix2 (row t i) (col t j) := by
    blk_ext [idx3 t, row, col]
  blk_simp
  rw [after0_3]
  frame_out
  refine (pay_at _ _ _ i j).trans (Eq.trans ?_ (congrArg (G m c) e.symm))
  rw [blk2]
  exact congrArg (· * _) (Finset.sum_congr rfl fun k _ => congrArg₂ (· * ·) (blk0 m c t i k) (blk1 m c t j k))

end Cert.W2DxIdeal

namespace Cert.RefW2DxIdeal.Read

open Idealize.ShloMosaic Idealize.ShloMosaic.TcCoe Idealize.ShloMosaic.Tactic Cert.W2DxIdeal

/-- The reference's result is that cotangent: where the input is not positive both are zero. -/
theorem val (z : (⟨S4352x1024, .f32⟩ : BufTy).Contents (Elt Ideal)) (w : (⟨S4096x1024, .bf16⟩ : BufTy).Contents (Elt Ideal))
    (u : (⟨S4352x4096, .bf16⟩ : BufTy).Contents (Elt Ideal)) : val_main_v14 (F := Ideal) z w u = dx z w u := by
  funext x
  obtain ⟨i, j, rfl⟩ : ∃ (i : Fin 4352) (j : Fin 4096), x = ix2 i j := ⟨x 0, x 1, by funext a; fin_cases a <;> rfl⟩
  pointwise [val_main_v14, val_main_v13, val_main_v12, val_main_v11, val_main_v10, val_main_v8, val_main_v7, val_main_v6, val_main_cst_1, val_main_cst_2, val_main_v3, val_main_v2, val_main_cst, val_main_v0, val_main_v1, val_main_call0_v0, val_main_call0_cst]
  by_cases h : 0 < u (ix2 i j)
  · rw [if_pos h]
    rfl
  · rw [if_neg h]
    show _ = _ * (two * max (u (ix2 i j)) 0)
    rw [max_eq_right (not_lt.mp h), mul_zero, mul_zero]

end Cert.RefW2DxIdeal.Read
-- ==== Proof.Products.lean ====
module

public import Idealize.ShloMosaic.Lib.Pipeline.ValueKit
public import Idealize.ShloMosaic.Lib.Pointwise

/-! The two sums the products share: over the parts a contraction is taken in, and over the shards a weight is stored in. -/

@[expose] public section

noncomputable section

namespace Cert.Products

open Idealize.ShloMosaic

/-- A sum taken in `S` parts of `n` terms, each read at the place it has in the whole. -/
theorem sum_parts {S n L : ℕ} (hL : L = S * n) (g : Fin S → Fin n → EReal) (f : Fin L → EReal)
    (h : ∀ s k l, l.1 = s.1 * n + k.1 → g s k = f l) : ∑ s, ∑ k, g s k = ∑ l, f l := by
  subst hL
  rw [← Fin.sum_mul_add_fin S n f]
  exact Finset.sum_congr rfl fun s _ => Finset.sum_congr rfl fun k _ => h s k _ rfl

/-- Four parts added one by one to zero. -/
theorem sum_four {n L : ℕ} (hL : L = 4 * n) (g : Fin 4 → Fin n → EReal) (f : Fin L → EReal)
    (h : ∀ s k l, l.1 = s.1 * n + k.1 → g s k = f l) :
    0 + (∑ k, g 0 k) + (∑ k, g 1 k) + (∑ k, g 2 k) + (∑ k, g 3 k) = ∑ l, f l := by
  rw [← sum_parts hL g f h, Fin.sum_univ_four, zero_add]

variable {M K n L : ℕ}

/-- The column of four shards side by side that a shard's column is. -/
def col (hL : L = 4 * n) (s : Fin 4) (j : Fin n) : Fin L := ⟨s.1 * n + j.1, by
  have h : (s.1 + 1) * n ≤ 4 * n := Nat.mul_le_mul_right n (by omega)
  rw [Nat.add_mul] at h
  omega⟩

/-- The shard a column of the four lies in. -/
def shard (hL : L = 4 * n) (l : Fin L) : Fin 4 := ⟨l.1 / n, Nat.div_lt_of_lt_mul (by rw [Nat.mul_comm, ← hL]; exact l.2)⟩

/-- The shard's column that it is. -/
def inner (hL : L = 4 * n) (l : Fin L) : Fin n := ⟨l.1 % n, Nat.mod_lt _ (Nat.pos_of_ne_zero (by rintro rfl; exact absurd l.2 (by omega)))⟩

theorem shard_col (hL : L = 4 * n) (s : Fin 4) (j : Fin n) : shard hL (col hL s j) = s := Fin.ext (by
  have h : 0 < n := j.pos
  show (s.1 * n + j.1) / n = s.1
  rw [Nat.add_comm, Nat.add_mul_div_right _ _ h, Nat.div_eq_of_lt j.2, Nat.zero_add])

theorem inner_col (hL : L = 4 * n) (s : Fin 4) (j : Fin n) : inner hL (col hL s j) = j := Fin.ext (by
  show (s.1 * n + j.1) % n = j.1
  rw [Nat.add_comm, Nat.add_mul_mod_self_right, Nat.mod_eq_of_lt j.2])

/-- The residual's factor, the square root of two. -/
abbrev alpha : EReal := ((Real.sqrt 2 : ℝ) : EReal)

/-- A product. -/
def nn (x : (⟨2, ![M, K]⟩ : Shape).Idx → EReal) (w : (⟨2, ![K, L]⟩ : Shape).Idx → EReal) : (⟨2, ![M, L]⟩ : Shape).Idx → EReal := fun y =>
  ∑ k : Fin K, x (ix2 (y 0) k) * w (ix2 k (y 1))

/-- The residual beside a sum. -/
def residual (h p : (⟨2, ![M, L]⟩ : Shape).Idx → EReal) : (⟨2, ![M, L]⟩ : Shape).Idx → EReal := fun y => alpha * h y + p y

/-- A product with the transpose: the input's cotangent. -/
def nt (d : (⟨2, ![M, L]⟩ : Shape).Idx → EReal) (w : (⟨2, ![K, L]⟩ : Shape).Idx → EReal) : (⟨2, ![M, K]⟩ : Shape).Idx → EReal := fun y =>
  ∑ l : Fin L, d (ix2 (y 0) l) * w (ix2 (y 1) l)

/-- A product of the transpose: the weight's gradient. -/
def tn (x : (⟨2, ![M, K]⟩ : Shape).Idx → EReal) (d : (⟨2, ![M, L]⟩ : Shape).Idx → EReal) : (⟨2, ![K, L]⟩ : Shape).Idx → EReal := fun y =>
  ∑ r : Fin M, x (ix2 r (y 0)) * d (ix2 r (y 1))

/-- A product by a sharded weight. -/
def fwd (hL : L = 4 * n) (x : (⟨2, ![M, K]⟩ : Shape).Idx → EReal) (w : (⟨3, ![4, K, n]⟩ : Shape).Idx → EReal) :
    (⟨2, ![M, L]⟩ : Shape).Idx → EReal := fun y => ∑ k : Fin K, x (ix2 (y 0) k) * w (ix3 (shard hL (y 1)) k (inner hL (y 1)))

/-- The input's cotangent of a projection by a sharded weight and of the residual beside it. -/
def dx (hL : L = 4 * n) (d : (⟨2, ![M, L]⟩ : Shape).Idx → EReal) (w : (⟨3, ![4, K, n]⟩ : Shape).Idx → EReal)
    (z : (⟨2, ![M, K]⟩ : Shape).Idx → EReal) : (⟨2, ![M, K]⟩ : Shape).Idx → EReal := fun x =>
  (∑ l : Fin L, d (ix2 (x 0) l) * w (ix3 (shard hL l) (x 1) (inner hL l))) + alpha * z x

/-- The gradient of a sharded weight. -/
def dw (hL : L = 4 * n) (h : (⟨2, ![M, K]⟩ : Shape).Idx → EReal) (d : (⟨2, ![M, L]⟩ : Shape).Idx → EReal) :
    (⟨3, ![4, K, n]⟩ : Shape).Idx → EReal := fun x => ∑ r : Fin M, h (ix2 r (x 1)) * d (ix2 r (col hL (x 0) (x 2)))

/-- A load of one shard's columns. -/
theorem ld_cols (hL : L = 4 * n) (X : (⟨2, ![M, L]⟩ : Shape).Idx → Elt Ideal .bf16) (s : Fin 4) {o : ℕ} (inb) (i : Fin M) (k : Fin n)
    (ho : o = s.1 * n) :
    View.ld X (Rect.unit (s := ⟨2, ![M, L]⟩) ![0, o] (⟨2, ![M, n]⟩ : Shape).size inb) (ix2 i k) = X (ix2 i (col hL s k)) := by
  subst ho
  refine View.ld_unit_apply_of _ _ _ _ _ _ fun a => ?_
  fin_cases a
  · exact (Nat.zero_add _).symm
  · rfl

/-- A load of one shard. -/
theorem ld_shard (X : (⟨3, ![4, K, n]⟩ : Shape).Idx → Elt Ideal .bf16) (s : Fin 4) {o : ℕ} (inb) (j : Fin K) (k : Fin n) (ho : o = s.1) :
    View.ld X (Rect.unit (s := ⟨3, ![4, K, n]⟩) ![o, 0, 0] (⟨3, ![1, K, n]⟩ : Shape).size inb) (ix3 0 j k) = X (ix3 s j k) := by
  subst ho
  refine View.ld_unit_apply_of _ _ _ _ _ _ fun a => ?_
  fin_cases a
  · rfl
  · exact (Nat.zero_add _).symm
  · exact (Nat.zero_add _).symm

/-- Four products, one for each shard, are the product with the shards side by side. -/
theorem sum_shards (hL : L = 4 * n) {B : ℕ} (D : (⟨2, ![B, L]⟩ : Shape).Idx → Elt Ideal .bf16) (W : (⟨3, ![4, K, n]⟩ : Shape).Idx → Elt Ideal .bf16)
    (d : (⟨2, ![M, L]⟩ : Shape).Idx → EReal) (w : (⟨3, ![4, K, n]⟩ : Shape).Idx → EReal) (i : Fin B) (r : Fin M) (j : Fin K)
    (hD : ∀ l, D (ix2 i l) = d (ix2 r l)) (hW : ∀ s k, W (ix3 s j k) = w (ix3 s j k)) {o1 o2 o3 : ℕ} (i0 i1 i2 i3 w0 w1 w2 w3)
    (h1 : o1 = 1 * n) (h2 : o2 = 2 * n) (h3 : o3 = 3 * n) :
    0 + (∑ k : Fin n, (fun a b : EReal => a * b) (View.ld D (Rect.unit (s := ⟨2, ![B, L]⟩) ![0, 0] (⟨2, ![B, n]⟩ : Shape).size i0) (ix2 i k))
          (View.ld W (Rect.unit (s := ⟨3, ![4, K, n]⟩) ![0, 0, 0] (⟨3, ![1, K, n]⟩ : Shape).size w0) (ix3 0 j k)))
      + (∑ k : Fin n, (fun a b : EReal => a * b) (View.ld D (Rect.unit (s := ⟨2, ![B, L]⟩) ![0, o1] (⟨2, ![B, n]⟩ : Shape).size i1) (ix2 i k))
          (View.ld W (Rect.unit (s := ⟨3, ![4, K, n]⟩) ![1, 0, 0] (⟨3, ![1, K, n]⟩ : Shape).size w1) (ix3 0 j k)))
      + (∑ k : Fin n, (fun a b : EReal => a * b) (View.ld D (Rect.unit (s := ⟨2, ![B, L]⟩) ![0, o2] (⟨2, ![B, n]⟩ : Shape).size i2) (ix2 i k))
          (View.ld W (Rect.unit (s := ⟨3, ![4, K, n]⟩) ![2, 0, 0] (⟨3, ![1, K, n]⟩ : Shape).size w2) (ix3 0 j k)))
      + (∑ k : Fin n, (fun a b : EReal => a * b) (View.ld D (Rect.unit (s := ⟨2, ![B, L]⟩) ![0, o3] (⟨2, ![B, n]⟩ : Shape).size i3) (ix2 i k))
          (View.ld W (Rect.unit (s := ⟨3, ![4, K, n]⟩) ![3, 0, 0] (⟨3, ![1, K, n]⟩ : Shape).size w3) (ix3 0 j k)))
    = ∑ l : Fin L, d (ix2 r l) * w (ix3 (shard hL l) j (inner hL l)) := by
  refine Eq.trans ?_ (sum_four hL (fun s k => d (ix2 r (col hL s k)) * w (ix3 s j k)) _ fun s k l hl => ?_)
  · have e : ∀ (s : Fin 4) (k : Fin n) (o p : ℕ) (a b), o = s.1 * n → p = s.1 →
        (fun a b : EReal => a * b) (View.ld D (Rect.unit (s := ⟨2, ![B, L]⟩) ![0, o] (⟨2, ![B, n]⟩ : Shape).size a) (ix2 i k))
          (View.ld W (Rect.unit (s := ⟨3, ![4, K, n]⟩) ![p, 0, 0] (⟨3, ![1, K, n]⟩ : Shape).size b) (ix3 0 j k))
        = d (ix2 r (col hL s k)) * w (ix3 s j k) := fun s k o p a b ho hp =>
      congrArg₂ (fun a b : EReal => a * b) ((ld_cols hL D s a i k ho).trans (hD _)) ((ld_shard W s b j k hp).trans (hW _ _))
    refine congrArg₂ (fun a b : EReal => a + b) (congrArg₂ (fun a b : EReal => a + b) (congrArg₂ (fun a b : EReal => a + b)
      (congrArg (fun a : EReal => 0 + a) ?_) ?_) ?_) ?_
    · exact Finset.sum_congr rfl fun k _ => e 0 k 0 0 _ _ (Nat.zero_mul n).symm rfl
    · exact Finset.sum_congr rfl fun k _ => e 1 k o1 1 _ _ h1 rfl
    · exact Finset.sum_congr rfl fun k _ => e 2 k o2 2 _ _ h2 rfl
    · exact Finset.sum_congr rfl fun k _ => e 3 k o3 3 _ _ h3 rfl
  · obtain rfl : l = col hL s k := Fin.ext hl
    simp only [shard_col, inner_col]

end Cert.Products
end
-- ==== Proof.W2Dw.lean ====
module

public import Idealize.ShloMosaic.Lib.Pipeline.ValueKit
public import Idealize.ShloMosaic.Lib.Pipeline.ReadBack
public import Idealize.ShloMosaic.Lib.Pointwise
public import proofs.«01_k».proof.Proof.Products
public import proofs.«01_k».proof.Proof.Gen.W2DwIdeal.Value
public import proofs.«01_k».proof.Proof.Gen.RefW2DwIdeal.Read

/-! The squared-ReLU MLP's down projection, its weight's gradient: what the kernel and the reference compute. -/

@[expose] public section

set_option maxRecDepth 65536

noncomputable section

namespace Cert.W2DwIdeal

open Idealize.ShloMosaic Idealize.ShloMosaic.TcCoe Idealize.ShloMosaic.Tactic
open Gen

/-- A term of the gradient: the squared ReLU of the input times the cotangent. -/
def term (u z : EReal) : EReal := (max u 0 * max u 0) * z

/-- A block of rows' part of the gradient. -/
theorem part_at (u : Vec Ideal S2176x1024 .bf16) (z : Vec Ideal S2176x1024 .f32) (i : Fin 1024) (j : Fin 1024) :
    k0_pay1 u z (ix2 i j) = ∑ k : Fin 2176, term (u (ix2 k i)) (z (ix2 k j)) := by
  pointwise [k0_pay1]
  rfl

theorem pay3_at (u : Vec Ideal S2176x1024 .bf16) (z : Vec Ideal S2176x1024 .f32) (a : Vec Ideal S1024x1024 .f32) (y : S1024x1024.Idx) :
    k0_pay3 u z a y = a y + k0_pay1 u z y := by
  obtain ⟨i, j, rfl⟩ : ∃ (i : Fin 1024) (j : Fin 1024), y = ix2 i j := ⟨y 0, y 1, by funext a; fin_cases a <;> rfl⟩
  pointwise [k0_pay3]

theorem pay2_at (u : Vec Ideal S2176x1024 .bf16) (z : Vec Ideal S2176x1024 .f32) (y : S1024x1024.Idx) :
    k0_pay2 u z y = k0_pay1 u z y := by
  obtain ⟨i, j, rfl⟩ : ∃ (i : Fin 1024) (j : Fin 1024), y = ix2 i j := ⟨y 0, y 1, by funext a; fin_cases a <;> rfl⟩
  pointwise [k0_pay2]

theorem pay4_at (a : Vec Ideal S1024x1024 .f32) (y : S1024x1024.Idx) : k0_pay4 a y = a y := rfl

variable (m : (ℓ : Loc nD τ sig) → Buf (Elt Ideal) ℓ) (c : Dev nD) (t : Fin cfg0.N)

theorem points : cfg0.N = 8 := by decide +kernel

theorem idx0 : ∀ t : Fin cfg0.N, win0_0.index t = ![(t : ℕ) % 2, (t : ℕ) / 2] := by decide +kernel
theorem idx1 : ∀ t : Fin cfg0.N, win0_1.index t = ![(t : ℕ) % 2, 0] := by decide +kernel
theorem idx2 : ∀ t : Fin cfg0.N, win0_2.index t = ![(t : ℕ) / 2, 0] := by decide +kernel

/-- The scratch at the end of a block's run of points. -/
theorem scratch (hr : t.val % 2 = 2 - 1) (y : S1024x1024.Idx) : (outsAt0 m c t.val t.isLt).2 y
    = 0 + ∑ s : Fin 2, k0_pay1 (iblk m c 0 ⟨2 * (t.val / 2) + s.val, Pipeline.run_point_lt_of_flush t hr s⟩)
        (iblk m c 1 ⟨2 * (t.val / 2) + s.val, Pipeline.run_point_lt_of_flush t hr s⟩) y := by
  refine Pipeline.eq_sum_fin_of_reset_step_apply_of_flush (fun n h => (outsAt0 m c n h).2) 2 (fun _ => 0)
    (fun t => k0_pay1 (iblk m c 0 t) (iblk m c 1 t)) (fun t h i => ?_) (fun t h i => ?_) t hr y
  · rw [outsAt0_A m c t h (by omega) (by omega)]
    frame_out
    rw [pay2_at, zero_add]
  · rw [outsAt0_B m c t h (by omega) (by omega)]
    frame_out
    rw [pay3_at, read_unread_whole]

/-- What is written back is what the scratch holds. -/
theorem written (hr : t.val % 2 = 1) (y : S1024x1024.Idx) : (outsAt0 m c t.val t.isLt).1 y = (outsAt0 m c t.val t.isLt).2 y := by
  rw [outsAt0_B m c t (by omega) hr hr]
  frame_out
  rfl

/-- The row of the arrays that a block's row is. -/
def row (k : Fin 2176) : Fin 4352 := ⟨t.1 % 2 * 2176 + k.1, by omega⟩

/-- The column of the input that a block's column is. -/
def col (i : Fin 1024) : Fin 4096 := ⟨t.1 / 2 * 1024 + i.1, by have := t.2; have := points; omega⟩

theorem blk0 (k : Fin 2176) (i : Fin 1024) : iblk m c 0 t (ix2 k i) = m (c.tc.loc main_arg0) (ix2 (row t k) (col t i)) := by
  blk_ext [iblk, V_main_arg0, idx0 t, row, col]

theorem blk1 (k : Fin 2176) (j : Fin 1024) : iblk m c 1 t (ix2 k j) = m (c.tc.loc main_arg1) (ix2 (row t k) j) := by
  blk_ext [iblk, V_main_arg1, idx1 t, row]

/-- The gradient at an index. -/
def dw (u : S4352x4096.Idx → EReal) (z : S4352x1024.Idx → EReal) : S4096x1024.Idx → EReal := fun x =>
  ∑ r : Fin 4352, term (u (ix2 r (x 0))) (z (ix2 r (x 1)))

/-- The gradient as an array. -/
def G : S4096x1024.Idx → EReal := dw (m (c.tc.loc main_arg0)) (m (c.tc.loc main_arg1))

/-- The gradient after the run. -/
theorem final : (dats m 0 c).arrAt 2 cfg0.N = G m c := by
  refine (dats m 0 c).arrAt_eq_of_covers 2 _ (by decide +kernel) fun t hf y => ?_
  obtain ⟨i, j, rfl⟩ : ∃ (i : Fin 1024) (j : Fin 1024), y = ix2 i j := ⟨y 0, y 1, by funext a; fin_cases a <;> rfl⟩
  have hr : t.val % 2 = 1 := (flush0_2 t).mp hf
  have e : (win0_2.blk t).view.emb (ix2 i j) = ix2 (col t i) j := by
    blk_ext [idx2 t, col]
  blk_simp
  rw [after0_2]
  refine (written m c t hr _).trans ((scratch m c t hr _).trans (Eq.trans ?_ (congrArg (G m c) e.symm)))
  rw [zero_add]
  refine (Finset.sum_congr rfl fun s _ => part_at _ _ i j).trans (Products.sum_parts (by decide) _ _ fun s k l hl => ?_)
  have h0 : row ⟨2 * (t.val / 2) + s.val, Pipeline.run_point_lt_of_flush t hr s⟩ k = l := Fin.ext (by simp only [row]; omega)
  have h1 : col ⟨2 * (t.val / 2) + s.val, Pipeline.run_point_lt_of_flush t hr s⟩ i = col t i := Fin.ext (by simp only [col]; omega)
  rw [blk0, blk1, h0, h1]
  rfl

end Cert.W2DwIdeal

namespace Cert.RefW2DwIdeal.Read

open Idealize.ShloMosaic Idealize.ShloMosaic.TcCoe Idealize.ShloMosaic.Tactic Cert.W2DwIdeal

/-- The reference's result is that gradient. -/
theorem val (u : (⟨S4352x4096, .bf16⟩ : BufTy).Contents (Elt Ideal)) (z : (⟨S4352x1024, .f32⟩ : BufTy).Contents (Elt Ideal)) :
    val_main_v8 (F := Ideal) u z = dw u z := by
  funext x
  obtain ⟨i, j, rfl⟩ : ∃ (i : Fin 4096) (j : Fin 1024), x = ix2 i j := ⟨x 0, x 1, by funext a; fin_cases a <;> rfl⟩
  pointwise [val_main_v8, val_main_v7, val_main_v6, val_main_v3, val_main_v2, val_main_v1, val_main_call0_v0, val_main_call0_cst]
  exact Finset.sum_congr rfl fun r _ => mul_comm _ _

end Cert.RefW2DwIdeal.Read
end
-- ==== Proof.W1Dx.lean ====
module

public import Idealize.ShloMosaic.Lib.Pipeline.ValueKit
public import Idealize.ShloMosaic.Lib.Pointwise
public import proofs.«01_k».proof.Proof.Consts
public import proofs.«01_k».proof.Proof.Products
public import proofs.«01_k».proof.Proof.Gen.W1DxIdeal.Value
public import proofs.«01_k».proof.Proof.Gen.RefW1DxIdeal.Read

/-! The squared-ReLU MLP's up projection and the residual beside it, their input's cotangent: what the kernel and the reference compute. -/

@[expose] public section

set_option maxRecDepth 65536

noncomputable section

namespace Cert.W1DxIdeal

open Idealize.ShloMosaic Idealize.ShloMosaic.TcCoe Idealize.ShloMosaic.Tactic
open Gen Products

/-- The named constant. -/
theorem named : Named.named (F := Ideal) κ "alpha" (φ := .f32) 0x3FB504F3#32 = alpha :=
  IdealRules.named_const.ideal_named_scalar _ _ _ _ rfl

/-- A block's four products, one for each shard, and the residual. -/
theorem pay_at (d0 : Vec Ideal S544x1024 .bf16) (w0 : Vec Ideal S1x1024x1024 .bf16) (d1 : Vec Ideal S544x1024 .bf16)
    (w1 : Vec Ideal S1x1024x1024 .bf16) (d2 : Vec Ideal S544x1024 .bf16) (w2 : Vec Ideal S1x1024x1024 .bf16)
    (d3 : Vec Ideal S544x1024 .bf16) (w3 : Vec Ideal S1x1024x1024 .bf16) (z : Vec Ideal S544x1024 .f32) (i : Fin 544) (j : Fin 1024) :
    k0_pay1 d0 w0 d1 w1 d2 w2 d3 w3 z (ix2 i j)
    = 0 + (∑ k : Fin 1024, d0 (ix2 i k) * w0 (ix3 0 j k)) + (∑ k : Fin 1024, d1 (ix2 i k) * w1 (ix3 0 j k))
      + (∑ k : Fin 1024, d2 (ix2 i k) * w2 (ix3 0 j k)) + (∑ k : Fin 1024, d3 (ix2 i k) * w3 (ix3 0 j k)) + alpha * z (ix2 i j) := by
  pointwise [k0_pay1]
  rw [named]

variable (m : (ℓ : Loc nD τ sig) → Buf (Elt Ideal) ℓ) (c : Dev nD) (t : Fin cfg0.N)

theorem points : cfg0.N = 8 := by decide +kernel

theorem idx0 : ∀ t : Fin cfg0.N, win0_0.index t = ![(t : ℕ), 0] := by decide +kernel
theorem idx1 : ∀ t : Fin cfg0.N, win0_1.index t = ![0, 0, 0] := by decide +kernel
theorem idx2 : ∀ t : Fin cfg0.N, win0_2.index t = ![(t : ℕ), 0] := by decide +kernel
theorem idx3 : ∀ t : Fin cfg0.N, win0_3.index t = ![(t : ℕ), 0] := by decide +kernel

/-- The row of the arrays that a block's row is. -/
def row (i : Fin 544) : Fin 4352 := ⟨t.1 * 544 + i.1, by have := t.2; have := points; omega⟩

theorem blk0 (i : Fin 544) (k : Fin 4096) : iblk m c 0 t (ix2 i k) = m (c.tc.loc main_arg0) (ix2 (row t i) k) := by
  blk_ext [iblk, V_main_arg0, idx0 t, row]

theorem blk1 (s : Fin 4) (j : Fin 1024) (k : Fin 1024) : iblk m c 1 t (ix3 s j k) = m (c.tc.loc main_arg1) (ix3 s j k) := by
  blk_ext [iblk, V_main_arg1, idx1 t]

theorem blk2 (i : Fin 544) (j : Fin 1024) : iblk m c 2 t (ix2 i j) = m (c.tc.loc main_arg2) (ix2 (row t i) j) := by
  blk_ext [iblk, V_main_arg2, idx2 t, row]

theorem hL : 4096 = 4 * 1024 := by decide

/-- The cotangent as an array. -/
def G : S4352x1024.Idx → EReal := dx hL (m (c.tc.loc main_arg0)) (m (c.tc.loc main_arg1)) (m (c.tc.loc main_arg2))

/-- The cotangent after the run. -/
theorem final : (dats m 0 c).arrAt 3 cfg0.N = G m c := by
  refine (dats m 0 c).arrAt_eq_of_covers 3 _ (by decide +kernel) fun t hf y => ?_
  obtain ⟨i, j, rfl⟩ : ∃ (i : Fin 544) (j : Fin 1024), y = ix2 i j := ⟨y 0, y 1, by funext a; fin_cases a <;> rfl⟩
  have e : (win0_3.blk t).view.emb (ix2 i j) = ix2 (row t i) j := by
    blk_ext [idx3 t, row]
  blk_simp
  rw [after0_3]
  frame_out
  refine (pay_at _ _ _ _ _ _ _ _ _ i j).trans (Eq.trans ?_ (congrArg (G m c) e.symm))
  refine congrArg₂ (fun a b : EReal => a + alpha * b) ?_ (blk2 m c t i j)
  exact sum_shards (n := 1024) hL (iblk m c 0 t) (iblk m c 1 t) (m (c.tc.loc main_arg0)) (m (c.tc.loc main_arg1)) i (row t i) j
    (blk0 m c t i) (fun s k => blk1 m c t s j k) _ _ _ _ _ _ _ _ (by decide) (by decide) (by decide)

end Cert.W1DxIdeal

namespace Cert.RefW1DxIdeal.Read

open Idealize.ShloMosaic Idealize.ShloMosaic.TcCoe Idealize.ShloMosaic.Tactic Products Cert.W1DxIdeal

/-- The reference's weight, its shards side by side. -/
theorem val_main_v3_at (w : (⟨S4x1024x1024, .bf16⟩ : BufTy).Contents (Elt Ideal)) (j : Fin 1024) (l : Fin 4096) :
    val_main_v3 (F := Ideal) w (ix2 j l) = w (ix3 (shard hL l) j (inner hL l)) := by
  refine (val_main_v2_apply w _).trans ((val_main_v1_apply w _).trans (congrArg w ?_))
  funext a
  fin_cases a <;> refine Fin.ext ?_
  · show (j.1 * 4096 + l.1) / 1024 % 4 = l.1 / 1024
    omega
  · show (j.1 * 4096 + l.1) / 4096 = j.1
    omega
  · show (j.1 * 4096 + l.1) % 1024 = l.1 % 1024
    omega

/-- The reference's result is that cotangent. -/
theorem val (d : (⟨S4352x4096, .bf16⟩ : BufTy).Contents (Elt Ideal)) (w : (⟨S4x1024x1024, .bf16⟩ : BufTy).Contents (Elt Ideal))
    (z : (⟨S4352x1024, .f32⟩ : BufTy).Contents (Elt Ideal)) : val_main_v12 (F := Ideal) d w z = dx hL d w z := by
  funext x
  obtain ⟨i, j, rfl⟩ : ∃ (i : Fin 4352) (j : Fin 1024), x = ix2 i j := ⟨x 0, x 1, by funext a; fin_cases a <;> rfl⟩
  pointwise [val_main_v12, val_main_v11, val_main_v10, val_main_v9, val_main_v8, val_main_v5, val_main_cst_0]
  simp only [val_main_v3_at, Consts.sqrt_2]
  exact add_comm (_ : EReal) _

end Cert.RefW1DxIdeal.Read
end
-- ==== Proof.W1Dw.lean ====
module

public import Idealize.ShloMosaic.Lib.Pipeline.ValueKit
public import Idealize.ShloMosaic.Lib.Pipeline.ReadBack
public import Idealize.ShloMosaic.Lib.Pointwise
public import proofs.«01_k».proof.Proof.Products
public import proofs.«01_k».proof.Proof.Gen.W1DwIdeal.Value
public import proofs.«01_k».proof.Proof.Gen.RefW1DwIdeal.Read

/-! The squared-ReLU MLP's up projection, its weight's gradient, stored by shards: what the kernel and the reference compute. -/

@[expose] public section

set_option maxRecDepth 65536

noncomputable section

namespace Cert.W1DwIdeal

open Idealize.ShloMosaic Idealize.ShloMosaic.TcCoe Idealize.ShloMosaic.Tactic
open Gen Products

/-- A block of rows' part of the gradient. -/
theorem part_at (h : Vec Ideal S2176x1024 .f32) (d : Vec Ideal S2176x1024 .bf16) (i : Fin 1024) (j : Fin 1024) :
    k0_pay1 h d (ix2 i j) = ∑ k : Fin 2176, h (ix2 k i) * d (ix2 k j) := by
  pointwise [k0_pay1]

theorem first_at (h : Vec Ideal S2176x1024 .f32) (d : Vec Ideal S2176x1024 .bf16) (i : Fin 1024) (j : Fin 1024) :
    k0_pay2 h d (ix2 i j) = k0_pay1 h d (ix2 i j) := by
  pointwise [k0_pay2]

theorem next_at (h : Vec Ideal S2176x1024 .f32) (d : Vec Ideal S2176x1024 .bf16) (a : Vec Ideal S1024x1024 .f32)
    (i : Fin 1024) (j : Fin 1024) : k0_pay3 h d a (ix2 i j) = a (ix2 i j) + k0_pay1 h d (ix2 i j) := by
  pointwise [k0_pay3]

theorem last_at (a : Vec Ideal S1024x1024 .f32) (i : Fin 1024) (j : Fin 1024) : k0_pay4 a (ix3 0 i j) = a (ix2 i j) := by
  pointwise [k0_pay4]

variable (m : (ℓ : Loc nD τ sig) → Buf (Elt Ideal) ℓ) (c : Dev nD) (t : Fin cfg0.N)

theorem points : cfg0.N = 8 := by decide +kernel

theorem idx0 : ∀ t : Fin cfg0.N, win0_0.index t = ![(t : ℕ) % 2, 0] := by decide +kernel
theorem idx1 : ∀ t : Fin cfg0.N, win0_1.index t = ![(t : ℕ) % 2, (t : ℕ) / 2] := by decide +kernel
theorem idx2 : ∀ t : Fin cfg0.N, win0_2.index t = ![(t : ℕ) / 2, 0, 0] := by decide +kernel

/-- The scratch at the end of a block's run of points. -/
theorem scratch (hr : t.val % 2 = 2 - 1) (i : Fin 1024) (j : Fin 1024) : (outsAt0 m c t.val t.isLt).2 (ix2 i j)
    = 0 + ∑ s : Fin 2, k0_pay1 (iblk m c 0 ⟨2 * (t.val / 2) + s.val, Pipeline.run_point_lt_of_flush t hr s⟩)
        (iblk m c 1 ⟨2 * (t.val / 2) + s.val, Pipeline.run_point_lt_of_flush t hr s⟩) (ix2 i j) := by
  refine Pipeline.eq_sum_fin_of_reset_step_apply_of_flush (fun n h => fun y : Fin 1024 × Fin 1024 => (outsAt0 m c n h).2 (ix2 y.1 y.2)) 2
    (fun _ => 0) (fun t y => k0_pay1 (iblk m c 0 t) (iblk m c 1 t) (ix2 y.1 y.2)) (fun t h y => ?_) (fun t h y => ?_) t hr (i, j)
  · rw [outsAt0_A m c t h (by omega) (by omega)]
    frame_out
    rw [first_at, zero_add]
  · rw [outsAt0_B m c t h (by omega) (by omega)]
    frame_out
    rw [next_at, read_unread_whole]

/-- What is written back is what the scratch holds. -/
theorem written (hr : t.val % 2 = 1) (i : Fin 1024) (j : Fin 1024) :
    (outsAt0 m c t.val t.isLt).1 (ix3 0 i j) = (outsAt0 m c t.val t.isLt).2 (ix2 i j) := by
  rw [outsAt0_B m c t (by omega) hr hr]
  frame_out
  rw [last_at]

/-- The row of the arrays that a block's row is. -/
def row (k : Fin 2176) : Fin 4352 := ⟨t.1 % 2 * 2176 + k.1, by omega⟩

/-- The shard a point writes. -/
def sh : Fin 4 := ⟨t.1 / 2, by have := t.2; have := points; omega⟩

theorem hL : 4096 = 4 * 1024 := by decide

theorem blk0 (k : Fin 2176) (i : Fin 1024) : iblk m c 0 t (ix2 k i) = m (c.tc.loc main_arg0) (ix2 (row t k) i) := by
  blk_ext [iblk, V_main_arg0, idx0 t, row]

theorem blk1 (k : Fin 2176) (j : Fin 1024) : iblk m c 1 t (ix2 k j) = m (c.tc.loc main_arg1) (ix2 (row t k) (col hL (sh t) j)) := by
  blk_ext [iblk, V_main_arg1, idx1 t, row, col, sh]

/-- The gradient as an array. -/
def G : S4x1024x1024.Idx → EReal := dw hL (m (c.tc.loc main_arg0)) (m (c.tc.loc main_arg1))

/-- The gradient after the run. -/
theorem final : (dats m 0 c).arrAt 2 cfg0.N = G m c := by
  refine (dats m 0 c).arrAt_eq_of_covers 2 _ (by decide +kernel) fun t hf y => ?_
  obtain ⟨z, i, j, rfl⟩ : ∃ (z : Fin 1) (i : Fin 1024) (j : Fin 1024), y = ix3 z i j := ⟨y 0, y 1, y 2, by funext a; fin_cases a <;> rfl⟩
  obtain rfl : z = 0 := Subsingleton.elim _ _
  have hr : t.val % 2 = 1 := (flush0_2 t).mp hf
  have e : (win0_2.blk t).view.emb (ix3 0 i j) = ix3 (sh t) i j := by
    blk_ext [idx2 t, sh]
  blk_simp
  rw [after0_2]
  refine (written m c t hr i j).trans ((scratch m c t hr i j).trans (Eq.trans ?_ (congrArg (G m c) e.symm)))
  rw [zero_add]
  refine (Finset.sum_congr rfl fun s _ => part_at _ _ i j).trans (Products.sum_parts (by decide) _ _ fun s k l hl => ?_)
  have h0 : row ⟨2 * (t.val / 2) + s.val, Pipeline.run_point_lt_of_flush t hr s⟩ k = l := Fin.ext (by simp only [row]; omega)
  have h1 : sh ⟨2 * (t.val / 2) + s.val, Pipeline.run_point_lt_of_flush t hr s⟩ = sh t := Fin.ext (by simp only [sh]; omega)
  exact congrArg₂ (fun a b : EReal => a * b) ((blk0 m c _ k i).trans (by rw [h0]; rfl)) ((blk1 m c _ k j).trans (by rw [h0, h1]; rfl))

end Cert.W1DwIdeal

namespace Cert.RefW1DwIdeal.Read

open Idealize.ShloMosaic Idealize.ShloMosaic.TcCoe Idealize.ShloMosaic.Tactic Products Cert.W1DwIdeal

/-- The reference's gradient before it is cut into shards. -/
theorem val_main_v8_at (h : (⟨S4352x1024, .f32⟩ : BufTy).Contents (Elt Ideal)) (d : (⟨S4352x4096, .bf16⟩ : BufTy).Contents (Elt Ideal))
    (i : Fin 1024) (j : Fin 4096) : val_main_v8 (F := Ideal) h d (ix2 i j) = ∑ r : Fin 4352, h (ix2 r i) * d (ix2 r j) := by
  pointwise [val_main_v8, val_main_v7, val_main_v6, val_main_v5]
  exact Finset.sum_congr rfl fun r _ => mul_comm _ _

/-- The reference's result is that gradient. -/
theorem val (h : (⟨S4352x1024, .f32⟩ : BufTy).Contents (Elt Ideal)) (d : (⟨S4352x4096, .bf16⟩ : BufTy).Contents (Elt Ideal)) :
    val_main_v10 (F := Ideal) h d = dw hL h d := by
  funext x
  obtain ⟨s, i, j, rfl⟩ : ∃ (s : Fin 4) (i : Fin 1024) (j : Fin 1024), x = ix3 s i j := ⟨x 0, x 1, x 2, by funext a; fin_cases a <;> rfl⟩
  refine (val_main_v10_apply h d _).trans ((val_main_v9_apply h d _).trans (Eq.trans (congrArg (val_main_v8 h d) ?_) (val_main_v8_at h d i (col hL s j))))
  funext a
  fin_cases a <;> refine Fin.ext ?_
  · show ((i.1 * 4 + s.1) * 1024 + j.1) / 4096 = i.1
    omega
  · show ((i.1 * 4 + s.1) * 1024 + j.1) % 4096 = s.1 * 1024 + j.1
    omega

end Cert.RefW1DwIdeal.Read
end
-- ==== Proof.InDx.lean ====
module

public import Idealize.ShloMosaic.Lib.Pipeline.ValueKit
public import Idealize.ShloMosaic.Lib.Pointwise
public import proofs.«01_k».proof.Proof.Consts
public import proofs.«01_k».proof.Proof.Products
public import proofs.«01_k».proof.Proof.Gen.InDxIdeal.Value
public import proofs.«01_k».proof.Proof.Gen.RefInDxIdeal.Read

/-! The retention mixer's in projection and the residual beside it, their input's cotangent: what the kernel and the reference compute. -/

@[expose] public section

set_option maxRecDepth 65536

noncomputable section

namespace Cert.InDxIdeal

open Idealize.ShloMosaic Idealize.ShloMosaic.TcCoe Idealize.ShloMosaic.Tactic
open Gen Products

/-- The named constant. -/
theorem named : Named.named (F := Ideal) κ "alpha" (φ := .f32) 0x3FB504F3#32 = alpha :=
  IdealRules.named_const.ideal_named_scalar _ _ _ _ rfl

/-- A block's four products, one for each shard, and the residual. -/
theorem pay_at (d0 : Vec Ideal S544x1536 .bf16) (w0 : Vec Ideal S1x1024x1536 .bf16) (d1 : Vec Ideal S544x1536 .bf16)
    (w1 : Vec Ideal S1x1024x1536 .bf16) (d2 : Vec Ideal S544x1536 .bf16) (w2 : Vec Ideal S1x1024x1536 .bf16)
    (d3 : Vec Ideal S544x1536 .bf16) (w3 : Vec Ideal S1x1024x1536 .bf16) (z : Vec Ideal S544x1024 .f32) (i : Fin 544) (j : Fin 1024) :
    k0_pay1 d0 w0 d1 w1 d2 w2 d3 w3 z (ix2 i j)
    = 0 + (∑ k : Fin 1536, d0 (ix2 i k) * w0 (ix3 0 j k)) + (∑ k : Fin 1536, d1 (ix2 i k) * w1 (ix3 0 j k))
      + (∑ k : Fin 1536, d2 (ix2 i k) * w2 (ix3 0 j k)) + (∑ k : Fin 1536, d3 (ix2 i k) * w3 (ix3 0 j k)) + alpha * z (ix2 i j) := by
  pointwise [k0_pay1]
  rw [named]

variable (m : (ℓ : Loc nD τ sig) → Buf (Elt Ideal) ℓ) (c : Dev nD) (t : Fin cfg0.N)

theorem points : cfg0.N = 8 := by decide +kernel

theorem idx0 : ∀ t : Fin cfg0.N, win0_0.index t = ![(t : ℕ), 0] := by decide +kernel
theorem idx1 : ∀ t : Fin cfg0.N, win0_1.index t = ![0, 0, 0] := by decide +kernel
theorem idx2 : ∀ t : Fin cfg0.N, win0_2.index t = ![(t : ℕ), 0] := by decide +kernel
theorem idx3 : ∀ t : Fin cfg0.N, win0_3.index t = ![(t : ℕ), 0] := by decide +kernel

/-- The row of the arrays that a block's row is. -/
def row (i : Fin 544) : Fin 4352 := ⟨t.1 * 544 + i.1, by have := t.2; have := points; omega⟩

theorem blk0 (i : Fin 544) (k : Fin 6144) : iblk m c 0 t (ix2 i k) = m (c.tc.loc main_arg0) (ix2 (row t i) k) := by
  blk_ext [iblk, V_main_arg0, idx0 t, row]

theorem blk1 (s : Fin 4) (j : Fin 1024) (k : Fin 1536) : iblk m c 1 t (ix3 s j k) = m (c.tc.loc main_arg1) (ix3 s j k) := by
  blk_ext [iblk, V_main_arg1, idx1 t]

theorem blk2 (i : Fin 544) (j : Fin 1024) : iblk m c 2 t (ix2 i j) = m (c.tc.loc main_arg2) (ix2 (row t i) j) := by
  blk_ext [iblk, V_main_arg2, idx2 t, row]

theorem hL : 6144 = 4 * 1536 := by decide

/-- The cotangent as an array. -/
def G : S4352x1024.Idx → EReal := dx hL (m (c.tc.loc main_arg0)) (m (c.tc.loc main_arg1)) (m (c.tc.loc main_arg2))

/-- The cotangent after the run. -/
theorem final : (dats m 0 c).arrAt 3 cfg0.N = G m c := by
  refine (dats m 0 c).arrAt_eq_of_covers 3 _ (by decide +kernel) fun t hf y => ?_
  obtain ⟨i, j, rfl⟩ : ∃ (i : Fin 544) (j : Fin 1024), y = ix2 i j := ⟨y 0, y 1, by funext a; fin_cases a <;> rfl⟩
  have e : (win0_3.blk t).view.emb (ix2 i j) = ix2 (row t i) j := by
    blk_ext [idx3 t, row]
  blk_simp
  rw [after0_3]
  frame_out
  refine (pay_at _ _ _ _ _ _ _ _ _ i j).trans (Eq.trans ?_ (congrArg (G m c) e.symm))
  refine congrArg₂ (fun a b : EReal => a + alpha * b) ?_ (blk2 m c t i j)
  exact sum_shards (n := 1536) hL (iblk m c 0 t) (iblk m c 1 t) (m (c.tc.loc main_arg0)) (m (c.tc.loc main_arg1)) i (row t i) j
    (blk0 m c t i) (fun s k => blk1 m c t s j k) _ _ _ _ _ _ _ _ (by decide) (by decide) (by decide)

end Cert.InDxIdeal

namespace Cert.RefInDxIdeal.Read

open Idealize.ShloMosaic Idealize.ShloMosaic.TcCoe Idealize.ShloMosaic.Tactic Products Cert.InDxIdeal

/-- The reference's weight, its shards side by side. -/
theorem val_main_v3_at (w : (⟨S4x1024x1536, .bf16⟩ : BufTy).Contents (Elt Ideal)) (j : Fin 1024) (l : Fin 6144) :
    val_main_v3 (F := Ideal) w (ix2 j l) = w (ix3 (shard hL l) j (inner hL l)) := by
  refine (val_main_v2_apply w _).trans ((val_main_v1_apply w _).trans (congrArg w ?_))
  funext a
  fin_cases a <;> refine Fin.ext ?_
  · show (j.1 * 6144 + l.1) / 1536 % 4 = l.1 / 1536
    omega
  · show (j.1 * 6144 + l.1) / 6144 = j.1
    omega
  · show (j.1 * 6144 + l.1) % 1536 = l.1 % 1536
    omega

/-- The reference's result is that cotangent. -/
theorem val (d : (⟨S4352x6144, .bf16⟩ : BufTy).Contents (Elt Ideal)) (w : (⟨S4x1024x1536, .bf16⟩ : BufTy).Contents (Elt Ideal))
    (z : (⟨S4352x1024, .f32⟩ : BufTy).Contents (Elt Ideal)) : val_main_v12 (F := Ideal) d w z = dx hL d w z := by
  funext x
  obtain ⟨i, j, rfl⟩ : ∃ (i : Fin 4352) (j : Fin 1024), x = ix2 i j := ⟨x 0, x 1, by funext a; fin_cases a <;> rfl⟩
  pointwise [val_main_v12, val_main_v11, val_main_v10, val_main_v9, val_main_v8, val_main_v5, val_main_cst_0]
  simp only [val_main_v3_at, Consts.sqrt_2]
  exact add_comm (_ : EReal) _

end Cert.RefInDxIdeal.Read
end
-- ==== Proof.InDw.lean ====
module

public import Idealize.ShloMosaic.Lib.Pipeline.ValueKit
public import Idealize.ShloMosaic.Lib.Pipeline.ReadBack
public import Idealize.ShloMosaic.Lib.Pointwise
public import proofs.«01_k».proof.Proof.Products
public import proofs.«01_k».proof.Proof.Gen.InDwIdeal.Value
public import proofs.«01_k».proof.Proof.Gen.RefInDwIdeal.Read

/-! The retention mixer's in projection, its weight's gradient, stored by shards: what the kernel and the reference compute. -/

@[expose] public section

set_option maxRecDepth 65536

noncomputable section

namespace Cert.InDwIdeal

open Idealize.ShloMosaic Idealize.ShloMosaic.TcCoe Idealize.ShloMosaic.Tactic
open Gen Products

/-- A block of rows' part of the gradient. -/
theorem part_at (h : Vec Ideal S2176x1024 .f32) (d : Vec Ideal S2176x768 .bf16) (i : Fin 1024) (j : Fin 768) :
    k0_pay1 h d (ix2 i j) = ∑ k : Fin 2176, h (ix2 k i) * d (ix2 k j) := by
  pointwise [k0_pay1]

theorem first_at (h : Vec Ideal S2176x1024 .f32) (d : Vec Ideal S2176x768 .bf16) (i : Fin 1024) (j : Fin 768) :
    k0_pay2 h d (ix2 i j) = k0_pay1 h d (ix2 i j) := by
  pointwise [k0_pay2]

theorem next_at (h : Vec Ideal S2176x1024 .f32) (d : Vec Ideal S2176x768 .bf16) (a : Vec Ideal S1024x768 .f32)
    (i : Fin 1024) (j : Fin 768) : k0_pay3 h d a (ix2 i j) = a (ix2 i j) + k0_pay1 h d (ix2 i j) := by
  pointwise [k0_pay3]

theorem last_at (a : Vec Ideal S1024x768 .f32) (i : Fin 1024) (j : Fin 768) : k0_pay4 a (ix3 0 i j) = a (ix2 i j) := by
  pointwise [k0_pay4]

variable (m : (ℓ : Loc nD τ sig) → Buf (Elt Ideal) ℓ) (c : Dev nD) (t : Fin cfg0.N)

theorem points : cfg0.N = 16 := by decide +kernel

theorem idx0 : ∀ t : Fin cfg0.N, win0_0.index t = ![(t : ℕ) % 2, 0] := by decide +kernel
theorem idx1 : ∀ t : Fin cfg0.N, win0_1.index t = ![(t : ℕ) % 2, (t : ℕ) / 2] := by decide +kernel
theorem idx2 : ∀ t : Fin cfg0.N, win0_2.index t = ![(t : ℕ) / 4, 0, (t : ℕ) / 2 % 2] := by decide +kernel

/-- The scratch at the end of a block's run of points. -/
theorem scratch (hr : t.val % 2 = 2 - 1) (i : Fin 1024) (j : Fin 768) : (outsAt0 m c t.val t.isLt).2 (ix2 i j)
    = 0 + ∑ s : Fin 2, k0_pay1 (iblk m c 0 ⟨2 * (t.val / 2) + s.val, Pipeline.run_point_lt_of_flush t hr s⟩)
        (iblk m c 1 ⟨2 * (t.val / 2) + s.val, Pipeline.run_point_lt_of_flush t hr s⟩) (ix2 i j) := by
  refine Pipeline.eq_sum_fin_of_reset_step_apply_of_flush (fun n h => fun y : Fin 1024 × Fin 768 => (outsAt0 m c n h).2 (ix2 y.1 y.2)) 2
    (fun _ => 0) (fun t y => k0_pay1 (iblk m c 0 t) (iblk m c 1 t) (ix2 y.1 y.2)) (fun t h y => ?_) (fun t h y => ?_) t hr (i, j)
  · rw [outsAt0_A m c t h (by omega) (by omega)]
    frame_out
    rw [first_at, zero_add]
  · rw [outsAt0_B m c t h (by omega) (by omega)]
    frame_out
    rw [next_at, read_unread_whole]

/-- What is written back is what the scratch holds. -/
theorem written (hr : t.val % 2 = 1) (i : Fin 1024) (j : Fin 768) :
    (outsAt0 m c t.val t.isLt).1 (ix3 0 i j) = (outsAt0 m c t.val t.isLt).2 (ix2 i j) := by
  rw [outsAt0_B m c t (by omega) hr hr]
  frame_out
  rw [last_at]

/-- The row of the arrays that a block's row is. -/
def row (k : Fin 2176) : Fin 4352 := ⟨t.1 % 2 * 2176 + k.1, by omega⟩

/-- The shard a point writes. -/
def sh : Fin 4 := ⟨t.1 / 4, by have := t.2; have := points; omega⟩

/-- The shard's column that a block's column is. -/
def cl (j : Fin 768) : Fin 1536 := ⟨t.1 / 2 % 2 * 768 + j.1, by omega⟩

theorem hL : 6144 = 4 * 1536 := by decide

theorem blk0 (k : Fin 2176) (i : Fin 1024) : iblk m c 0 t (ix2 k i) = m (c.tc.loc main_arg0) (ix2 (row t k) i) := by
  blk_ext [iblk, V_main_arg0, idx0 t, row]

theorem blk1 (k : Fin 2176) (j : Fin 768) : iblk m c 1 t (ix2 k j) = m (c.tc.loc main_arg1) (ix2 (row t k) (col hL (sh t) (cl t j))) := by
  blk_ext [iblk, V_main_arg1, idx1 t, row, col, sh, cl]

/-- The gradient as an array. -/
def G : S4x1024x1536.Idx → EReal := dw hL (m (c.tc.loc main_arg0)) (m (c.tc.loc main_arg1))

/-- The gradient after the run. -/
theorem final : (dats m 0 c).arrAt 2 cfg0.N = G m c := by
  refine (dats m 0 c).arrAt_eq_of_covers 2 _ (by decide +kernel) fun t hf y => ?_
  obtain ⟨z, i, j, rfl⟩ : ∃ (z : Fin 1) (i : Fin 1024) (j : Fin 768), y = ix3 z i j := ⟨y 0, y 1, y 2, by funext a; fin_cases a <;> rfl⟩
  obtain rfl : z = 0 := Subsingleton.elim _ _
  have hr : t.val % 2 = 1 := (flush0_2 t).mp hf
  have e : (win0_2.blk t).view.emb (ix3 0 i j) = ix3 (sh t) i (cl t j) := by
    blk_ext [idx2 t, sh, cl]
  blk_simp
  rw [after0_2]
  refine (written m c t hr i j).trans ((scratch m c t hr i j).trans (Eq.trans ?_ (congrArg (G m c) e.symm)))
  rw [zero_add]
  refine (Finset.sum_congr rfl fun s _ => part_at _ _ i j).trans (Products.sum_parts (by decide) _ _ fun s k l hl => ?_)
  have h0 : row ⟨2 * (t.val / 2) + s.val, Pipeline.run_point_lt_of_flush t hr s⟩ k = l := Fin.ext (by simp only [row]; omega)
  have h1 : sh ⟨2 * (t.val / 2) + s.val, Pipeline.run_point_lt_of_flush t hr s⟩ = sh t := Fin.ext (by simp only [sh]; omega)
  have h2 : cl ⟨2 * (t.val / 2) + s.val, Pipeline.run_point_lt_of_flush t hr s⟩ j = cl t j := Fin.ext (by simp only [cl]; omega)
  exact congrArg₂ (fun a b : EReal => a * b) ((blk0 m c _ k i).trans (by rw [h0]; rfl)) ((blk1 m c _ k j).trans (by rw [h0, h1, h2]; rfl))

end Cert.InDwIdeal

namespace Cert.RefInDwIdeal.Read

open Idealize.ShloMosaic Idealize.ShloMosaic.TcCoe Idealize.ShloMosaic.Tactic Products Cert.InDwIdeal

/-- The reference's gradient before it is cut into shards. -/
theorem val_main_v8_at (h : (⟨S4352x1024, .f32⟩ : BufTy).Contents (Elt Ideal)) (d : (⟨S4352x6144, .bf16⟩ : BufTy).Contents (Elt Ideal))
    (i : Fin 1024) (j : Fin 6144) : val_main_v8 (F := Ideal) h d (ix2 i j) = ∑ r : Fin 4352, h (ix2 r i) * d (ix2 r j) := by
  pointwise [val_main_v8, val_main_v7, val_main_v6, val_main_v5]
  exact Finset.sum_congr rfl fun r _ => mul_comm _ _

/-- The reference's result is that gradient. -/
theorem val (h : (⟨S4352x1024, .f32⟩ : BufTy).Contents (Elt Ideal)) (d : (⟨S4352x6144, .bf16⟩ : BufTy).Contents (Elt Ideal)) :
    val_main_v10 (F := Ideal) h d = dw hL h d := by
  funext x
  obtain ⟨s, i, j, rfl⟩ : ∃ (s : Fin 4) (i : Fin 1024) (j : Fin 1536), x = ix3 s i j := ⟨x 0, x 1, x 2, by funext a; fin_cases a <;> rfl⟩
  refine (val_main_v10_apply h d _).trans ((val_main_v9_apply h d _).trans (Eq.trans (congrArg (val_main_v8 h d) ?_) (val_main_v8_at h d i (col hL s j))))
  funext a
  fin_cases a <;> refine Fin.ext ?_
  · show ((i.1 * 4 + s.1) * 1536 + j.1) / 6144 = i.1
    omega
  · show ((i.1 * 4 + s.1) * 1536 + j.1) % 6144 = s.1 * 1536 + j.1
    omega

end Cert.RefInDwIdeal.Read
end
-- ==== Proof.OutDx.lean ====
module

public import Idealize.ShloMosaic.Lib.Pipeline.ValueKit
public import Idealize.ShloMosaic.Lib.Pointwise
public import proofs.«01_k».proof.Proof.Gen.OutDxIdeal.Value
public import proofs.«01_k».proof.Proof.Gen.RefOutDxIdeal.Read

/-! The retention mixer's out projection, its input's cotangent: what the kernel and the reference compute. -/

@[expose] public section

set_option maxRecDepth 65536

noncomputable section

namespace Cert.OutDxIdeal

open Idealize.ShloMosaic Idealize.ShloMosaic.TcCoe Idealize.ShloMosaic.Tactic
open Gen

/-- A block's product. -/
theorem pay_at (z : Vec Ideal S1088x1024 .f32) (w : Vec Ideal S1024x1024 .bf16) (i : Fin 1088) (j : Fin 1024) :
    k0_pay1 z w (ix2 i j) = ∑ k : Fin 1024, z (ix2 i k) * w (ix2 j k) := by
  pointwise [k0_pay1]

variable (m : (ℓ : Loc nD τ sig) → Buf (Elt Ideal) ℓ) (c : Dev nD) (t : Fin cfg0.N)

theorem points : cfg0.N = 8 := by decide +kernel

theorem idx0 : ∀ t : Fin cfg0.N, win0_0.index t = ![(t : ℕ) / 2, 0] := by decide +kernel
theorem idx1 : ∀ t : Fin cfg0.N, win0_1.index t = ![(t : ℕ) % 2, 0] := by decide +kernel
theorem idx2 : ∀ t : Fin cfg0.N, win0_2.index t = ![(t : ℕ) / 2, (t : ℕ) % 2] := by decide +kernel

/-- The row of the arrays that a block's row is. -/
def row (i : Fin 1088) : Fin 4352 := ⟨t.1 / 2 * 1088 + i.1, by have := t.2; have := points; omega⟩

/-- The column of the result that a block's column is. -/
def col (j : Fin 1024) : Fin 2048 := ⟨t.1 % 2 * 1024 + j.1, by omega⟩

theorem blk0 (i : Fin 1088) (k : Fin 1024) : iblk m c 0 t (ix2 i k) = m (c.tc.loc main_arg0) (ix2 (row t i) k) := by
  blk_ext [iblk, V_main_arg0, idx0 t, row]

theorem blk1 (j : Fin 1024) (k : Fin 1024) : iblk m c 1 t (ix2 j k) = m (c.tc.loc main_arg1) (ix2 (col t j) k) := by
  blk_ext [iblk, V_main_arg1, idx1 t, col]

/-- The cotangent at an index. -/
def dx (z : S4352x1024.Idx → EReal) (w : S2048x1024.Idx → EReal) : S4352x2048.Idx → EReal := fun x =>
  ∑ k : Fin 1024, z (ix2 (x 0) k) * w (ix2 (x 1) k)

/-- The cotangent as an array. -/
def G : S4352x2048.Idx → EReal := dx (m (c.tc.loc main_arg0)) (m (c.tc.loc main_arg1))

/-- The cotangent after the run. -/
theorem final : (dats m 0 c).arrAt 2 cfg0.N = G m c := by
  refine (dats m 0 c).arrAt_eq_of_covers 2 _ (by decide +kernel) fun t hf y => ?_
  obtain ⟨i, j, rfl⟩ : ∃ (i : Fin 1088) (j : Fin 1024), y = ix2 i j := ⟨y 0, y 1, by funext a; fin_cases a <;> rfl⟩
  have e : (win0_2.blk t).view.emb (ix2 i j) = ix2 (row t i) (col t j) := by
    blk_ext [idx2 t, row, col]
  blk_simp
  rw [after0_2]
  frame_out
  refine (pay_at _ _ i j).trans (Eq.trans ?_ (congrArg (G m c) e.symm))
  exact Finset.sum_congr rfl fun k _ => congrArg₂ (fun a b : EReal => a * b) (blk0 m c t i k) (blk1 m c t j k)

end Cert.OutDxIdeal

namespace Cert.RefOutDxIdeal.Read

open Idealize.ShloMosaic Idealize.ShloMosaic.TcCoe Idealize.ShloMosaic.Tactic Cert.OutDxIdeal

/-- The reference's result is that cotangent. -/
theorem val (z : (⟨S4352x1024, .f32⟩ : BufTy).Contents (Elt Ideal)) (w : (⟨S2048x1024, .bf16⟩ : BufTy).Contents (Elt Ideal)) :
    val_main_v3 (F := Ideal) z w = dx z w := by
  funext x
  obtain ⟨i, j, rfl⟩ : ∃ (i : Fin 4352) (j : Fin 2048), x = ix2 i j := ⟨x 0, x 1, by funext a; fin_cases a <;> rfl⟩
  pointwise [val_main_v3, val_main_v1]
  rfl

end Cert.RefOutDxIdeal.Read
end
-- ==== Proof.OutDw.lean ====
module

public import Idealize.ShloMosaic.Lib.Pipeline.ValueKit
public import Idealize.ShloMosaic.Lib.Pipeline.ReadBack
public import Idealize.ShloMosaic.Lib.Pointwise
public import proofs.«01_k».proof.Proof.Products
public import proofs.«01_k».proof.Proof.Gen.OutDwIdeal.Value
public import proofs.«01_k».proof.Proof.Gen.RefOutDwIdeal.Read

/-! The retention mixer's out projection, its weight's gradient: what the kernel and the reference compute. -/

@[expose] public section

set_option maxRecDepth 65536

noncomputable section

namespace Cert.OutDwIdeal

open Idealize.ShloMosaic Idealize.ShloMosaic.TcCoe Idealize.ShloMosaic.Tactic
open Gen

/-- A block of rows' part of the gradient. -/
theorem part_at (a : Vec Ideal S1088x1024 .f32) (z : Vec Ideal S1088x1024 .f32) (i : Fin 1024) (j : Fin 1024) :
    k0_pay1 a z (ix2 i j) = ∑ k : Fin 1088, a (ix2 k i) * z (ix2 k j) := by
  pointwise [k0_pay1]

theorem first_at (a : Vec Ideal S1088x1024 .f32) (z : Vec Ideal S1088x1024 .f32) (i : Fin 1024) (j : Fin 1024) :
    k0_pay2 a z (ix2 i j) = k0_pay1 a z (ix2 i j) := by
  pointwise [k0_pay2]

theorem next_at (a : Vec Ideal S1088x1024 .f32) (z : Vec Ideal S1088x1024 .f32) (s : Vec Ideal S1024x1024 .f32)
    (i : Fin 1024) (j : Fin 1024) : k0_pay3 a z s (ix2 i j) = s (ix2 i j) + k0_pay1 a z (ix2 i j) := by
  pointwise [k0_pay3]

variable (m : (ℓ : Loc nD τ sig) → Buf (Elt Ideal) ℓ) (c : Dev nD) (t : Fin cfg0.N)

theorem points : cfg0.N = 8 := by decide +kernel

theorem idx0 : ∀ t : Fin cfg0.N, win0_0.index t = ![(t : ℕ) % 4, (t : ℕ) / 4] := by decide +kernel
theorem idx1 : ∀ t : Fin cfg0.N, win0_1.index t = ![(t : ℕ) % 4, 0] := by decide +kernel
theorem idx2 : ∀ t : Fin cfg0.N, win0_2.index t = ![(t : ℕ) / 4, 0] := by decide +kernel

/-- The scratch at the end of a block's run of points. -/
theorem scratch (hr : t.val % 4 = 4 - 1) (i : Fin 1024) (j : Fin 1024) : (outsAt0 m c t.val t.isLt).2 (ix2 i j)
    = 0 + ∑ s : Fin 4, k0_pay1 (iblk m c 0 ⟨4 * (t.val / 4) + s.val, Pipeline.run_point_lt_of_flush t hr s⟩)
        (iblk m c 1 ⟨4 * (t.val / 4) + s.val, Pipeline.run_point_lt_of_flush t hr s⟩) (ix2 i j) := by
  refine Pipeline.eq_sum_fin_of_reset_step_apply_of_flush (fun n h => fun y : Fin 1024 × Fin 1024 => (outsAt0 m c n h).2 (ix2 y.1 y.2)) 4
    (fun _ => 0) (fun t y => k0_pay1 (iblk m c 0 t) (iblk m c 1 t) (ix2 y.1 y.2)) (fun t h y => ?_) (fun t h y => ?_) t hr (i, j)
  · rw [outsAt0_A m c t h (by omega) (by omega)]
    frame_out
    rw [first_at, zero_add]
  · by_cases h3 : t.val % 4 = 3
    · rw [outsAt0_C m c t h (by omega) h3]
      frame_out
      rw [next_at, read_unread_whole]
    · rw [outsAt0_B m c t h (by omega) h3]
      frame_out
      rw [next_at, read_unread_whole]

/-- What is written back is what the scratch holds. -/
theorem written (hr : t.val % 4 = 3) (i : Fin 1024) (j : Fin 1024) :
    (outsAt0 m c t.val t.isLt).1 (ix2 i j) = (outsAt0 m c t.val t.isLt).2 (ix2 i j) := by
  rw [outsAt0_C m c t (by omega) (by omega) hr]
  frame_out
  rfl

/-- The row of the arrays that a block's row is. -/
def row (k : Fin 1088) : Fin 4352 := ⟨t.1 % 4 * 1088 + k.1, by omega⟩

/-- The row of the gradient that a block's row is. -/
def out (i : Fin 1024) : Fin 2048 := ⟨t.1 / 4 * 1024 + i.1, by have := t.2; have := points; omega⟩

theorem blk0 (k : Fin 1088) (i : Fin 1024) : iblk m c 0 t (ix2 k i) = m (c.tc.loc main_arg0) (ix2 (row t k) (out t i)) := by
  blk_ext [iblk, V_main_arg0, idx0 t, row, out]

theorem blk1 (k : Fin 1088) (j : Fin 1024) : iblk m c 1 t (ix2 k j) = m (c.tc.loc main_arg1) (ix2 (row t k) j) := by
  blk_ext [iblk, V_main_arg1, idx1 t, row]

/-- The gradient at an index. -/
def dw (a : S4352x2048.Idx → EReal) (z : S4352x1024.Idx → EReal) : S2048x1024.Idx → EReal := fun x =>
  ∑ r : Fin 4352, a (ix2 r (x 0)) * z (ix2 r (x 1))

/-- The gradient as an array. -/
def G : S2048x1024.Idx → EReal := dw (m (c.tc.loc main_arg0)) (m (c.tc.loc main_arg1))

/-- The gradient after the run. -/
theorem final : (dats m 0 c).arrAt 2 cfg0.N = G m c := by
  refine (dats m 0 c).arrAt_eq_of_covers 2 _ (by decide +kernel) fun t hf y => ?_
  obtain ⟨i, j, rfl⟩ : ∃ (i : Fin 1024) (j : Fin 1024), y = ix2 i j := ⟨y 0, y 1, by funext a; fin_cases a <;> rfl⟩
  have hr : t.val % 4 = 3 := (flush0_2 t).mp hf
  have e : (win0_2.blk t).view.emb (ix2 i j) = ix2 (out t i) j := by
    blk_ext [idx2 t, out]
  blk_simp
  rw [after0_2]
  refine (written m c t hr i j).trans ((scratch m c t hr i j).trans (Eq.trans ?_ (congrArg (G m c) e.symm)))
  rw [zero_add]
  refine (Finset.sum_congr rfl fun s _ => part_at _ _ i j).trans (Products.sum_parts (by decide) _ _ fun s k l hl => ?_)
  have h0 : row ⟨4 * (t.val / 4) + s.val, Pipeline.run_point_lt_of_flush t hr s⟩ k = l := Fin.ext (by simp only [row]; omega)
  have h1 : out ⟨4 * (t.val / 4) + s.val, Pipeline.run_point_lt_of_flush t hr s⟩ i = out t i := Fin.ext (by simp only [out]; omega)
  exact congrArg₂ (fun a b : EReal => a * b) ((blk0 m c _ k i).trans (by rw [h0, h1]; rfl)) ((blk1 m c _ k j).trans (by rw [h0]; rfl))

end Cert.OutDwIdeal

namespace Cert.RefOutDwIdeal.Read

open Idealize.ShloMosaic Idealize.ShloMosaic.TcCoe Idealize.ShloMosaic.Tactic Cert.OutDwIdeal

/-- The reference's result is that gradient. -/
theorem val (a : (⟨S4352x2048, .f32⟩ : BufTy).Contents (Elt Ideal)) (z : (⟨S4352x1024, .f32⟩ : BufTy).Contents (Elt Ideal)) :
    val_main_v5 (F := Ideal) a z = dw a z := by
  funext x
  obtain ⟨i, j, rfl⟩ : ∃ (i : Fin 2048) (j : Fin 1024), x = ix2 i j := ⟨x 0, x 1, by funext a; fin_cases a <;> rfl⟩
  pointwise [val_main_v5, val_main_v4, val_main_v3]
  exact Finset.sum_congr rfl fun r _ => mul_comm _ _

end Cert.RefOutDwIdeal.Read
end
-- ==== Proof.NormBwd.lean ====
module

public import Idealize.ShloMosaic.Lib.Pipeline.ValueKit
public import Idealize.ShloMosaic.Lib.Pipeline.ReadBack
public import Idealize.ShloMosaic.Lib.Pointwise
public import proofs.«01_k».proof.Proof.Products
public import proofs.«01_k».proof.Proof.Vjp
public import proofs.«01_k».proof.Proof.Gen.NormBwdIdeal.Value
public import proofs.«01_k».proof.Proof.Gen.RefNormBwdIdeal.Read

/-! The layer norm, backward: what the kernel and the reference compute. -/

@[expose] public section

set_option maxRecDepth 65536

noncomputable section

namespace Cert.NormBwdIdeal

open Idealize.ShloMosaic Idealize.ShloMosaic.TcCoe Idealize.ShloMosaic.Tactic
open Gen Norms

/-- The length the means divide by. -/
abbrev len : EReal := Ideal.ofBits .f32 0x44800000#32

/-- A row normalized. -/
def hat (x : Fin 1024 → EReal) (k : Fin 1024) : EReal := centred len x k * rstd len (centred len x)

theorem hat_eq {x x' : Fin 1024 → EReal} (hx : ∀ k, x k = x' k) (k : Fin 1024) : hat x k = hat x' k := by
  rw [funext hx]

theorem layerGrad_eq {x x' y y' : Fin 1024 → EReal} (hx : ∀ k, x k = x' k) (hy : ∀ k, y k = y' k) (k : Fin 1024) :
    layerGrad len x y k = layerGrad len x' y' k := by
  rw [funext hx, funext hy]

theorem centred_at (z : Vec Ideal S544x1024 .f32) (i : Fin 544) (j : Fin 1024) :
    k0_pay5 z (ix2 i j) = centred len (fun k => z (ix2 i k)) j := by
  pointwise [k0_pay5]
  rfl

theorem rstd_at (z : Vec Ideal S544x1024 .f32) (i : Fin 544) :
    k0_pay6 z (ix2 i 0) = rstd len (centred len (fun k => z (ix2 i k))) := by
  pointwise [k0_pay6]
  simp only [centred_at]
  rfl

theorem hat_at (z : Vec Ideal S544x1024 .f32) (i : Fin 544) (j : Fin 1024) :
    k0_pay7 z (ix2 i j) = hat (fun k => z (ix2 i k)) j := by
  pointwise [k0_pay7]
  exact congrArg₂ (fun a b : EReal => a * b) (centred_at z i j) (rstd_at z i)

theorem dz_at (z y : Vec Ideal S544x1024 .f32) (g : Vec Ideal S1x1024 .f32) (i : Fin 544) (j : Fin 1024) :
    k0_pay8 z y g (ix2 i j) = layerGrad len (fun k => z (ix2 i k)) (fun k => y (ix2 i k) * g (ix2 0 k)) j := by
  pointwise [k0_pay8]
  simp only [hat_at, rstd_at]
  rfl

/-- A block of rows' part of the scale's gradient. -/
def partG (z y : Vec Ideal S544x1024 .f32) (j : Fin 1024) : EReal := ∑ r : Fin 544, y (ix2 r j) * k0_pay7 z (ix2 r j)

/-- A block of rows' part of the shift's gradient. -/
def partB (y : Vec Ideal S544x1024 .f32) (j : Fin 1024) : EReal := ∑ r : Fin 544, y (ix2 r j)

theorem dg_at (z y : Vec Ideal S544x1024 .f32) (s : Vec Ideal S1x1024 .f32) (j : Fin 1024) :
    k0_pay1 (k0_pay7 z) y s (ix2 0 j) = s (ix2 0 j) + partG z y j := by
  pointwise [k0_pay1]
  rfl

theorem db_at (y : Vec Ideal S544x1024 .f32) (s : Vec Ideal S1x1024 .f32) (j : Fin 1024) :
    k0_pay2 y s (ix2 0 j) = s (ix2 0 j) + partB y j := by
  pointwise [k0_pay2]
  rfl

theorem zero_g (j : Fin 1024) : k0_pay3 (F := Ideal) (ix2 0 j) = 0 := by
  pointwise [k0_pay3]

theorem zero_b (j : Fin 1024) : k0_pay4 (F := Ideal) (ix2 0 j) = 0 := by
  pointwise [k0_pay4]

variable (m : (ℓ : Loc nD τ sig) → Buf (Elt Ideal) ℓ) (c : Dev nD) (t : Fin cfg0.N)

theorem points : cfg0.N = 8 := by decide +kernel

theorem idx0 : ∀ t : Fin cfg0.N, win0_0.index t = ![(t : ℕ), 0] := by decide +kernel
theorem idx1 : ∀ t : Fin cfg0.N, win0_1.index t = ![0, 0] := by decide +kernel
theorem idx2 : ∀ t : Fin cfg0.N, win0_2.index t = ![(t : ℕ), 0] := by decide +kernel
theorem idx3 : ∀ t : Fin cfg0.N, win0_3.index t = ![(t : ℕ), 0] := by decide +kernel
theorem idx4 : ∀ t : Fin cfg0.N, win0_4.index t = ![0, 0] := by decide +kernel
theorem idx5 : ∀ t : Fin cfg0.N, win0_5.index t = ![0, 0] := by decide +kernel

/-- The row of the arrays that a block's row is. -/
def row (i : Fin 544) : Fin 4352 := ⟨t.1 * 544 + i.1, by have := t.2; have := points; omega⟩

theorem blk0 (i : Fin 544) (k : Fin 1024) : iblk m c 0 t (ix2 i k) = m (c.tc.loc main_arg0) (ix2 (row t i) k) := by
  blk_ext [iblk, V_main_arg0, idx0 t, row]

theorem blk1 (k : Fin 1024) : iblk m c 1 t (ix2 0 k) = m (c.tc.loc main_arg1) (ix2 0 k) := by
  blk_ext [iblk, V_main_arg1, idx1 t]

theorem blk2 (i : Fin 544) (k : Fin 1024) : iblk m c 2 t (ix2 i k) = m (c.tc.loc main_arg2) (ix2 (row t i) k) := by
  blk_ext [iblk, V_main_arg2, idx2 t, row]

/-- The cotangent of the norm's argument. -/
def dz (z : S4352x1024.Idx → EReal) (g : S1x1024.Idx → EReal) (y : S4352x1024.Idx → EReal) : S4352x1024.Idx → EReal := fun x =>
  layerGrad len (fun k => z (ix2 (x 0) k)) (fun k => y (ix2 (x 0) k) * g (ix2 0 k)) (x 1)

/-- The gradient of the scale. -/
def dg (z y : S4352x1024.Idx → EReal) : S1x1024.Idx → EReal := fun x =>
  ∑ r : Fin 4352, y (ix2 r (x 1)) * hat (fun k => z (ix2 r k)) (x 1)

/-- The gradient of the shift. -/
def db (y : S4352x1024.Idx → EReal) : S1x1024.Idx → EReal := fun x => ∑ r : Fin 4352, y (ix2 r (x 1))

/-- The three as arrays. -/
def G : S4352x1024.Idx → EReal := dz (m (c.tc.loc main_arg0)) (m (c.tc.loc main_arg1)) (m (c.tc.loc main_arg2))
def Gg : S1x1024.Idx → EReal := dg (m (c.tc.loc main_arg0)) (m (c.tc.loc main_arg2))
def Gb : S1x1024.Idx → EReal := db (m (c.tc.loc main_arg2))

/-- The cotangent after the run. -/
theorem final : (dats m 0 c).arrAt 3 cfg0.N = G m c := by
  refine (dats m 0 c).arrAt_eq_of_covers 3 _ (by decide +kernel) fun t hf y => ?_
  obtain ⟨i, j, rfl⟩ : ∃ (i : Fin 544) (j : Fin 1024), y = ix2 i j := ⟨y 0, y 1, by funext a; fin_cases a <;> rfl⟩
  have e : (win0_3.blk t).view.emb (ix2 i j) = ix2 (row t i) j := by
    blk_ext [idx3 t, row]
  have h : (outsAt0 m c t.val t.isLt).1 (ix2 i j) = k0_pay8 (iblk m c 0 t) (iblk m c 2 t) (iblk m c 1 t) (ix2 i j) := by
    by_cases h0 : t.val % 8 = 0
    · rw [outsAt0_A m c t h0]
      frame_out
    · rw [outsAt0_B m c t h0]
      frame_out
  blk_simp
  rw [after0_3]
  refine h.trans ((dz_at _ _ _ i j).trans (Eq.trans ?_ (congrArg (G m c) e.symm)))
  exact layerGrad_eq (blk0 m c t i) (fun k => congrArg₂ (fun a b : EReal => a * b) (blk2 m c t i k) (blk1 m c t k)) j

/-- The scale's block at the end of the run of points. -/
theorem scale (hr : t.val % 8 = 8 - 1) (j : Fin 1024) : (outsAt0 m c t.val t.isLt).2.1 (ix2 0 j)
    = 0 + ∑ s : Fin 8, partG (iblk m c 0 ⟨8 * (t.val / 8) + s.val, Pipeline.run_point_lt_of_flush t hr s⟩)
        (iblk m c 2 ⟨8 * (t.val / 8) + s.val, Pipeline.run_point_lt_of_flush t hr s⟩) j := by
  refine Pipeline.eq_sum_fin_of_reset_step_apply_of_flush (fun n h => fun y : Fin 1024 => (outsAt0 m c n h).2.1 (ix2 0 y)) 8
    (fun _ => 0) (fun t y => partG (iblk m c 0 t) (iblk m c 2 t) y)
    (fun t h y => ?_) (fun t h y => ?_) t hr j
  · rw [outsAt0_A m c t h]
    frame_out
    rw [dg_at, zero_g]
  · rw [outsAt0_B m c t h]
    frame_out
    rw [dg_at]

/-- The shift's block at the end of the run of points. -/
theorem shift (hr : t.val % 8 = 8 - 1) (j : Fin 1024) : (outsAt0 m c t.val t.isLt).2.2 (ix2 0 j)
    = 0 + ∑ s : Fin 8, partB (iblk m c 2 ⟨8 * (t.val / 8) + s.val, Pipeline.run_point_lt_of_flush t hr s⟩) j := by
  refine Pipeline.eq_sum_fin_of_reset_step_apply_of_flush (fun n h => fun y : Fin 1024 => (outsAt0 m c n h).2.2 (ix2 0 y)) 8
    (fun _ => 0) (fun t y => partB (iblk m c 2 t) y) (fun t h y => ?_) (fun t h y => ?_) t hr j
  · rw [outsAt0_A m c t h]
    frame_out
    rw [db_at, zero_b]
  · rw [outsAt0_B m c t h]
    frame_out
    rw [db_at]

theorem row_run {t : Fin cfg0.N} (hr : t.val % 8 = 8 - 1) (s : Fin 8) (r : Fin 544) (l : Fin 4352) (hl : l.val = s.val * 544 + r.val) :
    row ⟨8 * (t.val / 8) + s.val, Pipeline.run_point_lt_of_flush t hr s⟩ r = l := by
  have ht : t.val < 8 := lt_of_lt_of_eq t.2 points
  exact Fin.ext (by simp only [row]; omega)

/-- The scale's gradient after the run. -/
theorem final_g : (dats m 0 c).arrAt 4 cfg0.N = Gg m c := by
  refine (dats m 0 c).arrAt_eq_of_covers 4 _ (by decide +kernel) fun t hf y => ?_
  obtain ⟨j, rfl⟩ : ∃ j : Fin 1024, y = ix2 0 j := ⟨y 1, idx_one y⟩
  have hr : t.val % 8 = 8 - 1 := (flush0_4 t).mp hf
  have e : (win0_4.blk t).view.emb (ix2 0 j) = ix2 0 j := by
    blk_ext [idx4 t]
  blk_simp
  rw [after0_4]
  refine (scale m c t hr j).trans (Eq.trans ?_ (congrArg (Gg m c) e.symm))
  rw [zero_add]
  refine Products.sum_parts (by decide) _ _ fun s r l hl => ?_
  have h0 := row_run hr s r l hl
  refine congrArg₂ (fun a b : EReal => a * b) ((blk2 m c _ r j).trans (by rw [h0]; rfl)) ((hat_at _ r j).trans ?_)
  exact hat_eq (fun k => (blk0 m c _ r k).trans (by rw [h0])) j

/-- The shift's gradient after the run. -/
theorem final_b : (dats m 0 c).arrAt 5 cfg0.N = Gb m c := by
  refine (dats m 0 c).arrAt_eq_of_covers 5 _ (by decide +kernel) fun t hf y => ?_
  obtain ⟨j, rfl⟩ : ∃ j : Fin 1024, y = ix2 0 j := ⟨y 1, idx_one y⟩
  have hr : t.val % 8 = 8 - 1 := (flush0_5 t).mp hf
  have e : (win0_5.blk t).view.emb (ix2 0 j) = ix2 0 j := by
    blk_ext [idx5 t]
  blk_simp
  rw [after0_5]
  refine (shift m c t hr j).trans (Eq.trans ?_ (congrArg (Gb m c) e.symm))
  rw [zero_add]
  refine Products.sum_parts (by decide) _ _ fun s r l hl => ?_
  exact (blk2 m c _ r j).trans (by rw [row_run hr s r l hl]; rfl)

end Cert.NormBwdIdeal
namespace Cert.RefNormBwdIdeal.Read

open Idealize.ShloMosaic Idealize.ShloMosaic.TcCoe Idealize.ShloMosaic.Tactic Cert.NormBwdIdeal Norms

variable (z : (⟨S4352x1024, .f32⟩ : BufTy).Contents (Elt Ideal)) (g : (⟨S1x1024, .f32⟩ : BufTy).Contents (Elt Ideal))
  (y : (⟨S4352x1024, .f32⟩ : BufTy).Contents (Elt Ideal))

theorem centred_at (i : Fin 4352) (k : Fin 1024) : val_main_v6 (F := Ideal) z (ix2 i k) = centred len (fun k => z (ix2 i k)) k := by
  pointwise [val_main_v6, val_main_v5, val_main_v4, val_main_v3, val_main_v2, val_main_v1, val_main_cst_0, val_main_cst_1]
  rfl

theorem var_at (i : Fin 4352) : val_main_v15 (F := Ideal) z (ix2 i 0)
    = mean len (fun k => centred len (fun k => z (ix2 i k)) k * centred len (fun k => z (ix2 i k)) k) + eps := by
  pointwise [val_main_v15, val_main_v14, val_main_v13, val_main_v12, val_main_v11, val_main_v10, val_main_v7, val_main_cst_3,
    val_main_cst_4, val_main_cst_5]
  simp only [centred_at]
  rfl

theorem rstd_at (i : Fin 4352) : val_main_v16 (F := Ideal) z (ix2 i 0) = rstd len (centred len (fun k => z (ix2 i k))) := by
  pointwise [val_main_v16]
  exact congrArg Ideal.rsqrt (var_at z i)

theorem hat_at (i : Fin 4352) (k : Fin 1024) : val_main_v21 (F := Ideal) z (ix2 i k) = hat (fun k => z (ix2 i k)) k := by
  pointwise [val_main_v21, val_main_v20]
  exact congrArg₂ (fun a b : EReal => a * b) (centred_at z i k) (rstd_at z i)

theorem same (i : Fin 4352) (k : Fin 1024) : val_main_v26 (F := Ideal) y (ix2 i k) = y (ix2 i k) := by
  pointwise [val_main_v26]

theorem scaled_at (i : Fin 4352) (k : Fin 1024) : val_main_v33 (F := Ideal) g y (ix2 i k) = y (ix2 i k) * g (ix2 0 k) := by
  pointwise [val_main_v33, val_main_v32]
  rw [same]

theorem part_at (i : Fin 4352) (k : Fin 1024) : val_main_v45 (F := Ideal) z g y (ix2 i k)
    = rmsVjp len (centred len (fun k => z (ix2 i k))) (fun k => y (ix2 i k) * g (ix2 0 k)) k := by
  pointwise [val_main_v45, val_main_v44, val_main_v43, val_main_v42, val_main_v41, val_main_v40, val_main_v39, val_main_v38, val_main_v37,
    val_main_v36, val_main_v35, val_main_v34, val_main_v19, val_main_v18, val_main_v17, val_main_v9, val_main_v8, val_main_cst_2,
    val_main_cst_6, val_main_cst_9, val_main_cst_10, val_main_cst_11]
  simp only [Fin.sum_univ_one, centred_at, var_at, rstd_at, scaled_at]
  rfl

/-- The cotangent, in reverse mode's form. -/
theorem val_vjp (i : Fin 4352) (k : Fin 1024) : val_main_v53 (F := Ideal) z g y (ix2 i k)
    = layerVjp len (fun k => z (ix2 i k)) (fun k => y (ix2 i k) * g (ix2 0 k)) k := by
  pointwise [val_main_v53, val_main_v52, val_main_v51, val_main_v50, val_main_v49, val_main_v48, val_main_v47, val_main_v46,
    val_main_cst_12, val_main_cst_13, val_main_cst_14]
  simp only [Fin.sum_univ_one, part_at]
  rfl

/-- The reference's first result is that cotangent, the scale and the cotangent it starts from finite. -/
theorem val (hg : ∀ x, ∃ r : ℝ, g x = r) (hy : ∀ x, ∃ r : ℝ, y x = r) :
    val_main_v53 (F := Ideal) z g y = dz z g y := by
  funext x
  obtain ⟨i, j, rfl⟩ : ∃ (i : Fin 4352) (j : Fin 1024), x = ix2 i j := ⟨x 0, x 1, by funext a; fin_cases a <;> rfl⟩
  refine (val_vjp z g y i j).trans ?_
  unfold dz len
  rw [Consts.lit_1024]
  exact layerVjp_of (by norm_num) (by norm_num) (fun k => real_mul (hy _) (hg _)) j

/-- The second is the scale's gradient. -/
theorem val_g : val_main_v31 (F := Ideal) z y = dg z y := by
  funext x
  obtain ⟨j, rfl⟩ : ∃ j : Fin 1024, x = ix2 0 j := ⟨x 1, idx_one x⟩
  pointwise [val_main_v31, val_main_v30, val_main_v29, val_main_cst_8]
  exact Finset.sum_congr rfl fun r _ => (mul_comm _ _).trans (congrArg₂ (fun a b : EReal => a * b) (same y r j) (hat_at z r j))

/-- The third is the shift's gradient. -/
theorem val_b : val_main_v28 (F := Ideal) y = db y := by
  funext x
  obtain ⟨j, rfl⟩ : ∃ j : Fin 1024, x = ix2 0 j := ⟨x 1, idx_one x⟩
  pointwise [val_main_v28, val_main_v27, val_main_cst_7]
  rfl

end Cert.RefNormBwdIdeal.Read
end
-- ==== Proof.GateFwd.lean ====
module

public import Idealize.ShloMosaic.Lib.Pipeline.ValueKit
public import Idealize.ShloMosaic.Lib.Pointwise
public import proofs.«01_k».proof.Proof.Norms
public import proofs.«01_k».proof.Proof.Gen.GateFwdIdeal.Value
public import proofs.«01_k».proof.Proof.Gen.RefGateFwdIdeal.Read

/-! The retention's gate, forward: what the kernel and the reference compute. -/

@[expose] public section

set_option maxRecDepth 65536

noncomputable section

namespace Cert.GateFwdIdeal

open Idealize.ShloMosaic Idealize.ShloMosaic.TcCoe Idealize.ShloMosaic.Tactic
open Gen Norms

/-- The gated norm of a head's row. -/
def gated (p o : Fin 512 → EReal) (k : Fin 512) : EReal := p k * sigma (p k) * (o k * rstd (Ideal.ofBits .f32 0x44000000#32) o)

theorem pay_at (o : Vec Ideal S1088x512 .f32) (p : Vec Ideal S1088x512 .bf16) (i : Fin 1088) (j : Fin 512) :
    k0_pay1 o p (ix2 i j) = gated (fun k => p (ix2 i k)) (fun k => o (ix2 i k)) j := by
  pointwise [k0_pay1]
  rw [zero_sub]
  rfl

variable (m : (ℓ : Loc nD τ sig) → Buf (Elt Ideal) ℓ) (c : Dev nD) (t : Fin cfg0.N)

theorem points : cfg0.N = 16 := by decide +kernel

theorem idx0 : ∀ t : Fin cfg0.N, win0_0.index t = ![(t : ℕ) / 4, (t : ℕ) % 4] := by decide +kernel
theorem idx1 : ∀ t : Fin cfg0.N, win0_1.index t = ![(t : ℕ) / 4, (t : ℕ) % 4 + 8] := by decide +kernel
theorem idx2 : ∀ t : Fin cfg0.N, win0_2.index t = ![(t : ℕ) / 4, (t : ℕ) % 4] := by decide +kernel

/-- The row of the arrays that a block's row is. -/
def row (i : Fin 1088) : Fin 4352 := ⟨t.1 / 4 * 1088 + i.1, by have := t.2; have := points; omega⟩

/-- A head's column. -/
def col (h : Fin 4) (k : Fin 512) : Fin 2048 := ⟨h.1 * 512 + k.1, by omega⟩

/-- The projection's column that a head's gate is in. -/
def gate (h : Fin 4) (k : Fin 512) : Fin 6144 := ⟨4096 + (h.1 * 512 + k.1), by omega⟩

/-- The head of a point. -/
def hd : Fin 4 := ⟨t.1 % 4, by omega⟩

theorem blk0 (i : Fin 1088) (k : Fin 512) : iblk m c 0 t (ix2 i k) = m (c.tc.loc main_arg0) (ix2 (row t i) (col (hd t) k)) := by
  blk_ext [iblk, V_main_arg0, idx0 t, row, col, hd]

theorem blk1 (i : Fin 1088) (k : Fin 512) : iblk m c 1 t (ix2 i k) = m (c.tc.loc main_arg1) (ix2 (row t i) (gate (hd t) k)) := by
  blk_ext [iblk, V_main_arg1, idx1 t, row, gate, hd]

/-- The head that a column lies in. -/
def head (l : Fin 2048) : Fin 4 := ⟨l.1 / 512, by omega⟩

/-- The head's column that it is. -/
def inside (l : Fin 2048) : Fin 512 := ⟨l.1 % 512, by omega⟩

theorem head_col (h : Fin 4) (k : Fin 512) : head (col h k) = h := Fin.ext (by simp only [head, col]; omega)
theorem inside_col (h : Fin 4) (k : Fin 512) : inside (col h k) = k := Fin.ext (by simp only [inside, col]; omega)
theorem col_inside (l : Fin 2048) : col (head l) (inside l) = l := Fin.ext (by simp only [head, inside, col]; omega)

/-- The gated heads, of the retention and of the whole projection. -/
def out (o : S4352x2048.Idx → EReal) (p : S4352x6144.Idx → EReal) : S4352x2048.Idx → EReal := fun y =>
  gated (fun k => p (ix2 (y 0) (gate (head (y 1)) k))) (fun k => o (ix2 (y 0) (col (head (y 1)) k))) (inside (y 1))

/-- The gated heads as an array. -/
def G : S4352x2048.Idx → EReal := out (m (c.tc.loc main_arg0)) (m (c.tc.loc main_arg1))

/-- The gated heads after the run. -/
theorem final : (dats m 0 c).arrAt 2 cfg0.N = G m c := by
  refine (dats m 0 c).arrAt_eq_of_covers 2 _ (by decide +kernel) fun t hf y => ?_
  obtain ⟨i, j, rfl⟩ : ∃ (i : Fin 1088) (j : Fin 512), y = ix2 i j := ⟨y 0, y 1, by funext a; fin_cases a <;> rfl⟩
  have e : (win0_2.blk t).view.emb (ix2 i j) = ix2 (row t i) (col (hd t) j) := by
    blk_ext [idx2 t, row, col, hd]
  blk_simp
  rw [after0_2]
  frame_out
  refine (pay_at _ _ i j).trans (Eq.trans ?_ (congrArg (G m c) e.symm))
  show _ = gated (fun k => m (c.tc.loc main_arg1) (ix2 (row t i) (gate (head (col (hd t) j)) k)))
    (fun k => m (c.tc.loc main_arg0) (ix2 (row t i) (col (head (col (hd t) j)) k))) (inside (col (hd t) j))
  rw [head_col, inside_col, funext (blk0 m c t i), funext (blk1 m c t i)]

end Cert.GateFwdIdeal

namespace Cert.RefGateFwdIdeal.Read

open Idealize.ShloMosaic Idealize.ShloMosaic.TcCoe Idealize.ShloMosaic.Tactic GateFwdIdeal Norms

theorem heads_at (o : (⟨S4352x2048, .f32⟩ : BufTy).Contents (Elt Ideal)) (i : Fin 4352) (h : Fin 4) (k : Fin 512) :
    val_main_v5 (F := Ideal) o (ix3 i h k) = o (ix2 i (col h k)) := by
  refine (val_main_v5_apply o _).trans (congrArg o ?_)
  funext a
  fin_cases a <;> refine Fin.ext ?_
  · show ((i.1 * 4 + h.1) * 512 + k.1) / 2048 = i.1
    omega
  · show ((i.1 * 4 + h.1) * 512 + k.1) % 2048 = h.1 * 512 + k.1
    omega

theorem norm_at (o : (⟨S4352x2048, .f32⟩ : BufTy).Contents (Elt Ideal)) (i : Fin 4352) (h : Fin 4) (k : Fin 512) :
    val_main_v15 (F := Ideal) o (ix3 i h k)
      = o (ix2 i (col h k)) * rstd (Ideal.ofBits .f32 0x44000000#32) (fun k => o (ix2 i (col h k))) := by
  pointwise [val_main_v15, val_main_v14, val_main_v13, val_main_v12, val_main_v11, val_main_v10, val_main_v9, val_main_v8, val_main_v7,
    val_main_v6, val_main_cst, val_main_cst_0, val_main_cst_1]
  simp only [heads_at]
  rfl

theorem flat_at (o : (⟨S4352x2048, .f32⟩ : BufTy).Contents (Elt Ideal)) (i : Fin 4352) (l : Fin 2048) :
    val_main_v17 (F := Ideal) o (ix2 i l) = val_main_v15 (F := Ideal) o (ix3 i (head l) (inside l)) := by
  refine (val_main_v17_apply o _).trans (congrArg _ ?_)
  funext a
  fin_cases a <;> refine Fin.ext ?_
  · show (i.1 * 2048 + l.1) / 2048 = i.1
    omega
  · show (i.1 * 2048 + l.1) / 512 % 4 = l.1 / 512
    omega
  · show (i.1 * 2048 + l.1) % 512 = l.1 % 512
    omega

theorem gate_at (p : (⟨S4352x6144, .bf16⟩ : BufTy).Contents (Elt Ideal)) (i : Fin 4352) (l : Fin 2048) :
    val_main_v4 (F := Ideal) p (ix2 i l) = p (ix2 i (gate (head l) (inside l))) := by
  have e : (⟨4096 + l.1, by omega⟩ : Fin 6144) = gate (head l) (inside l) := Fin.ext (by simp only [gate, head, inside]; omega)
  rw [← e]
  pointwise [val_main_v4, val_main_v3]

/-- The reference's result is the gated heads. -/
theorem val (o : (⟨S4352x2048, .f32⟩ : BufTy).Contents (Elt Ideal)) (p : (⟨S4352x6144, .bf16⟩ : BufTy).Contents (Elt Ideal)) :
    val_main_v18 (F := Ideal) o p = out o p := by
  funext y
  obtain ⟨i, l, rfl⟩ : ∃ (i : Fin 4352) (l : Fin 2048), y = ix2 i l := ⟨y 0, y 1, by funext a; fin_cases a <;> rfl⟩
  pointwise [val_main_v18, val_main_v16, val_main_call0_v5, val_main_call0_v4, val_main_call0_v3, val_main_call0_v2, val_main_call0_v1,
    val_main_call0_v0, val_main_call0_cst, val_main_call0_cst_0]
  simp only [flat_at, norm_at, gate_at]
  rfl

end Cert.RefGateFwdIdeal.Read
end
-- ==== Proof.GateBwd.lean ====
module

public import Idealize.ShloMosaic.Lib.Pipeline.ValueKit
public import Idealize.ShloMosaic.Lib.Pointwise
public import proofs.«01_k».proof.Proof.Vjp
public import proofs.«01_k».proof.Proof.GateFwd
public import proofs.«01_k».proof.Proof.Gen.GateBwdIdeal.Value
public import proofs.«01_k».proof.Proof.Gen.RefGateBwdIdeal.Read

/-! The retention's gate, backward: what the kernel and the reference compute. -/

@[expose] public section

set_option maxRecDepth 65536

noncomputable section

namespace Cert.GateBwdIdeal

open Idealize.ShloMosaic Idealize.ShloMosaic.TcCoe Idealize.ShloMosaic.Tactic
open Gen Norms
open GateFwdIdeal (col gate head inside head_col inside_col)

/-- The length the means divide by. -/
abbrev len : EReal := Ideal.ofBits .f32 0x44000000#32

/-- The cotangent of a head's row of the retention. -/
def rowO (o p y : Fin 512 → EReal) (k : Fin 512) : EReal := rmsGrad len o (fun k => y k * (p k * sigma (p k))) k

/-- The cotangent of a head's row of the gate. -/
def rowP (o p y : Fin 512 → EReal) (k : Fin 512) : EReal :=
  y k * (o k * rstd len o) * (sigma (p k) * (1 + p k * (1 - sigma (p k))))

theorem rstd_at (o : Vec Ideal S1088x512 .f32) (i : Fin 1088) : k0_pay3 o (ix2 i 0) = rstd len (fun k => o (ix2 i k)) := by
  pointwise [k0_pay3]
  rfl

theorem hat_at (o : Vec Ideal S1088x512 .f32) (i : Fin 1088) (j : Fin 512) :
    k0_pay4 o (ix2 i j) = o (ix2 i j) * rstd len (fun k => o (ix2 i k)) := by
  pointwise [k0_pay4]
  rw [rstd_at]

theorem sigma_at (p : Vec Ideal S1088x512 .bf16) (i : Fin 1088) (j : Fin 512) : k0_pay5 p (ix2 i j) = sigma (p (ix2 i j)) := by
  pointwise [k0_pay5, k0_pay2]
  rw [zero_sub]
  rfl

theorem scaled_at (p : Vec Ideal S1088x512 .bf16) (y : Vec Ideal S1088x512 .f32) (i : Fin 1088) (j : Fin 512) :
    k0_pay7 p y (ix2 i j) = y (ix2 i j) * (p (ix2 i j) * sigma (p (ix2 i j))) := by
  pointwise [k0_pay7, k0_pay2]
  rw [sigma_at]

theorem do_at (o : Vec Ideal S1088x512 .f32) (p : Vec Ideal S1088x512 .bf16) (y : Vec Ideal S1088x512 .f32) (i : Fin 1088) (j : Fin 512) :
    k0_pay1 (k0_pay3 o) (k0_pay4 o) (k0_pay7 p y) (k0_pay8 o p y) (ix2 i j)
      = rowO (fun k => o (ix2 i k)) (fun k => p (ix2 i k)) (fun k => y (ix2 i k)) j := by
  pointwise [k0_pay1, k0_pay8]
  simp only [rstd_at, hat_at, scaled_at]
  rfl

theorem dp_at (o : Vec Ideal S1088x512 .f32) (p : Vec Ideal S1088x512 .bf16) (y : Vec Ideal S1088x512 .f32) (i : Fin 1088) (j : Fin 512) :
    k0_pay6 o p y (ix2 i j) = rowP (fun k => o (ix2 i k)) (fun k => p (ix2 i k)) (fun k => y (ix2 i k)) j := by
  pointwise [k0_pay6, k0_pay2]
  simp only [hat_at, sigma_at]
  rfl

variable (m : (ℓ : Loc nD τ sig) → Buf (Elt Ideal) ℓ) (c : Dev nD) (t : Fin cfg0.N)

theorem points : cfg0.N = 16 := by decide +kernel

theorem idx0 : ∀ t : Fin cfg0.N, win0_0.index t = ![(t : ℕ) / 4, (t : ℕ) % 4] := by decide +kernel
theorem idx1 : ∀ t : Fin cfg0.N, win0_1.index t = ![(t : ℕ) / 4, (t : ℕ) % 4 + 8] := by decide +kernel
theorem idx2 : ∀ t : Fin cfg0.N, win0_2.index t = ![(t : ℕ) / 4, (t : ℕ) % 4] := by decide +kernel
theorem idx3 : ∀ t : Fin cfg0.N, win0_3.index t = ![(t : ℕ) / 4, (t : ℕ) % 4] := by decide +kernel
theorem idx4 : ∀ t : Fin cfg0.N, win0_4.index t = ![(t : ℕ) / 4, (t : ℕ) % 4] := by decide +kernel

/-- The row of the arrays that a block's row is. -/
def row (i : Fin 1088) : Fin 4352 := ⟨t.1 / 4 * 1088 + i.1, by have := t.2; have := points; omega⟩

/-- The head of a point. -/
def hd : Fin 4 := ⟨t.1 % 4, by omega⟩

theorem blk0 (i : Fin 1088) (k : Fin 512) : iblk m c 0 t (ix2 i k) = m (c.tc.loc main_arg0) (ix2 (row t i) (col (hd t) k)) := by
  blk_ext [iblk, V_main_arg0, idx0 t, row, col, hd]

theorem blk1 (i : Fin 1088) (k : Fin 512) : iblk m c 1 t (ix2 i k) = m (c.tc.loc main_arg1) (ix2 (row t i) (gate (hd t) k)) := by
  blk_ext [iblk, V_main_arg1, idx1 t, row, gate, hd]

theorem blk2 (i : Fin 1088) (k : Fin 512) : iblk m c 2 t (ix2 i k) = m (c.tc.loc main_arg2) (ix2 (row t i) (col (hd t) k)) := by
  blk_ext [iblk, V_main_arg2, idx2 t, row, col, hd]

/-- Rows of heads, of the retention, the whole projection and the cotangent. -/
def heads (f : (Fin 512 → EReal) → (Fin 512 → EReal) → (Fin 512 → EReal) → Fin 512 → EReal) (o : S4352x2048.Idx → EReal)
    (p : S4352x6144.Idx → EReal) (y : S4352x2048.Idx → EReal) : S4352x2048.Idx → EReal := fun x =>
  f (fun k => o (ix2 (x 0) (col (head (x 1)) k))) (fun k => p (ix2 (x 0) (gate (head (x 1)) k)))
    (fun k => y (ix2 (x 0) (col (head (x 1)) k))) (inside (x 1))

/-- A point's rows are the arrays' rows of its head. -/
theorem heads_at (f : (Fin 512 → EReal) → (Fin 512 → EReal) → (Fin 512 → EReal) → Fin 512 → EReal) (i : Fin 1088) (j : Fin 512) :
    f (fun k => iblk m c 0 t (ix2 i k)) (fun k => iblk m c 1 t (ix2 i k)) (fun k => iblk m c 2 t (ix2 i k)) j
      = heads f (m (c.tc.loc main_arg0)) (m (c.tc.loc main_arg1)) (m (c.tc.loc main_arg2)) (ix2 (row t i) (col (hd t) j)) := by
  rw [funext (blk0 m c t i), funext (blk1 m c t i), funext (blk2 m c t i)]
  show _ = f (fun k => m (c.tc.loc main_arg0) (ix2 (row t i) (col (head (col (hd t) j)) k)))
    (fun k => m (c.tc.loc main_arg1) (ix2 (row t i) (gate (head (col (hd t) j)) k)))
    (fun k => m (c.tc.loc main_arg2) (ix2 (row t i) (col (head (col (hd t) j)) k))) (inside (col (hd t) j))
  rw [head_col, inside_col]

/-- The two cotangents as arrays. -/
def G : S4352x2048.Idx → EReal := heads rowO (m (c.tc.loc main_arg0)) (m (c.tc.loc main_arg1)) (m (c.tc.loc main_arg2))
def Gp : S4352x2048.Idx → EReal := heads rowP (m (c.tc.loc main_arg0)) (m (c.tc.loc main_arg1)) (m (c.tc.loc main_arg2))

/-- The retention's cotangent after the run. -/
theorem final : (dats m 0 c).arrAt 3 cfg0.N = G m c := by
  refine (dats m 0 c).arrAt_eq_of_covers 3 _ (by decide +kernel) fun t hf y => ?_
  obtain ⟨i, j, rfl⟩ : ∃ (i : Fin 1088) (j : Fin 512), y = ix2 i j := ⟨y 0, y 1, by funext a; fin_cases a <;> rfl⟩
  have e : (win0_3.blk t).view.emb (ix2 i j) = ix2 (row t i) (col (hd t) j) := by
    blk_ext [idx3 t, row, col, hd]
  blk_simp
  rw [after0_3]
  frame_out
  exact (do_at _ _ _ i j).trans ((heads_at m c t rowO i j).trans (congrArg (G m c) e.symm))

/-- The gate's cotangent after the run. -/
theorem final_p : (dats m 0 c).arrAt 4 cfg0.N = Gp m c := by
  refine (dats m 0 c).arrAt_eq_of_covers 4 _ (by decide +kernel) fun t hf y => ?_
  obtain ⟨i, j, rfl⟩ : ∃ (i : Fin 1088) (j : Fin 512), y = ix2 i j := ⟨y 0, y 1, by funext a; fin_cases a <;> rfl⟩
  have e : (win0_4.blk t).view.emb (ix2 i j) = ix2 (row t i) (col (hd t) j) := by
    blk_ext [idx4 t, row, col, hd]
  blk_simp
  rw [after0_4]
  frame_out
  exact (dp_at _ _ _ i j).trans ((heads_at m c t rowP i j).trans (congrArg (Gp m c) e.symm))

/-- The derivative of the gate in reverse mode's form, of reals. -/
theorem gate_real {u p s : EReal} (hu : ∃ r : ℝ, u = r) (hp : ∃ r : ℝ, p = r) (hs : ∃ r : ℝ, s = r) :
    u * s + p * u * (s * (1 - s)) = u * (s * (1 + p * (1 - s))) := by
  obtain ⟨u, rfl⟩ := hu
  obtain ⟨p, rfl⟩ := hp
  obtain ⟨s, rfl⟩ := hs
  rw [← EReal.coe_one]
  simp only [← EReal.coe_mul, ← EReal.coe_sub, ← EReal.coe_add, EReal.coe_eq_coe_iff]
  ring

theorem sigma_real {a : EReal} (ha : ∃ r : ℝ, a = r) : ∃ r : ℝ, sigma a = r := by
  obtain ⟨a, rfl⟩ := ha
  exact ⟨_, sigma_coe a⟩

end Cert.GateBwdIdeal

namespace Cert.RefGateBwdIdeal.Read

open Idealize.ShloMosaic Idealize.ShloMosaic.TcCoe Idealize.ShloMosaic.Tactic Norms
open GateFwdIdeal (col gate head inside head_col inside_col col_inside)
open GateBwdIdeal (len heads rowO rowP)

variable (o : (⟨S4352x2048, .f32⟩ : BufTy).Contents (Elt Ideal)) (p : (⟨S4352x6144, .bf16⟩ : BufTy).Contents (Elt Ideal))
  (y : (⟨S4352x2048, .f32⟩ : BufTy).Contents (Elt Ideal))

theorem heads_at (i : Fin 4352) (h : Fin 4) (k : Fin 512) : val_main_v5 (F := Ideal) o (ix3 i h k) = o (ix2 i (col h k)) := by
  refine (val_main_v5_apply o _).trans (congrArg o ?_)
  funext a
  fin_cases a <;> refine Fin.ext ?_
  · show ((i.1 * 4 + h.1) * 512 + k.1) / 2048 = i.1
    omega
  · show ((i.1 * 4 + h.1) * 512 + k.1) % 2048 = h.1 * 512 + k.1
    omega

theorem scaled_flat (i : Fin 4352) (h : Fin 4) (k : Fin 512) :
    val_main_v26 (F := Ideal) p y (ix3 i h k) = val_main_v24 (F := Ideal) p y (ix2 i (col h k)) := by
  refine (val_main_v26_apply p y _).trans (congrArg _ ?_)
  funext a
  fin_cases a <;> refine Fin.ext ?_
  · show ((i.1 * 4 + h.1) * 512 + k.1) / 2048 = i.1
    omega
  · show ((i.1 * 4 + h.1) * 512 + k.1) % 2048 = h.1 * 512 + k.1
    omega

/-- The index of a head's entry that a column is. -/
theorem flat_idx (i : Fin 4352) (l : Fin 2048) {x : S4352x4x512.Idx} (h0 : (x 0).1 = (i.1 * 2048 + l.1) / 2048)
    (h1 : (x 1).1 = (i.1 * 2048 + l.1) / 512 % 4) (h2 : (x 2).1 = (i.1 * 2048 + l.1) % 512) : x = ix3 i (head l) (inside l) := by
  funext a
  fin_cases a <;> refine Fin.ext ?_
  · refine h0.trans ?_
    show (i.1 * 2048 + l.1) / 2048 = i.1
    omega
  · refine h1.trans ?_
    show (i.1 * 2048 + l.1) / 512 % 4 = l.1 / 512
    omega
  · refine h2.trans ?_
    show (i.1 * 2048 + l.1) % 512 = l.1 % 512
    omega

theorem norm_flat (i : Fin 4352) (l : Fin 2048) :
    val_main_v22 (F := Ideal) o (ix2 i l) = val_main_v20 (F := Ideal) o (ix3 i (head l) (inside l)) :=
  (val_main_v22_apply o _).trans (congrArg _ (flat_idx i l rfl rfl rfl))

theorem grad_flat (i : Fin 4352) (l : Fin 2048) :
    val_main_v40 (F := Ideal) o p y (ix2 i l) = val_main_v39 (F := Ideal) o p y (ix3 i (head l) (inside l)) :=
  (val_main_v40_apply o p y _).trans (congrArg _ (flat_idx i l rfl rfl rfl))

theorem gate_at (i : Fin 4352) (l : Fin 2048) : val_main_v4 (F := Ideal) p (ix2 i l) = p (ix2 i (gate (head l) (inside l))) := by
  have e : (⟨4096 + l.1, by omega⟩ : Fin 6144) = gate (head l) (inside l) := Fin.ext (by simp only [gate, head, inside]; omega)
  rw [← e]
  pointwise [val_main_v4, val_main_v3]

theorem sigma_at (i : Fin 4352) (l : Fin 2048) :
    val_main_v21_2 (F := Ideal) p (ix2 i l) = sigma (p (ix2 i (gate (head l) (inside l)))) := by
  pointwise [val_main_v21_2, val_main_call0_v4, val_main_call0_v3, val_main_call0_v2, val_main_call0_v1, val_main_call0_v0,
    val_main_call0_cst, val_main_call0_cst_0]
  rw [gate_at]
  rfl

theorem var_at (i : Fin 4352) (h : Fin 4) : val_main_v14 (F := Ideal) o (ix3 i h 0)
    = mean len (fun k => o (ix2 i (col h k)) * o (ix2 i (col h k))) + eps := by
  pointwise [val_main_v14, val_main_v13, val_main_v12, val_main_v11, val_main_v10, val_main_v9, val_main_v6, val_main_cst_0,
    val_main_cst_1, val_main_cst_2]
  simp only [heads_at]
  rfl

theorem rstd_at (i : Fin 4352) (h : Fin 4) : val_main_v15 (F := Ideal) o (ix3 i h 0) = rstd len (fun k => o (ix2 i (col h k))) := by
  pointwise [val_main_v15]
  exact congrArg Ideal.rsqrt (var_at o i h)

theorem scaled_at (i : Fin 4352) (h : Fin 4) (k : Fin 512) : val_main_v26 (F := Ideal) p y (ix3 i h k)
    = y (ix2 i (col h k)) * (p (ix2 i (gate h k)) * sigma (p (ix2 i (gate h k)))) := by
  rw [scaled_flat]
  pointwise [val_main_v24, val_main_v21_0]
  rw [gate_at, sigma_at, head_col, inside_col]
  exact mul_comm _ _

theorem grad_at (i : Fin 4352) (h : Fin 4) (k : Fin 512) : val_main_v39 (F := Ideal) o p y (ix3 i h k)
    = rmsVjp len (fun k => o (ix2 i (col h k))) (fun k => y (ix2 i (col h k)) * (p (ix2 i (gate h k)) * sigma (p (ix2 i (gate h k))))) k := by
  pointwise [val_main_v39, val_main_v38, val_main_v37, val_main_v36, val_main_v35, val_main_v34, val_main_v33, val_main_v32, val_main_v31,
    val_main_v30, val_main_v29, val_main_v28, val_main_v18, val_main_v17, val_main_v16, val_main_v8, val_main_v7, val_main_cst,
    val_main_cst_3, val_main_cst_4, val_main_cst_5, val_main_cst_6]
  simp only [Fin.sum_univ_one, heads_at, var_at, rstd_at, scaled_at]
  rfl

theorem hat_at (i : Fin 4352) (h : Fin 4) (k : Fin 512) : val_main_v20 (F := Ideal) o (ix3 i h k)
    = o (ix2 i (col h k)) * rstd len (fun k => o (ix2 i (col h k))) := by
  pointwise [val_main_v20, val_main_v19]
  rw [heads_at, rstd_at]

theorem gate_finite (hp : ∀ x, ∃ r : ℝ, (val_main_v4 (F := Ideal) p x : EReal) = r) (i : Fin 4352) (h : Fin 4) (k : Fin 512) :
    ∃ r : ℝ, (p (ix2 i (gate h k)) : EReal) = r := by
  obtain ⟨r, hr⟩ := hp (ix2 i (col h k))
  rw [gate_at, head_col, inside_col] at hr
  exact ⟨r, hr⟩

/-- The reference's first result is the retention's cotangent, the gate and the cotangent it starts from finite. -/
theorem val (hp : ∀ x, ∃ r : ℝ, (val_main_v4 (F := Ideal) p x : EReal) = r) (hy : ∀ x, ∃ r : ℝ, y x = r) :
    val_main_v41 (F := Ideal) o p y = heads rowO o p y := by
  funext x
  obtain ⟨i, l, rfl⟩ : ∃ (i : Fin 4352) (l : Fin 2048), x = ix2 i l := ⟨x 0, x 1, by funext a; fin_cases a <;> rfl⟩
  pointwise [val_main_v41]
  refine (grad_flat o p y i l).trans ((grad_at o p y i _ _).trans ?_)
  unfold heads rowO len
  rw [Consts.lit_512]
  exact Norms.rmsVjp_of (by norm_num)
    (fun k => Norms.real_mul (hy _) (Norms.real_mul (gate_finite p hp _ _ k) (GateBwdIdeal.sigma_real (gate_finite p hp _ _ k)))) _

/-- The second is the gate's. -/
theorem val_p (hp : ∀ x, ∃ r : ℝ, (val_main_v4 (F := Ideal) p x : EReal) = r) (hy : ∀ x, ∃ r : ℝ, y x = r) :
    val_main_v42 (F := Ideal) o p y = heads rowP o p y := by
  funext x
  obtain ⟨i, l, rfl⟩ : ∃ (i : Fin 4352) (l : Fin 2048), x = ix2 i l := ⟨x 0, x 1, by funext a; fin_cases a <;> rfl⟩
  pointwise [val_main_v42, val_main_v27, val_main_call1_v2, val_main_call1_v1, val_main_call1_v0, val_main_v25, val_main_v21_1,
    val_main_call0_v7, val_main_call0_v6, val_main_call0_cst_1]
  have hat_finite : ∃ r : ℝ, o (ix2 i (col (head l) (inside l))) * rstd len (fun k => o (ix2 i (col (head l) k))) = r := by
    rw [len, Consts.lit_512]
    exact Norms.hat_real (by norm_num) (fun k => o (ix2 i (col (head l) k))) (inside l)
  rw [col_inside] at hat_finite
  rw [norm_flat, hat_at, sigma_at, gate_at, col_inside]
  refine (GateBwdIdeal.gate_real (Norms.real_mul (hy _) hat_finite) (gate_finite p hp i _ _)
    (GateBwdIdeal.sigma_real (gate_finite p hp i _ _))).trans ?_
  show _ = rowP (fun k => o (ix2 i (col (head l) k))) (fun k => p (ix2 i (gate (head l) k))) (fun k => y (ix2 i (col (head l) k))) (inside l)
  unfold rowP
  beta_reduce
  rw [col_inside]

end Cert.RefGateBwdIdeal.Read
end
-- ==== Proof.RmsFwd.lean ====
module

public import Idealize.ShloMosaic.Lib.Pipeline.ValueKit
public import Idealize.ShloMosaic.Lib.Pointwise
public import proofs.«01_k».proof.Proof.Norms
public import proofs.«01_k».proof.Proof.Gen.QNormFwdIdeal.Value
public import proofs.«01_k».proof.Proof.Gen.RefQNormFwdIdeal.Read
public import proofs.«01_k».proof.Proof.Gen.KvNormFwdIdeal.Value
public import proofs.«01_k».proof.Proof.Gen.RefKvNormFwdIdeal.Read

/-! The latents' norms, forward: what the kernels and the references compute. -/

@[expose] public section

set_option maxRecDepth 65536

noncomputable section

namespace Cert.QNormFwdIdeal

open Idealize.ShloMosaic Idealize.ShloMosaic.TcCoe Idealize.ShloMosaic.Tactic
open Gen Norms

theorem pay_at (x : Vec Ideal S1088x256 .f32) (g : Vec Ideal S1x256 .f32) (i : Fin 1088) (j : Fin 256) :
    k0_pay1 x g (ix2 i j) = rms (Ideal.ofBits .f32 0x43800000#32) (fun k => x (ix2 i k)) (fun k => g (ix2 0 k)) j := by
  pointwise [k0_pay1]
  rfl

variable (m : (ℓ : Loc nD τ sig) → Buf (Elt Ideal) ℓ) (c : Dev nD) (t : Fin cfg0.N)

theorem points : cfg0.N = 4 := by decide +kernel

theorem idx0 : ∀ t : Fin cfg0.N, win0_0.index t = ![(t : ℕ), 4] := by decide +kernel
theorem idx1 : ∀ t : Fin cfg0.N, win0_1.index t = ![0, 0] := by decide +kernel
theorem idx2 : ∀ t : Fin cfg0.N, win0_2.index t = ![(t : ℕ), 0] := by decide +kernel

/-- The row of the arrays that a block's row is. -/
def row (i : Fin 1088) : Fin 4352 := ⟨t.1 * 1088 + i.1, by have := t.2; have := points; omega⟩

/-- The projection's column that the latent's is. -/
def lat (k : Fin 256) : Fin 1440 := ⟨1024 + k.1, by omega⟩

theorem blk0 (i : Fin 1088) (k : Fin 256) : X0_0 m c t (ix2 i k) = m (c.tc.loc main_arg0) (ix2 (row t i) (lat k)) := by
  unfold X0_0 Pipeline.Window.fill
  rw [dif_pos (moved0_0 t _)]
  blk_ext [iblk, V_main_arg0, idx0 t, row, lat]

theorem blk1 (j : Fin 256) : iblk m c 1 t (ix2 0 j) = m (c.tc.loc main_arg1) (ix2 0 j) := by
  blk_ext [iblk, V_main_arg1, idx1 t]

/-- The latent's norm, of the whole projection. -/
def norm (p : S4352x1440.Idx → EReal) (g : S1x256.Idx → EReal) : S4352x256.Idx → EReal := fun y =>
  rms (Ideal.ofBits .f32 0x43800000#32) (fun k => p (ix2 (y 0) (lat k))) (fun k => g (ix2 0 k)) (y 1)

/-- The norm as an array. -/
def G : S4352x256.Idx → EReal := norm (m (c.tc.loc main_arg0)) (m (c.tc.loc main_arg1))

/-- The norm after the run. -/
theorem final : (dats m 0 c).arrAt 2 cfg0.N = G m c := by
  refine (dats m 0 c).arrAt_eq_of_covers 2 _ (by decide +kernel) fun t hf y => ?_
  obtain ⟨i, j, rfl⟩ : ∃ (i : Fin 1088) (j : Fin 256), y = ix2 i j := ⟨y 0, y 1, by funext a; fin_cases a <;> rfl⟩
  have e : (win0_2.blk t).view.emb (ix2 i j) = ix2 (row t i) j := by
    blk_ext [idx2 t, row]
  blk_simp
  rw [after0_2, outsAt0]
  frame_out
  refine (pay_at _ _ i j).trans (Eq.trans ?_ (congrArg (G m c) e.symm))
  exact rms_eq (blk0 m c t i) (blk1 m c t) j

end Cert.QNormFwdIdeal

namespace Cert.RefQNormFwdIdeal.Read

open Idealize.ShloMosaic Idealize.ShloMosaic.TcCoe Idealize.ShloMosaic.Tactic

/-- The reference's result is that norm. -/
theorem val (p : (⟨S4352x1440, .f32⟩ : BufTy).Contents (Elt Ideal)) (g : (⟨S1x256, .f32⟩ : BufTy).Contents (Elt Ideal)) :
    val_main_v16 (F := Ideal) p g = QNormFwdIdeal.norm p g := by
  have h : ∀ i k, val_main_v2 (F := Ideal) p (ix2 i k) = p (ix2 i (QNormFwdIdeal.lat k)) := fun i k => by
    pointwise [val_main_v2]
    rfl
  funext y
  obtain ⟨i, j, rfl⟩ : ∃ (i : Fin 4352) (j : Fin 256), y = ix2 i j := ⟨y 0, y 1, by funext a; fin_cases a <;> rfl⟩
  pointwise [val_main_v16, val_main_v15, val_main_v14, val_main_v13, val_main_v12, val_main_v11, val_main_v10, val_main_v9, val_main_v8,
    val_main_v7, val_main_v6, val_main_v5, val_main_cst, val_main_cst_0, val_main_cst_1]
  simp only [h]
  rfl

end Cert.RefQNormFwdIdeal.Read

namespace Cert.KvNormFwdIdeal

open Idealize.ShloMosaic Idealize.ShloMosaic.TcCoe Idealize.ShloMosaic.Tactic
open Gen Norms

theorem pay_at (x : Vec Ideal S1088x128 .f32) (g : Vec Ideal S1x128 .f32) (i : Fin 1088) (j : Fin 128) :
    k0_pay1 x g (ix2 i j) = rms (Ideal.ofBits .f32 0x43000000#32) (fun k => x (ix2 i k)) (fun k => g (ix2 0 k)) j := by
  pointwise [k0_pay1]
  rfl

variable (m : (ℓ : Loc nD τ sig) → Buf (Elt Ideal) ℓ) (c : Dev nD) (t : Fin cfg0.N)

theorem points : cfg0.N = 4 := by decide +kernel

theorem idx0 : ∀ t : Fin cfg0.N, win0_0.index t = ![(t : ℕ), 10] := by decide +kernel
theorem idx1 : ∀ t : Fin cfg0.N, win0_1.index t = ![0, 0] := by decide +kernel
theorem idx2 : ∀ t : Fin cfg0.N, win0_2.index t = ![(t : ℕ), 0] := by decide +kernel

/-- The row of the arrays that a block's row is. -/
def row (i : Fin 1088) : Fin 4352 := ⟨t.1 * 1088 + i.1, by have := t.2; have := points; omega⟩

/-- The projection's column that the latent's is. -/
def lat (k : Fin 128) : Fin 1440 := ⟨1280 + k.1, by omega⟩

theorem blk0 (i : Fin 1088) (k : Fin 128) : X0_0 m c t (ix2 i k) = m (c.tc.loc main_arg0) (ix2 (row t i) (lat k)) := by
  unfold X0_0 Pipeline.Window.fill
  rw [dif_pos (moved0_0 t _)]
  blk_ext [iblk, V_main_arg0, idx0 t, row, lat]

theorem blk1 (j : Fin 128) : iblk m c 1 t (ix2 0 j) = m (c.tc.loc main_arg1) (ix2 0 j) := by
  blk_ext [iblk, V_main_arg1, idx1 t]

/-- The latent's norm, of the whole projection. -/
def norm (p : S4352x1440.Idx → EReal) (g : S1x128.Idx → EReal) : S4352x128.Idx → EReal := fun y =>
  rms (Ideal.ofBits .f32 0x43000000#32) (fun k => p (ix2 (y 0) (lat k))) (fun k => g (ix2 0 k)) (y 1)

/-- The norm as an array. -/
def G : S4352x128.Idx → EReal := norm (m (c.tc.loc main_arg0)) (m (c.tc.loc main_arg1))

/-- The norm after the run. -/
theorem final : (dats m 0 c).arrAt 2 cfg0.N = G m c := by
  refine (dats m 0 c).arrAt_eq_of_covers 2 _ (by decide +kernel) fun t hf y => ?_
  obtain ⟨i, j, rfl⟩ : ∃ (i : Fin 1088) (j : Fin 128), y = ix2 i j := ⟨y 0, y 1, by funext a; fin_cases a <;> rfl⟩
  have e : (win0_2.blk t).view.emb (ix2 i j) = ix2 (row t i) j := by
    blk_ext [idx2 t, row]
  blk_simp
  rw [after0_2, outsAt0]
  frame_out
  refine (pay_at _ _ i j).trans (Eq.trans ?_ (congrArg (G m c) e.symm))
  exact rms_eq (blk0 m c t i) (blk1 m c t) j

end Cert.KvNormFwdIdeal

namespace Cert.RefKvNormFwdIdeal.Read

open Idealize.ShloMosaic Idealize.ShloMosaic.TcCoe Idealize.ShloMosaic.Tactic

/-- The reference's result is that norm. -/
theorem val (p : (⟨S4352x1440, .f32⟩ : BufTy).Contents (Elt Ideal)) (g : (⟨S1x128, .f32⟩ : BufTy).Contents (Elt Ideal)) :
    val_main_v16 (F := Ideal) p g = KvNormFwdIdeal.norm p g := by
  have h : ∀ i k, val_main_v3 (F := Ideal) p (ix2 i k) = p (ix2 i (KvNormFwdIdeal.lat k)) := fun i k => by
    pointwise [val_main_v3]
    rfl
  funext y
  obtain ⟨i, j, rfl⟩ : ∃ (i : Fin 4352) (j : Fin 128), y = ix2 i j := ⟨y 0, y 1, by funext a; fin_cases a <;> rfl⟩
  pointwise [val_main_v16, val_main_v15, val_main_v14, val_main_v13, val_main_v12, val_main_v11, val_main_v10, val_main_v9, val_main_v8,
    val_main_v7, val_main_v6, val_main_v5, val_main_cst, val_main_cst_0, val_main_cst_1]
  simp only [h]
  rfl

end Cert.RefKvNormFwdIdeal.Read
end
-- ==== Proof.RmsBwd.lean ====
module

public import Idealize.ShloMosaic.Lib.Pipeline.ValueKit
public import Idealize.ShloMosaic.Lib.Pipeline.ReadBack
public import Idealize.ShloMosaic.Lib.Pointwise
public import proofs.«01_k».proof.Proof.Products
public import proofs.«01_k».proof.Proof.Vjp
public import proofs.«01_k».proof.Proof.RmsFwd
public import proofs.«01_k».proof.Proof.Gen.QNormBwdIdeal.Value
public import proofs.«01_k».proof.Proof.Gen.RefQNormBwdIdeal.Read
public import proofs.«01_k».proof.Proof.Gen.KvNormBwdIdeal.Value
public import proofs.«01_k».proof.Proof.Gen.RefKvNormBwdIdeal.Read

/-! The latents' norms, backward: what the kernels and the references compute. -/

@[expose] public section

set_option maxRecDepth 65536

noncomputable section

namespace Cert.QNormBwdIdeal

open Idealize.ShloMosaic Idealize.ShloMosaic.TcCoe Idealize.ShloMosaic.Tactic
open Gen Norms
open QNormFwdIdeal (lat)

/-- The length the means divide by. -/
abbrev len : EReal := Ideal.ofBits .f32 0x43800000#32

theorem rstd_at (x : Vec Ideal S1088x256 .f32) (i : Fin 1088) : k0_pay2 x (ix2 i 0) = rstd len (fun k => x (ix2 i k)) := by
  pointwise [k0_pay2]
  rfl

theorem hat_at (x : Vec Ideal S1088x256 .f32) (i : Fin 1088) (j : Fin 256) :
    k0_pay3 x (ix2 i j) = x (ix2 i j) * rstd len (fun k => x (ix2 i k)) := by
  pointwise [k0_pay3]
  rw [rstd_at]

theorem dx_at (x y : Vec Ideal S1088x256 .f32) (g : Vec Ideal S1x256 .f32) (i : Fin 1088) (j : Fin 256) :
    k0_pay4 x y g (ix2 i j) = rmsGrad len (fun k => x (ix2 i k)) (fun k => y (ix2 i k) * g (ix2 0 k)) j := by
  pointwise [k0_pay4]
  simp only [hat_at, rstd_at]
  rfl

/-- A block of rows' part of the scale's gradient. -/
def part (x y : Vec Ideal S1088x256 .f32) (j : Fin 256) : EReal := ∑ r : Fin 1088, y (ix2 r j) * k0_pay3 x (ix2 r j)

theorem dg_at (x y : Vec Ideal S1088x256 .f32) (s : Vec Ideal S1x256 .f32) (j : Fin 256) :
    k0_pay5 x y s (ix2 0 j) = s (ix2 0 j) + part x y j := by
  pointwise [k0_pay5]
  rfl

theorem zero_at (j : Fin 256) : k0_pay1 (F := Ideal) (ix2 0 j) = 0 := by
  pointwise [k0_pay1]

variable (m : (ℓ : Loc nD τ sig) → Buf (Elt Ideal) ℓ) (c : Dev nD) (t : Fin cfg0.N)

theorem points : cfg0.N = 4 := by decide +kernel

theorem idx0 : ∀ t : Fin cfg0.N, win0_0.index t = ![(t : ℕ), 4] := by decide +kernel
theorem idx1 : ∀ t : Fin cfg0.N, win0_1.index t = ![0, 0] := by decide +kernel
theorem idx2 : ∀ t : Fin cfg0.N, win0_2.index t = ![(t : ℕ), 0] := by decide +kernel
theorem idx3 : ∀ t : Fin cfg0.N, win0_3.index t = ![(t : ℕ), 0] := by decide +kernel
theorem idx4 : ∀ t : Fin cfg0.N, win0_4.index t = ![0, 0] := by decide +kernel

/-- The row of the arrays that a block's row is. -/
def row (i : Fin 1088) : Fin 4352 := ⟨t.1 * 1088 + i.1, by have := t.2; have := points; omega⟩

theorem blk0 (i : Fin 1088) (k : Fin 256) : X0_0 m c t (ix2 i k) = m (c.tc.loc main_arg0) (ix2 (row t i) (lat k)) := by
  unfold X0_0 Pipeline.Window.fill
  rw [dif_pos (moved0_0 t _)]
  blk_ext [iblk, V_main_arg0, idx0 t, row, lat]

theorem blk1 (k : Fin 256) : iblk m c 1 t (ix2 0 k) = m (c.tc.loc main_arg1) (ix2 0 k) := by
  blk_ext [iblk, V_main_arg1, idx1 t]

theorem blk2 (i : Fin 1088) (k : Fin 256) : iblk m c 2 t (ix2 i k) = m (c.tc.loc main_arg2) (ix2 (row t i) k) := by
  blk_ext [iblk, V_main_arg2, idx2 t, row]

/-- The two results as arrays. -/
def G : S4352x256.Idx → EReal := rmsRows len lat (m (c.tc.loc main_arg0)) (m (c.tc.loc main_arg1)) (m (c.tc.loc main_arg2))
def Gg : S1x256.Idx → EReal := rmsScale len lat (m (c.tc.loc main_arg0)) (m (c.tc.loc main_arg2))

/-- The cotangent after the run. -/
theorem final : (dats m 0 c).arrAt 3 cfg0.N = G m c := by
  refine (dats m 0 c).arrAt_eq_of_covers 3 _ (by decide +kernel) fun t hf y => ?_
  obtain ⟨i, j, rfl⟩ : ∃ (i : Fin 1088) (j : Fin 256), y = ix2 i j := ⟨y 0, y 1, by funext a; fin_cases a <;> rfl⟩
  have e : (win0_3.blk t).view.emb (ix2 i j) = ix2 (row t i) j := by
    blk_ext [idx3 t, row]
  have h : (outsAt0 m c t.val t.isLt).1 (ix2 i j) = k0_pay4 (X0_0 m c t) (iblk m c 2 t) (iblk m c 1 t) (ix2 i j) := by
    by_cases h0 : t.val % 4 = 0
    · rw [outsAt0_A m c t h0]
      frame_out
    · rw [outsAt0_B m c t h0]
      frame_out
  blk_simp
  rw [after0_3]
  refine h.trans ((dx_at _ _ _ i j).trans (Eq.trans ?_ (congrArg (G m c) e.symm)))
  exact rmsGrad_eq (blk0 m c t i) (fun k => congrArg₂ (fun a b : EReal => a * b) (blk2 m c t i k) (blk1 m c t k)) j

/-- The scale's block at the end of the run of points. -/
theorem scale (hr : t.val % 4 = 4 - 1) (j : Fin 256) : (outsAt0 m c t.val t.isLt).2 (ix2 0 j)
    = 0 + ∑ s : Fin 4, part (X0_0 m c ⟨4 * (t.val / 4) + s.val, Pipeline.run_point_lt_of_flush t hr s⟩)
        (iblk m c 2 ⟨4 * (t.val / 4) + s.val, Pipeline.run_point_lt_of_flush t hr s⟩) j := by
  refine Pipeline.eq_sum_fin_of_reset_step_apply_of_flush (fun n h => fun y : Fin 256 => (outsAt0 m c n h).2 (ix2 0 y)) 4
    (fun _ => 0) (fun t y => part (X0_0 m c t) (iblk m c 2 t) y) (fun t h y => ?_) (fun t h y => ?_) t hr j
  · rw [outsAt0_A m c t h]
    frame_out
    rw [dg_at, zero_at]
  · rw [outsAt0_B m c t h]
    frame_out
    rw [dg_at]

/-- The scale's gradient after the run. -/
theorem final_g : (dats m 0 c).arrAt 4 cfg0.N = Gg m c := by
  refine (dats m 0 c).arrAt_eq_of_covers 4 _ (by decide +kernel) fun t hf y => ?_
  obtain ⟨j, rfl⟩ : ∃ j : Fin 256, y = ix2 0 j := ⟨y 1, idx_one y⟩
  have hr : t.val % 4 = 4 - 1 := (flush0_4 t).mp hf
  have e : (win0_4.blk t).view.emb (ix2 0 j) = ix2 0 j := by
    blk_ext [idx4 t]
  blk_simp
  rw [after0_4]
  refine (scale m c t hr j).trans (Eq.trans ?_ (congrArg (Gg m c) e.symm))
  rw [zero_add]
  refine Products.sum_parts (by decide) _ _ fun s r l hl => ?_
  have h0 : row ⟨4 * (t.val / 4) + s.val, Pipeline.run_point_lt_of_flush t hr s⟩ r = l := by
    have ht : t.val < 4 := lt_of_lt_of_eq t.2 points
    exact Fin.ext (by simp only [row]; omega)
  refine congrArg₂ (fun a b : EReal => a * b) ((blk2 m c _ r j).trans (by rw [h0]; rfl)) ((hat_at _ r j).trans ?_)
  rw [funext (blk0 m c _ r), blk0 m c _ r j, h0]
  rfl

end Cert.QNormBwdIdeal

namespace Cert.RefQNormBwdIdeal.Read

open Idealize.ShloMosaic Idealize.ShloMosaic.TcCoe Idealize.ShloMosaic.Tactic Norms
open QNormFwdIdeal (lat)
open QNormBwdIdeal (len)

variable (p : (⟨S4352x1440, .f32⟩ : BufTy).Contents (Elt Ideal)) (g : (⟨S1x256, .f32⟩ : BufTy).Contents (Elt Ideal))
  (y : (⟨S4352x256, .f32⟩ : BufTy).Contents (Elt Ideal))

theorem lat_at (i : Fin 4352) (k : Fin 256) : val_main_v2 (F := Ideal) p (ix2 i k) = p (ix2 i (lat k)) := by
  pointwise [val_main_v2]
  rfl

theorem var_at (i : Fin 4352) : val_main_v13 (F := Ideal) p (ix2 i 0)
    = mean len (fun k => p (ix2 i (lat k)) * p (ix2 i (lat k))) + eps := by
  pointwise [val_main_v13, val_main_v12, val_main_v11, val_main_v10, val_main_v9, val_main_v8, val_main_v5, val_main_cst_0,
    val_main_cst_1, val_main_cst_2]
  simp only [lat_at]
  rfl

theorem rstd_at (i : Fin 4352) : val_main_v14 (F := Ideal) p (ix2 i 0) = rstd len (fun k => p (ix2 i (lat k))) := by
  pointwise [val_main_v14]
  exact congrArg Ideal.rsqrt (var_at p i)

theorem val_vjp (i : Fin 4352) (k : Fin 256) : val_main_v38 (F := Ideal) p g y (ix2 i k)
    = rmsVjp len (fun k => p (ix2 i (lat k))) (fun k => y (ix2 i k) * g (ix2 0 k)) k := by
  pointwise [val_main_v38, val_main_v37, val_main_v36, val_main_v35, val_main_v34, val_main_v33, val_main_v32, val_main_v31, val_main_v30,
    val_main_v29, val_main_v28, val_main_v27, val_main_v26, val_main_v25, val_main_v17, val_main_v16, val_main_v15, val_main_v7,
    val_main_v6, val_main_cst, val_main_cst_3, val_main_cst_5, val_main_cst_6, val_main_cst_7]
  simp only [Fin.sum_univ_one, lat_at, var_at, rstd_at]
  rfl

/-- The reference's first result is that cotangent, the scale and the cotangent it starts from finite. -/
theorem val (hg : ∀ x, ∃ r : ℝ, g x = r) (hy : ∀ x, ∃ r : ℝ, y x = r) :
    val_main_v38 (F := Ideal) p g y = rmsRows len lat p g y :=
  rmsRows_of Consts.lit_256 (by norm_num) (val_vjp p g y) hg hy

/-- The second is the scale's gradient. -/
theorem val_g : val_main_v24 (F := Ideal) p y = rmsScale len lat p y := by
  funext x
  obtain ⟨j, rfl⟩ : ∃ j : Fin 256, x = ix2 0 j := ⟨x 1, idx_one x⟩
  pointwise [val_main_v24, val_main_v23, val_main_v22, val_main_v19, val_main_v18, val_main_cst_4]
  simp only [lat_at, rstd_at]
  exact Finset.sum_congr rfl fun r _ => mul_comm _ _

end Cert.RefQNormBwdIdeal.Read

namespace Cert.KvNormBwdIdeal

open Idealize.ShloMosaic Idealize.ShloMosaic.TcCoe Idealize.ShloMosaic.Tactic
open Gen Norms
open KvNormFwdIdeal (lat)

/-- The length the means divide by. -/
abbrev len : EReal := Ideal.ofBits .f32 0x43000000#32

theorem rstd_at (x : Vec Ideal S1088x128 .f32) (i : Fin 1088) : k0_pay2 x (ix2 i 0) = rstd len (fun k => x (ix2 i k)) := by
  pointwise [k0_pay2]
  rfl

theorem hat_at (x : Vec Ideal S1088x128 .f32) (i : Fin 1088) (j : Fin 128) :
    k0_pay3 x (ix2 i j) = x (ix2 i j) * rstd len (fun k => x (ix2 i k)) := by
  pointwise [k0_pay3]
  rw [rstd_at]

theorem dx_at (x y : Vec Ideal S1088x128 .f32) (g : Vec Ideal S1x128 .f32) (i : Fin 1088) (j : Fin 128) :
    k0_pay4 x y g (ix2 i j) = rmsGrad len (fun k => x (ix2 i k)) (fun k => y (ix2 i k) * g (ix2 0 k)) j := by
  pointwise [k0_pay4]
  simp only [hat_at, rstd_at]
  rfl

/-- A block of rows' part of the scale's gradient. -/
def part (x y : Vec Ideal S1088x128 .f32) (j : Fin 128) : EReal := ∑ r : Fin 1088, y (ix2 r j) * k0_pay3 x (ix2 r j)

theorem dg_at (x y : Vec Ideal S1088x128 .f32) (s : Vec Ideal S1x128 .f32) (j : Fin 128) :
    k0_pay5 x y s (ix2 0 j) = s (ix2 0 j) + part x y j := by
  pointwise [k0_pay5]
  rfl

theorem zero_at (j : Fin 128) : k0_pay1 (F := Ideal) (ix2 0 j) = 0 := by
  pointwise [k0_pay1]

variable (m : (ℓ : Loc nD τ sig) → Buf (Elt Ideal) ℓ) (c : Dev nD) (t : Fin cfg0.N)

theorem points : cfg0.N = 4 := by decide +kernel

theorem idx0 : ∀ t : Fin cfg0.N, win0_0.index t = ![(t : ℕ), 10] := by decide +kernel
theorem idx1 : ∀ t : Fin cfg0.N, win0_1.index t = ![0, 0] := by decide +kernel
theorem idx2 : ∀ t : Fin cfg0.N, win0_2.index t = ![(t : ℕ), 0] := by decide +kernel
theorem idx3 : ∀ t : Fin cfg0.N, win0_3.index t = ![(t : ℕ), 0] := by decide +kernel
theorem idx4 : ∀ t : Fin cfg0.N, win0_4.index t = ![0, 0] := by decide +kernel

/-- The row of the arrays that a block's row is. -/
def row (i : Fin 1088) : Fin 4352 := ⟨t.1 * 1088 + i.1, by have := t.2; have := points; omega⟩

theorem blk0 (i : Fin 1088) (k : Fin 128) : X0_0 m c t (ix2 i k) = m (c.tc.loc main_arg0) (ix2 (row t i) (lat k)) := by
  unfold X0_0 Pipeline.Window.fill
  rw [dif_pos (moved0_0 t _)]
  blk_ext [iblk, V_main_arg0, idx0 t, row, lat]

theorem blk1 (k : Fin 128) : iblk m c 1 t (ix2 0 k) = m (c.tc.loc main_arg1) (ix2 0 k) := by
  blk_ext [iblk, V_main_arg1, idx1 t]

theorem blk2 (i : Fin 1088) (k : Fin 128) : iblk m c 2 t (ix2 i k) = m (c.tc.loc main_arg2) (ix2 (row t i) k) := by
  blk_ext [iblk, V_main_arg2, idx2 t, row]

/-- The two results as arrays. -/
def G : S4352x128.Idx → EReal := rmsRows len lat (m (c.tc.loc main_arg0)) (m (c.tc.loc main_arg1)) (m (c.tc.loc main_arg2))
def Gg : S1x128.Idx → EReal := rmsScale len lat (m (c.tc.loc main_arg0)) (m (c.tc.loc main_arg2))

/-- The cotangent after the run. -/
theorem final : (dats m 0 c).arrAt 3 cfg0.N = G m c := by
  refine (dats m 0 c).arrAt_eq_of_covers 3 _ (by decide +kernel) fun t hf y => ?_
  obtain ⟨i, j, rfl⟩ : ∃ (i : Fin 1088) (j : Fin 128), y = ix2 i j := ⟨y 0, y 1, by funext a; fin_cases a <;> rfl⟩
  have e : (win0_3.blk t).view.emb (ix2 i j) = ix2 (row t i) j := by
    blk_ext [idx3 t, row]
  have h : (outsAt0 m c t.val t.isLt).1 (ix2 i j) = k0_pay4 (X0_0 m c t) (iblk m c 2 t) (iblk m c 1 t) (ix2 i j) := by
    by_cases h0 : t.val % 4 = 0
    · rw [outsAt0_A m c t h0]
      frame_out
    · rw [outsAt0_B m c t h0]
      frame_out
  blk_simp
  rw [after0_3]
  refine h.trans ((dx_at _ _ _ i j).trans (Eq.trans ?_ (congrArg (G m c) e.symm)))
  exact rmsGrad_eq (blk0 m c t i) (fun k => congrArg₂ (fun a b : EReal => a * b) (blk2 m c t i k) (blk1 m c t k)) j

/-- The scale's block at the end of the run of points. -/
theorem scale (hr : t.val % 4 = 4 - 1) (j : Fin 128) : (outsAt0 m c t.val t.isLt).2 (ix2 0 j)
    = 0 + ∑ s : Fin 4, part (X0_0 m c ⟨4 * (t.val / 4) + s.val, Pipeline.run_point_lt_of_flush t hr s⟩)
        (iblk m c 2 ⟨4 * (t.val / 4) + s.val, Pipeline.run_point_lt_of_flush t hr s⟩) j := by
  refine Pipeline.eq_sum_fin_of_reset_step_apply_of_flush (fun n h => fun y : Fin 128 => (outsAt0 m c n h).2 (ix2 0 y)) 4
    (fun _ => 0) (fun t y => part (X0_0 m c t) (iblk m c 2 t) y) (fun t h y => ?_) (fun t h y => ?_) t hr j
  · rw [outsAt0_A m c t h]
    frame_out
    rw [dg_at, zero_at]
  · rw [outsAt0_B m c t h]
    frame_out
    rw [dg_at]

/-- The scale's gradient after the run. -/
theorem final_g : (dats m 0 c).arrAt 4 cfg0.N = Gg m c := by
  refine (dats m 0 c).arrAt_eq_of_covers 4 _ (by decide +kernel) fun t hf y => ?_
  obtain ⟨j, rfl⟩ : ∃ j : Fin 128, y = ix2 0 j := ⟨y 1, idx_one y⟩
  have hr : t.val % 4 = 4 - 1 := (flush0_4 t).mp hf
  have e : (win0_4.blk t).view.emb (ix2 0 j) = ix2 0 j := by
    blk_ext [idx4 t]
  blk_simp
  rw [after0_4]
  refine (scale m c t hr j).trans (Eq.trans ?_ (congrArg (Gg m c) e.symm))
  rw [zero_add]
  refine Products.sum_parts (by decide) _ _ fun s r l hl => ?_
  have h0 : row ⟨4 * (t.val / 4) + s.val, Pipeline.run_point_lt_of_flush t hr s⟩ r = l := by
    have ht : t.val < 4 := lt_of_lt_of_eq t.2 points
    exact Fin.ext (by simp only [row]; omega)
  refine congrArg₂ (fun a b : EReal => a * b) ((blk2 m c _ r j).trans (by rw [h0]; rfl)) ((hat_at _ r j).trans ?_)
  rw [funext (blk0 m c _ r), blk0 m c _ r j, h0]
  rfl

end Cert.KvNormBwdIdeal

namespace Cert.RefKvNormBwdIdeal.Read

open Idealize.ShloMosaic Idealize.ShloMosaic.TcCoe Idealize.ShloMosaic.Tactic Norms
open KvNormFwdIdeal (lat)
open KvNormBwdIdeal (len)

variable (p : (⟨S4352x1440, .f32⟩ : BufTy).Contents (Elt Ideal)) (g : (⟨S1x128, .f32⟩ : BufTy).Contents (Elt Ideal))
  (y : (⟨S4352x128, .f32⟩ : BufTy).Contents (Elt Ideal))

theorem lat_at (i : Fin 4352) (k : Fin 128) : val_main_v3 (F := Ideal) p (ix2 i k) = p (ix2 i (lat k)) := by
  pointwise [val_main_v3]
  rfl

theorem var_at (i : Fin 4352) : val_main_v13 (F := Ideal) p (ix2 i 0)
    = mean len (fun k => p (ix2 i (lat k)) * p (ix2 i (lat k))) + eps := by
  pointwise [val_main_v13, val_main_v12, val_main_v11, val_main_v10, val_main_v9, val_main_v8, val_main_v5, val_main_cst_0,
    val_main_cst_1, val_main_cst_2]
  simp only [lat_at]
  rfl

theorem rstd_at (i : Fin 4352) : val_main_v14 (F := Ideal) p (ix2 i 0) = rstd len (fun k => p (ix2 i (lat k))) := by
  pointwise [val_main_v14]
  exact congrArg Ideal.rsqrt (var_at p i)

theorem val_vjp (i : Fin 4352) (k : Fin 128) : val_main_v38 (F := Ideal) p g y (ix2 i k)
    = rmsVjp len (fun k => p (ix2 i (lat k))) (fun k => y (ix2 i k) * g (ix2 0 k)) k := by
  pointwise [val_main_v38, val_main_v37, val_main_v36, val_main_v35, val_main_v34, val_main_v33, val_main_v32, val_main_v31, val_main_v30,
    val_main_v29, val_main_v28, val_main_v27, val_main_v26, val_main_v25, val_main_v17, val_main_v16, val_main_v15, val_main_v7,
    val_main_v6, val_main_cst, val_main_cst_3, val_main_cst_5, val_main_cst_6, val_main_cst_7]
  simp only [Fin.sum_univ_one, lat_at, var_at, rstd_at]
  rfl

/-- The reference's first result is that cotangent, the scale and the cotangent it starts from finite. -/
theorem val (hg : ∀ x, ∃ r : ℝ, g x = r) (hy : ∀ x, ∃ r : ℝ, y x = r) :
    val_main_v38 (F := Ideal) p g y = rmsRows len lat p g y :=
  rmsRows_of Consts.lit_128 (by norm_num) (val_vjp p g y) hg hy

/-- The second is the scale's gradient. -/
theorem val_g : val_main_v24 (F := Ideal) p y = rmsScale len lat p y := by
  funext x
  obtain ⟨j, rfl⟩ : ∃ j : Fin 128, x = ix2 0 j := ⟨x 1, idx_one x⟩
  pointwise [val_main_v24, val_main_v23, val_main_v22, val_main_v19, val_main_v18, val_main_cst_4]
  simp only [lat_at, rstd_at]
  exact Finset.sum_congr rfl fun r _ => mul_comm _ _

end Cert.RefKvNormBwdIdeal.Read
end
-- ==== Proof.EvDx.lean ====
module

public import Idealize.ShloMosaic.Lib.Pipeline.ValueKit
public import Idealize.ShloMosaic.Lib.Pointwise
public import proofs.«01_k».proof.Proof.Products
public import proofs.«01_k».proof.Proof.Gen.EvInDxIdeal.Value
public import proofs.«01_k».proof.Proof.Gen.RefEvInDxIdeal.Read
public import proofs.«01_k».proof.Proof.Gen.EvOutDxIdeal.Value
public import proofs.«01_k».proof.Proof.Gen.RefEvOutDxIdeal.Read

/-! The even mixer's in and out projections, their inputs' cotangents: what the kernels and the references compute. -/

@[expose] public section

set_option maxRecDepth 65536

noncomputable section

namespace Cert.EvInDxIdeal

open Idealize.ShloMosaic Idealize.ShloMosaic.TcCoe Idealize.ShloMosaic.Tactic
open Gen Products

theorem pay_at (d : Vec Ideal S544x1440 .f32) (w : Vec Ideal S1024x1440 .bf16) (i : Fin 544) (j : Fin 1024) :
    k0_pay1 d w (ix2 i j) = ∑ l : Fin 1440, d (ix2 i l) * w (ix2 j l) := by
  pointwise [k0_pay1]

variable (m : (ℓ : Loc nD τ sig) → Buf (Elt Ideal) ℓ) (c : Dev nD) (t : Fin cfg0.N)

theorem points : cfg0.N = 8 := by decide +kernel

theorem idx0 : ∀ t : Fin cfg0.N, win0_0.index t = ![(t : ℕ), 0] := by decide +kernel
theorem idx1 : ∀ t : Fin cfg0.N, win0_1.index t = ![0, 0] := by decide +kernel
theorem idx2 : ∀ t : Fin cfg0.N, win0_2.index t = ![(t : ℕ), 0] := by decide +kernel

/-- The row of the arrays that a block's row is. -/
def row (i : Fin 544) : Fin 4352 := ⟨t.1 * 544 + i.1, by have := t.2; have := points; omega⟩

theorem blk0 (i : Fin 544) (l : Fin 1440) : iblk m c 0 t (ix2 i l) = m (c.tc.loc main_arg0) (ix2 (row t i) l) := by
  blk_ext [iblk, V_main_arg0, idx0 t, row]

theorem blk1 (j : Fin 1024) (l : Fin 1440) : iblk m c 1 t (ix2 j l) = m (c.tc.loc main_arg1) (ix2 j l) := by
  blk_ext [iblk, V_main_arg1, idx1 t]

/-- The cotangent as an array. -/
def G : S4352x1024.Idx → EReal := nt (m (c.tc.loc main_arg0)) (m (c.tc.loc main_arg1))

/-- The cotangent after the run. -/
theorem final : (dats m 0 c).arrAt 2 cfg0.N = G m c := by
  refine (dats m 0 c).arrAt_eq_of_covers 2 _ (by decide +kernel) fun t hf y => ?_
  obtain ⟨i, j, rfl⟩ : ∃ (i : Fin 544) (j : Fin 1024), y = ix2 i j := ⟨y 0, y 1, by funext a; fin_cases a <;> rfl⟩
  have e : (win0_2.blk t).view.emb (ix2 i j) = ix2 (row t i) j := by
    blk_ext [idx2 t, row]
  blk_simp
  rw [after0_2]
  frame_out
  refine (pay_at _ _ i j).trans (Eq.trans ?_ (congrArg (G m c) e.symm))
  exact Finset.sum_congr rfl fun l _ => congrArg₂ (fun a b : EReal => a * b) (blk0 m c t i l) (blk1 m c t j l)

end Cert.EvInDxIdeal

namespace Cert.RefEvInDxIdeal.Read

open Idealize.ShloMosaic Idealize.ShloMosaic.TcCoe Idealize.ShloMosaic.Tactic

/-- The reference's result is that cotangent. -/
theorem val (d : (⟨S4352x1440, .f32⟩ : BufTy).Contents (Elt Ideal)) (w : (⟨S1024x1440, .bf16⟩ : BufTy).Contents (Elt Ideal)) :
    val_main_v3 (F := Ideal) d w = Products.nt d w := by
  funext x
  obtain ⟨i, j, rfl⟩ : ∃ (i : Fin 4352) (j : Fin 1024), x = ix2 i j := ⟨x 0, x 1, by funext a; fin_cases a <;> rfl⟩
  pointwise [val_main_v3, val_main_v1]
  rfl

end Cert.RefEvInDxIdeal.Read

namespace Cert.EvOutDxIdeal

open Idealize.ShloMosaic Idealize.ShloMosaic.TcCoe Idealize.ShloMosaic.Tactic
open Gen Products

theorem pay_at (d : Vec Ideal S1088x1024 .f32) (w : Vec Ideal S768x1024 .bf16) (i : Fin 1088) (j : Fin 768) :
    k0_pay1 d w (ix2 i j) = ∑ l : Fin 1024, d (ix2 i l) * w (ix2 j l) := by
  pointwise [k0_pay1]

variable (m : (ℓ : Loc nD τ sig) → Buf (Elt Ideal) ℓ) (c : Dev nD) (t : Fin cfg0.N)

theorem points : cfg0.N = 8 := by decide +kernel

theorem idx0 : ∀ t : Fin cfg0.N, win0_0.index t = ![(t : ℕ) / 2, 0] := by decide +kernel
theorem idx1 : ∀ t : Fin cfg0.N, win0_1.index t = ![(t : ℕ) % 2, 0] := by decide +kernel
theorem idx2 : ∀ t : Fin cfg0.N, win0_2.index t = ![(t : ℕ) / 2, (t : ℕ) % 2] := by decide +kernel

/-- The row of the arrays that a block's row is. -/
def row (i : Fin 1088) : Fin 4352 := ⟨t.1 / 2 * 1088 + i.1, by have := t.2; have := points; omega⟩

/-- The column of the arrays that a block's column is. -/
def col (j : Fin 768) : Fin 1536 := ⟨t.1 % 2 * 768 + j.1, by omega⟩

theorem blk0 (i : Fin 1088) (l : Fin 1024) : iblk m c 0 t (ix2 i l) = m (c.tc.loc main_arg0) (ix2 (row t i) l) := by
  blk_ext [iblk, V_main_arg0, idx0 t, row]

theorem blk1 (j : Fin 768) (l : Fin 1024) : iblk m c 1 t (ix2 j l) = m (c.tc.loc main_arg1) (ix2 (EvOutDxIdeal.col t j) l) := by
  blk_ext [iblk, V_main_arg1, idx1 t, EvOutDxIdeal.col]

/-- The cotangent as an array. -/
def G : S4352x1536.Idx → EReal := nt (m (c.tc.loc main_arg0)) (m (c.tc.loc main_arg1))

/-- The cotangent after the run. -/
theorem final : (dats m 0 c).arrAt 2 cfg0.N = G m c := by
  refine (dats m 0 c).arrAt_eq_of_covers 2 _ (by decide +kernel) fun t hf y => ?_
  obtain ⟨i, j, rfl⟩ : ∃ (i : Fin 1088) (j : Fin 768), y = ix2 i j := ⟨y 0, y 1, by funext a; fin_cases a <;> rfl⟩
  have e : (win0_2.blk t).view.emb (ix2 i j) = ix2 (row t i) (EvOutDxIdeal.col t j) := by
    blk_ext [idx2 t, row, EvOutDxIdeal.col]
  blk_simp
  rw [after0_2]
  frame_out
  refine (pay_at _ _ i j).trans (Eq.trans ?_ (congrArg (G m c) e.symm))
  exact Finset.sum_congr rfl fun l _ => congrArg₂ (fun a b : EReal => a * b) (blk0 m c t i l) (blk1 m c t j l)

end Cert.EvOutDxIdeal

namespace Cert.RefEvOutDxIdeal.Read

open Idealize.ShloMosaic Idealize.ShloMosaic.TcCoe Idealize.ShloMosaic.Tactic

/-- The reference's result is that cotangent. -/
theorem val (d : (⟨S4352x1024, .f32⟩ : BufTy).Contents (Elt Ideal)) (w : (⟨S1536x1024, .bf16⟩ : BufTy).Contents (Elt Ideal)) :
    val_main_v3 (F := Ideal) d w = Products.nt d w := by
  funext x
  obtain ⟨i, j, rfl⟩ : ∃ (i : Fin 4352) (j : Fin 1536), x = ix2 i j := ⟨x 0, x 1, by funext a; fin_cases a <;> rfl⟩
  pointwise [val_main_v3, val_main_v1]
  rfl

end Cert.RefEvOutDxIdeal.Read
end
-- ==== Proof.EvDw.lean ====
module

public import Idealize.ShloMosaic.Lib.Pipeline.ValueKit
public import Idealize.ShloMosaic.Lib.Pipeline.ReadBack
public import Idealize.ShloMosaic.Lib.Pointwise
public import proofs.«01_k».proof.Proof.Products
public import proofs.«01_k».proof.Proof.Gen.EvInDwIdeal.Value
public import proofs.«01_k».proof.Proof.Gen.RefEvInDwIdeal.Read
public import proofs.«01_k».proof.Proof.Gen.EvOutDwIdeal.Value
public import proofs.«01_k».proof.Proof.Gen.RefEvOutDwIdeal.Read

/-! The even mixer's in and out projections, their weights' gradients: what the kernels and the references compute. -/

@[expose] public section

set_option maxRecDepth 65536

noncomputable section

namespace Cert.EvInDwIdeal

open Idealize.ShloMosaic Idealize.ShloMosaic.TcCoe Idealize.ShloMosaic.Tactic
open Gen

/-- A block of rows' part of the gradient. -/
theorem part_at (x : Vec Ideal S1088x1024 .f32) (d : Vec Ideal S1088x1440 .f32) (i : Fin 1024) (j : Fin 1440) :
    k0_pay1 x d (ix2 i j) = ∑ k : Fin 1088, x (ix2 k i) * d (ix2 k j) := by
  pointwise [k0_pay1]

theorem first_at (x : Vec Ideal S1088x1024 .f32) (d : Vec Ideal S1088x1440 .f32) (i : Fin 1024) (j : Fin 1440) :
    k0_pay2 x d (ix2 i j) = k0_pay1 x d (ix2 i j) := by
  pointwise [k0_pay2]

theorem next_at (x : Vec Ideal S1088x1024 .f32) (d : Vec Ideal S1088x1440 .f32) (a : Vec Ideal S1024x1440 .f32)
    (i : Fin 1024) (j : Fin 1440) : k0_pay3 x d a (ix2 i j) = a (ix2 i j) + k0_pay1 x d (ix2 i j) := by
  pointwise [k0_pay3]

variable (m : (ℓ : Loc nD τ sig) → Buf (Elt Ideal) ℓ) (c : Dev nD) (t : Fin cfg0.N)

theorem points : cfg0.N = 4 := by decide +kernel

theorem idx0 : ∀ t : Fin cfg0.N, win0_0.index t = ![(t : ℕ), 0] := by decide +kernel
theorem idx1 : ∀ t : Fin cfg0.N, win0_1.index t = ![(t : ℕ), 0] := by decide +kernel
theorem idx2 : ∀ t : Fin cfg0.N, win0_2.index t = ![0, 0] := by decide +kernel

/-- The scratch at the end of the points. -/
theorem scratch (hr : t.val % 4 = 4 - 1) (i : Fin 1024) (j : Fin 1440) : (outsAt0 m c t.val t.isLt).2 (ix2 i j)
    = 0 + ∑ s : Fin 4, k0_pay1 (iblk m c 0 ⟨4 * (t.val / 4) + s.val, Pipeline.run_point_lt_of_flush t hr s⟩)
        (iblk m c 1 ⟨4 * (t.val / 4) + s.val, Pipeline.run_point_lt_of_flush t hr s⟩) (ix2 i j) := by
  refine Pipeline.eq_sum_fin_of_reset_step_apply_of_flush (fun n h => fun y : Fin 1024 × Fin 1440 => (outsAt0 m c n h).2 (ix2 y.1 y.2)) 4
    (fun _ => 0) (fun t y => k0_pay1 (iblk m c 0 t) (iblk m c 1 t) (ix2 y.1 y.2)) (fun t h y => ?_) (fun t h y => ?_) t hr (i, j)
  · have := t.2
    have := points
    rw [outsAt0_A m c t h (by omega) (by omega)]
    frame_out
    rw [first_at, zero_add]
  · by_cases h3 : t.val % 4 = 3
    · rw [outsAt0_C m c t h (by omega) h3]
      frame_out
      rw [next_at, read_unread_whole]
    · rw [outsAt0_B m c t h (by omega) h3]
      frame_out
      rw [next_at, read_unread_whole]

/-- What is written back is what the scratch holds. -/
theorem written (hr : t.val % 4 = 3) (i : Fin 1024) (j : Fin 1440) :
    (outsAt0 m c t.val t.isLt).1 (ix2 i j) = (outsAt0 m c t.val t.isLt).2 (ix2 i j) := by
  rw [outsAt0_C m c t (by omega) (by omega) hr]
  frame_out
  rfl

/-- The row of the arrays that a block's row is. -/
def row (k : Fin 1088) : Fin 4352 := ⟨t.1 * 1088 + k.1, by have := t.2; have := points; omega⟩

theorem blk0 (k : Fin 1088) (i : Fin 1024) : iblk m c 0 t (ix2 k i) = m (c.tc.loc main_arg0) (ix2 (row t k) i) := by
  blk_ext [iblk, V_main_arg0, idx0 t, row]

theorem blk1 (k : Fin 1088) (j : Fin 1440) : iblk m c 1 t (ix2 k j) = m (c.tc.loc main_arg1) (ix2 (row t k) j) := by
  blk_ext [iblk, V_main_arg1, idx1 t, row]

/-- The gradient as an array. -/
def G : S1024x1440.Idx → EReal := Products.tn (m (c.tc.loc main_arg0)) (m (c.tc.loc main_arg1))

/-- The gradient after the run. -/
theorem final : (dats m 0 c).arrAt 2 cfg0.N = G m c := by
  refine (dats m 0 c).arrAt_eq_of_covers 2 _ (by decide +kernel) fun t hf y => ?_
  obtain ⟨i, j, rfl⟩ : ∃ (i : Fin 1024) (j : Fin 1440), y = ix2 i j := ⟨y 0, y 1, by funext a; fin_cases a <;> rfl⟩
  have hr : t.val % 4 = 3 := (flush0_2 t).mp hf
  have e : (win0_2.blk t).view.emb (ix2 i j) = ix2 i j := by
    blk_ext [idx2 t]
  blk_simp
  rw [after0_2]
  refine (written m c t hr i j).trans ((scratch m c t hr i j).trans (Eq.trans ?_ (congrArg (G m c) e.symm)))
  rw [zero_add]
  refine (Finset.sum_congr rfl fun s _ => part_at _ _ i j).trans (Products.sum_parts (by decide) _ _ fun s k l hl => ?_)
  have ht : t.val < 4 := lt_of_lt_of_eq t.2 points
  have h0 : row ⟨4 * (t.val / 4) + s.val, Pipeline.run_point_lt_of_flush t hr s⟩ k = l := Fin.ext (by simp only [row]; omega)
  exact congrArg₂ (fun a b : EReal => a * b) ((blk0 m c _ k i).trans (by rw [h0]; rfl)) ((blk1 m c _ k j).trans (by rw [h0]; rfl))

end Cert.EvInDwIdeal

namespace Cert.RefEvInDwIdeal.Read

open Idealize.ShloMosaic Idealize.ShloMosaic.TcCoe Idealize.ShloMosaic.Tactic

/-- The reference's result is that gradient. -/
theorem val (x : (⟨S4352x1024, .f32⟩ : BufTy).Contents (Elt Ideal)) (d : (⟨S4352x1440, .f32⟩ : BufTy).Contents (Elt Ideal)) :
    val_main_v5 (F := Ideal) x d = Products.tn x d := by
  funext y
  obtain ⟨i, j, rfl⟩ : ∃ (i : Fin 1024) (j : Fin 1440), y = ix2 i j := ⟨y 0, y 1, by funext a; fin_cases a <;> rfl⟩
  pointwise [val_main_v5, val_main_v4, val_main_v3]
  exact Finset.sum_congr rfl fun r _ => mul_comm _ _

end Cert.RefEvInDwIdeal.Read

namespace Cert.EvOutDwIdeal

open Idealize.ShloMosaic Idealize.ShloMosaic.TcCoe Idealize.ShloMosaic.Tactic
open Gen

/-- A block of rows' part of the gradient. -/
theorem part_at (x : Vec Ideal S1088x768 .f32) (d : Vec Ideal S1088x1024 .f32) (i : Fin 768) (j : Fin 1024) :
    k0_pay1 x d (ix2 i j) = ∑ k : Fin 1088, x (ix2 k i) * d (ix2 k j) := by
  pointwise [k0_pay1]

theorem first_at (x : Vec Ideal S1088x768 .f32) (d : Vec Ideal S1088x1024 .f32) (i : Fin 768) (j : Fin 1024) :
    k0_pay2 x d (ix2 i j) = k0_pay1 x d (ix2 i j) := by
  pointwise [k0_pay2]

theorem next_at (x : Vec Ideal S1088x768 .f32) (d : Vec Ideal S1088x1024 .f32) (a : Vec Ideal S768x1024 .f32)
    (i : Fin 768) (j : Fin 1024) : k0_pay3 x d a (ix2 i j) = a (ix2 i j) + k0_pay1 x d (ix2 i j) := by
  pointwise [k0_pay3]

variable (m : (ℓ : Loc nD τ sig) → Buf (Elt Ideal) ℓ) (c : Dev nD) (t : Fin cfg0.N)

theorem points : cfg0.N = 8 := by decide +kernel

theorem idx0 : ∀ t : Fin cfg0.N, win0_0.index t = ![(t : ℕ) % 4, (t : ℕ) / 4] := by decide +kernel
theorem idx1 : ∀ t : Fin cfg0.N, win0_1.index t = ![(t : ℕ) % 4, 0] := by decide +kernel
theorem idx2 : ∀ t : Fin cfg0.N, win0_2.index t = ![(t : ℕ) / 4, 0] := by decide +kernel

/-- The scratch at the end of a block's run of points. -/
theorem scratch (hr : t.val % 4 = 4 - 1) (i : Fin 768) (j : Fin 1024) : (outsAt0 m c t.val t.isLt).2 (ix2 i j)
    = 0 + ∑ s : Fin 4, k0_pay1 (iblk m c 0 ⟨4 * (t.val / 4) + s.val, Pipeline.run_point_lt_of_flush t hr s⟩)
        (iblk m c 1 ⟨4 * (t.val / 4) + s.val, Pipeline.run_point_lt_of_flush t hr s⟩) (ix2 i j) := by
  refine Pipeline.eq_sum_fin_of_reset_step_apply_of_flush (fun n h => fun y : Fin 768 × Fin 1024 => (outsAt0 m c n h).2 (ix2 y.1 y.2)) 4
    (fun _ => 0) (fun t y => k0_pay1 (iblk m c 0 t) (iblk m c 1 t) (ix2 y.1 y.2)) (fun t h y => ?_) (fun t h y => ?_) t hr (i, j)
  · rw [outsAt0_A m c t h (by omega) (by omega)]
    frame_out
    rw [first_at, zero_add]
  · by_cases h3 : t.val % 4 = 3
    · rw [outsAt0_C m c t h (by omega) h3]
      frame_out
      rw [next_at, read_unread_whole]
    · rw [outsAt0_B m c t h (by omega) h3]
      frame_out
      rw [next_at, read_unread_whole]

/-- What is written back is what the scratch holds. -/
theorem written (hr : t.val % 4 = 3) (i : Fin 768) (j : Fin 1024) :
    (outsAt0 m c t.val t.isLt).1 (ix2 i j) = (outsAt0 m c t.val t.isLt).2 (ix2 i j) := by
  rw [outsAt0_C m c t (by omega) (by omega) hr]
  frame_out
  rfl

/-- The row of the arrays that a block's row is. -/
def row (k : Fin 1088) : Fin 4352 := ⟨t.1 % 4 * 1088 + k.1, by omega⟩

/-- The row of the gradient that a block's row is. -/
def out (i : Fin 768) : Fin 1536 := ⟨t.1 / 4 * 768 + i.1, by have := t.2; have := points; omega⟩

theorem blk0 (k : Fin 1088) (i : Fin 768) : iblk m c 0 t (ix2 k i) = m (c.tc.loc main_arg0) (ix2 (row t k) (out t i)) := by
  blk_ext [iblk, V_main_arg0, idx0 t, row, out]

theorem blk1 (k : Fin 1088) (j : Fin 1024) : iblk m c 1 t (ix2 k j) = m (c.tc.loc main_arg1) (ix2 (row t k) j) := by
  blk_ext [iblk, V_main_arg1, idx1 t, row]

/-- The gradient as an array. -/
def G : S1536x1024.Idx → EReal := Products.tn (m (c.tc.loc main_arg0)) (m (c.tc.loc main_arg1))

/-- The gradient after the run. -/
theorem final : (dats m 0 c).arrAt 2 cfg0.N = G m c := by
  refine (dats m 0 c).arrAt_eq_of_covers 2 _ (by decide +kernel) fun t hf y => ?_
  obtain ⟨i, j, rfl⟩ : ∃ (i : Fin 768) (j : Fin 1024), y = ix2 i j := ⟨y 0, y 1, by funext a; fin_cases a <;> rfl⟩
  have hr : t.val % 4 = 3 := (flush0_2 t).mp hf
  have e : (win0_2.blk t).view.emb (ix2 i j) = ix2 (out t i) j := by
    blk_ext [idx2 t, out]
  blk_simp
  rw [after0_2]
  refine (written m c t hr i j).trans ((scratch m c t hr i j).trans (Eq.trans ?_ (congrArg (G m c) e.symm)))
  rw [zero_add]
  refine (Finset.sum_congr rfl fun s _ => part_at _ _ i j).trans (Products.sum_parts (by decide) _ _ fun s k l hl => ?_)
  have h0 : row ⟨4 * (t.val / 4) + s.val, Pipeline.run_point_lt_of_flush t hr s⟩ k = l := Fin.ext (by simp only [row]; omega)
  have h1 : out ⟨4 * (t.val / 4) + s.val, Pipeline.run_point_lt_of_flush t hr s⟩ i = out t i := Fin.ext (by simp only [out]; omega)
  exact congrArg₂ (fun a b : EReal => a * b) ((blk0 m c _ k i).trans (by rw [h0, h1]; rfl)) ((blk1 m c _ k j).trans (by rw [h0]; rfl))

end Cert.EvOutDwIdeal

namespace Cert.RefEvOutDwIdeal.Read

open Idealize.ShloMosaic Idealize.ShloMosaic.TcCoe Idealize.ShloMosaic.Tactic

/-- The reference's result is that gradient. -/
theorem val (x : (⟨S4352x1536, .f32⟩ : BufTy).Contents (Elt Ideal)) (d : (⟨S4352x1024, .f32⟩ : BufTy).Contents (Elt Ideal)) :
    val_main_v5 (F := Ideal) x d = Products.tn x d := by
  funext y
  obtain ⟨i, j, rfl⟩ : ∃ (i : Fin 1536) (j : Fin 1024), y = ix2 i j := ⟨y 0, y 1, by funext a; fin_cases a <;> rfl⟩
  pointwise [val_main_v5, val_main_v4, val_main_v3]
  exact Finset.sum_congr rfl fun r _ => mul_comm _ _

end Cert.RefEvOutDwIdeal.Read
end
-- ==== Proof.UpDx.lean ====
module

public import Idealize.ShloMosaic.Lib.Pipeline.ValueKit
public import Idealize.ShloMosaic.Lib.Pointwise
public import proofs.«01_k».proof.Proof.Products
public import proofs.«01_k».proof.Proof.Gen.UqDxIdeal.Value
public import proofs.«01_k».proof.Proof.Gen.RefUqDxIdeal.Read
public import proofs.«01_k».proof.Proof.Gen.UkvDxIdeal.Value
public import proofs.«01_k».proof.Proof.Gen.RefUkvDxIdeal.Read

/-! The latent attention's query and key-value projections, their inputs' cotangents: what the kernels and the references compute. -/

@[expose] public section

set_option maxRecDepth 65536

noncomputable section

namespace Cert.UqDxIdeal

open Idealize.ShloMosaic Idealize.ShloMosaic.TcCoe Idealize.ShloMosaic.Tactic
open Gen Products

theorem pay_at (d : Vec Ideal S1088x1024 .bf16) (w : Vec Ideal S256x1024 .bf16) (i : Fin 1088) (j : Fin 256) :
    k0_pay1 d w (ix2 i j) = ∑ l : Fin 1024, d (ix2 i l) * w (ix2 j l) := by
  pointwise [k0_pay1]

variable (m : (ℓ : Loc nD τ sig) → Buf (Elt Ideal) ℓ) (c : Dev nD) (t : Fin cfg0.N)

theorem points : cfg0.N = 4 := by decide +kernel

theorem idx0 : ∀ t : Fin cfg0.N, win0_0.index t = ![(t : ℕ), 0] := by decide +kernel
theorem idx1 : ∀ t : Fin cfg0.N, win0_1.index t = ![0, 0] := by decide +kernel
theorem idx2 : ∀ t : Fin cfg0.N, win0_2.index t = ![(t : ℕ), 0] := by decide +kernel

/-- The row of the arrays that a block's row is. -/
def row (i : Fin 1088) : Fin 4352 := ⟨t.1 * 1088 + i.1, by have := t.2; have := points; omega⟩

theorem blk0 (i : Fin 1088) (l : Fin 1024) : iblk m c 0 t (ix2 i l) = m (c.tc.loc main_arg0) (ix2 (row t i) l) := by
  blk_ext [iblk, V_main_arg0, idx0 t, row]

theorem blk1 (j : Fin 256) (l : Fin 1024) : iblk m c 1 t (ix2 j l) = m (c.tc.loc main_arg1) (ix2 j l) := by
  blk_ext [iblk, V_main_arg1, idx1 t]

/-- The cotangent as an array. -/
def G : S4352x256.Idx → EReal := nt (m (c.tc.loc main_arg0)) (m (c.tc.loc main_arg1))

/-- The cotangent after the run. -/
theorem final : (dats m 0 c).arrAt 2 cfg0.N = G m c := by
  refine (dats m 0 c).arrAt_eq_of_covers 2 _ (by decide +kernel) fun t hf y => ?_
  obtain ⟨i, j, rfl⟩ : ∃ (i : Fin 1088) (j : Fin 256), y = ix2 i j := ⟨y 0, y 1, by funext a; fin_cases a <;> rfl⟩
  have e : (win0_2.blk t).view.emb (ix2 i j) = ix2 (row t i) j := by
    blk_ext [idx2 t, row]
  blk_simp
  rw [after0_2]
  frame_out
  refine (pay_at _ _ i j).trans (Eq.trans ?_ (congrArg (G m c) e.symm))
  exact Finset.sum_congr rfl fun l _ => congrArg₂ (fun a b : EReal => a * b) (blk0 m c t i l) (blk1 m c t j l)

end Cert.UqDxIdeal

namespace Cert.RefUqDxIdeal.Read

open Idealize.ShloMosaic Idealize.ShloMosaic.TcCoe Idealize.ShloMosaic.Tactic

/-- The reference's result is that cotangent. -/
theorem val (d : (⟨S4352x1024, .bf16⟩ : BufTy).Contents (Elt Ideal)) (w : (⟨S256x1024, .bf16⟩ : BufTy).Contents (Elt Ideal)) :
    val_main_v4 (F := Ideal) d w = Products.nt d w := by
  funext x
  obtain ⟨i, j, rfl⟩ : ∃ (i : Fin 4352) (j : Fin 256), x = ix2 i j := ⟨x 0, x 1, by funext a; fin_cases a <;> rfl⟩
  pointwise [val_main_v4, val_main_v3, val_main_v1]
  rfl

end Cert.RefUqDxIdeal.Read

namespace Cert.UkvDxIdeal

open Idealize.ShloMosaic Idealize.ShloMosaic.TcCoe Idealize.ShloMosaic.Tactic
open Gen Products

theorem pay_at (d : Vec Ideal S1088x1024 .bf16) (w : Vec Ideal S128x1024 .bf16) (i : Fin 1088) (j : Fin 128) :
    k0_pay1 d w (ix2 i j) = ∑ l : Fin 1024, d (ix2 i l) * w (ix2 j l) := by
  pointwise [k0_pay1]

variable (m : (ℓ : Loc nD τ sig) → Buf (Elt Ideal) ℓ) (c : Dev nD) (t : Fin cfg0.N)

theorem points : cfg0.N = 4 := by decide +kernel

theorem idx0 : ∀ t : Fin cfg0.N, win0_0.index t = ![(t : ℕ), 0] := by decide +kernel
theorem idx1 : ∀ t : Fin cfg0.N, win0_1.index t = ![0, 0] := by decide +kernel
theorem idx2 : ∀ t : Fin cfg0.N, win0_2.index t = ![(t : ℕ), 0] := by decide +kernel

/-- The row of the arrays that a block's row is. -/
def row (i : Fin 1088) : Fin 4352 := ⟨t.1 * 1088 + i.1, by have := t.2; have := points; omega⟩

theorem blk0 (i : Fin 1088) (l : Fin 1024) : iblk m c 0 t (ix2 i l) = m (c.tc.loc main_arg0) (ix2 (row t i) l) := by
  blk_ext [iblk, V_main_arg0, idx0 t, row]

theorem blk1 (j : Fin 128) (l : Fin 1024) : iblk m c 1 t (ix2 j l) = m (c.tc.loc main_arg1) (ix2 j l) := by
  blk_ext [iblk, V_main_arg1, idx1 t]

/-- The cotangent as an array. -/
def G : S4352x128.Idx → EReal := nt (m (c.tc.loc main_arg0)) (m (c.tc.loc main_arg1))

/-- The cotangent after the run. -/
theorem final : (dats m 0 c).arrAt 2 cfg0.N = G m c := by
  refine (dats m 0 c).arrAt_eq_of_covers 2 _ (by decide +kernel) fun t hf y => ?_
  obtain ⟨i, j, rfl⟩ : ∃ (i : Fin 1088) (j : Fin 128), y = ix2 i j := ⟨y 0, y 1, by funext a; fin_cases a <;> rfl⟩
  have e : (win0_2.blk t).view.emb (ix2 i j) = ix2 (row t i) j := by
    blk_ext [idx2 t, row]
  blk_simp
  rw [after0_2]
  frame_out
  refine (pay_at _ _ i j).trans (Eq.trans ?_ (congrArg (G m c) e.symm))
  exact Finset.sum_congr rfl fun l _ => congrArg₂ (fun a b : EReal => a * b) (blk0 m c t i l) (blk1 m c t j l)

end Cert.UkvDxIdeal

namespace Cert.RefUkvDxIdeal.Read

open Idealize.ShloMosaic Idealize.ShloMosaic.TcCoe Idealize.ShloMosaic.Tactic

/-- The reference's result is that cotangent. -/
theorem val (d : (⟨S4352x1024, .bf16⟩ : BufTy).Contents (Elt Ideal)) (w : (⟨S128x1024, .bf16⟩ : BufTy).Contents (Elt Ideal)) :
    val_main_v4 (F := Ideal) d w = Products.nt d w := by
  funext x
  obtain ⟨i, j, rfl⟩ : ∃ (i : Fin 4352) (j : Fin 128), x = ix2 i j := ⟨x 0, x 1, by funext a; fin_cases a <;> rfl⟩
  pointwise [val_main_v4, val_main_v3, val_main_v1]
  rfl

end Cert.RefUkvDxIdeal.Read
end
-- ==== Proof.UpDw.lean ====
module

public import Idealize.ShloMosaic.Lib.Pipeline.ValueKit
public import Idealize.ShloMosaic.Lib.Pipeline.ReadBack
public import Idealize.ShloMosaic.Lib.Pointwise
public import proofs.«01_k».proof.Proof.Products
public import proofs.«01_k».proof.Proof.Gen.UqDwIdeal.Value
public import proofs.«01_k».proof.Proof.Gen.RefUqDwIdeal.Read
public import proofs.«01_k».proof.Proof.Gen.UkvDwIdeal.Value
public import proofs.«01_k».proof.Proof.Gen.RefUkvDwIdeal.Read

/-! The latent attention's query and key-value projections, their weights' gradients: what the kernels and the references compute. -/

@[expose] public section

set_option maxRecDepth 65536

noncomputable section

namespace Cert.UqDwIdeal

open Idealize.ShloMosaic Idealize.ShloMosaic.TcCoe Idealize.ShloMosaic.Tactic
open Gen

/-- A block of rows' part of the gradient. -/
theorem part_at (x : Vec Ideal S2176x256 .f32) (d : Vec Ideal S2176x1024 .bf16) (i : Fin 256) (j : Fin 1024) :
    k0_pay1 x d (ix2 i j) = ∑ k : Fin 2176, x (ix2 k i) * d (ix2 k j) := by
  pointwise [k0_pay1]

theorem first_at (x : Vec Ideal S2176x256 .f32) (d : Vec Ideal S2176x1024 .bf16) (i : Fin 256) (j : Fin 1024) :
    k0_pay2 x d (ix2 i j) = k0_pay1 x d (ix2 i j) := by
  pointwise [k0_pay2]

theorem next_at (x : Vec Ideal S2176x256 .f32) (d : Vec Ideal S2176x1024 .bf16) (a : Vec Ideal S256x1024 .f32)
    (i : Fin 256) (j : Fin 1024) : k0_pay3 x d a (ix2 i j) = a (ix2 i j) + k0_pay1 x d (ix2 i j) := by
  pointwise [k0_pay3]

variable (m : (ℓ : Loc nD τ sig) → Buf (Elt Ideal) ℓ) (c : Dev nD) (t : Fin cfg0.N)

theorem points : cfg0.N = 2 := by decide +kernel

theorem idx0 : ∀ t : Fin cfg0.N, win0_0.index t = ![(t : ℕ), 0] := by decide +kernel
theorem idx1 : ∀ t : Fin cfg0.N, win0_1.index t = ![(t : ℕ), 0] := by decide +kernel
theorem idx2 : ∀ t : Fin cfg0.N, win0_2.index t = ![0, 0] := by decide +kernel

/-- The scratch at the end of the points. -/
theorem scratch (hr : t.val % 2 = 2 - 1) (i : Fin 256) (j : Fin 1024) : (outsAt0 m c t.val t.isLt).2 (ix2 i j)
    = 0 + ∑ s : Fin 2, k0_pay1 (iblk m c 0 ⟨2 * (t.val / 2) + s.val, Pipeline.run_point_lt_of_flush t hr s⟩)
        (iblk m c 1 ⟨2 * (t.val / 2) + s.val, Pipeline.run_point_lt_of_flush t hr s⟩) (ix2 i j) := by
  refine Pipeline.eq_sum_fin_of_reset_step_apply_of_flush (fun n h => fun y : Fin 256 × Fin 1024 => (outsAt0 m c n h).2 (ix2 y.1 y.2)) 2
    (fun _ => 0) (fun t y => k0_pay1 (iblk m c 0 t) (iblk m c 1 t) (ix2 y.1 y.2)) (fun t h y => ?_) (fun t h y => ?_) t hr (i, j)
  · rw [outsAt0_A m c t h (by omega) (by omega)]
    frame_out
    rw [first_at, zero_add]
  · rw [outsAt0_B m c t h (by omega) (by omega)]
    frame_out
    rw [next_at, read_unread_whole]

/-- What is written back is what the scratch holds. -/
theorem written (hr : t.val % 2 = 1) (i : Fin 256) (j : Fin 1024) :
    (outsAt0 m c t.val t.isLt).1 (ix2 i j) = (outsAt0 m c t.val t.isLt).2 (ix2 i j) := by
  rw [outsAt0_B m c t (by omega) hr hr]
  frame_out
  rfl

/-- The row of the arrays that a block's row is. -/
def row (k : Fin 2176) : Fin 4352 := ⟨t.1 * 2176 + k.1, by have := t.2; have := points; omega⟩

theorem blk0 (k : Fin 2176) (i : Fin 256) : iblk m c 0 t (ix2 k i) = m (c.tc.loc main_arg0) (ix2 (row t k) i) := by
  blk_ext [iblk, V_main_arg0, idx0 t, row]

theorem blk1 (k : Fin 2176) (j : Fin 1024) : iblk m c 1 t (ix2 k j) = m (c.tc.loc main_arg1) (ix2 (row t k) j) := by
  blk_ext [iblk, V_main_arg1, idx1 t, row]

/-- The gradient as an array. -/
def G : S256x1024.Idx → EReal := Products.tn (m (c.tc.loc main_arg0)) (m (c.tc.loc main_arg1))

/-- The gradient after the run. -/
theorem final : (dats m 0 c).arrAt 2 cfg0.N = G m c := by
  refine (dats m 0 c).arrAt_eq_of_covers 2 _ (by decide +kernel) fun t hf y => ?_
  obtain ⟨i, j, rfl⟩ : ∃ (i : Fin 256) (j : Fin 1024), y = ix2 i j := ⟨y 0, y 1, by funext a; fin_cases a <;> rfl⟩
  have hr : t.val % 2 = 1 := (flush0_2 t).mp hf
  have e : (win0_2.blk t).view.emb (ix2 i j) = ix2 i j := by
    blk_ext [idx2 t]
  blk_simp
  rw [after0_2]
  refine (written m c t hr i j).trans ((scratch m c t hr i j).trans (Eq.trans ?_ (congrArg (G m c) e.symm)))
  rw [zero_add]
  refine (Finset.sum_congr rfl fun s _ => part_at _ _ i j).trans (Products.sum_parts (by decide) _ _ fun s k l hl => ?_)
  have ht : t.val < 2 := lt_of_lt_of_eq t.2 points
  have h0 : row ⟨2 * (t.val / 2) + s.val, Pipeline.run_point_lt_of_flush t hr s⟩ k = l := Fin.ext (by simp only [row]; omega)
  exact congrArg₂ (fun a b : EReal => a * b) ((blk0 m c _ k i).trans (by rw [h0]; rfl)) ((blk1 m c _ k j).trans (by rw [h0]; rfl))

end Cert.UqDwIdeal

namespace Cert.RefUqDwIdeal.Read

open Idealize.ShloMosaic Idealize.ShloMosaic.TcCoe Idealize.ShloMosaic.Tactic

/-- The reference's result is that gradient. -/
theorem val (x : (⟨S4352x256, .f32⟩ : BufTy).Contents (Elt Ideal)) (d : (⟨S4352x1024, .bf16⟩ : BufTy).Contents (Elt Ideal)) :
    val_main_v6 (F := Ideal) x d = Products.tn x d := by
  funext y
  obtain ⟨i, j, rfl⟩ : ∃ (i : Fin 256) (j : Fin 1024), y = ix2 i j := ⟨y 0, y 1, by funext a; fin_cases a <;> rfl⟩
  pointwise [val_main_v6, val_main_v5, val_main_v4, val_main_v3]
  exact Finset.sum_congr rfl fun r _ => mul_comm _ _

end Cert.RefUqDwIdeal.Read

namespace Cert.UkvDwIdeal

open Idealize.ShloMosaic Idealize.ShloMosaic.TcCoe Idealize.ShloMosaic.Tactic
open Gen

/-- A block of rows' part of the gradient. -/
theorem part_at (x : Vec Ideal S2176x128 .f32) (d : Vec Ideal S2176x1024 .bf16) (i : Fin 128) (j : Fin 1024) :
    k0_pay1 x d (ix2 i j) = ∑ k : Fin 2176, x (ix2 k i) * d (ix2 k j) := by
  pointwise [k0_pay1]

theorem first_at (x : Vec Ideal S2176x128 .f32) (d : Vec Ideal S2176x1024 .bf16) (i : Fin 128) (j : Fin 1024) :
    k0_pay2 x d (ix2 i j) = k0_pay1 x d (ix2 i j) := by
  pointwise [k0_pay2]

theorem next_at (x : Vec Ideal S2176x128 .f32) (d : Vec Ideal S2176x1024 .bf16) (a : Vec Ideal S128x1024 .f32)
    (i : Fin 128) (j : Fin 1024) : k0_pay3 x d a (ix2 i j) = a (ix2 i j) + k0_pay1 x d (ix2 i j) := by
  pointwise [k0_pay3]

variable (m : (ℓ : Loc nD τ sig) → Buf (Elt Ideal) ℓ) (c : Dev nD) (t : Fin cfg0.N)

theorem points : cfg0.N = 2 := by decide +kernel

theorem idx0 : ∀ t : Fin cfg0.N, win0_0.index t = ![(t : ℕ), 0] := by decide +kernel
theorem idx1 : ∀ t : Fin cfg0.N, win0_1.index t = ![(t : ℕ), 0] := by decide +kernel
theorem idx2 : ∀ t : Fin cfg0.N, win0_2.index t = ![0, 0] := by decide +kernel

/-- The scratch at the end of the points. -/
theorem scratch (hr : t.val % 2 = 2 - 1) (i : Fin 128) (j : Fin 1024) : (outsAt0 m c t.val t.isLt).2 (ix2 i j)
    = 0 + ∑ s : Fin 2, k0_pay1 (iblk m c 0 ⟨2 * (t.val / 2) + s.val, Pipeline.run_point_lt_of_flush t hr s⟩)
        (iblk m c 1 ⟨2 * (t.val / 2) + s.val, Pipeline.run_point_lt_of_flush t hr s⟩) (ix2 i j) := by
  refine Pipeline.eq_sum_fin_of_reset_step_apply_of_flush (fun n h => fun y : Fin 128 × Fin 1024 => (outsAt0 m c n h).2 (ix2 y.1 y.2)) 2
    (fun _ => 0) (fun t y => k0_pay1 (iblk m c 0 t) (iblk m c 1 t) (ix2 y.1 y.2)) (fun t h y => ?_) (fun t h y => ?_) t hr (i, j)
  · rw [outsAt0_A m c t h (by omega) (by omega)]
    frame_out
    rw [first_at, zero_add]
  · rw [outsAt0_B m c t h (by omega) (by omega)]
    frame_out
    rw [next_at, read_unread_whole]

/-- What is written back is what the scratch holds. -/
theorem written (hr : t.val % 2 = 1) (i : Fin 128) (j : Fin 1024) :
    (outsAt0 m c t.val t.isLt).1 (ix2 i j) = (outsAt0 m c t.val t.isLt).2 (ix2 i j) := by
  rw [outsAt0_B m c t (by omega) hr hr]
  frame_out
  rfl

/-- The row of the arrays that a block's row is. -/
def row (k : Fin 2176) : Fin 4352 := ⟨t.1 * 2176 + k.1, by have := t.2; have := points; omega⟩

theorem blk0 (k : Fin 2176) (i : Fin 128) : iblk m c 0 t (ix2 k i) = m (c.tc.loc main_arg0) (ix2 (row t k) i) := by
  blk_ext [iblk, V_main_arg0, idx0 t, row]

theorem blk1 (k : Fin 2176) (j : Fin 1024) : iblk m c 1 t (ix2 k j) = m (c.tc.loc main_arg1) (ix2 (row t k) j) := by
  blk_ext [iblk, V_main_arg1, idx1 t, row]

/-- The gradient as an array. -/
def G : S128x1024.Idx → EReal := Products.tn (m (c.tc.loc main_arg0)) (m (c.tc.loc main_arg1))

/-- The gradient after the run. -/
theorem final : (dats m 0 c).arrAt 2 cfg0.N = G m c := by
  refine (dats m 0 c).arrAt_eq_of_covers 2 _ (by decide +kernel) fun t hf y => ?_
  obtain ⟨i, j, rfl⟩ : ∃ (i : Fin 128) (j : Fin 1024), y = ix2 i j := ⟨y 0, y 1, by funext a; fin_cases a <;> rfl⟩
  have hr : t.val % 2 = 1 := (flush0_2 t).mp hf
  have e : (win0_2.blk t).view.emb (ix2 i j) = ix2 i j := by
    blk_ext [idx2 t]
  blk_simp
  rw [after0_2]
  refine (written m c t hr i j).trans ((scratch m c t hr i j).trans (Eq.trans ?_ (congrArg (G m c) e.symm)))
  rw [zero_add]
  refine (Finset.sum_congr rfl fun s _ => part_at _ _ i j).trans (Products.sum_parts (by decide) _ _ fun s k l hl => ?_)
  have ht : t.val < 2 := lt_of_lt_of_eq t.2 points
  have h0 : row ⟨2 * (t.val / 2) + s.val, Pipeline.run_point_lt_of_flush t hr s⟩ k = l := Fin.ext (by simp only [row]; omega)
  exact congrArg₂ (fun a b : EReal => a * b) ((blk0 m c _ k i).trans (by rw [h0]; rfl)) ((blk1 m c _ k j).trans (by rw [h0]; rfl))

end Cert.UkvDwIdeal

namespace Cert.RefUkvDwIdeal.Read

open Idealize.ShloMosaic Idealize.ShloMosaic.TcCoe Idealize.ShloMosaic.Tactic

/-- The reference's result is that gradient. -/
theorem val (x : (⟨S4352x128, .f32⟩ : BufTy).Contents (Elt Ideal)) (d : (⟨S4352x1024, .bf16⟩ : BufTy).Contents (Elt Ideal)) :
    val_main_v6 (F := Ideal) x d = Products.tn x d := by
  funext y
  obtain ⟨i, j, rfl⟩ : ∃ (i : Fin 128) (j : Fin 1024), y = ix2 i j := ⟨y 0, y 1, by funext a; fin_cases a <;> rfl⟩
  pointwise [val_main_v6, val_main_v5, val_main_v4, val_main_v3]
  exact Finset.sum_congr rfl fun r _ => mul_comm _ _

end Cert.RefUkvDwIdeal.Read
end
-- ==== Proof.Fwd.lean ====
module

public import Idealize.ShloMosaic.Lib.Pipeline.ValueKit
public import Idealize.ShloMosaic.Lib.Pointwise
public import proofs.«01_k».proof.Proof.Products
public import proofs.«01_k».proof.Proof.Gen.W1FwdIdeal.Value
public import proofs.«01_k».proof.Proof.Gen.RefW1FwdIdeal.Read
public import proofs.«01_k».proof.Proof.Gen.InFwdIdeal.Value
public import proofs.«01_k».proof.Proof.Gen.RefInFwdIdeal.Read

/-! The projections by sharded weights, forward: what the kernels and the references compute. -/

@[expose] public section

set_option maxRecDepth 65536

noncomputable section

namespace Cert.W1FwdIdeal

open Idealize.ShloMosaic Idealize.ShloMosaic.TcCoe Idealize.ShloMosaic.Tactic
open Gen Products

theorem pay_at (x : Vec Ideal S2176x1024 .f32) (w : Vec Ideal S1x1024x1024 .bf16) (i : Fin 2176) (j : Fin 1024) :
    k0_pay1 x w (ix2 i j) = ∑ k : Fin 1024, x (ix2 i k) * w (ix3 0 k j) := by
  pointwise [k0_pay1]

variable (m : (ℓ : Loc nD τ sig) → Buf (Elt Ideal) ℓ) (c : Dev nD) (t : Fin cfg0.N)

theorem points : cfg0.N = 8 := by decide +kernel

theorem idx0 : ∀ t : Fin cfg0.N, win0_0.index t = ![(t : ℕ) / 4, 0] := by decide +kernel
theorem idx1 : ∀ t : Fin cfg0.N, win0_1.index t = ![(t : ℕ) % 4, 0, 0] := by decide +kernel
theorem idx2 : ∀ t : Fin cfg0.N, win0_2.index t = ![(t : ℕ) / 4, (t : ℕ) % 4] := by decide +kernel

/-- The row of the arrays that a block's row is. -/
def row (i : Fin 2176) : Fin 4352 := ⟨t.1 / 4 * 2176 + i.1, by have := t.2; have := points; omega⟩

/-- The column of the result that a block's column is. -/
def out (j : Fin 1024) : Fin 4096 := ⟨t.1 % 4 * 1024 + j.1, by omega⟩

theorem hL : 4096 = 4 * 1024 := by decide

theorem blk0 (i : Fin 2176) (k : Fin 1024) : iblk m c 0 t (ix2 i k) = m (c.tc.loc main_arg0) (ix2 (row t i) k) := by
  blk_ext [iblk, V_main_arg0, idx0 t, row]

theorem blk1 (k : Fin 1024) (j : Fin 1024) : iblk m c 1 t (ix3 0 k j)
    = m (c.tc.loc main_arg1) (ix3 (shard hL (out t j)) k (Products.inner hL (out t j))) := by
  have hs : shard hL (out t j) = ⟨t.1 % 4, by omega⟩ := Fin.ext (by simp only [shard, out]; omega)
  have hi : Products.inner hL (out t j) = j := Fin.ext (by simp only [Products.inner, out]; omega)
  rw [hs, hi]
  blk_ext [iblk, V_main_arg1, idx1 t]

/-- The product as an array. -/
def G : S4352x4096.Idx → EReal := fwd hL (m (c.tc.loc main_arg0)) (m (c.tc.loc main_arg1))

/-- The product after the run. -/
theorem final : (dats m 0 c).arrAt 2 cfg0.N = G m c := by
  refine (dats m 0 c).arrAt_eq_of_covers 2 _ (by decide +kernel) fun t hf y => ?_
  obtain ⟨i, j, rfl⟩ : ∃ (i : Fin 2176) (j : Fin 1024), y = ix2 i j := ⟨y 0, y 1, by funext a; fin_cases a <;> rfl⟩
  have e : (win0_2.blk t).view.emb (ix2 i j) = ix2 (row t i) (out t j) := by
    blk_ext [idx2 t, row, out]
  blk_simp
  rw [after0_2]
  frame_out
  refine (pay_at _ _ i j).trans (Eq.trans ?_ (congrArg (G m c) e.symm))
  exact Finset.sum_congr rfl fun k _ => congrArg₂ (fun a b : EReal => a * b) (blk0 m c t i k) (blk1 m c t k j)

end Cert.W1FwdIdeal

namespace Cert.RefW1FwdIdeal.Read

open Idealize.ShloMosaic Idealize.ShloMosaic.TcCoe Idealize.ShloMosaic.Tactic Products Cert.W1FwdIdeal

/-- The reference's weight, its shards side by side. -/
theorem val_main_v2_at (w : (⟨S4x1024x1024, .bf16⟩ : BufTy).Contents (Elt Ideal)) (k : Fin 1024) (l : Fin 4096) :
    val_main_v2 (F := Ideal) w (ix2 k l) = w (ix3 (shard hL l) k (Products.inner hL l)) := by
  refine (val_main_v1_apply w _).trans ((val_main_v0_apply w _).trans (congrArg w ?_))
  funext a
  fin_cases a <;> refine Fin.ext ?_
  · show (k.1 * 4096 + l.1) / 1024 % 4 = l.1 / 1024
    omega
  · show (k.1 * 4096 + l.1) / 4096 = k.1
    omega
  · show (k.1 * 4096 + l.1) % 1024 = l.1 % 1024
    omega

/-- The reference's result is that product. -/
theorem val (x : (⟨S4352x1024, .f32⟩ : BufTy).Contents (Elt Ideal)) (w : (⟨S4x1024x1024, .bf16⟩ : BufTy).Contents (Elt Ideal)) :
    val_main_v4 (F := Ideal) x w = fwd hL x w := by
  funext y
  obtain ⟨i, j, rfl⟩ : ∃ (i : Fin 4352) (j : Fin 4096), y = ix2 i j := ⟨y 0, y 1, by funext a; fin_cases a <;> rfl⟩
  pointwise [val_main_v4, val_main_v3]
  simp only [val_main_v2_at]
  rfl

end Cert.RefW1FwdIdeal.Read

namespace Cert.InFwdIdeal

open Idealize.ShloMosaic Idealize.ShloMosaic.TcCoe Idealize.ShloMosaic.Tactic
open Gen Products

theorem pay_at (x : Vec Ideal S2176x1024 .f32) (w : Vec Ideal S1x1024x768 .bf16) (i : Fin 2176) (j : Fin 768) :
    k0_pay1 x w (ix2 i j) = ∑ k : Fin 1024, x (ix2 i k) * w (ix3 0 k j) := by
  pointwise [k0_pay1]

variable (m : (ℓ : Loc nD τ sig) → Buf (Elt Ideal) ℓ) (c : Dev nD) (t : Fin cfg0.N)

theorem points : cfg0.N = 16 := by decide +kernel

theorem idx0 : ∀ t : Fin cfg0.N, win0_0.index t = ![(t : ℕ) / 8, 0] := by decide +kernel
theorem idx1 : ∀ t : Fin cfg0.N, win0_1.index t = ![(t : ℕ) % 8 / 2, 0, (t : ℕ) % 2] := by decide +kernel
theorem idx2 : ∀ t : Fin cfg0.N, win0_2.index t = ![(t : ℕ) / 8, (t : ℕ) % 8] := by decide +kernel

/-- The row of the arrays that a block's row is. -/
def row (i : Fin 2176) : Fin 4352 := ⟨t.1 / 8 * 2176 + i.1, by have := t.2; have := points; omega⟩

/-- The column of the result that a block's column is. -/
def out (j : Fin 768) : Fin 6144 := ⟨t.1 % 8 * 768 + j.1, by omega⟩

theorem hL : 6144 = 4 * 1536 := by decide

theorem blk0 (i : Fin 2176) (k : Fin 1024) : iblk m c 0 t (ix2 i k) = m (c.tc.loc main_arg0) (ix2 (row t i) k) := by
  blk_ext [iblk, V_main_arg0, idx0 t, row]

theorem blk1 (k : Fin 1024) (j : Fin 768) : iblk m c 1 t (ix3 0 k j)
    = m (c.tc.loc main_arg1) (ix3 (shard hL (out t j)) k (Products.inner hL (out t j))) := by
  have hs : shard hL (out t j) = ⟨t.1 % 8 / 2, by omega⟩ := Fin.ext (by simp only [shard, out]; omega)
  have hi : Products.inner hL (out t j) = ⟨t.1 % 2 * 768 + j.1, by omega⟩ := Fin.ext (by simp only [Products.inner, out]; omega)
  rw [hs, hi]
  blk_ext [iblk, V_main_arg1, idx1 t]

/-- The product as an array. -/
def G : S4352x6144.Idx → EReal := fwd hL (m (c.tc.loc main_arg0)) (m (c.tc.loc main_arg1))

/-- The product after the run. -/
theorem final : (dats m 0 c).arrAt 2 cfg0.N = G m c := by
  refine (dats m 0 c).arrAt_eq_of_covers 2 _ (by decide +kernel) fun t hf y => ?_
  obtain ⟨i, j, rfl⟩ : ∃ (i : Fin 2176) (j : Fin 768), y = ix2 i j := ⟨y 0, y 1, by funext a; fin_cases a <;> rfl⟩
  have e : (win0_2.blk t).view.emb (ix2 i j) = ix2 (row t i) (out t j) := by
    blk_ext [idx2 t, row, out]
  blk_simp
  rw [after0_2]
  frame_out
  refine (pay_at _ _ i j).trans (Eq.trans ?_ (congrArg (G m c) e.symm))
  exact Finset.sum_congr rfl fun k _ => congrArg₂ (fun a b : EReal => a * b) (blk0 m c t i k) (blk1 m c t k j)

end Cert.InFwdIdeal

namespace Cert.RefInFwdIdeal.Read

open Idealize.ShloMosaic Idealize.ShloMosaic.TcCoe Idealize.ShloMosaic.Tactic Products Cert.InFwdIdeal

/-- The reference's weight, its shards side by side. -/
theorem val_main_v2_at (w : (⟨S4x1024x1536, .bf16⟩ : BufTy).Contents (Elt Ideal)) (k : Fin 1024) (l : Fin 6144) :
    val_main_v2 (F := Ideal) w (ix2 k l) = w (ix3 (shard hL l) k (Products.inner hL l)) := by
  refine (val_main_v1_apply w _).trans ((val_main_v0_apply w _).trans (congrArg w ?_))
  funext a
  fin_cases a <;> refine Fin.ext ?_
  · show (k.1 * 6144 + l.1) / 1536 % 4 = l.1 / 1536
    omega
  · show (k.1 * 6144 + l.1) / 6144 = k.1
    omega
  · show (k.1 * 6144 + l.1) % 1536 = l.1 % 1536
    omega

/-- The reference's result is that product. -/
theorem val (x : (⟨S4352x1024, .f32⟩ : BufTy).Contents (Elt Ideal)) (w : (⟨S4x1024x1536, .bf16⟩ : BufTy).Contents (Elt Ideal)) :
    val_main_v4 (F := Ideal) x w = fwd hL x w := by
  funext y
  obtain ⟨i, j, rfl⟩ : ∃ (i : Fin 4352) (j : Fin 6144), y = ix2 i j := ⟨y 0, y 1, by funext a; fin_cases a <;> rfl⟩
  pointwise [val_main_v4, val_main_v3]
  simp only [val_main_v2_at]
  rfl

end Cert.RefInFwdIdeal.Read
end
-- ==== Proof.NormFwd.lean ====
module

public import Idealize.ShloMosaic.Lib.Pipeline.ValueKit
public import Idealize.ShloMosaic.Lib.Pointwise
public import proofs.«01_k».proof.Proof.Products
public import proofs.«01_k».proof.Proof.Consts
public import proofs.«01_k».proof.Proof.Norms
public import proofs.«01_k».proof.Proof.Gen.W2NormFwdIdeal.Value
public import proofs.«01_k».proof.Proof.Gen.RefW2NormFwdIdeal.Read
public import proofs.«01_k».proof.Proof.Gen.OutNormFwdIdeal.Value
public import proofs.«01_k».proof.Proof.Gen.RefOutNormFwdIdeal.Read
public import proofs.«01_k».proof.Proof.Gen.EvOutNormFwdIdeal.Value
public import proofs.«01_k».proof.Proof.Gen.RefEvOutNormFwdIdeal.Read

/-! The projections that end in the residual and its layer norm, forward: what the kernels and the references compute. -/

@[expose] public section

set_option maxRecDepth 65536

noncomputable section

namespace Cert.W2NormFwdIdeal

open Idealize.ShloMosaic Idealize.ShloMosaic.TcCoe Idealize.ShloMosaic.Tactic
open Gen Products Norms

theorem named : Named.named (F := Ideal) κ "alpha" (φ := .f32) 0x3FB504F3#32 = alpha :=
  IdealRules.named_const.ideal_named_scalar _ _ _ _ rfl

theorem res_at (u : Vec Ideal S544x4096 .bf16) (w : Vec Ideal S4096x1024 .bf16) (h : Vec Ideal S544x1024 .f32) (i : Fin 544) (j : Fin 1024) :
    k0_pay1 u w h (ix2 i j) = alpha * h (ix2 i j) + ∑ k : Fin 4096, max (u (ix2 i k)) 0 * max (u (ix2 i k)) 0 * w (ix2 k j) := by
  pointwise [k0_pay1]
  rw [named]

theorem pay_at (u : Vec Ideal S544x4096 .bf16) (w : Vec Ideal S4096x1024 .bf16) (h : Vec Ideal S544x1024 .f32)
    (g b : Vec Ideal S1x1024 .f32) (i : Fin 544) (j : Fin 1024) :
    k0_pay2 u w h g b (ix2 i j)
      = layer (Ideal.ofBits .f32 0x44800000#32) (fun k => k0_pay1 u w h (ix2 i k)) (fun k => g (ix2 0 k)) (fun k => b (ix2 0 k)) j := by
  pointwise [k0_pay2]
  rfl

variable (m : (ℓ : Loc nD τ sig) → Buf (Elt Ideal) ℓ) (c : Dev nD) (t : Fin cfg0.N)

theorem points : cfg0.N = 8 := by decide +kernel

theorem idx0 : ∀ t : Fin cfg0.N, win0_0.index t = ![(t : ℕ), 0] := by decide +kernel
theorem idx1 : ∀ t : Fin cfg0.N, win0_1.index t = ![0, 0] := by decide +kernel
theorem idx2 : ∀ t : Fin cfg0.N, win0_2.index t = ![(t : ℕ), 0] := by decide +kernel
theorem idx3 : ∀ t : Fin cfg0.N, win0_3.index t = ![0, 0] := by decide +kernel
theorem idx4 : ∀ t : Fin cfg0.N, win0_4.index t = ![0, 0] := by decide +kernel
theorem idx5 : ∀ t : Fin cfg0.N, win0_5.index t = ![(t : ℕ), 0] := by decide +kernel
theorem idx6 : ∀ t : Fin cfg0.N, win0_6.index t = ![(t : ℕ), 0] := by decide +kernel

/-- The row of the arrays that a block's row is. -/
def row (i : Fin 544) : Fin 4352 := ⟨t.1 * 544 + i.1, by have := t.2; have := points; omega⟩

theorem blk0 (i : Fin 544) (k : Fin 4096) : iblk m c 0 t (ix2 i k) = m (c.tc.loc main_arg0) (ix2 (row t i) k) := by
  blk_ext [iblk, V_main_arg0, idx0 t, row]

theorem blk1 (k : Fin 4096) (j : Fin 1024) : iblk m c 1 t (ix2 k j) = m (c.tc.loc main_arg1) (ix2 k j) := by
  blk_ext [iblk, V_main_arg1, idx1 t]

theorem blk2 (i : Fin 544) (j : Fin 1024) : iblk m c 2 t (ix2 i j) = m (c.tc.loc main_arg2) (ix2 (row t i) j) := by
  blk_ext [iblk, V_main_arg2, idx2 t, row]

theorem blk3 (j : Fin 1024) : iblk m c 3 t (ix2 0 j) = m (c.tc.loc main_arg3) (ix2 0 j) := by
  blk_ext [iblk, V_main_arg3, idx3 t]

theorem blk4 (j : Fin 1024) : iblk m c 4 t (ix2 0 j) = m (c.tc.loc main_arg4) (ix2 0 j) := by
  blk_ext [iblk, V_main_arg4, idx4 t]

/-- The product of the squared activation. -/
def down (u : S4352x4096.Idx → EReal) (w : S4096x1024.Idx → EReal) : S4352x1024.Idx → EReal :=
  nn (fun y => max (u y) 0 * max (u y) 0) w

/-- What is normalised, as an array. -/
def Z : S4352x1024.Idx → EReal := residual (m (c.tc.loc main_arg2)) (down (m (c.tc.loc main_arg0)) (m (c.tc.loc main_arg1)))

/-- The norm as an array. -/
def G : S4352x1024.Idx → EReal := layerRows (Ideal.ofBits .f32 0x44800000#32) (Z m c) (m (c.tc.loc main_arg3)) (m (c.tc.loc main_arg4))

theorem res_block (i : Fin 544) (j : Fin 1024) :
    k0_pay1 (iblk m c 0 t) (iblk m c 1 t) (iblk m c 2 t) (ix2 i j) = Z m c (ix2 (row t i) j) :=
  (res_at _ _ _ i j).trans (congrArg₂ (fun a b : EReal => alpha * a + b) (blk2 m c t i j) (Finset.sum_congr rfl fun k _ =>
    congrArg₂ (fun a b : EReal => max a 0 * max a 0 * b) (blk0 m c t i k) (blk1 m c t k j)))

/-- What is normalised, after the run. -/
theorem final_z : (dats m 0 c).arrAt 6 cfg0.N = Z m c := by
  refine (dats m 0 c).arrAt_eq_of_covers 6 _ (by decide +kernel) fun t hf y => ?_
  obtain ⟨i, j, rfl⟩ : ∃ (i : Fin 544) (j : Fin 1024), y = ix2 i j := ⟨y 0, y 1, by funext a; fin_cases a <;> rfl⟩
  have e : (win0_6.blk t).view.emb (ix2 i j) = ix2 (row t i) j := by
    blk_ext [idx6 t, row]
  blk_simp
  rw [after0_6]
  frame_out
  exact (res_block m c t i j).trans (congrArg (Z m c) e.symm)

/-- The norm after the run. -/
theorem final : (dats m 0 c).arrAt 5 cfg0.N = G m c := by
  refine (dats m 0 c).arrAt_eq_of_covers 5 _ (by decide +kernel) fun t hf y => ?_
  obtain ⟨i, j, rfl⟩ : ∃ (i : Fin 544) (j : Fin 1024), y = ix2 i j := ⟨y 0, y 1, by funext a; fin_cases a <;> rfl⟩
  have e : (win0_5.blk t).view.emb (ix2 i j) = ix2 (row t i) j := by
    blk_ext [idx5 t, row]
  blk_simp
  rw [after0_5]
  frame_out
  refine (pay_at _ _ _ _ _ i j).trans (Eq.trans ?_ (congrArg (G m c) e.symm))
  exact layer_eq (res_block m c t i) (blk3 m c t) (blk4 m c t) j

end Cert.W2NormFwdIdeal

namespace Cert.RefW2NormFwdIdeal.Read

open Idealize.ShloMosaic Idealize.ShloMosaic.TcCoe Idealize.ShloMosaic.Tactic Products Norms

/-- What the reference normalises. -/
theorem val_z (u : (⟨S4352x4096, .bf16⟩ : BufTy).Contents (Elt Ideal)) (w : (⟨S4096x1024, .bf16⟩ : BufTy).Contents (Elt Ideal))
    (h : (⟨S4352x1024, .f32⟩ : BufTy).Contents (Elt Ideal)) :
    val_main_v8 (F := Ideal) u w h = residual h (W2NormFwdIdeal.down u w) := by
  funext y
  obtain ⟨i, j, rfl⟩ : ∃ (i : Fin 4352) (j : Fin 1024), y = ix2 i j := ⟨y 0, y 1, by funext a; fin_cases a <;> rfl⟩
  pointwise [val_main_v8, val_main_v7, val_main_v6, val_main_v5, val_main_v4, val_main_v3, val_main_call0_v0, val_main_call0_cst,
    val_main_v2, val_main_v1, val_main_v0, val_main_cst]
  simp only [Consts.sqrt_2]
  rfl

/-- The reference's norm. -/
theorem val (u : (⟨S4352x4096, .bf16⟩ : BufTy).Contents (Elt Ideal)) (w : (⟨S4096x1024, .bf16⟩ : BufTy).Contents (Elt Ideal))
    (h : (⟨S4352x1024, .f32⟩ : BufTy).Contents (Elt Ideal)) (g b : (⟨S1x1024, .f32⟩ : BufTy).Contents (Elt Ideal)) :
    val_main_v28 (F := Ideal) u w h g b = layerRows (Ideal.ofBits .f32 0x44800000#32) (residual h (W2NormFwdIdeal.down u w)) g b := by
  rw [← val_z]
  funext y
  obtain ⟨i, j, rfl⟩ : ∃ (i : Fin 4352) (j : Fin 1024), y = ix2 i j := ⟨y 0, y 1, by funext a; fin_cases a <;> rfl⟩
  pointwise [val_main_v28, val_main_v27, val_main_v26, val_main_v25, val_main_v24, val_main_v23, val_main_v22, val_main_v21, val_main_v20,
    val_main_v19, val_main_v18, val_main_v17, val_main_v16, val_main_v15, val_main_v14, val_main_v13, val_main_v12, val_main_v11,
    val_main_v10, val_main_v9, val_main_cst_0, val_main_cst_1, val_main_cst_2, val_main_cst_3, val_main_cst_4]
  rfl

end Cert.RefW2NormFwdIdeal.Read

namespace Cert.OutNormFwdIdeal

open Idealize.ShloMosaic Idealize.ShloMosaic.TcCoe Idealize.ShloMosaic.Tactic
open Gen Products Norms

theorem named : Named.named (F := Ideal) κ "alpha" (φ := .f32) 0x3FB504F3#32 = alpha :=
  IdealRules.named_const.ideal_named_scalar _ _ _ _ rfl

theorem res_at (x : Vec Ideal S544x2048 .f32) (w : Vec Ideal S2048x1024 .bf16) (h : Vec Ideal S544x1024 .f32) (i : Fin 544) (j : Fin 1024) :
    k0_pay1 x w h (ix2 i j) = alpha * h (ix2 i j) + ∑ k : Fin 2048, x (ix2 i k) * w (ix2 k j) := by
  pointwise [k0_pay1]
  rw [named]

theorem pay_at (x : Vec Ideal S544x2048 .f32) (w : Vec Ideal S2048x1024 .bf16) (h : Vec Ideal S544x1024 .f32)
    (g b : Vec Ideal S1x1024 .f32) (i : Fin 544) (j : Fin 1024) :
    k0_pay2 x w h g b (ix2 i j)
      = layer (Ideal.ofBits .f32 0x44800000#32) (fun k => k0_pay1 x w h (ix2 i k)) (fun k => g (ix2 0 k)) (fun k => b (ix2 0 k)) j := by
  pointwise [k0_pay2]
  rfl

variable (m : (ℓ : Loc nD τ sig) → Buf (Elt Ideal) ℓ) (c : Dev nD) (t : Fin cfg0.N)

theorem points : cfg0.N = 8 := by decide +kernel

theorem idx0 : ∀ t : Fin cfg0.N, win0_0.index t = ![(t : ℕ), 0] := by decide +kernel
theorem idx1 : ∀ t : Fin cfg0.N, win0_1.index t = ![0, 0] := by decide +kernel
theorem idx2 : ∀ t : Fin cfg0.N, win0_2.index t = ![(t : ℕ), 0] := by decide +kernel
theorem idx3 : ∀ t : Fin cfg0.N, win0_3.index t = ![0, 0] := by decide +kernel
theorem idx4 : ∀ t : Fin cfg0.N, win0_4.index t = ![0, 0] := by decide +kernel
theorem idx5 : ∀ t : Fin cfg0.N, win0_5.index t = ![(t : ℕ), 0] := by decide +kernel
theorem idx6 : ∀ t : Fin cfg0.N, win0_6.index t = ![(t : ℕ), 0] := by decide +kernel

/-- The row of the arrays that a block's row is. -/
def row (i : Fin 544) : Fin 4352 := ⟨t.1 * 544 + i.1, by have := t.2; have := points; omega⟩

theorem blk0 (i : Fin 544) (k : Fin 2048) : iblk m c 0 t (ix2 i k) = m (c.tc.loc main_arg0) (ix2 (row t i) k) := by
  blk_ext [iblk, V_main_arg0, idx0 t, row]

theorem blk1 (k : Fin 2048) (j : Fin 1024) : iblk m c 1 t (ix2 k j) = m (c.tc.loc main_arg1) (ix2 k j) := by
  blk_ext [iblk, V_main_arg1, idx1 t]

theorem blk2 (i : Fin 544) (j : Fin 1024) : iblk m c 2 t (ix2 i j) = m (c.tc.loc main_arg2) (ix2 (row t i) j) := by
  blk_ext [iblk, V_main_arg2, idx2 t, row]

theorem blk3 (j : Fin 1024) : iblk m c 3 t (ix2 0 j) = m (c.tc.loc main_arg3) (ix2 0 j) := by
  blk_ext [iblk, V_main_arg3, idx3 t]

theorem blk4 (j : Fin 1024) : iblk m c 4 t (ix2 0 j) = m (c.tc.loc main_arg4) (ix2 0 j) := by
  blk_ext [iblk, V_main_arg4, idx4 t]

/-- What is normalised, as an array. -/
def Z : S4352x1024.Idx → EReal := residual (m (c.tc.loc main_arg2)) (nn (m (c.tc.loc main_arg0)) (m (c.tc.loc main_arg1)))

/-- The norm as an array. -/
def G : S4352x1024.Idx → EReal := layerRows (Ideal.ofBits .f32 0x44800000#32) (Z m c) (m (c.tc.loc main_arg3)) (m (c.tc.loc main_arg4))

theorem res_block (i : Fin 544) (j : Fin 1024) :
    k0_pay1 (iblk m c 0 t) (iblk m c 1 t) (iblk m c 2 t) (ix2 i j) = Z m c (ix2 (row t i) j) :=
  (res_at _ _ _ i j).trans (congrArg₂ (fun a b : EReal => alpha * a + b) (blk2 m c t i j) (Finset.sum_congr rfl fun k _ =>
    congrArg₂ (fun a b : EReal => a * b) (blk0 m c t i k) (blk1 m c t k j)))

/-- What is normalised, after the run. -/
theorem final_z : (dats m 0 c).arrAt 6 cfg0.N = Z m c := by
  refine (dats m 0 c).arrAt_eq_of_covers 6 _ (by decide +kernel) fun t hf y => ?_
  obtain ⟨i, j, rfl⟩ : ∃ (i : Fin 544) (j : Fin 1024), y = ix2 i j := ⟨y 0, y 1, by funext a; fin_cases a <;> rfl⟩
  have e : (win0_6.blk t).view.emb (ix2 i j) = ix2 (row t i) j := by
    blk_ext [idx6 t, row]
  blk_simp
  rw [after0_6]
  frame_out
  exact (res_block m c t i j).trans (congrArg (Z m c) e.symm)

/-- The norm after the run. -/
theorem final : (dats m 0 c).arrAt 5 cfg0.N = G m c := by
  refine (dats m 0 c).arrAt_eq_of_covers 5 _ (by decide +kernel) fun t hf y => ?_
  obtain ⟨i, j, rfl⟩ : ∃ (i : Fin 544) (j : Fin 1024), y = ix2 i j := ⟨y 0, y 1, by funext a; fin_cases a <;> rfl⟩
  have e : (win0_5.blk t).view.emb (ix2 i j) = ix2 (row t i) j := by
    blk_ext [idx5 t, row]
  blk_simp
  rw [after0_5]
  frame_out
  refine (pay_at _ _ _ _ _ i j).trans (Eq.trans ?_ (congrArg (G m c) e.symm))
  exact layer_eq (res_block m c t i) (blk3 m c t) (blk4 m c t) j

end Cert.OutNormFwdIdeal

namespace Cert.RefOutNormFwdIdeal.Read

open Idealize.ShloMosaic Idealize.ShloMosaic.TcCoe Idealize.ShloMosaic.Tactic Products Norms

/-- What the reference normalises. -/
theorem val_z (x : (⟨S4352x2048, .f32⟩ : BufTy).Contents (Elt Ideal)) (w : (⟨S2048x1024, .bf16⟩ : BufTy).Contents (Elt Ideal))
    (h : (⟨S4352x1024, .f32⟩ : BufTy).Contents (Elt Ideal)) : val_main_v5 (F := Ideal) x w h = residual h (nn x w) := by
  funext y
  obtain ⟨i, j, rfl⟩ : ∃ (i : Fin 4352) (j : Fin 1024), y = ix2 i j := ⟨y 0, y 1, by funext a; fin_cases a <;> rfl⟩
  pointwise [val_main_v5, val_main_v4, val_main_v3, val_main_v2, val_main_v1, val_main_v0, val_main_cst]
  simp only [Consts.sqrt_2]
  rfl

/-- The reference's norm. -/
theorem val (x : (⟨S4352x2048, .f32⟩ : BufTy).Contents (Elt Ideal)) (w : (⟨S2048x1024, .bf16⟩ : BufTy).Contents (Elt Ideal))
    (h : (⟨S4352x1024, .f32⟩ : BufTy).Contents (Elt Ideal)) (g b : (⟨S1x1024, .f32⟩ : BufTy).Contents (Elt Ideal)) :
    val_main_v25 (F := Ideal) x w h g b = layerRows (Ideal.ofBits .f32 0x44800000#32) (residual h (nn x w)) g b := by
  rw [← val_z]
  funext y
  obtain ⟨i, j, rfl⟩ : ∃ (i : Fin 4352) (j : Fin 1024), y = ix2 i j := ⟨y 0, y 1, by funext a; fin_cases a <;> rfl⟩
  pointwise [val_main_v25, val_main_v24, val_main_v23, val_main_v22, val_main_v21, val_main_v20, val_main_v19, val_main_v18, val_main_v17,
    val_main_v16, val_main_v15, val_main_v14, val_main_v13, val_main_v12, val_main_v11, val_main_v10, val_main_v9, val_main_v8,
    val_main_v7, val_main_v6, val_main_cst_0, val_main_cst_1, val_main_cst_2, val_main_cst_3, val_main_cst_4]
  rfl

end Cert.RefOutNormFwdIdeal.Read

namespace Cert.EvOutNormFwdIdeal

open Idealize.ShloMosaic Idealize.ShloMosaic.TcCoe Idealize.ShloMosaic.Tactic
open Gen Products Norms

theorem named : Named.named (F := Ideal) κ "alpha" (φ := .f32) 0x3FB504F3#32 = alpha :=
  IdealRules.named_const.ideal_named_scalar _ _ _ _ rfl

theorem res_at (x : Vec Ideal S544x1536 .f32) (w : Vec Ideal S1536x1024 .bf16) (h : Vec Ideal S544x1024 .f32) (i : Fin 544) (j : Fin 1024) :
    k0_pay1 x w h (ix2 i j) = alpha * h (ix2 i j) + ∑ k : Fin 1536, x (ix2 i k) * w (ix2 k j) := by
  pointwise [k0_pay1]
  rw [named]

theorem pay_at (x : Vec Ideal S544x1536 .f32) (w : Vec Ideal S1536x1024 .bf16) (h : Vec Ideal S544x1024 .f32)
    (g b : Vec Ideal S1x1024 .f32) (i : Fin 544) (j : Fin 1024) :
    k0_pay2 x w h g b (ix2 i j)
      = layer (Ideal.ofBits .f32 0x44800000#32) (fun k => k0_pay1 x w h (ix2 i k)) (fun k => g (ix2 0 k)) (fun k => b (ix2 0 k)) j := by
  pointwise [k0_pay2]
  rfl

variable (m : (ℓ : Loc nD τ sig) → Buf (Elt Ideal) ℓ) (c : Dev nD) (t : Fin cfg0.N)

theorem points : cfg0.N = 8 := by decide +kernel

theorem idx0 : ∀ t : Fin cfg0.N, win0_0.index t = ![(t : ℕ), 0] := by decide +kernel
theorem idx1 : ∀ t : Fin cfg0.N, win0_1.index t = ![0, 0] := by decide +kernel
theorem idx2 : ∀ t : Fin cfg0.N, win0_2.index t = ![(t : ℕ), 0] := by decide +kernel
theorem idx3 : ∀ t : Fin cfg0.N, win0_3.index t = ![0, 0] := by decide +kernel
theorem idx4 : ∀ t : Fin cfg0.N, win0_4.index t = ![0, 0] := by decide +kernel
theorem idx5 : ∀ t : Fin cfg0.N, win0_5.index t = ![(t : ℕ), 0] := by decide +kernel
theorem idx6 : ∀ t : Fin cfg0.N, win0_6.index t = ![(t : ℕ), 0] := by decide +kernel

/-- The row of the arrays that a block's row is. -/
def row (i : Fin 544) : Fin 4352 := ⟨t.1 * 544 + i.1, by have := t.2; have := points; omega⟩

theorem blk0 (i : Fin 544) (k : Fin 1536) : iblk m c 0 t (ix2 i k) = m (c.tc.loc main_arg0) (ix2 (row t i) k) := by
  blk_ext [iblk, V_main_arg0, idx0 t, row]

theorem blk1 (k : Fin 1536) (j : Fin 1024) : iblk m c 1 t (ix2 k j) = m (c.tc.loc main_arg1) (ix2 k j) := by
  blk_ext [iblk, V_main_arg1, idx1 t]

theorem blk2 (i : Fin 544) (j : Fin 1024) : iblk m c 2 t (ix2 i j) = m (c.tc.loc main_arg2) (ix2 (row t i) j) := by
  blk_ext [iblk, V_main_arg2, idx2 t, row]

theorem blk3 (j : Fin 1024) : iblk m c 3 t (ix2 0 j) = m (c.tc.loc main_arg3) (ix2 0 j) := by
  blk_ext [iblk, V_main_arg3, idx3 t]

theorem blk4 (j : Fin 1024) : iblk m c 4 t (ix2 0 j) = m (c.tc.loc main_arg4) (ix2 0 j) := by
  blk_ext [iblk, V_main_arg4, idx4 t]

/-- What is normalised, as an array. -/
def Z : S4352x1024.Idx → EReal := residual (m (c.tc.loc main_arg2)) (nn (m (c.tc.loc main_arg0)) (m (c.tc.loc main_arg1)))

/-- The norm as an array. -/
def G : S4352x1024.Idx → EReal := layerRows (Ideal.ofBits .f32 0x44800000#32) (Z m c) (m (c.tc.loc main_arg3)) (m (c.tc.loc main_arg4))

theorem res_block (i : Fin 544) (j : Fin 1024) :
    k0_pay1 (iblk m c 0 t) (iblk m c 1 t) (iblk m c 2 t) (ix2 i j) = Z m c (ix2 (row t i) j) :=
  (res_at _ _ _ i j).trans (congrArg₂ (fun a b : EReal => alpha * a + b) (blk2 m c t i j) (Finset.sum_congr rfl fun k _ =>
    congrArg₂ (fun a b : EReal => a * b) (blk0 m c t i k) (blk1 m c t k j)))

/-- What is normalised, after the run. -/
theorem final_z : (dats m 0 c).arrAt 6 cfg0.N = Z m c := by
  refine (dats m 0 c).arrAt_eq_of_covers 6 _ (by decide +kernel) fun t hf y => ?_
  obtain ⟨i, j, rfl⟩ : ∃ (i : Fin 544) (j : Fin 1024), y = ix2 i j := ⟨y 0, y 1, by funext a; fin_cases a <;> rfl⟩
  have e : (win0_6.blk t).view.emb (ix2 i j) = ix2 (row t i) j := by
    blk_ext [idx6 t, row]
  blk_simp
  rw [after0_6]
  frame_out
  exact (res_block m c t i j).trans (congrArg (Z m c) e.symm)

/-- The norm after the run. -/
theorem final : (dats m 0 c).arrAt 5 cfg0.N = G m c := by
  refine (dats m 0 c).arrAt_eq_of_covers 5 _ (by decide +kernel) fun t hf y => ?_
  obtain ⟨i, j, rfl⟩ : ∃ (i : Fin 544) (j : Fin 1024), y = ix2 i j := ⟨y 0, y 1, by funext a; fin_cases a <;> rfl⟩
  have e : (win0_5.blk t).view.emb (ix2 i j) = ix2 (row t i) j := by
    blk_ext [idx5 t, row]
  blk_simp
  rw [after0_5]
  frame_out
  refine (pay_at _ _ _ _ _ i j).trans (Eq.trans ?_ (congrArg (G m c) e.symm))
  exact layer_eq (res_block m c t i) (blk3 m c t) (blk4 m c t) j

end Cert.EvOutNormFwdIdeal

namespace Cert.RefEvOutNormFwdIdeal.Read

open Idealize.ShloMosaic Idealize.ShloMosaic.TcCoe Idealize.ShloMosaic.Tactic Products Norms

/-- What the reference normalises. -/
theorem val_z (x : (⟨S4352x1536, .f32⟩ : BufTy).Contents (Elt Ideal)) (w : (⟨S1536x1024, .bf16⟩ : BufTy).Contents (Elt Ideal))
    (h : (⟨S4352x1024, .f32⟩ : BufTy).Contents (Elt Ideal)) : val_main_v5 (F := Ideal) x w h = residual h (nn x w) := by
  funext y
  obtain ⟨i, j, rfl⟩ : ∃ (i : Fin 4352) (j : Fin 1024), y = ix2 i j := ⟨y 0, y 1, by funext a; fin_cases a <;> rfl⟩
  pointwise [val_main_v5, val_main_v4, val_main_v3, val_main_v2, val_main_v1, val_main_v0, val_main_cst]
  simp only [Consts.sqrt_2]
  rfl

/-- The reference's norm. -/
theorem val (x : (⟨S4352x1536, .f32⟩ : BufTy).Contents (Elt Ideal)) (w : (⟨S1536x1024, .bf16⟩ : BufTy).Contents (Elt Ideal))
    (h : (⟨S4352x1024, .f32⟩ : BufTy).Contents (Elt Ideal)) (g b : (⟨S1x1024, .f32⟩ : BufTy).Contents (Elt Ideal)) :
    val_main_v25 (F := Ideal) x w h g b = layerRows (Ideal.ofBits .f32 0x44800000#32) (residual h (nn x w)) g b := by
  rw [← val_z]
  funext y
  obtain ⟨i, j, rfl⟩ : ∃ (i : Fin 4352) (j : Fin 1024), y = ix2 i j := ⟨y 0, y 1, by funext a; fin_cases a <;> rfl⟩
  pointwise [val_main_v25, val_main_v24, val_main_v23, val_main_v22, val_main_v21, val_main_v20, val_main_v19, val_main_v18, val_main_v17,
    val_main_v16, val_main_v15, val_main_v14, val_main_v13, val_main_v12, val_main_v11, val_main_v10, val_main_v9, val_main_v8,
    val_main_v7, val_main_v6, val_main_cst_0, val_main_cst_1, val_main_cst_2, val_main_cst_3, val_main_cst_4]
  rfl

end Cert.RefEvOutNormFwdIdeal.Read
end
-- ==== Proof.UpFwd.lean ====
module

public import Idealize.ShloMosaic.Lib.Pipeline.ValueKit
public import Idealize.ShloMosaic.Lib.Pointwise
public import proofs.«01_k».proof.Proof.Products
public import proofs.«01_k».proof.Proof.Gen.EvInFwdIdeal.Value
public import proofs.«01_k».proof.Proof.Gen.RefEvInFwdIdeal.Read
public import proofs.«01_k».proof.Proof.Gen.UqFwdIdeal.Value
public import proofs.«01_k».proof.Proof.Gen.RefUqFwdIdeal.Read
public import proofs.«01_k».proof.Proof.Gen.UkvFwdIdeal.Value
public import proofs.«01_k».proof.Proof.Gen.RefUkvFwdIdeal.Read

/-! The even mixer's projections by whole weights, forward: what the kernels and the references compute. -/

@[expose] public section

set_option maxRecDepth 65536

noncomputable section

namespace Cert.EvInFwdIdeal

open Idealize.ShloMosaic Idealize.ShloMosaic.TcCoe Idealize.ShloMosaic.Tactic
open Gen

theorem pay_at (x : Vec Ideal S1088x1024 .f32) (w : Vec Ideal S1024x1440 .bf16) (i : Fin 1088) (j : Fin 1440) :
    k0_pay1 x w (ix2 i j) = ∑ k : Fin 1024, x (ix2 i k) * w (ix2 k j) := by
  pointwise [k0_pay1]

variable (m : (ℓ : Loc nD τ sig) → Buf (Elt Ideal) ℓ) (c : Dev nD) (t : Fin cfg0.N)

theorem points : cfg0.N = 4 := by decide +kernel

theorem idx0 : ∀ t : Fin cfg0.N, win0_0.index t = ![(t : ℕ), 0] := by decide +kernel
theorem idx1 : ∀ t : Fin cfg0.N, win0_1.index t = ![0, 0] := by decide +kernel
theorem idx2 : ∀ t : Fin cfg0.N, win0_2.index t = ![(t : ℕ), 0] := by decide +kernel

/-- The row of the arrays that a block's row is. -/
def row (i : Fin 1088) : Fin 4352 := ⟨t.1 * 1088 + i.1, by have := t.2; have := points; omega⟩

theorem blk0 (i : Fin 1088) (k : Fin 1024) : iblk m c 0 t (ix2 i k) = m (c.tc.loc main_arg0) (ix2 (row t i) k) := by
  blk_ext [iblk, V_main_arg0, idx0 t, row]

theorem blk1 (k : Fin 1024) (j : Fin 1440) : iblk m c 1 t (ix2 k j) = m (c.tc.loc main_arg1) (ix2 k j) := by
  blk_ext [iblk, V_main_arg1, idx1 t]

/-- The product as an array. -/
def G : S4352x1440.Idx → EReal := Products.nn (m (c.tc.loc main_arg0)) (m (c.tc.loc main_arg1))

/-- The product after the run. -/
theorem final : (dats m 0 c).arrAt 2 cfg0.N = G m c := by
  refine (dats m 0 c).arrAt_eq_of_covers 2 _ (by decide +kernel) fun t hf y => ?_
  obtain ⟨i, j, rfl⟩ : ∃ (i : Fin 1088) (j : Fin 1440), y = ix2 i j := ⟨y 0, y 1, by funext a; fin_cases a <;> rfl⟩
  have e : (win0_2.blk t).view.emb (ix2 i j) = ix2 (row t i) j := by
    blk_ext [idx2 t, row]
  blk_simp
  rw [after0_2]
  frame_out
  refine (pay_at _ _ i j).trans (Eq.trans ?_ (congrArg (G m c) e.symm))
  exact Finset.sum_congr rfl fun k _ => congrArg₂ (fun a b : EReal => a * b) (blk0 m c t i k) (blk1 m c t k j)

end Cert.EvInFwdIdeal

namespace Cert.RefEvInFwdIdeal.Read

open Idealize.ShloMosaic Idealize.ShloMosaic.TcCoe Idealize.ShloMosaic.Tactic

/-- The reference's result is that product. -/
theorem val (x : (⟨S4352x1024, .f32⟩ : BufTy).Contents (Elt Ideal)) (w : (⟨S1024x1440, .bf16⟩ : BufTy).Contents (Elt Ideal)) :
    val_main_v1 (F := Ideal) x w = Products.nn x w := by
  funext y
  obtain ⟨i, j, rfl⟩ : ∃ (i : Fin 4352) (j : Fin 1440), y = ix2 i j := ⟨y 0, y 1, by funext a; fin_cases a <;> rfl⟩
  pointwise [val_main_v1, val_main_v0]
  rfl

end Cert.RefEvInFwdIdeal.Read

namespace Cert.UqFwdIdeal

open Idealize.ShloMosaic Idealize.ShloMosaic.TcCoe Idealize.ShloMosaic.Tactic
open Gen

theorem pay_at (x : Vec Ideal S2176x256 .f32) (w : Vec Ideal S256x1024 .bf16) (i : Fin 2176) (j : Fin 1024) :
    k0_pay1 x w (ix2 i j) = ∑ k : Fin 256, x (ix2 i k) * w (ix2 k j) := by
  pointwise [k0_pay1]

variable (m : (ℓ : Loc nD τ sig) → Buf (Elt Ideal) ℓ) (c : Dev nD) (t : Fin cfg0.N)

theorem points : cfg0.N = 2 := by decide +kernel

theorem idx0 : ∀ t : Fin cfg0.N, win0_0.index t = ![(t : ℕ), 0] := by decide +kernel
theorem idx1 : ∀ t : Fin cfg0.N, win0_1.index t = ![0, 0] := by decide +kernel
theorem idx2 : ∀ t : Fin cfg0.N, win0_2.index t = ![(t : ℕ), 0] := by decide +kernel

/-- The row of the arrays that a block's row is. -/
def row (i : Fin 2176) : Fin 4352 := ⟨t.1 * 2176 + i.1, by have := t.2; have := points; omega⟩

theorem blk0 (i : Fin 2176) (k : Fin 256) : iblk m c 0 t (ix2 i k) = m (c.tc.loc main_arg0) (ix2 (row t i) k) := by
  blk_ext [iblk, V_main_arg0, idx0 t, row]

theorem blk1 (k : Fin 256) (j : Fin 1024) : iblk m c 1 t (ix2 k j) = m (c.tc.loc main_arg1) (ix2 k j) := by
  blk_ext [iblk, V_main_arg1, idx1 t]

/-- The product as an array. -/
def G : S4352x1024.Idx → EReal := Products.nn (m (c.tc.loc main_arg0)) (m (c.tc.loc main_arg1))

/-- The product after the run. -/
theorem final : (dats m 0 c).arrAt 2 cfg0.N = G m c := by
  refine (dats m 0 c).arrAt_eq_of_covers 2 _ (by decide +kernel) fun t hf y => ?_
  obtain ⟨i, j, rfl⟩ : ∃ (i : Fin 2176) (j : Fin 1024), y = ix2 i j := ⟨y 0, y 1, by funext a; fin_cases a <;> rfl⟩
  have e : (win0_2.blk t).view.emb (ix2 i j) = ix2 (row t i) j := by
    blk_ext [idx2 t, row]
  blk_simp
  rw [after0_2]
  frame_out
  refine (pay_at _ _ i j).trans (Eq.trans ?_ (congrArg (G m c) e.symm))
  exact Finset.sum_congr rfl fun k _ => congrArg₂ (fun a b : EReal => a * b) (blk0 m c t i k) (blk1 m c t k j)

end Cert.UqFwdIdeal

namespace Cert.RefUqFwdIdeal.Read

open Idealize.ShloMosaic Idealize.ShloMosaic.TcCoe Idealize.ShloMosaic.Tactic

/-- The reference's result is that product. -/
theorem val (x : (⟨S4352x256, .f32⟩ : BufTy).Contents (Elt Ideal)) (w : (⟨S256x1024, .bf16⟩ : BufTy).Contents (Elt Ideal)) :
    val_main_v2 (F := Ideal) x w = Products.nn x w := by
  funext y
  obtain ⟨i, j, rfl⟩ : ∃ (i : Fin 4352) (j : Fin 1024), y = ix2 i j := ⟨y 0, y 1, by funext a; fin_cases a <;> rfl⟩
  pointwise [val_main_v2, val_main_v1, val_main_v0]
  rfl

end Cert.RefUqFwdIdeal.Read

namespace Cert.UkvFwdIdeal

open Idealize.ShloMosaic Idealize.ShloMosaic.TcCoe Idealize.ShloMosaic.Tactic
open Gen

theorem pay_at (x : Vec Ideal S2176x128 .f32) (w : Vec Ideal S128x1024 .bf16) (i : Fin 2176) (j : Fin 1024) :
    k0_pay1 x w (ix2 i j) = ∑ k : Fin 128, x (ix2 i k) * w (ix2 k j) := by
  pointwise [k0_pay1]

variable (m : (ℓ : Loc nD τ sig) → Buf (Elt Ideal) ℓ) (c : Dev nD) (t : Fin cfg0.N)

theorem points : cfg0.N = 2 := by decide +kernel

theorem idx0 : ∀ t : Fin cfg0.N, win0_0.index t = ![(t : ℕ), 0] := by decide +kernel
theorem idx1 : ∀ t : Fin cfg0.N, win0_1.index t = ![0, 0] := by decide +kernel
theorem idx2 : ∀ t : Fin cfg0.N, win0_2.index t = ![(t : ℕ), 0] := by decide +kernel

/-- The row of the arrays that a block's row is. -/
def row (i : Fin 2176) : Fin 4352 := ⟨t.1 * 2176 + i.1, by have := t.2; have := points; omega⟩

theorem blk0 (i : Fin 2176) (k : Fin 128) : iblk m c 0 t (ix2 i k) = m (c.tc.loc main_arg0) (ix2 (row t i) k) := by
  blk_ext [iblk, V_main_arg0, idx0 t, row]

theorem blk1 (k : Fin 128) (j : Fin 1024) : iblk m c 1 t (ix2 k j) = m (c.tc.loc main_arg1) (ix2 k j) := by
  blk_ext [iblk, V_main_arg1, idx1 t]

/-- The product as an array. -/
def G : S4352x1024.Idx → EReal := Products.nn (m (c.tc.loc main_arg0)) (m (c.tc.loc main_arg1))

/-- The product after the run. -/
theorem final : (dats m 0 c).arrAt 2 cfg0.N = G m c := by
  refine (dats m 0 c).arrAt_eq_of_covers 2 _ (by decide +kernel) fun t hf y => ?_
  obtain ⟨i, j, rfl⟩ : ∃ (i : Fin 2176) (j : Fin 1024), y = ix2 i j := ⟨y 0, y 1, by funext a; fin_cases a <;> rfl⟩
  have e : (win0_2.blk t).view.emb (ix2 i j) = ix2 (row t i) j := by
    blk_ext [idx2 t, row]
  blk_simp
  rw [after0_2]
  frame_out
  refine (pay_at _ _ i j).trans (Eq.trans ?_ (congrArg (G m c) e.symm))
  exact Finset.sum_congr rfl fun k _ => congrArg₂ (fun a b : EReal => a * b) (blk0 m c t i k) (blk1 m c t k j)

end Cert.UkvFwdIdeal

namespace Cert.RefUkvFwdIdeal.Read

open Idealize.ShloMosaic Idealize.ShloMosaic.TcCoe Idealize.ShloMosaic.Tactic

/-- The reference's result is that product. -/
theorem val (x : (⟨S4352x128, .f32⟩ : BufTy).Contents (Elt Ideal)) (w : (⟨S128x1024, .bf16⟩ : BufTy).Contents (Elt Ideal)) :
    val_main_v2 (F := Ideal) x w = Products.nn x w := by
  funext y
  obtain ⟨i, j, rfl⟩ : ∃ (i : Fin 4352) (j : Fin 1024), y = ix2 i j := ⟨y 0, y 1, by funext a; fin_cases a <;> rfl⟩
  pointwise [val_main_v2, val_main_v1, val_main_v0]
  rfl

end Cert.RefUkvFwdIdeal.Read
end
-- ==== Proof.RetFwdRef.lean ====
module

public import proofs.«01_k».proof.Proof.Gen.RefRetFwdIdeal.Read
public import proofs.«01_k».proof.Proof.Spec

/-! Retention's output as a closed sum, and the forward reference's value at an index. -/

@[expose] public section

set_option maxRecDepth 65536

noncomputable section

namespace Cert.Ret

variable (p : Fin 2 → Fin 2176 → Fin 6144 → EReal) (b : Fin 2) (h : Fin 4)

/-- The decayed score of two of the 2176 rows. -/
def score (i j : Fin 2176) : EReal := (∑ d, rq p b h i d * (rk p b h j d * ksc)) * dec h i.1 j.1

/-- The head's output of row `i`. -/
def out (i : Fin 2176) (c : Fin 512) : EReal := ∑ j, vv p b h j c * score p b h i j

end Cert.Ret

namespace Cert.RefRetFwdIdeal.Read

open Idealize.ShloMosaic Idealize.ShloMosaic.TcCoe Idealize.ShloMosaic.Tactic Cert.Ret

variable (x0 : (⟨S2x2176x6144, .bf16⟩ : BufTy).Contents (Elt Ideal))

/-- The argument by its coordinates. -/
def pOf (b : Fin 2) (i : Fin 2176) (n : Fin 6144) : EReal := x0 (ix3 b i n)

theorem sitofp_num (n : ℕ) (h : n < 2176) : (FloatOps.sitofp (F := Ideal) FTy.f32 (BitVec.ofNat 32 n) : EReal) = num n := word_num h

/-- The queries by heads. -/
theorem at_v8 (b : Fin 2) (i : Fin 2176) (h : Fin 4) (d : Fin 256) :
    val_main_v8 (F := Ideal) x0 (ix4 b i h d) = pOf x0 b i ⟨h.1 * 256 + d.1, by omega⟩ := by
  pointwise [val_main_v8, val_main_v4, val_main_v0]
  rfl

/-- The keys by heads. -/
theorem at_v38 (b : Fin 2) (i : Fin 2176) (h : Fin 4) (d : Fin 256) :
    val_main_v38 (F := Ideal) x0 (ix4 b i h d) = pOf x0 b i ⟨1024 + (h.1 * 256 + d.1), by omega⟩ := by
  pointwise [val_main_v38, val_main_v5, val_main_v1]
  rfl

/-- The values by heads. -/
theorem at_v70 (b : Fin 2) (i : Fin 2176) (h : Fin 4) (d : Fin 512) :
    val_main_v70 (F := Ideal) x0 (ix4 b i h d) = vv (pOf x0) b h i d := by
  pointwise [val_main_v70, val_main_v6, val_main_v2]
  rfl

theorem at_v21 (i : Fin 2176) (d : Fin 128) : val_main_v21 (F := Ideal) (ix2 i d) = co i.1 d := by
  pointwise [val_main_v7, val_main_v9, val_main_v10, val_main_v11, val_main_v12, val_main_v13, val_main_v14, val_main_v15, val_main_v16, val_main_v17, val_main_v18, val_main_v19, val_main_v20, val_main_v21, val_main_cst, val_main_cst_0]
  rw [sitofp_num _ (by omega), sitofp_num _ (by omega)]
  rfl

theorem at_v23 (i : Fin 2176) (d : Fin 128) : val_main_v23 (F := Ideal) (ix2 i d) = si i.1 d := by
  pointwise [val_main_v7, val_main_v9, val_main_v10, val_main_v11, val_main_v12, val_main_v13, val_main_v14, val_main_v15, val_main_v16, val_main_v17, val_main_v18, val_main_v19, val_main_v20, val_main_v23, val_main_cst, val_main_cst_0]
  rw [sitofp_num _ (by omega), sitofp_num _ (by omega)]
  rfl

theorem at_v51 (i : Fin 2176) (d : Fin 128) : val_main_v51 (F := Ideal) (ix2 i d) = co i.1 d := by
  pointwise [val_main_v7, val_main_v39, val_main_v40, val_main_v41, val_main_v42, val_main_v43, val_main_v44, val_main_v45, val_main_v46, val_main_v47, val_main_v48, val_main_v49, val_main_v50, val_main_v51, val_main_cst_1, val_main_cst_2]
  rw [sitofp_num _ (by omega), sitofp_num _ (by omega)]
  rfl

theorem at_v53 (i : Fin 2176) (d : Fin 128) : val_main_v53 (F := Ideal) (ix2 i d) = si i.1 d := by
  pointwise [val_main_v7, val_main_v39, val_main_v40, val_main_v41, val_main_v42, val_main_v43, val_main_v44, val_main_v45, val_main_v46, val_main_v47, val_main_v48, val_main_v49, val_main_v50, val_main_v53, val_main_cst_1, val_main_cst_2]
  rw [sitofp_num _ (by omega), sitofp_num _ (by omega)]
  rfl

theorem at_v37 (b : Fin 2) (i : Fin 2176) (h : Fin 4) (d : Fin 256) :
    val_main_v37 (F := Ideal) x0 (ix4 b i h d) = rq (pOf x0) b h i d := by
  pointwise [val_main_v25, val_main_v26, val_main_v27, val_main_v28, val_main_v29, val_main_v30, val_main_v31, val_main_v32, val_main_v33, val_main_v34, val_main_v35, val_main_v36, val_main_v37, val_main_v24, val_main_v22]
  simp only [at_v8, at_v21, at_v23]
  rfl

theorem at_v67 (b : Fin 2) (i : Fin 2176) (h : Fin 4) (d : Fin 256) :
    val_main_v67 (F := Ideal) x0 (ix4 b i h d) = rk (pOf x0) b h i d := by
  pointwise [val_main_v55, val_main_v56, val_main_v57, val_main_v58, val_main_v59, val_main_v60, val_main_v61, val_main_v62, val_main_v63, val_main_v64, val_main_v65, val_main_v66, val_main_v67, val_main_v54, val_main_v52]
  simp only [at_v38, at_v51, at_v53]
  rfl

theorem at_v69 (b : Fin 2) (i : Fin 2176) (h : Fin 4) (d : Fin 256) :
    val_main_v69 (F := Ideal) x0 (ix4 b i h d) = rk (pOf x0) b h i d * ksc := by
  pointwise [val_main_v69, val_main_v68, val_main_cst_3]
  rw [at_v67]
  rfl

theorem at_v78 (h : Fin 4) : val_main_v78 (F := Ideal) (ix1 h) = lgm h.1 := by
  pointwise [val_main_v71, val_main_v72, val_main_v73, val_main_v74, val_main_v75, val_main_v76, val_main_v77, val_main_v78, val_main_cst_4, val_main_cst_5, val_main_cst_6]
  rw [sitofp_num _ (by omega)]
  rfl

theorem at_v84 (i j : Fin 2176) : val_main_v84 (F := Ideal) (ix2 i j) = num i.1 - num j.1 := by
  pointwise [val_main_v79, val_main_v80, val_main_v81, val_main_v82, val_main_v83, val_main_v84]
  rw [sitofp_num _ (by omega), sitofp_num _ (by omega)]

theorem at_v86 (i j : Fin 2176) : val_main_v86 (F := Ideal) (ix2 i j) = BitVec.ofBool (decide (j.1 ≤ i.1)) := by
  pointwise [val_main_v86, val_main_v85, val_main_cst_7]
  rw [at_v84]
  congr 2
  simp only [num]
  rw [← EReal.coe_sub, EReal.coe_nonneg, sub_nonneg, Nat.cast_le]

theorem at_v97 (i j : Fin 2176) (h : Fin 4) : val_main_v97 (F := Ideal) (ix4 0 h i j) = dec h i.1 j.1 := by
  pointwise [val_main_v87, val_main_v88, val_main_v89, val_main_v90, val_main_v91, val_main_v92, val_main_v93, val_main_v94, val_main_v95, val_main_v97, val_main_call0_v0, val_main_call0_v1, val_main_call0_v2, val_main_cst_9, val_main_cst_8]
  rw [at_v86, at_v78, at_v84]
  unfold dec
  by_cases hij : j.1 ≤ i.1
  · rw [if_pos hij, decide_eq_true hij]
    show Ideal.exp _ = _
    simp only [num]
    rw [← EReal.coe_sub, max_eq_left (EReal.coe_nonneg.mpr (sub_nonneg.mpr (Nat.cast_le.mpr hij))), Nat.cast_sub hij]
  · rw [if_neg hij, decide_eq_false hij]
    show Ideal.ofBits .f32 0#32 = 0
    exact Ideal.ofBits_zero_f32

theorem at_v98 (b : Fin 2) (i j : Fin 2176) (h : Fin 4) : val_main_v98 (F := Ideal) (ix4 b h i j) = dec h i.1 j.1 := by
  pointwise [val_main_v98]
  exact at_v97 i j h

/-- The decayed scores. -/
theorem at_v99 (b : Fin 2) (i j : Fin 2176) (h : Fin 4) :
    val_main_v99 (F := Ideal) x0 (ix4 b h i j) = score (pOf x0) b h i j := by
  pointwise [val_main_v99, val_main_v96]
  simp only [at_v37, at_v69, at_v98]
  rfl

/-- The result: the heads' outputs side by side. -/
theorem at_v102 (b : Fin 2) (i : Fin 2176) (n : Fin 2048) : val_main_v102 (F := Ideal) x0 (ix3 b i n)
    = out (pOf x0) b ⟨n.1 / 512, by omega⟩ i ⟨n.1 % 512, by omega⟩ := by
  pointwise [val_main_v102, val_main_v101, val_main_v100]
  simp only [at_v70, at_v99]
  rfl

/-- The result as an array. -/
theorem val : val_main_v102 (F := Ideal) x0 = fun i => out (pOf x0) (i 0)
    ⟨(i 2).1 / 512, by have : (i 2).1 < 2048 := (i 2).2; omega⟩ (i 1) ⟨(i 2).1 % 512, by omega⟩ := by
  funext i
  obtain ⟨b, r, n, rfl⟩ : ∃ (b : Fin 2) (r : Fin 2176) (n : Fin 2048), i = ix3 b r n := ⟨i 0, i 1, i 2, by funext a; fin_cases a <;> rfl⟩
  exact at_v102 x0 b r n

end Cert.RefRetFwdIdeal.Read

end
-- ==== Proof.RetFwd.lean ====
module

public import proofs.«01_k».proof.Proof.Equation
public import proofs.«01_k».proof.Proof.RetFwdRef
public import Idealize.ShloMosaic.Lib.Pipeline.ValueKit
public import Idealize.ShloMosaic.Lib.StableHlo.ReadAt
public import proofs.«01_k».proof.Proof.Gen.RetFwdIdeal.Value

/-! The retention forward kernel: what its query blocks store, and the array after its run, as the closed sum. -/

@[expose] public section

set_option maxRecDepth 65536

noncomputable section

namespace Cert.RetFwdIdeal

open Idealize.ShloMosaic Idealize.ShloMosaic.TcCoe Idealize.ShloMosaic.Tactic Cert.Ret
open Cert.KernelIdeal (sel_le mask_one mask_sum up_of_zero sum_up up)
open Gen

/-- What lists of stores of whole rows of the one matrix hold at an index. -/
theorem canon_slab {N W o n : ℕ} {e : EltTy} (h) (w : (⟨3, ![1, n, W]⟩ : Shape).Idx → Elt Ideal e)
    (L : List (View.Piece (Elt Ideal) (⟨3, ![1, N, W]⟩ : Shape) e)) (i : Fin N) (c : Fin W) :
    View.canon ((⟨Rect.unit (s := (⟨3, ![1, N, W]⟩ : Shape)) ![0, o, 0] ![1, n, W] h, w⟩ : View.Piece (Elt Ideal) (⟨3, ![1, N, W]⟩ : Shape) e) :: L) (ix3 0 i c)
      = if hi : o ≤ i.1 ∧ i.1 < o + n then w (ix3 0 ⟨i.1 - o, by omega⟩ c) else View.canon L (ix3 0 i c) := by
  by_cases hi : o ≤ i.1 ∧ i.1 < o + n
  · rw [dif_pos hi]
    have e : (Rect.unit (s := (⟨3, ![1, N, W]⟩ : Shape)) ![0, o, 0] ![1, n, W] h).emb (ix3 0 (⟨i.1 - o, by omega⟩ : Fin n) c)
        = (ix3 0 i c : (⟨3, ![1, N, W]⟩ : Shape).Idx) := by
      funext a
      apply Fin.ext
      rw [Rect.emb_apply]
      refine Fin.cases ?_ (fun b => ?_) a
      · rfl
      · refine Fin.cases ?_ (fun b => ?_) b
        · show o + 1 * (i.1 - o) = i.1
          omega
        · obtain rfl : b = 0 := Subsingleton.elim _ _
          show 0 + 1 * c.1 = c.1
          omega
    rw [← e]
    exact View.canon_cons_emb (Rect.unit (s := (⟨3, ![1, N, W]⟩ : Shape)) ![0, o, 0] ![1, n, W] h) w L _
  · rw [dif_neg hi]
    refine View.canon_cons_of_not_mem _ _ fun hm => hi ?_
    exact (Rect.mem_set_unit (inb := h)).mp hm 1

section lists

variable (Q K : Vec Ideal S2176x256 .bf16) (v : Vec Ideal S1x2176x512 .bf16)

/-- The score of two rows, unmasked. -/
def s0 (i j : Fin 2176) : EReal := ∑ d : Fin 256, Q (ix2 i d) * K (ix2 j d)

/-- The score of two rows, zero where the key is later than the query. -/
def s (i j : Fin 2176) : EReal := if j ≤ i then s0 Q K i j else 0

theorem s_zero {i j : Fin 2176} (h : i < j) : s Q K i j = 0 := if_neg (not_le.mpr h)

/-- What query block 1 stores. -/
def po1 : Vec Ideal S1x128x512 .f32 :=
  k0_pay12 (View.ld Q (Rect.unit (s := S2176x256) ![0, 0] S128x256.size inb_S2176x256_S128x256_0_0)) (View.ld K (Rect.unit (s := S2176x256) ![0, 0] S128x256.size inb_S2176x256_S128x256_0_0)) (View.ld v (Rect.unit (s := S1x2176x512) ![0, 0, 0] S1x128x512.size inb_S1x2176x512_S1x128x512_0_0_0))

/-- The stores up to query block 1, last first. -/
def lo1 : List (View.Piece (Elt Ideal) S1x2176x512 .f32) := ⟨(Rect.unit (s := S1x2176x512) ![0, 0, 0] S1x128x512.size inb_S1x2176x512_S1x128x512_0_0_0), po1 Q K v⟩ :: []

/-- Query block 1's store at an index. -/
theorem po1_at (i : Fin 128) (c : Fin 512) : po1 Q K v (ix3 0 i c)
    = ∑ j : Fin 128, s Q K ⟨i.1, by omega⟩ ⟨j.1, by omega⟩ * v (ix3 0 ⟨j.1, by omega⟩ c) := by
  unfold po1
  pointwise [k0_pay12]
  exact Finset.sum_congr rfl fun j _ => mask_one i.2 j.2 (s0 Q K ⟨i.1, by have := i.2; omega⟩) _

/-- What query block 2 stores. -/
def po2 : Vec Ideal S1x512x512 .f32 :=
  k0_pay17 (k0_pay13 (View.ld Q (Rect.unit (s := S2176x256) ![128, 0] S512x256.size inb_S2176x256_S512x256_128_0)) (View.ld K (Rect.unit (s := S2176x256) ![0, 0] S640x256.size inb_S2176x256_S640x256_0_0))) k0_pay14 (k0_pay15 (View.ld Q (Rect.unit (s := S2176x256) ![128, 0] S512x256.size inb_S2176x256_S512x256_128_0)) (View.ld K (Rect.unit (s := S2176x256) ![0, 0] S640x256.size inb_S2176x256_S640x256_0_0))) (k0_pay16 (F := Ideal)) (View.ld v (Rect.unit (s := S1x2176x512) ![0, 0, 0] S1x640x512.size inb_S1x2176x512_S1x640x512_0_0_0))

/-- The stores up to query block 2, last first. -/
def lo2 : List (View.Piece (Elt Ideal) S1x2176x512 .f32) := ⟨(Rect.unit (s := S1x2176x512) ![0, 128, 0] S1x512x512.size inb_S1x2176x512_S1x512x512_0_128_0), po2 Q K v⟩ :: lo1 Q K v

/-- Query block 2's store at an index. -/
theorem po2_at (i : Fin 512) (c : Fin 512) : po2 Q K v (ix3 0 i c)
    = ∑ j : Fin 640, s Q K ⟨128 + i.1, by omega⟩ ⟨j.1, by omega⟩ * v (ix3 0 ⟨j.1, by omega⟩ c) := by
  unfold po2
  pointwise [k0_pay17, k0_pay16, k0_pay15, k0_pay14, k0_pay13]
  exact mask_sum (r := 128) i.2 (by omega) (s0 Q K ⟨128 + i.1, by have := i.2; omega⟩) (fun j => v (ix3 0 j c))

/-- What query block 3 stores. -/
def po3 : Vec Ideal S1x512x512 .f32 :=
  k0_pay18 (View.ld Q (Rect.unit (s := S2176x256) ![640, 0] S512x256.size inb_S2176x256_S512x256_640_0)) (View.ld K (Rect.unit (s := S2176x256) ![0, 0] S1152x256.size inb_S2176x256_S1152x256_0_0)) (View.ld v (Rect.unit (s := S1x2176x512) ![0, 0, 0] S1x1152x512.size inb_S1x2176x512_S1x1152x512_0_0_0))

/-- The stores up to query block 3, last first. -/
def lo3 : List (View.Piece (Elt Ideal) S1x2176x512 .f32) := ⟨(Rect.unit (s := S1x2176x512) ![0, 640, 0] S1x512x512.size inb_S1x2176x512_S1x512x512_0_640_0), po3 Q K v⟩ :: lo2 Q K v

/-- Query block 3's store at an index. -/
theorem po3_at (i : Fin 512) (c : Fin 512) : po3 Q K v (ix3 0 i c)
    = ∑ j : Fin 1152, s Q K ⟨640 + i.1, by omega⟩ ⟨j.1, by omega⟩ * v (ix3 0 ⟨j.1, by omega⟩ c) := by
  unfold po3
  pointwise [k0_pay18]
  exact mask_sum (r := 640) i.2 (by omega) (s0 Q K ⟨640 + i.1, by have := i.2; omega⟩) (fun j => v (ix3 0 j c))

/-- What query block 4 stores. -/
def po4 : Vec Ideal S1x512x512 .f32 :=
  k0_pay1 (k0_pay19 (View.ld Q (Rect.unit (s := S2176x256) ![1152, 0] S512x256.size inb_S2176x256_S512x256_1152_0)) (View.ld K (Rect.unit (s := S2176x256) ![0, 0] S1664x256.size inb_S2176x256_S1664x256_0_0))) (iota .tc S512x512 32 [0] iota_S512x512_d0_w32) (iota .tc S512x512 32 [1] iota_S512x512_d1_w32) (View.ld v (Rect.unit (s := S1x2176x512) ![0, 0, 0] S1x1664x512.size inb_S1x2176x512_S1x1664x512_0_0_0))

/-- The stores up to query block 4, last first. -/
def lo4 : List (View.Piece (Elt Ideal) S1x2176x512 .f32) := ⟨(Rect.unit (s := S1x2176x512) ![0, 1152, 0] S1x512x512.size inb_S1x2176x512_S1x512x512_0_1152_0), po4 Q K v⟩ :: lo3 Q K v

/-- Query block 4's store at an index. -/
theorem po4_at (i : Fin 512) (c : Fin 512) : po4 Q K v (ix3 0 i c)
    = ∑ j : Fin 1664, s Q K ⟨1152 + i.1, by omega⟩ ⟨j.1, by omega⟩ * v (ix3 0 ⟨j.1, by omega⟩ c) := by
  unfold po4
  pointwise [k0_pay1, k0_pay19]
  exact mask_sum (r := 1152) i.2 (by omega) (s0 Q K ⟨1152 + i.1, by have := i.2; omega⟩) (fun j => v (ix3 0 j c))

/-- What query block 5 stores. -/
def po5 : Vec Ideal S1x512x512 .f32 :=
  k0_pay2 (View.ld Q (Rect.unit (s := S2176x256) ![1664, 0] S512x256.size inb_S2176x256_S512x256_1664_0)) K v

/-- The stores up to query block 5, last first. -/
def lo5 : List (View.Piece (Elt Ideal) S1x2176x512 .f32) := ⟨(Rect.unit (s := S1x2176x512) ![0, 1664, 0] S1x512x512.size inb_S1x2176x512_S1x512x512_0_1664_0), po5 Q K v⟩ :: lo4 Q K v

/-- Query block 5's store at an index. -/
theorem po5_at (i : Fin 512) (c : Fin 512) : po5 Q K v (ix3 0 i c)
    = ∑ j : Fin 2176, s Q K ⟨1664 + i.1, by omega⟩ ⟨j.1, by omega⟩ * v (ix3 0 ⟨j.1, by omega⟩ c) := by
  unfold po5
  pointwise [k0_pay2]
  exact mask_sum (r := 1664) i.2 (by omega) (s0 Q K ⟨1664 + i.1, by have := i.2; omega⟩) (fun j => v (ix3 0 j c))

/-- A sum over a block's keys is the sum over all keys, those later than the query adding zeros. -/
theorem all_keys {L : ℕ} (hL : L ≤ 2176) {i : Fin 2176} (hi : i.1 < L) (c : Fin 512) :
    (∑ j : Fin L, s Q K i ⟨j.1, by omega⟩ * v (ix3 0 ⟨j.1, by omega⟩ c)) = ∑ j, s Q K i j * v (ix3 0 j c) := by
  refine (sum_up hL (fun j => s Q K i j * v (ix3 0 j c))).trans (up_of_zero hL _ fun j hj => ?_)
  rw [s_zero Q K (show i.1 < j.1 by omega), zero_mul]

/-- All the stores at an index. -/
theorem lo_at (i : Fin 2176) (c : Fin 512) : View.canon (lo5 Q K v) (ix3 0 i c) = ∑ j, s Q K i j * v (ix3 0 j c) := by
  unfold lo5
  rw [canon_slab]
  by_cases h5 : 1664 ≤ i.1 ∧ i.1 < 1664 + 512
  · rw [dif_pos h5, po5_at]
    have e : 1664 + (i.1 - 1664) = i.1 := by omega
    simp only [e]
  rw [dif_neg h5]
  unfold lo4
  rw [canon_slab]
  by_cases h4 : 1152 ≤ i.1 ∧ i.1 < 1152 + 512
  · rw [dif_pos h4, po4_at]
    have e : 1152 + (i.1 - 1152) = i.1 := by omega
    simp only [e]
    exact all_keys Q K v (L := 1664) (i := i) (by omega) (by omega) c
  rw [dif_neg h4]
  unfold lo3
  rw [canon_slab]
  by_cases h3 : 640 ≤ i.1 ∧ i.1 < 640 + 512
  · rw [dif_pos h3, po3_at]
    have e : 640 + (i.1 - 640) = i.1 := by omega
    simp only [e]
    exact all_keys Q K v (L := 1152) (i := i) (by omega) (by omega) c
  rw [dif_neg h3]
  unfold lo2
  rw [canon_slab]
  by_cases h2 : 128 ≤ i.1 ∧ i.1 < 128 + 512
  · rw [dif_pos h2, po2_at]
    have e : 128 + (i.1 - 128) = i.1 := by omega
    simp only [e]
    exact all_keys Q K v (L := 640) (i := i) (by omega) (by omega) c
  rw [dif_neg h2]
  unfold lo1
  rw [canon_slab]
  by_cases h1 : 0 ≤ i.1 ∧ i.1 < 0 + 128
  · rw [dif_pos h1, po1_at]
    have e : i.1 - 0 = i.1 := by omega
    simp only [e]
    exact all_keys Q K v (L := 128) (i := i) (by omega) (by omega) c
  rw [dif_neg h1]
  exact absurd i.2 (by omega)

end lists

/-- The scaled rotated queries, as the kernel keeps them. -/
def qs (q : Vec Ideal S1x2176x256 .bf16) (co si : Vec Ideal S2176x128 .f32) (lg : Vec Ideal S1x1x1 .f32) : Vec Ideal S2176x256 .bf16 :=
  k0_pay10 (k0_pay8 co si lg q)

/-- The scaled rotated keys, as the kernel keeps them. -/
def ks (k : Vec Ideal S1x2176x256 .bf16) (co si : Vec Ideal S2176x128 .f32) (lg : Vec Ideal S1x1x1 .f32) : Vec Ideal S2176x256 .bf16 :=
  k0_pay11 (k0_pay7 lg) (k0_pay9 co si k) (Scalar.ofBits .f32 0x3D800000#32)

section pays

variable (co si : Vec Ideal S2176x128 .f32) (lg : Vec Ideal S1x1x1 .f32)

theorem sitofp_num (n : ℕ) (h : n < 2176) : (FloatOps.sitofp (F := Ideal) FTy.f32 (BitVec.ofNat 32 n) : EReal) = num n := word_num h

/-- The scaled queries at an index. -/
theorem qs_at (q : Vec Ideal S1x2176x256 .bf16) (i : Fin 2176) (d : Fin 256) : qs q co si lg (ix2 i d)
    = rope (fun e => q (ix3 0 i e)) (fun e => co (ix2 i e)) (fun e => si (ix2 i e)) d * Ideal.exp (lg (ix3 0 0 0) * num i.1) := by
  pointwise [qs, k0_pay10, k0_pay8, k0_pay6, k0_pay5, k0_pay4, k0_pay3]
  rw [sitofp_num _ i.2]
  rfl

/-- The scaled keys at an index. -/
theorem ks_at (k : Vec Ideal S1x2176x256 .bf16) (i : Fin 2176) (d : Fin 256) : ks k co si lg (ix2 i d)
    = rope (fun e => k (ix3 0 i e)) (fun e => co (ix2 i e)) (fun e => si (ix2 i e)) d
      * (Ideal.exp ((0 - lg (ix3 0 0 0)) * num i.1) * ksc) := by
  pointwise [ks, k0_pay11, k0_pay9, k0_pay7, k0_pay6, k0_pay5, k0_pay4, k0_pay3]
  rw [sitofp_num _ i.2]
  rfl

end pays

/-- A load of what a list of stores left reads the list's last writers. -/
theorem rd {κ : Kind} {sp : Space} {s : Shape} {e : EltTy} (V : View sig κ sp s e) (L : List (View.Piece (Elt Ideal) s e)) (r : Rect s) :
    V.readCov L r.toLoadRect = View.ld (View.canon L) r := View.readCov_eq_canon' _ _ _

theorem canon_one (h) (w : S2176x256.Idx → Elt Ideal .bf16) :
    View.canon [(⟨Rect.unit (s := S2176x256) ![0, 0] ![2176, 256] h, w⟩ : View.Piece (Elt Ideal) S2176x256 .bf16)] = w :=
  View.canon_unit_zero (by funext a; fin_cases a <;> rfl) _ _
theorem ldm256 {e : EltTy} (h) (X : S2176x256.Idx → Elt Ideal e) : View.ld X (Rect.unit (s := S2176x256) ![0, 0] ![2176, 256] h) = X :=
  View.ld_unit_zero (by funext a; fin_cases a <;> rfl) _ _
theorem ldm128 {e : EltTy} (h) (X : S2176x128.Idx → Elt Ideal e) : View.ld X (Rect.unit (s := S2176x128) ![0, 0] ![2176, 128] h) = X :=
  View.ld_unit_zero (by funext a; fin_cases a <;> rfl) _ _
theorem ldq {e : EltTy} (h) (X : S1x2176x256.Idx → Elt Ideal e) : View.ld X (Rect.unit (s := S1x2176x256) ![0, 0, 0] ![1, 2176, 256] h) = X :=
  View.ld_unit_zero (by funext a; fin_cases a <;> rfl) _ _
theorem ldv {e : EltTy} (h) (X : S1x2176x512.Idx → Elt Ideal e) : View.ld X (Rect.unit (s := S1x2176x512) ![0, 0, 0] ![1, 2176, 512] h) = X :=
  View.ld_unit_zero (by funext a; fin_cases a <;> rfl) _ _
theorem ldg {e : EltTy} (h) (X : S1x1x1.Idx → Elt Ideal e) : View.ld X (Rect.unit (s := S1x1x1) ![0, 0, 0] ![1, 1, 1] h) = X :=
  View.ld_unit_zero (by funext a; fin_cases a <;> rfl) _ _

variable (m : (ℓ : Loc nD τ sig) → Buf (Elt Ideal) ℓ) (c : Dev nD) (t : Fin cfg0.N)

/-- The scaled queries of a grid point. -/
abbrev Qt : Vec Ideal S2176x256 .bf16 := qs (iblk m c 0 t) (iblk m c 3 t) (iblk m c 4 t) (iblk m c 5 t)

/-- The scaled keys of a grid point. -/
abbrev Kt : Vec Ideal S2176x256 .bf16 := ks (iblk m c 1 t) (iblk m c 3 t) (iblk m c 4 t) (iblk m c 5 t)

/-- What a grid point stores. -/
theorem out6_eq : outsAt0 m c t = View.canon (lo5 (Qt m c t) (Kt m c t) (iblk m c 2 t)) := by
  unfold outsAt0 out0_A_6
  dsimp only
  rw [View.read_writes_eq_canon _ _ _ (cover0_A_6 c _ _ _ _ _ _ _ _ _ _ _ _ _ _ _ _ _ _ _ _ _ _ _ _ _ )]
  unfold kernelRun0_A
  dsimp only
  sl_unfold_words
  simp only [rd, View.readAt_eq_ld, (hs0_0 t).read_unread, (hs0_1 t).read_unread, (hs0_2 t).read_unread,
    (hs0_3 t).read_unread, (hs0_4 t).read_unread, (hs0_5 t).read_unread]
  simp only [qs, ks, lo5, lo4, lo3, lo2, lo1, po1, po2, po3, po4, po5, canon_one, ldm256, ldm128, ldq, ldv, ldg]

/-- The argument by its coordinates. -/
def pM (b : Fin 2) (i : Fin 2176) (n : Fin 6144) : EReal := m (c.tc.loc main_arg0) (ix3 b i n)

theorem points : cfg0.N = 8 := by decide +kernel

/-- The batch of a grid point. -/
def bt : Fin 2 := ⟨t.1 / 4, by have := t.2; have := points; omega⟩

/-- The head of a grid point. -/
def ht : Fin 4 := ⟨t.1 % 4, by omega⟩

/-- The cosine table. -/
theorem tab_co (i : Fin 2176) (d : Fin 128) : V m c main_v13 (ix2 i d) = co i.1 d := by
  unfold V hostOps0
  after_reads_at
  rw [sitofp_num _ i.2, sitofp_num _ (show d.1 < 2176 by omega)]
  rfl

/-- The sine table. -/
theorem tab_si (i : Fin 2176) (d : Fin 128) : V m c main_v14 (ix2 i d) = si i.1 d := by
  unfold V hostOps0
  after_reads_at
  rw [sitofp_num _ i.2, sitofp_num _ (show d.1 < 2176 by omega)]
  rfl

/-- The heads' logarithms of their decays. -/
theorem tab_lg (h : Fin 4) : V m c main_v23 (ix3 h 0 0) = lgm h.1 := by
  unfold V hostOps0
  after_reads_at
  rw [sitofp_num _ (show h.1 < 2176 by omega)]
  rfl

theorem idx0 : ∀ t : Fin cfg0.N, win0_0.index t = ![(t : ℕ) / 4, 0, (t : ℕ) % 4] := by decide +kernel
theorem idx1 : ∀ t : Fin cfg0.N, win0_1.index t = ![(t : ℕ) / 4, 0, 4 + (t : ℕ) % 4] := by decide +kernel
theorem idx2 : ∀ t : Fin cfg0.N, win0_2.index t = ![(t : ℕ) / 4, 0, 4 + (t : ℕ) % 4] := by decide +kernel
theorem idx3 : ∀ t : Fin cfg0.N, win0_3.index t = ![0, 0] := by decide +kernel
theorem idx4 : ∀ t : Fin cfg0.N, win0_4.index t = ![0, 0] := by decide +kernel
theorem idx5 : ∀ t : Fin cfg0.N, win0_5.index t = ![(t : ℕ) % 4, 0, 0] := by decide +kernel
theorem idx6 : ∀ t : Fin cfg0.N, win0_6.index t = ![(t : ℕ) / 4, 0, (t : ℕ) % 4] := by decide +kernel

theorem blk0 (i : Fin 2176) (e : Fin 256) :
    iblk m c 0 t (ix3 0 i e) = pM m c (bt t) i ⟨(ht t).1 * 256 + e.1, by have := (ht t).2; omega⟩ := by
  unfold pM
  blk_ext [iblk, V_main_arg0, idx0 t, bt, ht]

theorem blk1 (i : Fin 2176) (e : Fin 256) :
    iblk m c 1 t (ix3 0 i e) = pM m c (bt t) i ⟨1024 + ((ht t).1 * 256 + e.1), by have := (ht t).2; omega⟩ := by
  unfold pM
  blk_ext [iblk, V_main_arg0, idx1 t, bt, ht]

theorem blk2 (i : Fin 2176) (e : Fin 512) : iblk m c 2 t (ix3 0 i e) = vv (pM m c) (bt t) (ht t) i e := by
  show _ = pM m c (bt t) i ⟨2048 + ((ht t).1 * 512 + e.1), by have := (ht t).2; omega⟩
  unfold pM
  blk_ext [iblk, V_main_arg0, idx2 t, bt, ht]

theorem blk3 (i : Fin 2176) (e : Fin 128) : iblk m c 3 t (ix2 i e) = co i.1 e :=
  Eq.trans (by blk_ext [iblk, idx3 t]) (tab_co m c i e)

theorem blk4 (i : Fin 2176) (e : Fin 128) : iblk m c 4 t (ix2 i e) = si i.1 e :=
  Eq.trans (by blk_ext [iblk, idx4 t]) (tab_si m c i e)

theorem blk5 : iblk m c 5 t (ix3 0 0 0) = lgm (ht t).1 :=
  Eq.trans (by blk_ext [iblk, idx5 t, ht]) (tab_lg m c (ht t))

theorem rope_congr {x x' : Fin 256 → EReal} {u u' w w' : Fin 128 → EReal} (hx : ∀ e, x e = x' e) (hu : ∀ e, u e = u' e)
    (hw : ∀ e, w e = w' e) (d : Fin 256) : rope x u w d = rope x' u' w' d := by
  rw [funext hx, funext hu, funext hw]

theorem at_q (i : Fin 2176) (d : Fin 256) :
    Qt m c t (ix2 i d) = rq (pM m c) (bt t) (ht t) i d * Ideal.exp (lgm (ht t).1 * num i.1) := by
  rw [Qt, qs_at, blk5]
  exact congrArg (· * _) (rope_congr (blk0 m c t i) (blk3 m c t i) (blk4 m c t i) d)

theorem at_k (j : Fin 2176) (d : Fin 256) : Kt m c t (ix2 j d)
    = rk (pM m c) (bt t) (ht t) j d * (Ideal.exp ((0 - lgm (ht t).1) * num j.1) * ksc) := by
  rw [Kt, ks_at, blk5]
  exact congrArg (· * _) (rope_congr (blk1 m c t j) (blk3 m c t j) (blk4 m c t j) d)

/-- The score of the scaled operands is the decayed score. -/
theorem at_s (i j : Fin 2176) : s (Qt m c t) (Kt m c t) i j = score (pM m c) (bt t) (ht t) i j := by
  obtain ⟨u, w, h0, hu, hw, huw⟩ := exp_pair (ht t)
  unfold s s0 score
  by_cases hij : j.1 ≤ i.1
  · rw [if_pos (show j ≤ i from hij), ← huw i.1 j.1 hij, ← EReal.coe_mul, sum_mul_real _ (mul_nonneg (h0 _).1 (h0 _).2)]
    refine Finset.sum_congr rfl fun d _ => ?_
    rw [at_q, at_k, hu, hw, EReal.coe_mul]
    ac_rfl
  · rw [if_neg (show ¬ j ≤ i from hij), dec, if_neg hij, mul_zero]

/-- What a grid point writes. -/
theorem point6 (i : Fin 2176) (d : Fin 512) : outsAt0 m c t (ix3 0 i d) = out (pM m c) (bt t) (ht t) i d := by
  rw [out6_eq, lo_at]
  refine Finset.sum_congr rfl fun j _ => ?_
  rw [at_s, blk2, mul_comm]

/-- Retention's output as an array. -/
def G : S2x2176x2048.Idx → EReal := fun x =>
  out (pM m c) ⟨(x 0).1, (x 0).2⟩ ⟨(x 2).1 / 512, by have : (x 2).1 < 2048 := (x 2).2; omega⟩ ⟨(x 1).1, (x 1).2⟩ ⟨(x 2).1 % 512, by omega⟩

/-- Retention's output after the run. -/
theorem final : (dats m 0 c).arrAt 6 cfg0.N = G m c := by
  refine (dats m 0 c).arrAt_eq_of_covers 6 _ (by decide +kernel) fun t hf y => ?_
  obtain ⟨z, i, d, rfl⟩ : ∃ (z : Fin 1) (i : Fin 2176) (d : Fin 512), y = ix3 z i d := ⟨y 0, y 1, y 2, by funext a; fin_cases a <;> rfl⟩
  obtain rfl : z = 0 := Subsingleton.elim _ _
  have e : (win0_6.blk t).view.emb (ix3 0 i d) = ix3 (bt t) i ⟨(ht t).1 * 512 + d.1, by have := (ht t).2; omega⟩ := by
    blk_ext [idx6 t, bt, ht]
  blk_simp
  rw [after0_6]
  refine (point6 m c t i d).trans ?_
  refine Eq.trans ?_ (congrArg (G m c) e.symm)
  have e1 : ((ht t).1 * 512 + d.1) / 512 = (ht t).1 := by omega
  have e2 : ((ht t).1 * 512 + d.1) % 512 = d.1 := by omega
  unfold G
  show _ = out (pM m c) (bt t) ⟨((ht t).1 * 512 + d.1) / 512, _⟩ i ⟨((ht t).1 * 512 + d.1) % 512, _⟩
  simp only [e1, e2]

end Cert.RetFwdIdeal

end
-- ==== Proof.Values.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Gen.W2Dx
public import proofs.«01_k».proof.Proof.Gen.W2Dx.Skeleton
public import proofs.«01_k».proof.Proof.Gen.W2Dx.Launch
public import proofs.«01_k».proof.Proof.Gen.W2Dx.Points
public import proofs.«01_k».proof.Proof.Gen.W2Dx.Frame
public import proofs.«01_k».proof.Proof.Gen.W2DxIdeal
public import proofs.«01_k».proof.Proof.Gen.W2DxIdeal.Skeleton
public import proofs.«01_k».proof.Proof.Gen.W2DxIdeal.Launch
public import proofs.«01_k».proof.Proof.Gen.W2DxIdeal.Points
public import proofs.«01_k».proof.Proof.Gen.W2DxIdeal.Frame
public import proofs.«01_k».proof.Proof.Gen.W2DxIdeal.Value
public import proofs.«01_k».proof.Proof.Gen.RefW2DxIdeal
public import proofs.«01_k».proof.Proof.Gen.RefW2DxIdeal.Run
public import proofs.«01_k».proof.Proof.Gen.RefW2DxIdeal.Read
public import proofs.«01_k».proof.Proof.Gen.W2Dw
public import proofs.«01_k».proof.Proof.Gen.W2Dw.Skeleton
public import proofs.«01_k».proof.Proof.Gen.W2Dw.Launch
public import proofs.«01_k».proof.Proof.Gen.W2Dw.Points
public import proofs.«01_k».proof.Proof.Gen.W2Dw.Frame
public import proofs.«01_k».proof.Proof.Gen.W2DwIdeal
public import proofs.«01_k».proof.Proof.Gen.W2DwIdeal.Skeleton
public import proofs.«01_k».proof.Proof.Gen.W2DwIdeal.Launch
public import proofs.«01_k».proof.Proof.Gen.W2DwIdeal.Points
public import proofs.«01_k».proof.Proof.Gen.W2DwIdeal.Frame
public import proofs.«01_k».proof.Proof.Gen.W2DwIdeal.Value
public import proofs.«01_k».proof.Proof.Gen.RefW2DwIdeal
public import proofs.«01_k».proof.Proof.Gen.RefW2DwIdeal.Run
public import proofs.«01_k».proof.Proof.Gen.RefW2DwIdeal.Read
public import proofs.«01_k».proof.Proof.Gen.W1Dx
public import proofs.«01_k».proof.Proof.Gen.W1Dx.Skeleton
public import proofs.«01_k».proof.Proof.Gen.W1Dx.Launch
public import proofs.«01_k».proof.Proof.Gen.W1Dx.Points
public import proofs.«01_k».proof.Proof.Gen.W1Dx.Frame
public import proofs.«01_k».proof.Proof.Gen.W1DxIdeal
public import proofs.«01_k».proof.Proof.Gen.W1DxIdeal.Skeleton
public import proofs.«01_k».proof.Proof.Gen.W1DxIdeal.Launch
public import proofs.«01_k».proof.Proof.Gen.W1DxIdeal.Points
public import proofs.«01_k».proof.Proof.Gen.W1DxIdeal.Frame
public import proofs.«01_k».proof.Proof.Gen.W1DxIdeal.Value
public import proofs.«01_k».proof.Proof.Gen.RefW1DxIdeal
public import proofs.«01_k».proof.Proof.Gen.RefW1DxIdeal.Run
public import proofs.«01_k».proof.Proof.Gen.RefW1DxIdeal.Read
public import proofs.«01_k».proof.Proof.Gen.W1Dw
public import proofs.«01_k».proof.Proof.Gen.W1Dw.Skeleton
public import proofs.«01_k».proof.Proof.Gen.W1Dw.Launch
public import proofs.«01_k».proof.Proof.Gen.W1Dw.Points
public import proofs.«01_k».proof.Proof.Gen.W1Dw.Frame
public import proofs.«01_k».proof.Proof.Gen.W1DwIdeal
public import proofs.«01_k».proof.Proof.Gen.W1DwIdeal.Skeleton
public import proofs.«01_k».proof.Proof.Gen.W1DwIdeal.Launch
public import proofs.«01_k».proof.Proof.Gen.W1DwIdeal.Points
public import proofs.«01_k».proof.Proof.Gen.W1DwIdeal.Frame
public import proofs.«01_k».proof.Proof.Gen.W1DwIdeal.Value
public import proofs.«01_k».proof.Proof.Gen.RefW1DwIdeal
public import proofs.«01_k».proof.Proof.Gen.RefW1DwIdeal.Run
public import proofs.«01_k».proof.Proof.Gen.RefW1DwIdeal.Read
public import proofs.«01_k».proof.Proof.Gen.InDx
public import proofs.«01_k».proof.Proof.Gen.InDx.Skeleton
public import proofs.«01_k».proof.Proof.Gen.InDx.Launch
public import proofs.«01_k».proof.Proof.Gen.InDx.Points
public import proofs.«01_k».proof.Proof.Gen.InDx.Frame
public import proofs.«01_k».proof.Proof.Gen.InDxIdeal
public import proofs.«01_k».proof.Proof.Gen.InDxIdeal.Skeleton
public import proofs.«01_k».proof.Proof.Gen.InDxIdeal.Launch
public import proofs.«01_k».proof.Proof.Gen.InDxIdeal.Points
public import proofs.«01_k».proof.Proof.Gen.InDxIdeal.Frame
public import proofs.«01_k».proof.Proof.Gen.InDxIdeal.Value
public import proofs.«01_k».proof.Proof.Gen.RefInDxIdeal
public import proofs.«01_k».proof.Proof.Gen.RefInDxIdeal.Run
public import proofs.«01_k».proof.Proof.Gen.RefInDxIdeal.Read
public import proofs.«01_k».proof.Proof.Gen.InDw
public import proofs.«01_k».proof.Proof.Gen.InDw.Skeleton
public import proofs.«01_k».proof.Proof.Gen.InDw.Launch
public import proofs.«01_k».proof.Proof.Gen.InDw.Points
public import proofs.«01_k».proof.Proof.Gen.InDw.Frame
public import proofs.«01_k».proof.Proof.Gen.InDwIdeal
public import proofs.«01_k».proof.Proof.Gen.InDwIdeal.Skeleton
public import proofs.«01_k».proof.Proof.Gen.InDwIdeal.Launch
public import proofs.«01_k».proof.Proof.Gen.InDwIdeal.Points
public import proofs.«01_k».proof.Proof.Gen.InDwIdeal.Frame
public import proofs.«01_k».proof.Proof.Gen.InDwIdeal.Value
public import proofs.«01_k».proof.Proof.Gen.RefInDwIdeal
public import proofs.«01_k».proof.Proof.Gen.RefInDwIdeal.Run
public import proofs.«01_k».proof.Proof.Gen.RefInDwIdeal.Read
public import proofs.«01_k».proof.Proof.Gen.OutDx
public import proofs.«01_k».proof.Proof.Gen.OutDx.Skeleton
public import proofs.«01_k».proof.Proof.Gen.OutDx.Launch
public import proofs.«01_k».proof.Proof.Gen.OutDx.Points
public import proofs.«01_k».proof.Proof.Gen.OutDx.Frame
public import proofs.«01_k».proof.Proof.Gen.OutDxIdeal
public import proofs.«01_k».proof.Proof.Gen.OutDxIdeal.Skeleton
public import proofs.«01_k».proof.Proof.Gen.OutDxIdeal.Launch
public import proofs.«01_k».proof.Proof.Gen.OutDxIdeal.Points
public import proofs.«01_k».proof.Proof.Gen.OutDxIdeal.Frame
public import proofs.«01_k».proof.Proof.Gen.OutDxIdeal.Value
public import proofs.«01_k».proof.Proof.Gen.RefOutDxIdeal
public import proofs.«01_k».proof.Proof.Gen.RefOutDxIdeal.Run
public import proofs.«01_k».proof.Proof.Gen.RefOutDxIdeal.Read
public import proofs.«01_k».proof.Proof.Gen.OutDw
public import proofs.«01_k».proof.Proof.Gen.OutDw.Skeleton
public import proofs.«01_k».proof.Proof.Gen.OutDw.Launch
public import proofs.«01_k».proof.Proof.Gen.OutDw.Points
public import proofs.«01_k».proof.Proof.Gen.OutDw.Frame
public import proofs.«01_k».proof.Proof.Gen.OutDwIdeal
public import proofs.«01_k».proof.Proof.Gen.OutDwIdeal.Skeleton
public import proofs.«01_k».proof.Proof.Gen.OutDwIdeal.Launch
public import proofs.«01_k».proof.Proof.Gen.OutDwIdeal.Points
public import proofs.«01_k».proof.Proof.Gen.OutDwIdeal.Frame
public import proofs.«01_k».proof.Proof.Gen.OutDwIdeal.Value
public import proofs.«01_k».proof.Proof.Gen.RefOutDwIdeal
public import proofs.«01_k».proof.Proof.Gen.RefOutDwIdeal.Run
public import proofs.«01_k».proof.Proof.Gen.RefOutDwIdeal.Read
public import proofs.«01_k».proof.Proof.Gen.NormBwd
public import proofs.«01_k».proof.Proof.Gen.NormBwd.Skeleton
public import proofs.«01_k».proof.Proof.Gen.NormBwd.Launch
public import proofs.«01_k».proof.Proof.Gen.NormBwd.Points
public import proofs.«01_k».proof.Proof.Gen.NormBwd.Frame
public import proofs.«01_k».proof.Proof.Gen.NormBwdIdeal
public import proofs.«01_k».proof.Proof.Gen.NormBwdIdeal.Skeleton
public import proofs.«01_k».proof.Proof.Gen.NormBwdIdeal.Launch
public import proofs.«01_k».proof.Proof.Gen.NormBwdIdeal.Points
public import proofs.«01_k».proof.Proof.Gen.NormBwdIdeal.Frame
public import proofs.«01_k».proof.Proof.Gen.NormBwdIdeal.Value
public import proofs.«01_k».proof.Proof.Gen.RefNormBwdIdeal
public import proofs.«01_k».proof.Proof.Gen.RefNormBwdIdeal.Run
public import proofs.«01_k».proof.Proof.Gen.RefNormBwdIdeal.Read
public import proofs.«01_k».proof.Proof.Gen.GateBwd
public import proofs.«01_k».proof.Proof.Gen.GateBwd.Skeleton
public import proofs.«01_k».proof.Proof.Gen.GateBwd.Launch
public import proofs.«01_k».proof.Proof.Gen.GateBwd.Points
public import proofs.«01_k».proof.Proof.Gen.GateBwd.Frame
public import proofs.«01_k».proof.Proof.Gen.GateBwdIdeal
public import proofs.«01_k».proof.Proof.Gen.GateBwdIdeal.Skeleton
public import proofs.«01_k».proof.Proof.Gen.GateBwdIdeal.Launch
public import proofs.«01_k».proof.Proof.Gen.GateBwdIdeal.Points
public import proofs.«01_k».proof.Proof.Gen.GateBwdIdeal.Frame
public import proofs.«01_k».proof.Proof.Gen.GateBwdIdeal.Value
public import proofs.«01_k».proof.Proof.Gen.RefGateBwdIdeal
public import proofs.«01_k».proof.Proof.Gen.RefGateBwdIdeal.Run
public import proofs.«01_k».proof.Proof.Gen.RefGateBwdIdeal.Read
public import proofs.«01_k».proof.Proof.Gen.QNormBwd
public import proofs.«01_k».proof.Proof.Gen.QNormBwd.Skeleton
public import proofs.«01_k».proof.Proof.Gen.QNormBwd.Launch
public import proofs.«01_k».proof.Proof.Gen.QNormBwd.Points
public import proofs.«01_k».proof.Proof.Gen.QNormBwd.Frame
public import proofs.«01_k».proof.Proof.Gen.QNormBwdIdeal
public import proofs.«01_k».proof.Proof.Gen.QNormBwdIdeal.Skeleton
public import proofs.«01_k».proof.Proof.Gen.QNormBwdIdeal.Launch
public import proofs.«01_k».proof.Proof.Gen.QNormBwdIdeal.Points
public import proofs.«01_k».proof.Proof.Gen.QNormBwdIdeal.Frame
public import proofs.«01_k».proof.Proof.Gen.QNormBwdIdeal.Value
public import proofs.«01_k».proof.Proof.Gen.RefQNormBwdIdeal
public import proofs.«01_k».proof.Proof.Gen.RefQNormBwdIdeal.Run
public import proofs.«01_k».proof.Proof.Gen.RefQNormBwdIdeal.Read
public import proofs.«01_k».proof.Proof.Gen.KvNormBwd
public import proofs.«01_k».proof.Proof.Gen.KvNormBwd.Skeleton
public import proofs.«01_k».proof.Proof.Gen.KvNormBwd.Launch
public import proofs.«01_k».proof.Proof.Gen.KvNormBwd.Points
public import proofs.«01_k».proof.Proof.Gen.KvNormBwd.Frame
public import proofs.«01_k».proof.Proof.Gen.KvNormBwdIdeal
public import proofs.«01_k».proof.Proof.Gen.KvNormBwdIdeal.Skeleton
public import proofs.«01_k».proof.Proof.Gen.KvNormBwdIdeal.Launch
public import proofs.«01_k».proof.Proof.Gen.KvNormBwdIdeal.Points
public import proofs.«01_k».proof.Proof.Gen.KvNormBwdIdeal.Frame
public import proofs.«01_k».proof.Proof.Gen.KvNormBwdIdeal.Value
public import proofs.«01_k».proof.Proof.Gen.RefKvNormBwdIdeal
public import proofs.«01_k».proof.Proof.Gen.RefKvNormBwdIdeal.Run
public import proofs.«01_k».proof.Proof.Gen.RefKvNormBwdIdeal.Read
public import proofs.«01_k».proof.Proof.Gen.EvInDx
public import proofs.«01_k».proof.Proof.Gen.EvInDx.Skeleton
public import proofs.«01_k».proof.Proof.Gen.EvInDx.Launch
public import proofs.«01_k».proof.Proof.Gen.EvInDx.Points
public import proofs.«01_k».proof.Proof.Gen.EvInDx.Frame
public import proofs.«01_k».proof.Proof.Gen.EvInDxIdeal
public import proofs.«01_k».proof.Proof.Gen.EvInDxIdeal.Skeleton
public import proofs.«01_k».proof.Proof.Gen.EvInDxIdeal.Launch
public import proofs.«01_k».proof.Proof.Gen.EvInDxIdeal.Points
public import proofs.«01_k».proof.Proof.Gen.EvInDxIdeal.Frame
public import proofs.«01_k».proof.Proof.Gen.EvInDxIdeal.Value
public import proofs.«01_k».proof.Proof.Gen.RefEvInDxIdeal
public import proofs.«01_k».proof.Proof.Gen.RefEvInDxIdeal.Run
public import proofs.«01_k».proof.Proof.Gen.RefEvInDxIdeal.Read
public import proofs.«01_k».proof.Proof.Gen.EvInDw
public import proofs.«01_k».proof.Proof.Gen.EvInDw.Skeleton
public import proofs.«01_k».proof.Proof.Gen.EvInDw.Launch
public import proofs.«01_k».proof.Proof.Gen.EvInDw.Points
public import proofs.«01_k».proof.Proof.Gen.EvInDw.Frame
public import proofs.«01_k».proof.Proof.Gen.EvInDwIdeal
public import proofs.«01_k».proof.Proof.Gen.EvInDwIdeal.Skeleton
public import proofs.«01_k».proof.Proof.Gen.EvInDwIdeal.Launch
public import proofs.«01_k».proof.Proof.Gen.EvInDwIdeal.Points
public import proofs.«01_k».proof.Proof.Gen.EvInDwIdeal.Frame
public import proofs.«01_k».proof.Proof.Gen.EvInDwIdeal.Value
public import proofs.«01_k».proof.Proof.Gen.RefEvInDwIdeal
public import proofs.«01_k».proof.Proof.Gen.RefEvInDwIdeal.Run
public import proofs.«01_k».proof.Proof.Gen.RefEvInDwIdeal.Read
public import proofs.«01_k».proof.Proof.Gen.UqDx
public import proofs.«01_k».proof.Proof.Gen.UqDx.Skeleton
public import proofs.«01_k».proof.Proof.Gen.UqDx.Launch
public import proofs.«01_k».proof.Proof.Gen.UqDx.Points
public import proofs.«01_k».proof.Proof.Gen.UqDx.Frame
public import proofs.«01_k».proof.Proof.Gen.UqDxIdeal
public import proofs.«01_k».proof.Proof.Gen.UqDxIdeal.Skeleton
public import proofs.«01_k».proof.Proof.Gen.UqDxIdeal.Launch
public import proofs.«01_k».proof.Proof.Gen.UqDxIdeal.Points
public import proofs.«01_k».proof.Proof.Gen.UqDxIdeal.Frame
public import proofs.«01_k».proof.Proof.Gen.UqDxIdeal.Value
public import proofs.«01_k».proof.Proof.Gen.RefUqDxIdeal
public import proofs.«01_k».proof.Proof.Gen.RefUqDxIdeal.Run
public import proofs.«01_k».proof.Proof.Gen.RefUqDxIdeal.Read
public import proofs.«01_k».proof.Proof.Gen.UqDw
public import proofs.«01_k».proof.Proof.Gen.UqDw.Skeleton
public import proofs.«01_k».proof.Proof.Gen.UqDw.Launch
public import proofs.«01_k».proof.Proof.Gen.UqDw.Points
public import proofs.«01_k».proof.Proof.Gen.UqDw.Frame
public import proofs.«01_k».proof.Proof.Gen.UqDwIdeal
public import proofs.«01_k».proof.Proof.Gen.UqDwIdeal.Skeleton
public import proofs.«01_k».proof.Proof.Gen.UqDwIdeal.Launch
public import proofs.«01_k».proof.Proof.Gen.UqDwIdeal.Points
public import proofs.«01_k».proof.Proof.Gen.UqDwIdeal.Frame
public import proofs.«01_k».proof.Proof.Gen.UqDwIdeal.Value
public import proofs.«01_k».proof.Proof.Gen.RefUqDwIdeal
public import proofs.«01_k».proof.Proof.Gen.RefUqDwIdeal.Run
public import proofs.«01_k».proof.Proof.Gen.RefUqDwIdeal.Read
public import proofs.«01_k».proof.Proof.Gen.UkvDx
public import proofs.«01_k».proof.Proof.Gen.UkvDx.Skeleton
public import proofs.«01_k».proof.Proof.Gen.UkvDx.Launch
public import proofs.«01_k».proof.Proof.Gen.UkvDx.Points
public import proofs.«01_k».proof.Proof.Gen.UkvDx.Frame
public import proofs.«01_k».proof.Proof.Gen.UkvDxIdeal
public import proofs.«01_k».proof.Proof.Gen.UkvDxIdeal.Skeleton
public import proofs.«01_k».proof.Proof.Gen.UkvDxIdeal.Launch
public import proofs.«01_k».proof.Proof.Gen.UkvDxIdeal.Points
public import proofs.«01_k».proof.Proof.Gen.UkvDxIdeal.Frame
public import proofs.«01_k».proof.Proof.Gen.UkvDxIdeal.Value
public import proofs.«01_k».proof.Proof.Gen.RefUkvDxIdeal
public import proofs.«01_k».proof.Proof.Gen.RefUkvDxIdeal.Run
public import proofs.«01_k».proof.Proof.Gen.RefUkvDxIdeal.Read
public import proofs.«01_k».proof.Proof.Gen.UkvDw
public import proofs.«01_k».proof.Proof.Gen.UkvDw.Skeleton
public import proofs.«01_k».proof.Proof.Gen.UkvDw.Launch
public import proofs.«01_k».proof.Proof.Gen.UkvDw.Points
public import proofs.«01_k».proof.Proof.Gen.UkvDw.Frame
public import proofs.«01_k».proof.Proof.Gen.UkvDwIdeal
public import proofs.«01_k».proof.Proof.Gen.UkvDwIdeal.Skeleton
public import proofs.«01_k».proof.Proof.Gen.UkvDwIdeal.Launch
public import proofs.«01_k».proof.Proof.Gen.UkvDwIdeal.Points
public import proofs.«01_k».proof.Proof.Gen.UkvDwIdeal.Frame
public import proofs.«01_k».proof.Proof.Gen.UkvDwIdeal.Value
public import proofs.«01_k».proof.Proof.Gen.RefUkvDwIdeal
public import proofs.«01_k».proof.Proof.Gen.RefUkvDwIdeal.Run
public import proofs.«01_k».proof.Proof.Gen.RefUkvDwIdeal.Read
public import proofs.«01_k».proof.Proof.Gen.EvOutDx
public import proofs.«01_k».proof.Proof.Gen.EvOutDx.Skeleton
public import proofs.«01_k».proof.Proof.Gen.EvOutDx.Launch
public import proofs.«01_k».proof.Proof.Gen.EvOutDx.Points
public import proofs.«01_k».proof.Proof.Gen.EvOutDx.Frame
public import proofs.«01_k».proof.Proof.Gen.EvOutDxIdeal
public import proofs.«01_k».proof.Proof.Gen.EvOutDxIdeal.Skeleton
public import proofs.«01_k».proof.Proof.Gen.EvOutDxIdeal.Launch
public import proofs.«01_k».proof.Proof.Gen.EvOutDxIdeal.Points
public import proofs.«01_k».proof.Proof.Gen.EvOutDxIdeal.Frame
public import proofs.«01_k».proof.Proof.Gen.EvOutDxIdeal.Value
public import proofs.«01_k».proof.Proof.Gen.RefEvOutDxIdeal
public import proofs.«01_k».proof.Proof.Gen.RefEvOutDxIdeal.Run
public import proofs.«01_k».proof.Proof.Gen.RefEvOutDxIdeal.Read
public import proofs.«01_k».proof.Proof.Gen.EvOutDw
public import proofs.«01_k».proof.Proof.Gen.EvOutDw.Skeleton
public import proofs.«01_k».proof.Proof.Gen.EvOutDw.Launch
public import proofs.«01_k».proof.Proof.Gen.EvOutDw.Points
public import proofs.«01_k».proof.Proof.Gen.EvOutDw.Frame
public import proofs.«01_k».proof.Proof.Gen.EvOutDwIdeal
public import proofs.«01_k».proof.Proof.Gen.EvOutDwIdeal.Skeleton
public import proofs.«01_k».proof.Proof.Gen.EvOutDwIdeal.Launch
public import proofs.«01_k».proof.Proof.Gen.EvOutDwIdeal.Points
public import proofs.«01_k».proof.Proof.Gen.EvOutDwIdeal.Frame
public import proofs.«01_k».proof.Proof.Gen.EvOutDwIdeal.Value
public import proofs.«01_k».proof.Proof.Gen.RefEvOutDwIdeal
public import proofs.«01_k».proof.Proof.Gen.RefEvOutDwIdeal.Run
public import proofs.«01_k».proof.Proof.Gen.RefEvOutDwIdeal.Read
public import proofs.«01_k».proof.Proof.Gen.W1Fwd
public import proofs.«01_k».proof.Proof.Gen.W1Fwd.Skeleton
public import proofs.«01_k».proof.Proof.Gen.W1Fwd.Launch
public import proofs.«01_k».proof.Proof.Gen.W1Fwd.Points
public import proofs.«01_k».proof.Proof.Gen.W1Fwd.Frame
public import proofs.«01_k».proof.Proof.Gen.W1FwdIdeal
public import proofs.«01_k».proof.Proof.Gen.W1FwdIdeal.Skeleton
public import proofs.«01_k».proof.Proof.Gen.W1FwdIdeal.Launch
public import proofs.«01_k».proof.Proof.Gen.W1FwdIdeal.Points
public import proofs.«01_k».proof.Proof.Gen.W1FwdIdeal.Frame
public import proofs.«01_k».proof.Proof.Gen.W1FwdIdeal.Value
public import proofs.«01_k».proof.Proof.Gen.RefW1FwdIdeal
public import proofs.«01_k».proof.Proof.Gen.RefW1FwdIdeal.Run
public import proofs.«01_k».proof.Proof.Gen.RefW1FwdIdeal.Read
public import proofs.«01_k».proof.Proof.Gen.W2NormFwd
public import proofs.«01_k».proof.Proof.Gen.W2NormFwd.Skeleton
public import proofs.«01_k».proof.Proof.Gen.W2NormFwd.Launch
public import proofs.«01_k».proof.Proof.Gen.W2NormFwd.Points
public import proofs.«01_k».proof.Proof.Gen.W2NormFwd.Frame
public import proofs.«01_k».proof.Proof.Gen.W2NormFwdIdeal
public import proofs.«01_k».proof.Proof.Gen.W2NormFwdIdeal.Skeleton
public import proofs.«01_k».proof.Proof.Gen.W2NormFwdIdeal.Launch
public import proofs.«01_k».proof.Proof.Gen.W2NormFwdIdeal.Points
public import proofs.«01_k».proof.Proof.Gen.W2NormFwdIdeal.Frame
public import proofs.«01_k».proof.Proof.Gen.W2NormFwdIdeal.Value
public import proofs.«01_k».proof.Proof.Gen.RefW2NormFwdIdeal
public import proofs.«01_k».proof.Proof.Gen.RefW2NormFwdIdeal.Run
public import proofs.«01_k».proof.Proof.Gen.RefW2NormFwdIdeal.Read
public import proofs.«01_k».proof.Proof.Gen.InFwd
public import proofs.«01_k».proof.Proof.Gen.InFwd.Skeleton
public import proofs.«01_k».proof.Proof.Gen.InFwd.Launch
public import proofs.«01_k».proof.Proof.Gen.InFwd.Points
public import proofs.«01_k».proof.Proof.Gen.InFwd.Frame
public import proofs.«01_k».proof.Proof.Gen.InFwdIdeal
public import proofs.«01_k».proof.Proof.Gen.InFwdIdeal.Skeleton
public import proofs.«01_k».proof.Proof.Gen.InFwdIdeal.Launch
public import proofs.«01_k».proof.Proof.Gen.InFwdIdeal.Points
public import proofs.«01_k».proof.Proof.Gen.InFwdIdeal.Frame
public import proofs.«01_k».proof.Proof.Gen.InFwdIdeal.Value
public import proofs.«01_k».proof.Proof.Gen.RefInFwdIdeal
public import proofs.«01_k».proof.Proof.Gen.RefInFwdIdeal.Run
public import proofs.«01_k».proof.Proof.Gen.RefInFwdIdeal.Read
public import proofs.«01_k».proof.Proof.Gen.OutNormFwd
public import proofs.«01_k».proof.Proof.Gen.OutNormFwd.Skeleton
public import proofs.«01_k».proof.Proof.Gen.OutNormFwd.Launch
public import proofs.«01_k».proof.Proof.Gen.OutNormFwd.Points
public import proofs.«01_k».proof.Proof.Gen.OutNormFwd.Frame
public import proofs.«01_k».proof.Proof.Gen.OutNormFwdIdeal
public import proofs.«01_k».proof.Proof.Gen.OutNormFwdIdeal.Skeleton
public import proofs.«01_k».proof.Proof.Gen.OutNormFwdIdeal.Launch
public import proofs.«01_k».proof.Proof.Gen.OutNormFwdIdeal.Points
public import proofs.«01_k».proof.Proof.Gen.OutNormFwdIdeal.Frame
public import proofs.«01_k».proof.Proof.Gen.OutNormFwdIdeal.Value
public import proofs.«01_k».proof.Proof.Gen.RefOutNormFwdIdeal
public import proofs.«01_k».proof.Proof.Gen.RefOutNormFwdIdeal.Run
public import proofs.«01_k».proof.Proof.Gen.RefOutNormFwdIdeal.Read
public import proofs.«01_k».proof.Proof.Gen.EvInFwd
public import proofs.«01_k».proof.Proof.Gen.EvInFwd.Skeleton
public import proofs.«01_k».proof.Proof.Gen.EvInFwd.Launch
public import proofs.«01_k».proof.Proof.Gen.EvInFwd.Points
public import proofs.«01_k».proof.Proof.Gen.EvInFwd.Frame
public import proofs.«01_k».proof.Proof.Gen.EvInFwdIdeal
public import proofs.«01_k».proof.Proof.Gen.EvInFwdIdeal.Skeleton
public import proofs.«01_k».proof.Proof.Gen.EvInFwdIdeal.Launch
public import proofs.«01_k».proof.Proof.Gen.EvInFwdIdeal.Points
public import proofs.«01_k».proof.Proof.Gen.EvInFwdIdeal.Frame
public import proofs.«01_k».proof.Proof.Gen.EvInFwdIdeal.Value
public import proofs.«01_k».proof.Proof.Gen.RefEvInFwdIdeal
public import proofs.«01_k».proof.Proof.Gen.RefEvInFwdIdeal.Run
public import proofs.«01_k».proof.Proof.Gen.RefEvInFwdIdeal.Read
public import proofs.«01_k».proof.Proof.Gen.UqFwd
public import proofs.«01_k».proof.Proof.Gen.UqFwd.Skeleton
public import proofs.«01_k».proof.Proof.Gen.UqFwd.Launch
public import proofs.«01_k».proof.Proof.Gen.UqFwd.Points
public import proofs.«01_k».proof.Proof.Gen.UqFwd.Frame
public import proofs.«01_k».proof.Proof.Gen.UqFwdIdeal
public import proofs.«01_k».proof.Proof.Gen.UqFwdIdeal.Skeleton
public import proofs.«01_k».proof.Proof.Gen.UqFwdIdeal.Launch
public import proofs.«01_k».proof.Proof.Gen.UqFwdIdeal.Points
public import proofs.«01_k».proof.Proof.Gen.UqFwdIdeal.Frame
public import proofs.«01_k».proof.Proof.Gen.UqFwdIdeal.Value
public import proofs.«01_k».proof.Proof.Gen.RefUqFwdIdeal
public import proofs.«01_k».proof.Proof.Gen.RefUqFwdIdeal.Run
public import proofs.«01_k».proof.Proof.Gen.RefUqFwdIdeal.Read
public import proofs.«01_k».proof.Proof.Gen.UkvFwd
public import proofs.«01_k».proof.Proof.Gen.UkvFwd.Skeleton
public import proofs.«01_k».proof.Proof.Gen.UkvFwd.Launch
public import proofs.«01_k».proof.Proof.Gen.UkvFwd.Points
public import proofs.«01_k».proof.Proof.Gen.UkvFwd.Frame
public import proofs.«01_k».proof.Proof.Gen.UkvFwdIdeal
public import proofs.«01_k».proof.Proof.Gen.UkvFwdIdeal.Skeleton
public import proofs.«01_k».proof.Proof.Gen.UkvFwdIdeal.Launch
public import proofs.«01_k».proof.Proof.Gen.UkvFwdIdeal.Points
public import proofs.«01_k».proof.Proof.Gen.UkvFwdIdeal.Frame
public import proofs.«01_k».proof.Proof.Gen.UkvFwdIdeal.Value
public import proofs.«01_k».proof.Proof.Gen.RefUkvFwdIdeal
public import proofs.«01_k».proof.Proof.Gen.RefUkvFwdIdeal.Run
public import proofs.«01_k».proof.Proof.Gen.RefUkvFwdIdeal.Read
public import proofs.«01_k».proof.Proof.Gen.EvOutNormFwd
public import proofs.«01_k».proof.Proof.Gen.EvOutNormFwd.Skeleton
public import proofs.«01_k».proof.Proof.Gen.EvOutNormFwd.Launch
public import proofs.«01_k».proof.Proof.Gen.EvOutNormFwd.Points
public import proofs.«01_k».proof.Proof.Gen.EvOutNormFwd.Frame
public import proofs.«01_k».proof.Proof.Gen.EvOutNormFwdIdeal
public import proofs.«01_k».proof.Proof.Gen.EvOutNormFwdIdeal.Skeleton
public import proofs.«01_k».proof.Proof.Gen.EvOutNormFwdIdeal.Launch
public import proofs.«01_k».proof.Proof.Gen.EvOutNormFwdIdeal.Points
public import proofs.«01_k».proof.Proof.Gen.EvOutNormFwdIdeal.Frame
public import proofs.«01_k».proof.Proof.Gen.EvOutNormFwdIdeal.Value
public import proofs.«01_k».proof.Proof.Gen.RefEvOutNormFwdIdeal
public import proofs.«01_k».proof.Proof.Gen.RefEvOutNormFwdIdeal.Run
public import proofs.«01_k».proof.Proof.Gen.RefEvOutNormFwdIdeal.Read
public import proofs.«01_k».proof.Proof.Gen.GateFwd
public import proofs.«01_k».proof.Proof.Gen.GateFwd.Skeleton
public import proofs.«01_k».proof.Proof.Gen.GateFwd.Launch
public import proofs.«01_k».proof.Proof.Gen.GateFwd.Points
public import proofs.«01_k».proof.Proof.Gen.GateFwd.Frame
public import proofs.«01_k».proof.Proof.Gen.GateFwdIdeal
public import proofs.«01_k».proof.Proof.Gen.GateFwdIdeal.Skeleton
public import proofs.«01_k».proof.Proof.Gen.GateFwdIdeal.Launch
public import proofs.«01_k».proof.Proof.Gen.GateFwdIdeal.Points
public import proofs.«01_k».proof.Proof.Gen.GateFwdIdeal.Frame
public import proofs.«01_k».proof.Proof.Gen.GateFwdIdeal.Value
public import proofs.«01_k».proof.Proof.Gen.RefGateFwdIdeal
public import proofs.«01_k».proof.Proof.Gen.RefGateFwdIdeal.Run
public import proofs.«01_k».proof.Proof.Gen.RefGateFwdIdeal.Read
public import proofs.«01_k».proof.Proof.Gen.QNormFwd
public import proofs.«01_k».proof.Proof.Gen.QNormFwd.Skeleton
public import proofs.«01_k».proof.Proof.Gen.QNormFwd.Launch
public import proofs.«01_k».proof.Proof.Gen.QNormFwd.Points
public import proofs.«01_k».proof.Proof.Gen.QNormFwd.Frame
public import proofs.«01_k».proof.Proof.Gen.QNormFwdIdeal
public import proofs.«01_k».proof.Proof.Gen.QNormFwdIdeal.Skeleton
public import proofs.«01_k».proof.Proof.Gen.QNormFwdIdeal.Launch
public import proofs.«01_k».proof.Proof.Gen.QNormFwdIdeal.Points
public import proofs.«01_k».proof.Proof.Gen.QNormFwdIdeal.Frame
public import proofs.«01_k».proof.Proof.Gen.QNormFwdIdeal.Value
public import proofs.«01_k».proof.Proof.Gen.RefQNormFwdIdeal
public import proofs.«01_k».proof.Proof.Gen.RefQNormFwdIdeal.Run
public import proofs.«01_k».proof.Proof.Gen.RefQNormFwdIdeal.Read
public import proofs.«01_k».proof.Proof.Gen.KvNormFwd
public import proofs.«01_k».proof.Proof.Gen.KvNormFwd.Skeleton
public import proofs.«01_k».proof.Proof.Gen.KvNormFwd.Launch
public import proofs.«01_k».proof.Proof.Gen.KvNormFwd.Points
public import proofs.«01_k».proof.Proof.Gen.KvNormFwd.Frame
public import proofs.«01_k».proof.Proof.Gen.KvNormFwdIdeal
public import proofs.«01_k».proof.Proof.Gen.KvNormFwdIdeal.Skeleton
public import proofs.«01_k».proof.Proof.Gen.KvNormFwdIdeal.Launch
public import proofs.«01_k».proof.Proof.Gen.KvNormFwdIdeal.Points
public import proofs.«01_k».proof.Proof.Gen.KvNormFwdIdeal.Frame
public import proofs.«01_k».proof.Proof.Gen.KvNormFwdIdeal.Value
public import proofs.«01_k».proof.Proof.Gen.RefKvNormFwdIdeal
public import proofs.«01_k».proof.Proof.Gen.RefKvNormFwdIdeal.Run
public import proofs.«01_k».proof.Proof.Gen.RefKvNormFwdIdeal.Read
public import proofs.«01_k».proof.Proof.Gen.RetFwd
public import proofs.«01_k».proof.Proof.Gen.RetFwd.Skeleton
public import proofs.«01_k».proof.Proof.Gen.RetFwd.Launch
public import proofs.«01_k».proof.Proof.Gen.RetFwd.Points
public import proofs.«01_k».proof.Proof.Gen.RetFwd.Frame
public import proofs.«01_k».proof.Proof.Gen.RetFwdIdeal
public import proofs.«01_k».proof.Proof.Gen.RetFwdIdeal.Skeleton
public import proofs.«01_k».proof.Proof.Gen.RetFwdIdeal.Launch
public import proofs.«01_k».proof.Proof.Gen.RetFwdIdeal.Points
public import proofs.«01_k».proof.Proof.Gen.RetFwdIdeal.Frame
public import proofs.«01_k».proof.Proof.Gen.RetFwdIdeal.Value
public import proofs.«01_k».proof.Proof.Gen.RefRetFwdIdeal
public import proofs.«01_k».proof.Proof.Gen.RefRetFwdIdeal.Run
public import proofs.«01_k».proof.Proof.Gen.RefRetFwdIdeal.Read
public import proofs.«01_k».proof.Proof.W2Dx
public import proofs.«01_k».proof.Proof.W2Dw
public import proofs.«01_k».proof.Proof.W1Dx
public import proofs.«01_k».proof.Proof.W1Dw
public import proofs.«01_k».proof.Proof.InDx
public import proofs.«01_k».proof.Proof.InDw
public import proofs.«01_k».proof.Proof.OutDx
public import proofs.«01_k».proof.Proof.OutDw
public import proofs.«01_k».proof.Proof.NormBwd
public import proofs.«01_k».proof.Proof.GateBwd
public import proofs.«01_k».proof.Proof.RmsBwd
public import proofs.«01_k».proof.Proof.EvDx
public import proofs.«01_k».proof.Proof.EvDw
public import proofs.«01_k».proof.Proof.UpDx
public import proofs.«01_k».proof.Proof.UpDw
public import proofs.«01_k».proof.Proof.Fwd
public import proofs.«01_k».proof.Proof.NormFwd
public import proofs.«01_k».proof.Proof.UpFwd
public import proofs.«01_k».proof.Proof.GateFwd
public import proofs.«01_k».proof.Proof.RmsFwd
public import proofs.«01_k».proof.Proof.Finite
public import Idealize.ShloMosaic.Adequacy
public import Idealize.ShloMosaic.Init
public import proofs.«01_k».proof.Proof.RetFwd

/-! The calls taken one by one: the kernel's results are the reference's, as extended reals. -/

@[expose] public section

set_option maxRecDepth 65536

noncomputable section

namespace Cert.Proof

open Idealize.ShloMosaic Idealize.ShloMosaic.StableHlo Idealize.SL.Sem

section retarget

variable {nD : ℕ} {τ : Topo} {sig : RefSig} {Val : EltTy → Type} {Λ : Labels}
  {D : Defs nD τ sig Val Λ} {p : (c : Thread nD τ) → Prog (TpuEff nD τ sig Val Λ c.2) PUnit} {s : MemSt nD τ sig Val}
  {ι : Type} {β₀ β₁ β₂ : ι → Type} {A₀ : (c : ι) → PUnit × MemSt nD τ sig Val → β₀ c} {A₁ : (c : ι) → PUnit × MemSt nD τ sig Val → β₁ c}
  {A₂ : (c : ι) → PUnit × MemSt nD τ sig Val → β₂ c} {u₀ v₀ : ∀ c, β₀ c} {u₁ v₁ : ∀ c, β₁ c} {u₂ v₂ : ∀ c, β₂ c}
  {B : ι → PUnit × MemSt nD τ sig Val → Prop}

/-- A run's result named by an equal array. -/
theorem retarget (h : θ_run D p s fun r => ∀ c, A₀ c r = u₀ c ∧ B c r) (e₀ : ∀ c, u₀ c = v₀ c) :
    θ_run D p s fun r => ∀ c, A₀ c r = v₀ c ∧ B c r :=
  (θ_run D _ _).mono (fun _ h c => ⟨(h c).1.trans (e₀ c), (h c).2⟩) h

/-- A run's two results named by equal arrays. -/
theorem retarget₂ (h : θ_run D p s fun r => ∀ c, A₀ c r = u₀ c ∧ A₁ c r = u₁ c ∧ B c r) (e₀ : ∀ c, u₀ c = v₀ c) (e₁ : ∀ c, u₁ c = v₁ c) :
    θ_run D p s fun r => ∀ c, A₀ c r = v₀ c ∧ A₁ c r = v₁ c ∧ B c r :=
  (θ_run D _ _).mono (fun _ h c => ⟨(h c).1.trans (e₀ c), (h c).2.1.trans (e₁ c), (h c).2.2⟩) h

/-- A run's three results named by equal arrays. -/
theorem retarget₃ (h : θ_run D p s fun r => ∀ c, A₀ c r = u₀ c ∧ A₁ c r = u₁ c ∧ A₂ c r = u₂ c ∧ B c r) (e₀ : ∀ c, u₀ c = v₀ c)
    (e₁ : ∀ c, u₁ c = v₁ c) (e₂ : ∀ c, u₂ c = v₂ c) :
    θ_run D p s fun r => ∀ c, A₀ c r = v₀ c ∧ A₁ c r = v₁ c ∧ A₂ c r = v₂ c ∧ B c r :=
  (θ_run D _ _).mono (fun _ h c => ⟨(h c).1.trans (e₀ c), (h c).2.1.trans (e₁ c), (h c).2.2.1.trans (e₂ c), (h c).2.2.2⟩) h

end retarget

/-- The down projection's input's cotangent. -/
theorem value_W2Dx : Cert.algebraic_W2DxIdeal_RefW2DxIdeal (hW2DxIdeal := Cert.W2DxIdeal.Gen.facts) (hRefW2DxIdeal := Cert.RefW2DxIdeal.Gen.facts) := fun m g m' g' _ hagree =>
  ⟨Cert.W2DxIdeal.G m, retarget (Cert.W2DxIdeal.Value.run_blocks (F := Ideal) m g) (Cert.W2DxIdeal.final m),
    retarget (Cert.RefW2DxIdeal.Value.run (F := Ideal) m' g') fun c =>
      (Cert.RefW2DxIdeal.Read.val_main_v14_eq _ _ _).trans ((Cert.RefW2DxIdeal.Read.val _ _ _).trans (by
        rw [(hagree c).1, (hagree c).2.1, (hagree c).2.2]
        rfl))⟩

/-- The down projection's weight's gradient. -/
theorem value_W2Dw : Cert.algebraic_W2DwIdeal_RefW2DwIdeal (hW2DwIdeal := Cert.W2DwIdeal.Gen.facts) (hRefW2DwIdeal := Cert.RefW2DwIdeal.Gen.facts) := fun m g m' g' _ hagree =>
  ⟨Cert.W2DwIdeal.G m, retarget (Cert.W2DwIdeal.Value.run_blocks (F := Ideal) m g) (Cert.W2DwIdeal.final m),
    retarget (Cert.RefW2DwIdeal.Value.run (F := Ideal) m' g') fun c =>
      (Cert.RefW2DwIdeal.Read.val_main_v8_eq _ _).trans ((Cert.RefW2DwIdeal.Read.val _ _).trans (by
        rw [(hagree c).1, (hagree c).2]
        rfl))⟩

/-- The up projection's and the residual's input's cotangent. -/
theorem value_W1Dx : Cert.algebraic_W1DxIdeal_RefW1DxIdeal (hW1DxIdeal := Cert.W1DxIdeal.Gen.facts) (hRefW1DxIdeal := Cert.RefW1DxIdeal.Gen.facts) := fun m g m' g' _ hagree =>
  ⟨Cert.W1DxIdeal.G m, retarget (Cert.W1DxIdeal.Value.run_blocks (F := Ideal) m g) (Cert.W1DxIdeal.final m),
    retarget (Cert.RefW1DxIdeal.Value.run (F := Ideal) m' g') fun c =>
      (Cert.RefW1DxIdeal.Read.val_main_v12_eq _ _ _).trans ((Cert.RefW1DxIdeal.Read.val _ _ _).trans (by
        rw [(hagree c).1, (hagree c).2.1, (hagree c).2.2]
        rfl))⟩

/-- The up projection's weight's gradient. -/
theorem value_W1Dw : Cert.algebraic_W1DwIdeal_RefW1DwIdeal (hW1DwIdeal := Cert.W1DwIdeal.Gen.facts) (hRefW1DwIdeal := Cert.RefW1DwIdeal.Gen.facts) := fun m g m' g' _ hagree =>
  ⟨Cert.W1DwIdeal.G m, retarget (Cert.W1DwIdeal.Value.run_blocks (F := Ideal) m g) (Cert.W1DwIdeal.final m),
    retarget (Cert.RefW1DwIdeal.Value.run (F := Ideal) m' g') fun c =>
      (Cert.RefW1DwIdeal.Read.val_main_v10_eq _ _).trans ((Cert.RefW1DwIdeal.Read.val _ _).trans (by
        rw [(hagree c).1, (hagree c).2]
        rfl))⟩

/-- The in projection's and the residual's input's cotangent. -/
theorem value_InDx : Cert.algebraic_InDxIdeal_RefInDxIdeal (hInDxIdeal := Cert.InDxIdeal.Gen.facts) (hRefInDxIdeal := Cert.RefInDxIdeal.Gen.facts) := fun m g m' g' _ hagree =>
  ⟨Cert.InDxIdeal.G m, retarget (Cert.InDxIdeal.Value.run_blocks (F := Ideal) m g) (Cert.InDxIdeal.final m),
    retarget (Cert.RefInDxIdeal.Value.run (F := Ideal) m' g') fun c =>
      (Cert.RefInDxIdeal.Read.val_main_v12_eq _ _ _).trans ((Cert.RefInDxIdeal.Read.val _ _ _).trans (by
        rw [(hagree c).1, (hagree c).2.1, (hagree c).2.2]
        rfl))⟩

/-- The in projection's weight's gradient. -/
theorem value_InDw : Cert.algebraic_InDwIdeal_RefInDwIdeal (hInDwIdeal := Cert.InDwIdeal.Gen.facts) (hRefInDwIdeal := Cert.RefInDwIdeal.Gen.facts) := fun m g m' g' _ hagree =>
  ⟨Cert.InDwIdeal.G m, retarget (Cert.InDwIdeal.Value.run_blocks (F := Ideal) m g) (Cert.InDwIdeal.final m),
    retarget (Cert.RefInDwIdeal.Value.run (F := Ideal) m' g') fun c =>
      (Cert.RefInDwIdeal.Read.val_main_v10_eq _ _).trans ((Cert.RefInDwIdeal.Read.val _ _).trans (by
        rw [(hagree c).1, (hagree c).2]
        rfl))⟩

/-- The out projection's input's cotangent. -/
theorem value_OutDx : Cert.algebraic_OutDxIdeal_RefOutDxIdeal (hOutDxIdeal := Cert.OutDxIdeal.Gen.facts) (hRefOutDxIdeal := Cert.RefOutDxIdeal.Gen.facts) := fun m g m' g' _ hagree =>
  ⟨Cert.OutDxIdeal.G m, retarget (Cert.OutDxIdeal.Value.run_blocks (F := Ideal) m g) (Cert.OutDxIdeal.final m),
    retarget (Cert.RefOutDxIdeal.Value.run (F := Ideal) m' g') fun c =>
      (Cert.RefOutDxIdeal.Read.val_main_v3_eq _ _).trans ((Cert.RefOutDxIdeal.Read.val _ _).trans (by
        rw [(hagree c).1, (hagree c).2]
        rfl))⟩

/-- The out projection's weight's gradient. -/
theorem value_OutDw : Cert.algebraic_OutDwIdeal_RefOutDwIdeal (hOutDwIdeal := Cert.OutDwIdeal.Gen.facts) (hRefOutDwIdeal := Cert.RefOutDwIdeal.Gen.facts) := fun m g m' g' _ hagree =>
  ⟨Cert.OutDwIdeal.G m, retarget (Cert.OutDwIdeal.Value.run_blocks (F := Ideal) m g) (Cert.OutDwIdeal.final m),
    retarget (Cert.RefOutDwIdeal.Value.run (F := Ideal) m' g') fun c =>
      (Cert.RefOutDwIdeal.Read.val_main_v5_eq _ _).trans ((Cert.RefOutDwIdeal.Read.val _ _).trans (by
        rw [(hagree c).1, (hagree c).2]
        rfl))⟩

/-- The layer norm's three cotangents. -/
theorem value_NormBwd : Cert.algebraic_NormBwdIdeal_RefNormBwdIdeal_pre_real_norm (hNormBwdIdeal := Cert.NormBwdIdeal.Gen.facts) (hRefNormBwdIdeal := Cert.RefNormBwdIdeal.Gen.facts)
    (hPre_real_norm := Cert.Finite.facts_norm) := by
  intro m g m' g' hpre hagree
  refine ⟨Cert.NormBwdIdeal.G m, Cert.NormBwdIdeal.Gg m, Cert.NormBwdIdeal.Gb m,
    retarget₃ (Cert.NormBwdIdeal.Value.run_blocks (F := Ideal) m g) (Cert.NormBwdIdeal.final m) (Cert.NormBwdIdeal.final_g m) (Cert.NormBwdIdeal.final_b m),
    retarget₃ (Cert.RefNormBwdIdeal.Value.run (F := Ideal) m' g') (fun c => (Cert.RefNormBwdIdeal.Read.val_main_v53_eq _ _).trans ?_)
      (fun c => (Cert.RefNormBwdIdeal.Read.val_main_v31_eq _ _).trans ((Cert.RefNormBwdIdeal.Read.val_g _ _).trans ?_))
      (fun c => (Cert.RefNormBwdIdeal.Read.val_main_v28_eq _).trans ((Cert.RefNormBwdIdeal.Read.val_b _).trans ?_))⟩
  · obtain ⟨hg, hy⟩ := Cert.Finite.norm (hpre c)
    rw [(hagree c).1, (hagree c).2.1, (hagree c).2.2]
    exact Cert.RefNormBwdIdeal.Read.val _ _ _ hg hy
  · rw [(hagree c).1, (hagree c).2.2]
    rfl
  · rw [(hagree c).2.2]
    rfl

/-- The output gate's and head norm's cotangents. -/
theorem value_GateBwd : Cert.algebraic_GateBwdIdeal_RefGateBwdIdeal_pre_real_gate (hGateBwdIdeal := Cert.GateBwdIdeal.Gen.facts) (hRefGateBwdIdeal := Cert.RefGateBwdIdeal.Gen.facts)
    (hPre_real_gate := Cert.Finite.facts_gate) := by
  intro m g m' g' hpre hagree
  refine ⟨Cert.GateBwdIdeal.G m, Cert.GateBwdIdeal.Gp m,
    retarget₂ (Cert.GateBwdIdeal.Value.run_blocks (F := Ideal) m g) (Cert.GateBwdIdeal.final m) (Cert.GateBwdIdeal.final_p m),
    retarget₂ (Cert.RefGateBwdIdeal.Value.run (F := Ideal) m' g') (fun c => (Cert.RefGateBwdIdeal.Read.val_main_v41_eq _ _ _).trans ?_)
      (fun c => (Cert.RefGateBwdIdeal.Read.val_main_v42_eq _ _ _).trans ?_)⟩
  all_goals
    obtain ⟨hp, hy⟩ := Cert.Finite.gate (hpre c)
    rw [(hagree c).1, (hagree c).2.1, (hagree c).2.2]
  · exact Cert.RefGateBwdIdeal.Read.val _ _ _ hp hy
  · exact Cert.RefGateBwdIdeal.Read.val_p _ _ _ hp hy

/-- The queries' latent norm's cotangents. -/
theorem value_QNormBwd : Cert.algebraic_QNormBwdIdeal_RefQNormBwdIdeal_pre_real_q_norm (hQNormBwdIdeal := Cert.QNormBwdIdeal.Gen.facts) (hRefQNormBwdIdeal := Cert.RefQNormBwdIdeal.Gen.facts)
    (hPre_real_q_norm := Cert.Finite.facts_q_norm) := by
  intro m g m' g' hpre hagree
  refine ⟨Cert.QNormBwdIdeal.G m, Cert.QNormBwdIdeal.Gg m,
    retarget₂ (Cert.QNormBwdIdeal.Value.run_blocks (F := Ideal) m g) (Cert.QNormBwdIdeal.final m) (Cert.QNormBwdIdeal.final_g m),
    retarget₂ (Cert.RefQNormBwdIdeal.Value.run (F := Ideal) m' g') (fun c => (Cert.RefQNormBwdIdeal.Read.val_main_v38_eq _ _ _).trans ?_)
      (fun c => (Cert.RefQNormBwdIdeal.Read.val_main_v24_eq _ _).trans ((Cert.RefQNormBwdIdeal.Read.val_g _ _).trans ?_))⟩
  · obtain ⟨hg, hy⟩ := Cert.Finite.q_norm (hpre c)
    rw [(hagree c).1, (hagree c).2.1, (hagree c).2.2]
    exact Cert.RefQNormBwdIdeal.Read.val _ _ _ hg hy
  · rw [(hagree c).1, (hagree c).2.2]
    rfl

/-- The keys' and values' latent norm's cotangents. -/
theorem value_KvNormBwd : Cert.algebraic_KvNormBwdIdeal_RefKvNormBwdIdeal_pre_real_kv_norm (hKvNormBwdIdeal := Cert.KvNormBwdIdeal.Gen.facts) (hRefKvNormBwdIdeal := Cert.RefKvNormBwdIdeal.Gen.facts)
    (hPre_real_kv_norm := Cert.Finite.facts_kv_norm) := by
  intro m g m' g' hpre hagree
  refine ⟨Cert.KvNormBwdIdeal.G m, Cert.KvNormBwdIdeal.Gg m,
    retarget₂ (Cert.KvNormBwdIdeal.Value.run_blocks (F := Ideal) m g) (Cert.KvNormBwdIdeal.final m) (Cert.KvNormBwdIdeal.final_g m),
    retarget₂ (Cert.RefKvNormBwdIdeal.Value.run (F := Ideal) m' g') (fun c => (Cert.RefKvNormBwdIdeal.Read.val_main_v38_eq _ _ _).trans ?_)
      (fun c => (Cert.RefKvNormBwdIdeal.Read.val_main_v24_eq _ _).trans ((Cert.RefKvNormBwdIdeal.Read.val_g _ _).trans ?_))⟩
  · obtain ⟨hg, hy⟩ := Cert.Finite.kv_norm (hpre c)
    rw [(hagree c).1, (hagree c).2.1, (hagree c).2.2]
    exact Cert.RefKvNormBwdIdeal.Read.val _ _ _ hg hy
  · rw [(hagree c).1, (hagree c).2.2]
    rfl

/-- The even layers' in projection's input's cotangent. -/
theorem value_EvInDx : Cert.algebraic_EvInDxIdeal_RefEvInDxIdeal (hEvInDxIdeal := Cert.EvInDxIdeal.Gen.facts) (hRefEvInDxIdeal := Cert.RefEvInDxIdeal.Gen.facts) := fun m g m' g' _ hagree =>
  ⟨Cert.EvInDxIdeal.G m, retarget (Cert.EvInDxIdeal.Value.run_blocks (F := Ideal) m g) (Cert.EvInDxIdeal.final m),
    retarget (Cert.RefEvInDxIdeal.Value.run (F := Ideal) m' g') fun c =>
      (Cert.RefEvInDxIdeal.Read.val_main_v3_eq _ _).trans ((Cert.RefEvInDxIdeal.Read.val _ _).trans (by
        rw [(hagree c).1, (hagree c).2]
        rfl))⟩

/-- The even layers' in projection's weight's gradient. -/
theorem value_EvInDw : Cert.algebraic_EvInDwIdeal_RefEvInDwIdeal (hEvInDwIdeal := Cert.EvInDwIdeal.Gen.facts) (hRefEvInDwIdeal := Cert.RefEvInDwIdeal.Gen.facts) := fun m g m' g' _ hagree =>
  ⟨Cert.EvInDwIdeal.G m, retarget (Cert.EvInDwIdeal.Value.run_blocks (F := Ideal) m g) (Cert.EvInDwIdeal.final m),
    retarget (Cert.RefEvInDwIdeal.Value.run (F := Ideal) m' g') fun c =>
      (Cert.RefEvInDwIdeal.Read.val_main_v5_eq _ _).trans ((Cert.RefEvInDwIdeal.Read.val _ _).trans (by
        rw [(hagree c).1, (hagree c).2]
        rfl))⟩

/-- The queries' expansion's input's cotangent. -/
theorem value_UqDx : Cert.algebraic_UqDxIdeal_RefUqDxIdeal (hUqDxIdeal := Cert.UqDxIdeal.Gen.facts) (hRefUqDxIdeal := Cert.RefUqDxIdeal.Gen.facts) := fun m g m' g' _ hagree =>
  ⟨Cert.UqDxIdeal.G m, retarget (Cert.UqDxIdeal.Value.run_blocks (F := Ideal) m g) (Cert.UqDxIdeal.final m),
    retarget (Cert.RefUqDxIdeal.Value.run (F := Ideal) m' g') fun c =>
      (Cert.RefUqDxIdeal.Read.val_main_v4_eq _ _).trans ((Cert.RefUqDxIdeal.Read.val _ _).trans (by
        rw [(hagree c).1, (hagree c).2]
        rfl))⟩

/-- The queries' expansion's weight's gradient. -/
theorem value_UqDw : Cert.algebraic_UqDwIdeal_RefUqDwIdeal (hUqDwIdeal := Cert.UqDwIdeal.Gen.facts) (hRefUqDwIdeal := Cert.RefUqDwIdeal.Gen.facts) := fun m g m' g' _ hagree =>
  ⟨Cert.UqDwIdeal.G m, retarget (Cert.UqDwIdeal.Value.run_blocks (F := Ideal) m g) (Cert.UqDwIdeal.final m),
    retarget (Cert.RefUqDwIdeal.Value.run (F := Ideal) m' g') fun c =>
      (Cert.RefUqDwIdeal.Read.val_main_v6_eq _ _).trans ((Cert.RefUqDwIdeal.Read.val _ _).trans (by
        rw [(hagree c).1, (hagree c).2]
        rfl))⟩

/-- The keys' and values' expansion's input's cotangent. -/
theorem value_UkvDx : Cert.algebraic_UkvDxIdeal_RefUkvDxIdeal (hUkvDxIdeal := Cert.UkvDxIdeal.Gen.facts) (hRefUkvDxIdeal := Cert.RefUkvDxIdeal.Gen.facts) := fun m g m' g' _ hagree =>
  ⟨Cert.UkvDxIdeal.G m, retarget (Cert.UkvDxIdeal.Value.run_blocks (F := Ideal) m g) (Cert.UkvDxIdeal.final m),
    retarget (Cert.RefUkvDxIdeal.Value.run (F := Ideal) m' g') fun c =>
      (Cert.RefUkvDxIdeal.Read.val_main_v4_eq _ _).trans ((Cert.RefUkvDxIdeal.Read.val _ _).trans (by
        rw [(hagree c).1, (hagree c).2]
        rfl))⟩

/-- The keys' and values' expansion's weight's gradient. -/
theorem value_UkvDw : Cert.algebraic_UkvDwIdeal_RefUkvDwIdeal (hUkvDwIdeal := Cert.UkvDwIdeal.Gen.facts) (hRefUkvDwIdeal := Cert.RefUkvDwIdeal.Gen.facts) := fun m g m' g' _ hagree =>
  ⟨Cert.UkvDwIdeal.G m, retarget (Cert.UkvDwIdeal.Value.run_blocks (F := Ideal) m g) (Cert.UkvDwIdeal.final m),
    retarget (Cert.RefUkvDwIdeal.Value.run (F := Ideal) m' g') fun c =>
      (Cert.RefUkvDwIdeal.Read.val_main_v6_eq _ _).trans ((Cert.RefUkvDwIdeal.Read.val _ _).trans (by
        rw [(hagree c).1, (hagree c).2]
        rfl))⟩

/-- The even layers' out projection's input's cotangent. -/
theorem value_EvOutDx : Cert.algebraic_EvOutDxIdeal_RefEvOutDxIdeal (hEvOutDxIdeal := Cert.EvOutDxIdeal.Gen.facts) (hRefEvOutDxIdeal := Cert.RefEvOutDxIdeal.Gen.facts) := fun m g m' g' _ hagree =>
  ⟨Cert.EvOutDxIdeal.G m, retarget (Cert.EvOutDxIdeal.Value.run_blocks (F := Ideal) m g) (Cert.EvOutDxIdeal.final m),
    retarget (Cert.RefEvOutDxIdeal.Value.run (F := Ideal) m' g') fun c =>
      (Cert.RefEvOutDxIdeal.Read.val_main_v3_eq _ _).trans ((Cert.RefEvOutDxIdeal.Read.val _ _).trans (by
        rw [(hagree c).1, (hagree c).2]
        rfl))⟩

/-- The even layers' out projection's weight's gradient. -/
theorem value_EvOutDw : Cert.algebraic_EvOutDwIdeal_RefEvOutDwIdeal (hEvOutDwIdeal := Cert.EvOutDwIdeal.Gen.facts) (hRefEvOutDwIdeal := Cert.RefEvOutDwIdeal.Gen.facts) := fun m g m' g' _ hagree =>
  ⟨Cert.EvOutDwIdeal.G m, retarget (Cert.EvOutDwIdeal.Value.run_blocks (F := Ideal) m g) (Cert.EvOutDwIdeal.final m),
    retarget (Cert.RefEvOutDwIdeal.Value.run (F := Ideal) m' g') fun c =>
      (Cert.RefEvOutDwIdeal.Read.val_main_v5_eq _ _).trans ((Cert.RefEvOutDwIdeal.Read.val _ _).trans (by
        rw [(hagree c).1, (hagree c).2]
        rfl))⟩

/-- The up projection. -/
theorem value_W1Fwd : Cert.algebraic_W1FwdIdeal_RefW1FwdIdeal (hW1FwdIdeal := Cert.W1FwdIdeal.Gen.facts) (hRefW1FwdIdeal := Cert.RefW1FwdIdeal.Gen.facts) := fun m g m' g' _ hagree =>
  ⟨Cert.W1FwdIdeal.G m, retarget (Cert.W1FwdIdeal.Value.run_blocks (F := Ideal) m g) (Cert.W1FwdIdeal.final m),
    retarget (Cert.RefW1FwdIdeal.Value.run (F := Ideal) m' g') fun c =>
      (Cert.RefW1FwdIdeal.Read.val_main_v4_eq _ _).trans ((Cert.RefW1FwdIdeal.Read.val _ _).trans (by
        rw [(hagree c).1, (hagree c).2]
        rfl))⟩

/-- The down projection, the residual and the norm. -/
theorem value_W2NormFwd : Cert.algebraic_W2NormFwdIdeal_RefW2NormFwdIdeal (hW2NormFwdIdeal := Cert.W2NormFwdIdeal.Gen.facts) (hRefW2NormFwdIdeal := Cert.RefW2NormFwdIdeal.Gen.facts) := fun m g m' g' _ hagree =>
  ⟨Cert.W2NormFwdIdeal.G m, Cert.W2NormFwdIdeal.Z m, retarget₂ (Cert.W2NormFwdIdeal.Value.run_blocks (F := Ideal) m g) (Cert.W2NormFwdIdeal.final m) (Cert.W2NormFwdIdeal.final_z m),
    retarget₂ (Cert.RefW2NormFwdIdeal.Value.run (F := Ideal) m' g')
      (fun c => (Cert.RefW2NormFwdIdeal.Read.val_main_v28_eq _ _).trans ((Cert.RefW2NormFwdIdeal.Read.val _ _ _ _ _).trans (by
        rw [(hagree c).1, (hagree c).2.1, (hagree c).2.2.1, (hagree c).2.2.2.1, (hagree c).2.2.2.2]
        rfl)))
      (fun c => (Cert.RefW2NormFwdIdeal.Read.val_main_v8_eq _ _ _).trans ((Cert.RefW2NormFwdIdeal.Read.val_z _ _ _).trans (by
        rw [(hagree c).1, (hagree c).2.1, (hagree c).2.2.1]
        rfl)))⟩

/-- The in projection. -/
theorem value_InFwd : Cert.algebraic_InFwdIdeal_RefInFwdIdeal (hInFwdIdeal := Cert.InFwdIdeal.Gen.facts) (hRefInFwdIdeal := Cert.RefInFwdIdeal.Gen.facts) := fun m g m' g' _ hagree =>
  ⟨Cert.InFwdIdeal.G m, retarget (Cert.InFwdIdeal.Value.run_blocks (F := Ideal) m g) (Cert.InFwdIdeal.final m),
    retarget (Cert.RefInFwdIdeal.Value.run (F := Ideal) m' g') fun c =>
      (Cert.RefInFwdIdeal.Read.val_main_v4_eq _ _).trans ((Cert.RefInFwdIdeal.Read.val _ _).trans (by
        rw [(hagree c).1, (hagree c).2]
        rfl))⟩

/-- The out projection, the residual and the norm. -/
theorem value_OutNormFwd : Cert.algebraic_OutNormFwdIdeal_RefOutNormFwdIdeal (hOutNormFwdIdeal := Cert.OutNormFwdIdeal.Gen.facts) (hRefOutNormFwdIdeal := Cert.RefOutNormFwdIdeal.Gen.facts) := fun m g m' g' _ hagree =>
  ⟨Cert.OutNormFwdIdeal.G m, Cert.OutNormFwdIdeal.Z m, retarget₂ (Cert.OutNormFwdIdeal.Value.run_blocks (F := Ideal) m g) (Cert.OutNormFwdIdeal.final m) (Cert.OutNormFwdIdeal.final_z m),
    retarget₂ (Cert.RefOutNormFwdIdeal.Value.run (F := Ideal) m' g')
      (fun c => (Cert.RefOutNormFwdIdeal.Read.val_main_v25_eq _ _ _ _ _).trans ((Cert.RefOutNormFwdIdeal.Read.val _ _ _ _ _).trans (by
        rw [(hagree c).1, (hagree c).2.1, (hagree c).2.2.1, (hagree c).2.2.2.1, (hagree c).2.2.2.2]
        rfl)))
      (fun c => (Cert.RefOutNormFwdIdeal.Read.val_main_v5_eq _ _ _).trans ((Cert.RefOutNormFwdIdeal.Read.val_z _ _ _).trans (by
        rw [(hagree c).1, (hagree c).2.1, (hagree c).2.2.1]
        rfl)))⟩

/-- The even layers' in projection. -/
theorem value_EvInFwd : Cert.algebraic_EvInFwdIdeal_RefEvInFwdIdeal (hEvInFwdIdeal := Cert.EvInFwdIdeal.Gen.facts) (hRefEvInFwdIdeal := Cert.RefEvInFwdIdeal.Gen.facts) := fun m g m' g' _ hagree =>
  ⟨Cert.EvInFwdIdeal.G m, retarget (Cert.EvInFwdIdeal.Value.run_blocks (F := Ideal) m g) (Cert.EvInFwdIdeal.final m),
    retarget (Cert.RefEvInFwdIdeal.Value.run (F := Ideal) m' g') fun c =>
      (Cert.RefEvInFwdIdeal.Read.val_main_v1_eq _ _).trans ((Cert.RefEvInFwdIdeal.Read.val _ _).trans (by
        rw [(hagree c).1, (hagree c).2]
        rfl))⟩

/-- The queries' expansion. -/
theorem value_UqFwd : Cert.algebraic_UqFwdIdeal_RefUqFwdIdeal (hUqFwdIdeal := Cert.UqFwdIdeal.Gen.facts) (hRefUqFwdIdeal := Cert.RefUqFwdIdeal.Gen.facts) := fun m g m' g' _ hagree =>
  ⟨Cert.UqFwdIdeal.G m, retarget (Cert.UqFwdIdeal.Value.run_blocks (F := Ideal) m g) (Cert.UqFwdIdeal.final m),
    retarget (Cert.RefUqFwdIdeal.Value.run (F := Ideal) m' g') fun c =>
      (Cert.RefUqFwdIdeal.Read.val_main_v2_eq _ _).trans ((Cert.RefUqFwdIdeal.Read.val _ _).trans (by
        rw [(hagree c).1, (hagree c).2]
        rfl))⟩

/-- The keys' and values' expansion. -/
theorem value_UkvFwd : Cert.algebraic_UkvFwdIdeal_RefUkvFwdIdeal (hUkvFwdIdeal := Cert.UkvFwdIdeal.Gen.facts) (hRefUkvFwdIdeal := Cert.RefUkvFwdIdeal.Gen.facts) := fun m g m' g' _ hagree =>
  ⟨Cert.UkvFwdIdeal.G m, retarget (Cert.UkvFwdIdeal.Value.run_blocks (F := Ideal) m g) (Cert.UkvFwdIdeal.final m),
    retarget (Cert.RefUkvFwdIdeal.Value.run (F := Ideal) m' g') fun c =>
      (Cert.RefUkvFwdIdeal.Read.val_main_v2_eq _ _).trans ((Cert.RefUkvFwdIdeal.Read.val _ _).trans (by
        rw [(hagree c).1, (hagree c).2]
        rfl))⟩

/-- The even layers' out projection, the residual and the norm. -/
theorem value_EvOutNormFwd : Cert.algebraic_EvOutNormFwdIdeal_RefEvOutNormFwdIdeal (hEvOutNormFwdIdeal := Cert.EvOutNormFwdIdeal.Gen.facts) (hRefEvOutNormFwdIdeal := Cert.RefEvOutNormFwdIdeal.Gen.facts) := fun m g m' g' _ hagree =>
  ⟨Cert.EvOutNormFwdIdeal.G m, Cert.EvOutNormFwdIdeal.Z m, retarget₂ (Cert.EvOutNormFwdIdeal.Value.run_blocks (F := Ideal) m g) (Cert.EvOutNormFwdIdeal.final m) (Cert.EvOutNormFwdIdeal.final_z m),
    retarget₂ (Cert.RefEvOutNormFwdIdeal.Value.run (F := Ideal) m' g')
      (fun c => (Cert.RefEvOutNormFwdIdeal.Read.val_main_v25_eq _ _ _ _ _).trans ((Cert.RefEvOutNormFwdIdeal.Read.val _ _ _ _ _).trans (by
        rw [(hagree c).1, (hagree c).2.1, (hagree c).2.2.1, (hagree c).2.2.2.1, (hagree c).2.2.2.2]
        rfl)))
      (fun c => (Cert.RefEvOutNormFwdIdeal.Read.val_main_v5_eq _ _ _).trans ((Cert.RefEvOutNormFwdIdeal.Read.val_z _ _ _).trans (by
        rw [(hagree c).1, (hagree c).2.1, (hagree c).2.2.1]
        rfl)))⟩

/-- The head norm and output gate. -/
theorem value_GateFwd : Cert.algebraic_GateFwdIdeal_RefGateFwdIdeal (hGateFwdIdeal := Cert.GateFwdIdeal.Gen.facts) (hRefGateFwdIdeal := Cert.RefGateFwdIdeal.Gen.facts) := fun m g m' g' _ hagree =>
  ⟨Cert.GateFwdIdeal.G m, retarget (Cert.GateFwdIdeal.Value.run_blocks (F := Ideal) m g) (Cert.GateFwdIdeal.final m),
    retarget (Cert.RefGateFwdIdeal.Value.run (F := Ideal) m' g') fun c =>
      (Cert.RefGateFwdIdeal.Read.val_main_v18_eq _ _).trans ((Cert.RefGateFwdIdeal.Read.val _ _).trans (by
        rw [(hagree c).1, (hagree c).2]
        rfl))⟩

/-- The queries' latent norm. -/
theorem value_QNormFwd : Cert.algebraic_QNormFwdIdeal_RefQNormFwdIdeal (hQNormFwdIdeal := Cert.QNormFwdIdeal.Gen.facts) (hRefQNormFwdIdeal := Cert.RefQNormFwdIdeal.Gen.facts) := fun m g m' g' _ hagree =>
  ⟨Cert.QNormFwdIdeal.G m, retarget (Cert.QNormFwdIdeal.Value.run_blocks (F := Ideal) m g) (Cert.QNormFwdIdeal.final m),
    retarget (Cert.RefQNormFwdIdeal.Value.run (F := Ideal) m' g') fun c =>
      (Cert.RefQNormFwdIdeal.Read.val_main_v16_eq _ _).trans ((Cert.RefQNormFwdIdeal.Read.val _ _).trans (by
        rw [(hagree c).1, (hagree c).2]
        rfl))⟩

/-- The keys' and values' latent norm. -/
theorem value_KvNormFwd : Cert.algebraic_KvNormFwdIdeal_RefKvNormFwdIdeal (hKvNormFwdIdeal := Cert.KvNormFwdIdeal.Gen.facts) (hRefKvNormFwdIdeal := Cert.RefKvNormFwdIdeal.Gen.facts) := fun m g m' g' _ hagree =>
  ⟨Cert.KvNormFwdIdeal.G m, retarget (Cert.KvNormFwdIdeal.Value.run_blocks (F := Ideal) m g) (Cert.KvNormFwdIdeal.final m),
    retarget (Cert.RefKvNormFwdIdeal.Value.run (F := Ideal) m' g') fun c =>
      (Cert.RefKvNormFwdIdeal.Read.val_main_v16_eq _ _).trans ((Cert.RefKvNormFwdIdeal.Read.val _ _).trans (by
        rw [(hagree c).1, (hagree c).2]
        rfl))⟩

/-- Retention's forward call. -/
theorem value_RetFwd : Cert.algebraic_RetFwdIdeal_RefRetFwdIdeal (hRetFwdIdeal := Cert.RetFwdIdeal.Gen.facts) (hRefRetFwdIdeal := Cert.RefRetFwdIdeal.Gen.facts) := fun m g m' g' _ hagree =>
  ⟨Cert.RetFwdIdeal.G m, retarget (Cert.RetFwdIdeal.Value.run_blocks (F := Ideal) m g) (Cert.RetFwdIdeal.final m),
    retarget (Cert.RefRetFwdIdeal.Value.run (F := Ideal) m' g') fun c =>
      (Cert.RefRetFwdIdeal.Read.val_main_v102_eq _ _).trans ((Cert.RefRetFwdIdeal.Read.val _).trans (by
        rw [hagree c]
        rfl))⟩

end Cert.Proof

end
-- ==== Proof.lean ====
/- The claims about the retention core's backward call, and about the other calls taken one by one. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Gen.W2Dx
public import proofs.«01_k».proof.Proof.Gen.W2Dx.Skeleton
public import proofs.«01_k».proof.Proof.Gen.W2Dx.Launch
public import proofs.«01_k».proof.Proof.Gen.W2Dx.Points
public import proofs.«01_k».proof.Proof.Gen.W2Dx.Frame
public import proofs.«01_k».proof.Proof.Gen.W2DxIdeal
public import proofs.«01_k».proof.Proof.Gen.W2DxIdeal.Skeleton
public import proofs.«01_k».proof.Proof.Gen.W2DxIdeal.Launch
public import proofs.«01_k».proof.Proof.Gen.W2DxIdeal.Points
public import proofs.«01_k».proof.Proof.Gen.W2DxIdeal.Frame
public import proofs.«01_k».proof.Proof.Gen.W2DxIdeal.Value
public import proofs.«01_k».proof.Proof.Gen.RefW2DxIdeal
public import proofs.«01_k».proof.Proof.Gen.RefW2DxIdeal.Run
public import proofs.«01_k».proof.Proof.Gen.RefW2DxIdeal.Read
public import proofs.«01_k».proof.Proof.Gen.W2Dw
public import proofs.«01_k».proof.Proof.Gen.W2Dw.Skeleton
public import proofs.«01_k».proof.Proof.Gen.W2Dw.Launch
public import proofs.«01_k».proof.Proof.Gen.W2Dw.Points
public import proofs.«01_k».proof.Proof.Gen.W2Dw.Frame
public import proofs.«01_k».proof.Proof.Gen.W2DwIdeal
public import proofs.«01_k».proof.Proof.Gen.W2DwIdeal.Skeleton
public import proofs.«01_k».proof.Proof.Gen.W2DwIdeal.Launch
public import proofs.«01_k».proof.Proof.Gen.W2DwIdeal.Points
public import proofs.«01_k».proof.Proof.Gen.W2DwIdeal.Frame
public import proofs.«01_k».proof.Proof.Gen.W2DwIdeal.Value
public import proofs.«01_k».proof.Proof.Gen.RefW2DwIdeal
public import proofs.«01_k».proof.Proof.Gen.RefW2DwIdeal.Run
public import proofs.«01_k».proof.Proof.Gen.RefW2DwIdeal.Read
public import proofs.«01_k».proof.Proof.Gen.W1Dx
public import proofs.«01_k».proof.Proof.Gen.W1Dx.Skeleton
public import proofs.«01_k».proof.Proof.Gen.W1Dx.Launch
public import proofs.«01_k».proof.Proof.Gen.W1Dx.Points
public import proofs.«01_k».proof.Proof.Gen.W1Dx.Frame
public import proofs.«01_k».proof.Proof.Gen.W1DxIdeal
public import proofs.«01_k».proof.Proof.Gen.W1DxIdeal.Skeleton
public import proofs.«01_k».proof.Proof.Gen.W1DxIdeal.Launch
public import proofs.«01_k».proof.Proof.Gen.W1DxIdeal.Points
public import proofs.«01_k».proof.Proof.Gen.W1DxIdeal.Frame
public import proofs.«01_k».proof.Proof.Gen.W1DxIdeal.Value
public import proofs.«01_k».proof.Proof.Gen.RefW1DxIdeal
public import proofs.«01_k».proof.Proof.Gen.RefW1DxIdeal.Run
public import proofs.«01_k».proof.Proof.Gen.RefW1DxIdeal.Read
public import proofs.«01_k».proof.Proof.Gen.W1Dw
public import proofs.«01_k».proof.Proof.Gen.W1Dw.Skeleton
public import proofs.«01_k».proof.Proof.Gen.W1Dw.Launch
public import proofs.«01_k».proof.Proof.Gen.W1Dw.Points
public import proofs.«01_k».proof.Proof.Gen.W1Dw.Frame
public import proofs.«01_k».proof.Proof.Gen.W1DwIdeal
public import proofs.«01_k».proof.Proof.Gen.W1DwIdeal.Skeleton
public import proofs.«01_k».proof.Proof.Gen.W1DwIdeal.Launch
public import proofs.«01_k».proof.Proof.Gen.W1DwIdeal.Points
public import proofs.«01_k».proof.Proof.Gen.W1DwIdeal.Frame
public import proofs.«01_k».proof.Proof.Gen.W1DwIdeal.Value
public import proofs.«01_k».proof.Proof.Gen.RefW1DwIdeal
public import proofs.«01_k».proof.Proof.Gen.RefW1DwIdeal.Run
public import proofs.«01_k».proof.Proof.Gen.RefW1DwIdeal.Read
public import proofs.«01_k».proof.Proof.Gen.InDx
public import proofs.«01_k».proof.Proof.Gen.InDx.Skeleton
public import proofs.«01_k».proof.Proof.Gen.InDx.Launch
public import proofs.«01_k».proof.Proof.Gen.InDx.Points
public import proofs.«01_k».proof.Proof.Gen.InDx.Frame
public import proofs.«01_k».proof.Proof.Gen.InDxIdeal
public import proofs.«01_k».proof.Proof.Gen.InDxIdeal.Skeleton
public import proofs.«01_k».proof.Proof.Gen.InDxIdeal.Launch
public import proofs.«01_k».proof.Proof.Gen.InDxIdeal.Points
public import proofs.«01_k».proof.Proof.Gen.InDxIdeal.Frame
public import proofs.«01_k».proof.Proof.Gen.InDxIdeal.Value
public import proofs.«01_k».proof.Proof.Gen.RefInDxIdeal
public import proofs.«01_k».proof.Proof.Gen.RefInDxIdeal.Run
public import proofs.«01_k».proof.Proof.Gen.RefInDxIdeal.Read
public import proofs.«01_k».proof.Proof.Gen.InDw
public import proofs.«01_k».proof.Proof.Gen.InDw.Skeleton
public import proofs.«01_k».proof.Proof.Gen.InDw.Launch
public import proofs.«01_k».proof.Proof.Gen.InDw.Points
public import proofs.«01_k».proof.Proof.Gen.InDw.Frame
public import proofs.«01_k».proof.Proof.Gen.InDwIdeal
public import proofs.«01_k».proof.Proof.Gen.InDwIdeal.Skeleton
public import proofs.«01_k».proof.Proof.Gen.InDwIdeal.Launch
public import proofs.«01_k».proof.Proof.Gen.InDwIdeal.Points
public import proofs.«01_k».proof.Proof.Gen.InDwIdeal.Frame
public import proofs.«01_k».proof.Proof.Gen.InDwIdeal.Value
public import proofs.«01_k».proof.Proof.Gen.RefInDwIdeal
public import proofs.«01_k».proof.Proof.Gen.RefInDwIdeal.Run
public import proofs.«01_k».proof.Proof.Gen.RefInDwIdeal.Read
public import proofs.«01_k».proof.Proof.Gen.OutDx
public import proofs.«01_k».proof.Proof.Gen.OutDx.Skeleton
public import proofs.«01_k».proof.Proof.Gen.OutDx.Launch
public import proofs.«01_k».proof.Proof.Gen.OutDx.Points
public import proofs.«01_k».proof.Proof.Gen.OutDx.Frame
public import proofs.«01_k».proof.Proof.Gen.OutDxIdeal
public import proofs.«01_k».proof.Proof.Gen.OutDxIdeal.Skeleton
public import proofs.«01_k».proof.Proof.Gen.OutDxIdeal.Launch
public import proofs.«01_k».proof.Proof.Gen.OutDxIdeal.Points
public import proofs.«01_k».proof.Proof.Gen.OutDxIdeal.Frame
public import proofs.«01_k».proof.Proof.Gen.OutDxIdeal.Value
public import proofs.«01_k».proof.Proof.Gen.RefOutDxIdeal
public import proofs.«01_k».proof.Proof.Gen.RefOutDxIdeal.Run
public import proofs.«01_k».proof.Proof.Gen.RefOutDxIdeal.Read
public import proofs.«01_k».proof.Proof.Gen.OutDw
public import proofs.«01_k».proof.Proof.Gen.OutDw.Skeleton
public import proofs.«01_k».proof.Proof.Gen.OutDw.Launch
public import proofs.«01_k».proof.Proof.Gen.OutDw.Points
public import proofs.«01_k».proof.Proof.Gen.OutDw.Frame
public import proofs.«01_k».proof.Proof.Gen.OutDwIdeal
public import proofs.«01_k».proof.Proof.Gen.OutDwIdeal.Skeleton
public import proofs.«01_k».proof.Proof.Gen.OutDwIdeal.Launch
public import proofs.«01_k».proof.Proof.Gen.OutDwIdeal.Points
public import proofs.«01_k».proof.Proof.Gen.OutDwIdeal.Frame
public import proofs.«01_k».proof.Proof.Gen.OutDwIdeal.Value
public import proofs.«01_k».proof.Proof.Gen.RefOutDwIdeal
public import proofs.«01_k».proof.Proof.Gen.RefOutDwIdeal.Run
public import proofs.«01_k».proof.Proof.Gen.RefOutDwIdeal.Read
public import proofs.«01_k».proof.Proof.Gen.NormBwd
public import proofs.«01_k».proof.Proof.Gen.NormBwd.Skeleton
public import proofs.«01_k».proof.Proof.Gen.NormBwd.Launch
public import proofs.«01_k».proof.Proof.Gen.NormBwd.Points
public import proofs.«01_k».proof.Proof.Gen.NormBwd.Frame
public import proofs.«01_k».proof.Proof.Gen.NormBwdIdeal
public import proofs.«01_k».proof.Proof.Gen.NormBwdIdeal.Skeleton
public import proofs.«01_k».proof.Proof.Gen.NormBwdIdeal.Launch
public import proofs.«01_k».proof.Proof.Gen.NormBwdIdeal.Points
public import proofs.«01_k».proof.Proof.Gen.NormBwdIdeal.Frame
public import proofs.«01_k».proof.Proof.Gen.NormBwdIdeal.Value
public import proofs.«01_k».proof.Proof.Gen.RefNormBwdIdeal
public import proofs.«01_k».proof.Proof.Gen.RefNormBwdIdeal.Run
public import proofs.«01_k».proof.Proof.Gen.RefNormBwdIdeal.Read
public import proofs.«01_k».proof.Proof.Gen.GateBwd
public import proofs.«01_k».proof.Proof.Gen.GateBwd.Skeleton
public import proofs.«01_k».proof.Proof.Gen.GateBwd.Launch
public import proofs.«01_k».proof.Proof.Gen.GateBwd.Points
public import proofs.«01_k».proof.Proof.Gen.GateBwd.Frame
public import proofs.«01_k».proof.Proof.Gen.GateBwdIdeal
public import proofs.«01_k».proof.Proof.Gen.GateBwdIdeal.Skeleton
public import proofs.«01_k».proof.Proof.Gen.GateBwdIdeal.Launch
public import proofs.«01_k».proof.Proof.Gen.GateBwdIdeal.Points
public import proofs.«01_k».proof.Proof.Gen.GateBwdIdeal.Frame
public import proofs.«01_k».proof.Proof.Gen.GateBwdIdeal.Value
public import proofs.«01_k».proof.Proof.Gen.RefGateBwdIdeal
public import proofs.«01_k».proof.Proof.Gen.RefGateBwdIdeal.Run
public import proofs.«01_k».proof.Proof.Gen.RefGateBwdIdeal.Read
public import proofs.«01_k».proof.Proof.Gen.QNormBwd
public import proofs.«01_k».proof.Proof.Gen.QNormBwd.Skeleton
public import proofs.«01_k».proof.Proof.Gen.QNormBwd.Launch
public import proofs.«01_k».proof.Proof.Gen.QNormBwd.Points
public import proofs.«01_k».proof.Proof.Gen.QNormBwd.Frame
public import proofs.«01_k».proof.Proof.Gen.QNormBwdIdeal
public import proofs.«01_k».proof.Proof.Gen.QNormBwdIdeal.Skeleton
public import proofs.«01_k».proof.Proof.Gen.QNormBwdIdeal.Launch
public import proofs.«01_k».proof.Proof.Gen.QNormBwdIdeal.Points
public import proofs.«01_k».proof.Proof.Gen.QNormBwdIdeal.Frame
public import proofs.«01_k».proof.Proof.Gen.QNormBwdIdeal.Value
public import proofs.«01_k».proof.Proof.Gen.RefQNormBwdIdeal
public import proofs.«01_k».proof.Proof.Gen.RefQNormBwdIdeal.Run
public import proofs.«01_k».proof.Proof.Gen.RefQNormBwdIdeal.Read
public import proofs.«01_k».proof.Proof.Gen.KvNormBwd
public import proofs.«01_k».proof.Proof.Gen.KvNormBwd.Skeleton
public import proofs.«01_k».proof.Proof.Gen.KvNormBwd.Launch
public import proofs.«01_k».proof.Proof.Gen.KvNormBwd.Points
public import proofs.«01_k».proof.Proof.Gen.KvNormBwd.Frame
public import proofs.«01_k».proof.Proof.Gen.KvNormBwdIdeal
public import proofs.«01_k».proof.Proof.Gen.KvNormBwdIdeal.Skeleton
public import proofs.«01_k».proof.Proof.Gen.KvNormBwdIdeal.Launch
public import proofs.«01_k».proof.Proof.Gen.KvNormBwdIdeal.Points
public import proofs.«01_k».proof.Proof.Gen.KvNormBwdIdeal.Frame
public import proofs.«01_k».proof.Proof.Gen.KvNormBwdIdeal.Value
public import proofs.«01_k».proof.Proof.Gen.RefKvNormBwdIdeal
public import proofs.«01_k».proof.Proof.Gen.RefKvNormBwdIdeal.Run
public import proofs.«01_k».proof.Proof.Gen.RefKvNormBwdIdeal.Read
public import proofs.«01_k».proof.Proof.Gen.EvInDx
public import proofs.«01_k».proof.Proof.Gen.EvInDx.Skeleton
public import proofs.«01_k».proof.Proof.Gen.EvInDx.Launch
public import proofs.«01_k».proof.Proof.Gen.EvInDx.Points
public import proofs.«01_k».proof.Proof.Gen.EvInDx.Frame
public import proofs.«01_k».proof.Proof.Gen.EvInDxIdeal
public import proofs.«01_k».proof.Proof.Gen.EvInDxIdeal.Skeleton
public import proofs.«01_k».proof.Proof.Gen.EvInDxIdeal.Launch
public import proofs.«01_k».proof.Proof.Gen.EvInDxIdeal.Points
public import proofs.«01_k».proof.Proof.Gen.EvInDxIdeal.Frame
public import proofs.«01_k».proof.Proof.Gen.EvInDxIdeal.Value
public import proofs.«01_k».proof.Proof.Gen.RefEvInDxIdeal
public import proofs.«01_k».proof.Proof.Gen.RefEvInDxIdeal.Run
public import proofs.«01_k».proof.Proof.Gen.RefEvInDxIdeal.Read
public import proofs.«01_k».proof.Proof.Gen.EvInDw
public import proofs.«01_k».proof.Proof.Gen.EvInDw.Skeleton
public import proofs.«01_k».proof.Proof.Gen.EvInDw.Launch
public import proofs.«01_k».proof.Proof.Gen.EvInDw.Points
public import proofs.«01_k».proof.Proof.Gen.EvInDw.Frame
public import proofs.«01_k».proof.Proof.Gen.EvInDwIdeal
public import proofs.«01_k».proof.Proof.Gen.EvInDwIdeal.Skeleton
public import proofs.«01_k».proof.Proof.Gen.EvInDwIdeal.Launch
public import proofs.«01_k».proof.Proof.Gen.EvInDwIdeal.Points
public import proofs.«01_k».proof.Proof.Gen.EvInDwIdeal.Frame
public import proofs.«01_k».proof.Proof.Gen.EvInDwIdeal.Value
public import proofs.«01_k».proof.Proof.Gen.RefEvInDwIdeal
public import proofs.«01_k».proof.Proof.Gen.RefEvInDwIdeal.Run
public import proofs.«01_k».proof.Proof.Gen.RefEvInDwIdeal.Read
public import proofs.«01_k».proof.Proof.Gen.UqDx
public import proofs.«01_k».proof.Proof.Gen.UqDx.Skeleton
public import proofs.«01_k».proof.Proof.Gen.UqDx.Launch
public import proofs.«01_k».proof.Proof.Gen.UqDx.Points
public import proofs.«01_k».proof.Proof.Gen.UqDx.Frame
public import proofs.«01_k».proof.Proof.Gen.UqDxIdeal
public import proofs.«01_k».proof.Proof.Gen.UqDxIdeal.Skeleton
public import proofs.«01_k».proof.Proof.Gen.UqDxIdeal.Launch
public import proofs.«01_k».proof.Proof.Gen.UqDxIdeal.Points
public import proofs.«01_k».proof.Proof.Gen.UqDxIdeal.Frame
public import proofs.«01_k».proof.Proof.Gen.UqDxIdeal.Value
public import proofs.«01_k».proof.Proof.Gen.RefUqDxIdeal
public import proofs.«01_k».proof.Proof.Gen.RefUqDxIdeal.Run
public import proofs.«01_k».proof.Proof.Gen.RefUqDxIdeal.Read
public import proofs.«01_k».proof.Proof.Gen.UqDw
public import proofs.«01_k».proof.Proof.Gen.UqDw.Skeleton
public import proofs.«01_k».proof.Proof.Gen.UqDw.Launch
public import proofs.«01_k».proof.Proof.Gen.UqDw.Points
public import proofs.«01_k».proof.Proof.Gen.UqDw.Frame
public import proofs.«01_k».proof.Proof.Gen.UqDwIdeal
public import proofs.«01_k».proof.Proof.Gen.UqDwIdeal.Skeleton
public import proofs.«01_k».proof.Proof.Gen.UqDwIdeal.Launch
public import proofs.«01_k».proof.Proof.Gen.UqDwIdeal.Points
public import proofs.«01_k».proof.Proof.Gen.UqDwIdeal.Frame
public import proofs.«01_k».proof.Proof.Gen.UqDwIdeal.Value
public import proofs.«01_k».proof.Proof.Gen.RefUqDwIdeal
public import proofs.«01_k».proof.Proof.Gen.RefUqDwIdeal.Run
public import proofs.«01_k».proof.Proof.Gen.RefUqDwIdeal.Read
public import proofs.«01_k».proof.Proof.Gen.UkvDx
public import proofs.«01_k».proof.Proof.Gen.UkvDx.Skeleton
public import proofs.«01_k».proof.Proof.Gen.UkvDx.Launch
public import proofs.«01_k».proof.Proof.Gen.UkvDx.Points
public import proofs.«01_k».proof.Proof.Gen.UkvDx.Frame
public import proofs.«01_k».proof.Proof.Gen.UkvDxIdeal
public import proofs.«01_k».proof.Proof.Gen.UkvDxIdeal.Skeleton
public import proofs.«01_k».proof.Proof.Gen.UkvDxIdeal.Launch
public import proofs.«01_k».proof.Proof.Gen.UkvDxIdeal.Points
public import proofs.«01_k».proof.Proof.Gen.UkvDxIdeal.Frame
public import proofs.«01_k».proof.Proof.Gen.UkvDxIdeal.Value
public import proofs.«01_k».proof.Proof.Gen.RefUkvDxIdeal
public import proofs.«01_k».proof.Proof.Gen.RefUkvDxIdeal.Run
public import proofs.«01_k».proof.Proof.Gen.RefUkvDxIdeal.Read
public import proofs.«01_k».proof.Proof.Gen.UkvDw
public import proofs.«01_k».proof.Proof.Gen.UkvDw.Skeleton
public import proofs.«01_k».proof.Proof.Gen.UkvDw.Launch
public import proofs.«01_k».proof.Proof.Gen.UkvDw.Points
public import proofs.«01_k».proof.Proof.Gen.UkvDw.Frame
public import proofs.«01_k».proof.Proof.Gen.UkvDwIdeal
public import proofs.«01_k».proof.Proof.Gen.UkvDwIdeal.Skeleton
public import proofs.«01_k».proof.Proof.Gen.UkvDwIdeal.Launch
public import proofs.«01_k».proof.Proof.Gen.UkvDwIdeal.Points
public import proofs.«01_k».proof.Proof.Gen.UkvDwIdeal.Frame
public import proofs.«01_k».proof.Proof.Gen.UkvDwIdeal.Value
public import proofs.«01_k».proof.Proof.Gen.RefUkvDwIdeal
public import proofs.«01_k».proof.Proof.Gen.RefUkvDwIdeal.Run
public import proofs.«01_k».proof.Proof.Gen.RefUkvDwIdeal.Read
public import proofs.«01_k».proof.Proof.Gen.EvOutDx
public import proofs.«01_k».proof.Proof.Gen.EvOutDx.Skeleton
public import proofs.«01_k».proof.Proof.Gen.EvOutDx.Launch
public import proofs.«01_k».proof.Proof.Gen.EvOutDx.Points
public import proofs.«01_k».proof.Proof.Gen.EvOutDx.Frame
public import proofs.«01_k».proof.Proof.Gen.EvOutDxIdeal
public import proofs.«01_k».proof.Proof.Gen.EvOutDxIdeal.Skeleton
public import proofs.«01_k».proof.Proof.Gen.EvOutDxIdeal.Launch
public import proofs.«01_k».proof.Proof.Gen.EvOutDxIdeal.Points
public import proofs.«01_k».proof.Proof.Gen.EvOutDxIdeal.Frame
public import proofs.«01_k».proof.Proof.Gen.EvOutDxIdeal.Value
public import proofs.«01_k».proof.Proof.Gen.RefEvOutDxIdeal
public import proofs.«01_k».proof.Proof.Gen.RefEvOutDxIdeal.Run
public import proofs.«01_k».proof.Proof.Gen.RefEvOutDxIdeal.Read
public import proofs.«01_k».proof.Proof.Gen.EvOutDw
public import proofs.«01_k».proof.Proof.Gen.EvOutDw.Skeleton
public import proofs.«01_k».proof.Proof.Gen.EvOutDw.Launch
public import proofs.«01_k».proof.Proof.Gen.EvOutDw.Points
public import proofs.«01_k».proof.Proof.Gen.EvOutDw.Frame
public import proofs.«01_k».proof.Proof.Gen.EvOutDwIdeal
public import proofs.«01_k».proof.Proof.Gen.EvOutDwIdeal.Skeleton
public import proofs.«01_k».proof.Proof.Gen.EvOutDwIdeal.Launch
public import proofs.«01_k».proof.Proof.Gen.EvOutDwIdeal.Points
public import proofs.«01_k».proof.Proof.Gen.EvOutDwIdeal.Frame
public import proofs.«01_k».proof.Proof.Gen.EvOutDwIdeal.Value
public import proofs.«01_k».proof.Proof.Gen.RefEvOutDwIdeal
public import proofs.«01_k».proof.Proof.Gen.RefEvOutDwIdeal.Run
public import proofs.«01_k».proof.Proof.Gen.RefEvOutDwIdeal.Read
public import proofs.«01_k».proof.Proof.Gen.W1Fwd
public import proofs.«01_k».proof.Proof.Gen.W1Fwd.Skeleton
public import proofs.«01_k».proof.Proof.Gen.W1Fwd.Launch
public import proofs.«01_k».proof.Proof.Gen.W1Fwd.Points
public import proofs.«01_k».proof.Proof.Gen.W1Fwd.Frame
public import proofs.«01_k».proof.Proof.Gen.W1FwdIdeal
public import proofs.«01_k».proof.Proof.Gen.W1FwdIdeal.Skeleton
public import proofs.«01_k».proof.Proof.Gen.W1FwdIdeal.Launch
public import proofs.«01_k».proof.Proof.Gen.W1FwdIdeal.Points
public import proofs.«01_k».proof.Proof.Gen.W1FwdIdeal.Frame
public import proofs.«01_k».proof.Proof.Gen.W1FwdIdeal.Value
public import proofs.«01_k».proof.Proof.Gen.RefW1FwdIdeal
public import proofs.«01_k».proof.Proof.Gen.RefW1FwdIdeal.Run
public import proofs.«01_k».proof.Proof.Gen.RefW1FwdIdeal.Read
public import proofs.«01_k».proof.Proof.Gen.W2NormFwd
public import proofs.«01_k».proof.Proof.Gen.W2NormFwd.Skeleton
public import proofs.«01_k».proof.Proof.Gen.W2NormFwd.Launch
public import proofs.«01_k».proof.Proof.Gen.W2NormFwd.Points
public import proofs.«01_k».proof.Proof.Gen.W2NormFwd.Frame
public import proofs.«01_k».proof.Proof.Gen.W2NormFwdIdeal
public import proofs.«01_k».proof.Proof.Gen.W2NormFwdIdeal.Skeleton
public import proofs.«01_k».proof.Proof.Gen.W2NormFwdIdeal.Launch
public import proofs.«01_k».proof.Proof.Gen.W2NormFwdIdeal.Points
public import proofs.«01_k».proof.Proof.Gen.W2NormFwdIdeal.Frame
public import proofs.«01_k».proof.Proof.Gen.W2NormFwdIdeal.Value
public import proofs.«01_k».proof.Proof.Gen.RefW2NormFwdIdeal
public import proofs.«01_k».proof.Proof.Gen.RefW2NormFwdIdeal.Run
public import proofs.«01_k».proof.Proof.Gen.RefW2NormFwdIdeal.Read
public import proofs.«01_k».proof.Proof.Gen.InFwd
public import proofs.«01_k».proof.Proof.Gen.InFwd.Skeleton
public import proofs.«01_k».proof.Proof.Gen.InFwd.Launch
public import proofs.«01_k».proof.Proof.Gen.InFwd.Points
public import proofs.«01_k».proof.Proof.Gen.InFwd.Frame
public import proofs.«01_k».proof.Proof.Gen.InFwdIdeal
public import proofs.«01_k».proof.Proof.Gen.InFwdIdeal.Skeleton
public import proofs.«01_k».proof.Proof.Gen.InFwdIdeal.Launch
public import proofs.«01_k».proof.Proof.Gen.InFwdIdeal.Points
public import proofs.«01_k».proof.Proof.Gen.InFwdIdeal.Frame
public import proofs.«01_k».proof.Proof.Gen.InFwdIdeal.Value
public import proofs.«01_k».proof.Proof.Gen.RefInFwdIdeal
public import proofs.«01_k».proof.Proof.Gen.RefInFwdIdeal.Run
public import proofs.«01_k».proof.Proof.Gen.RefInFwdIdeal.Read
public import proofs.«01_k».proof.Proof.Gen.OutNormFwd
public import proofs.«01_k».proof.Proof.Gen.OutNormFwd.Skeleton
public import proofs.«01_k».proof.Proof.Gen.OutNormFwd.Launch
public import proofs.«01_k».proof.Proof.Gen.OutNormFwd.Points
public import proofs.«01_k».proof.Proof.Gen.OutNormFwd.Frame
public import proofs.«01_k».proof.Proof.Gen.OutNormFwdIdeal
public import proofs.«01_k».proof.Proof.Gen.OutNormFwdIdeal.Skeleton
public import proofs.«01_k».proof.Proof.Gen.OutNormFwdIdeal.Launch
public import proofs.«01_k».proof.Proof.Gen.OutNormFwdIdeal.Points
public import proofs.«01_k».proof.Proof.Gen.OutNormFwdIdeal.Frame
public import proofs.«01_k».proof.Proof.Gen.OutNormFwdIdeal.Value
public import proofs.«01_k».proof.Proof.Gen.RefOutNormFwdIdeal
public import proofs.«01_k».proof.Proof.Gen.RefOutNormFwdIdeal.Run
public import proofs.«01_k».proof.Proof.Gen.RefOutNormFwdIdeal.Read
public import proofs.«01_k».proof.Proof.Gen.EvInFwd
public import proofs.«01_k».proof.Proof.Gen.EvInFwd.Skeleton
public import proofs.«01_k».proof.Proof.Gen.EvInFwd.Launch
public import proofs.«01_k».proof.Proof.Gen.EvInFwd.Points
public import proofs.«01_k».proof.Proof.Gen.EvInFwd.Frame
public import proofs.«01_k».proof.Proof.Gen.EvInFwdIdeal
public import proofs.«01_k».proof.Proof.Gen.EvInFwdIdeal.Skeleton
public import proofs.«01_k».proof.Proof.Gen.EvInFwdIdeal.Launch
public import proofs.«01_k».proof.Proof.Gen.EvInFwdIdeal.Points
public import proofs.«01_k».proof.Proof.Gen.EvInFwdIdeal.Frame
public import proofs.«01_k».proof.Proof.Gen.EvInFwdIdeal.Value
public import proofs.«01_k».proof.Proof.Gen.RefEvInFwdIdeal
public import proofs.«01_k».proof.Proof.Gen.RefEvInFwdIdeal.Run
public import proofs.«01_k».proof.Proof.Gen.RefEvInFwdIdeal.Read
public import proofs.«01_k».proof.Proof.Gen.UqFwd
public import proofs.«01_k».proof.Proof.Gen.UqFwd.Skeleton
public import proofs.«01_k».proof.Proof.Gen.UqFwd.Launch
public import proofs.«01_k».proof.Proof.Gen.UqFwd.Points
public import proofs.«01_k».proof.Proof.Gen.UqFwd.Frame
public import proofs.«01_k».proof.Proof.Gen.UqFwdIdeal
public import proofs.«01_k».proof.Proof.Gen.UqFwdIdeal.Skeleton
public import proofs.«01_k».proof.Proof.Gen.UqFwdIdeal.Launch
public import proofs.«01_k».proof.Proof.Gen.UqFwdIdeal.Points
public import proofs.«01_k».proof.Proof.Gen.UqFwdIdeal.Frame
public import proofs.«01_k».proof.Proof.Gen.UqFwdIdeal.Value
public import proofs.«01_k».proof.Proof.Gen.RefUqFwdIdeal
public import proofs.«01_k».proof.Proof.Gen.RefUqFwdIdeal.Run
public import proofs.«01_k».proof.Proof.Gen.RefUqFwdIdeal.Read
public import proofs.«01_k».proof.Proof.Gen.UkvFwd
public import proofs.«01_k».proof.Proof.Gen.UkvFwd.Skeleton
public import proofs.«01_k».proof.Proof.Gen.UkvFwd.Launch
public import proofs.«01_k».proof.Proof.Gen.UkvFwd.Points
public import proofs.«01_k».proof.Proof.Gen.UkvFwd.Frame
public import proofs.«01_k».proof.Proof.Gen.UkvFwdIdeal
public import proofs.«01_k».proof.Proof.Gen.UkvFwdIdeal.Skeleton
public import proofs.«01_k».proof.Proof.Gen.UkvFwdIdeal.Launch
public import proofs.«01_k».proof.Proof.Gen.UkvFwdIdeal.Points
public import proofs.«01_k».proof.Proof.Gen.UkvFwdIdeal.Frame
public import proofs.«01_k».proof.Proof.Gen.UkvFwdIdeal.Value
public import proofs.«01_k».proof.Proof.Gen.RefUkvFwdIdeal
public import proofs.«01_k».proof.Proof.Gen.RefUkvFwdIdeal.Run
public import proofs.«01_k».proof.Proof.Gen.RefUkvFwdIdeal.Read
public import proofs.«01_k».proof.Proof.Gen.EvOutNormFwd
public import proofs.«01_k».proof.Proof.Gen.EvOutNormFwd.Skeleton
public import proofs.«01_k».proof.Proof.Gen.EvOutNormFwd.Launch
public import proofs.«01_k».proof.Proof.Gen.EvOutNormFwd.Points
public import proofs.«01_k».proof.Proof.Gen.EvOutNormFwd.Frame
public import proofs.«01_k».proof.Proof.Gen.EvOutNormFwdIdeal
public import proofs.«01_k».proof.Proof.Gen.EvOutNormFwdIdeal.Skeleton
public import proofs.«01_k».proof.Proof.Gen.EvOutNormFwdIdeal.Launch
public import proofs.«01_k».proof.Proof.Gen.EvOutNormFwdIdeal.Points
public import proofs.«01_k».proof.Proof.Gen.EvOutNormFwdIdeal.Frame
public import proofs.«01_k».proof.Proof.Gen.EvOutNormFwdIdeal.Value
public import proofs.«01_k».proof.Proof.Gen.RefEvOutNormFwdIdeal
public import proofs.«01_k».proof.Proof.Gen.RefEvOutNormFwdIdeal.Run
public import proofs.«01_k».proof.Proof.Gen.RefEvOutNormFwdIdeal.Read
public import proofs.«01_k».proof.Proof.Gen.GateFwd
public import proofs.«01_k».proof.Proof.Gen.GateFwd.Skeleton
public import proofs.«01_k».proof.Proof.Gen.GateFwd.Launch
public import proofs.«01_k».proof.Proof.Gen.GateFwd.Points
public import proofs.«01_k».proof.Proof.Gen.GateFwd.Frame
public import proofs.«01_k».proof.Proof.Gen.GateFwdIdeal
public import proofs.«01_k».proof.Proof.Gen.GateFwdIdeal.Skeleton
public import proofs.«01_k».proof.Proof.Gen.GateFwdIdeal.Launch
public import proofs.«01_k».proof.Proof.Gen.GateFwdIdeal.Points
public import proofs.«01_k».proof.Proof.Gen.GateFwdIdeal.Frame
public import proofs.«01_k».proof.Proof.Gen.GateFwdIdeal.Value
public import proofs.«01_k».proof.Proof.Gen.RefGateFwdIdeal
public import proofs.«01_k».proof.Proof.Gen.RefGateFwdIdeal.Run
public import proofs.«01_k».proof.Proof.Gen.RefGateFwdIdeal.Read
public import proofs.«01_k».proof.Proof.Gen.QNormFwd
public import proofs.«01_k».proof.Proof.Gen.QNormFwd.Skeleton
public import proofs.«01_k».proof.Proof.Gen.QNormFwd.Launch
public import proofs.«01_k».proof.Proof.Gen.QNormFwd.Points
public import proofs.«01_k».proof.Proof.Gen.QNormFwd.Frame
public import proofs.«01_k».proof.Proof.Gen.QNormFwdIdeal
public import proofs.«01_k».proof.Proof.Gen.QNormFwdIdeal.Skeleton
public import proofs.«01_k».proof.Proof.Gen.QNormFwdIdeal.Launch
public import proofs.«01_k».proof.Proof.Gen.QNormFwdIdeal.Points
public import proofs.«01_k».proof.Proof.Gen.QNormFwdIdeal.Frame
public import proofs.«01_k».proof.Proof.Gen.QNormFwdIdeal.Value
public import proofs.«01_k».proof.Proof.Gen.RefQNormFwdIdeal
public import proofs.«01_k».proof.Proof.Gen.RefQNormFwdIdeal.Run
public import proofs.«01_k».proof.Proof.Gen.RefQNormFwdIdeal.Read
public import proofs.«01_k».proof.Proof.Gen.KvNormFwd
public import proofs.«01_k».proof.Proof.Gen.KvNormFwd.Skeleton
public import proofs.«01_k».proof.Proof.Gen.KvNormFwd.Launch
public import proofs.«01_k».proof.Proof.Gen.KvNormFwd.Points
public import proofs.«01_k».proof.Proof.Gen.KvNormFwd.Frame
public import proofs.«01_k».proof.Proof.Gen.KvNormFwdIdeal
public import proofs.«01_k».proof.Proof.Gen.KvNormFwdIdeal.Skeleton
public import proofs.«01_k».proof.Proof.Gen.KvNormFwdIdeal.Launch
public import proofs.«01_k».proof.Proof.Gen.KvNormFwdIdeal.Points
public import proofs.«01_k».proof.Proof.Gen.KvNormFwdIdeal.Frame
public import proofs.«01_k».proof.Proof.Gen.KvNormFwdIdeal.Value
public import proofs.«01_k».proof.Proof.Gen.RefKvNormFwdIdeal
public import proofs.«01_k».proof.Proof.Gen.RefKvNormFwdIdeal.Run
public import proofs.«01_k».proof.Proof.Gen.RefKvNormFwdIdeal.Read
public import proofs.«01_k».proof.Proof.Gen.RetFwd
public import proofs.«01_k».proof.Proof.Gen.RetFwd.Skeleton
public import proofs.«01_k».proof.Proof.Gen.RetFwd.Launch
public import proofs.«01_k».proof.Proof.Gen.RetFwd.Points
public import proofs.«01_k».proof.Proof.Gen.RetFwd.Frame
public import proofs.«01_k».proof.Proof.Gen.RetFwdIdeal
public import proofs.«01_k».proof.Proof.Gen.RetFwdIdeal.Skeleton
public import proofs.«01_k».proof.Proof.Gen.RetFwdIdeal.Launch
public import proofs.«01_k».proof.Proof.Gen.RetFwdIdeal.Points
public import proofs.«01_k».proof.Proof.Gen.RetFwdIdeal.Frame
public import proofs.«01_k».proof.Proof.Gen.RetFwdIdeal.Value
public import proofs.«01_k».proof.Proof.Gen.RefRetFwdIdeal
public import proofs.«01_k».proof.Proof.Gen.RefRetFwdIdeal.Run
public import proofs.«01_k».proof.Proof.Gen.RefRetFwdIdeal.Read
public import proofs.«01_k».proof.Proof.KerVal
public import proofs.«01_k».proof.Proof.RefVal
public import proofs.«01_k».proof.Proof.Frames
public import proofs.«01_k».proof.Proof.Values
public import Idealize.ShloMosaic.Adequacy
public import Idealize.ShloMosaic.Init

@[expose] public section

set_option maxRecDepth 65536

noncomputable section

namespace Cert.Proof

open Idealize.ShloMosaic Idealize.ShloMosaic.StableHlo Idealize.SL.Sem

/-- An array of three axes is determined by its elements at coordinates. -/
theorem ext3 {a b c : ℕ} {f f' : (⟨3, ![a, b, c]⟩ : Shape).Idx → EReal}
    (h : ∀ (x : Fin a) (y : Fin b) (z : Fin c), f (ix3 x y z) = f' (ix3 x y z)) : f = f' := by
  funext i
  have e : i = ix3 (i 0) (i 1) (i 2) := by
    funext k
    fin_cases k <;> rfl
  rw [e]
  exact h _ _ _

section arrays

variable (m : (ℓ : Loc Cert.KernelIdeal.nD Cert.KernelIdeal.τ Cert.KernelIdeal.sig) → Buf (Elt Ideal) ℓ) (c : Dev Cert.KernelIdeal.nD)

/-- The queries' cotangents of the two programs agree. -/
theorem eq7 : Cert.ReferenceIdeal.Read.val_main_v157 (F := Ideal) (m (c.tc.loc Cert.KernelIdeal.main_arg0)) (m (c.tc.loc Cert.KernelIdeal.main_arg1))
    = Cert.KernelIdeal.G7 m c :=
  ext3 fun b i n => Cert.ReferenceIdeal.Read.at_v157 _ _ b i n

/-- The keys' cotangents of the two programs agree. -/
theorem eq8 : Cert.ReferenceIdeal.Read.val_main_v158 (F := Ideal) (m (c.tc.loc Cert.KernelIdeal.main_arg0)) (m (c.tc.loc Cert.KernelIdeal.main_arg1))
    = Cert.KernelIdeal.G8 m c :=
  ext3 fun b i n => Cert.ReferenceIdeal.Read.at_v158 _ _ b i n

/-- The values' cotangents of the two programs agree. -/
theorem eq9 : Cert.ReferenceIdeal.Read.val_main_v159 (F := Ideal) (m (c.tc.loc Cert.KernelIdeal.main_arg0)) (m (c.tc.loc Cert.KernelIdeal.main_arg1))
    = Cert.KernelIdeal.G9 m c :=
  ext3 fun b i n => Cert.ReferenceIdeal.Read.at_v159 _ _ b i n

end arrays

/-- The kernel as printed runs, leaves its arguments and ends with every counter at zero. -/
theorem frame_P : Cert.quiescent_Kernel (hKernel := Cert.Kernel.Gen.facts) := fun m ρ _ => Cert.Kernel.Gen.frame m ρ

/-- So does its idealisation. -/
theorem frame_PI : Cert.quiescent_KernelIdeal (hKernelIdeal := Cert.KernelIdeal.Gen.facts) := fun m ρ _ => Cert.KernelIdeal.Gen.frame m ρ

/-- So does the reference. -/
theorem frame_RI : Cert.quiescent_ReferenceIdeal (hReferenceIdeal := Cert.ReferenceIdeal.Gen.facts) := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- The kernel's three results are the reference's, as extended reals. -/
theorem value : Cert.algebraic_KernelIdeal_ReferenceIdeal (hKernelIdeal := Cert.KernelIdeal.Gen.facts)
    (hReferenceIdeal := Cert.ReferenceIdeal.Gen.facts) := by
  intro m g m' g' _ hagree
  refine ⟨Cert.KernelIdeal.G7 m, Cert.KernelIdeal.G8 m, Cert.KernelIdeal.G9 m, ?_, ?_⟩
  · exact (θ_run Cert.KernelIdeal.defs _ _).mono
      (fun _ h c => ⟨(h c).1.trans (Cert.KernelIdeal.final7 m c), (h c).2.1.trans (Cert.KernelIdeal.final8 m c),
        (h c).2.2.1.trans (Cert.KernelIdeal.final9 m c), (h c).2.2.2.1, (h c).2.2.2.2⟩)
      (Cert.KernelIdeal.Value.run_blocks (F := Ideal) m g)
  · refine (θ_run Cert.ReferenceIdeal.defs _ _).mono (fun r h c => ?_) (Cert.ReferenceIdeal.Value.run (F := Ideal) m' g')
    have e0 : launchContents m' c (Proc.devRef .tc Cert.ReferenceIdeal.main_arg0) = m (c.tc.loc Cert.KernelIdeal.main_arg0) := (hagree c).1
    have e1 : launchContents m' c (Proc.devRef .tc Cert.ReferenceIdeal.main_arg1) = m (c.tc.loc Cert.KernelIdeal.main_arg1) := (hagree c).2
    refine ⟨(h c).1.trans ((Cert.ReferenceIdeal.Read.val_main_v157_eq (launchContents m' c)).trans ?_),
      (h c).2.1.trans ((Cert.ReferenceIdeal.Read.val_main_v158_eq (launchContents m' c)).trans ?_),
      (h c).2.2.1.trans ((Cert.ReferenceIdeal.Read.val_main_v159_eq (launchContents m' c)).trans ?_), (h c).2.2.2.1, (h c).2.2.2.2⟩
    · rw [e0, e1]; exact eq7 m c
    · rw [e0, e1]; exact eq8 m c
    · rw [e0, e1]; exact eq9 m c

/-- The certificate's claim. -/
theorem claim : Cert.Claim :=
  ⟨Cert.Kernel.Gen.facts, Cert.KernelIdeal.Gen.facts, Cert.ReferenceIdeal.Gen.facts, Cert.W2Dx.Gen.facts, Cert.W2DxIdeal.Gen.facts,
    Cert.RefW2DxIdeal.Gen.facts, Cert.W2Dw.Gen.facts, Cert.W2DwIdeal.Gen.facts, Cert.RefW2DwIdeal.Gen.facts, Cert.W1Dx.Gen.facts,
    Cert.W1DxIdeal.Gen.facts, Cert.RefW1DxIdeal.Gen.facts, Cert.W1Dw.Gen.facts, Cert.W1DwIdeal.Gen.facts, Cert.RefW1DwIdeal.Gen.facts,
    Cert.InDx.Gen.facts, Cert.InDxIdeal.Gen.facts, Cert.RefInDxIdeal.Gen.facts, Cert.InDw.Gen.facts, Cert.InDwIdeal.Gen.facts,
    Cert.RefInDwIdeal.Gen.facts, Cert.OutDx.Gen.facts, Cert.OutDxIdeal.Gen.facts, Cert.RefOutDxIdeal.Gen.facts, Cert.OutDw.Gen.facts,
    Cert.OutDwIdeal.Gen.facts, Cert.RefOutDwIdeal.Gen.facts, Cert.NormBwd.Gen.facts, Cert.NormBwdIdeal.Gen.facts, Cert.RefNormBwdIdeal.Gen.facts,
    Cert.GateBwd.Gen.facts, Cert.GateBwdIdeal.Gen.facts, Cert.RefGateBwdIdeal.Gen.facts, Cert.QNormBwd.Gen.facts, Cert.QNormBwdIdeal.Gen.facts,
    Cert.RefQNormBwdIdeal.Gen.facts, Cert.KvNormBwd.Gen.facts, Cert.KvNormBwdIdeal.Gen.facts, Cert.RefKvNormBwdIdeal.Gen.facts,
    Cert.EvInDx.Gen.facts, Cert.EvInDxIdeal.Gen.facts, Cert.RefEvInDxIdeal.Gen.facts, Cert.EvInDw.Gen.facts, Cert.EvInDwIdeal.Gen.facts,
    Cert.RefEvInDwIdeal.Gen.facts, Cert.UqDx.Gen.facts, Cert.UqDxIdeal.Gen.facts, Cert.RefUqDxIdeal.Gen.facts, Cert.UqDw.Gen.facts,
    Cert.UqDwIdeal.Gen.facts, Cert.RefUqDwIdeal.Gen.facts, Cert.UkvDx.Gen.facts, Cert.UkvDxIdeal.Gen.facts, Cert.RefUkvDxIdeal.Gen.facts,
    Cert.UkvDw.Gen.facts, Cert.UkvDwIdeal.Gen.facts, Cert.RefUkvDwIdeal.Gen.facts, Cert.EvOutDx.Gen.facts, Cert.EvOutDxIdeal.Gen.facts,
    Cert.RefEvOutDxIdeal.Gen.facts, Cert.EvOutDw.Gen.facts, Cert.EvOutDwIdeal.Gen.facts, Cert.RefEvOutDwIdeal.Gen.facts, Cert.W1Fwd.Gen.facts,
    Cert.W1FwdIdeal.Gen.facts, Cert.RefW1FwdIdeal.Gen.facts, Cert.W2NormFwd.Gen.facts, Cert.W2NormFwdIdeal.Gen.facts,
    Cert.RefW2NormFwdIdeal.Gen.facts, Cert.InFwd.Gen.facts, Cert.InFwdIdeal.Gen.facts, Cert.RefInFwdIdeal.Gen.facts, Cert.OutNormFwd.Gen.facts,
    Cert.OutNormFwdIdeal.Gen.facts, Cert.RefOutNormFwdIdeal.Gen.facts, Cert.EvInFwd.Gen.facts, Cert.EvInFwdIdeal.Gen.facts,
    Cert.RefEvInFwdIdeal.Gen.facts, Cert.UqFwd.Gen.facts, Cert.UqFwdIdeal.Gen.facts, Cert.RefUqFwdIdeal.Gen.facts, Cert.UkvFwd.Gen.facts,
    Cert.UkvFwdIdeal.Gen.facts, Cert.RefUkvFwdIdeal.Gen.facts, Cert.EvOutNormFwd.Gen.facts, Cert.EvOutNormFwdIdeal.Gen.facts,
    Cert.RefEvOutNormFwdIdeal.Gen.facts, Cert.GateFwd.Gen.facts, Cert.GateFwdIdeal.Gen.facts, Cert.RefGateFwdIdeal.Gen.facts,
    Cert.QNormFwd.Gen.facts, Cert.QNormFwdIdeal.Gen.facts, Cert.RefQNormFwdIdeal.Gen.facts, Cert.KvNormFwd.Gen.facts, Cert.KvNormFwdIdeal.Gen.facts,
    Cert.RefKvNormFwdIdeal.Gen.facts, Cert.RetFwd.Gen.facts, Cert.RetFwdIdeal.Gen.facts, Cert.RefRetFwdIdeal.Gen.facts,
    Cert.Finite.facts_norm, Cert.Finite.facts_gate, Cert.Finite.facts_q_norm, Cert.Finite.facts_kv_norm,
    frame_P, frame_PI, frame_RI, frame_W2Dx, frame_W2DxIdeal, frame_RefW2DxIdeal, frame_W2Dw, frame_W2DwIdeal, frame_RefW2DwIdeal, frame_W1Dx,
    frame_W1DxIdeal, frame_RefW1DxIdeal, frame_W1Dw, frame_W1DwIdeal, frame_RefW1DwIdeal, frame_InDx, frame_InDxIdeal, frame_RefInDxIdeal,
    frame_InDw, frame_InDwIdeal, frame_RefInDwIdeal, frame_OutDx, frame_OutDxIdeal, frame_RefOutDxIdeal, frame_OutDw, frame_OutDwIdeal,
    frame_RefOutDwIdeal, frame_NormBwd, frame_NormBwdIdeal, frame_NormBwdIdeal_pre, frame_RefNormBwdIdeal, frame_RefNormBwdIdeal_pre, frame_GateBwd,
    frame_GateBwdIdeal, frame_GateBwdIdeal_pre, frame_RefGateBwdIdeal, frame_RefGateBwdIdeal_pre, frame_QNormBwd, frame_QNormBwdIdeal,
    frame_QNormBwdIdeal_pre, frame_RefQNormBwdIdeal, frame_RefQNormBwdIdeal_pre, frame_KvNormBwd, frame_KvNormBwdIdeal, frame_KvNormBwdIdeal_pre,
    frame_RefKvNormBwdIdeal, frame_RefKvNormBwdIdeal_pre, frame_EvInDx, frame_EvInDxIdeal, frame_RefEvInDxIdeal, frame_EvInDw, frame_EvInDwIdeal,
    frame_RefEvInDwIdeal, frame_UqDx, frame_UqDxIdeal, frame_RefUqDxIdeal, frame_UqDw, frame_UqDwIdeal, frame_RefUqDwIdeal, frame_UkvDx,
    frame_UkvDxIdeal, frame_RefUkvDxIdeal, frame_UkvDw, frame_UkvDwIdeal, frame_RefUkvDwIdeal, frame_EvOutDx, frame_EvOutDxIdeal,
    frame_RefEvOutDxIdeal, frame_EvOutDw, frame_EvOutDwIdeal, frame_RefEvOutDwIdeal, frame_W1Fwd, frame_W1FwdIdeal, frame_RefW1FwdIdeal,
    frame_W2NormFwd, frame_W2NormFwdIdeal, frame_RefW2NormFwdIdeal, frame_InFwd, frame_InFwdIdeal, frame_RefInFwdIdeal, frame_OutNormFwd,
    frame_OutNormFwdIdeal, frame_RefOutNormFwdIdeal, frame_EvInFwd, frame_EvInFwdIdeal, frame_RefEvInFwdIdeal, frame_UqFwd, frame_UqFwdIdeal,
    frame_RefUqFwdIdeal, frame_UkvFwd, frame_UkvFwdIdeal, frame_RefUkvFwdIdeal, frame_EvOutNormFwd, frame_EvOutNormFwdIdeal,
    frame_RefEvOutNormFwdIdeal, frame_GateFwd, frame_GateFwdIdeal, frame_RefGateFwdIdeal, frame_QNormFwd, frame_QNormFwdIdeal,
    frame_RefQNormFwdIdeal, frame_KvNormFwd, frame_KvNormFwdIdeal, frame_RefKvNormFwdIdeal, frame_RetFwd, frame_RetFwdIdeal, frame_RefRetFwdIdeal,
    trivial, value, trivial, value_W2Dx, trivial, value_W2Dw, IdealRules.named_const.statement _ _ _ _ _ rfl, value_W1Dx, trivial, value_W1Dw,
    IdealRules.named_const.statement _ _ _ _ _ rfl, value_InDx, trivial, value_InDw, trivial, value_OutDx, trivial, value_OutDw, trivial,
    value_NormBwd, trivial, value_GateBwd, trivial, value_QNormBwd, trivial, value_KvNormBwd, trivial, value_EvInDx, trivial, value_EvInDw, trivial,
    value_UqDx, trivial, value_UqDw, trivial, value_UkvDx, trivial, value_UkvDw, trivial, value_EvOutDx, trivial, value_EvOutDw, trivial,
    value_W1Fwd, IdealRules.named_const.statement _ _ _ _ _ rfl, value_W2NormFwd, trivial, value_InFwd,
    IdealRules.named_const.statement _ _ _ _ _ rfl, value_OutNormFwd, trivial, value_EvInFwd, trivial, value_UqFwd, trivial, value_UkvFwd,
    IdealRules.named_const.statement _ _ _ _ _ rfl, value_EvOutNormFwd, trivial, value_GateFwd, trivial, value_QNormFwd, trivial, value_KvNormFwd,
    trivial, value_RetFwd⟩

end Cert.Proof

end
